-- ==== Defs.lean ====
def Pre_GainKernel (m : (ℓ : Loc Cert.GainKernel.nD Cert.GainKernel.τ Cert.GainKernel.sig) → Buf (Elt Bits) ℓ) : Prop :=
  True

def Pre_GainKernelIdeal (m : (ℓ : Loc Cert.GainKernelIdeal.nD Cert.GainKernelIdeal.τ Cert.GainKernelIdeal.sig) → Buf (Elt Ideal) ℓ) : Prop :=
  True

def Pre_GainReferenceIdeal (m : (ℓ : Loc Cert.GainReferenceIdeal.nD Cert.GainReferenceIdeal.τ Cert.GainReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3))).1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3))).2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3))).2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3))).2.2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3))).1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3))).2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3))).2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3))).2.2.2 = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_finite_gate [hPre_finite_gate : Cert.Pre_finite_gate.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2))).1 = (fun _ => 1#1)
    ∧ (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2))).2.1 = (fun _ => 1#1)
    ∧ (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2))).2.2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gate [hPre_finite_gate : Cert.Pre_finite_gate.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2))).1 = (fun _ => 1#1)
    ∧ (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2))).2.1 = (fun _ => 1#1)
    ∧ (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2))).2.2 = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_finite_norm [hPre_finite_norm : Cert.Pre_finite_norm.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_finite_norm.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).1 = (fun _ => 1#1)
    ∧ (Cert.Pre_finite_norm.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.1 = (fun _ => 1#1)
    ∧ (Cert.Pre_finite_norm.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.1 = (fun _ => 1#1)
    ∧ (Cert.Pre_finite_norm.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.2.1 = (fun _ => 1#1)
    ∧ (Cert.Pre_finite_norm.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.2.2.1 = (fun _ => 1#1)
    ∧ (Cert.Pre_finite_norm.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.2.2.2.1 = (fun _ => 1#1)
    ∧ (Cert.Pre_finite_norm.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))).2.2.2.2.2.2 = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_finite_norm [hPre_finite_norm : Cert.Pre_finite_norm.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_finite_norm.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).1 = (fun _ => 1#1)
    ∧ (Cert.Pre_finite_norm.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.1 = (fun _ => 1#1)
    ∧ (Cert.Pre_finite_norm.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.1 = (fun _ => 1#1)
    ∧ (Cert.Pre_finite_norm.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.2.1 = (fun _ => 1#1)
    ∧ (Cert.Pre_finite_norm.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.2.2.1 = (fun _ => 1#1)
    ∧ (Cert.Pre_finite_norm.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.2.2.2.1 = (fun _ => 1#1)
    ∧ (Cert.Pre_finite_norm.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))).2.2.2.2.2.2 = (fun _ => 1#1)

def Pre_NormTKernel (m : (ℓ : Loc Cert.NormTKernel.nD Cert.NormTKernel.τ Cert.NormTKernel.sig) → Buf (Elt Bits) ℓ) : Prop :=
  True

def Pre_NormTKernelIdeal (m : (ℓ : Loc Cert.NormTKernelIdeal.nD Cert.NormTKernelIdeal.τ Cert.NormTKernelIdeal.sig) → Buf (Elt Ideal) ℓ) : Prop :=
  True

def Pre_NormTKernelIdeal_finite_normt [hPre_finite_normt : Cert.Pre_finite_normt.Facts] (m : (ℓ : Loc Cert.NormTKernelIdeal.nD Cert.NormTKernelIdeal.τ Cert.NormTKernelIdeal.sig) → Buf (Elt Ideal) ℓ) : Prop :=
  ∀ c : Dev Cert.NormTKernelIdeal.nD,
    (Cert.Pre_finite_normt.fn (F := Ideal) (m ((c.tc : Thread Cert.NormTKernelIdeal.nD Cert.NormTKernelIdeal.τ).loc Cert.NormTKernelIdeal.main_arg0)) (m ((c.tc : Thread Cert.NormTKernelIdeal.nD Cert.NormTKernelIdeal.τ).loc Cert.NormTKernelIdeal.main_arg1)) (m ((c.tc : Thread Cert.NormTKernelIdeal.nD Cert.NormTKernelIdeal.τ).loc Cert.NormTKernelIdeal.main_arg2)) (m ((c.tc : Thread Cert.NormTKernelIdeal.nD Cert.NormTKernelIdeal.τ).loc Cert.NormTKernelIdeal.main_arg3)) (m ((c.tc : Thread Cert.NormTKernelIdeal.nD Cert.NormTKernelIdeal.τ).loc Cert.NormTKernelIdeal.main_arg4)) (m ((c.tc : Thread Cert.NormTKernelIdeal.nD Cert.NormTKernelIdeal.τ).loc Cert.NormTKernelIdeal.main_arg5)) (m ((c.tc : Thread Cert.NormTKernelIdeal.nD Cert.NormTKernelIdeal.τ).loc Cert.NormTKernelIdeal.main_arg6))).1 = (fun _ => 1#1)
    ∧ (Cert.Pre_finite_normt.fn (F := Ideal) (m ((c.tc : Thread Cert.NormTKernelIdeal.nD Cert.NormTKernelIdeal.τ).loc Cert.NormTKernelIdeal.main_arg0)) (m ((c.tc : Thread Cert.NormTKernelIdeal.nD Cert.NormTKernelIdeal.τ).loc Cert.NormTKernelIdeal.main_arg1)) (m ((c.tc : Thread Cert.NormTKernelIdeal.nD Cert.NormTKernelIdeal.τ).loc Cert.NormTKernelIdeal.main_arg2)) (m ((c.tc : Thread Cert.NormTKernelIdeal.nD Cert.NormTKernelIdeal.τ).loc Cert.NormTKernelIdeal.main_arg3)) (m ((c.tc : Thread Cert.NormTKernelIdeal.nD Cert.NormTKernelIdeal.τ).loc Cert.NormTKernelIdeal.main_arg4)) (m ((c.tc : Thread Cert.NormTKernelIdeal.nD Cert.NormTKernelIdeal.τ).loc Cert.NormTKernelIdeal.main_arg5)) (m ((c.tc : Thread Cert.NormTKernelIdeal.nD Cert.NormTKernelIdeal.τ).loc Cert.NormTKernelIdeal.main_arg6))).2.1 = (fun _ => 1#1)
    ∧ (Cert.Pre_finite_normt.fn (F := Ideal) (m ((c.tc : Thread Cert.NormTKernelIdeal.nD Cert.NormTKernelIdeal.τ).loc Cert.NormTKernelIdeal.main_arg0)) (m ((c.tc : Thread Cert.NormTKernelIdeal.nD Cert.NormTKernelIdeal.τ).loc Cert.NormTKernelIdeal.main_arg1)) (m ((c.tc : Thread Cert.NormTKernelIdeal.nD Cert.NormTKernelIdeal.τ).loc Cert.NormTKernelIdeal.main_arg2)) (m ((c.tc : Thread Cert.NormTKernelIdeal.nD Cert.NormTKernelIdeal.τ).loc Cert.NormTKernelIdeal.main_arg3)) (m ((c.tc : Thread Cert.NormTKernelIdeal.nD Cert.NormTKernelIdeal.τ).loc Cert.NormTKernelIdeal.main_arg4)) (m ((c.tc : Thread Cert.NormTKernelIdeal.nD Cert.NormTKernelIdeal.τ).loc Cert.NormTKernelIdeal.main_arg5)) (m ((c.tc : Thread Cert.NormTKernelIdeal.nD Cert.NormTKernelIdeal.τ).loc Cert.NormTKernelIdeal.main_arg6))).2.2.1 = (fun _ => 1#1)
    ∧ (Cert.Pre_finite_normt.fn (F := Ideal) (m ((c.tc : Thread Cert.NormTKernelIdeal.nD Cert.NormTKernelIdeal.τ).loc Cert.NormTKernelIdeal.main_arg0)) (m ((c.tc : Thread Cert.NormTKernelIdeal.nD Cert.NormTKernelIdeal.τ).loc Cert.NormTKernelIdeal.main_arg1)) (m ((c.tc : Thread Cert.NormTKernelIdeal.nD Cert.NormTKernelIdeal.τ).loc Cert.NormTKernelIdeal.main_arg2)) (m ((c.tc : Thread Cert.NormTKernelIdeal.nD Cert.NormTKernelIdeal.τ).loc Cert.NormTKernelIdeal.main_arg3)) (m ((c.tc : Thread Cert.NormTKernelIdeal.nD Cert.NormTKernelIdeal.τ).loc Cert.NormTKernelIdeal.main_arg4)) (m ((c.tc : Thread Cert.NormTKernelIdeal.nD Cert.NormTKernelIdeal.τ).loc Cert.NormTKernelIdeal.main_arg5)) (m ((c.tc : Thread Cert.NormTKernelIdeal.nD Cert.NormTKernelIdeal.τ).loc Cert.NormTKernelIdeal.main_arg6))).2.2.2.1 = (fun _ => 1#1)
    ∧ (Cert.Pre_finite_normt.fn (F := Ideal) (m ((c.tc : Thread Cert.NormTKernelIdeal.nD Cert.NormTKernelIdeal.τ).loc Cert.NormTKernelIdeal.main_arg0)) (m ((c.tc : Thread Cert.NormTKernelIdeal.nD Cert.NormTKernelIdeal.τ).loc Cert.NormTKernelIdeal.main_arg1)) (m ((c.tc : Thread Cert.NormTKernelIdeal.nD Cert.NormTKernelIdeal.τ).loc Cert.NormTKernelIdeal.main_arg2)) (m ((c.tc : Thread Cert.NormTKernelIdeal.nD Cert.NormTKernelIdeal.τ).loc Cert.NormTKernelIdeal.main_arg3)) (m ((c.tc : Thread Cert.NormTKernelIdeal.nD Cert.NormTKernelIdeal.τ).loc Cert.NormTKernelIdeal.main_arg4)) (m ((c.tc : Thread Cert.NormTKernelIdeal.nD Cert.NormTKernelIdeal.τ).loc Cert.NormTKernelIdeal.main_arg5)) (m ((c.tc : Thread Cert.NormTKernelIdeal.nD Cert.NormTKernelIdeal.τ).loc Cert.NormTKernelIdeal.main_arg6))).2.2.2.2.1 = (fun _ => 1#1)
    ∧ (Cert.Pre_finite_normt.fn (F := Ideal) (m ((c.tc : Thread Cert.NormTKernelIdeal.nD Cert.NormTKernelIdeal.τ).loc Cert.NormTKernelIdeal.main_arg0)) (m ((c.tc : Thread Cert.NormTKernelIdeal.nD Cert.NormTKernelIdeal.τ).loc Cert.NormTKernelIdeal.main_arg1)) (m ((c.tc : Thread Cert.NormTKernelIdeal.nD Cert.NormTKernelIdeal.τ).loc Cert.NormTKernelIdeal.main_arg2)) (m ((c.tc : Thread Cert.NormTKernelIdeal.nD Cert.NormTKernelIdeal.τ).loc Cert.NormTKernelIdeal.main_arg3)) (m ((c.tc : Thread Cert.NormTKernelIdeal.nD Cert.NormTKernelIdeal.τ).loc Cert.NormTKernelIdeal.main_arg4)) (m ((c.tc : Thread Cert.NormTKernelIdeal.nD Cert.NormTKernelIdeal.τ).loc Cert.NormTKernelIdeal.main_arg5)) (m ((c.tc : Thread Cert.NormTKernelIdeal.nD Cert.NormTKernelIdeal.τ).loc Cert.NormTKernelIdeal.main_arg6))).2.2.2.2.2.1 = (fun _ => 1#1)
    ∧ (Cert.Pre_finite_normt.fn (F := Ideal) (m ((c.tc : Thread Cert.NormTKernelIdeal.nD Cert.NormTKernelIdeal.τ).loc Cert.NormTKernelIdeal.main_arg0)) (m ((c.tc : Thread Cert.NormTKernelIdeal.nD Cert.NormTKernelIdeal.τ).loc Cert.NormTKernelIdeal.main_arg1)) (m ((c.tc : Thread Cert.NormTKernelIdeal.nD Cert.NormTKernelIdeal.τ).loc Cert.NormTKernelIdeal.main_arg2)) (m ((c.tc : Thread Cert.NormTKernelIdeal.nD Cert.NormTKernelIdeal.τ).loc Cert.NormTKernelIdeal.main_arg3)) (m ((c.tc : Thread Cert.NormTKernelIdeal.nD Cert.NormTKernelIdeal.τ).loc Cert.NormTKernelIdeal.main_arg4)) (m ((c.tc : Thread Cert.NormTKernelIdeal.nD Cert.NormTKernelIdeal.τ).loc Cert.NormTKernelIdeal.main_arg5)) (m ((c.tc : Thread Cert.NormTKernelIdeal.nD Cert.NormTKernelIdeal.τ).loc Cert.NormTKernelIdeal.main_arg6))).2.2.2.2.2.2 = (fun _ => 1#1)

def Pre_NormTReferenceIdeal (m : (ℓ : Loc Cert.NormTReferenceIdeal.nD Cert.NormTReferenceIdeal.τ Cert.NormTReferenceIdeal.sig) → Buf (Elt Ideal) ℓ) : Prop :=
  True

def Pre_NormTReferenceIdeal_finite_normt [hPre_finite_normt : Cert.Pre_finite_normt.Facts] (m : (ℓ : Loc Cert.NormTReferenceIdeal.nD Cert.NormTReferenceIdeal.τ Cert.NormTReferenceIdeal.sig) → Buf (Elt Ideal) ℓ) : Prop :=
  ∀ c : Dev Cert.NormTReferenceIdeal.nD,
    (Cert.Pre_finite_normt.fn (F := Ideal) (m ((c.tc : Thread Cert.NormTReferenceIdeal.nD Cert.NormTReferenceIdeal.τ).loc Cert.NormTReferenceIdeal.main_arg0)) (m ((c.tc : Thread Cert.NormTReferenceIdeal.nD Cert.NormTReferenceIdeal.τ).loc Cert.NormTReferenceIdeal.main_arg1)) (m ((c.tc : Thread Cert.NormTReferenceIdeal.nD Cert.NormTReferenceIdeal.τ).loc Cert.NormTReferenceIdeal.main_arg2)) (m ((c.tc : Thread Cert.NormTReferenceIdeal.nD Cert.NormTReferenceIdeal.τ).loc Cert.NormTReferenceIdeal.main_arg3)) (m ((c.tc : Thread Cert.NormTReferenceIdeal.nD Cert.NormTReferenceIdeal.τ).loc Cert.NormTReferenceIdeal.main_arg4)) (m ((c.tc : Thread Cert.NormTReferenceIdeal.nD Cert.NormTReferenceIdeal.τ).loc Cert.NormTReferenceIdeal.main_arg5)) (m ((c.tc : Thread Cert.NormTReferenceIdeal.nD Cert.NormTReferenceIdeal.τ).loc Cert.NormTReferenceIdeal.main_arg6))).1 = (fun _ => 1#1)
    ∧ (Cert.Pre_finite_normt.fn (F := Ideal) (m ((c.tc : Thread Cert.NormTReferenceIdeal.nD Cert.NormTReferenceIdeal.τ).loc Cert.NormTReferenceIdeal.main_arg0)) (m ((c.tc : Thread Cert.NormTReferenceIdeal.nD Cert.NormTReferenceIdeal.τ).loc Cert.NormTReferenceIdeal.main_arg1)) (m ((c.tc : Thread Cert.NormTReferenceIdeal.nD Cert.NormTReferenceIdeal.τ).loc Cert.NormTReferenceIdeal.main_arg2)) (m ((c.tc : Thread Cert.NormTReferenceIdeal.nD Cert.NormTReferenceIdeal.τ).loc Cert.NormTReferenceIdeal.main_arg3)) (m ((c.tc : Thread Cert.NormTReferenceIdeal.nD Cert.NormTReferenceIdeal.τ).loc Cert.NormTReferenceIdeal.main_arg4)) (m ((c.tc : Thread Cert.NormTReferenceIdeal.nD Cert.NormTReferenceIdeal.τ).loc Cert.NormTReferenceIdeal.main_arg5)) (m ((c.tc : Thread Cert.NormTReferenceIdeal.nD Cert.NormTReferenceIdeal.τ).loc Cert.NormTReferenceIdeal.main_arg6))).2.1 = (fun _ => 1#1)
    ∧ (Cert.Pre_finite_normt.fn (F := Ideal) (m ((c.tc : Thread Cert.NormTReferenceIdeal.nD Cert.NormTReferenceIdeal.τ).loc Cert.NormTReferenceIdeal.main_arg0)) (m ((c.tc : Thread Cert.NormTReferenceIdeal.nD Cert.NormTReferenceIdeal.τ).loc Cert.NormTReferenceIdeal.main_arg1)) (m ((c.tc : Thread Cert.NormTReferenceIdeal.nD Cert.NormTReferenceIdeal.τ).loc Cert.NormTReferenceIdeal.main_arg2)) (m ((c.tc : Thread Cert.NormTReferenceIdeal.nD Cert.NormTReferenceIdeal.τ).loc Cert.NormTReferenceIdeal.main_arg3)) (m ((c.tc : Thread Cert.NormTReferenceIdeal.nD Cert.NormTReferenceIdeal.τ).loc Cert.NormTReferenceIdeal.main_arg4)) (m ((c.tc : Thread Cert.NormTReferenceIdeal.nD Cert.NormTReferenceIdeal.τ).loc Cert.NormTReferenceIdeal.main_arg5)) (m ((c.tc : Thread Cert.NormTReferenceIdeal.nD Cert.NormTReferenceIdeal.τ).loc Cert.NormTReferenceIdeal.main_arg6))).2.2.1 = (fun _ => 1#1)
    ∧ (Cert.Pre_finite_normt.fn (F := Ideal) (m ((c.tc : Thread Cert.NormTReferenceIdeal.nD Cert.NormTReferenceIdeal.τ).loc Cert.NormTReferenceIdeal.main_arg0)) (m ((c.tc : Thread Cert.NormTReferenceIdeal.nD Cert.NormTReferenceIdeal.τ).loc Cert.NormTReferenceIdeal.main_arg1)) (m ((c.tc : Thread Cert.NormTReferenceIdeal.nD Cert.NormTReferenceIdeal.τ).loc Cert.NormTReferenceIdeal.main_arg2)) (m ((c.tc : Thread Cert.NormTReferenceIdeal.nD Cert.NormTReferenceIdeal.τ).loc Cert.NormTReferenceIdeal.main_arg3)) (m ((c.tc : Thread Cert.NormTReferenceIdeal.nD Cert.NormTReferenceIdeal.τ).loc Cert.NormTReferenceIdeal.main_arg4)) (m ((c.tc : Thread Cert.NormTReferenceIdeal.nD Cert.NormTReferenceIdeal.τ).loc Cert.NormTReferenceIdeal.main_arg5)) (m ((c.tc : Thread Cert.NormTReferenceIdeal.nD Cert.NormTReferenceIdeal.τ).loc Cert.NormTReferenceIdeal.main_arg6))).2.2.2.1 = (fun _ => 1#1)
    ∧ (Cert.Pre_finite_normt.fn (F := Ideal) (m ((c.tc : Thread Cert.NormTReferenceIdeal.nD Cert.NormTReferenceIdeal.τ).loc Cert.NormTReferenceIdeal.main_arg0)) (m ((c.tc : Thread Cert.NormTReferenceIdeal.nD Cert.NormTReferenceIdeal.τ).loc Cert.NormTReferenceIdeal.main_arg1)) (m ((c.tc : Thread Cert.NormTReferenceIdeal.nD Cert.NormTReferenceIdeal.τ).loc Cert.NormTReferenceIdeal.main_arg2)) (m ((c.tc : Thread Cert.NormTReferenceIdeal.nD Cert.NormTReferenceIdeal.τ).loc Cert.NormTReferenceIdeal.main_arg3)) (m ((c.tc : Thread Cert.NormTReferenceIdeal.nD Cert.NormTReferenceIdeal.τ).loc Cert.NormTReferenceIdeal.main_arg4)) (m ((c.tc : Thread Cert.NormTReferenceIdeal.nD Cert.NormTReferenceIdeal.τ).loc Cert.NormTReferenceIdeal.main_arg5)) (m ((c.tc : Thread Cert.NormTReferenceIdeal.nD Cert.NormTReferenceIdeal.τ).loc Cert.NormTReferenceIdeal.main_arg6))).2.2.2.2.1 = (fun _ => 1#1)
    ∧ (Cert.Pre_finite_normt.fn (F := Ideal) (m ((c.tc : Thread Cert.NormTReferenceIdeal.nD Cert.NormTReferenceIdeal.τ).loc Cert.NormTReferenceIdeal.main_arg0)) (m ((c.tc : Thread Cert.NormTReferenceIdeal.nD Cert.NormTReferenceIdeal.τ).loc Cert.NormTReferenceIdeal.main_arg1)) (m ((c.tc : Thread Cert.NormTReferenceIdeal.nD Cert.NormTReferenceIdeal.τ).loc Cert.NormTReferenceIdeal.main_arg2)) (m ((c.tc : Thread Cert.NormTReferenceIdeal.nD Cert.NormTReferenceIdeal.τ).loc Cert.NormTReferenceIdeal.main_arg3)) (m ((c.tc : Thread Cert.NormTReferenceIdeal.nD Cert.NormTReferenceIdeal.τ).loc Cert.NormTReferenceIdeal.main_arg4)) (m ((c.tc : Thread Cert.NormTReferenceIdeal.nD Cert.NormTReferenceIdeal.τ).loc Cert.NormTReferenceIdeal.main_arg5)) (m ((c.tc : Thread Cert.NormTReferenceIdeal.nD Cert.NormTReferenceIdeal.τ).loc Cert.NormTReferenceIdeal.main_arg6))).2.2.2.2.2.1 = (fun _ => 1#1)
    ∧ (Cert.Pre_finite_normt.fn (F := Ideal) (m ((c.tc : Thread Cert.NormTReferenceIdeal.nD Cert.NormTReferenceIdeal.τ).loc Cert.NormTReferenceIdeal.main_arg0)) (m ((c.tc : Thread Cert.NormTReferenceIdeal.nD Cert.NormTReferenceIdeal.τ).loc Cert.NormTReferenceIdeal.main_arg1)) (m ((c.tc : Thread Cert.NormTReferenceIdeal.nD Cert.NormTReferenceIdeal.τ).loc Cert.NormTReferenceIdeal.main_arg2)) (m ((c.tc : Thread Cert.NormTReferenceIdeal.nD Cert.NormTReferenceIdeal.τ).loc Cert.NormTReferenceIdeal.main_arg3)) (m ((c.tc : Thread Cert.NormTReferenceIdeal.nD Cert.NormTReferenceIdeal.τ).loc Cert.NormTReferenceIdeal.main_arg4)) (m ((c.tc : Thread Cert.NormTReferenceIdeal.nD Cert.NormTReferenceIdeal.τ).loc Cert.NormTReferenceIdeal.main_arg5)) (m ((c.tc : Thread Cert.NormTReferenceIdeal.nD Cert.NormTReferenceIdeal.τ).loc Cert.NormTReferenceIdeal.main_arg6))).2.2.2.2.2.2 = (fun _ => 1#1)

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstKernelIdeal_finite_first [hPre_finite_first : Cert.Pre_finite_first.Facts] (m : (ℓ : Loc Cert.FirstKernelIdeal.nD Cert.FirstKernelIdeal.τ Cert.FirstKernelIdeal.sig) → Buf (Elt Ideal) ℓ) : Prop :=
  ∀ c : Dev Cert.FirstKernelIdeal.nD,
    (Cert.Pre_finite_first.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4))).1 = (fun _ => 1#1)
    ∧ (Cert.Pre_finite_first.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4))).2.1 = (fun _ => 1#1)
    ∧ (Cert.Pre_finite_first.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4))).2.2.1 = (fun _ => 1#1)
    ∧ (Cert.Pre_finite_first.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4))).2.2.2 = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_finite_first [hPre_finite_first : Cert.Pre_finite_first.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_finite_first.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4))).1 = (fun _ => 1#1)
    ∧ (Cert.Pre_finite_first.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4))).2.1 = (fun _ => 1#1)
    ∧ (Cert.Pre_finite_first.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4))).2.2.1 = (fun _ => 1#1)
    ∧ (Cert.Pre_finite_first.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4))).2.2.2 = (fun _ => 1#1)

def Pre_XattnKernel (m : (ℓ : Loc Cert.XattnKernel.nD Cert.XattnKernel.τ Cert.XattnKernel.sig) → Buf (Elt Bits) ℓ) : Prop :=
  True

def Pre_XattnKernelIdeal (m : (ℓ : Loc Cert.XattnKernelIdeal.nD Cert.XattnKernelIdeal.τ Cert.XattnKernelIdeal.sig) → Buf (Elt Ideal) ℓ) : Prop :=
  True

def Pre_XattnKernelIdeal_finite_xattn [hPre_finite_xattn : Cert.Pre_finite_xattn.Facts] (m : (ℓ : Loc Cert.XattnKernelIdeal.nD Cert.XattnKernelIdeal.τ Cert.XattnKernelIdeal.sig) → Buf (Elt Ideal) ℓ) : Prop :=
  ∀ c : Dev Cert.XattnKernelIdeal.nD,
    (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2))).1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2))).2.1 = (fun _ => 1#1)
    ∧ (Cert.Pre_finite_xattn.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2))).2.2 = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_finite_xattn [hPre_finite_xattn : Cert.Pre_finite_xattn.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2))).1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2))).2.1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2))).2.2 = (fun _ => 1#1)

def Pre_XattnFKernel (m : (ℓ : Loc Cert.XattnFKernel.nD Cert.XattnFKernel.τ Cert.XattnFKernel.sig) → Buf (Elt Bits) ℓ) : Prop :=
  True

def Pre_XattnFKernelIdeal (m : (ℓ : Loc Cert.XattnFKernelIdeal.nD Cert.XattnFKernelIdeal.τ Cert.XattnFKernelIdeal.sig) → Buf (Elt Ideal) ℓ) : Prop :=
  True

def Pre_XattnFKernelIdeal_finite_xattnf [hPre_finite_xattnf : Cert.Pre_finite_xattnf.Facts] (m : (ℓ : Loc Cert.XattnFKernelIdeal.nD Cert.XattnFKernelIdeal.τ Cert.XattnFKernelIdeal.sig) → Buf (Elt Ideal) ℓ) : Prop :=
  ∀ c : Dev Cert.XattnFKernelIdeal.nD,
    (Cert.Pre_finite_xattnf.fn (F := Ideal) (m ((c.tc : Thread Cert.XattnFKernelIdeal.nD Cert.XattnFKernelIdeal.τ).loc Cert.XattnFKernelIdeal.main_arg0)) (m ((c.tc : Thread Cert.XattnFKernelIdeal.nD Cert.XattnFKernelIdeal.τ).loc Cert.XattnFKernelIdeal.main_arg1))).1 = (fun _ => 1#1)
    ∧ (Cert.Pre_finite_xattnf.fn (F := Ideal) (m ((c.tc : Thread Cert.XattnFKernelIdeal.nD Cert.XattnFKernelIdeal.τ).loc Cert.XattnFKernelIdeal.main_arg0)) (m ((c.tc : Thread Cert.XattnFKernelIdeal.nD Cert.XattnFKernelIdeal.τ).loc Cert.XattnFKernelIdeal.main_arg1))).2 = (fun _ => 1#1)

def Pre_XattnFReferenceIdeal (m : (ℓ : Loc Cert.XattnFReferenceIdeal.nD Cert.XattnFReferenceIdeal.τ Cert.XattnFReferenceIdeal.sig) → Buf (Elt Ideal) ℓ) : Prop :=
  True

def Pre_XattnFReferenceIdeal_finite_xattnf [hPre_finite_xattnf : Cert.Pre_finite_xattnf.Facts] (m : (ℓ : Loc Cert.XattnFReferenceIdeal.nD Cert.XattnFReferenceIdeal.τ Cert.XattnFReferenceIdeal.sig) → Buf (Elt Ideal) ℓ) : Prop :=
  ∀ c : Dev Cert.XattnFReferenceIdeal.nD,
    (Cert.Pre_finite_xattnf.fn (F := Ideal) (m ((c.tc : Thread Cert.XattnFReferenceIdeal.nD Cert.XattnFReferenceIdeal.τ).loc Cert.XattnFReferenceIdeal.main_arg0)) (m ((c.tc : Thread Cert.XattnFReferenceIdeal.nD Cert.XattnFReferenceIdeal.τ).loc Cert.XattnFReferenceIdeal.main_arg1))).1 = (fun _ => 1#1)
    ∧ (Cert.Pre_finite_xattnf.fn (F := Ideal) (m ((c.tc : Thread Cert.XattnFReferenceIdeal.nD Cert.XattnFReferenceIdeal.τ).loc Cert.XattnFReferenceIdeal.main_arg0)) (m ((c.tc : Thread Cert.XattnFReferenceIdeal.nD Cert.XattnFReferenceIdeal.τ).loc Cert.XattnFReferenceIdeal.main_arg1))).2 = (fun _ => 1#1)

def Pre_MixOKernel (m : (ℓ : Loc Cert.MixOKernel.nD Cert.MixOKernel.τ Cert.MixOKernel.sig) → Buf (Elt Bits) ℓ) : Prop :=
  True

def Pre_MixOKernelIdeal (m : (ℓ : Loc Cert.MixOKernelIdeal.nD Cert.MixOKernelIdeal.τ Cert.MixOKernelIdeal.sig) → Buf (Elt Ideal) ℓ) : Prop :=
  True

def Pre_MixOReferenceIdeal (m : (ℓ : Loc Cert.MixOReferenceIdeal.nD Cert.MixOReferenceIdeal.τ Cert.MixOReferenceIdeal.sig) → Buf (Elt Ideal) ℓ) : Prop :=
  True

def Pre_FfnOKernel (m : (ℓ : Loc Cert.FfnOKernel.nD Cert.FfnOKernel.τ Cert.FfnOKernel.sig) → Buf (Elt Bits) ℓ) : Prop :=
  True

def Pre_FfnOKernelIdeal (m : (ℓ : Loc Cert.FfnOKernelIdeal.nD Cert.FfnOKernelIdeal.τ Cert.FfnOKernelIdeal.sig) → Buf (Elt Ideal) ℓ) : Prop :=
  True

def Pre_FfnOReferenceIdeal (m : (ℓ : Loc Cert.FfnOReferenceIdeal.nD Cert.FfnOReferenceIdeal.τ Cert.FfnOReferenceIdeal.sig) → Buf (Elt Ideal) ℓ) : Prop :=
  True

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_MmKernel (m : (ℓ : Loc Cert.MmKernel.nD Cert.MmKernel.τ Cert.MmKernel.sig) → Buf (Elt Bits) ℓ) : Prop :=
  True

def Pre_MmKernelIdeal (m : (ℓ : Loc Cert.MmKernelIdeal.nD Cert.MmKernelIdeal.τ Cert.MmKernelIdeal.sig) → Buf (Elt Ideal) ℓ) : Prop :=
  True

def Pre_MmReferenceIdeal (m : (ℓ : Loc Cert.MmReferenceIdeal.nD Cert.MmReferenceIdeal.τ Cert.MmReferenceIdeal.sig) → Buf (Elt Ideal) ℓ) : Prop :=
  True

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_FinalSumKernel (m : (ℓ : Loc Cert.FinalSumKernel.nD Cert.FinalSumKernel.τ Cert.FinalSumKernel.sig) → Buf (Elt Bits) ℓ) : Prop :=
  True

def Pre_FinalSumKernelIdeal (m : (ℓ : Loc Cert.FinalSumKernelIdeal.nD Cert.FinalSumKernelIdeal.τ Cert.FinalSumKernelIdeal.sig) → Buf (Elt Ideal) ℓ) : Prop :=
  True

def Pre_FinalSumReferenceIdeal (m : (ℓ : Loc Cert.FinalSumReferenceIdeal.nD Cert.FinalSumReferenceIdeal.τ Cert.FinalSumReferenceIdeal.sig) → Buf (Elt Ideal) ℓ) : Prop :=
  True

def Pre_FfnLKernel (m : (ℓ : Loc Cert.FfnLKernel.nD Cert.FfnLKernel.τ Cert.FfnLKernel.sig) → Buf (Elt Bits) ℓ) : Prop :=
  True

def Pre_FfnLKernelIdeal (m : (ℓ : Loc Cert.FfnLKernelIdeal.nD Cert.FfnLKernelIdeal.τ Cert.FfnLKernelIdeal.sig) → Buf (Elt Ideal) ℓ) : Prop :=
  True

def Pre_FfnLReferenceIdeal (m : (ℓ : Loc Cert.FfnLReferenceIdeal.nD Cert.FfnLReferenceIdeal.τ Cert.FfnLReferenceIdeal.sig) → Buf (Elt Ideal) ℓ) : Prop :=
  True

def Pre_FirstFKernel (m : (ℓ : Loc Cert.FirstFKernel.nD Cert.FirstFKernel.τ Cert.FirstFKernel.sig) → Buf (Elt Bits) ℓ) : Prop :=
  True

def Pre_FirstFKernelIdeal (m : (ℓ : Loc Cert.FirstFKernelIdeal.nD Cert.FirstFKernelIdeal.τ Cert.FirstFKernelIdeal.sig) → Buf (Elt Ideal) ℓ) : Prop :=
  True

def Pre_FirstFReferenceIdeal (m : (ℓ : Loc Cert.FirstFReferenceIdeal.nD Cert.FirstFReferenceIdeal.τ Cert.FirstFReferenceIdeal.sig) → Buf (Elt Ideal) ℓ) : Prop :=
  True

def Pre_XkvFKernel (m : (ℓ : Loc Cert.XkvFKernel.nD Cert.XkvFKernel.τ Cert.XkvFKernel.sig) → Buf (Elt Bits) ℓ) : Prop :=
  True

def Pre_XkvFKernelIdeal (m : (ℓ : Loc Cert.XkvFKernelIdeal.nD Cert.XkvFKernelIdeal.τ Cert.XkvFKernelIdeal.sig) → Buf (Elt Ideal) ℓ) : Prop :=
  True

def Pre_XkvFReferenceIdeal (m : (ℓ : Loc Cert.XkvFReferenceIdeal.nD Cert.XkvFReferenceIdeal.τ Cert.XkvFReferenceIdeal.sig) → Buf (Elt Ideal) ℓ) : Prop :=
  True

def Pre_ChipSumKernel (m : (ℓ : Loc Cert.ChipSumKernel.nD Cert.ChipSumKernel.τ Cert.ChipSumKernel.sig) → Buf (Elt Bits) ℓ) : Prop :=
  True

def Pre_ChipSumKernelIdeal (m : (ℓ : Loc Cert.ChipSumKernelIdeal.nD Cert.ChipSumKernelIdeal.τ Cert.ChipSumKernelIdeal.sig) → Buf (Elt Ideal) ℓ) : Prop :=
  True

def Pre_ChipSumReferenceIdeal (m : (ℓ : Loc Cert.ChipSumReferenceIdeal.nD Cert.ChipSumReferenceIdeal.τ Cert.ChipSumReferenceIdeal.sig) → Buf (Elt Ideal) ℓ) : Prop :=
  True

def Pre_PlaceKernel (m : (ℓ : Loc Cert.PlaceKernel.nD Cert.PlaceKernel.τ Cert.PlaceKernel.sig) → Buf (Elt Bits) ℓ) : Prop :=
  True

def Pre_PlaceKernelIdeal (m : (ℓ : Loc Cert.PlaceKernelIdeal.nD Cert.PlaceKernelIdeal.τ Cert.PlaceKernelIdeal.sig) → Buf (Elt Ideal) ℓ) : Prop :=
  True

def Pre_PlaceReferenceIdeal (m : (ℓ : Loc Cert.PlaceReferenceIdeal.nD Cert.PlaceReferenceIdeal.τ Cert.PlaceReferenceIdeal.sig) → Buf (Elt Ideal) ℓ) : Prop :=
  True

def Pre_InnerKernel (m : (ℓ : Loc Cert.InnerKernel.nD Cert.InnerKernel.τ Cert.InnerKernel.sig) → Buf (Elt Bits) ℓ) : Prop :=
  True

def Pre_InnerKernelIdeal (m : (ℓ : Loc Cert.InnerKernelIdeal.nD Cert.InnerKernelIdeal.τ Cert.InnerKernelIdeal.sig) → Buf (Elt Ideal) ℓ) : Prop :=
  True

def Pre_InnerKernelIdeal_finite_inner [hPre_finite_inner : Cert.Pre_finite_inner.Facts] (m : (ℓ : Loc Cert.InnerKernelIdeal.nD Cert.InnerKernelIdeal.τ Cert.InnerKernelIdeal.sig) → Buf (Elt Ideal) ℓ) : Prop :=
  ∀ c : Dev Cert.InnerKernelIdeal.nD,
    (Cert.Pre_finite_inner.fn (F := Ideal) (m ((c.tc : Thread Cert.InnerKernelIdeal.nD Cert.InnerKernelIdeal.τ).loc Cert.InnerKernelIdeal.main_arg0)) (m ((c.tc : Thread Cert.InnerKernelIdeal.nD Cert.InnerKernelIdeal.τ).loc Cert.InnerKernelIdeal.main_arg1)) (m ((c.tc : Thread Cert.InnerKernelIdeal.nD Cert.InnerKernelIdeal.τ).loc Cert.InnerKernelIdeal.main_arg2)) (m ((c.tc : Thread Cert.InnerKernelIdeal.nD Cert.InnerKernelIdeal.τ).loc Cert.InnerKernelIdeal.main_arg3)) (m ((c.tc : Thread Cert.InnerKernelIdeal.nD Cert.InnerKernelIdeal.τ).loc Cert.InnerKernelIdeal.main_arg4)) (m ((c.tc : Thread Cert.InnerKernelIdeal.nD Cert.InnerKernelIdeal.τ).loc Cert.InnerKernelIdeal.main_arg5)) (m ((c.tc : Thread Cert.InnerKernelIdeal.nD Cert.InnerKernelIdeal.τ).loc Cert.InnerKernelIdeal.main_arg6))).1 = (fun _ => 1#1)
    ∧ (Cert.Pre_finite_inner.fn (F := Ideal) (m ((c.tc : Thread Cert.InnerKernelIdeal.nD Cert.InnerKernelIdeal.τ).loc Cert.InnerKernelIdeal.main_arg0)) (m ((c.tc : Thread Cert.InnerKernelIdeal.nD Cert.InnerKernelIdeal.τ).loc Cert.InnerKernelIdeal.main_arg1)) (m ((c.tc : Thread Cert.InnerKernelIdeal.nD Cert.InnerKernelIdeal.τ).loc Cert.InnerKernelIdeal.main_arg2)) (m ((c.tc : Thread Cert.InnerKernelIdeal.nD Cert.InnerKernelIdeal.τ).loc Cert.InnerKernelIdeal.main_arg3)) (m ((c.tc : Thread Cert.InnerKernelIdeal.nD Cert.InnerKernelIdeal.τ).loc Cert.InnerKernelIdeal.main_arg4)) (m ((c.tc : Thread Cert.InnerKernelIdeal.nD Cert.InnerKernelIdeal.τ).loc Cert.InnerKernelIdeal.main_arg5)) (m ((c.tc : Thread Cert.InnerKernelIdeal.nD Cert.InnerKernelIdeal.τ).loc Cert.InnerKernelIdeal.main_arg6))).2.1 = (fun _ => 1#1)
    ∧ (Cert.Pre_finite_inner.fn (F := Ideal) (m ((c.tc : Thread Cert.InnerKernelIdeal.nD Cert.InnerKernelIdeal.τ).loc Cert.InnerKernelIdeal.main_arg0)) (m ((c.tc : Thread Cert.InnerKernelIdeal.nD Cert.InnerKernelIdeal.τ).loc Cert.InnerKernelIdeal.main_arg1)) (m ((c.tc : Thread Cert.InnerKernelIdeal.nD Cert.InnerKernelIdeal.τ).loc Cert.InnerKernelIdeal.main_arg2)) (m ((c.tc : Thread Cert.InnerKernelIdeal.nD Cert.InnerKernelIdeal.τ).loc Cert.InnerKernelIdeal.main_arg3)) (m ((c.tc : Thread Cert.InnerKernelIdeal.nD Cert.InnerKernelIdeal.τ).loc Cert.InnerKernelIdeal.main_arg4)) (m ((c.tc : Thread Cert.InnerKernelIdeal.nD Cert.InnerKernelIdeal.τ).loc Cert.InnerKernelIdeal.main_arg5)) (m ((c.tc : Thread Cert.InnerKernelIdeal.nD Cert.InnerKernelIdeal.τ).loc Cert.InnerKernelIdeal.main_arg6))).2.2.1 = (fun _ => 1#1)
    ∧ (Cert.Pre_finite_inner.fn (F := Ideal) (m ((c.tc : Thread Cert.InnerKernelIdeal.nD Cert.InnerKernelIdeal.τ).loc Cert.InnerKernelIdeal.main_arg0)) (m ((c.tc : Thread Cert.InnerKernelIdeal.nD Cert.InnerKernelIdeal.τ).loc Cert.InnerKernelIdeal.main_arg1)) (m ((c.tc : Thread Cert.InnerKernelIdeal.nD Cert.InnerKernelIdeal.τ).loc Cert.InnerKernelIdeal.main_arg2)) (m ((c.tc : Thread Cert.InnerKernelIdeal.nD Cert.InnerKernelIdeal.τ).loc Cert.InnerKernelIdeal.main_arg3)) (m ((c.tc : Thread Cert.InnerKernelIdeal.nD Cert.InnerKernelIdeal.τ).loc Cert.InnerKernelIdeal.main_arg4)) (m ((c.tc : Thread Cert.InnerKernelIdeal.nD Cert.InnerKernelIdeal.τ).loc Cert.InnerKernelIdeal.main_arg5)) (m ((c.tc : Thread Cert.InnerKernelIdeal.nD Cert.InnerKernelIdeal.τ).loc Cert.InnerKernelIdeal.main_arg6))).2.2.2.1 = (fun _ => 1#1)
    ∧ (Cert.Pre_finite_inner.fn (F := Ideal) (m ((c.tc : Thread Cert.InnerKernelIdeal.nD Cert.InnerKernelIdeal.τ).loc Cert.InnerKernelIdeal.main_arg0)) (m ((c.tc : Thread Cert.InnerKernelIdeal.nD Cert.InnerKernelIdeal.τ).loc Cert.InnerKernelIdeal.main_arg1)) (m ((c.tc : Thread Cert.InnerKernelIdeal.nD Cert.InnerKernelIdeal.τ).loc Cert.InnerKernelIdeal.main_arg2)) (m ((c.tc : Thread Cert.InnerKernelIdeal.nD Cert.InnerKernelIdeal.τ).loc Cert.InnerKernelIdeal.main_arg3)) (m ((c.tc : Thread Cert.InnerKernelIdeal.nD Cert.InnerKernelIdeal.τ).loc Cert.InnerKernelIdeal.main_arg4)) (m ((c.tc : Thread Cert.InnerKernelIdeal.nD Cert.InnerKernelIdeal.τ).loc Cert.InnerKernelIdeal.main_arg5)) (m ((c.tc : Thread Cert.InnerKernelIdeal.nD Cert.InnerKernelIdeal.τ).loc Cert.InnerKernelIdeal.main_arg6))).2.2.2.2.1 = (fun _ => 1#1)
    ∧ (Cert.Pre_finite_inner.fn (F := Ideal) (m ((c.tc : Thread Cert.InnerKernelIdeal.nD Cert.InnerKernelIdeal.τ).loc Cert.InnerKernelIdeal.main_arg0)) (m ((c.tc : Thread Cert.InnerKernelIdeal.nD Cert.InnerKernelIdeal.τ).loc Cert.InnerKernelIdeal.main_arg1)) (m ((c.tc : Thread Cert.InnerKernelIdeal.nD Cert.InnerKernelIdeal.τ).loc Cert.InnerKernelIdeal.main_arg2)) (m ((c.tc : Thread Cert.InnerKernelIdeal.nD Cert.InnerKernelIdeal.τ).loc Cert.InnerKernelIdeal.main_arg3)) (m ((c.tc : Thread Cert.InnerKernelIdeal.nD Cert.InnerKernelIdeal.τ).loc Cert.InnerKernelIdeal.main_arg4)) (m ((c.tc : Thread Cert.InnerKernelIdeal.nD Cert.InnerKernelIdeal.τ).loc Cert.InnerKernelIdeal.main_arg5)) (m ((c.tc : Thread Cert.InnerKernelIdeal.nD Cert.InnerKernelIdeal.τ).loc Cert.InnerKernelIdeal.main_arg6))).2.2.2.2.2.1 = (fun _ => 1#1)
    ∧ (Cert.Pre_finite_inner.fn (F := Ideal) (m ((c.tc : Thread Cert.InnerKernelIdeal.nD Cert.InnerKernelIdeal.τ).loc Cert.InnerKernelIdeal.main_arg0)) (m ((c.tc : Thread Cert.InnerKernelIdeal.nD Cert.InnerKernelIdeal.τ).loc Cert.InnerKernelIdeal.main_arg1)) (m ((c.tc : Thread Cert.InnerKernelIdeal.nD Cert.InnerKernelIdeal.τ).loc Cert.InnerKernelIdeal.main_arg2)) (m ((c.tc : Thread Cert.InnerKernelIdeal.nD Cert.InnerKernelIdeal.τ).loc Cert.InnerKernelIdeal.main_arg3)) (m ((c.tc : Thread Cert.InnerKernelIdeal.nD Cert.InnerKernelIdeal.τ).loc Cert.InnerKernelIdeal.main_arg4)) (m ((c.tc : Thread Cert.InnerKernelIdeal.nD Cert.InnerKernelIdeal.τ).loc Cert.InnerKernelIdeal.main_arg5)) (m ((c.tc : Thread Cert.InnerKernelIdeal.nD Cert.InnerKernelIdeal.τ).loc Cert.InnerKernelIdeal.main_arg6))).2.2.2.2.2.2 = (fun _ => 1#1)

def Pre_InnerReferenceIdeal (m : (ℓ : Loc Cert.InnerReferenceIdeal.nD Cert.InnerReferenceIdeal.τ Cert.InnerReferenceIdeal.sig) → Buf (Elt Ideal) ℓ) : Prop :=
  True

def Pre_InnerReferenceIdeal_finite_inner [hPre_finite_inner : Cert.Pre_finite_inner.Facts] (m : (ℓ : Loc Cert.InnerReferenceIdeal.nD Cert.InnerReferenceIdeal.τ Cert.InnerReferenceIdeal.sig) → Buf (Elt Ideal) ℓ) : Prop :=
  ∀ c : Dev Cert.InnerReferenceIdeal.nD,
    (Cert.Pre_finite_inner.fn (F := Ideal) (m ((c.tc : Thread Cert.InnerReferenceIdeal.nD Cert.InnerReferenceIdeal.τ).loc Cert.InnerReferenceIdeal.main_arg0)) (m ((c.tc : Thread Cert.InnerReferenceIdeal.nD Cert.InnerReferenceIdeal.τ).loc Cert.InnerReferenceIdeal.main_arg1)) (m ((c.tc : Thread Cert.InnerReferenceIdeal.nD Cert.InnerReferenceIdeal.τ).loc Cert.InnerReferenceIdeal.main_arg2)) (m ((c.tc : Thread Cert.InnerReferenceIdeal.nD Cert.InnerReferenceIdeal.τ).loc Cert.InnerReferenceIdeal.main_arg3)) (m ((c.tc : Thread Cert.InnerReferenceIdeal.nD Cert.InnerReferenceIdeal.τ).loc Cert.InnerReferenceIdeal.main_arg4)) (m ((c.tc : Thread Cert.InnerReferenceIdeal.nD Cert.InnerReferenceIdeal.τ).loc Cert.InnerReferenceIdeal.main_arg5)) (m ((c.tc : Thread Cert.InnerReferenceIdeal.nD Cert.InnerReferenceIdeal.τ).loc Cert.InnerReferenceIdeal.main_arg6))).1 = (fun _ => 1#1)
    ∧ (Cert.Pre_finite_inner.fn (F := Ideal) (m ((c.tc : Thread Cert.InnerReferenceIdeal.nD Cert.InnerReferenceIdeal.τ).loc Cert.InnerReferenceIdeal.main_arg0)) (m ((c.tc : Thread Cert.InnerReferenceIdeal.nD Cert.InnerReferenceIdeal.τ).loc Cert.InnerReferenceIdeal.main_arg1)) (m ((c.tc : Thread Cert.InnerReferenceIdeal.nD Cert.InnerReferenceIdeal.τ).loc Cert.InnerReferenceIdeal.main_arg2)) (m ((c.tc : Thread Cert.InnerReferenceIdeal.nD Cert.InnerReferenceIdeal.τ).loc Cert.InnerReferenceIdeal.main_arg3)) (m ((c.tc : Thread Cert.InnerReferenceIdeal.nD Cert.InnerReferenceIdeal.τ).loc Cert.InnerReferenceIdeal.main_arg4)) (m ((c.tc : Thread Cert.InnerReferenceIdeal.nD Cert.InnerReferenceIdeal.τ).loc Cert.InnerReferenceIdeal.main_arg5)) (m ((c.tc : Thread Cert.InnerReferenceIdeal.nD Cert.InnerReferenceIdeal.τ).loc Cert.InnerReferenceIdeal.main_arg6))).2.1 = (fun _ => 1#1)
    ∧ (Cert.Pre_finite_inner.fn (F := Ideal) (m ((c.tc : Thread Cert.InnerReferenceIdeal.nD Cert.InnerReferenceIdeal.τ).loc Cert.InnerReferenceIdeal.main_arg0)) (m ((c.tc : Thread Cert.InnerReferenceIdeal.nD Cert.InnerReferenceIdeal.τ).loc Cert.InnerReferenceIdeal.main_arg1)) (m ((c.tc : Thread Cert.InnerReferenceIdeal.nD Cert.InnerReferenceIdeal.τ).loc Cert.InnerReferenceIdeal.main_arg2)) (m ((c.tc : Thread Cert.InnerReferenceIdeal.nD Cert.InnerReferenceIdeal.τ).loc Cert.InnerReferenceIdeal.main_arg3)) (m ((c.tc : Thread Cert.InnerReferenceIdeal.nD Cert.InnerReferenceIdeal.τ).loc Cert.InnerReferenceIdeal.main_arg4)) (m ((c.tc : Thread Cert.InnerReferenceIdeal.nD Cert.InnerReferenceIdeal.τ).loc Cert.InnerReferenceIdeal.main_arg5)) (m ((c.tc : Thread Cert.InnerReferenceIdeal.nD Cert.InnerReferenceIdeal.τ).loc Cert.InnerReferenceIdeal.main_arg6))).2.2.1 = (fun _ => 1#1)
    ∧ (Cert.Pre_finite_inner.fn (F := Ideal) (m ((c.tc : Thread Cert.InnerReferenceIdeal.nD Cert.InnerReferenceIdeal.τ).loc Cert.InnerReferenceIdeal.main_arg0)) (m ((c.tc : Thread Cert.InnerReferenceIdeal.nD Cert.InnerReferenceIdeal.τ).loc Cert.InnerReferenceIdeal.main_arg1)) (m ((c.tc : Thread Cert.InnerReferenceIdeal.nD Cert.InnerReferenceIdeal.τ).loc Cert.InnerReferenceIdeal.main_arg2)) (m ((c.tc : Thread Cert.InnerReferenceIdeal.nD Cert.InnerReferenceIdeal.τ).loc Cert.InnerReferenceIdeal.main_arg3)) (m ((c.tc : Thread Cert.InnerReferenceIdeal.nD Cert.InnerReferenceIdeal.τ).loc Cert.InnerReferenceIdeal.main_arg4)) (m ((c.tc : Thread Cert.InnerReferenceIdeal.nD Cert.InnerReferenceIdeal.τ).loc Cert.InnerReferenceIdeal.main_arg5)) (m ((c.tc : Thread Cert.InnerReferenceIdeal.nD Cert.InnerReferenceIdeal.τ).loc Cert.InnerReferenceIdeal.main_arg6))).2.2.2.1 = (fun _ => 1#1)
    ∧ (Cert.Pre_finite_inner.fn (F := Ideal) (m ((c.tc : Thread Cert.InnerReferenceIdeal.nD Cert.InnerReferenceIdeal.τ).loc Cert.InnerReferenceIdeal.main_arg0)) (m ((c.tc : Thread Cert.InnerReferenceIdeal.nD Cert.InnerReferenceIdeal.τ).loc Cert.InnerReferenceIdeal.main_arg1)) (m ((c.tc : Thread Cert.InnerReferenceIdeal.nD Cert.InnerReferenceIdeal.τ).loc Cert.InnerReferenceIdeal.main_arg2)) (m ((c.tc : Thread Cert.InnerReferenceIdeal.nD Cert.InnerReferenceIdeal.τ).loc Cert.InnerReferenceIdeal.main_arg3)) (m ((c.tc : Thread Cert.InnerReferenceIdeal.nD Cert.InnerReferenceIdeal.τ).loc Cert.InnerReferenceIdeal.main_arg4)) (m ((c.tc : Thread Cert.InnerReferenceIdeal.nD Cert.InnerReferenceIdeal.τ).loc Cert.InnerReferenceIdeal.main_arg5)) (m ((c.tc : Thread Cert.InnerReferenceIdeal.nD Cert.InnerReferenceIdeal.τ).loc Cert.InnerReferenceIdeal.main_arg6))).2.2.2.2.1 = (fun _ => 1#1)
    ∧ (Cert.Pre_finite_inner.fn (F := Ideal) (m ((c.tc : Thread Cert.InnerReferenceIdeal.nD Cert.InnerReferenceIdeal.τ).loc Cert.InnerReferenceIdeal.main_arg0)) (m ((c.tc : Thread Cert.InnerReferenceIdeal.nD Cert.InnerReferenceIdeal.τ).loc Cert.InnerReferenceIdeal.main_arg1)) (m ((c.tc : Thread Cert.InnerReferenceIdeal.nD Cert.InnerReferenceIdeal.τ).loc Cert.InnerReferenceIdeal.main_arg2)) (m ((c.tc : Thread Cert.InnerReferenceIdeal.nD Cert.InnerReferenceIdeal.τ).loc Cert.InnerReferenceIdeal.main_arg3)) (m ((c.tc : Thread Cert.InnerReferenceIdeal.nD Cert.InnerReferenceIdeal.τ).loc Cert.InnerReferenceIdeal.main_arg4)) (m ((c.tc : Thread Cert.InnerReferenceIdeal.nD Cert.InnerReferenceIdeal.τ).loc Cert.InnerReferenceIdeal.main_arg5)) (m ((c.tc : Thread Cert.InnerReferenceIdeal.nD Cert.InnerReferenceIdeal.τ).loc Cert.InnerReferenceIdeal.main_arg6))).2.2.2.2.2.1 = (fun _ => 1#1)
    ∧ (Cert.Pre_finite_inner.fn (F := Ideal) (m ((c.tc : Thread Cert.InnerReferenceIdeal.nD Cert.InnerReferenceIdeal.τ).loc Cert.InnerReferenceIdeal.main_arg0)) (m ((c.tc : Thread Cert.InnerReferenceIdeal.nD Cert.InnerReferenceIdeal.τ).loc Cert.InnerReferenceIdeal.main_arg1)) (m ((c.tc : Thread Cert.InnerReferenceIdeal.nD Cert.InnerReferenceIdeal.τ).loc Cert.InnerReferenceIdeal.main_arg2)) (m ((c.tc : Thread Cert.InnerReferenceIdeal.nD Cert.InnerReferenceIdeal.τ).loc Cert.InnerReferenceIdeal.main_arg3)) (m ((c.tc : Thread Cert.InnerReferenceIdeal.nD Cert.InnerReferenceIdeal.τ).loc Cert.InnerReferenceIdeal.main_arg4)) (m ((c.tc : Thread Cert.InnerReferenceIdeal.nD Cert.InnerReferenceIdeal.τ).loc Cert.InnerReferenceIdeal.main_arg5)) (m ((c.tc : Thread Cert.InnerReferenceIdeal.nD Cert.InnerReferenceIdeal.τ).loc Cert.InnerReferenceIdeal.main_arg6))).2.2.2.2.2.2 = (fun _ => 1#1)

def Pre_GatingKernel (m : (ℓ : Loc Cert.GatingKernel.nD Cert.GatingKernel.τ Cert.GatingKernel.sig) → Buf (Elt Bits) ℓ) : Prop :=
  True

def Pre_GatingKernelIdeal (m : (ℓ : Loc Cert.GatingKernelIdeal.nD Cert.GatingKernelIdeal.τ Cert.GatingKernelIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def quiescent_GainKernel [hGainKernel : Cert.GainKernel.Facts] : Prop :=
  ∀ (m : (ℓ : Loc Cert.GainKernel.nD Cert.GainKernel.τ Cert.GainKernel.sig) → Buf (Elt Bits) ℓ) (g : Dev Cert.GainKernel.nD → PrngReg), Pre_GainKernel m →
    θ_run (Cert.GainKernel.defs (F := Bits)) (onTc (τ := Cert.GainKernel.τ) (Cert.GainKernel.main (F := Bits))) ⟨m, fun _ => 0, g⟩ (fun r => (∀ c : Dev Cert.GainKernel.nD,
      r.2.mem ((c.tc : Thread Cert.GainKernel.nD Cert.GainKernel.τ).loc Cert.GainKernel.main_arg0) = m ((c.tc : Thread Cert.GainKernel.nD Cert.GainKernel.τ).loc Cert.GainKernel.main_arg0)
      ∧ r.2.mem ((c.tc : Thread Cert.GainKernel.nD Cert.GainKernel.τ).loc Cert.GainKernel.main_arg1) = m ((c.tc : Thread Cert.GainKernel.nD Cert.GainKernel.τ).loc Cert.GainKernel.main_arg1)
      ∧ r.2.mem ((c.tc : Thread Cert.GainKernel.nD Cert.GainKernel.τ).loc Cert.GainKernel.main_arg2) = m ((c.tc : Thread Cert.GainKernel.nD Cert.GainKernel.τ).loc Cert.GainKernel.main_arg2))
      ∧ r.2.sem = fun _ => 0)

def quiescent_GainKernelIdeal [hGainKernelIdeal : Cert.GainKernelIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg), Pre_GainKernelIdeal m →
    θ_run (Cert.GainKernelIdeal.defs (F := Ideal)) (onTc (τ := Cert.GainKernelIdeal.τ) (Cert.GainKernelIdeal.main (F := Ideal))) ⟨m, fun _ => 0, g⟩ (fun r => (∀ c : Dev Cert.GainKernelIdeal.nD,
      r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
      ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
      ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2))
      ∧ r.2.sem = fun _ => 0)

def quiescent_GainReferenceIdeal [hGainReferenceIdeal : Cert.GainReferenceIdeal.Facts] : Prop :=
  ∀ (m : (ℓ : Loc Cert.GainReferenceIdeal.nD Cert.GainReferenceIdeal.τ Cert.GainReferenceIdeal.sig) → Buf (Elt Ideal) ℓ) (g : Dev Cert.GainReferenceIdeal.nD → PrngReg), Pre_GainReferenceIdeal m →
    θ_run (Cert.GainReferenceIdeal.defs (F := Ideal)) (onTc (τ := Cert.GainReferenceIdeal.τ) (Cert.GainReferenceIdeal.main (F := Ideal))) ⟨m, fun _ => 0, g⟩ (fun r => (∀ c : Dev Cert.GainReferenceIdeal.nD,
      r.2.mem ((c.tc : Thread Cert.GainReferenceIdeal.nD Cert.GainReferenceIdeal.τ).loc Cert.GainReferenceIdeal.main_arg0) = m ((c.tc : Thread Cert.GainReferenceIdeal.nD Cert.GainReferenceIdeal.τ).loc Cert.GainReferenceIdeal.main_arg0)
      ∧ r.2.mem ((c.tc : Thread Cert.GainReferenceIdeal.nD Cert.GainReferenceIdeal.τ).loc Cert.GainReferenceIdeal.main_arg1) = m ((c.tc : Thread Cert.GainReferenceIdeal.nD Cert.GainReferenceIdeal.τ).loc Cert.GainReferenceIdeal.main_arg1)
      ∧ r.2.mem ((c.tc : Thread Cert.GainReferenceIdeal.nD Cert.GainReferenceIdeal.τ).loc Cert.GainReferenceIdeal.main_arg2) = m ((c.tc : Thread Cert.GainReferenceIdeal.nD Cert.GainReferenceIdeal.τ).loc Cert.GainReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateKernelIdeal_pre_finite_gate [hGateKernelIdeal : Cert.GateKernelIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_finite_gate m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_GateReferenceIdeal_pre_finite_gate [hGateReferenceIdeal : Cert.GateReferenceIdeal.Facts] [hPre_finite_gate : Cert.Pre_finite_gate.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gate m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5)
      ∧ r.2.mem ((c.tc : Thread Cert.NormKernel.nD Cert.NormKernel.τ).loc Cert.NormKernel.main_arg6) = m ((c.tc : Thread Cert.NormKernel.nD Cert.NormKernel.τ).loc Cert.NormKernel.main_arg6))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormKernelIdeal_pre_finite_norm [hNormKernelIdeal : Cert.NormKernelIdeal.Facts] [hPre_finite_norm : Cert.Pre_finite_norm.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_finite_norm m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_NormReferenceIdeal_pre_finite_norm [hNormReferenceIdeal : Cert.NormReferenceIdeal.Facts] [hPre_finite_norm : Cert.Pre_finite_norm.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_finite_norm m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_NormTKernel [hNormTKernel : Cert.NormTKernel.Facts] : Prop :=
  ∀ (m : (ℓ : Loc Cert.NormTKernel.nD Cert.NormTKernel.τ Cert.NormTKernel.sig) → Buf (Elt Bits) ℓ) (g : Dev Cert.NormTKernel.nD → PrngReg), Pre_NormTKernel m →
    θ_run (Cert.NormTKernel.defs (F := Bits)) (onTc (τ := Cert.NormTKernel.τ) (Cert.NormTKernel.main (F := Bits))) ⟨m, fun _ => 0, g⟩ (fun r => (∀ c : Dev Cert.NormTKernel.nD,
      r.2.mem ((c.tc : Thread Cert.NormTKernel.nD Cert.NormTKernel.τ).loc Cert.NormTKernel.main_arg0) = m ((c.tc : Thread Cert.NormTKernel.nD Cert.NormTKernel.τ).loc Cert.NormTKernel.main_arg0)
      ∧ r.2.mem ((c.tc : Thread Cert.NormTKernel.nD Cert.NormTKernel.τ).loc Cert.NormTKernel.main_arg1) = m ((c.tc : Thread Cert.NormTKernel.nD Cert.NormTKernel.τ).loc Cert.NormTKernel.main_arg1)
      ∧ r.2.mem ((c.tc : Thread Cert.NormTKernel.nD Cert.NormTKernel.τ).loc Cert.NormTKernel.main_arg2) = m ((c.tc : Thread Cert.NormTKernel.nD Cert.NormTKernel.τ).loc Cert.NormTKernel.main_arg2)
      ∧ r.2.mem ((c.tc : Thread Cert.NormTKernel.nD Cert.NormTKernel.τ).loc Cert.NormTKernel.main_arg3) = m ((c.tc : Thread Cert.NormTKernel.nD Cert.NormTKernel.τ).loc Cert.NormTKernel.main_arg3)
      ∧ r.2.mem ((c.tc : Thread Cert.NormTKernel.nD Cert.NormTKernel.τ).loc Cert.NormTKernel.main_arg4) = m ((c.tc : Thread Cert.NormTKernel.nD Cert.NormTKernel.τ).loc Cert.NormTKernel.main_arg4)
      ∧ r.2.mem ((c.tc : Thread Cert.NormTKernel.nD Cert.NormTKernel.τ).loc Cert.NormTKernel.main_arg5) = m ((c.tc : Thread Cert.NormTKernel.nD Cert.NormTKernel.τ).loc Cert.NormTKernel.main_arg5)
      ∧ r.2.mem ((c.tc : Thread Cert.NormTKernel.nD Cert.NormTKernel.τ).loc Cert.NormTKernel.main_arg6) = m ((c.tc : Thread Cert.NormTKernel.nD Cert.NormTKernel.τ).loc Cert.NormTKernel.main_arg6))
      ∧ r.2.sem = fun _ => 0)

def quiescent_NormTKernelIdeal [hNormTKernelIdeal : Cert.NormTKernelIdeal.Facts] : Prop :=
  ∀ (m : (ℓ : Loc Cert.NormTKernelIdeal.nD Cert.NormTKernelIdeal.τ Cert.NormTKernelIdeal.sig) → Buf (Elt Ideal) ℓ) (g : Dev Cert.NormTKernelIdeal.nD → PrngReg), Pre_NormTKernelIdeal m →
    θ_run (Cert.NormTKernelIdeal.defs (F := Ideal)) (onTc (τ := Cert.NormTKernelIdeal.τ) (Cert.NormTKernelIdeal.main (F := Ideal))) ⟨m, fun _ => 0, g⟩ (fun r => (∀ c : Dev Cert.NormTKernelIdeal.nD,
      r.2.mem ((c.tc : Thread Cert.NormTKernelIdeal.nD Cert.NormTKernelIdeal.τ).loc Cert.NormTKernelIdeal.main_arg0) = m ((c.tc : Thread Cert.NormTKernelIdeal.nD Cert.NormTKernelIdeal.τ).loc Cert.NormTKernelIdeal.main_arg0)
      ∧ r.2.mem ((c.tc : Thread Cert.NormTKernelIdeal.nD Cert.NormTKernelIdeal.τ).loc Cert.NormTKernelIdeal.main_arg1) = m ((c.tc : Thread Cert.NormTKernelIdeal.nD Cert.NormTKernelIdeal.τ).loc Cert.NormTKernelIdeal.main_arg1)
      ∧ r.2.mem ((c.tc : Thread Cert.NormTKernelIdeal.nD Cert.NormTKernelIdeal.τ).loc Cert.NormTKernelIdeal.main_arg2) = m ((c.tc : Thread Cert.NormTKernelIdeal.nD Cert.NormTKernelIdeal.τ).loc Cert.NormTKernelIdeal.main_arg2)
      ∧ r.2.mem ((c.tc : Thread Cert.NormTKernelIdeal.nD Cert.NormTKernelIdeal.τ).loc Cert.NormTKernelIdeal.main_arg3) = m ((c.tc : Thread Cert.NormTKernelIdeal.nD Cert.NormTKernelIdeal.τ).loc Cert.NormTKernelIdeal.main_arg3)
      ∧ r.2.mem ((c.tc : Thread Cert.NormTKernelIdeal.nD Cert.NormTKernelIdeal.τ).loc Cert.NormTKernelIdeal.main_arg4) = m ((c.tc : Thread Cert.NormTKernelIdeal.nD Cert.NormTKernelIdeal.τ).loc Cert.NormTKernelIdeal.main_arg4)
      ∧ r.2.mem ((c.tc : Thread Cert.NormTKernelIdeal.nD Cert.NormTKernelIdeal.τ).loc Cert.NormTKernelIdeal.main_arg5) = m ((c.tc : Thread Cert.NormTKernelIdeal.nD Cert.NormTKernelIdeal.τ).loc Cert.NormTKernelIdeal.main_arg5)
      ∧ r.2.mem ((c.tc : Thread Cert.NormTKernelIdeal.nD Cert.NormTKernelIdeal.τ).loc Cert.NormTKernelIdeal.main_arg6) = m ((c.tc : Thread Cert.NormTKernelIdeal.nD Cert.NormTKernelIdeal.τ).loc Cert.NormTKernelIdeal.main_arg6))
      ∧ r.2.sem = fun _ => 0)

def quiescent_NormTKernelIdeal_pre_finite_normt [hNormTKernelIdeal : Cert.NormTKernelIdeal.Facts] [hPre_finite_normt : Cert.Pre_finite_normt.Facts] : Prop :=
  ∀ (m : (ℓ : Loc Cert.NormTKernelIdeal.nD Cert.NormTKernelIdeal.τ Cert.NormTKernelIdeal.sig) → Buf (Elt Ideal) ℓ) (g : Dev Cert.NormTKernelIdeal.nD → PrngReg), Pre_NormTKernelIdeal_finite_normt m →
    θ_run (Cert.NormTKernelIdeal.defs (F := Ideal)) (onTc (τ := Cert.NormTKernelIdeal.τ) (Cert.NormTKernelIdeal.main (F := Ideal))) ⟨m, fun _ => 0, g⟩ (fun r => (∀ c : Dev Cert.NormTKernelIdeal.nD,
      r.2.mem ((c.tc : Thread Cert.NormTKernelIdeal.nD Cert.NormTKernelIdeal.τ).loc Cert.NormTKernelIdeal.main_arg0) = m ((c.tc : Thread Cert.NormTKernelIdeal.nD Cert.NormTKernelIdeal.τ).loc Cert.NormTKernelIdeal.main_arg0)
      ∧ r.2.mem ((c.tc : Thread Cert.NormTKernelIdeal.nD Cert.NormTKernelIdeal.τ).loc Cert.NormTKernelIdeal.main_arg1) = m ((c.tc : Thread Cert.NormTKernelIdeal.nD Cert.NormTKernelIdeal.τ).loc Cert.NormTKernelIdeal.main_arg1)
      ∧ r.2.mem ((c.tc : Thread Cert.NormTKernelIdeal.nD Cert.NormTKernelIdeal.τ).loc Cert.NormTKernelIdeal.main_arg2) = m ((c.tc : Thread Cert.NormTKernelIdeal.nD Cert.NormTKernelIdeal.τ).loc Cert.NormTKernelIdeal.main_arg2)
      ∧ r.2.mem ((c.tc : Thread Cert.NormTKernelIdeal.nD Cert.NormTKernelIdeal.τ).loc Cert.NormTKernelIdeal.main_arg3) = m ((c.tc : Thread Cert.NormTKernelIdeal.nD Cert.NormTKernelIdeal.τ).loc Cert.NormTKernelIdeal.main_arg3)
      ∧ r.2.mem ((c.tc : Thread Cert.NormTKernelIdeal.nD Cert.NormTKernelIdeal.τ).loc Cert.NormTKernelIdeal.main_arg4) = m ((c.tc : Thread Cert.NormTKernelIdeal.nD Cert.NormTKernelIdeal.τ).loc Cert.NormTKernelIdeal.main_arg4)
      ∧ r.2.mem ((c.tc : Thread Cert.NormTKernelIdeal.nD Cert.NormTKernelIdeal.τ).loc Cert.NormTKernelIdeal.main_arg5) = m ((c.tc : Thread Cert.NormTKernelIdeal.nD Cert.NormTKernelIdeal.τ).loc Cert.NormTKernelIdeal.main_arg5)
      ∧ r.2.mem ((c.tc : Thread Cert.NormTKernelIdeal.nD Cert.NormTKernelIdeal.τ).loc Cert.NormTKernelIdeal.main_arg6) = m ((c.tc : Thread Cert.NormTKernelIdeal.nD Cert.NormTKernelIdeal.τ).loc Cert.NormTKernelIdeal.main_arg6))
      ∧ r.2.sem = fun _ => 0)

def quiescent_NormTReferenceIdeal [hNormTReferenceIdeal : Cert.NormTReferenceIdeal.Facts] : Prop :=
  ∀ (m : (ℓ : Loc Cert.NormTReferenceIdeal.nD Cert.NormTReferenceIdeal.τ Cert.NormTReferenceIdeal.sig) → Buf (Elt Ideal) ℓ) (g : Dev Cert.NormTReferenceIdeal.nD → PrngReg), Pre_NormTReferenceIdeal m →
    θ_run (Cert.NormTReferenceIdeal.defs (F := Ideal)) (onTc (τ := Cert.NormTReferenceIdeal.τ) (Cert.NormTReferenceIdeal.main (F := Ideal))) ⟨m, fun _ => 0, g⟩ (fun r => (∀ c : Dev Cert.NormTReferenceIdeal.nD,
      r.2.mem ((c.tc : Thread Cert.NormTReferenceIdeal.nD Cert.NormTReferenceIdeal.τ).loc Cert.NormTReferenceIdeal.main_arg0) = m ((c.tc : Thread Cert.NormTReferenceIdeal.nD Cert.NormTReferenceIdeal.τ).loc Cert.NormTReferenceIdeal.main_arg0)
      ∧ r.2.mem ((c.tc : Thread Cert.NormTReferenceIdeal.nD Cert.NormTReferenceIdeal.τ).loc Cert.NormTReferenceIdeal.main_arg1) = m ((c.tc : Thread Cert.NormTReferenceIdeal.nD Cert.NormTReferenceIdeal.τ).loc Cert.NormTReferenceIdeal.main_arg1)
      ∧ r.2.mem ((c.tc : Thread Cert.NormTReferenceIdeal.nD Cert.NormTReferenceIdeal.τ).loc Cert.NormTReferenceIdeal.main_arg2) = m ((c.tc : Thread Cert.NormTReferenceIdeal.nD Cert.NormTReferenceIdeal.τ).loc Cert.NormTReferenceIdeal.main_arg2)
      ∧ r.2.mem ((c.tc : Thread Cert.NormTReferenceIdeal.nD Cert.NormTReferenceIdeal.τ).loc Cert.NormTReferenceIdeal.main_arg3) = m ((c.tc : Thread Cert.NormTReferenceIdeal.nD Cert.NormTReferenceIdeal.τ).loc Cert.NormTReferenceIdeal.main_arg3)
      ∧ r.2.mem ((c.tc : Thread Cert.NormTReferenceIdeal.nD Cert.NormTReferenceIdeal.τ).loc Cert.NormTReferenceIdeal.main_arg4) = m ((c.tc : Thread Cert.NormTReferenceIdeal.nD Cert.NormTReferenceIdeal.τ).loc Cert.NormTReferenceIdeal.main_arg4)
      ∧ r.2.mem ((c.tc : Thread Cert.NormTReferenceIdeal.nD Cert.NormTReferenceIdeal.τ).loc Cert.NormTReferenceIdeal.main_arg5) = m ((c.tc : Thread Cert.NormTReferenceIdeal.nD Cert.NormTReferenceIdeal.τ).loc Cert.NormTReferenceIdeal.main_arg5)
      ∧ r.2.mem ((c.tc : Thread Cert.NormTReferenceIdeal.nD Cert.NormTReferenceIdeal.τ).loc Cert.NormTReferenceIdeal.main_arg6) = m ((c.tc : Thread Cert.NormTReferenceIdeal.nD Cert.NormTReferenceIdeal.τ).loc Cert.NormTReferenceIdeal.main_arg6))
      ∧ r.2.sem = fun _ => 0)

def quiescent_NormTReferenceIdeal_pre_finite_normt [hNormTReferenceIdeal : Cert.NormTReferenceIdeal.Facts] [hPre_finite_normt : Cert.Pre_finite_normt.Facts] : Prop :=
  ∀ (m : (ℓ : Loc Cert.NormTReferenceIdeal.nD Cert.NormTReferenceIdeal.τ Cert.NormTReferenceIdeal.sig) → Buf (Elt Ideal) ℓ) (g : Dev Cert.NormTReferenceIdeal.nD → PrngReg), Pre_NormTReferenceIdeal_finite_normt m →
    θ_run (Cert.NormTReferenceIdeal.defs (F := Ideal)) (onTc (τ := Cert.NormTReferenceIdeal.τ) (Cert.NormTReferenceIdeal.main (F := Ideal))) ⟨m, fun _ => 0, g⟩ (fun r => (∀ c : Dev Cert.NormTReferenceIdeal.nD,
      r.2.mem ((c.tc : Thread Cert.NormTReferenceIdeal.nD Cert.NormTReferenceIdeal.τ).loc Cert.NormTReferenceIdeal.main_arg0) = m ((c.tc : Thread Cert.NormTReferenceIdeal.nD Cert.NormTReferenceIdeal.τ).loc Cert.NormTReferenceIdeal.main_arg0)
      ∧ r.2.mem ((c.tc : Thread Cert.NormTReferenceIdeal.nD Cert.NormTReferenceIdeal.τ).loc Cert.NormTReferenceIdeal.main_arg1) = m ((c.tc : Thread Cert.NormTReferenceIdeal.nD Cert.NormTReferenceIdeal.τ).loc Cert.NormTReferenceIdeal.main_arg1)
      ∧ r.2.mem ((c.tc : Thread Cert.NormTReferenceIdeal.nD Cert.NormTReferenceIdeal.τ).loc Cert.NormTReferenceIdeal.main_arg2) = m ((c.tc : Thread Cert.NormTReferenceIdeal.nD Cert.NormTReferenceIdeal.τ).loc Cert.NormTReferenceIdeal.main_arg2)
      ∧ r.2.mem ((c.tc : Thread Cert.NormTReferenceIdeal.nD Cert.NormTReferenceIdeal.τ).loc Cert.NormTReferenceIdeal.main_arg3) = m ((c.tc : Thread Cert.NormTReferenceIdeal.nD Cert.NormTReferenceIdeal.τ).loc Cert.NormTReferenceIdeal.main_arg3)
      ∧ r.2.mem ((c.tc : Thread Cert.NormTReferenceIdeal.nD Cert.NormTReferenceIdeal.τ).loc Cert.NormTReferenceIdeal.main_arg4) = m ((c.tc : Thread Cert.NormTReferenceIdeal.nD Cert.NormTReferenceIdeal.τ).loc Cert.NormTReferenceIdeal.main_arg4)
      ∧ r.2.mem ((c.tc : Thread Cert.NormTReferenceIdeal.nD Cert.NormTReferenceIdeal.τ).loc Cert.NormTReferenceIdeal.main_arg5) = m ((c.tc : Thread Cert.NormTReferenceIdeal.nD Cert.NormTReferenceIdeal.τ).loc Cert.NormTReferenceIdeal.main_arg5)
      ∧ r.2.mem ((c.tc : Thread Cert.NormTReferenceIdeal.nD Cert.NormTReferenceIdeal.τ).loc Cert.NormTReferenceIdeal.main_arg6) = m ((c.tc : Thread Cert.NormTReferenceIdeal.nD Cert.NormTReferenceIdeal.τ).loc Cert.NormTReferenceIdeal.main_arg6))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ r.2.sem = fun _ => 0)

def quiescent_FirstKernelIdeal_pre_finite_first [hFirstKernelIdeal : Cert.FirstKernelIdeal.Facts] [hPre_finite_first : Cert.Pre_finite_first.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal_finite_first m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4))
      ∧ r.2.sem = fun _ => 0)

def quiescent_FirstReferenceIdeal_pre_finite_first [hFirstReferenceIdeal : Cert.FirstReferenceIdeal.Facts] [hPre_finite_first : Cert.Pre_finite_first.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_finite_first m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4))
      ∧ r.2.sem = fun _ => 0)

def quiescent_XattnKernel [hXattnKernel : Cert.XattnKernel.Facts] : Prop :=
  ∀ (m : (ℓ : Loc Cert.XattnKernel.nD Cert.XattnKernel.τ Cert.XattnKernel.sig) → Buf (Elt Bits) ℓ) (g : Dev Cert.XattnKernel.nD → PrngReg), Pre_XattnKernel m →
    θ_run (Cert.XattnKernel.defs (F := Bits)) (onTc (τ := Cert.XattnKernel.τ) (Cert.XattnKernel.main (F := Bits))) ⟨m, fun _ => 0, g⟩ (fun r => (∀ c : Dev Cert.XattnKernel.nD,
      r.2.mem ((c.tc : Thread Cert.XattnKernel.nD Cert.XattnKernel.τ).loc Cert.XattnKernel.main_arg0) = m ((c.tc : Thread Cert.XattnKernel.nD Cert.XattnKernel.τ).loc Cert.XattnKernel.main_arg0)
      ∧ r.2.mem ((c.tc : Thread Cert.XattnKernel.nD Cert.XattnKernel.τ).loc Cert.XattnKernel.main_arg1) = m ((c.tc : Thread Cert.XattnKernel.nD Cert.XattnKernel.τ).loc Cert.XattnKernel.main_arg1)
      ∧ r.2.mem ((c.tc : Thread Cert.XattnKernel.nD Cert.XattnKernel.τ).loc Cert.XattnKernel.main_arg2) = m ((c.tc : Thread Cert.XattnKernel.nD Cert.XattnKernel.τ).loc Cert.XattnKernel.main_arg2))
      ∧ r.2.sem = fun _ => 0)

def quiescent_XattnKernelIdeal [hXattnKernelIdeal : Cert.XattnKernelIdeal.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2))
      ∧ r.2.sem = fun _ => 0)

def quiescent_XattnKernelIdeal_pre_finite_xattn [hXattnKernelIdeal : Cert.XattnKernelIdeal.Facts] [hPre_finite_xattn : Cert.Pre_finite_xattn.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal_finite_xattn m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2))
      ∧ r.2.sem = fun _ => 0)

def quiescent_XattnReferenceIdeal_pre_finite_xattn [hXattnReferenceIdeal : Cert.XattnReferenceIdeal.Facts] [hPre_finite_xattn : Cert.Pre_finite_xattn.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_finite_xattn m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2))
      ∧ r.2.sem = fun _ => 0)

def quiescent_XattnFKernel [hXattnFKernel : Cert.XattnFKernel.Facts] : Prop :=
  ∀ (m : (ℓ : Loc Cert.XattnFKernel.nD Cert.XattnFKernel.τ Cert.XattnFKernel.sig) → Buf (Elt Bits) ℓ) (g : Dev Cert.XattnFKernel.nD → PrngReg), Pre_XattnFKernel m →
    θ_run (Cert.XattnFKernel.defs (F := Bits)) (onTc (τ := Cert.XattnFKernel.τ) (Cert.XattnFKernel.main (F := Bits))) ⟨m, fun _ => 0, g⟩ (fun r => (∀ c : Dev Cert.XattnFKernel.nD,
      r.2.mem ((c.tc : Thread Cert.XattnFKernel.nD Cert.XattnFKernel.τ).loc Cert.XattnFKernel.main_arg0) = m ((c.tc : Thread Cert.XattnFKernel.nD Cert.XattnFKernel.τ).loc Cert.XattnFKernel.main_arg0)
      ∧ r.2.mem ((c.tc : Thread Cert.XattnFKernel.nD Cert.XattnFKernel.τ).loc Cert.XattnFKernel.main_arg1) = m ((c.tc : Thread Cert.XattnFKernel.nD Cert.XattnFKernel.τ).loc Cert.XattnFKernel.main_arg1))
      ∧ r.2.sem = fun _ => 0)

def quiescent_XattnFKernelIdeal [hXattnFKernelIdeal : Cert.XattnFKernelIdeal.Facts] : Prop :=
  ∀ (m : (ℓ : Loc Cert.XattnFKernelIdeal.nD Cert.XattnFKernelIdeal.τ Cert.XattnFKernelIdeal.sig) → Buf (Elt Ideal) ℓ) (g : Dev Cert.XattnFKernelIdeal.nD → PrngReg), Pre_XattnFKernelIdeal m →
    θ_run (Cert.XattnFKernelIdeal.defs (F := Ideal)) (onTc (τ := Cert.XattnFKernelIdeal.τ) (Cert.XattnFKernelIdeal.main (F := Ideal))) ⟨m, fun _ => 0, g⟩ (fun r => (∀ c : Dev Cert.XattnFKernelIdeal.nD,
      r.2.mem ((c.tc : Thread Cert.XattnFKernelIdeal.nD Cert.XattnFKernelIdeal.τ).loc Cert.XattnFKernelIdeal.main_arg0) = m ((c.tc : Thread Cert.XattnFKernelIdeal.nD Cert.XattnFKernelIdeal.τ).loc Cert.XattnFKernelIdeal.main_arg0)
      ∧ r.2.mem ((c.tc : Thread Cert.XattnFKernelIdeal.nD Cert.XattnFKernelIdeal.τ).loc Cert.XattnFKernelIdeal.main_arg1) = m ((c.tc : Thread Cert.XattnFKernelIdeal.nD Cert.XattnFKernelIdeal.τ).loc Cert.XattnFKernelIdeal.main_arg1))
      ∧ r.2.sem = fun _ => 0)

def quiescent_XattnFKernelIdeal_pre_finite_xattnf [hXattnFKernelIdeal : Cert.XattnFKernelIdeal.Facts] [hPre_finite_xattnf : Cert.Pre_finite_xattnf.Facts] : Prop :=
  ∀ (m : (ℓ : Loc Cert.XattnFKernelIdeal.nD Cert.XattnFKernelIdeal.τ Cert.XattnFKernelIdeal.sig) → Buf (Elt Ideal) ℓ) (g : Dev Cert.XattnFKernelIdeal.nD → PrngReg), Pre_XattnFKernelIdeal_finite_xattnf m →
    θ_run (Cert.XattnFKernelIdeal.defs (F := Ideal)) (onTc (τ := Cert.XattnFKernelIdeal.τ) (Cert.XattnFKernelIdeal.main (F := Ideal))) ⟨m, fun _ => 0, g⟩ (fun r => (∀ c : Dev Cert.XattnFKernelIdeal.nD,
      r.2.mem ((c.tc : Thread Cert.XattnFKernelIdeal.nD Cert.XattnFKernelIdeal.τ).loc Cert.XattnFKernelIdeal.main_arg0) = m ((c.tc : Thread Cert.XattnFKernelIdeal.nD Cert.XattnFKernelIdeal.τ).loc Cert.XattnFKernelIdeal.main_arg0)
      ∧ r.2.mem ((c.tc : Thread Cert.XattnFKernelIdeal.nD Cert.XattnFKernelIdeal.τ).loc Cert.XattnFKernelIdeal.main_arg1) = m ((c.tc : Thread Cert.XattnFKernelIdeal.nD Cert.XattnFKernelIdeal.τ).loc Cert.XattnFKernelIdeal.main_arg1))
      ∧ r.2.sem = fun _ => 0)

def quiescent_XattnFReferenceIdeal [hXattnFReferenceIdeal : Cert.XattnFReferenceIdeal.Facts] : Prop :=
  ∀ (m : (ℓ : Loc Cert.XattnFReferenceIdeal.nD Cert.XattnFReferenceIdeal.τ Cert.XattnFReferenceIdeal.sig) → Buf (Elt Ideal) ℓ) (g : Dev Cert.XattnFReferenceIdeal.nD → PrngReg), Pre_XattnFReferenceIdeal m →
    θ_run (Cert.XattnFReferenceIdeal.defs (F := Ideal)) (onTc (τ := Cert.XattnFReferenceIdeal.τ) (Cert.XattnFReferenceIdeal.main (F := Ideal))) ⟨m, fun _ => 0, g⟩ (fun r => (∀ c : Dev Cert.XattnFReferenceIdeal.nD,
      r.2.mem ((c.tc : Thread Cert.XattnFReferenceIdeal.nD Cert.XattnFReferenceIdeal.τ).loc Cert.XattnFReferenceIdeal.main_arg0) = m ((c.tc : Thread Cert.XattnFReferenceIdeal.nD Cert.XattnFReferenceIdeal.τ).loc Cert.XattnFReferenceIdeal.main_arg0)
      ∧ r.2.mem ((c.tc : Thread Cert.XattnFReferenceIdeal.nD Cert.XattnFReferenceIdeal.τ).loc Cert.XattnFReferenceIdeal.main_arg1) = m ((c.tc : Thread Cert.XattnFReferenceIdeal.nD Cert.XattnFReferenceIdeal.τ).loc Cert.XattnFReferenceIdeal.main_arg1))
      ∧ r.2.sem = fun _ => 0)

def quiescent_XattnFReferenceIdeal_pre_finite_xattnf [hXattnFReferenceIdeal : Cert.XattnFReferenceIdeal.Facts] [hPre_finite_xattnf : Cert.Pre_finite_xattnf.Facts] : Prop :=
  ∀ (m : (ℓ : Loc Cert.XattnFReferenceIdeal.nD Cert.XattnFReferenceIdeal.τ Cert.XattnFReferenceIdeal.sig) → Buf (Elt Ideal) ℓ) (g : Dev Cert.XattnFReferenceIdeal.nD → PrngReg), Pre_XattnFReferenceIdeal_finite_xattnf m →
    θ_run (Cert.XattnFReferenceIdeal.defs (F := Ideal)) (onTc (τ := Cert.XattnFReferenceIdeal.τ) (Cert.XattnFReferenceIdeal.main (F := Ideal))) ⟨m, fun _ => 0, g⟩ (fun r => (∀ c : Dev Cert.XattnFReferenceIdeal.nD,
      r.2.mem ((c.tc : Thread Cert.XattnFReferenceIdeal.nD Cert.XattnFReferenceIdeal.τ).loc Cert.XattnFReferenceIdeal.main_arg0) = m ((c.tc : Thread Cert.XattnFReferenceIdeal.nD Cert.XattnFReferenceIdeal.τ).loc Cert.XattnFReferenceIdeal.main_arg0)
      ∧ r.2.mem ((c.tc : Thread Cert.XattnFReferenceIdeal.nD Cert.XattnFReferenceIdeal.τ).loc Cert.XattnFReferenceIdeal.main_arg1) = m ((c.tc : Thread Cert.XattnFReferenceIdeal.nD Cert.XattnFReferenceIdeal.τ).loc Cert.XattnFReferenceIdeal.main_arg1))
      ∧ r.2.sem = fun _ => 0)

def quiescent_MixOKernel [hMixOKernel : Cert.MixOKernel.Facts] : Prop :=
  ∀ (m : (ℓ : Loc Cert.MixOKernel.nD Cert.MixOKernel.τ Cert.MixOKernel.sig) → Buf (Elt Bits) ℓ) (g : Dev Cert.MixOKernel.nD → PrngReg), Pre_MixOKernel m →
    θ_run (Cert.MixOKernel.defs (F := Bits)) (onTc (τ := Cert.MixOKernel.τ) (Cert.MixOKernel.main (F := Bits))) ⟨m, fun _ => 0, g⟩ (fun r => (∀ c : Dev Cert.MixOKernel.nD,
      r.2.mem ((c.tc : Thread Cert.MixOKernel.nD Cert.MixOKernel.τ).loc Cert.MixOKernel.main_arg0) = m ((c.tc : Thread Cert.MixOKernel.nD Cert.MixOKernel.τ).loc Cert.MixOKernel.main_arg0)
      ∧ r.2.mem ((c.tc : Thread Cert.MixOKernel.nD Cert.MixOKernel.τ).loc Cert.MixOKernel.main_arg1) = m ((c.tc : Thread Cert.MixOKernel.nD Cert.MixOKernel.τ).loc Cert.MixOKernel.main_arg1)
      ∧ r.2.mem ((c.tc : Thread Cert.MixOKernel.nD Cert.MixOKernel.τ).loc Cert.MixOKernel.main_arg2) = m ((c.tc : Thread Cert.MixOKernel.nD Cert.MixOKernel.τ).loc Cert.MixOKernel.main_arg2)
      ∧ r.2.mem ((c.tc : Thread Cert.MixOKernel.nD Cert.MixOKernel.τ).loc Cert.MixOKernel.main_arg3) = m ((c.tc : Thread Cert.MixOKernel.nD Cert.MixOKernel.τ).loc Cert.MixOKernel.main_arg3)
      ∧ r.2.mem ((c.tc : Thread Cert.MixOKernel.nD Cert.MixOKernel.τ).loc Cert.MixOKernel.main_arg4) = m ((c.tc : Thread Cert.MixOKernel.nD Cert.MixOKernel.τ).loc Cert.MixOKernel.main_arg4))
      ∧ r.2.sem = fun _ => 0)

def quiescent_MixOKernelIdeal [hMixOKernelIdeal : Cert.MixOKernelIdeal.Facts] : Prop :=
  ∀ (m : (ℓ : Loc Cert.MixOKernelIdeal.nD Cert.MixOKernelIdeal.τ Cert.MixOKernelIdeal.sig) → Buf (Elt Ideal) ℓ) (g : Dev Cert.MixOKernelIdeal.nD → PrngReg), Pre_MixOKernelIdeal m →
    θ_run (Cert.MixOKernelIdeal.defs (F := Ideal)) (onTc (τ := Cert.MixOKernelIdeal.τ) (Cert.MixOKernelIdeal.main (F := Ideal))) ⟨m, fun _ => 0, g⟩ (fun r => (∀ c : Dev Cert.MixOKernelIdeal.nD,
      r.2.mem ((c.tc : Thread Cert.MixOKernelIdeal.nD Cert.MixOKernelIdeal.τ).loc Cert.MixOKernelIdeal.main_arg0) = m ((c.tc : Thread Cert.MixOKernelIdeal.nD Cert.MixOKernelIdeal.τ).loc Cert.MixOKernelIdeal.main_arg0)
      ∧ r.2.mem ((c.tc : Thread Cert.MixOKernelIdeal.nD Cert.MixOKernelIdeal.τ).loc Cert.MixOKernelIdeal.main_arg1) = m ((c.tc : Thread Cert.MixOKernelIdeal.nD Cert.MixOKernelIdeal.τ).loc Cert.MixOKernelIdeal.main_arg1)
      ∧ r.2.mem ((c.tc : Thread Cert.MixOKernelIdeal.nD Cert.MixOKernelIdeal.τ).loc Cert.MixOKernelIdeal.main_arg2) = m ((c.tc : Thread Cert.MixOKernelIdeal.nD Cert.MixOKernelIdeal.τ).loc Cert.MixOKernelIdeal.main_arg2)
      ∧ r.2.mem ((c.tc : Thread Cert.MixOKernelIdeal.nD Cert.MixOKernelIdeal.τ).loc Cert.MixOKernelIdeal.main_arg3) = m ((c.tc : Thread Cert.MixOKernelIdeal.nD Cert.MixOKernelIdeal.τ).loc Cert.MixOKernelIdeal.main_arg3)
      ∧ r.2.mem ((c.tc : Thread Cert.MixOKernelIdeal.nD Cert.MixOKernelIdeal.τ).loc Cert.MixOKernelIdeal.main_arg4) = m ((c.tc : Thread Cert.MixOKernelIdeal.nD Cert.MixOKernelIdeal.τ).loc Cert.MixOKernelIdeal.main_arg4))
      ∧ r.2.sem = fun _ => 0)

def quiescent_MixOReferenceIdeal [hMixOReferenceIdeal : Cert.MixOReferenceIdeal.Facts] : Prop :=
  ∀ (m : (ℓ : Loc Cert.MixOReferenceIdeal.nD Cert.MixOReferenceIdeal.τ Cert.MixOReferenceIdeal.sig) → Buf (Elt Ideal) ℓ) (g : Dev Cert.MixOReferenceIdeal.nD → PrngReg), Pre_MixOReferenceIdeal m →
    θ_run (Cert.MixOReferenceIdeal.defs (F := Ideal)) (onTc (τ := Cert.MixOReferenceIdeal.τ) (Cert.MixOReferenceIdeal.main (F := Ideal))) ⟨m, fun _ => 0, g⟩ (fun r => (∀ c : Dev Cert.MixOReferenceIdeal.nD,
      r.2.mem ((c.tc : Thread Cert.MixOReferenceIdeal.nD Cert.MixOReferenceIdeal.τ).loc Cert.MixOReferenceIdeal.main_arg0) = m ((c.tc : Thread Cert.MixOReferenceIdeal.nD Cert.MixOReferenceIdeal.τ).loc Cert.MixOReferenceIdeal.main_arg0)
      ∧ r.2.mem ((c.tc : Thread Cert.MixOReferenceIdeal.nD Cert.MixOReferenceIdeal.τ).loc Cert.MixOReferenceIdeal.main_arg1) = m ((c.tc : Thread Cert.MixOReferenceIdeal.nD Cert.MixOReferenceIdeal.τ).loc Cert.MixOReferenceIdeal.main_arg1)
      ∧ r.2.mem ((c.tc : Thread Cert.MixOReferenceIdeal.nD Cert.MixOReferenceIdeal.τ).loc Cert.MixOReferenceIdeal.main_arg2) = m ((c.tc : Thread Cert.MixOReferenceIdeal.nD Cert.MixOReferenceIdeal.τ).loc Cert.MixOReferenceIdeal.main_arg2)
      ∧ r.2.mem ((c.tc : Thread Cert.MixOReferenceIdeal.nD Cert.MixOReferenceIdeal.τ).loc Cert.MixOReferenceIdeal.main_arg3) = m ((c.tc : Thread Cert.MixOReferenceIdeal.nD Cert.MixOReferenceIdeal.τ).loc Cert.MixOReferenceIdeal.main_arg3)
      ∧ r.2.mem ((c.tc : Thread Cert.MixOReferenceIdeal.nD Cert.MixOReferenceIdeal.τ).loc Cert.MixOReferenceIdeal.main_arg4) = m ((c.tc : Thread Cert.MixOReferenceIdeal.nD Cert.MixOReferenceIdeal.τ).loc Cert.MixOReferenceIdeal.main_arg4))
      ∧ r.2.sem = fun _ => 0)

def quiescent_FfnOKernel [hFfnOKernel : Cert.FfnOKernel.Facts] : Prop :=
  ∀ (m : (ℓ : Loc Cert.FfnOKernel.nD Cert.FfnOKernel.τ Cert.FfnOKernel.sig) → Buf (Elt Bits) ℓ) (g : Dev Cert.FfnOKernel.nD → PrngReg), Pre_FfnOKernel m →
    θ_run (Cert.FfnOKernel.defs (F := Bits)) (onTc (τ := Cert.FfnOKernel.τ) (Cert.FfnOKernel.main (F := Bits))) ⟨m, fun _ => 0, g⟩ (fun r => (∀ c : Dev Cert.FfnOKernel.nD,
      r.2.mem ((c.tc : Thread Cert.FfnOKernel.nD Cert.FfnOKernel.τ).loc Cert.FfnOKernel.main_arg0) = m ((c.tc : Thread Cert.FfnOKernel.nD Cert.FfnOKernel.τ).loc Cert.FfnOKernel.main_arg0)
      ∧ r.2.mem ((c.tc : Thread Cert.FfnOKernel.nD Cert.FfnOKernel.τ).loc Cert.FfnOKernel.main_arg1) = m ((c.tc : Thread Cert.FfnOKernel.nD Cert.FfnOKernel.τ).loc Cert.FfnOKernel.main_arg1)
      ∧ r.2.mem ((c.tc : Thread Cert.FfnOKernel.nD Cert.FfnOKernel.τ).loc Cert.FfnOKernel.main_arg2) = m ((c.tc : Thread Cert.FfnOKernel.nD Cert.FfnOKernel.τ).loc Cert.FfnOKernel.main_arg2)
      ∧ r.2.mem ((c.tc : Thread Cert.FfnOKernel.nD Cert.FfnOKernel.τ).loc Cert.FfnOKernel.main_arg3) = m ((c.tc : Thread Cert.FfnOKernel.nD Cert.FfnOKernel.τ).loc Cert.FfnOKernel.main_arg3)
      ∧ r.2.mem ((c.tc : Thread Cert.FfnOKernel.nD Cert.FfnOKernel.τ).loc Cert.FfnOKernel.main_arg4) = m ((c.tc : Thread Cert.FfnOKernel.nD Cert.FfnOKernel.τ).loc Cert.FfnOKernel.main_arg4))
      ∧ r.2.sem = fun _ => 0)

def quiescent_FfnOKernelIdeal [hFfnOKernelIdeal : Cert.FfnOKernelIdeal.Facts] : Prop :=
  ∀ (m : (ℓ : Loc Cert.FfnOKernelIdeal.nD Cert.FfnOKernelIdeal.τ Cert.FfnOKernelIdeal.sig) → Buf (Elt Ideal) ℓ) (g : Dev Cert.FfnOKernelIdeal.nD → PrngReg), Pre_FfnOKernelIdeal m →
    θ_run (Cert.FfnOKernelIdeal.defs (F := Ideal)) (onTc (τ := Cert.FfnOKernelIdeal.τ) (Cert.FfnOKernelIdeal.main (F := Ideal))) ⟨m, fun _ => 0, g⟩ (fun r => (∀ c : Dev Cert.FfnOKernelIdeal.nD,
      r.2.mem ((c.tc : Thread Cert.FfnOKernelIdeal.nD Cert.FfnOKernelIdeal.τ).loc Cert.FfnOKernelIdeal.main_arg0) = m ((c.tc : Thread Cert.FfnOKernelIdeal.nD Cert.FfnOKernelIdeal.τ).loc Cert.FfnOKernelIdeal.main_arg0)
      ∧ r.2.mem ((c.tc : Thread Cert.FfnOKernelIdeal.nD Cert.FfnOKernelIdeal.τ).loc Cert.FfnOKernelIdeal.main_arg1) = m ((c.tc : Thread Cert.FfnOKernelIdeal.nD Cert.FfnOKernelIdeal.τ).loc Cert.FfnOKernelIdeal.main_arg1)
      ∧ r.2.mem ((c.tc : Thread Cert.FfnOKernelIdeal.nD Cert.FfnOKernelIdeal.τ).loc Cert.FfnOKernelIdeal.main_arg2) = m ((c.tc : Thread Cert.FfnOKernelIdeal.nD Cert.FfnOKernelIdeal.τ).loc Cert.FfnOKernelIdeal.main_arg2)
      ∧ r.2.mem ((c.tc : Thread Cert.FfnOKernelIdeal.nD Cert.FfnOKernelIdeal.τ).loc Cert.FfnOKernelIdeal.main_arg3) = m ((c.tc : Thread Cert.FfnOKernelIdeal.nD Cert.FfnOKernelIdeal.τ).loc Cert.FfnOKernelIdeal.main_arg3)
      ∧ r.2.mem ((c.tc : Thread Cert.FfnOKernelIdeal.nD Cert.FfnOKernelIdeal.τ).loc Cert.FfnOKernelIdeal.main_arg4) = m ((c.tc : Thread Cert.FfnOKernelIdeal.nD Cert.FfnOKernelIdeal.τ).loc Cert.FfnOKernelIdeal.main_arg4))
      ∧ r.2.sem = fun _ => 0)

def quiescent_FfnOReferenceIdeal [hFfnOReferenceIdeal : Cert.FfnOReferenceIdeal.Facts] : Prop :=
  ∀ (m : (ℓ : Loc Cert.FfnOReferenceIdeal.nD Cert.FfnOReferenceIdeal.τ Cert.FfnOReferenceIdeal.sig) → Buf (Elt Ideal) ℓ) (g : Dev Cert.FfnOReferenceIdeal.nD → PrngReg), Pre_FfnOReferenceIdeal m →
    θ_run (Cert.FfnOReferenceIdeal.defs (F := Ideal)) (onTc (τ := Cert.FfnOReferenceIdeal.τ) (Cert.FfnOReferenceIdeal.main (F := Ideal))) ⟨m, fun _ => 0, g⟩ (fun r => (∀ c : Dev Cert.FfnOReferenceIdeal.nD,
      r.2.mem ((c.tc : Thread Cert.FfnOReferenceIdeal.nD Cert.FfnOReferenceIdeal.τ).loc Cert.FfnOReferenceIdeal.main_arg0) = m ((c.tc : Thread Cert.FfnOReferenceIdeal.nD Cert.FfnOReferenceIdeal.τ).loc Cert.FfnOReferenceIdeal.main_arg0)
      ∧ r.2.mem ((c.tc : Thread Cert.FfnOReferenceIdeal.nD Cert.FfnOReferenceIdeal.τ).loc Cert.FfnOReferenceIdeal.main_arg1) = m ((c.tc : Thread Cert.FfnOReferenceIdeal.nD Cert.FfnOReferenceIdeal.τ).loc Cert.FfnOReferenceIdeal.main_arg1)
      ∧ r.2.mem ((c.tc : Thread Cert.FfnOReferenceIdeal.nD Cert.FfnOReferenceIdeal.τ).loc Cert.FfnOReferenceIdeal.main_arg2) = m ((c.tc : Thread Cert.FfnOReferenceIdeal.nD Cert.FfnOReferenceIdeal.τ).loc Cert.FfnOReferenceIdeal.main_arg2)
      ∧ r.2.mem ((c.tc : Thread Cert.FfnOReferenceIdeal.nD Cert.FfnOReferenceIdeal.τ).loc Cert.FfnOReferenceIdeal.main_arg3) = m ((c.tc : Thread Cert.FfnOReferenceIdeal.nD Cert.FfnOReferenceIdeal.τ).loc Cert.FfnOReferenceIdeal.main_arg3)
      ∧ r.2.mem ((c.tc : Thread Cert.FfnOReferenceIdeal.nD Cert.FfnOReferenceIdeal.τ).loc Cert.FfnOReferenceIdeal.main_arg4) = m ((c.tc : Thread Cert.FfnOReferenceIdeal.nD Cert.FfnOReferenceIdeal.τ).loc Cert.FfnOReferenceIdeal.main_arg4))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def quiescent_MmKernel [hMmKernel : Cert.MmKernel.Facts] : Prop :=
  ∀ (m : (ℓ : Loc Cert.MmKernel.nD Cert.MmKernel.τ Cert.MmKernel.sig) → Buf (Elt Bits) ℓ) (g : Dev Cert.MmKernel.nD → PrngReg), Pre_MmKernel m →
    θ_run (Cert.MmKernel.defs (F := Bits)) (onTc (τ := Cert.MmKernel.τ) (Cert.MmKernel.main (F := Bits))) ⟨m, fun _ => 0, g⟩ (fun r => (∀ c : Dev Cert.MmKernel.nD,
      r.2.mem ((c.tc : Thread Cert.MmKernel.nD Cert.MmKernel.τ).loc Cert.MmKernel.main_arg0) = m ((c.tc : Thread Cert.MmKernel.nD Cert.MmKernel.τ).loc Cert.MmKernel.main_arg0)
      ∧ r.2.mem ((c.tc : Thread Cert.MmKernel.nD Cert.MmKernel.τ).loc Cert.MmKernel.main_arg1) = m ((c.tc : Thread Cert.MmKernel.nD Cert.MmKernel.τ).loc Cert.MmKernel.main_arg1))
      ∧ r.2.sem = fun _ => 0)

def quiescent_MmKernelIdeal [hMmKernelIdeal : Cert.MmKernelIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg), Pre_MmKernelIdeal m →
    θ_run (Cert.MmKernelIdeal.defs (F := Ideal)) (onTc (τ := Cert.MmKernelIdeal.τ) (Cert.MmKernelIdeal.main (F := Ideal))) ⟨m, fun _ => 0, g⟩ (fun r => (∀ c : Dev Cert.MmKernelIdeal.nD,
      r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
      ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1))
      ∧ r.2.sem = fun _ => 0)

def quiescent_MmReferenceIdeal [hMmReferenceIdeal : Cert.MmReferenceIdeal.Facts] : Prop :=
  ∀ (m : (ℓ : Loc Cert.MmReferenceIdeal.nD Cert.MmReferenceIdeal.τ Cert.MmReferenceIdeal.sig) → Buf (Elt Ideal) ℓ) (g : Dev Cert.MmReferenceIdeal.nD → PrngReg), Pre_MmReferenceIdeal m →
    θ_run (Cert.MmReferenceIdeal.defs (F := Ideal)) (onTc (τ := Cert.MmReferenceIdeal.τ) (Cert.MmReferenceIdeal.main (F := Ideal))) ⟨m, fun _ => 0, g⟩ (fun r => (∀ c : Dev Cert.MmReferenceIdeal.nD,
      r.2.mem ((c.tc : Thread Cert.MmReferenceIdeal.nD Cert.MmReferenceIdeal.τ).loc Cert.MmReferenceIdeal.main_arg0) = m ((c.tc : Thread Cert.MmReferenceIdeal.nD Cert.MmReferenceIdeal.τ).loc Cert.MmReferenceIdeal.main_arg0)
      ∧ r.2.mem ((c.tc : Thread Cert.MmReferenceIdeal.nD Cert.MmReferenceIdeal.τ).loc Cert.MmReferenceIdeal.main_arg1) = m ((c.tc : Thread Cert.MmReferenceIdeal.nD Cert.MmReferenceIdeal.τ).loc Cert.MmReferenceIdeal.main_arg1))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3))
      ∧ r.2.sem = fun _ => 0)

def quiescent_FinalSumKernel [hFinalSumKernel : Cert.FinalSumKernel.Facts] : Prop :=
  ∀ (m : (ℓ : Loc Cert.FinalSumKernel.nD Cert.FinalSumKernel.τ Cert.FinalSumKernel.sig) → Buf (Elt Bits) ℓ) (g : Dev Cert.FinalSumKernel.nD → PrngReg), Pre_FinalSumKernel m →
    θ_run (Cert.FinalSumKernel.defs (F := Bits)) (onTc (τ := Cert.FinalSumKernel.τ) (Cert.FinalSumKernel.main (F := Bits))) ⟨m, fun _ => 0, g⟩ (fun r => (∀ c : Dev Cert.FinalSumKernel.nD,
      r.2.mem ((c.tc : Thread Cert.FinalSumKernel.nD Cert.FinalSumKernel.τ).loc Cert.FinalSumKernel.main_arg0) = m ((c.tc : Thread Cert.FinalSumKernel.nD Cert.FinalSumKernel.τ).loc Cert.FinalSumKernel.main_arg0)
      ∧ r.2.mem ((c.tc : Thread Cert.FinalSumKernel.nD Cert.FinalSumKernel.τ).loc Cert.FinalSumKernel.main_arg1) = m ((c.tc : Thread Cert.FinalSumKernel.nD Cert.FinalSumKernel.τ).loc Cert.FinalSumKernel.main_arg1))
      ∧ r.2.sem = fun _ => 0)

def quiescent_FinalSumKernelIdeal [hFinalSumKernelIdeal : Cert.FinalSumKernelIdeal.Facts] : Prop :=
  ∀ (m : (ℓ : Loc Cert.FinalSumKernelIdeal.nD Cert.FinalSumKernelIdeal.τ Cert.FinalSumKernelIdeal.sig) → Buf (Elt Ideal) ℓ) (g : Dev Cert.FinalSumKernelIdeal.nD → PrngReg), Pre_FinalSumKernelIdeal m →
    θ_run (Cert.FinalSumKernelIdeal.defs (F := Ideal)) (onTc (τ := Cert.FinalSumKernelIdeal.τ) (Cert.FinalSumKernelIdeal.main (F := Ideal))) ⟨m, fun _ => 0, g⟩ (fun r => (∀ c : Dev Cert.FinalSumKernelIdeal.nD,
      r.2.mem ((c.tc : Thread Cert.FinalSumKernelIdeal.nD Cert.FinalSumKernelIdeal.τ).loc Cert.FinalSumKernelIdeal.main_arg0) = m ((c.tc : Thread Cert.FinalSumKernelIdeal.nD Cert.FinalSumKernelIdeal.τ).loc Cert.FinalSumKernelIdeal.main_arg0)
      ∧ r.2.mem ((c.tc : Thread Cert.FinalSumKernelIdeal.nD Cert.FinalSumKernelIdeal.τ).loc Cert.FinalSumKernelIdeal.main_arg1) = m ((c.tc : Thread Cert.FinalSumKernelIdeal.nD Cert.FinalSumKernelIdeal.τ).loc Cert.FinalSumKernelIdeal.main_arg1))
      ∧ r.2.sem = fun _ => 0)

def quiescent_FinalSumReferenceIdeal [hFinalSumReferenceIdeal : Cert.FinalSumReferenceIdeal.Facts] : Prop :=
  ∀ (m : (ℓ : Loc Cert.FinalSumReferenceIdeal.nD Cert.FinalSumReferenceIdeal.τ Cert.FinalSumReferenceIdeal.sig) → Buf (Elt Ideal) ℓ) (g : Dev Cert.FinalSumReferenceIdeal.nD → PrngReg), Pre_FinalSumReferenceIdeal m →
    θ_run (Cert.FinalSumReferenceIdeal.defs (F := Ideal)) (onTc (τ := Cert.FinalSumReferenceIdeal.τ) (Cert.FinalSumReferenceIdeal.main (F := Ideal))) ⟨m, fun _ => 0, g⟩ (fun r => (∀ c : Dev Cert.FinalSumReferenceIdeal.nD,
      r.2.mem ((c.tc : Thread Cert.FinalSumReferenceIdeal.nD Cert.FinalSumReferenceIdeal.τ).loc Cert.FinalSumReferenceIdeal.main_arg0) = m ((c.tc : Thread Cert.FinalSumReferenceIdeal.nD Cert.FinalSumReferenceIdeal.τ).loc Cert.FinalSumReferenceIdeal.main_arg0)
      ∧ r.2.mem ((c.tc : Thread Cert.FinalSumReferenceIdeal.nD Cert.FinalSumReferenceIdeal.τ).loc Cert.FinalSumReferenceIdeal.main_arg1) = m ((c.tc : Thread Cert.FinalSumReferenceIdeal.nD Cert.FinalSumReferenceIdeal.τ).loc Cert.FinalSumReferenceIdeal.main_arg1))
      ∧ r.2.sem = fun _ => 0)

def quiescent_FfnLKernel [hFfnLKernel : Cert.FfnLKernel.Facts] : Prop :=
  ∀ (m : (ℓ : Loc Cert.FfnLKernel.nD Cert.FfnLKernel.τ Cert.FfnLKernel.sig) → Buf (Elt Bits) ℓ) (g : Dev Cert.FfnLKernel.nD → PrngReg), Pre_FfnLKernel m →
    θ_run (Cert.FfnLKernel.defs (F := Bits)) (onTc (τ := Cert.FfnLKernel.τ) (Cert.FfnLKernel.main (F := Bits))) ⟨m, fun _ => 0, g⟩ (fun r => (∀ c : Dev Cert.FfnLKernel.nD,
      r.2.mem ((c.tc : Thread Cert.FfnLKernel.nD Cert.FfnLKernel.τ).loc Cert.FfnLKernel.main_arg0) = m ((c.tc : Thread Cert.FfnLKernel.nD Cert.FfnLKernel.τ).loc Cert.FfnLKernel.main_arg0)
      ∧ r.2.mem ((c.tc : Thread Cert.FfnLKernel.nD Cert.FfnLKernel.τ).loc Cert.FfnLKernel.main_arg1) = m ((c.tc : Thread Cert.FfnLKernel.nD Cert.FfnLKernel.τ).loc Cert.FfnLKernel.main_arg1)
      ∧ r.2.mem ((c.tc : Thread Cert.FfnLKernel.nD Cert.FfnLKernel.τ).loc Cert.FfnLKernel.main_arg2) = m ((c.tc : Thread Cert.FfnLKernel.nD Cert.FfnLKernel.τ).loc Cert.FfnLKernel.main_arg2)
      ∧ r.2.mem ((c.tc : Thread Cert.FfnLKernel.nD Cert.FfnLKernel.τ).loc Cert.FfnLKernel.main_arg3) = m ((c.tc : Thread Cert.FfnLKernel.nD Cert.FfnLKernel.τ).loc Cert.FfnLKernel.main_arg3))
      ∧ r.2.sem = fun _ => 0)

def quiescent_FfnLKernelIdeal [hFfnLKernelIdeal : Cert.FfnLKernelIdeal.Facts] : Prop :=
  ∀ (m : (ℓ : Loc Cert.FfnLKernelIdeal.nD Cert.FfnLKernelIdeal.τ Cert.FfnLKernelIdeal.sig) → Buf (Elt Ideal) ℓ) (g : Dev Cert.FfnLKernelIdeal.nD → PrngReg), Pre_FfnLKernelIdeal m →
    θ_run (Cert.FfnLKernelIdeal.defs (F := Ideal)) (onTc (τ := Cert.FfnLKernelIdeal.τ) (Cert.FfnLKernelIdeal.main (F := Ideal))) ⟨m, fun _ => 0, g⟩ (fun r => (∀ c : Dev Cert.FfnLKernelIdeal.nD,
      r.2.mem ((c.tc : Thread Cert.FfnLKernelIdeal.nD Cert.FfnLKernelIdeal.τ).loc Cert.FfnLKernelIdeal.main_arg0) = m ((c.tc : Thread Cert.FfnLKernelIdeal.nD Cert.FfnLKernelIdeal.τ).loc Cert.FfnLKernelIdeal.main_arg0)
      ∧ r.2.mem ((c.tc : Thread Cert.FfnLKernelIdeal.nD Cert.FfnLKernelIdeal.τ).loc Cert.FfnLKernelIdeal.main_arg1) = m ((c.tc : Thread Cert.FfnLKernelIdeal.nD Cert.FfnLKernelIdeal.τ).loc Cert.FfnLKernelIdeal.main_arg1)
      ∧ r.2.mem ((c.tc : Thread Cert.FfnLKernelIdeal.nD Cert.FfnLKernelIdeal.τ).loc Cert.FfnLKernelIdeal.main_arg2) = m ((c.tc : Thread Cert.FfnLKernelIdeal.nD Cert.FfnLKernelIdeal.τ).loc Cert.FfnLKernelIdeal.main_arg2)
      ∧ r.2.mem ((c.tc : Thread Cert.FfnLKernelIdeal.nD Cert.FfnLKernelIdeal.τ).loc Cert.FfnLKernelIdeal.main_arg3) = m ((c.tc : Thread Cert.FfnLKernelIdeal.nD Cert.FfnLKernelIdeal.τ).loc Cert.FfnLKernelIdeal.main_arg3))
      ∧ r.2.sem = fun _ => 0)

def quiescent_FfnLReferenceIdeal [hFfnLReferenceIdeal : Cert.FfnLReferenceIdeal.Facts] : Prop :=
  ∀ (m : (ℓ : Loc Cert.FfnLReferenceIdeal.nD Cert.FfnLReferenceIdeal.τ Cert.FfnLReferenceIdeal.sig) → Buf (Elt Ideal) ℓ) (g : Dev Cert.FfnLReferenceIdeal.nD → PrngReg), Pre_FfnLReferenceIdeal m →
    θ_run (Cert.FfnLReferenceIdeal.defs (F := Ideal)) (onTc (τ := Cert.FfnLReferenceIdeal.τ) (Cert.FfnLReferenceIdeal.main (F := Ideal))) ⟨m, fun _ => 0, g⟩ (fun r => (∀ c : Dev Cert.FfnLReferenceIdeal.nD,
      r.2.mem ((c.tc : Thread Cert.FfnLReferenceIdeal.nD Cert.FfnLReferenceIdeal.τ).loc Cert.FfnLReferenceIdeal.main_arg0) = m ((c.tc : Thread Cert.FfnLReferenceIdeal.nD Cert.FfnLReferenceIdeal.τ).loc Cert.FfnLReferenceIdeal.main_arg0)
      ∧ r.2.mem ((c.tc : Thread Cert.FfnLReferenceIdeal.nD Cert.FfnLReferenceIdeal.τ).loc Cert.FfnLReferenceIdeal.main_arg1) = m ((c.tc : Thread Cert.FfnLReferenceIdeal.nD Cert.FfnLReferenceIdeal.τ).loc Cert.FfnLReferenceIdeal.main_arg1)
      ∧ r.2.mem ((c.tc : Thread Cert.FfnLReferenceIdeal.nD Cert.FfnLReferenceIdeal.τ).loc Cert.FfnLReferenceIdeal.main_arg2) = m ((c.tc : Thread Cert.FfnLReferenceIdeal.nD Cert.FfnLReferenceIdeal.τ).loc Cert.FfnLReferenceIdeal.main_arg2)
      ∧ r.2.mem ((c.tc : Thread Cert.FfnLReferenceIdeal.nD Cert.FfnLReferenceIdeal.τ).loc Cert.FfnLReferenceIdeal.main_arg3) = m ((c.tc : Thread Cert.FfnLReferenceIdeal.nD Cert.FfnLReferenceIdeal.τ).loc Cert.FfnLReferenceIdeal.main_arg3))
      ∧ r.2.sem = fun _ => 0)

def quiescent_FirstFKernel [hFirstFKernel : Cert.FirstFKernel.Facts] : Prop :=
  ∀ (m : (ℓ : Loc Cert.FirstFKernel.nD Cert.FirstFKernel.τ Cert.FirstFKernel.sig) → Buf (Elt Bits) ℓ) (g : Dev Cert.FirstFKernel.nD → PrngReg), Pre_FirstFKernel m →
    θ_run (Cert.FirstFKernel.defs (F := Bits)) (onTc (τ := Cert.FirstFKernel.τ) (Cert.FirstFKernel.main (F := Bits))) ⟨m, fun _ => 0, g⟩ (fun r => (∀ c : Dev Cert.FirstFKernel.nD,
      r.2.mem ((c.tc : Thread Cert.FirstFKernel.nD Cert.FirstFKernel.τ).loc Cert.FirstFKernel.main_arg0) = m ((c.tc : Thread Cert.FirstFKernel.nD Cert.FirstFKernel.τ).loc Cert.FirstFKernel.main_arg0)
      ∧ r.2.mem ((c.tc : Thread Cert.FirstFKernel.nD Cert.FirstFKernel.τ).loc Cert.FirstFKernel.main_arg1) = m ((c.tc : Thread Cert.FirstFKernel.nD Cert.FirstFKernel.τ).loc Cert.FirstFKernel.main_arg1)
      ∧ r.2.mem ((c.tc : Thread Cert.FirstFKernel.nD Cert.FirstFKernel.τ).loc Cert.FirstFKernel.main_arg2) = m ((c.tc : Thread Cert.FirstFKernel.nD Cert.FirstFKernel.τ).loc Cert.FirstFKernel.main_arg2))
      ∧ r.2.sem = fun _ => 0)

def quiescent_FirstFKernelIdeal [hFirstFKernelIdeal : Cert.FirstFKernelIdeal.Facts] : Prop :=
  ∀ (m : (ℓ : Loc Cert.FirstFKernelIdeal.nD Cert.FirstFKernelIdeal.τ Cert.FirstFKernelIdeal.sig) → Buf (Elt Ideal) ℓ) (g : Dev Cert.FirstFKernelIdeal.nD → PrngReg), Pre_FirstFKernelIdeal m →
    θ_run (Cert.FirstFKernelIdeal.defs (F := Ideal)) (onTc (τ := Cert.FirstFKernelIdeal.τ) (Cert.FirstFKernelIdeal.main (F := Ideal))) ⟨m, fun _ => 0, g⟩ (fun r => (∀ c : Dev Cert.FirstFKernelIdeal.nD,
      r.2.mem ((c.tc : Thread Cert.FirstFKernelIdeal.nD Cert.FirstFKernelIdeal.τ).loc Cert.FirstFKernelIdeal.main_arg0) = m ((c.tc : Thread Cert.FirstFKernelIdeal.nD Cert.FirstFKernelIdeal.τ).loc Cert.FirstFKernelIdeal.main_arg0)
      ∧ r.2.mem ((c.tc : Thread Cert.FirstFKernelIdeal.nD Cert.FirstFKernelIdeal.τ).loc Cert.FirstFKernelIdeal.main_arg1) = m ((c.tc : Thread Cert.FirstFKernelIdeal.nD Cert.FirstFKernelIdeal.τ).loc Cert.FirstFKernelIdeal.main_arg1)
      ∧ r.2.mem ((c.tc : Thread Cert.FirstFKernelIdeal.nD Cert.FirstFKernelIdeal.τ).loc Cert.FirstFKernelIdeal.main_arg2) = m ((c.tc : Thread Cert.FirstFKernelIdeal.nD Cert.FirstFKernelIdeal.τ).loc Cert.FirstFKernelIdeal.main_arg2))
      ∧ r.2.sem = fun _ => 0)

def quiescent_FirstFReferenceIdeal [hFirstFReferenceIdeal : Cert.FirstFReferenceIdeal.Facts] : Prop :=
  ∀ (m : (ℓ : Loc Cert.FirstFReferenceIdeal.nD Cert.FirstFReferenceIdeal.τ Cert.FirstFReferenceIdeal.sig) → Buf (Elt Ideal) ℓ) (g : Dev Cert.FirstFReferenceIdeal.nD → PrngReg), Pre_FirstFReferenceIdeal m →
    θ_run (Cert.FirstFReferenceIdeal.defs (F := Ideal)) (onTc (τ := Cert.FirstFReferenceIdeal.τ) (Cert.FirstFReferenceIdeal.main (F := Ideal))) ⟨m, fun _ => 0, g⟩ (fun r => (∀ c : Dev Cert.FirstFReferenceIdeal.nD,
      r.2.mem ((c.tc : Thread Cert.FirstFReferenceIdeal.nD Cert.FirstFReferenceIdeal.τ).loc Cert.FirstFReferenceIdeal.main_arg0) = m ((c.tc : Thread Cert.FirstFReferenceIdeal.nD Cert.FirstFReferenceIdeal.τ).loc Cert.FirstFReferenceIdeal.main_arg0)
      ∧ r.2.mem ((c.tc : Thread Cert.FirstFReferenceIdeal.nD Cert.FirstFReferenceIdeal.τ).loc Cert.FirstFReferenceIdeal.main_arg1) = m ((c.tc : Thread Cert.FirstFReferenceIdeal.nD Cert.FirstFReferenceIdeal.τ).loc Cert.FirstFReferenceIdeal.main_arg1)
      ∧ r.2.mem ((c.tc : Thread Cert.FirstFReferenceIdeal.nD Cert.FirstFReferenceIdeal.τ).loc Cert.FirstFReferenceIdeal.main_arg2) = m ((c.tc : Thread Cert.FirstFReferenceIdeal.nD Cert.FirstFReferenceIdeal.τ).loc Cert.FirstFReferenceIdeal.main_arg2))
      ∧ r.2.sem = fun _ => 0)

def quiescent_XkvFKernel [hXkvFKernel : Cert.XkvFKernel.Facts] : Prop :=
  ∀ (m : (ℓ : Loc Cert.XkvFKernel.nD Cert.XkvFKernel.τ Cert.XkvFKernel.sig) → Buf (Elt Bits) ℓ) (g : Dev Cert.XkvFKernel.nD → PrngReg), Pre_XkvFKernel m →
    θ_run (Cert.XkvFKernel.defs (F := Bits)) (onTc (τ := Cert.XkvFKernel.τ) (Cert.XkvFKernel.main (F := Bits))) ⟨m, fun _ => 0, g⟩ (fun r => (∀ c : Dev Cert.XkvFKernel.nD,
      r.2.mem ((c.tc : Thread Cert.XkvFKernel.nD Cert.XkvFKernel.τ).loc Cert.XkvFKernel.main_arg0) = m ((c.tc : Thread Cert.XkvFKernel.nD Cert.XkvFKernel.τ).loc Cert.XkvFKernel.main_arg0)
      ∧ r.2.mem ((c.tc : Thread Cert.XkvFKernel.nD Cert.XkvFKernel.τ).loc Cert.XkvFKernel.main_arg1) = m ((c.tc : Thread Cert.XkvFKernel.nD Cert.XkvFKernel.τ).loc Cert.XkvFKernel.main_arg1)
      ∧ r.2.mem ((c.tc : Thread Cert.XkvFKernel.nD Cert.XkvFKernel.τ).loc Cert.XkvFKernel.main_arg2) = m ((c.tc : Thread Cert.XkvFKernel.nD Cert.XkvFKernel.τ).loc Cert.XkvFKernel.main_arg2))
      ∧ r.2.sem = fun _ => 0)

def quiescent_XkvFKernelIdeal [hXkvFKernelIdeal : Cert.XkvFKernelIdeal.Facts] : Prop :=
  ∀ (m : (ℓ : Loc Cert.XkvFKernelIdeal.nD Cert.XkvFKernelIdeal.τ Cert.XkvFKernelIdeal.sig) → Buf (Elt Ideal) ℓ) (g : Dev Cert.XkvFKernelIdeal.nD → PrngReg), Pre_XkvFKernelIdeal m →
    θ_run (Cert.XkvFKernelIdeal.defs (F := Ideal)) (onTc (τ := Cert.XkvFKernelIdeal.τ) (Cert.XkvFKernelIdeal.main (F := Ideal))) ⟨m, fun _ => 0, g⟩ (fun r => (∀ c : Dev Cert.XkvFKernelIdeal.nD,
      r.2.mem ((c.tc : Thread Cert.XkvFKernelIdeal.nD Cert.XkvFKernelIdeal.τ).loc Cert.XkvFKernelIdeal.main_arg0) = m ((c.tc : Thread Cert.XkvFKernelIdeal.nD Cert.XkvFKernelIdeal.τ).loc Cert.XkvFKernelIdeal.main_arg0)
      ∧ r.2.mem ((c.tc : Thread Cert.XkvFKernelIdeal.nD Cert.XkvFKernelIdeal.τ).loc Cert.XkvFKernelIdeal.main_arg1) = m ((c.tc : Thread Cert.XkvFKernelIdeal.nD Cert.XkvFKernelIdeal.τ).loc Cert.XkvFKernelIdeal.main_arg1)
      ∧ r.2.mem ((c.tc : Thread Cert.XkvFKernelIdeal.nD Cert.XkvFKernelIdeal.τ).loc Cert.XkvFKernelIdeal.main_arg2) = m ((c.tc : Thread Cert.XkvFKernelIdeal.nD Cert.XkvFKernelIdeal.τ).loc Cert.XkvFKernelIdeal.main_arg2))
      ∧ r.2.sem = fun _ => 0)

def quiescent_XkvFReferenceIdeal [hXkvFReferenceIdeal : Cert.XkvFReferenceIdeal.Facts] : Prop :=
  ∀ (m : (ℓ : Loc Cert.XkvFReferenceIdeal.nD Cert.XkvFReferenceIdeal.τ Cert.XkvFReferenceIdeal.sig) → Buf (Elt Ideal) ℓ) (g : Dev Cert.XkvFReferenceIdeal.nD → PrngReg), Pre_XkvFReferenceIdeal m →
    θ_run (Cert.XkvFReferenceIdeal.defs (F := Ideal)) (onTc (τ := Cert.XkvFReferenceIdeal.τ) (Cert.XkvFReferenceIdeal.main (F := Ideal))) ⟨m, fun _ => 0, g⟩ (fun r => (∀ c : Dev Cert.XkvFReferenceIdeal.nD,
      r.2.mem ((c.tc : Thread Cert.XkvFReferenceIdeal.nD Cert.XkvFReferenceIdeal.τ).loc Cert.XkvFReferenceIdeal.main_arg0) = m ((c.tc : Thread Cert.XkvFReferenceIdeal.nD Cert.XkvFReferenceIdeal.τ).loc Cert.XkvFReferenceIdeal.main_arg0)
      ∧ r.2.mem ((c.tc : Thread Cert.XkvFReferenceIdeal.nD Cert.XkvFReferenceIdeal.τ).loc Cert.XkvFReferenceIdeal.main_arg1) = m ((c.tc : Thread Cert.XkvFReferenceIdeal.nD Cert.XkvFReferenceIdeal.τ).loc Cert.XkvFReferenceIdeal.main_arg1)
      ∧ r.2.mem ((c.tc : Thread Cert.XkvFReferenceIdeal.nD Cert.XkvFReferenceIdeal.τ).loc Cert.XkvFReferenceIdeal.main_arg2) = m ((c.tc : Thread Cert.XkvFReferenceIdeal.nD Cert.XkvFReferenceIdeal.τ).loc Cert.XkvFReferenceIdeal.main_arg2))
      ∧ r.2.sem = fun _ => 0)

def quiescent_ChipSumKernel [hChipSumKernel : Cert.ChipSumKernel.Facts] : Prop :=
  ∀ (m : (ℓ : Loc Cert.ChipSumKernel.nD Cert.ChipSumKernel.τ Cert.ChipSumKernel.sig) → Buf (Elt Bits) ℓ) (g : Dev Cert.ChipSumKernel.nD → PrngReg), Pre_ChipSumKernel m →
    θ_run (Cert.ChipSumKernel.defs (F := Bits)) (onTc (τ := Cert.ChipSumKernel.τ) (Cert.ChipSumKernel.main (F := Bits))) ⟨m, fun _ => 0, g⟩ (fun r => (∀ c : Dev Cert.ChipSumKernel.nD,
      r.2.mem ((c.tc : Thread Cert.ChipSumKernel.nD Cert.ChipSumKernel.τ).loc Cert.ChipSumKernel.main_arg0) = m ((c.tc : Thread Cert.ChipSumKernel.nD Cert.ChipSumKernel.τ).loc Cert.ChipSumKernel.main_arg0)
      ∧ r.2.mem ((c.tc : Thread Cert.ChipSumKernel.nD Cert.ChipSumKernel.τ).loc Cert.ChipSumKernel.main_arg1) = m ((c.tc : Thread Cert.ChipSumKernel.nD Cert.ChipSumKernel.τ).loc Cert.ChipSumKernel.main_arg1))
      ∧ r.2.sem = fun _ => 0)

def quiescent_ChipSumKernelIdeal [hChipSumKernelIdeal : Cert.ChipSumKernelIdeal.Facts] : Prop :=
  ∀ (m : (ℓ : Loc Cert.ChipSumKernelIdeal.nD Cert.ChipSumKernelIdeal.τ Cert.ChipSumKernelIdeal.sig) → Buf (Elt Ideal) ℓ) (g : Dev Cert.ChipSumKernelIdeal.nD → PrngReg), Pre_ChipSumKernelIdeal m →
    θ_run (Cert.ChipSumKernelIdeal.defs (F := Ideal)) (onTc (τ := Cert.ChipSumKernelIdeal.τ) (Cert.ChipSumKernelIdeal.main (F := Ideal))) ⟨m, fun _ => 0, g⟩ (fun r => (∀ c : Dev Cert.ChipSumKernelIdeal.nD,
      r.2.mem ((c.tc : Thread Cert.ChipSumKernelIdeal.nD Cert.ChipSumKernelIdeal.τ).loc Cert.ChipSumKernelIdeal.main_arg0) = m ((c.tc : Thread Cert.ChipSumKernelIdeal.nD Cert.ChipSumKernelIdeal.τ).loc Cert.ChipSumKernelIdeal.main_arg0)
      ∧ r.2.mem ((c.tc : Thread Cert.ChipSumKernelIdeal.nD Cert.ChipSumKernelIdeal.τ).loc Cert.ChipSumKernelIdeal.main_arg1) = m ((c.tc : Thread Cert.ChipSumKernelIdeal.nD Cert.ChipSumKernelIdeal.τ).loc Cert.ChipSumKernelIdeal.main_arg1))
      ∧ r.2.sem = fun _ => 0)

def quiescent_ChipSumReferenceIdeal [hChipSumReferenceIdeal : Cert.ChipSumReferenceIdeal.Facts] : Prop :=
  ∀ (m : (ℓ : Loc Cert.ChipSumReferenceIdeal.nD Cert.ChipSumReferenceIdeal.τ Cert.ChipSumReferenceIdeal.sig) → Buf (Elt Ideal) ℓ) (g : Dev Cert.ChipSumReferenceIdeal.nD → PrngReg), Pre_ChipSumReferenceIdeal m →
    θ_run (Cert.ChipSumReferenceIdeal.defs (F := Ideal)) (onTc (τ := Cert.ChipSumReferenceIdeal.τ) (Cert.ChipSumReferenceIdeal.main (F := Ideal))) ⟨m, fun _ => 0, g⟩ (fun r => (∀ c : Dev Cert.ChipSumReferenceIdeal.nD,
      r.2.mem ((c.tc : Thread Cert.ChipSumReferenceIdeal.nD Cert.ChipSumReferenceIdeal.τ).loc Cert.ChipSumReferenceIdeal.main_arg0) = m ((c.tc : Thread Cert.ChipSumReferenceIdeal.nD Cert.ChipSumReferenceIdeal.τ).loc Cert.ChipSumReferenceIdeal.main_arg0)
      ∧ r.2.mem ((c.tc : Thread Cert.ChipSumReferenceIdeal.nD Cert.ChipSumReferenceIdeal.τ).loc Cert.ChipSumReferenceIdeal.main_arg1) = m ((c.tc : Thread Cert.ChipSumReferenceIdeal.nD Cert.ChipSumReferenceIdeal.τ).loc Cert.ChipSumReferenceIdeal.main_arg1))
      ∧ r.2.sem = fun _ => 0)

def quiescent_PlaceKernel [hPlaceKernel : Cert.PlaceKernel.Facts] : Prop :=
  ∀ (m : (ℓ : Loc Cert.PlaceKernel.nD Cert.PlaceKernel.τ Cert.PlaceKernel.sig) → Buf (Elt Bits) ℓ) (g : Dev Cert.PlaceKernel.nD → PrngReg), Pre_PlaceKernel m →
    θ_run (Cert.PlaceKernel.defs (F := Bits)) (onTc (τ := Cert.PlaceKernel.τ) (Cert.PlaceKernel.main (F := Bits))) ⟨m, fun _ => 0, g⟩ (fun r => (∀ c : Dev Cert.PlaceKernel.nD,
      r.2.mem ((c.tc : Thread Cert.PlaceKernel.nD Cert.PlaceKernel.τ).loc Cert.PlaceKernel.main_arg0) = m ((c.tc : Thread Cert.PlaceKernel.nD Cert.PlaceKernel.τ).loc Cert.PlaceKernel.main_arg0))
      ∧ r.2.sem = fun _ => 0)

def quiescent_PlaceKernelIdeal [hPlaceKernelIdeal : Cert.PlaceKernelIdeal.Facts] : Prop :=
  ∀ (m : (ℓ : Loc Cert.PlaceKernelIdeal.nD Cert.PlaceKernelIdeal.τ Cert.PlaceKernelIdeal.sig) → Buf (Elt Ideal) ℓ) (g : Dev Cert.PlaceKernelIdeal.nD → PrngReg), Pre_PlaceKernelIdeal m →
    θ_run (Cert.PlaceKernelIdeal.defs (F := Ideal)) (onTc (τ := Cert.PlaceKernelIdeal.τ) (Cert.PlaceKernelIdeal.main (F := Ideal))) ⟨m, fun _ => 0, g⟩ (fun r => (∀ c : Dev Cert.PlaceKernelIdeal.nD,
      r.2.mem ((c.tc : Thread Cert.PlaceKernelIdeal.nD Cert.PlaceKernelIdeal.τ).loc Cert.PlaceKernelIdeal.main_arg0) = m ((c.tc : Thread Cert.PlaceKernelIdeal.nD Cert.PlaceKernelIdeal.τ).loc Cert.PlaceKernelIdeal.main_arg0))
      ∧ r.2.sem = fun _ => 0)

def quiescent_PlaceReferenceIdeal [hPlaceReferenceIdeal : Cert.PlaceReferenceIdeal.Facts] : Prop :=
  ∀ (m : (ℓ : Loc Cert.PlaceReferenceIdeal.nD Cert.PlaceReferenceIdeal.τ Cert.PlaceReferenceIdeal.sig) → Buf (Elt Ideal) ℓ) (g : Dev Cert.PlaceReferenceIdeal.nD → PrngReg), Pre_PlaceReferenceIdeal m →
    θ_run (Cert.PlaceReferenceIdeal.defs (F := Ideal)) (onTc (τ := Cert.PlaceReferenceIdeal.τ) (Cert.PlaceReferenceIdeal.main (F := Ideal))) ⟨m, fun _ => 0, g⟩ (fun r => (∀ c : Dev Cert.PlaceReferenceIdeal.nD,
      r.2.mem ((c.tc : Thread Cert.PlaceReferenceIdeal.nD Cert.PlaceReferenceIdeal.τ).loc Cert.PlaceReferenceIdeal.main_arg0) = m ((c.tc : Thread Cert.PlaceReferenceIdeal.nD Cert.PlaceReferenceIdeal.τ).loc Cert.PlaceReferenceIdeal.main_arg0))
      ∧ r.2.sem = fun _ => 0)

def quiescent_InnerKernel [hInnerKernel : Cert.InnerKernel.Facts] : Prop :=
  ∀ (m : (ℓ : Loc Cert.InnerKernel.nD Cert.InnerKernel.τ Cert.InnerKernel.sig) → Buf (Elt Bits) ℓ) (g : Dev Cert.InnerKernel.nD → PrngReg), Pre_InnerKernel m →
    θ_run (Cert.InnerKernel.defs (F := Bits)) (onTc (τ := Cert.InnerKernel.τ) (Cert.InnerKernel.main (F := Bits))) ⟨m, fun _ => 0, g⟩ (fun r => (∀ c : Dev Cert.InnerKernel.nD,
      r.2.mem ((c.tc : Thread Cert.InnerKernel.nD Cert.InnerKernel.τ).loc Cert.InnerKernel.main_arg0) = m ((c.tc : Thread Cert.InnerKernel.nD Cert.InnerKernel.τ).loc Cert.InnerKernel.main_arg0)
      ∧ r.2.mem ((c.tc : Thread Cert.InnerKernel.nD Cert.InnerKernel.τ).loc Cert.InnerKernel.main_arg1) = m ((c.tc : Thread Cert.InnerKernel.nD Cert.InnerKernel.τ).loc Cert.InnerKernel.main_arg1)
      ∧ r.2.mem ((c.tc : Thread Cert.InnerKernel.nD Cert.InnerKernel.τ).loc Cert.InnerKernel.main_arg2) = m ((c.tc : Thread Cert.InnerKernel.nD Cert.InnerKernel.τ).loc Cert.InnerKernel.main_arg2)
      ∧ r.2.mem ((c.tc : Thread Cert.InnerKernel.nD Cert.InnerKernel.τ).loc Cert.InnerKernel.main_arg3) = m ((c.tc : Thread Cert.InnerKernel.nD Cert.InnerKernel.τ).loc Cert.InnerKernel.main_arg3)
      ∧ r.2.mem ((c.tc : Thread Cert.InnerKernel.nD Cert.InnerKernel.τ).loc Cert.InnerKernel.main_arg4) = m ((c.tc : Thread Cert.InnerKernel.nD Cert.InnerKernel.τ).loc Cert.InnerKernel.main_arg4)
      ∧ r.2.mem ((c.tc : Thread Cert.InnerKernel.nD Cert.InnerKernel.τ).loc Cert.InnerKernel.main_arg5) = m ((c.tc : Thread Cert.InnerKernel.nD Cert.InnerKernel.τ).loc Cert.InnerKernel.main_arg5)
      ∧ r.2.mem ((c.tc : Thread Cert.InnerKernel.nD Cert.InnerKernel.τ).loc Cert.InnerKernel.main_arg6) = m ((c.tc : Thread Cert.InnerKernel.nD Cert.InnerKernel.τ).loc Cert.InnerKernel.main_arg6))
      ∧ r.2.sem = fun _ => 0)

def quiescent_InnerKernelIdeal [hInnerKernelIdeal : Cert.InnerKernelIdeal.Facts] : Prop :=
  ∀ (m : (ℓ : Loc Cert.InnerKernelIdeal.nD Cert.InnerKernelIdeal.τ Cert.InnerKernelIdeal.sig) → Buf (Elt Ideal) ℓ) (g : Dev Cert.InnerKernelIdeal.nD → PrngReg), Pre_InnerKernelIdeal m →
    θ_run (Cert.InnerKernelIdeal.defs (F := Ideal)) (onTc (τ := Cert.InnerKernelIdeal.τ) (Cert.InnerKernelIdeal.main (F := Ideal))) ⟨m, fun _ => 0, g⟩ (fun r => (∀ c : Dev Cert.InnerKernelIdeal.nD,
      r.2.mem ((c.tc : Thread Cert.InnerKernelIdeal.nD Cert.InnerKernelIdeal.τ).loc Cert.InnerKernelIdeal.main_arg0) = m ((c.tc : Thread Cert.InnerKernelIdeal.nD Cert.InnerKernelIdeal.τ).loc Cert.InnerKernelIdeal.main_arg0)
      ∧ r.2.mem ((c.tc : Thread Cert.InnerKernelIdeal.nD Cert.InnerKernelIdeal.τ).loc Cert.InnerKernelIdeal.main_arg1) = m ((c.tc : Thread Cert.InnerKernelIdeal.nD Cert.InnerKernelIdeal.τ).loc Cert.InnerKernelIdeal.main_arg1)
      ∧ r.2.mem ((c.tc : Thread Cert.InnerKernelIdeal.nD Cert.InnerKernelIdeal.τ).loc Cert.InnerKernelIdeal.main_arg2) = m ((c.tc : Thread Cert.InnerKernelIdeal.nD Cert.InnerKernelIdeal.τ).loc Cert.InnerKernelIdeal.main_arg2)
      ∧ r.2.mem ((c.tc : Thread Cert.InnerKernelIdeal.nD Cert.InnerKernelIdeal.τ).loc Cert.InnerKernelIdeal.main_arg3) = m ((c.tc : Thread Cert.InnerKernelIdeal.nD Cert.InnerKernelIdeal.τ).loc Cert.InnerKernelIdeal.main_arg3)
      ∧ r.2.mem ((c.tc : Thread Cert.InnerKernelIdeal.nD Cert.InnerKernelIdeal.τ).loc Cert.InnerKernelIdeal.main_arg4) = m ((c.tc : Thread Cert.InnerKernelIdeal.nD Cert.InnerKernelIdeal.τ).loc Cert.InnerKernelIdeal.main_arg4)
      ∧ r.2.mem ((c.tc : Thread Cert.InnerKernelIdeal.nD Cert.InnerKernelIdeal.τ).loc Cert.InnerKernelIdeal.main_arg5) = m ((c.tc : Thread Cert.InnerKernelIdeal.nD Cert.InnerKernelIdeal.τ).loc Cert.InnerKernelIdeal.main_arg5)
      ∧ r.2.mem ((c.tc : Thread Cert.InnerKernelIdeal.nD Cert.InnerKernelIdeal.τ).loc Cert.InnerKernelIdeal.main_arg6) = m ((c.tc : Thread Cert.InnerKernelIdeal.nD Cert.InnerKernelIdeal.τ).loc Cert.InnerKernelIdeal.main_arg6))
      ∧ r.2.sem = fun _ => 0)

def quiescent_InnerKernelIdeal_pre_finite_inner [hInnerKernelIdeal : Cert.InnerKernelIdeal.Facts] [hPre_finite_inner : Cert.Pre_finite_inner.Facts] : Prop :=
  ∀ (m : (ℓ : Loc Cert.InnerKernelIdeal.nD Cert.InnerKernelIdeal.τ Cert.InnerKernelIdeal.sig) → Buf (Elt Ideal) ℓ) (g : Dev Cert.InnerKernelIdeal.nD → PrngReg), Pre_InnerKernelIdeal_finite_inner m →
    θ_run (Cert.InnerKernelIdeal.defs (F := Ideal)) (onTc (τ := Cert.InnerKernelIdeal.τ) (Cert.InnerKernelIdeal.main (F := Ideal))) ⟨m, fun _ => 0, g⟩ (fun r => (∀ c : Dev Cert.InnerKernelIdeal.nD,
      r.2.mem ((c.tc : Thread Cert.InnerKernelIdeal.nD Cert.InnerKernelIdeal.τ).loc Cert.InnerKernelIdeal.main_arg0) = m ((c.tc : Thread Cert.InnerKernelIdeal.nD Cert.InnerKernelIdeal.τ).loc Cert.InnerKernelIdeal.main_arg0)
      ∧ r.2.mem ((c.tc : Thread Cert.InnerKernelIdeal.nD Cert.InnerKernelIdeal.τ).loc Cert.InnerKernelIdeal.main_arg1) = m ((c.tc : Thread Cert.InnerKernelIdeal.nD Cert.InnerKernelIdeal.τ).loc Cert.InnerKernelIdeal.main_arg1)
      ∧ r.2.mem ((c.tc : Thread Cert.InnerKernelIdeal.nD Cert.InnerKernelIdeal.τ).loc Cert.InnerKernelIdeal.main_arg2) = m ((c.tc : Thread Cert.InnerKernelIdeal.nD Cert.InnerKernelIdeal.τ).loc Cert.InnerKernelIdeal.main_arg2)
      ∧ r.2.mem ((c.tc : Thread Cert.InnerKernelIdeal.nD Cert.InnerKernelIdeal.τ).loc Cert.InnerKernelIdeal.main_arg3) = m ((c.tc : Thread Cert.InnerKernelIdeal.nD Cert.InnerKernelIdeal.τ).loc Cert.InnerKernelIdeal.main_arg3)
      ∧ r.2.mem ((c.tc : Thread Cert.InnerKernelIdeal.nD Cert.InnerKernelIdeal.τ).loc Cert.InnerKernelIdeal.main_arg4) = m ((c.tc : Thread Cert.InnerKernelIdeal.nD Cert.InnerKernelIdeal.τ).loc Cert.InnerKernelIdeal.main_arg4)
      ∧ r.2.mem ((c.tc : Thread Cert.InnerKernelIdeal.nD Cert.InnerKernelIdeal.τ).loc Cert.InnerKernelIdeal.main_arg5) = m ((c.tc : Thread Cert.InnerKernelIdeal.nD Cert.InnerKernelIdeal.τ).loc Cert.InnerKernelIdeal.main_arg5)
      ∧ r.2.mem ((c.tc : Thread Cert.InnerKernelIdeal.nD Cert.InnerKernelIdeal.τ).loc Cert.InnerKernelIdeal.main_arg6) = m ((c.tc : Thread Cert.InnerKernelIdeal.nD Cert.InnerKernelIdeal.τ).loc Cert.InnerKernelIdeal.main_arg6))
      ∧ r.2.sem = fun _ => 0)

def quiescent_InnerReferenceIdeal [hInnerReferenceIdeal : Cert.InnerReferenceIdeal.Facts] : Prop :=
  ∀ (m : (ℓ : Loc Cert.InnerReferenceIdeal.nD Cert.InnerReferenceIdeal.τ Cert.InnerReferenceIdeal.sig) → Buf (Elt Ideal) ℓ) (g : Dev Cert.InnerReferenceIdeal.nD → PrngReg), Pre_InnerReferenceIdeal m →
    θ_run (Cert.InnerReferenceIdeal.defs (F := Ideal)) (onTc (τ := Cert.InnerReferenceIdeal.τ) (Cert.InnerReferenceIdeal.main (F := Ideal))) ⟨m, fun _ => 0, g⟩ (fun r => (∀ c : Dev Cert.InnerReferenceIdeal.nD,
      r.2.mem ((c.tc : Thread Cert.InnerReferenceIdeal.nD Cert.InnerReferenceIdeal.τ).loc Cert.InnerReferenceIdeal.main_arg0) = m ((c.tc : Thread Cert.InnerReferenceIdeal.nD Cert.InnerReferenceIdeal.τ).loc Cert.InnerReferenceIdeal.main_arg0)
      ∧ r.2.mem ((c.tc : Thread Cert.InnerReferenceIdeal.nD Cert.InnerReferenceIdeal.τ).loc Cert.InnerReferenceIdeal.main_arg1) = m ((c.tc : Thread Cert.InnerReferenceIdeal.nD Cert.InnerReferenceIdeal.τ).loc Cert.InnerReferenceIdeal.main_arg1)
      ∧ r.2.mem ((c.tc : Thread Cert.InnerReferenceIdeal.nD Cert.InnerReferenceIdeal.τ).loc Cert.InnerReferenceIdeal.main_arg2) = m ((c.tc : Thread Cert.InnerReferenceIdeal.nD Cert.InnerReferenceIdeal.τ).loc Cert.InnerReferenceIdeal.main_arg2)
      ∧ r.2.mem ((c.tc : Thread Cert.InnerReferenceIdeal.nD Cert.InnerReferenceIdeal.τ).loc Cert.InnerReferenceIdeal.main_arg3) = m ((c.tc : Thread Cert.InnerReferenceIdeal.nD Cert.InnerReferenceIdeal.τ).loc Cert.InnerReferenceIdeal.main_arg3)
      ∧ r.2.mem ((c.tc : Thread Cert.InnerReferenceIdeal.nD Cert.InnerReferenceIdeal.τ).loc Cert.InnerReferenceIdeal.main_arg4) = m ((c.tc : Thread Cert.InnerReferenceIdeal.nD Cert.InnerReferenceIdeal.τ).loc Cert.InnerReferenceIdeal.main_arg4)
      ∧ r.2.mem ((c.tc : Thread Cert.InnerReferenceIdeal.nD Cert.InnerReferenceIdeal.τ).loc Cert.InnerReferenceIdeal.main_arg5) = m ((c.tc : Thread Cert.InnerReferenceIdeal.nD Cert.InnerReferenceIdeal.τ).loc Cert.InnerReferenceIdeal.main_arg5)
      ∧ r.2.mem ((c.tc : Thread Cert.InnerReferenceIdeal.nD Cert.InnerReferenceIdeal.τ).loc Cert.InnerReferenceIdeal.main_arg6) = m ((c.tc : Thread Cert.InnerReferenceIdeal.nD Cert.InnerReferenceIdeal.τ).loc Cert.InnerReferenceIdeal.main_arg6))
      ∧ r.2.sem = fun _ => 0)

def quiescent_InnerReferenceIdeal_pre_finite_inner [hInnerReferenceIdeal : Cert.InnerReferenceIdeal.Facts] [hPre_finite_inner : Cert.Pre_finite_inner.Facts] : Prop :=
  ∀ (m : (ℓ : Loc Cert.InnerReferenceIdeal.nD Cert.InnerReferenceIdeal.τ Cert.InnerReferenceIdeal.sig) → Buf (Elt Ideal) ℓ) (g : Dev Cert.InnerReferenceIdeal.nD → PrngReg), Pre_InnerReferenceIdeal_finite_inner m →
    θ_run (Cert.InnerReferenceIdeal.defs (F := Ideal)) (onTc (τ := Cert.InnerReferenceIdeal.τ) (Cert.InnerReferenceIdeal.main (F := Ideal))) ⟨m, fun _ => 0, g⟩ (fun r => (∀ c : Dev Cert.InnerReferenceIdeal.nD,
      r.2.mem ((c.tc : Thread Cert.InnerReferenceIdeal.nD Cert.InnerReferenceIdeal.τ).loc Cert.InnerReferenceIdeal.main_arg0) = m ((c.tc : Thread Cert.InnerReferenceIdeal.nD Cert.InnerReferenceIdeal.τ).loc Cert.InnerReferenceIdeal.main_arg0)
      ∧ r.2.mem ((c.tc : Thread Cert.InnerReferenceIdeal.nD Cert.InnerReferenceIdeal.τ).loc Cert.InnerReferenceIdeal.main_arg1) = m ((c.tc : Thread Cert.InnerReferenceIdeal.nD Cert.InnerReferenceIdeal.τ).loc Cert.InnerReferenceIdeal.main_arg1)
      ∧ r.2.mem ((c.tc : Thread Cert.InnerReferenceIdeal.nD Cert.InnerReferenceIdeal.τ).loc Cert.InnerReferenceIdeal.main_arg2) = m ((c.tc : Thread Cert.InnerReferenceIdeal.nD Cert.InnerReferenceIdeal.τ).loc Cert.InnerReferenceIdeal.main_arg2)
      ∧ r.2.mem ((c.tc : Thread Cert.InnerReferenceIdeal.nD Cert.InnerReferenceIdeal.τ).loc Cert.InnerReferenceIdeal.main_arg3) = m ((c.tc : Thread Cert.InnerReferenceIdeal.nD Cert.InnerReferenceIdeal.τ).loc Cert.InnerReferenceIdeal.main_arg3)
      ∧ r.2.mem ((c.tc : Thread Cert.InnerReferenceIdeal.nD Cert.InnerReferenceIdeal.τ).loc Cert.InnerReferenceIdeal.main_arg4) = m ((c.tc : Thread Cert.InnerReferenceIdeal.nD Cert.InnerReferenceIdeal.τ).loc Cert.InnerReferenceIdeal.main_arg4)
      ∧ r.2.mem ((c.tc : Thread Cert.InnerReferenceIdeal.nD Cert.InnerReferenceIdeal.τ).loc Cert.InnerReferenceIdeal.main_arg5) = m ((c.tc : Thread Cert.InnerReferenceIdeal.nD Cert.InnerReferenceIdeal.τ).loc Cert.InnerReferenceIdeal.main_arg5)
      ∧ r.2.mem ((c.tc : Thread Cert.InnerReferenceIdeal.nD Cert.InnerReferenceIdeal.τ).loc Cert.InnerReferenceIdeal.main_arg6) = m ((c.tc : Thread Cert.InnerReferenceIdeal.nD Cert.InnerReferenceIdeal.τ).loc Cert.InnerReferenceIdeal.main_arg6))
      ∧ r.2.sem = fun _ => 0)

def quiescent_GatingKernel [hGatingKernel : Cert.GatingKernel.Facts] : Prop :=
  ∀ (m : (ℓ : Loc Cert.GatingKernel.nD Cert.GatingKernel.τ Cert.GatingKernel.sig) → Buf (Elt Bits) ℓ) (g : Dev Cert.GatingKernel.nD → PrngReg), Pre_GatingKernel m →
    θ_run (Cert.GatingKernel.defs (F := Bits)) (onTc (τ := Cert.GatingKernel.τ) (Cert.GatingKernel.main (F := Bits))) ⟨m, fun _ => 0, g⟩ (fun r => (∀ c : Dev Cert.GatingKernel.nD,
      r.2.mem ((c.tc : Thread Cert.GatingKernel.nD Cert.GatingKernel.τ).loc Cert.GatingKernel.main_arg0) = m ((c.tc : Thread Cert.GatingKernel.nD Cert.GatingKernel.τ).loc Cert.GatingKernel.main_arg0)
      ∧ r.2.mem ((c.tc : Thread Cert.GatingKernel.nD Cert.GatingKernel.τ).loc Cert.GatingKernel.main_arg1) = m ((c.tc : Thread Cert.GatingKernel.nD Cert.GatingKernel.τ).loc Cert.GatingKernel.main_arg1)
      ∧ r.2.mem ((c.tc : Thread Cert.GatingKernel.nD Cert.GatingKernel.τ).loc Cert.GatingKernel.main_arg2) = m ((c.tc : Thread Cert.GatingKernel.nD Cert.GatingKernel.τ).loc Cert.GatingKernel.main_arg2)
      ∧ r.2.mem ((c.tc : Thread Cert.GatingKernel.nD Cert.GatingKernel.τ).loc Cert.GatingKernel.main_arg3) = m ((c.tc : Thread Cert.GatingKernel.nD Cert.GatingKernel.τ).loc Cert.GatingKernel.main_arg3)
      ∧ r.2.mem ((c.tc : Thread Cert.GatingKernel.nD Cert.GatingKernel.τ).loc Cert.GatingKernel.main_arg4) = m ((c.tc : Thread Cert.GatingKernel.nD Cert.GatingKernel.τ).loc Cert.GatingKernel.main_arg4)
      ∧ r.2.mem ((c.tc : Thread Cert.GatingKernel.nD Cert.GatingKernel.τ).loc Cert.GatingKernel.main_arg5) = m ((c.tc : Thread Cert.GatingKernel.nD Cert.GatingKernel.τ).loc Cert.GatingKernel.main_arg5)
      ∧ r.2.mem ((c.tc : Thread Cert.GatingKernel.nD Cert.GatingKernel.τ).loc Cert.GatingKernel.main_arg6) = m ((c.tc : Thread Cert.GatingKernel.nD Cert.GatingKernel.τ).loc Cert.GatingKernel.main_arg6)
      ∧ r.2.mem ((c.tc : Thread Cert.GatingKernel.nD Cert.GatingKernel.τ).loc Cert.GatingKernel.main_arg7) = m ((c.tc : Thread Cert.GatingKernel.nD Cert.GatingKernel.τ).loc Cert.GatingKernel.main_arg7))
      ∧ r.2.sem = fun _ => 0)

def quiescent_GatingKernelIdeal [hGatingKernelIdeal : Cert.GatingKernelIdeal.Facts] : Prop :=
  ∀ (m : (ℓ : Loc Cert.GatingKernelIdeal.nD Cert.GatingKernelIdeal.τ Cert.GatingKernelIdeal.sig) → Buf (Elt Ideal) ℓ) (g : Dev Cert.GatingKernelIdeal.nD → PrngReg), Pre_GatingKernelIdeal m →
    θ_run (Cert.GatingKernelIdeal.defs (F := Ideal)) (onTc (τ := Cert.GatingKernelIdeal.τ) (Cert.GatingKernelIdeal.main (F := Ideal))) ⟨m, fun _ => 0, g⟩ (fun r => (∀ c : Dev Cert.GatingKernelIdeal.nD,
      r.2.mem ((c.tc : Thread Cert.GatingKernelIdeal.nD Cert.GatingKernelIdeal.τ).loc Cert.GatingKernelIdeal.main_arg0) = m ((c.tc : Thread Cert.GatingKernelIdeal.nD Cert.GatingKernelIdeal.τ).loc Cert.GatingKernelIdeal.main_arg0)
      ∧ r.2.mem ((c.tc : Thread Cert.GatingKernelIdeal.nD Cert.GatingKernelIdeal.τ).loc Cert.GatingKernelIdeal.main_arg1) = m ((c.tc : Thread Cert.GatingKernelIdeal.nD Cert.GatingKernelIdeal.τ).loc Cert.GatingKernelIdeal.main_arg1)
      ∧ r.2.mem ((c.tc : Thread Cert.GatingKernelIdeal.nD Cert.GatingKernelIdeal.τ).loc Cert.GatingKernelIdeal.main_arg2) = m ((c.tc : Thread Cert.GatingKernelIdeal.nD Cert.GatingKernelIdeal.τ).loc Cert.GatingKernelIdeal.main_arg2)
      ∧ r.2.mem ((c.tc : Thread Cert.GatingKernelIdeal.nD Cert.GatingKernelIdeal.τ).loc Cert.GatingKernelIdeal.main_arg3) = m ((c.tc : Thread Cert.GatingKernelIdeal.nD Cert.GatingKernelIdeal.τ).loc Cert.GatingKernelIdeal.main_arg3)
      ∧ r.2.mem ((c.tc : Thread Cert.GatingKernelIdeal.nD Cert.GatingKernelIdeal.τ).loc Cert.GatingKernelIdeal.main_arg4) = m ((c.tc : Thread Cert.GatingKernelIdeal.nD Cert.GatingKernelIdeal.τ).loc Cert.GatingKernelIdeal.main_arg4)
      ∧ r.2.mem ((c.tc : Thread Cert.GatingKernelIdeal.nD Cert.GatingKernelIdeal.τ).loc Cert.GatingKernelIdeal.main_arg5) = m ((c.tc : Thread Cert.GatingKernelIdeal.nD Cert.GatingKernelIdeal.τ).loc Cert.GatingKernelIdeal.main_arg5)
      ∧ r.2.mem ((c.tc : Thread Cert.GatingKernelIdeal.nD Cert.GatingKernelIdeal.τ).loc Cert.GatingKernelIdeal.main_arg6) = m ((c.tc : Thread Cert.GatingKernelIdeal.nD Cert.GatingKernelIdeal.τ).loc Cert.GatingKernelIdeal.main_arg6)
      ∧ r.2.mem ((c.tc : Thread Cert.GatingKernelIdeal.nD Cert.GatingKernelIdeal.τ).loc Cert.GatingKernelIdeal.main_arg7) = m ((c.tc : Thread Cert.GatingKernelIdeal.nD Cert.GatingKernelIdeal.τ).loc Cert.GatingKernelIdeal.main_arg7))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4)
      ∧ r.2.mem ((c.tc : Thread Cert.GatingReferenceIdeal.nD Cert.GatingReferenceIdeal.τ).loc Cert.GatingReferenceIdeal.main_arg5) = m ((c.tc : Thread Cert.GatingReferenceIdeal.nD Cert.GatingReferenceIdeal.τ).loc Cert.GatingReferenceIdeal.main_arg5)
      ∧ r.2.mem ((c.tc : Thread Cert.GatingReferenceIdeal.nD Cert.GatingReferenceIdeal.τ).loc Cert.GatingReferenceIdeal.main_arg6) = m ((c.tc : Thread Cert.GatingReferenceIdeal.nD Cert.GatingReferenceIdeal.τ).loc Cert.GatingReferenceIdeal.main_arg6)
      ∧ r.2.mem ((c.tc : Thread Cert.GatingReferenceIdeal.nD Cert.GatingReferenceIdeal.τ).loc Cert.GatingReferenceIdeal.main_arg7) = m ((c.tc : Thread Cert.GatingReferenceIdeal.nD Cert.GatingReferenceIdeal.τ).loc Cert.GatingReferenceIdeal.main_arg7))
      ∧ r.2.sem = fun _ => 0)

def preserves_GainKernel_GainKernelIdeal : Prop :=
  True

def algebraic_GainKernelIdeal_GainReferenceIdeal [hGainKernelIdeal : Cert.GainKernelIdeal.Facts] [hGainReferenceIdeal : Cert.GainReferenceIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg)
    (m' : (ℓ : Loc Cert.GainReferenceIdeal.nD Cert.GainReferenceIdeal.τ Cert.GainReferenceIdeal.sig) → Buf (Elt Ideal) ℓ) (g' : Dev Cert.GainReferenceIdeal.nD → PrngReg), Pre_GainKernelIdeal m →
    (∀ c : Dev Cert.GainKernelIdeal.nD,
      m' ((c.tc : Thread Cert.GainReferenceIdeal.nD Cert.GainReferenceIdeal.τ).loc Cert.GainReferenceIdeal.main_arg0) = m ((c.tc : Thread Cert.GainKernelIdeal.nD Cert.GainKernelIdeal.τ).loc Cert.GainKernelIdeal.main_arg0)
      ∧ m' ((c.tc : Thread Cert.GainReferenceIdeal.nD Cert.GainReferenceIdeal.τ).loc Cert.GainReferenceIdeal.main_arg1) = m ((c.tc : Thread Cert.GainKernelIdeal.nD Cert.GainKernelIdeal.τ).loc Cert.GainKernelIdeal.main_arg1)
      ∧ m' ((c.tc : Thread Cert.GainReferenceIdeal.nD Cert.GainReferenceIdeal.τ).loc Cert.GainReferenceIdeal.main_arg2) = m ((c.tc : Thread Cert.GainKernelIdeal.nD Cert.GainKernelIdeal.τ).loc Cert.GainKernelIdeal.main_arg2)) →
    ∃ (v0 : (c : Dev Cert.GainKernelIdeal.nD) → Buf (Elt Ideal) ((c.tc : Thread Cert.GainKernelIdeal.nD Cert.GainKernelIdeal.τ).loc Cert.GainKernelIdeal.main_v0)),
      θ_run (Cert.GainKernelIdeal.defs (F := Ideal)) (onTc (τ := Cert.GainKernelIdeal.τ) (Cert.GainKernelIdeal.main (F := Ideal))) ⟨m, fun _ => 0, g⟩ (fun r => ∀ c : Dev Cert.GainKernelIdeal.nD,
          r.2.mem ((c.tc : Thread Cert.GainKernelIdeal.nD Cert.GainKernelIdeal.τ).loc Cert.GainKernelIdeal.main_v0) = v0 c
          ∧ r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
          ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
          ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2))
      ∧ θ_run (Cert.GainReferenceIdeal.defs (F := Ideal)) (onTc (τ := Cert.GainReferenceIdeal.τ) (Cert.GainReferenceIdeal.main (F := Ideal))) ⟨m', fun _ => 0, g'⟩ (fun r => ∀ c : Dev Cert.GainReferenceIdeal.nD,
          r.2.mem ((c.tc : Thread Cert.GainReferenceIdeal.nD Cert.GainReferenceIdeal.τ).loc Cert.GainReferenceIdeal.main_v28) = v0 c
          ∧ r.2.mem ((c.tc : Thread Cert.GainReferenceIdeal.nD Cert.GainReferenceIdeal.τ).loc Cert.GainReferenceIdeal.main_arg0) = m' ((c.tc : Thread Cert.GainReferenceIdeal.nD Cert.GainReferenceIdeal.τ).loc Cert.GainReferenceIdeal.main_arg0)
          ∧ r.2.mem ((c.tc : Thread Cert.GainReferenceIdeal.nD Cert.GainReferenceIdeal.τ).loc Cert.GainReferenceIdeal.main_arg1) = m' ((c.tc : Thread Cert.GainReferenceIdeal.nD Cert.GainReferenceIdeal.τ).loc Cert.GainReferenceIdeal.main_arg1)
          ∧ r.2.mem ((c.tc : Thread Cert.GainReferenceIdeal.nD Cert.GainReferenceIdeal.τ).loc Cert.GainReferenceIdeal.main_arg2) = m' ((c.tc : Thread Cert.GainReferenceIdeal.nD Cert.GainReferenceIdeal.τ).loc Cert.GainReferenceIdeal.main_arg2))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)) →
    ∃ (v0 : (c : Dev Cert.LossKernelIdeal.nD) → Buf (Elt Ideal) ((c.tc : Thread Cert.LossKernelIdeal.nD Cert.LossKernelIdeal.τ).loc Cert.LossKernelIdeal.main_v16_0)) (v1 : (c : Dev Cert.LossKernelIdeal.nD) → Buf (Elt Ideal) ((c.tc : Thread Cert.LossKernelIdeal.nD Cert.LossKernelIdeal.τ).loc Cert.LossKernelIdeal.main_v16_1)) (v2 : (c : Dev Cert.LossKernelIdeal.nD) → Buf (Elt Ideal) ((c.tc : Thread Cert.LossKernelIdeal.nD Cert.LossKernelIdeal.τ).loc Cert.LossKernelIdeal.main_v16_2)) (v3 : (c : Dev Cert.LossKernelIdeal.nD) → Buf (Elt Ideal) ((c.tc : Thread Cert.LossKernelIdeal.nD Cert.LossKernelIdeal.τ).loc Cert.LossKernelIdeal.main_v16_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v16_0) = v0 c
          ∧ r.2.mem ((c.tc : Thread Cert.LossKernelIdeal.nD Cert.LossKernelIdeal.τ).loc Cert.LossKernelIdeal.main_v16_1) = v1 c
          ∧ r.2.mem ((c.tc : Thread Cert.LossKernelIdeal.nD Cert.LossKernelIdeal.τ).loc Cert.LossKernelIdeal.main_v16_2) = v2 c
          ∧ r.2.mem ((c.tc : Thread Cert.LossKernelIdeal.nD Cert.LossKernelIdeal.τ).loc Cert.LossKernelIdeal.main_v16_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v31) = v1 c
          ∧ r.2.mem ((c.tc : Thread Cert.LossReferenceIdeal.nD Cert.LossReferenceIdeal.τ).loc Cert.LossReferenceIdeal.main_v53) = v2 c
          ∧ r.2.mem ((c.tc : Thread Cert.LossReferenceIdeal.nD Cert.LossReferenceIdeal.τ).loc Cert.LossReferenceIdeal.main_v54) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_GateKernel_GateKernelIdeal : Prop :=
  True

def algebraic_GateKernelIdeal_GateReferenceIdeal_pre_finite_gate [hGateKernelIdeal : Cert.GateKernelIdeal.Facts] [hGateReferenceIdeal : Cert.GateReferenceIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_finite_gate m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v3)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v3) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v10) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_NormKernel_NormKernelIdeal : Prop :=
  True

def algebraic_NormKernelIdeal_NormReferenceIdeal_pre_finite_norm [hNormKernelIdeal : Cert.NormKernelIdeal.Facts] [hNormReferenceIdeal : Cert.NormReferenceIdeal.Facts] [hPre_finite_norm : Cert.Pre_finite_norm.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_finite_norm m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)
      ∧ m' ((c.tc : Thread Cert.NormReferenceIdeal.nD Cert.NormReferenceIdeal.τ).loc Cert.NormReferenceIdeal.main_arg6) = m ((c.tc : Thread Cert.NormKernelIdeal.nD Cert.NormKernelIdeal.τ).loc Cert.NormKernelIdeal.main_arg6)) →
    ∃ (v0 : (c : Dev Cert.NormKernelIdeal.nD) → Buf (Elt Ideal) ((c.tc : Thread Cert.NormKernelIdeal.nD Cert.NormKernelIdeal.τ).loc Cert.NormKernelIdeal.main_v20_0)) (v1 : (c : Dev Cert.NormKernelIdeal.nD) → Buf (Elt Ideal) ((c.tc : Thread Cert.NormKernelIdeal.nD Cert.NormKernelIdeal.τ).loc Cert.NormKernelIdeal.main_v20_1)) (v2 : (c : Dev Cert.NormKernelIdeal.nD) → Buf (Elt Ideal) ((c.tc : Thread Cert.NormKernelIdeal.nD Cert.NormKernelIdeal.τ).loc Cert.NormKernelIdeal.main_v20_2)) (v3 : (c : Dev Cert.NormKernelIdeal.nD) → Buf (Elt Ideal) ((c.tc : Thread Cert.NormKernelIdeal.nD Cert.NormKernelIdeal.τ).loc Cert.NormKernelIdeal.main_v20_3)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v20_0) = v0 c
          ∧ r.2.mem ((c.tc : Thread Cert.NormKernelIdeal.nD Cert.NormKernelIdeal.τ).loc Cert.NormKernelIdeal.main_v20_1) = v1 c
          ∧ r.2.mem ((c.tc : Thread Cert.NormKernelIdeal.nD Cert.NormKernelIdeal.τ).loc Cert.NormKernelIdeal.main_v20_2) = v2 c
          ∧ r.2.mem ((c.tc : Thread Cert.NormKernelIdeal.nD Cert.NormKernelIdeal.τ).loc Cert.NormKernelIdeal.main_v20_3) = v3 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
          ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v55) = v0 c
          ∧ r.2.mem ((c.tc : Thread Cert.NormReferenceIdeal.nD Cert.NormReferenceIdeal.τ).loc Cert.NormReferenceIdeal.main_v77) = v1 c
          ∧ r.2.mem ((c.tc : Thread Cert.NormReferenceIdeal.nD Cert.NormReferenceIdeal.τ).loc Cert.NormReferenceIdeal.main_v78) = v2 c
          ∧ r.2.mem ((c.tc : Thread Cert.NormReferenceIdeal.nD Cert.NormReferenceIdeal.τ).loc Cert.NormReferenceIdeal.main_v79) = v3 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6))

def preserves_NormTKernel_NormTKernelIdeal : Prop :=
  True

def algebraic_NormTKernelIdeal_NormTReferenceIdeal_pre_finite_normt [hNormTKernelIdeal : Cert.NormTKernelIdeal.Facts] [hNormTReferenceIdeal : Cert.NormTReferenceIdeal.Facts] [hPre_finite_normt : Cert.Pre_finite_normt.Facts] : Prop :=
  ∀ (m : (ℓ : Loc Cert.NormTKernelIdeal.nD Cert.NormTKernelIdeal.τ Cert.NormTKernelIdeal.sig) → Buf (Elt Ideal) ℓ) (g : Dev Cert.NormTKernelIdeal.nD → PrngReg)
    (m' : (ℓ : Loc Cert.NormTReferenceIdeal.nD Cert.NormTReferenceIdeal.τ Cert.NormTReferenceIdeal.sig) → Buf (Elt Ideal) ℓ) (g' : Dev Cert.NormTReferenceIdeal.nD → PrngReg), Pre_NormTKernelIdeal_finite_normt m →
    (∀ c : Dev Cert.NormTKernelIdeal.nD,
      m' ((c.tc : Thread Cert.NormTReferenceIdeal.nD Cert.NormTReferenceIdeal.τ).loc Cert.NormTReferenceIdeal.main_arg0) = m ((c.tc : Thread Cert.NormTKernelIdeal.nD Cert.NormTKernelIdeal.τ).loc Cert.NormTKernelIdeal.main_arg0)
      ∧ m' ((c.tc : Thread Cert.NormTReferenceIdeal.nD Cert.NormTReferenceIdeal.τ).loc Cert.NormTReferenceIdeal.main_arg1) = m ((c.tc : Thread Cert.NormTKernelIdeal.nD Cert.NormTKernelIdeal.τ).loc Cert.NormTKernelIdeal.main_arg1)
      ∧ m' ((c.tc : Thread Cert.NormTReferenceIdeal.nD Cert.NormTReferenceIdeal.τ).loc Cert.NormTReferenceIdeal.main_arg2) = m ((c.tc : Thread Cert.NormTKernelIdeal.nD Cert.NormTKernelIdeal.τ).loc Cert.NormTKernelIdeal.main_arg2)
      ∧ m' ((c.tc : Thread Cert.NormTReferenceIdeal.nD Cert.NormTReferenceIdeal.τ).loc Cert.NormTReferenceIdeal.main_arg3) = m ((c.tc : Thread Cert.NormTKernelIdeal.nD Cert.NormTKernelIdeal.τ).loc Cert.NormTKernelIdeal.main_arg3)
      ∧ m' ((c.tc : Thread Cert.NormTReferenceIdeal.nD Cert.NormTReferenceIdeal.τ).loc Cert.NormTReferenceIdeal.main_arg4) = m ((c.tc : Thread Cert.NormTKernelIdeal.nD Cert.NormTKernelIdeal.τ).loc Cert.NormTKernelIdeal.main_arg4)
      ∧ m' ((c.tc : Thread Cert.NormTReferenceIdeal.nD Cert.NormTReferenceIdeal.τ).loc Cert.NormTReferenceIdeal.main_arg5) = m ((c.tc : Thread Cert.NormTKernelIdeal.nD Cert.NormTKernelIdeal.τ).loc Cert.NormTKernelIdeal.main_arg5)
      ∧ m' ((c.tc : Thread Cert.NormTReferenceIdeal.nD Cert.NormTReferenceIdeal.τ).loc Cert.NormTReferenceIdeal.main_arg6) = m ((c.tc : Thread Cert.NormTKernelIdeal.nD Cert.NormTKernelIdeal.τ).loc Cert.NormTKernelIdeal.main_arg6)) →
    ∃ (v0 : (c : Dev Cert.NormTKernelIdeal.nD) → Buf (Elt Ideal) ((c.tc : Thread Cert.NormTKernelIdeal.nD Cert.NormTKernelIdeal.τ).loc Cert.NormTKernelIdeal.main_v19_0)) (v1 : (c : Dev Cert.NormTKernelIdeal.nD) → Buf (Elt Ideal) ((c.tc : Thread Cert.NormTKernelIdeal.nD Cert.NormTKernelIdeal.τ).loc Cert.NormTKernelIdeal.main_v19_1)) (v2 : (c : Dev Cert.NormTKernelIdeal.nD) → Buf (Elt Ideal) ((c.tc : Thread Cert.NormTKernelIdeal.nD Cert.NormTKernelIdeal.τ).loc Cert.NormTKernelIdeal.main_v19_2)) (v3 : (c : Dev Cert.NormTKernelIdeal.nD) → Buf (Elt Ideal) ((c.tc : Thread Cert.NormTKernelIdeal.nD Cert.NormTKernelIdeal.τ).loc Cert.NormTKernelIdeal.main_v19_3)),
      θ_run (Cert.NormTKernelIdeal.defs (F := Ideal)) (onTc (τ := Cert.NormTKernelIdeal.τ) (Cert.NormTKernelIdeal.main (F := Ideal))) ⟨m, fun _ => 0, g⟩ (fun r => ∀ c : Dev Cert.NormTKernelIdeal.nD,
          r.2.mem ((c.tc : Thread Cert.NormTKernelIdeal.nD Cert.NormTKernelIdeal.τ).loc Cert.NormTKernelIdeal.main_v19_0) = v0 c
          ∧ r.2.mem ((c.tc : Thread Cert.NormTKernelIdeal.nD Cert.NormTKernelIdeal.τ).loc Cert.NormTKernelIdeal.main_v19_1) = v1 c
          ∧ r.2.mem ((c.tc : Thread Cert.NormTKernelIdeal.nD Cert.NormTKernelIdeal.τ).loc Cert.NormTKernelIdeal.main_v19_2) = v2 c
          ∧ r.2.mem ((c.tc : Thread Cert.NormTKernelIdeal.nD Cert.NormTKernelIdeal.τ).loc Cert.NormTKernelIdeal.main_v19_3) = v3 c
          ∧ r.2.mem ((c.tc : Thread Cert.NormTKernelIdeal.nD Cert.NormTKernelIdeal.τ).loc Cert.NormTKernelIdeal.main_arg0) = m ((c.tc : Thread Cert.NormTKernelIdeal.nD Cert.NormTKernelIdeal.τ).loc Cert.NormTKernelIdeal.main_arg0)
          ∧ r.2.mem ((c.tc : Thread Cert.NormTKernelIdeal.nD Cert.NormTKernelIdeal.τ).loc Cert.NormTKernelIdeal.main_arg1) = m ((c.tc : Thread Cert.NormTKernelIdeal.nD Cert.NormTKernelIdeal.τ).loc Cert.NormTKernelIdeal.main_arg1)
          ∧ r.2.mem ((c.tc : Thread Cert.NormTKernelIdeal.nD Cert.NormTKernelIdeal.τ).loc Cert.NormTKernelIdeal.main_arg2) = m ((c.tc : Thread Cert.NormTKernelIdeal.nD Cert.NormTKernelIdeal.τ).loc Cert.NormTKernelIdeal.main_arg2)
          ∧ r.2.mem ((c.tc : Thread Cert.NormTKernelIdeal.nD Cert.NormTKernelIdeal.τ).loc Cert.NormTKernelIdeal.main_arg3) = m ((c.tc : Thread Cert.NormTKernelIdeal.nD Cert.NormTKernelIdeal.τ).loc Cert.NormTKernelIdeal.main_arg3)
          ∧ r.2.mem ((c.tc : Thread Cert.NormTKernelIdeal.nD Cert.NormTKernelIdeal.τ).loc Cert.NormTKernelIdeal.main_arg4) = m ((c.tc : Thread Cert.NormTKernelIdeal.nD Cert.NormTKernelIdeal.τ).loc Cert.NormTKernelIdeal.main_arg4)
          ∧ r.2.mem ((c.tc : Thread Cert.NormTKernelIdeal.nD Cert.NormTKernelIdeal.τ).loc Cert.NormTKernelIdeal.main_arg5) = m ((c.tc : Thread Cert.NormTKernelIdeal.nD Cert.NormTKernelIdeal.τ).loc Cert.NormTKernelIdeal.main_arg5)
          ∧ r.2.mem ((c.tc : Thread Cert.NormTKernelIdeal.nD Cert.NormTKernelIdeal.τ).loc Cert.NormTKernelIdeal.main_arg6) = m ((c.tc : Thread Cert.NormTKernelIdeal.nD Cert.NormTKernelIdeal.τ).loc Cert.NormTKernelIdeal.main_arg6))
      ∧ θ_run (Cert.NormTReferenceIdeal.defs (F := Ideal)) (onTc (τ := Cert.NormTReferenceIdeal.τ) (Cert.NormTReferenceIdeal.main (F := Ideal))) ⟨m', fun _ => 0, g'⟩ (fun r => ∀ c : Dev Cert.NormTReferenceIdeal.nD,
          r.2.mem ((c.tc : Thread Cert.NormTReferenceIdeal.nD Cert.NormTReferenceIdeal.τ).loc Cert.NormTReferenceIdeal.main_v55) = v0 c
          ∧ r.2.mem ((c.tc : Thread Cert.NormTReferenceIdeal.nD Cert.NormTReferenceIdeal.τ).loc Cert.NormTReferenceIdeal.main_v77) = v1 c
          ∧ r.2.mem ((c.tc : Thread Cert.NormTReferenceIdeal.nD Cert.NormTReferenceIdeal.τ).loc Cert.NormTReferenceIdeal.main_v78) = v2 c
          ∧ r.2.mem ((c.tc : Thread Cert.NormTReferenceIdeal.nD Cert.NormTReferenceIdeal.τ).loc Cert.NormTReferenceIdeal.main_v79) = v3 c
          ∧ r.2.mem ((c.tc : Thread Cert.NormTReferenceIdeal.nD Cert.NormTReferenceIdeal.τ).loc Cert.NormTReferenceIdeal.main_arg0) = m' ((c.tc : Thread Cert.NormTReferenceIdeal.nD Cert.NormTReferenceIdeal.τ).loc Cert.NormTReferenceIdeal.main_arg0)
          ∧ r.2.mem ((c.tc : Thread Cert.NormTReferenceIdeal.nD Cert.NormTReferenceIdeal.τ).loc Cert.NormTReferenceIdeal.main_arg1) = m' ((c.tc : Thread Cert.NormTReferenceIdeal.nD Cert.NormTReferenceIdeal.τ).loc Cert.NormTReferenceIdeal.main_arg1)
          ∧ r.2.mem ((c.tc : Thread Cert.NormTReferenceIdeal.nD Cert.NormTReferenceIdeal.τ).loc Cert.NormTReferenceIdeal.main_arg2) = m' ((c.tc : Thread Cert.NormTReferenceIdeal.nD Cert.NormTReferenceIdeal.τ).loc Cert.NormTReferenceIdeal.main_arg2)
          ∧ r.2.mem ((c.tc : Thread Cert.NormTReferenceIdeal.nD Cert.NormTReferenceIdeal.τ).loc Cert.NormTReferenceIdeal.main_arg3) = m' ((c.tc : Thread Cert.NormTReferenceIdeal.nD Cert.NormTReferenceIdeal.τ).loc Cert.NormTReferenceIdeal.main_arg3)
          ∧ r.2.mem ((c.tc : Thread Cert.NormTReferenceIdeal.nD Cert.NormTReferenceIdeal.τ).loc Cert.NormTReferenceIdeal.main_arg4) = m' ((c.tc : Thread Cert.NormTReferenceIdeal.nD Cert.NormTReferenceIdeal.τ).loc Cert.NormTReferenceIdeal.main_arg4)
          ∧ r.2.mem ((c.tc : Thread Cert.NormTReferenceIdeal.nD Cert.NormTReferenceIdeal.τ).loc Cert.NormTReferenceIdeal.main_arg5) = m' ((c.tc : Thread Cert.NormTReferenceIdeal.nD Cert.NormTReferenceIdeal.τ).loc Cert.NormTReferenceIdeal.main_arg5)
          ∧ r.2.mem ((c.tc : Thread Cert.NormTReferenceIdeal.nD Cert.NormTReferenceIdeal.τ).loc Cert.NormTReferenceIdeal.main_arg6) = m' ((c.tc : Thread Cert.NormTReferenceIdeal.nD Cert.NormTReferenceIdeal.τ).loc Cert.NormTReferenceIdeal.main_arg6))

def preserves_FirstKernel_FirstKernelIdeal : Prop :=
  True

def algebraic_FirstKernelIdeal_FirstReferenceIdeal_pre_finite_first [hFirstKernelIdeal : Cert.FirstKernelIdeal.Facts] [hFirstReferenceIdeal : Cert.FirstReferenceIdeal.Facts] [hPre_finite_first : Cert.Pre_finite_first.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal_finite_first m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)) →
    ∃ (v0 : (c : Dev Cert.FirstKernelIdeal.nD) → Buf (Elt Ideal) ((c.tc : Thread Cert.FirstKernelIdeal.nD Cert.FirstKernelIdeal.τ).loc Cert.FirstKernelIdeal.main_v4_0)) (v1 : (c : Dev Cert.FirstKernelIdeal.nD) → Buf (Elt Ideal) ((c.tc : Thread Cert.FirstKernelIdeal.nD Cert.FirstKernelIdeal.τ).loc Cert.FirstKernelIdeal.main_v4_1)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v4_0) = v0 c
          ∧ r.2.mem ((c.tc : Thread Cert.FirstKernelIdeal.nD Cert.FirstKernelIdeal.τ).loc Cert.FirstKernelIdeal.main_v4_1) = v1 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v38) = v0 c
          ∧ r.2.mem ((c.tc : Thread Cert.FirstReferenceIdeal.nD Cert.FirstReferenceIdeal.τ).loc Cert.FirstReferenceIdeal.main_v39) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4))

def preserves_XattnKernel_XattnKernelIdeal : Prop :=
  True

def algebraic_XattnKernelIdeal_XattnReferenceIdeal_pre_finite_xattn [hXattnKernelIdeal : Cert.XattnKernelIdeal.Facts] [hXattnReferenceIdeal : Cert.XattnReferenceIdeal.Facts] [hPre_finite_xattn : Cert.Pre_finite_xattn.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnKernelIdeal_finite_xattn m →
    (∀ c : Dev Cert.XattnKernelIdeal.nD,
      m' ((c.tc : Thread Cert.XattnReferenceIdeal.nD Cert.XattnReferenceIdeal.τ).loc Cert.XattnReferenceIdeal.main_arg0) = m ((c.tc : Thread Cert.XattnKernelIdeal.nD Cert.XattnKernelIdeal.τ).loc Cert.XattnKernelIdeal.main_arg0)
      ∧ m' ((c.tc : Thread Cert.XattnReferenceIdeal.nD Cert.XattnReferenceIdeal.τ).loc Cert.XattnReferenceIdeal.main_arg1) = m ((c.tc : Thread Cert.XattnKernelIdeal.nD Cert.XattnKernelIdeal.τ).loc Cert.XattnKernelIdeal.main_arg1)
      ∧ m' ((c.tc : Thread Cert.XattnReferenceIdeal.nD Cert.XattnReferenceIdeal.τ).loc Cert.XattnReferenceIdeal.main_arg2) = m ((c.tc : Thread Cert.XattnKernelIdeal.nD Cert.XattnKernelIdeal.τ).loc Cert.XattnKernelIdeal.main_arg2)) →
    ∃ (v0 : (c : Dev Cert.XattnKernelIdeal.nD) → Buf (Elt Ideal) ((c.tc : Thread Cert.XattnKernelIdeal.nD Cert.XattnKernelIdeal.τ).loc Cert.XattnKernelIdeal.main_v3_0)) (v1 : (c : Dev Cert.XattnKernelIdeal.nD) → Buf (Elt Ideal) ((c.tc : Thread Cert.XattnKernelIdeal.nD Cert.XattnKernelIdeal.τ).loc Cert.XattnKernelIdeal.main_v3_1)),
      θ_run (Cert.XattnKernelIdeal.defs (F := Ideal)) (onTc (τ := Cert.XattnKernelIdeal.τ) (Cert.XattnKernelIdeal.main (F := Ideal))) ⟨m, fun _ => 0, g⟩ (fun r => ∀ c : Dev Cert.XattnKernelIdeal.nD,
          r.2.mem ((c.tc : Thread Cert.XattnKernelIdeal.nD Cert.XattnKernelIdeal.τ).loc Cert.XattnKernelIdeal.main_v3_0) = v0 c
          ∧ r.2.mem ((c.tc : Thread Cert.XattnKernelIdeal.nD Cert.XattnKernelIdeal.τ).loc Cert.XattnKernelIdeal.main_v3_1) = v1 c
          ∧ r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
          ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
          ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v69) = v0 c
          ∧ r.2.mem ((c.tc : Thread Cert.XattnReferenceIdeal.nD Cert.XattnReferenceIdeal.τ).loc Cert.XattnReferenceIdeal.main_v67) = v1 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2))

def preserves_XattnFKernel_XattnFKernelIdeal : Prop :=
  True

def algebraic_XattnFKernelIdeal_XattnFReferenceIdeal_pre_finite_xattnf [hXattnFKernelIdeal : Cert.XattnFKernelIdeal.Facts] [hXattnFReferenceIdeal : Cert.XattnFReferenceIdeal.Facts] [hPre_finite_xattnf : Cert.Pre_finite_xattnf.Facts] : Prop :=
  ∀ (m : (ℓ : Loc Cert.XattnFKernelIdeal.nD Cert.XattnFKernelIdeal.τ Cert.XattnFKernelIdeal.sig) → Buf (Elt Ideal) ℓ) (g : Dev Cert.XattnFKernelIdeal.nD → PrngReg)
    (m' : (ℓ : Loc Cert.XattnFReferenceIdeal.nD Cert.XattnFReferenceIdeal.τ Cert.XattnFReferenceIdeal.sig) → Buf (Elt Ideal) ℓ) (g' : Dev Cert.XattnFReferenceIdeal.nD → PrngReg), Pre_XattnFKernelIdeal_finite_xattnf m →
    (∀ c : Dev Cert.XattnFKernelIdeal.nD,
      m' ((c.tc : Thread Cert.XattnFReferenceIdeal.nD Cert.XattnFReferenceIdeal.τ).loc Cert.XattnFReferenceIdeal.main_arg0) = m ((c.tc : Thread Cert.XattnFKernelIdeal.nD Cert.XattnFKernelIdeal.τ).loc Cert.XattnFKernelIdeal.main_arg0)
      ∧ m' ((c.tc : Thread Cert.XattnFReferenceIdeal.nD Cert.XattnFReferenceIdeal.τ).loc Cert.XattnFReferenceIdeal.main_arg1) = m ((c.tc : Thread Cert.XattnFKernelIdeal.nD Cert.XattnFKernelIdeal.τ).loc Cert.XattnFKernelIdeal.main_arg1)) →
    ∃ (v0 : (c : Dev Cert.XattnFKernelIdeal.nD) → Buf (Elt Ideal) ((c.tc : Thread Cert.XattnFKernelIdeal.nD Cert.XattnFKernelIdeal.τ).loc Cert.XattnFKernelIdeal.main_v2)),
      θ_run (Cert.XattnFKernelIdeal.defs (F := Ideal)) (onTc (τ := Cert.XattnFKernelIdeal.τ) (Cert.XattnFKernelIdeal.main (F := Ideal))) ⟨m, fun _ => 0, g⟩ (fun r => ∀ c : Dev Cert.XattnFKernelIdeal.nD,
          r.2.mem ((c.tc : Thread Cert.XattnFKernelIdeal.nD Cert.XattnFKernelIdeal.τ).loc Cert.XattnFKernelIdeal.main_v2) = v0 c
          ∧ r.2.mem ((c.tc : Thread Cert.XattnFKernelIdeal.nD Cert.XattnFKernelIdeal.τ).loc Cert.XattnFKernelIdeal.main_arg0) = m ((c.tc : Thread Cert.XattnFKernelIdeal.nD Cert.XattnFKernelIdeal.τ).loc Cert.XattnFKernelIdeal.main_arg0)
          ∧ r.2.mem ((c.tc : Thread Cert.XattnFKernelIdeal.nD Cert.XattnFKernelIdeal.τ).loc Cert.XattnFKernelIdeal.main_arg1) = m ((c.tc : Thread Cert.XattnFKernelIdeal.nD Cert.XattnFKernelIdeal.τ).loc Cert.XattnFKernelIdeal.main_arg1))
      ∧ θ_run (Cert.XattnFReferenceIdeal.defs (F := Ideal)) (onTc (τ := Cert.XattnFReferenceIdeal.τ) (Cert.XattnFReferenceIdeal.main (F := Ideal))) ⟨m', fun _ => 0, g'⟩ (fun r => ∀ c : Dev Cert.XattnFReferenceIdeal.nD,
          r.2.mem ((c.tc : Thread Cert.XattnFReferenceIdeal.nD Cert.XattnFReferenceIdeal.τ).loc Cert.XattnFReferenceIdeal.main_v23) = v0 c
          ∧ r.2.mem ((c.tc : Thread Cert.XattnFReferenceIdeal.nD Cert.XattnFReferenceIdeal.τ).loc Cert.XattnFReferenceIdeal.main_arg0) = m' ((c.tc : Thread Cert.XattnFReferenceIdeal.nD Cert.XattnFReferenceIdeal.τ).loc Cert.XattnFReferenceIdeal.main_arg0)
          ∧ r.2.mem ((c.tc : Thread Cert.XattnFReferenceIdeal.nD Cert.XattnFReferenceIdeal.τ).loc Cert.XattnFReferenceIdeal.main_arg1) = m' ((c.tc : Thread Cert.XattnFReferenceIdeal.nD Cert.XattnFReferenceIdeal.τ).loc Cert.XattnFReferenceIdeal.main_arg1))

def preserves_MixOKernel_MixOKernelIdeal : Prop :=
  True

def algebraic_MixOKernelIdeal_MixOReferenceIdeal [hMixOKernelIdeal : Cert.MixOKernelIdeal.Facts] [hMixOReferenceIdeal : Cert.MixOReferenceIdeal.Facts] : Prop :=
  ∀ (m : (ℓ : Loc Cert.MixOKernelIdeal.nD Cert.MixOKernelIdeal.τ Cert.MixOKernelIdeal.sig) → Buf (Elt Ideal) ℓ) (g : Dev Cert.MixOKernelIdeal.nD → PrngReg)
    (m' : (ℓ : Loc Cert.MixOReferenceIdeal.nD Cert.MixOReferenceIdeal.τ Cert.MixOReferenceIdeal.sig) → Buf (Elt Ideal) ℓ) (g' : Dev Cert.MixOReferenceIdeal.nD → PrngReg), Pre_MixOKernelIdeal m →
    (∀ c : Dev Cert.MixOKernelIdeal.nD,
      m' ((c.tc : Thread Cert.MixOReferenceIdeal.nD Cert.MixOReferenceIdeal.τ).loc Cert.MixOReferenceIdeal.main_arg0) = m ((c.tc : Thread Cert.MixOKernelIdeal.nD Cert.MixOKernelIdeal.τ).loc Cert.MixOKernelIdeal.main_arg0)
      ∧ m' ((c.tc : Thread Cert.MixOReferenceIdeal.nD Cert.MixOReferenceIdeal.τ).loc Cert.MixOReferenceIdeal.main_arg1) = m ((c.tc : Thread Cert.MixOKernelIdeal.nD Cert.MixOKernelIdeal.τ).loc Cert.MixOKernelIdeal.main_arg1)
      ∧ m' ((c.tc : Thread Cert.MixOReferenceIdeal.nD Cert.MixOReferenceIdeal.τ).loc Cert.MixOReferenceIdeal.main_arg2) = m ((c.tc : Thread Cert.MixOKernelIdeal.nD Cert.MixOKernelIdeal.τ).loc Cert.MixOKernelIdeal.main_arg2)
      ∧ m' ((c.tc : Thread Cert.MixOReferenceIdeal.nD Cert.MixOReferenceIdeal.τ).loc Cert.MixOReferenceIdeal.main_arg3) = m ((c.tc : Thread Cert.MixOKernelIdeal.nD Cert.MixOKernelIdeal.τ).loc Cert.MixOKernelIdeal.main_arg3)
      ∧ m' ((c.tc : Thread Cert.MixOReferenceIdeal.nD Cert.MixOReferenceIdeal.τ).loc Cert.MixOReferenceIdeal.main_arg4) = m ((c.tc : Thread Cert.MixOKernelIdeal.nD Cert.MixOKernelIdeal.τ).loc Cert.MixOKernelIdeal.main_arg4)) →
    ∃ (v0 : (c : Dev Cert.MixOKernelIdeal.nD) → Buf (Elt Ideal) ((c.tc : Thread Cert.MixOKernelIdeal.nD Cert.MixOKernelIdeal.τ).loc Cert.MixOKernelIdeal.main_v4_0)) (v1 : (c : Dev Cert.MixOKernelIdeal.nD) → Buf (Elt Ideal) ((c.tc : Thread Cert.MixOKernelIdeal.nD Cert.MixOKernelIdeal.τ).loc Cert.MixOKernelIdeal.main_v4_1)) (v2 : (c : Dev Cert.MixOKernelIdeal.nD) → Buf (Elt Ideal) ((c.tc : Thread Cert.MixOKernelIdeal.nD Cert.MixOKernelIdeal.τ).loc Cert.MixOKernelIdeal.main_v4_2)),
      θ_run (Cert.MixOKernelIdeal.defs (F := Ideal)) (onTc (τ := Cert.MixOKernelIdeal.τ) (Cert.MixOKernelIdeal.main (F := Ideal))) ⟨m, fun _ => 0, g⟩ (fun r => ∀ c : Dev Cert.MixOKernelIdeal.nD,
          r.2.mem ((c.tc : Thread Cert.MixOKernelIdeal.nD Cert.MixOKernelIdeal.τ).loc Cert.MixOKernelIdeal.main_v4_0) = v0 c
          ∧ r.2.mem ((c.tc : Thread Cert.MixOKernelIdeal.nD Cert.MixOKernelIdeal.τ).loc Cert.MixOKernelIdeal.main_v4_1) = v1 c
          ∧ r.2.mem ((c.tc : Thread Cert.MixOKernelIdeal.nD Cert.MixOKernelIdeal.τ).loc Cert.MixOKernelIdeal.main_v4_2) = v2 c
          ∧ r.2.mem ((c.tc : Thread Cert.MixOKernelIdeal.nD Cert.MixOKernelIdeal.τ).loc Cert.MixOKernelIdeal.main_arg0) = m ((c.tc : Thread Cert.MixOKernelIdeal.nD Cert.MixOKernelIdeal.τ).loc Cert.MixOKernelIdeal.main_arg0)
          ∧ r.2.mem ((c.tc : Thread Cert.MixOKernelIdeal.nD Cert.MixOKernelIdeal.τ).loc Cert.MixOKernelIdeal.main_arg1) = m ((c.tc : Thread Cert.MixOKernelIdeal.nD Cert.MixOKernelIdeal.τ).loc Cert.MixOKernelIdeal.main_arg1)
          ∧ r.2.mem ((c.tc : Thread Cert.MixOKernelIdeal.nD Cert.MixOKernelIdeal.τ).loc Cert.MixOKernelIdeal.main_arg2) = m ((c.tc : Thread Cert.MixOKernelIdeal.nD Cert.MixOKernelIdeal.τ).loc Cert.MixOKernelIdeal.main_arg2)
          ∧ r.2.mem ((c.tc : Thread Cert.MixOKernelIdeal.nD Cert.MixOKernelIdeal.τ).loc Cert.MixOKernelIdeal.main_arg3) = m ((c.tc : Thread Cert.MixOKernelIdeal.nD Cert.MixOKernelIdeal.τ).loc Cert.MixOKernelIdeal.main_arg3)
          ∧ r.2.mem ((c.tc : Thread Cert.MixOKernelIdeal.nD Cert.MixOKernelIdeal.τ).loc Cert.MixOKernelIdeal.main_arg4) = m ((c.tc : Thread Cert.MixOKernelIdeal.nD Cert.MixOKernelIdeal.τ).loc Cert.MixOKernelIdeal.main_arg4))
      ∧ θ_run (Cert.MixOReferenceIdeal.defs (F := Ideal)) (onTc (τ := Cert.MixOReferenceIdeal.τ) (Cert.MixOReferenceIdeal.main (F := Ideal))) ⟨m', fun _ => 0, g'⟩ (fun r => ∀ c : Dev Cert.MixOReferenceIdeal.nD,
          r.2.mem ((c.tc : Thread Cert.MixOReferenceIdeal.nD Cert.MixOReferenceIdeal.τ).loc Cert.MixOReferenceIdeal.main_v15) = v0 c
          ∧ r.2.mem ((c.tc : Thread Cert.MixOReferenceIdeal.nD Cert.MixOReferenceIdeal.τ).loc Cert.MixOReferenceIdeal.main_v14) = v1 c
          ∧ r.2.mem ((c.tc : Thread Cert.MixOReferenceIdeal.nD Cert.MixOReferenceIdeal.τ).loc Cert.MixOReferenceIdeal.main_v29) = v2 c
          ∧ r.2.mem ((c.tc : Thread Cert.MixOReferenceIdeal.nD Cert.MixOReferenceIdeal.τ).loc Cert.MixOReferenceIdeal.main_arg0) = m' ((c.tc : Thread Cert.MixOReferenceIdeal.nD Cert.MixOReferenceIdeal.τ).loc Cert.MixOReferenceIdeal.main_arg0)
          ∧ r.2.mem ((c.tc : Thread Cert.MixOReferenceIdeal.nD Cert.MixOReferenceIdeal.τ).loc Cert.MixOReferenceIdeal.main_arg1) = m' ((c.tc : Thread Cert.MixOReferenceIdeal.nD Cert.MixOReferenceIdeal.τ).loc Cert.MixOReferenceIdeal.main_arg1)
          ∧ r.2.mem ((c.tc : Thread Cert.MixOReferenceIdeal.nD Cert.MixOReferenceIdeal.τ).loc Cert.MixOReferenceIdeal.main_arg2) = m' ((c.tc : Thread Cert.MixOReferenceIdeal.nD Cert.MixOReferenceIdeal.τ).loc Cert.MixOReferenceIdeal.main_arg2)
          ∧ r.2.mem ((c.tc : Thread Cert.MixOReferenceIdeal.nD Cert.MixOReferenceIdeal.τ).loc Cert.MixOReferenceIdeal.main_arg3) = m' ((c.tc : Thread Cert.MixOReferenceIdeal.nD Cert.MixOReferenceIdeal.τ).loc Cert.MixOReferenceIdeal.main_arg3)
          ∧ r.2.mem ((c.tc : Thread Cert.MixOReferenceIdeal.nD Cert.MixOReferenceIdeal.τ).loc Cert.MixOReferenceIdeal.main_arg4) = m' ((c.tc : Thread Cert.MixOReferenceIdeal.nD Cert.MixOReferenceIdeal.τ).loc Cert.MixOReferenceIdeal.main_arg4))

def preserves_FfnOKernel_FfnOKernelIdeal : Prop :=
  True

def algebraic_FfnOKernelIdeal_FfnOReferenceIdeal [hFfnOKernelIdeal : Cert.FfnOKernelIdeal.Facts] [hFfnOReferenceIdeal : Cert.FfnOReferenceIdeal.Facts] : Prop :=
  ∀ (m : (ℓ : Loc Cert.FfnOKernelIdeal.nD Cert.FfnOKernelIdeal.τ Cert.FfnOKernelIdeal.sig) → Buf (Elt Ideal) ℓ) (g : Dev Cert.FfnOKernelIdeal.nD → PrngReg)
    (m' : (ℓ : Loc Cert.FfnOReferenceIdeal.nD Cert.FfnOReferenceIdeal.τ Cert.FfnOReferenceIdeal.sig) → Buf (Elt Ideal) ℓ) (g' : Dev Cert.FfnOReferenceIdeal.nD → PrngReg), Pre_FfnOKernelIdeal m →
    (∀ c : Dev Cert.FfnOKernelIdeal.nD,
      m' ((c.tc : Thread Cert.FfnOReferenceIdeal.nD Cert.FfnOReferenceIdeal.τ).loc Cert.FfnOReferenceIdeal.main_arg0) = m ((c.tc : Thread Cert.FfnOKernelIdeal.nD Cert.FfnOKernelIdeal.τ).loc Cert.FfnOKernelIdeal.main_arg0)
      ∧ m' ((c.tc : Thread Cert.FfnOReferenceIdeal.nD Cert.FfnOReferenceIdeal.τ).loc Cert.FfnOReferenceIdeal.main_arg1) = m ((c.tc : Thread Cert.FfnOKernelIdeal.nD Cert.FfnOKernelIdeal.τ).loc Cert.FfnOKernelIdeal.main_arg1)
      ∧ m' ((c.tc : Thread Cert.FfnOReferenceIdeal.nD Cert.FfnOReferenceIdeal.τ).loc Cert.FfnOReferenceIdeal.main_arg2) = m ((c.tc : Thread Cert.FfnOKernelIdeal.nD Cert.FfnOKernelIdeal.τ).loc Cert.FfnOKernelIdeal.main_arg2)
      ∧ m' ((c.tc : Thread Cert.FfnOReferenceIdeal.nD Cert.FfnOReferenceIdeal.τ).loc Cert.FfnOReferenceIdeal.main_arg3) = m ((c.tc : Thread Cert.FfnOKernelIdeal.nD Cert.FfnOKernelIdeal.τ).loc Cert.FfnOKernelIdeal.main_arg3)
      ∧ m' ((c.tc : Thread Cert.FfnOReferenceIdeal.nD Cert.FfnOReferenceIdeal.τ).loc Cert.FfnOReferenceIdeal.main_arg4) = m ((c.tc : Thread Cert.FfnOKernelIdeal.nD Cert.FfnOKernelIdeal.τ).loc Cert.FfnOKernelIdeal.main_arg4)) →
    ∃ (v0 : (c : Dev Cert.FfnOKernelIdeal.nD) → Buf (Elt Ideal) ((c.tc : Thread Cert.FfnOKernelIdeal.nD Cert.FfnOKernelIdeal.τ).loc Cert.FfnOKernelIdeal.main_v4_0)) (v1 : (c : Dev Cert.FfnOKernelIdeal.nD) → Buf (Elt Ideal) ((c.tc : Thread Cert.FfnOKernelIdeal.nD Cert.FfnOKernelIdeal.τ).loc Cert.FfnOKernelIdeal.main_v4_1)) (v2 : (c : Dev Cert.FfnOKernelIdeal.nD) → Buf (Elt Ideal) ((c.tc : Thread Cert.FfnOKernelIdeal.nD Cert.FfnOKernelIdeal.τ).loc Cert.FfnOKernelIdeal.main_v4_2)) (v3 : (c : Dev Cert.FfnOKernelIdeal.nD) → Buf (Elt Ideal) ((c.tc : Thread Cert.FfnOKernelIdeal.nD Cert.FfnOKernelIdeal.τ).loc Cert.FfnOKernelIdeal.main_v4_3)),
      θ_run (Cert.FfnOKernelIdeal.defs (F := Ideal)) (onTc (τ := Cert.FfnOKernelIdeal.τ) (Cert.FfnOKernelIdeal.main (F := Ideal))) ⟨m, fun _ => 0, g⟩ (fun r => ∀ c : Dev Cert.FfnOKernelIdeal.nD,
          r.2.mem ((c.tc : Thread Cert.FfnOKernelIdeal.nD Cert.FfnOKernelIdeal.τ).loc Cert.FfnOKernelIdeal.main_v4_0) = v0 c
          ∧ r.2.mem ((c.tc : Thread Cert.FfnOKernelIdeal.nD Cert.FfnOKernelIdeal.τ).loc Cert.FfnOKernelIdeal.main_v4_1) = v1 c
          ∧ r.2.mem ((c.tc : Thread Cert.FfnOKernelIdeal.nD Cert.FfnOKernelIdeal.τ).loc Cert.FfnOKernelIdeal.main_v4_2) = v2 c
          ∧ r.2.mem ((c.tc : Thread Cert.FfnOKernelIdeal.nD Cert.FfnOKernelIdeal.τ).loc Cert.FfnOKernelIdeal.main_v4_3) = v3 c
          ∧ r.2.mem ((c.tc : Thread Cert.FfnOKernelIdeal.nD Cert.FfnOKernelIdeal.τ).loc Cert.FfnOKernelIdeal.main_arg0) = m ((c.tc : Thread Cert.FfnOKernelIdeal.nD Cert.FfnOKernelIdeal.τ).loc Cert.FfnOKernelIdeal.main_arg0)
          ∧ r.2.mem ((c.tc : Thread Cert.FfnOKernelIdeal.nD Cert.FfnOKernelIdeal.τ).loc Cert.FfnOKernelIdeal.main_arg1) = m ((c.tc : Thread Cert.FfnOKernelIdeal.nD Cert.FfnOKernelIdeal.τ).loc Cert.FfnOKernelIdeal.main_arg1)
          ∧ r.2.mem ((c.tc : Thread Cert.FfnOKernelIdeal.nD Cert.FfnOKernelIdeal.τ).loc Cert.FfnOKernelIdeal.main_arg2) = m ((c.tc : Thread Cert.FfnOKernelIdeal.nD Cert.FfnOKernelIdeal.τ).loc Cert.FfnOKernelIdeal.main_arg2)
          ∧ r.2.mem ((c.tc : Thread Cert.FfnOKernelIdeal.nD Cert.FfnOKernelIdeal.τ).loc Cert.FfnOKernelIdeal.main_arg3) = m ((c.tc : Thread Cert.FfnOKernelIdeal.nD Cert.FfnOKernelIdeal.τ).loc Cert.FfnOKernelIdeal.main_arg3)
          ∧ r.2.mem ((c.tc : Thread Cert.FfnOKernelIdeal.nD Cert.FfnOKernelIdeal.τ).loc Cert.FfnOKernelIdeal.main_arg4) = m ((c.tc : Thread Cert.FfnOKernelIdeal.nD Cert.FfnOKernelIdeal.τ).loc Cert.FfnOKernelIdeal.main_arg4))
      ∧ θ_run (Cert.FfnOReferenceIdeal.defs (F := Ideal)) (onTc (τ := Cert.FfnOReferenceIdeal.τ) (Cert.FfnOReferenceIdeal.main (F := Ideal))) ⟨m', fun _ => 0, g'⟩ (fun r => ∀ c : Dev Cert.FfnOReferenceIdeal.nD,
          r.2.mem ((c.tc : Thread Cert.FfnOReferenceIdeal.nD Cert.FfnOReferenceIdeal.τ).loc Cert.FfnOReferenceIdeal.main_v19) = v0 c
          ∧ r.2.mem ((c.tc : Thread Cert.FfnOReferenceIdeal.nD Cert.FfnOReferenceIdeal.τ).loc Cert.FfnOReferenceIdeal.main_v18) = v1 c
          ∧ r.2.mem ((c.tc : Thread Cert.FfnOReferenceIdeal.nD Cert.FfnOReferenceIdeal.τ).loc Cert.FfnOReferenceIdeal.main_v20) = v2 c
          ∧ r.2.mem ((c.tc : Thread Cert.FfnOReferenceIdeal.nD Cert.FfnOReferenceIdeal.τ).loc Cert.FfnOReferenceIdeal.main_v34) = v3 c
          ∧ r.2.mem ((c.tc : Thread Cert.FfnOReferenceIdeal.nD Cert.FfnOReferenceIdeal.τ).loc Cert.FfnOReferenceIdeal.main_arg0) = m' ((c.tc : Thread Cert.FfnOReferenceIdeal.nD Cert.FfnOReferenceIdeal.τ).loc Cert.FfnOReferenceIdeal.main_arg0)
          ∧ r.2.mem ((c.tc : Thread Cert.FfnOReferenceIdeal.nD Cert.FfnOReferenceIdeal.τ).loc Cert.FfnOReferenceIdeal.main_arg1) = m' ((c.tc : Thread Cert.FfnOReferenceIdeal.nD Cert.FfnOReferenceIdeal.τ).loc Cert.FfnOReferenceIdeal.main_arg1)
          ∧ r.2.mem ((c.tc : Thread Cert.FfnOReferenceIdeal.nD Cert.FfnOReferenceIdeal.τ).loc Cert.FfnOReferenceIdeal.main_arg2) = m' ((c.tc : Thread Cert.FfnOReferenceIdeal.nD Cert.FfnOReferenceIdeal.τ).loc Cert.FfnOReferenceIdeal.main_arg2)
          ∧ r.2.mem ((c.tc : Thread Cert.FfnOReferenceIdeal.nD Cert.FfnOReferenceIdeal.τ).loc Cert.FfnOReferenceIdeal.main_arg3) = m' ((c.tc : Thread Cert.FfnOReferenceIdeal.nD Cert.FfnOReferenceIdeal.τ).loc Cert.FfnOReferenceIdeal.main_arg3)
          ∧ r.2.mem ((c.tc : Thread Cert.FfnOReferenceIdeal.nD Cert.FfnOReferenceIdeal.τ).loc Cert.FfnOReferenceIdeal.main_arg4) = m' ((c.tc : Thread Cert.FfnOReferenceIdeal.nD Cert.FfnOReferenceIdeal.τ).loc Cert.FfnOReferenceIdeal.main_arg4))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)) →
    ∃ (v0 : (c : Dev Cert.RopeKernelIdeal.nD) → Buf (Elt Ideal) ((c.tc : Thread Cert.RopeKernelIdeal.nD Cert.RopeKernelIdeal.τ).loc Cert.RopeKernelIdeal.main_v11_0)) (v1 : (c : Dev Cert.RopeKernelIdeal.nD) → Buf (Elt Ideal) ((c.tc : Thread Cert.RopeKernelIdeal.nD Cert.RopeKernelIdeal.τ).loc Cert.RopeKernelIdeal.main_v11_1)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v11_0) = v0 c
          ∧ r.2.mem ((c.tc : Thread Cert.RopeKernelIdeal.nD Cert.RopeKernelIdeal.τ).loc Cert.RopeKernelIdeal.main_v11_1) = v1 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v15) = v0 c
          ∧ r.2.mem ((c.tc : Thread Cert.RopeReferenceIdeal.nD Cert.RopeReferenceIdeal.τ).loc Cert.RopeReferenceIdeal.main_v18) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def preserves_MmKernel_MmKernelIdeal : Prop :=
  True

def algebraic_MmKernelIdeal_MmReferenceIdeal [hMmKernelIdeal : Cert.MmKernelIdeal.Facts] [hMmReferenceIdeal : Cert.MmReferenceIdeal.Facts] : Prop :=
  ∀ (m : (ℓ : Loc Cert.MmKernelIdeal.nD Cert.MmKernelIdeal.τ Cert.MmKernelIdeal.sig) → Buf (Elt Ideal) ℓ) (g : Dev Cert.MmKernelIdeal.nD → PrngReg)
    (m' : (ℓ : Loc Cert.MmReferenceIdeal.nD Cert.MmReferenceIdeal.τ Cert.MmReferenceIdeal.sig) → Buf (Elt Ideal) ℓ) (g' : Dev Cert.MmReferenceIdeal.nD → PrngReg), Pre_MmKernelIdeal m →
    (∀ c : Dev Cert.MmKernelIdeal.nD,
      m' ((c.tc : Thread Cert.MmReferenceIdeal.nD Cert.MmReferenceIdeal.τ).loc Cert.MmReferenceIdeal.main_arg0) = m ((c.tc : Thread Cert.MmKernelIdeal.nD Cert.MmKernelIdeal.τ).loc Cert.MmKernelIdeal.main_arg0)
      ∧ m' ((c.tc : Thread Cert.MmReferenceIdeal.nD Cert.MmReferenceIdeal.τ).loc Cert.MmReferenceIdeal.main_arg1) = m ((c.tc : Thread Cert.MmKernelIdeal.nD Cert.MmKernelIdeal.τ).loc Cert.MmKernelIdeal.main_arg1)) →
    ∃ (v0 : (c : Dev Cert.MmKernelIdeal.nD) → Buf (Elt Ideal) ((c.tc : Thread Cert.MmKernelIdeal.nD Cert.MmKernelIdeal.τ).loc Cert.MmKernelIdeal.main_v3)),
      θ_run (Cert.MmKernelIdeal.defs (F := Ideal)) (onTc (τ := Cert.MmKernelIdeal.τ) (Cert.MmKernelIdeal.main (F := Ideal))) ⟨m, fun _ => 0, g⟩ (fun r => ∀ c : Dev Cert.MmKernelIdeal.nD,
          r.2.mem ((c.tc : Thread Cert.MmKernelIdeal.nD Cert.MmKernelIdeal.τ).loc Cert.MmKernelIdeal.main_v3) = v0 c
          ∧ r.2.mem ((c.tc : Thread Cert.MmKernelIdeal.nD Cert.MmKernelIdeal.τ).loc Cert.MmKernelIdeal.main_arg0) = m ((c.tc : Thread Cert.MmKernelIdeal.nD Cert.MmKernelIdeal.τ).loc Cert.MmKernelIdeal.main_arg0)
          ∧ r.2.mem ((c.tc : Thread Cert.MmKernelIdeal.nD Cert.MmKernelIdeal.τ).loc Cert.MmKernelIdeal.main_arg1) = m ((c.tc : Thread Cert.MmKernelIdeal.nD Cert.MmKernelIdeal.τ).loc Cert.MmKernelIdeal.main_arg1))
      ∧ θ_run (Cert.MmReferenceIdeal.defs (F := Ideal)) (onTc (τ := Cert.MmReferenceIdeal.τ) (Cert.MmReferenceIdeal.main (F := Ideal))) ⟨m', fun _ => 0, g'⟩ (fun r => ∀ c : Dev Cert.MmReferenceIdeal.nD,
          r.2.mem ((c.tc : Thread Cert.MmReferenceIdeal.nD Cert.MmReferenceIdeal.τ).loc Cert.MmReferenceIdeal.main_v1) = v0 c
          ∧ r.2.mem ((c.tc : Thread Cert.MmReferenceIdeal.nD Cert.MmReferenceIdeal.τ).loc Cert.MmReferenceIdeal.main_arg0) = m' ((c.tc : Thread Cert.MmReferenceIdeal.nD Cert.MmReferenceIdeal.τ).loc Cert.MmReferenceIdeal.main_arg0)
          ∧ r.2.mem ((c.tc : Thread Cert.MmReferenceIdeal.nD Cert.MmReferenceIdeal.τ).loc Cert.MmReferenceIdeal.main_arg1) = m' ((c.tc : Thread Cert.MmReferenceIdeal.nD Cert.MmReferenceIdeal.τ).loc Cert.MmReferenceIdeal.main_arg1))

def preserves_WgradKernel_WgradKernelIdeal : Prop :=
  True

def algebraic_WgradKernelIdeal_WgradReferenceIdeal [hWgradKernelIdeal : Cert.WgradKernelIdeal.Facts] [hWgradReferenceIdeal : Cert.WgradReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradKernelIdeal m →
    (∀ c : Dev Cert.WgradKernelIdeal.nD,
      m' ((c.tc : Thread Cert.WgradReferenceIdeal.nD Cert.WgradReferenceIdeal.τ).loc Cert.WgradReferenceIdeal.main_arg0) = m ((c.tc : Thread Cert.WgradKernelIdeal.nD Cert.WgradKernelIdeal.τ).loc Cert.WgradKernelIdeal.main_arg0)
      ∧ m' ((c.tc : Thread Cert.WgradReferenceIdeal.nD Cert.WgradReferenceIdeal.τ).loc Cert.WgradReferenceIdeal.main_arg1) = m ((c.tc : Thread Cert.WgradKernelIdeal.nD Cert.WgradKernelIdeal.τ).loc Cert.WgradKernelIdeal.main_arg1)) →
    ∃ (v0 : (c : Dev Cert.WgradKernelIdeal.nD) → Buf (Elt Ideal) ((c.tc : Thread Cert.WgradKernelIdeal.nD Cert.WgradKernelIdeal.τ).loc Cert.WgradKernelIdeal.main_v2)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v2) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v4) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1))

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)) →
    ∃ (v0 : (c : Dev Cert.AdamwKernelIdeal.nD) → Buf (Elt Ideal) ((c.tc : Thread Cert.AdamwKernelIdeal.nD Cert.AdamwKernelIdeal.τ).loc Cert.AdamwKernelIdeal.main_v0_0)) (v1 : (c : Dev Cert.AdamwKernelIdeal.nD) → Buf (Elt Ideal) ((c.tc : Thread Cert.AdamwKernelIdeal.nD Cert.AdamwKernelIdeal.τ).loc Cert.AdamwKernelIdeal.main_v0_1)) (v2 : (c : Dev Cert.AdamwKernelIdeal.nD) → Buf (Elt Ideal) ((c.tc : Thread Cert.AdamwKernelIdeal.nD Cert.AdamwKernelIdeal.τ).loc Cert.AdamwKernelIdeal.main_v0_2)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v0_0) = v0 c
          ∧ r.2.mem ((c.tc : Thread Cert.AdamwKernelIdeal.nD Cert.AdamwKernelIdeal.τ).loc Cert.AdamwKernelIdeal.main_v0_1) = v1 c
          ∧ r.2.mem ((c.tc : Thread Cert.AdamwKernelIdeal.nD Cert.AdamwKernelIdeal.τ).loc Cert.AdamwKernelIdeal.main_v0_2) = v2 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v23) = v0 c
          ∧ r.2.mem ((c.tc : Thread Cert.AdamwReferenceIdeal.nD Cert.AdamwReferenceIdeal.τ).loc Cert.AdamwReferenceIdeal.main_v4) = v1 c
          ∧ r.2.mem ((c.tc : Thread Cert.AdamwReferenceIdeal.nD Cert.AdamwReferenceIdeal.τ).loc Cert.AdamwReferenceIdeal.main_v10) = v2 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)) →
    ∃ (v0 : (c : Dev Cert.SmallKernelIdeal.nD) → Buf (Elt Ideal) ((c.tc : Thread Cert.SmallKernelIdeal.nD Cert.SmallKernelIdeal.τ).loc Cert.SmallKernelIdeal.main_v0_0)) (v1 : (c : Dev Cert.SmallKernelIdeal.nD) → Buf (Elt Ideal) ((c.tc : Thread Cert.SmallKernelIdeal.nD Cert.SmallKernelIdeal.τ).loc Cert.SmallKernelIdeal.main_v0_1)) (v2 : (c : Dev Cert.SmallKernelIdeal.nD) → Buf (Elt Ideal) ((c.tc : Thread Cert.SmallKernelIdeal.nD Cert.SmallKernelIdeal.τ).loc Cert.SmallKernelIdeal.main_v0_2)) (v3 : (c : Dev Cert.SmallKernelIdeal.nD) → Buf (Elt Ideal) ((c.tc : Thread Cert.SmallKernelIdeal.nD Cert.SmallKernelIdeal.τ).loc Cert.SmallKernelIdeal.main_v0_3)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v0_0) = v0 c
          ∧ r.2.mem ((c.tc : Thread Cert.SmallKernelIdeal.nD Cert.SmallKernelIdeal.τ).loc Cert.SmallKernelIdeal.main_v0_1) = v1 c
          ∧ r.2.mem ((c.tc : Thread Cert.SmallKernelIdeal.nD Cert.SmallKernelIdeal.τ).loc Cert.SmallKernelIdeal.main_v0_2) = v2 c
          ∧ r.2.mem ((c.tc : Thread Cert.SmallKernelIdeal.nD Cert.SmallKernelIdeal.τ).loc Cert.SmallKernelIdeal.main_v0_3) = v3 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v0) = v0 c
          ∧ r.2.mem ((c.tc : Thread Cert.SmallReferenceIdeal.nD Cert.SmallReferenceIdeal.τ).loc Cert.SmallReferenceIdeal.main_v24) = v1 c
          ∧ r.2.mem ((c.tc : Thread Cert.SmallReferenceIdeal.nD Cert.SmallReferenceIdeal.τ).loc Cert.SmallReferenceIdeal.main_v5) = v2 c
          ∧ r.2.mem ((c.tc : Thread Cert.SmallReferenceIdeal.nD Cert.SmallReferenceIdeal.τ).loc Cert.SmallReferenceIdeal.main_v11) = v3 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3))

def preserves_FinalSumKernel_FinalSumKernelIdeal : Prop :=
  True

def algebraic_FinalSumKernelIdeal_FinalSumReferenceIdeal [hFinalSumKernelIdeal : Cert.FinalSumKernelIdeal.Facts] [hFinalSumReferenceIdeal : Cert.FinalSumReferenceIdeal.Facts] : Prop :=
  ∀ (m : (ℓ : Loc Cert.FinalSumKernelIdeal.nD Cert.FinalSumKernelIdeal.τ Cert.FinalSumKernelIdeal.sig) → Buf (Elt Ideal) ℓ) (g : Dev Cert.FinalSumKernelIdeal.nD → PrngReg)
    (m' : (ℓ : Loc Cert.FinalSumReferenceIdeal.nD Cert.FinalSumReferenceIdeal.τ Cert.FinalSumReferenceIdeal.sig) → Buf (Elt Ideal) ℓ) (g' : Dev Cert.FinalSumReferenceIdeal.nD → PrngReg), Pre_FinalSumKernelIdeal m →
    (∀ c : Dev Cert.FinalSumKernelIdeal.nD,
      m' ((c.tc : Thread Cert.FinalSumReferenceIdeal.nD Cert.FinalSumReferenceIdeal.τ).loc Cert.FinalSumReferenceIdeal.main_arg0) = m ((c.tc : Thread Cert.FinalSumKernelIdeal.nD Cert.FinalSumKernelIdeal.τ).loc Cert.FinalSumKernelIdeal.main_arg0)
      ∧ m' ((c.tc : Thread Cert.FinalSumReferenceIdeal.nD Cert.FinalSumReferenceIdeal.τ).loc Cert.FinalSumReferenceIdeal.main_arg1) = m ((c.tc : Thread Cert.FinalSumKernelIdeal.nD Cert.FinalSumKernelIdeal.τ).loc Cert.FinalSumKernelIdeal.main_arg1)) →
    ∃ (v0 : (c : Dev Cert.FinalSumKernelIdeal.nD) → Buf (Elt Ideal) ((c.tc : Thread Cert.FinalSumKernelIdeal.nD Cert.FinalSumKernelIdeal.τ).loc Cert.FinalSumKernelIdeal.main_v1)),
      θ_run (Cert.FinalSumKernelIdeal.defs (F := Ideal)) (onTc (τ := Cert.FinalSumKernelIdeal.τ) (Cert.FinalSumKernelIdeal.main (F := Ideal))) ⟨m, fun _ => 0, g⟩ (fun r => ∀ c : Dev Cert.FinalSumKernelIdeal.nD,
          r.2.mem ((c.tc : Thread Cert.FinalSumKernelIdeal.nD Cert.FinalSumKernelIdeal.τ).loc Cert.FinalSumKernelIdeal.main_v1) = v0 c
          ∧ r.2.mem ((c.tc : Thread Cert.FinalSumKernelIdeal.nD Cert.FinalSumKernelIdeal.τ).loc Cert.FinalSumKernelIdeal.main_arg0) = m ((c.tc : Thread Cert.FinalSumKernelIdeal.nD Cert.FinalSumKernelIdeal.τ).loc Cert.FinalSumKernelIdeal.main_arg0)
          ∧ r.2.mem ((c.tc : Thread Cert.FinalSumKernelIdeal.nD Cert.FinalSumKernelIdeal.τ).loc Cert.FinalSumKernelIdeal.main_arg1) = m ((c.tc : Thread Cert.FinalSumKernelIdeal.nD Cert.FinalSumKernelIdeal.τ).loc Cert.FinalSumKernelIdeal.main_arg1))
      ∧ θ_run (Cert.FinalSumReferenceIdeal.defs (F := Ideal)) (onTc (τ := Cert.FinalSumReferenceIdeal.τ) (Cert.FinalSumReferenceIdeal.main (F := Ideal))) ⟨m', fun _ => 0, g'⟩ (fun r => ∀ c : Dev Cert.FinalSumReferenceIdeal.nD,
          r.2.mem ((c.tc : Thread Cert.FinalSumReferenceIdeal.nD Cert.FinalSumReferenceIdeal.τ).loc Cert.FinalSumReferenceIdeal.main_v3) = v0 c
          ∧ r.2.mem ((c.tc : Thread Cert.FinalSumReferenceIdeal.nD Cert.FinalSumReferenceIdeal.τ).loc Cert.FinalSumReferenceIdeal.main_arg0) = m' ((c.tc : Thread Cert.FinalSumReferenceIdeal.nD Cert.FinalSumReferenceIdeal.τ).loc Cert.FinalSumReferenceIdeal.main_arg0)
          ∧ r.2.mem ((c.tc : Thread Cert.FinalSumReferenceIdeal.nD Cert.FinalSumReferenceIdeal.τ).loc Cert.FinalSumReferenceIdeal.main_arg1) = m' ((c.tc : Thread Cert.FinalSumReferenceIdeal.nD Cert.FinalSumReferenceIdeal.τ).loc Cert.FinalSumReferenceIdeal.main_arg1))

def preserves_FfnLKernel_FfnLKernelIdeal : Prop :=
  True

def algebraic_FfnLKernelIdeal_FfnLReferenceIdeal [hFfnLKernelIdeal : Cert.FfnLKernelIdeal.Facts] [hFfnLReferenceIdeal : Cert.FfnLReferenceIdeal.Facts] : Prop :=
  ∀ (m : (ℓ : Loc Cert.FfnLKernelIdeal.nD Cert.FfnLKernelIdeal.τ Cert.FfnLKernelIdeal.sig) → Buf (Elt Ideal) ℓ) (g : Dev Cert.FfnLKernelIdeal.nD → PrngReg)
    (m' : (ℓ : Loc Cert.FfnLReferenceIdeal.nD Cert.FfnLReferenceIdeal.τ Cert.FfnLReferenceIdeal.sig) → Buf (Elt Ideal) ℓ) (g' : Dev Cert.FfnLReferenceIdeal.nD → PrngReg), Pre_FfnLKernelIdeal m →
    (∀ c : Dev Cert.FfnLKernelIdeal.nD,
      m' ((c.tc : Thread Cert.FfnLReferenceIdeal.nD Cert.FfnLReferenceIdeal.τ).loc Cert.FfnLReferenceIdeal.main_arg0) = m ((c.tc : Thread Cert.FfnLKernelIdeal.nD Cert.FfnLKernelIdeal.τ).loc Cert.FfnLKernelIdeal.main_arg0)
      ∧ m' ((c.tc : Thread Cert.FfnLReferenceIdeal.nD Cert.FfnLReferenceIdeal.τ).loc Cert.FfnLReferenceIdeal.main_arg1) = m ((c.tc : Thread Cert.FfnLKernelIdeal.nD Cert.FfnLKernelIdeal.τ).loc Cert.FfnLKernelIdeal.main_arg1)
      ∧ m' ((c.tc : Thread Cert.FfnLReferenceIdeal.nD Cert.FfnLReferenceIdeal.τ).loc Cert.FfnLReferenceIdeal.main_arg2) = m ((c.tc : Thread Cert.FfnLKernelIdeal.nD Cert.FfnLKernelIdeal.τ).loc Cert.FfnLKernelIdeal.main_arg2)
      ∧ m' ((c.tc : Thread Cert.FfnLReferenceIdeal.nD Cert.FfnLReferenceIdeal.τ).loc Cert.FfnLReferenceIdeal.main_arg3) = m ((c.tc : Thread Cert.FfnLKernelIdeal.nD Cert.FfnLKernelIdeal.τ).loc Cert.FfnLKernelIdeal.main_arg3)) →
    ∃ (v0 : (c : Dev Cert.FfnLKernelIdeal.nD) → Buf (Elt Ideal) ((c.tc : Thread Cert.FfnLKernelIdeal.nD Cert.FfnLKernelIdeal.τ).loc Cert.FfnLKernelIdeal.main_v3_0)) (v1 : (c : Dev Cert.FfnLKernelIdeal.nD) → Buf (Elt Ideal) ((c.tc : Thread Cert.FfnLKernelIdeal.nD Cert.FfnLKernelIdeal.τ).loc Cert.FfnLKernelIdeal.main_v3_1)) (v2 : (c : Dev Cert.FfnLKernelIdeal.nD) → Buf (Elt Ideal) ((c.tc : Thread Cert.FfnLKernelIdeal.nD Cert.FfnLKernelIdeal.τ).loc Cert.FfnLKernelIdeal.main_v3_2)),
      θ_run (Cert.FfnLKernelIdeal.defs (F := Ideal)) (onTc (τ := Cert.FfnLKernelIdeal.τ) (Cert.FfnLKernelIdeal.main (F := Ideal))) ⟨m, fun _ => 0, g⟩ (fun r => ∀ c : Dev Cert.FfnLKernelIdeal.nD,
          r.2.mem ((c.tc : Thread Cert.FfnLKernelIdeal.nD Cert.FfnLKernelIdeal.τ).loc Cert.FfnLKernelIdeal.main_v3_0) = v0 c
          ∧ r.2.mem ((c.tc : Thread Cert.FfnLKernelIdeal.nD Cert.FfnLKernelIdeal.τ).loc Cert.FfnLKernelIdeal.main_v3_1) = v1 c
          ∧ r.2.mem ((c.tc : Thread Cert.FfnLKernelIdeal.nD Cert.FfnLKernelIdeal.τ).loc Cert.FfnLKernelIdeal.main_v3_2) = v2 c
          ∧ r.2.mem ((c.tc : Thread Cert.FfnLKernelIdeal.nD Cert.FfnLKernelIdeal.τ).loc Cert.FfnLKernelIdeal.main_arg0) = m ((c.tc : Thread Cert.FfnLKernelIdeal.nD Cert.FfnLKernelIdeal.τ).loc Cert.FfnLKernelIdeal.main_arg0)
          ∧ r.2.mem ((c.tc : Thread Cert.FfnLKernelIdeal.nD Cert.FfnLKernelIdeal.τ).loc Cert.FfnLKernelIdeal.main_arg1) = m ((c.tc : Thread Cert.FfnLKernelIdeal.nD Cert.FfnLKernelIdeal.τ).loc Cert.FfnLKernelIdeal.main_arg1)
          ∧ r.2.mem ((c.tc : Thread Cert.FfnLKernelIdeal.nD Cert.FfnLKernelIdeal.τ).loc Cert.FfnLKernelIdeal.main_arg2) = m ((c.tc : Thread Cert.FfnLKernelIdeal.nD Cert.FfnLKernelIdeal.τ).loc Cert.FfnLKernelIdeal.main_arg2)
          ∧ r.2.mem ((c.tc : Thread Cert.FfnLKernelIdeal.nD Cert.FfnLKernelIdeal.τ).loc Cert.FfnLKernelIdeal.main_arg3) = m ((c.tc : Thread Cert.FfnLKernelIdeal.nD Cert.FfnLKernelIdeal.τ).loc Cert.FfnLKernelIdeal.main_arg3))
      ∧ θ_run (Cert.FfnLReferenceIdeal.defs (F := Ideal)) (onTc (τ := Cert.FfnLReferenceIdeal.τ) (Cert.FfnLReferenceIdeal.main (F := Ideal))) ⟨m', fun _ => 0, g'⟩ (fun r => ∀ c : Dev Cert.FfnLReferenceIdeal.nD,
          r.2.mem ((c.tc : Thread Cert.FfnLReferenceIdeal.nD Cert.FfnLReferenceIdeal.τ).loc Cert.FfnLReferenceIdeal.main_v5) = v0 c
          ∧ r.2.mem ((c.tc : Thread Cert.FfnLReferenceIdeal.nD Cert.FfnLReferenceIdeal.τ).loc Cert.FfnLReferenceIdeal.main_v19) = v1 c
          ∧ r.2.mem ((c.tc : Thread Cert.FfnLReferenceIdeal.nD Cert.FfnLReferenceIdeal.τ).loc Cert.FfnLReferenceIdeal.main_v20) = v2 c
          ∧ r.2.mem ((c.tc : Thread Cert.FfnLReferenceIdeal.nD Cert.FfnLReferenceIdeal.τ).loc Cert.FfnLReferenceIdeal.main_arg0) = m' ((c.tc : Thread Cert.FfnLReferenceIdeal.nD Cert.FfnLReferenceIdeal.τ).loc Cert.FfnLReferenceIdeal.main_arg0)
          ∧ r.2.mem ((c.tc : Thread Cert.FfnLReferenceIdeal.nD Cert.FfnLReferenceIdeal.τ).loc Cert.FfnLReferenceIdeal.main_arg1) = m' ((c.tc : Thread Cert.FfnLReferenceIdeal.nD Cert.FfnLReferenceIdeal.τ).loc Cert.FfnLReferenceIdeal.main_arg1)
          ∧ r.2.mem ((c.tc : Thread Cert.FfnLReferenceIdeal.nD Cert.FfnLReferenceIdeal.τ).loc Cert.FfnLReferenceIdeal.main_arg2) = m' ((c.tc : Thread Cert.FfnLReferenceIdeal.nD Cert.FfnLReferenceIdeal.τ).loc Cert.FfnLReferenceIdeal.main_arg2)
          ∧ r.2.mem ((c.tc : Thread Cert.FfnLReferenceIdeal.nD Cert.FfnLReferenceIdeal.τ).loc Cert.FfnLReferenceIdeal.main_arg3) = m' ((c.tc : Thread Cert.FfnLReferenceIdeal.nD Cert.FfnLReferenceIdeal.τ).loc Cert.FfnLReferenceIdeal.main_arg3))

def preserves_FirstFKernel_FirstFKernelIdeal : Prop :=
  True

def algebraic_FirstFKernelIdeal_FirstFReferenceIdeal [hFirstFKernelIdeal : Cert.FirstFKernelIdeal.Facts] [hFirstFReferenceIdeal : Cert.FirstFReferenceIdeal.Facts] : Prop :=
  ∀ (m : (ℓ : Loc Cert.FirstFKernelIdeal.nD Cert.FirstFKernelIdeal.τ Cert.FirstFKernelIdeal.sig) → Buf (Elt Ideal) ℓ) (g : Dev Cert.FirstFKernelIdeal.nD → PrngReg)
    (m' : (ℓ : Loc Cert.FirstFReferenceIdeal.nD Cert.FirstFReferenceIdeal.τ Cert.FirstFReferenceIdeal.sig) → Buf (Elt Ideal) ℓ) (g' : Dev Cert.FirstFReferenceIdeal.nD → PrngReg), Pre_FirstFKernelIdeal m →
    (∀ c : Dev Cert.FirstFKernelIdeal.nD,
      m' ((c.tc : Thread Cert.FirstFReferenceIdeal.nD Cert.FirstFReferenceIdeal.τ).loc Cert.FirstFReferenceIdeal.main_arg0) = m ((c.tc : Thread Cert.FirstFKernelIdeal.nD Cert.FirstFKernelIdeal.τ).loc Cert.FirstFKernelIdeal.main_arg0)
      ∧ m' ((c.tc : Thread Cert.FirstFReferenceIdeal.nD Cert.FirstFReferenceIdeal.τ).loc Cert.FirstFReferenceIdeal.main_arg1) = m ((c.tc : Thread Cert.FirstFKernelIdeal.nD Cert.FirstFKernelIdeal.τ).loc Cert.FirstFKernelIdeal.main_arg1)
      ∧ m' ((c.tc : Thread Cert.FirstFReferenceIdeal.nD Cert.FirstFReferenceIdeal.τ).loc Cert.FirstFReferenceIdeal.main_arg2) = m ((c.tc : Thread Cert.FirstFKernelIdeal.nD Cert.FirstFKernelIdeal.τ).loc Cert.FirstFKernelIdeal.main_arg2)) →
    ∃ (v0 : (c : Dev Cert.FirstFKernelIdeal.nD) → Buf (Elt Ideal) ((c.tc : Thread Cert.FirstFKernelIdeal.nD Cert.FirstFKernelIdeal.τ).loc Cert.FirstFKernelIdeal.main_v3_0)) (v1 : (c : Dev Cert.FirstFKernelIdeal.nD) → Buf (Elt Ideal) ((c.tc : Thread Cert.FirstFKernelIdeal.nD Cert.FirstFKernelIdeal.τ).loc Cert.FirstFKernelIdeal.main_v3_1)),
      θ_run (Cert.FirstFKernelIdeal.defs (F := Ideal)) (onTc (τ := Cert.FirstFKernelIdeal.τ) (Cert.FirstFKernelIdeal.main (F := Ideal))) ⟨m, fun _ => 0, g⟩ (fun r => ∀ c : Dev Cert.FirstFKernelIdeal.nD,
          r.2.mem ((c.tc : Thread Cert.FirstFKernelIdeal.nD Cert.FirstFKernelIdeal.τ).loc Cert.FirstFKernelIdeal.main_v3_0) = v0 c
          ∧ r.2.mem ((c.tc : Thread Cert.FirstFKernelIdeal.nD Cert.FirstFKernelIdeal.τ).loc Cert.FirstFKernelIdeal.main_v3_1) = v1 c
          ∧ r.2.mem ((c.tc : Thread Cert.FirstFKernelIdeal.nD Cert.FirstFKernelIdeal.τ).loc Cert.FirstFKernelIdeal.main_arg0) = m ((c.tc : Thread Cert.FirstFKernelIdeal.nD Cert.FirstFKernelIdeal.τ).loc Cert.FirstFKernelIdeal.main_arg0)
          ∧ r.2.mem ((c.tc : Thread Cert.FirstFKernelIdeal.nD Cert.FirstFKernelIdeal.τ).loc Cert.FirstFKernelIdeal.main_arg1) = m ((c.tc : Thread Cert.FirstFKernelIdeal.nD Cert.FirstFKernelIdeal.τ).loc Cert.FirstFKernelIdeal.main_arg1)
          ∧ r.2.mem ((c.tc : Thread Cert.FirstFKernelIdeal.nD Cert.FirstFKernelIdeal.τ).loc Cert.FirstFKernelIdeal.main_arg2) = m ((c.tc : Thread Cert.FirstFKernelIdeal.nD Cert.FirstFKernelIdeal.τ).loc Cert.FirstFKernelIdeal.main_arg2))
      ∧ θ_run (Cert.FirstFReferenceIdeal.defs (F := Ideal)) (onTc (τ := Cert.FirstFReferenceIdeal.τ) (Cert.FirstFReferenceIdeal.main (F := Ideal))) ⟨m', fun _ => 0, g'⟩ (fun r => ∀ c : Dev Cert.FirstFReferenceIdeal.nD,
          r.2.mem ((c.tc : Thread Cert.FirstFReferenceIdeal.nD Cert.FirstFReferenceIdeal.τ).loc Cert.FirstFReferenceIdeal.main_v14) = v0 c
          ∧ r.2.mem ((c.tc : Thread Cert.FirstFReferenceIdeal.nD Cert.FirstFReferenceIdeal.τ).loc Cert.FirstFReferenceIdeal.main_v15) = v1 c
          ∧ r.2.mem ((c.tc : Thread Cert.FirstFReferenceIdeal.nD Cert.FirstFReferenceIdeal.τ).loc Cert.FirstFReferenceIdeal.main_arg0) = m' ((c.tc : Thread Cert.FirstFReferenceIdeal.nD Cert.FirstFReferenceIdeal.τ).loc Cert.FirstFReferenceIdeal.main_arg0)
          ∧ r.2.mem ((c.tc : Thread Cert.FirstFReferenceIdeal.nD Cert.FirstFReferenceIdeal.τ).loc Cert.FirstFReferenceIdeal.main_arg1) = m' ((c.tc : Thread Cert.FirstFReferenceIdeal.nD Cert.FirstFReferenceIdeal.τ).loc Cert.FirstFReferenceIdeal.main_arg1)
          ∧ r.2.mem ((c.tc : Thread Cert.FirstFReferenceIdeal.nD Cert.FirstFReferenceIdeal.τ).loc Cert.FirstFReferenceIdeal.main_arg2) = m' ((c.tc : Thread Cert.FirstFReferenceIdeal.nD Cert.FirstFReferenceIdeal.τ).loc Cert.FirstFReferenceIdeal.main_arg2))

def preserves_XkvFKernel_XkvFKernelIdeal : Prop :=
  True

def algebraic_XkvFKernelIdeal_XkvFReferenceIdeal [hXkvFKernelIdeal : Cert.XkvFKernelIdeal.Facts] [hXkvFReferenceIdeal : Cert.XkvFReferenceIdeal.Facts] : Prop :=
  ∀ (m : (ℓ : Loc Cert.XkvFKernelIdeal.nD Cert.XkvFKernelIdeal.τ Cert.XkvFKernelIdeal.sig) → Buf (Elt Ideal) ℓ) (g : Dev Cert.XkvFKernelIdeal.nD → PrngReg)
    (m' : (ℓ : Loc Cert.XkvFReferenceIdeal.nD Cert.XkvFReferenceIdeal.τ Cert.XkvFReferenceIdeal.sig) → Buf (Elt Ideal) ℓ) (g' : Dev Cert.XkvFReferenceIdeal.nD → PrngReg), Pre_XkvFKernelIdeal m →
    (∀ c : Dev Cert.XkvFKernelIdeal.nD,
      m' ((c.tc : Thread Cert.XkvFReferenceIdeal.nD Cert.XkvFReferenceIdeal.τ).loc Cert.XkvFReferenceIdeal.main_arg0) = m ((c.tc : Thread Cert.XkvFKernelIdeal.nD Cert.XkvFKernelIdeal.τ).loc Cert.XkvFKernelIdeal.main_arg0)
      ∧ m' ((c.tc : Thread Cert.XkvFReferenceIdeal.nD Cert.XkvFReferenceIdeal.τ).loc Cert.XkvFReferenceIdeal.main_arg1) = m ((c.tc : Thread Cert.XkvFKernelIdeal.nD Cert.XkvFKernelIdeal.τ).loc Cert.XkvFKernelIdeal.main_arg1)
      ∧ m' ((c.tc : Thread Cert.XkvFReferenceIdeal.nD Cert.XkvFReferenceIdeal.τ).loc Cert.XkvFReferenceIdeal.main_arg2) = m ((c.tc : Thread Cert.XkvFKernelIdeal.nD Cert.XkvFKernelIdeal.τ).loc Cert.XkvFKernelIdeal.main_arg2)) →
    ∃ (v0 : (c : Dev Cert.XkvFKernelIdeal.nD) → Buf (Elt Ideal) ((c.tc : Thread Cert.XkvFKernelIdeal.nD Cert.XkvFKernelIdeal.τ).loc Cert.XkvFKernelIdeal.main_v3_0)) (v1 : (c : Dev Cert.XkvFKernelIdeal.nD) → Buf (Elt Ideal) ((c.tc : Thread Cert.XkvFKernelIdeal.nD Cert.XkvFKernelIdeal.τ).loc Cert.XkvFKernelIdeal.main_v3_1)),
      θ_run (Cert.XkvFKernelIdeal.defs (F := Ideal)) (onTc (τ := Cert.XkvFKernelIdeal.τ) (Cert.XkvFKernelIdeal.main (F := Ideal))) ⟨m, fun _ => 0, g⟩ (fun r => ∀ c : Dev Cert.XkvFKernelIdeal.nD,
          r.2.mem ((c.tc : Thread Cert.XkvFKernelIdeal.nD Cert.XkvFKernelIdeal.τ).loc Cert.XkvFKernelIdeal.main_v3_0) = v0 c
          ∧ r.2.mem ((c.tc : Thread Cert.XkvFKernelIdeal.nD Cert.XkvFKernelIdeal.τ).loc Cert.XkvFKernelIdeal.main_v3_1) = v1 c
          ∧ r.2.mem ((c.tc : Thread Cert.XkvFKernelIdeal.nD Cert.XkvFKernelIdeal.τ).loc Cert.XkvFKernelIdeal.main_arg0) = m ((c.tc : Thread Cert.XkvFKernelIdeal.nD Cert.XkvFKernelIdeal.τ).loc Cert.XkvFKernelIdeal.main_arg0)
          ∧ r.2.mem ((c.tc : Thread Cert.XkvFKernelIdeal.nD Cert.XkvFKernelIdeal.τ).loc Cert.XkvFKernelIdeal.main_arg1) = m ((c.tc : Thread Cert.XkvFKernelIdeal.nD Cert.XkvFKernelIdeal.τ).loc Cert.XkvFKernelIdeal.main_arg1)
          ∧ r.2.mem ((c.tc : Thread Cert.XkvFKernelIdeal.nD Cert.XkvFKernelIdeal.τ).loc Cert.XkvFKernelIdeal.main_arg2) = m ((c.tc : Thread Cert.XkvFKernelIdeal.nD Cert.XkvFKernelIdeal.τ).loc Cert.XkvFKernelIdeal.main_arg2))
      ∧ θ_run (Cert.XkvFReferenceIdeal.defs (F := Ideal)) (onTc (τ := Cert.XkvFReferenceIdeal.τ) (Cert.XkvFReferenceIdeal.main (F := Ideal))) ⟨m', fun _ => 0, g'⟩ (fun r => ∀ c : Dev Cert.XkvFReferenceIdeal.nD,
          r.2.mem ((c.tc : Thread Cert.XkvFReferenceIdeal.nD Cert.XkvFReferenceIdeal.τ).loc Cert.XkvFReferenceIdeal.main_v14) = v0 c
          ∧ r.2.mem ((c.tc : Thread Cert.XkvFReferenceIdeal.nD Cert.XkvFReferenceIdeal.τ).loc Cert.XkvFReferenceIdeal.main_v15) = v1 c
          ∧ r.2.mem ((c.tc : Thread Cert.XkvFReferenceIdeal.nD Cert.XkvFReferenceIdeal.τ).loc Cert.XkvFReferenceIdeal.main_arg0) = m' ((c.tc : Thread Cert.XkvFReferenceIdeal.nD Cert.XkvFReferenceIdeal.τ).loc Cert.XkvFReferenceIdeal.main_arg0)
          ∧ r.2.mem ((c.tc : Thread Cert.XkvFReferenceIdeal.nD Cert.XkvFReferenceIdeal.τ).loc Cert.XkvFReferenceIdeal.main_arg1) = m' ((c.tc : Thread Cert.XkvFReferenceIdeal.nD Cert.XkvFReferenceIdeal.τ).loc Cert.XkvFReferenceIdeal.main_arg1)
          ∧ r.2.mem ((c.tc : Thread Cert.XkvFReferenceIdeal.nD Cert.XkvFReferenceIdeal.τ).loc Cert.XkvFReferenceIdeal.main_arg2) = m' ((c.tc : Thread Cert.XkvFReferenceIdeal.nD Cert.XkvFReferenceIdeal.τ).loc Cert.XkvFReferenceIdeal.main_arg2))

def preserves_ChipSumKernel_ChipSumKernelIdeal : Prop :=
  True

def algebraic_ChipSumKernelIdeal_ChipSumReferenceIdeal [hChipSumKernelIdeal : Cert.ChipSumKernelIdeal.Facts] [hChipSumReferenceIdeal : Cert.ChipSumReferenceIdeal.Facts] : Prop :=
  ∀ (m : (ℓ : Loc Cert.ChipSumKernelIdeal.nD Cert.ChipSumKernelIdeal.τ Cert.ChipSumKernelIdeal.sig) → Buf (Elt Ideal) ℓ) (g : Dev Cert.ChipSumKernelIdeal.nD → PrngReg)
    (m' : (ℓ : Loc Cert.ChipSumReferenceIdeal.nD Cert.ChipSumReferenceIdeal.τ Cert.ChipSumReferenceIdeal.sig) → Buf (Elt Ideal) ℓ) (g' : Dev Cert.ChipSumReferenceIdeal.nD → PrngReg), Pre_ChipSumKernelIdeal m →
    (∀ c : Dev Cert.ChipSumKernelIdeal.nD,
      m' ((c.tc : Thread Cert.ChipSumReferenceIdeal.nD Cert.ChipSumReferenceIdeal.τ).loc Cert.ChipSumReferenceIdeal.main_arg0) = m ((c.tc : Thread Cert.ChipSumKernelIdeal.nD Cert.ChipSumKernelIdeal.τ).loc Cert.ChipSumKernelIdeal.main_arg0)
      ∧ m' ((c.tc : Thread Cert.ChipSumReferenceIdeal.nD Cert.ChipSumReferenceIdeal.τ).loc Cert.ChipSumReferenceIdeal.main_arg1) = m ((c.tc : Thread Cert.ChipSumKernelIdeal.nD Cert.ChipSumKernelIdeal.τ).loc Cert.ChipSumKernelIdeal.main_arg1)) →
    ∃ (v0 : (c : Dev Cert.ChipSumKernelIdeal.nD) → Buf (Elt Ideal) ((c.tc : Thread Cert.ChipSumKernelIdeal.nD Cert.ChipSumKernelIdeal.τ).loc Cert.ChipSumKernelIdeal.main_v0_0)) (v1 : (c : Dev Cert.ChipSumKernelIdeal.nD) → Buf (Elt Ideal) ((c.tc : Thread Cert.ChipSumKernelIdeal.nD Cert.ChipSumKernelIdeal.τ).loc Cert.ChipSumKernelIdeal.main_v0_1)),
      θ_run (Cert.ChipSumKernelIdeal.defs (F := Ideal)) (onTc (τ := Cert.ChipSumKernelIdeal.τ) (Cert.ChipSumKernelIdeal.main (F := Ideal))) ⟨m, fun _ => 0, g⟩ (fun r => ∀ c : Dev Cert.ChipSumKernelIdeal.nD,
          r.2.mem ((c.tc : Thread Cert.ChipSumKernelIdeal.nD Cert.ChipSumKernelIdeal.τ).loc Cert.ChipSumKernelIdeal.main_v0_0) = v0 c
          ∧ r.2.mem ((c.tc : Thread Cert.ChipSumKernelIdeal.nD Cert.ChipSumKernelIdeal.τ).loc Cert.ChipSumKernelIdeal.main_v0_1) = v1 c
          ∧ r.2.mem ((c.tc : Thread Cert.ChipSumKernelIdeal.nD Cert.ChipSumKernelIdeal.τ).loc Cert.ChipSumKernelIdeal.main_arg0) = m ((c.tc : Thread Cert.ChipSumKernelIdeal.nD Cert.ChipSumKernelIdeal.τ).loc Cert.ChipSumKernelIdeal.main_arg0)
          ∧ r.2.mem ((c.tc : Thread Cert.ChipSumKernelIdeal.nD Cert.ChipSumKernelIdeal.τ).loc Cert.ChipSumKernelIdeal.main_arg1) = m ((c.tc : Thread Cert.ChipSumKernelIdeal.nD Cert.ChipSumKernelIdeal.τ).loc Cert.ChipSumKernelIdeal.main_arg1))
      ∧ θ_run (Cert.ChipSumReferenceIdeal.defs (F := Ideal)) (onTc (τ := Cert.ChipSumReferenceIdeal.τ) (Cert.ChipSumReferenceIdeal.main (F := Ideal))) ⟨m', fun _ => 0, g'⟩ (fun r => ∀ c : Dev Cert.ChipSumReferenceIdeal.nD,
          r.2.mem ((c.tc : Thread Cert.ChipSumReferenceIdeal.nD Cert.ChipSumReferenceIdeal.τ).loc Cert.ChipSumReferenceIdeal.main_v16) = v0 c
          ∧ r.2.mem ((c.tc : Thread Cert.ChipSumReferenceIdeal.nD Cert.ChipSumReferenceIdeal.τ).loc Cert.ChipSumReferenceIdeal.main_v18) = v1 c
          ∧ r.2.mem ((c.tc : Thread Cert.ChipSumReferenceIdeal.nD Cert.ChipSumReferenceIdeal.τ).loc Cert.ChipSumReferenceIdeal.main_arg0) = m' ((c.tc : Thread Cert.ChipSumReferenceIdeal.nD Cert.ChipSumReferenceIdeal.τ).loc Cert.ChipSumReferenceIdeal.main_arg0)
          ∧ r.2.mem ((c.tc : Thread Cert.ChipSumReferenceIdeal.nD Cert.ChipSumReferenceIdeal.τ).loc Cert.ChipSumReferenceIdeal.main_arg1) = m' ((c.tc : Thread Cert.ChipSumReferenceIdeal.nD Cert.ChipSumReferenceIdeal.τ).loc Cert.ChipSumReferenceIdeal.main_arg1))

def preserves_PlaceKernel_PlaceKernelIdeal : Prop :=
  True

def algebraic_PlaceKernelIdeal_PlaceReferenceIdeal_on_own_block [hPlaceKernelIdeal : Cert.PlaceKernelIdeal.Facts] [hPlaceReferenceIdeal : Cert.PlaceReferenceIdeal.Facts] [hOn_own_block : Cert.On_own_block.Facts] : Prop :=
  ∀ (m : (ℓ : Loc Cert.PlaceKernelIdeal.nD Cert.PlaceKernelIdeal.τ Cert.PlaceKernelIdeal.sig) → Buf (Elt Ideal) ℓ) (g : Dev Cert.PlaceKernelIdeal.nD → PrngReg)
    (m' : (ℓ : Loc Cert.PlaceReferenceIdeal.nD Cert.PlaceReferenceIdeal.τ Cert.PlaceReferenceIdeal.sig) → Buf (Elt Ideal) ℓ) (g' : Dev Cert.PlaceReferenceIdeal.nD → PrngReg), Pre_PlaceKernelIdeal m →
    (∀ c : Dev Cert.PlaceKernelIdeal.nD,
      m' ((c.tc : Thread Cert.PlaceReferenceIdeal.nD Cert.PlaceReferenceIdeal.τ).loc Cert.PlaceReferenceIdeal.main_arg0) = m ((c.tc : Thread Cert.PlaceKernelIdeal.nD Cert.PlaceKernelIdeal.τ).loc Cert.PlaceKernelIdeal.main_arg0)) →
    ∃ (v0 : (c : Dev Cert.PlaceKernelIdeal.nD) → Buf (Elt Ideal) ((c.tc : Thread Cert.PlaceKernelIdeal.nD Cert.PlaceKernelIdeal.τ).loc Cert.PlaceKernelIdeal.main_v1)),
      θ_run (Cert.PlaceKernelIdeal.defs (F := Ideal)) (onTc (τ := Cert.PlaceKernelIdeal.τ) (Cert.PlaceKernelIdeal.main (F := Ideal))) ⟨m, fun _ => 0, g⟩ (fun r => ∀ c : Dev Cert.PlaceKernelIdeal.nD,
          (∀ i : (⟨2, ![5632, 1024]⟩ : Shape).Idx, (Cert.On_own_block.fn (F := Ideal) (m ((c.tc : Thread Cert.PlaceKernelIdeal.nD Cert.PlaceKernelIdeal.τ).loc Cert.PlaceKernelIdeal.main_arg0))) i = 1#1 → r.2.mem ((c.tc : Thread Cert.PlaceKernelIdeal.nD Cert.PlaceKernelIdeal.τ).loc Cert.PlaceKernelIdeal.main_v1) i = v0 c i)
          ∧ r.2.mem ((c.tc : Thread Cert.PlaceKernelIdeal.nD Cert.PlaceKernelIdeal.τ).loc Cert.PlaceKernelIdeal.main_arg0) = m ((c.tc : Thread Cert.PlaceKernelIdeal.nD Cert.PlaceKernelIdeal.τ).loc Cert.PlaceKernelIdeal.main_arg0))
      ∧ θ_run (Cert.PlaceReferenceIdeal.defs (F := Ideal)) (onTc (τ := Cert.PlaceReferenceIdeal.τ) (Cert.PlaceReferenceIdeal.main (F := Ideal))) ⟨m', fun _ => 0, g'⟩ (fun r => ∀ c : Dev Cert.PlaceReferenceIdeal.nD,
          (∀ i : (⟨2, ![5632, 1024]⟩ : Shape).Idx, (Cert.On_own_block.fn (F := Ideal) (m ((c.tc : Thread Cert.PlaceKernelIdeal.nD Cert.PlaceKernelIdeal.τ).loc Cert.PlaceKernelIdeal.main_arg0))) i = 1#1 → r.2.mem ((c.tc : Thread Cert.PlaceReferenceIdeal.nD Cert.PlaceReferenceIdeal.τ).loc Cert.PlaceReferenceIdeal.main_v4) i = v0 c i)
          ∧ r.2.mem ((c.tc : Thread Cert.PlaceReferenceIdeal.nD Cert.PlaceReferenceIdeal.τ).loc Cert.PlaceReferenceIdeal.main_arg0) = m' ((c.tc : Thread Cert.PlaceReferenceIdeal.nD Cert.PlaceReferenceIdeal.τ).loc Cert.PlaceReferenceIdeal.main_arg0))

def preserves_InnerKernel_InnerKernelIdeal : Prop :=
  True

def algebraic_InnerKernelIdeal_InnerReferenceIdeal_pre_finite_inner [hInnerKernelIdeal : Cert.InnerKernelIdeal.Facts] [hInnerReferenceIdeal : Cert.InnerReferenceIdeal.Facts] [hPre_finite_inner : Cert.Pre_finite_inner.Facts] : Prop :=
  ∀ (m : (ℓ : Loc Cert.InnerKernelIdeal.nD Cert.InnerKernelIdeal.τ Cert.InnerKernelIdeal.sig) → Buf (Elt Ideal) ℓ) (g : Dev Cert.InnerKernelIdeal.nD → PrngReg)
    (m' : (ℓ : Loc Cert.InnerReferenceIdeal.nD Cert.InnerReferenceIdeal.τ Cert.InnerReferenceIdeal.sig) → Buf (Elt Ideal) ℓ) (g' : Dev Cert.InnerReferenceIdeal.nD → PrngReg), Pre_InnerKernelIdeal_finite_inner m →
    (∀ c : Dev Cert.InnerKernelIdeal.nD,
      m' ((c.tc : Thread Cert.InnerReferenceIdeal.nD Cert.InnerReferenceIdeal.τ).loc Cert.InnerReferenceIdeal.main_arg0) = m ((c.tc : Thread Cert.InnerKernelIdeal.nD Cert.InnerKernelIdeal.τ).loc Cert.InnerKernelIdeal.main_arg0)
      ∧ m' ((c.tc : Thread Cert.InnerReferenceIdeal.nD Cert.InnerReferenceIdeal.τ).loc Cert.InnerReferenceIdeal.main_arg1) = m ((c.tc : Thread Cert.InnerKernelIdeal.nD Cert.InnerKernelIdeal.τ).loc Cert.InnerKernelIdeal.main_arg1)
      ∧ m' ((c.tc : Thread Cert.InnerReferenceIdeal.nD Cert.InnerReferenceIdeal.τ).loc Cert.InnerReferenceIdeal.main_arg2) = m ((c.tc : Thread Cert.InnerKernelIdeal.nD Cert.InnerKernelIdeal.τ).loc Cert.InnerKernelIdeal.main_arg2)
      ∧ m' ((c.tc : Thread Cert.InnerReferenceIdeal.nD Cert.InnerReferenceIdeal.τ).loc Cert.InnerReferenceIdeal.main_arg3) = m ((c.tc : Thread Cert.InnerKernelIdeal.nD Cert.InnerKernelIdeal.τ).loc Cert.InnerKernelIdeal.main_arg3)
      ∧ m' ((c.tc : Thread Cert.InnerReferenceIdeal.nD Cert.InnerReferenceIdeal.τ).loc Cert.InnerReferenceIdeal.main_arg4) = m ((c.tc : Thread Cert.InnerKernelIdeal.nD Cert.InnerKernelIdeal.τ).loc Cert.InnerKernelIdeal.main_arg4)
      ∧ m' ((c.tc : Thread Cert.InnerReferenceIdeal.nD Cert.InnerReferenceIdeal.τ).loc Cert.InnerReferenceIdeal.main_arg5) = m ((c.tc : Thread Cert.InnerKernelIdeal.nD Cert.InnerKernelIdeal.τ).loc Cert.InnerKernelIdeal.main_arg5)
      ∧ m' ((c.tc : Thread Cert.InnerReferenceIdeal.nD Cert.InnerReferenceIdeal.τ).loc Cert.InnerReferenceIdeal.main_arg6) = m ((c.tc : Thread Cert.InnerKernelIdeal.nD Cert.InnerKernelIdeal.τ).loc Cert.InnerKernelIdeal.main_arg6)) →
    ∃ (v0 : (c : Dev Cert.InnerKernelIdeal.nD) → Buf (Elt Ideal) ((c.tc : Thread Cert.InnerKernelIdeal.nD Cert.InnerKernelIdeal.τ).loc Cert.InnerKernelIdeal.main_v20_0)) (v1 : (c : Dev Cert.InnerKernelIdeal.nD) → Buf (Elt Ideal) ((c.tc : Thread Cert.InnerKernelIdeal.nD Cert.InnerKernelIdeal.τ).loc Cert.InnerKernelIdeal.main_v20_1)) (v2 : (c : Dev Cert.InnerKernelIdeal.nD) → Buf (Elt Ideal) ((c.tc : Thread Cert.InnerKernelIdeal.nD Cert.InnerKernelIdeal.τ).loc Cert.InnerKernelIdeal.main_v20_2)) (v3 : (c : Dev Cert.InnerKernelIdeal.nD) → Buf (Elt Ideal) ((c.tc : Thread Cert.InnerKernelIdeal.nD Cert.InnerKernelIdeal.τ).loc Cert.InnerKernelIdeal.main_v20_3)),
      θ_run (Cert.InnerKernelIdeal.defs (F := Ideal)) (onTc (τ := Cert.InnerKernelIdeal.τ) (Cert.InnerKernelIdeal.main (F := Ideal))) ⟨m, fun _ => 0, g⟩ (fun r => ∀ c : Dev Cert.InnerKernelIdeal.nD,
          r.2.mem ((c.tc : Thread Cert.InnerKernelIdeal.nD Cert.InnerKernelIdeal.τ).loc Cert.InnerKernelIdeal.main_v20_0) = v0 c
          ∧ r.2.mem ((c.tc : Thread Cert.InnerKernelIdeal.nD Cert.InnerKernelIdeal.τ).loc Cert.InnerKernelIdeal.main_v20_1) = v1 c
          ∧ r.2.mem ((c.tc : Thread Cert.InnerKernelIdeal.nD Cert.InnerKernelIdeal.τ).loc Cert.InnerKernelIdeal.main_v20_2) = v2 c
          ∧ r.2.mem ((c.tc : Thread Cert.InnerKernelIdeal.nD Cert.InnerKernelIdeal.τ).loc Cert.InnerKernelIdeal.main_v20_3) = v3 c
          ∧ r.2.mem ((c.tc : Thread Cert.InnerKernelIdeal.nD Cert.InnerKernelIdeal.τ).loc Cert.InnerKernelIdeal.main_arg0) = m ((c.tc : Thread Cert.InnerKernelIdeal.nD Cert.InnerKernelIdeal.τ).loc Cert.InnerKernelIdeal.main_arg0)
          ∧ r.2.mem ((c.tc : Thread Cert.InnerKernelIdeal.nD Cert.InnerKernelIdeal.τ).loc Cert.InnerKernelIdeal.main_arg1) = m ((c.tc : Thread Cert.InnerKernelIdeal.nD Cert.InnerKernelIdeal.τ).loc Cert.InnerKernelIdeal.main_arg1)
          ∧ r.2.mem ((c.tc : Thread Cert.InnerKernelIdeal.nD Cert.InnerKernelIdeal.τ).loc Cert.InnerKernelIdeal.main_arg2) = m ((c.tc : Thread Cert.InnerKernelIdeal.nD Cert.InnerKernelIdeal.τ).loc Cert.InnerKernelIdeal.main_arg2)
          ∧ r.2.mem ((c.tc : Thread Cert.InnerKernelIdeal.nD Cert.InnerKernelIdeal.τ).loc Cert.InnerKernelIdeal.main_arg3) = m ((c.tc : Thread Cert.InnerKernelIdeal.nD Cert.InnerKernelIdeal.τ).loc Cert.InnerKernelIdeal.main_arg3)
          ∧ r.2.mem ((c.tc : Thread Cert.InnerKernelIdeal.nD Cert.InnerKernelIdeal.τ).loc Cert.InnerKernelIdeal.main_arg4) = m ((c.tc : Thread Cert.InnerKernelIdeal.nD Cert.InnerKernelIdeal.τ).loc Cert.InnerKernelIdeal.main_arg4)
          ∧ r.2.mem ((c.tc : Thread Cert.InnerKernelIdeal.nD Cert.InnerKernelIdeal.τ).loc Cert.InnerKernelIdeal.main_arg5) = m ((c.tc : Thread Cert.InnerKernelIdeal.nD Cert.InnerKernelIdeal.τ).loc Cert.InnerKernelIdeal.main_arg5)
          ∧ r.2.mem ((c.tc : Thread Cert.InnerKernelIdeal.nD Cert.InnerKernelIdeal.τ).loc Cert.InnerKernelIdeal.main_arg6) = m ((c.tc : Thread Cert.InnerKernelIdeal.nD Cert.InnerKernelIdeal.τ).loc Cert.InnerKernelIdeal.main_arg6))
      ∧ θ_run (Cert.InnerReferenceIdeal.defs (F := Ideal)) (onTc (τ := Cert.InnerReferenceIdeal.τ) (Cert.InnerReferenceIdeal.main (F := Ideal))) ⟨m', fun _ => 0, g'⟩ (fun r => ∀ c : Dev Cert.InnerReferenceIdeal.nD,
          r.2.mem ((c.tc : Thread Cert.InnerReferenceIdeal.nD Cert.InnerReferenceIdeal.τ).loc Cert.InnerReferenceIdeal.main_v55) = v0 c
          ∧ r.2.mem ((c.tc : Thread Cert.InnerReferenceIdeal.nD Cert.InnerReferenceIdeal.τ).loc Cert.InnerReferenceIdeal.main_v77) = v1 c
          ∧ r.2.mem ((c.tc : Thread Cert.InnerReferenceIdeal.nD Cert.InnerReferenceIdeal.τ).loc Cert.InnerReferenceIdeal.main_v78) = v2 c
          ∧ r.2.mem ((c.tc : Thread Cert.InnerReferenceIdeal.nD Cert.InnerReferenceIdeal.τ).loc Cert.InnerReferenceIdeal.main_v79) = v3 c
          ∧ r.2.mem ((c.tc : Thread Cert.InnerReferenceIdeal.nD Cert.InnerReferenceIdeal.τ).loc Cert.InnerReferenceIdeal.main_arg0) = m' ((c.tc : Thread Cert.InnerReferenceIdeal.nD Cert.InnerReferenceIdeal.τ).loc Cert.InnerReferenceIdeal.main_arg0)
          ∧ r.2.mem ((c.tc : Thread Cert.InnerReferenceIdeal.nD Cert.InnerReferenceIdeal.τ).loc Cert.InnerReferenceIdeal.main_arg1) = m' ((c.tc : Thread Cert.InnerReferenceIdeal.nD Cert.InnerReferenceIdeal.τ).loc Cert.InnerReferenceIdeal.main_arg1)
          ∧ r.2.mem ((c.tc : Thread Cert.InnerReferenceIdeal.nD Cert.InnerReferenceIdeal.τ).loc Cert.InnerReferenceIdeal.main_arg2) = m' ((c.tc : Thread Cert.InnerReferenceIdeal.nD Cert.InnerReferenceIdeal.τ).loc Cert.InnerReferenceIdeal.main_arg2)
          ∧ r.2.mem ((c.tc : Thread Cert.InnerReferenceIdeal.nD Cert.InnerReferenceIdeal.τ).loc Cert.InnerReferenceIdeal.main_arg3) = m' ((c.tc : Thread Cert.InnerReferenceIdeal.nD Cert.InnerReferenceIdeal.τ).loc Cert.InnerReferenceIdeal.main_arg3)
          ∧ r.2.mem ((c.tc : Thread Cert.InnerReferenceIdeal.nD Cert.InnerReferenceIdeal.τ).loc Cert.InnerReferenceIdeal.main_arg4) = m' ((c.tc : Thread Cert.InnerReferenceIdeal.nD Cert.InnerReferenceIdeal.τ).loc Cert.InnerReferenceIdeal.main_arg4)
          ∧ r.2.mem ((c.tc : Thread Cert.InnerReferenceIdeal.nD Cert.InnerReferenceIdeal.τ).loc Cert.InnerReferenceIdeal.main_arg5) = m' ((c.tc : Thread Cert.InnerReferenceIdeal.nD Cert.InnerReferenceIdeal.τ).loc Cert.InnerReferenceIdeal.main_arg5)
          ∧ r.2.mem ((c.tc : Thread Cert.InnerReferenceIdeal.nD Cert.InnerReferenceIdeal.τ).loc Cert.InnerReferenceIdeal.main_arg6) = m' ((c.tc : Thread Cert.InnerReferenceIdeal.nD Cert.InnerReferenceIdeal.τ).loc Cert.InnerReferenceIdeal.main_arg6))

def preserves_GatingKernel_GatingKernelIdeal : Prop :=
  True

def algebraic_GatingKernelIdeal_GatingReferenceIdeal_on_gating_columns [hGatingKernelIdeal : Cert.GatingKernelIdeal.Facts] [hGatingReferenceIdeal : Cert.GatingReferenceIdeal.Facts] [hOn_gating_columns : Cert.On_gating_columns.Facts] : Prop :=
  ∀ (m : (ℓ : Loc Cert.GatingKernelIdeal.nD Cert.GatingKernelIdeal.τ Cert.GatingKernelIdeal.sig) → Buf (Elt Ideal) ℓ) (g : Dev Cert.GatingKernelIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingKernelIdeal m →
    (∀ c : Dev Cert.GatingKernelIdeal.nD,
      m' ((c.tc : Thread Cert.GatingReferenceIdeal.nD Cert.GatingReferenceIdeal.τ).loc Cert.GatingReferenceIdeal.main_arg0) = m ((c.tc : Thread Cert.GatingKernelIdeal.nD Cert.GatingKernelIdeal.τ).loc Cert.GatingKernelIdeal.main_arg0)
      ∧ m' ((c.tc : Thread Cert.GatingReferenceIdeal.nD Cert.GatingReferenceIdeal.τ).loc Cert.GatingReferenceIdeal.main_arg1) = m ((c.tc : Thread Cert.GatingKernelIdeal.nD Cert.GatingKernelIdeal.τ).loc Cert.GatingKernelIdeal.main_arg1)
      ∧ m' ((c.tc : Thread Cert.GatingReferenceIdeal.nD Cert.GatingReferenceIdeal.τ).loc Cert.GatingReferenceIdeal.main_arg2) = m ((c.tc : Thread Cert.GatingKernelIdeal.nD Cert.GatingKernelIdeal.τ).loc Cert.GatingKernelIdeal.main_arg2)
      ∧ m' ((c.tc : Thread Cert.GatingReferenceIdeal.nD Cert.GatingReferenceIdeal.τ).loc Cert.GatingReferenceIdeal.main_arg3) = m ((c.tc : Thread Cert.GatingKernelIdeal.nD Cert.GatingKernelIdeal.τ).loc Cert.GatingKernelIdeal.main_arg3)
      ∧ m' ((c.tc : Thread Cert.GatingReferenceIdeal.nD Cert.GatingReferenceIdeal.τ).loc Cert.GatingReferenceIdeal.main_arg4) = m ((c.tc : Thread Cert.GatingKernelIdeal.nD Cert.GatingKernelIdeal.τ).loc Cert.GatingKernelIdeal.main_arg4)
      ∧ m' ((c.tc : Thread Cert.GatingReferenceIdeal.nD Cert.GatingReferenceIdeal.τ).loc Cert.GatingReferenceIdeal.main_arg5) = m ((c.tc : Thread Cert.GatingKernelIdeal.nD Cert.GatingKernelIdeal.τ).loc Cert.GatingKernelIdeal.main_arg5)
      ∧ m' ((c.tc : Thread Cert.GatingReferenceIdeal.nD Cert.GatingReferenceIdeal.τ).loc Cert.GatingReferenceIdeal.main_arg6) = m ((c.tc : Thread Cert.GatingKernelIdeal.nD Cert.GatingKernelIdeal.τ).loc Cert.GatingKernelIdeal.main_arg6)
      ∧ m' ((c.tc : Thread Cert.GatingReferenceIdeal.nD Cert.GatingReferenceIdeal.τ).loc Cert.GatingReferenceIdeal.main_arg7) = m ((c.tc : Thread Cert.GatingKernelIdeal.nD Cert.GatingKernelIdeal.τ).loc Cert.GatingKernelIdeal.main_arg7)) →
    ∃ (v0 : (c : Dev Cert.GatingKernelIdeal.nD) → Buf (Elt Ideal) ((c.tc : Thread Cert.GatingKernelIdeal.nD Cert.GatingKernelIdeal.τ).loc Cert.GatingKernelIdeal.main_v38)),
      θ_run (Cert.GatingKernelIdeal.defs (F := Ideal)) (onTc (τ := Cert.GatingKernelIdeal.τ) (Cert.GatingKernelIdeal.main (F := Ideal))) ⟨m, fun _ => 0, g⟩ (fun r => ∀ c : Dev Cert.GatingKernelIdeal.nD,
          (∀ i : (⟨2, ![4096, 1024]⟩ : Shape).Idx, (Cert.On_gating_columns.fn (F := Ideal) (m ((c.tc : Thread Cert.GatingKernelIdeal.nD Cert.GatingKernelIdeal.τ).loc Cert.GatingKernelIdeal.main_arg0)) (m ((c.tc : Thread Cert.GatingKernelIdeal.nD Cert.GatingKernelIdeal.τ).loc Cert.GatingKernelIdeal.main_arg1)) (m ((c.tc : Thread Cert.GatingKernelIdeal.nD Cert.GatingKernelIdeal.τ).loc Cert.GatingKernelIdeal.main_arg2)) (m ((c.tc : Thread Cert.GatingKernelIdeal.nD Cert.GatingKernelIdeal.τ).loc Cert.GatingKernelIdeal.main_arg3)) (m ((c.tc : Thread Cert.GatingKernelIdeal.nD Cert.GatingKernelIdeal.τ).loc Cert.GatingKernelIdeal.main_arg4)) (m ((c.tc : Thread Cert.GatingKernelIdeal.nD Cert.GatingKernelIdeal.τ).loc Cert.GatingKernelIdeal.main_arg5)) (m ((c.tc : Thread Cert.GatingKernelIdeal.nD Cert.GatingKernelIdeal.τ).loc Cert.GatingKernelIdeal.main_arg6)) (m ((c.tc : Thread Cert.GatingKernelIdeal.nD Cert.GatingKernelIdeal.τ).loc Cert.GatingKernelIdeal.main_arg7))) i = 1#1 → r.2.mem ((c.tc : Thread Cert.GatingKernelIdeal.nD Cert.GatingKernelIdeal.τ).loc Cert.GatingKernelIdeal.main_v38) i = v0 c i)
          ∧ r.2.mem ((c.tc : Thread Cert.GatingKernelIdeal.nD Cert.GatingKernelIdeal.τ).loc Cert.GatingKernelIdeal.main_arg0) = m ((c.tc : Thread Cert.GatingKernelIdeal.nD Cert.GatingKernelIdeal.τ).loc Cert.GatingKernelIdeal.main_arg0)
          ∧ r.2.mem ((c.tc : Thread Cert.GatingKernelIdeal.nD Cert.GatingKernelIdeal.τ).loc Cert.GatingKernelIdeal.main_arg1) = m ((c.tc : Thread Cert.GatingKernelIdeal.nD Cert.GatingKernelIdeal.τ).loc Cert.GatingKernelIdeal.main_arg1)
          ∧ r.2.mem ((c.tc : Thread Cert.GatingKernelIdeal.nD Cert.GatingKernelIdeal.τ).loc Cert.GatingKernelIdeal.main_arg2) = m ((c.tc : Thread Cert.GatingKernelIdeal.nD Cert.GatingKernelIdeal.τ).loc Cert.GatingKernelIdeal.main_arg2)
          ∧ r.2.mem ((c.tc : Thread Cert.GatingKernelIdeal.nD Cert.GatingKernelIdeal.τ).loc Cert.GatingKernelIdeal.main_arg3) = m ((c.tc : Thread Cert.GatingKernelIdeal.nD Cert.GatingKernelIdeal.τ).loc Cert.GatingKernelIdeal.main_arg3)
          ∧ r.2.mem ((c.tc : Thread Cert.GatingKernelIdeal.nD Cert.GatingKernelIdeal.τ).loc Cert.GatingKernelIdeal.main_arg4) = m ((c.tc : Thread Cert.GatingKernelIdeal.nD Cert.GatingKernelIdeal.τ).loc Cert.GatingKernelIdeal.main_arg4)
          ∧ r.2.mem ((c.tc : Thread Cert.GatingKernelIdeal.nD Cert.GatingKernelIdeal.τ).loc Cert.GatingKernelIdeal.main_arg5) = m ((c.tc : Thread Cert.GatingKernelIdeal.nD Cert.GatingKernelIdeal.τ).loc Cert.GatingKernelIdeal.main_arg5)
          ∧ r.2.mem ((c.tc : Thread Cert.GatingKernelIdeal.nD Cert.GatingKernelIdeal.τ).loc Cert.GatingKernelIdeal.main_arg6) = m ((c.tc : Thread Cert.GatingKernelIdeal.nD Cert.GatingKernelIdeal.τ).loc Cert.GatingKernelIdeal.main_arg6)
          ∧ r.2.mem ((c.tc : Thread Cert.GatingKernelIdeal.nD Cert.GatingKernelIdeal.τ).loc Cert.GatingKernelIdeal.main_arg7) = m ((c.tc : Thread Cert.GatingKernelIdeal.nD Cert.GatingKernelIdeal.τ).loc Cert.GatingKernelIdeal.main_arg7))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          (∀ i : (⟨2, ![4096, 1024]⟩ : Shape).Idx, (Cert.On_gating_columns.fn (F := Ideal) (m ((c.tc : Thread Cert.GatingKernelIdeal.nD Cert.GatingKernelIdeal.τ).loc Cert.GatingKernelIdeal.main_arg0)) (m ((c.tc : Thread Cert.GatingKernelIdeal.nD Cert.GatingKernelIdeal.τ).loc Cert.GatingKernelIdeal.main_arg1)) (m ((c.tc : Thread Cert.GatingKernelIdeal.nD Cert.GatingKernelIdeal.τ).loc Cert.GatingKernelIdeal.main_arg2)) (m ((c.tc : Thread Cert.GatingKernelIdeal.nD Cert.GatingKernelIdeal.τ).loc Cert.GatingKernelIdeal.main_arg3)) (m ((c.tc : Thread Cert.GatingKernelIdeal.nD Cert.GatingKernelIdeal.τ).loc Cert.GatingKernelIdeal.main_arg4)) (m ((c.tc : Thread Cert.GatingKernelIdeal.nD Cert.GatingKernelIdeal.τ).loc Cert.GatingKernelIdeal.main_arg5)) (m ((c.tc : Thread Cert.GatingKernelIdeal.nD Cert.GatingKernelIdeal.τ).loc Cert.GatingKernelIdeal.main_arg6)) (m ((c.tc : Thread Cert.GatingKernelIdeal.nD Cert.GatingKernelIdeal.τ).loc Cert.GatingKernelIdeal.main_arg7))) i = 1#1 → r.2.mem ((c.tc : Thread Cert.GatingReferenceIdeal.nD Cert.GatingReferenceIdeal.τ).loc Cert.GatingReferenceIdeal.main_v47) i = v0 c i)
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4)
          ∧ r.2.mem ((c.tc : Thread Cert.GatingReferenceIdeal.nD Cert.GatingReferenceIdeal.τ).loc Cert.GatingReferenceIdeal.main_arg5) = m' ((c.tc : Thread Cert.GatingReferenceIdeal.nD Cert.GatingReferenceIdeal.τ).loc Cert.GatingReferenceIdeal.main_arg5)
          ∧ r.2.mem ((c.tc : Thread Cert.GatingReferenceIdeal.nD Cert.GatingReferenceIdeal.τ).loc Cert.GatingReferenceIdeal.main_arg6) = m' ((c.tc : Thread Cert.GatingReferenceIdeal.nD Cert.GatingReferenceIdeal.τ).loc Cert.GatingReferenceIdeal.main_arg6)
          ∧ r.2.mem ((c.tc : Thread Cert.GatingReferenceIdeal.nD Cert.GatingReferenceIdeal.τ).loc Cert.GatingReferenceIdeal.main_arg7) = m' ((c.tc : Thread Cert.GatingReferenceIdeal.nD Cert.GatingReferenceIdeal.τ).loc Cert.GatingReferenceIdeal.main_arg7))

def Claim : Prop :=
  ∃ (hGainKernel : Cert.GainKernel.Facts) (hGainKernelIdeal : Cert.GainKernelIdeal.Facts) (hGainReferenceIdeal : Cert.GainReferenceIdeal.Facts) (hLossKernel : Cert.LossKernel.Facts) (hLossKernelIdeal : Cert.LossKernelIdeal.Facts) (hLossReferenceIdeal : Cert.LossReferenceIdeal.Facts) (hGateKernel : Cert.GateKernel.Facts) (hGateKernelIdeal : Cert.GateKernelIdeal.Facts) (hGateReferenceIdeal : Cert.GateReferenceIdeal.Facts) (hNormKernel : Cert.NormKernel.Facts) (hNormKernelIdeal : Cert.NormKernelIdeal.Facts) (hNormReferenceIdeal : Cert.NormReferenceIdeal.Facts) (hNormTKernel : Cert.NormTKernel.Facts) (hNormTKernelIdeal : Cert.NormTKernelIdeal.Facts) (hNormTReferenceIdeal : Cert.NormTReferenceIdeal.Facts) (hFirstKernel : Cert.FirstKernel.Facts) (hFirstKernelIdeal : Cert.FirstKernelIdeal.Facts) (hFirstReferenceIdeal : Cert.FirstReferenceIdeal.Facts) (hXattnKernel : Cert.XattnKernel.Facts) (hXattnKernelIdeal : Cert.XattnKernelIdeal.Facts) (hXattnReferenceIdeal : Cert.XattnReferenceIdeal.Facts) (hXattnFKernel : Cert.XattnFKernel.Facts) (hXattnFKernelIdeal : Cert.XattnFKernelIdeal.Facts) (hXattnFReferenceIdeal : Cert.XattnFReferenceIdeal.Facts) (hMixOKernel : Cert.MixOKernel.Facts) (hMixOKernelIdeal : Cert.MixOKernelIdeal.Facts) (hMixOReferenceIdeal : Cert.MixOReferenceIdeal.Facts) (hFfnOKernel : Cert.FfnOKernel.Facts) (hFfnOKernelIdeal : Cert.FfnOKernelIdeal.Facts) (hFfnOReferenceIdeal : Cert.FfnOReferenceIdeal.Facts) (hRopeKernel : Cert.RopeKernel.Facts) (hRopeKernelIdeal : Cert.RopeKernelIdeal.Facts) (hRopeReferenceIdeal : Cert.RopeReferenceIdeal.Facts) (hMmKernel : Cert.MmKernel.Facts) (hMmKernelIdeal : Cert.MmKernelIdeal.Facts) (hMmReferenceIdeal : Cert.MmReferenceIdeal.Facts) (hWgradKernel : Cert.WgradKernel.Facts) (hWgradKernelIdeal : Cert.WgradKernelIdeal.Facts) (hWgradReferenceIdeal : Cert.WgradReferenceIdeal.Facts) (hAdamwKernel : Cert.AdamwKernel.Facts) (hAdamwKernelIdeal : Cert.AdamwKernelIdeal.Facts) (hAdamwReferenceIdeal : Cert.AdamwReferenceIdeal.Facts) (hSmallKernel : Cert.SmallKernel.Facts) (hSmallKernelIdeal : Cert.SmallKernelIdeal.Facts) (hSmallReferenceIdeal : Cert.SmallReferenceIdeal.Facts) (hFinalSumKernel : Cert.FinalSumKernel.Facts) (hFinalSumKernelIdeal : Cert.FinalSumKernelIdeal.Facts) (hFinalSumReferenceIdeal : Cert.FinalSumReferenceIdeal.Facts) (hFfnLKernel : Cert.FfnLKernel.Facts) (hFfnLKernelIdeal : Cert.FfnLKernelIdeal.Facts) (hFfnLReferenceIdeal : Cert.FfnLReferenceIdeal.Facts) (hFirstFKernel : Cert.FirstFKernel.Facts) (hFirstFKernelIdeal : Cert.FirstFKernelIdeal.Facts) (hFirstFReferenceIdeal : Cert.FirstFReferenceIdeal.Facts) (hXkvFKernel : Cert.XkvFKernel.Facts) (hXkvFKernelIdeal : Cert.XkvFKernelIdeal.Facts) (hXkvFReferenceIdeal : Cert.XkvFReferenceIdeal.Facts) (hChipSumKernel : Cert.ChipSumKernel.Facts) (hChipSumKernelIdeal : Cert.ChipSumKernelIdeal.Facts) (hChipSumReferenceIdeal : Cert.ChipSumReferenceIdeal.Facts) (hPlaceKernel : Cert.PlaceKernel.Facts) (hPlaceKernelIdeal : Cert.PlaceKernelIdeal.Facts) (hPlaceReferenceIdeal : Cert.PlaceReferenceIdeal.Facts) (hInnerKernel : Cert.InnerKernel.Facts) (hInnerKernelIdeal : Cert.InnerKernelIdeal.Facts) (hInnerReferenceIdeal : Cert.InnerReferenceIdeal.Facts) (hGatingKernel : Cert.GatingKernel.Facts) (hGatingKernelIdeal : Cert.GatingKernelIdeal.Facts) (hGatingReferenceIdeal : Cert.GatingReferenceIdeal.Facts) (hPre_finite_loss : Cert.Pre_finite_loss.Facts) (hPre_finite_gate : Cert.Pre_finite_gate.Facts) (hPre_finite_norm : Cert.Pre_finite_norm.Facts) (hPre_finite_normt : Cert.Pre_finite_normt.Facts) (hPre_finite_first : Cert.Pre_finite_first.Facts) (hPre_finite_xattn : Cert.Pre_finite_xattn.Facts) (hPre_finite_xattnf : Cert.Pre_finite_xattnf.Facts) (hPre_finite_inner : Cert.Pre_finite_inner.Facts) (hOn_own_block : Cert.On_own_block.Facts) (hOn_gating_columns : Cert.On_gating_columns.Facts),
    quiescent_GainKernel (hGainKernel := hGainKernel)
    ∧ quiescent_GainKernelIdeal (hGainKernelIdeal := hGainKernelIdeal)
    ∧ quiescent_GainReferenceIdeal (hGainReferenceIdeal := hGainReferenceIdeal)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_GateKernel (hGateKernel := hGateKernel)
    ∧ quiescent_GateKernelIdeal (hGateKernelIdeal := hGateKernelIdeal)
    ∧ quiescent_GateKernelIdeal_pre_finite_gate (hGateKernelIdeal := hGateKernelIdeal) (hPre_finite_gate := hPre_finite_gate)
    ∧ quiescent_GateReferenceIdeal (hGateReferenceIdeal := hGateReferenceIdeal)
    ∧ quiescent_GateReferenceIdeal_pre_finite_gate (hGateReferenceIdeal := hGateReferenceIdeal) (hPre_finite_gate := hPre_finite_gate)
    ∧ quiescent_NormKernel (hNormKernel := hNormKernel)
    ∧ quiescent_NormKernelIdeal (hNormKernelIdeal := hNormKernelIdeal)
    ∧ quiescent_NormKernelIdeal_pre_finite_norm (hNormKernelIdeal := hNormKernelIdeal) (hPre_finite_norm := hPre_finite_norm)
    ∧ quiescent_NormReferenceIdeal (hNormReferenceIdeal := hNormReferenceIdeal)
    ∧ quiescent_NormReferenceIdeal_pre_finite_norm (hNormReferenceIdeal := hNormReferenceIdeal) (hPre_finite_norm := hPre_finite_norm)
    ∧ quiescent_NormTKernel (hNormTKernel := hNormTKernel)
    ∧ quiescent_NormTKernelIdeal (hNormTKernelIdeal := hNormTKernelIdeal)
    ∧ quiescent_NormTKernelIdeal_pre_finite_normt (hNormTKernelIdeal := hNormTKernelIdeal) (hPre_finite_normt := hPre_finite_normt)
    ∧ quiescent_NormTReferenceIdeal (hNormTReferenceIdeal := hNormTReferenceIdeal)
    ∧ quiescent_NormTReferenceIdeal_pre_finite_normt (hNormTReferenceIdeal := hNormTReferenceIdeal) (hPre_finite_normt := hPre_finite_normt)
    ∧ quiescent_FirstKernel (hFirstKernel := hFirstKernel)
    ∧ quiescent_FirstKernelIdeal (hFirstKernelIdeal := hFirstKernelIdeal)
    ∧ quiescent_FirstKernelIdeal_pre_finite_first (hFirstKernelIdeal := hFirstKernelIdeal) (hPre_finite_first := hPre_finite_first)
    ∧ quiescent_FirstReferenceIdeal (hFirstReferenceIdeal := hFirstReferenceIdeal)
    ∧ quiescent_FirstReferenceIdeal_pre_finite_first (hFirstReferenceIdeal := hFirstReferenceIdeal) (hPre_finite_first := hPre_finite_first)
    ∧ quiescent_XattnKernel (hXattnKernel := hXattnKernel)
    ∧ quiescent_XattnKernelIdeal (hXattnKernelIdeal := hXattnKernelIdeal)
    ∧ quiescent_XattnKernelIdeal_pre_finite_xattn (hXattnKernelIdeal := hXattnKernelIdeal) (hPre_finite_xattn := hPre_finite_xattn)
    ∧ quiescent_XattnReferenceIdeal (hXattnReferenceIdeal := hXattnReferenceIdeal)
    ∧ quiescent_XattnReferenceIdeal_pre_finite_xattn (hXattnReferenceIdeal := hXattnReferenceIdeal) (hPre_finite_xattn := hPre_finite_xattn)
    ∧ quiescent_XattnFKernel (hXattnFKernel := hXattnFKernel)
    ∧ quiescent_XattnFKernelIdeal (hXattnFKernelIdeal := hXattnFKernelIdeal)
    ∧ quiescent_XattnFKernelIdeal_pre_finite_xattnf (hXattnFKernelIdeal := hXattnFKernelIdeal) (hPre_finite_xattnf := hPre_finite_xattnf)
    ∧ quiescent_XattnFReferenceIdeal (hXattnFReferenceIdeal := hXattnFReferenceIdeal)
    ∧ quiescent_XattnFReferenceIdeal_pre_finite_xattnf (hXattnFReferenceIdeal := hXattnFReferenceIdeal) (hPre_finite_xattnf := hPre_finite_xattnf)
    ∧ quiescent_MixOKernel (hMixOKernel := hMixOKernel)
    ∧ quiescent_MixOKernelIdeal (hMixOKernelIdeal := hMixOKernelIdeal)
    ∧ quiescent_MixOReferenceIdeal (hMixOReferenceIdeal := hMixOReferenceIdeal)
    ∧ quiescent_FfnOKernel (hFfnOKernel := hFfnOKernel)
    ∧ quiescent_FfnOKernelIdeal (hFfnOKernelIdeal := hFfnOKernelIdeal)
    ∧ quiescent_FfnOReferenceIdeal (hFfnOReferenceIdeal := hFfnOReferenceIdeal)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_MmKernel (hMmKernel := hMmKernel)
    ∧ quiescent_MmKernelIdeal (hMmKernelIdeal := hMmKernelIdeal)
    ∧ quiescent_MmReferenceIdeal (hMmReferenceIdeal := hMmReferenceIdeal)
    ∧ quiescent_WgradKernel (hWgradKernel := hWgradKernel)
    ∧ quiescent_WgradKernelIdeal (hWgradKernelIdeal := hWgradKernelIdeal)
    ∧ quiescent_WgradReferenceIdeal (hWgradReferenceIdeal := hWgradReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_FinalSumKernel (hFinalSumKernel := hFinalSumKernel)
    ∧ quiescent_FinalSumKernelIdeal (hFinalSumKernelIdeal := hFinalSumKernelIdeal)
    ∧ quiescent_FinalSumReferenceIdeal (hFinalSumReferenceIdeal := hFinalSumReferenceIdeal)
    ∧ quiescent_FfnLKernel (hFfnLKernel := hFfnLKernel)
    ∧ quiescent_FfnLKernelIdeal (hFfnLKernelIdeal := hFfnLKernelIdeal)
    ∧ quiescent_FfnLReferenceIdeal (hFfnLReferenceIdeal := hFfnLReferenceIdeal)
    ∧ quiescent_FirstFKernel (hFirstFKernel := hFirstFKernel)
    ∧ quiescent_FirstFKernelIdeal (hFirstFKernelIdeal := hFirstFKernelIdeal)
    ∧ quiescent_FirstFReferenceIdeal (hFirstFReferenceIdeal := hFirstFReferenceIdeal)
    ∧ quiescent_XkvFKernel (hXkvFKernel := hXkvFKernel)
    ∧ quiescent_XkvFKernelIdeal (hXkvFKernelIdeal := hXkvFKernelIdeal)
    ∧ quiescent_XkvFReferenceIdeal (hXkvFReferenceIdeal := hXkvFReferenceIdeal)
    ∧ quiescent_ChipSumKernel (hChipSumKernel := hChipSumKernel)
    ∧ quiescent_ChipSumKernelIdeal (hChipSumKernelIdeal := hChipSumKernelIdeal)
    ∧ quiescent_ChipSumReferenceIdeal (hChipSumReferenceIdeal := hChipSumReferenceIdeal)
    ∧ quiescent_PlaceKernel (hPlaceKernel := hPlaceKernel)
    ∧ quiescent_PlaceKernelIdeal (hPlaceKernelIdeal := hPlaceKernelIdeal)
    ∧ quiescent_PlaceReferenceIdeal (hPlaceReferenceIdeal := hPlaceReferenceIdeal)
    ∧ quiescent_InnerKernel (hInnerKernel := hInnerKernel)
    ∧ quiescent_InnerKernelIdeal (hInnerKernelIdeal := hInnerKernelIdeal)
    ∧ quiescent_InnerKernelIdeal_pre_finite_inner (hInnerKernelIdeal := hInnerKernelIdeal) (hPre_finite_inner := hPre_finite_inner)
    ∧ quiescent_InnerReferenceIdeal (hInnerReferenceIdeal := hInnerReferenceIdeal)
    ∧ quiescent_InnerReferenceIdeal_pre_finite_inner (hInnerReferenceIdeal := hInnerReferenceIdeal) (hPre_finite_inner := hPre_finite_inner)
    ∧ quiescent_GatingKernel (hGatingKernel := hGatingKernel)
    ∧ quiescent_GatingKernelIdeal (hGatingKernelIdeal := hGatingKernelIdeal)
    ∧ quiescent_GatingReferenceIdeal (hGatingReferenceIdeal := hGatingReferenceIdeal)
    ∧ preserves_GainKernel_GainKernelIdeal
    ∧ algebraic_GainKernelIdeal_GainReferenceIdeal (hGainKernelIdeal := hGainKernelIdeal) (hGainReferenceIdeal := hGainReferenceIdeal)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_GateKernel_GateKernelIdeal
    ∧ algebraic_GateKernelIdeal_GateReferenceIdeal_pre_finite_gate (hGateKernelIdeal := hGateKernelIdeal) (hGateReferenceIdeal := hGateReferenceIdeal) (hPre_finite_gate := hPre_finite_gate)
    ∧ preserves_NormKernel_NormKernelIdeal
    ∧ algebraic_NormKernelIdeal_NormReferenceIdeal_pre_finite_norm (hNormKernelIdeal := hNormKernelIdeal) (hNormReferenceIdeal := hNormReferenceIdeal) (hPre_finite_norm := hPre_finite_norm)
    ∧ preserves_NormTKernel_NormTKernelIdeal
    ∧ algebraic_NormTKernelIdeal_NormTReferenceIdeal_pre_finite_normt (hNormTKernelIdeal := hNormTKernelIdeal) (hNormTReferenceIdeal := hNormTReferenceIdeal) (hPre_finite_normt := hPre_finite_normt)
    ∧ preserves_FirstKernel_FirstKernelIdeal
    ∧ algebraic_FirstKernelIdeal_FirstReferenceIdeal_pre_finite_first (hFirstKernelIdeal := hFirstKernelIdeal) (hFirstReferenceIdeal := hFirstReferenceIdeal) (hPre_finite_first := hPre_finite_first)
    ∧ preserves_XattnKernel_XattnKernelIdeal
    ∧ algebraic_XattnKernelIdeal_XattnReferenceIdeal_pre_finite_xattn (hXattnKernelIdeal := hXattnKernelIdeal) (hXattnReferenceIdeal := hXattnReferenceIdeal) (hPre_finite_xattn := hPre_finite_xattn)
    ∧ preserves_XattnFKernel_XattnFKernelIdeal
    ∧ algebraic_XattnFKernelIdeal_XattnFReferenceIdeal_pre_finite_xattnf (hXattnFKernelIdeal := hXattnFKernelIdeal) (hXattnFReferenceIdeal := hXattnFReferenceIdeal) (hPre_finite_xattnf := hPre_finite_xattnf)
    ∧ preserves_MixOKernel_MixOKernelIdeal
    ∧ algebraic_MixOKernelIdeal_MixOReferenceIdeal (hMixOKernelIdeal := hMixOKernelIdeal) (hMixOReferenceIdeal := hMixOReferenceIdeal)
    ∧ preserves_FfnOKernel_FfnOKernelIdeal
    ∧ algebraic_FfnOKernelIdeal_FfnOReferenceIdeal (hFfnOKernelIdeal := hFfnOKernelIdeal) (hFfnOReferenceIdeal := hFfnOReferenceIdeal)
    ∧ preserves_RopeKernel_RopeKernelIdeal
    ∧ algebraic_RopeKernelIdeal_RopeReferenceIdeal (hRopeKernelIdeal := hRopeKernelIdeal) (hRopeReferenceIdeal := hRopeReferenceIdeal)
    ∧ preserves_MmKernel_MmKernelIdeal
    ∧ algebraic_MmKernelIdeal_MmReferenceIdeal (hMmKernelIdeal := hMmKernelIdeal) (hMmReferenceIdeal := hMmReferenceIdeal)
    ∧ preserves_WgradKernel_WgradKernelIdeal
    ∧ algebraic_WgradKernelIdeal_WgradReferenceIdeal (hWgradKernelIdeal := hWgradKernelIdeal) (hWgradReferenceIdeal := hWgradReferenceIdeal)
    ∧ preserves_AdamwKernel_AdamwKernelIdeal
    ∧ algebraic_AdamwKernelIdeal_AdamwReferenceIdeal (hAdamwKernelIdeal := hAdamwKernelIdeal) (hAdamwReferenceIdeal := hAdamwReferenceIdeal)
    ∧ preserves_SmallKernel_SmallKernelIdeal
    ∧ algebraic_SmallKernelIdeal_SmallReferenceIdeal (hSmallKernelIdeal := hSmallKernelIdeal) (hSmallReferenceIdeal := hSmallReferenceIdeal)
    ∧ preserves_FinalSumKernel_FinalSumKernelIdeal
    ∧ algebraic_FinalSumKernelIdeal_FinalSumReferenceIdeal (hFinalSumKernelIdeal := hFinalSumKernelIdeal) (hFinalSumReferenceIdeal := hFinalSumReferenceIdeal)
    ∧ preserves_FfnLKernel_FfnLKernelIdeal
    ∧ algebraic_FfnLKernelIdeal_FfnLReferenceIdeal (hFfnLKernelIdeal := hFfnLKernelIdeal) (hFfnLReferenceIdeal := hFfnLReferenceIdeal)
    ∧ preserves_FirstFKernel_FirstFKernelIdeal
    ∧ algebraic_FirstFKernelIdeal_FirstFReferenceIdeal (hFirstFKernelIdeal := hFirstFKernelIdeal) (hFirstFReferenceIdeal := hFirstFReferenceIdeal)
    ∧ preserves_XkvFKernel_XkvFKernelIdeal
    ∧ algebraic_XkvFKernelIdeal_XkvFReferenceIdeal (hXkvFKernelIdeal := hXkvFKernelIdeal) (hXkvFReferenceIdeal := hXkvFReferenceIdeal)
    ∧ preserves_ChipSumKernel_ChipSumKernelIdeal
    ∧ algebraic_ChipSumKernelIdeal_ChipSumReferenceIdeal (hChipSumKernelIdeal := hChipSumKernelIdeal) (hChipSumReferenceIdeal := hChipSumReferenceIdeal)
    ∧ preserves_PlaceKernel_PlaceKernelIdeal
    ∧ algebraic_PlaceKernelIdeal_PlaceReferenceIdeal_on_own_block (hPlaceKernelIdeal := hPlaceKernelIdeal) (hPlaceReferenceIdeal := hPlaceReferenceIdeal) (hOn_own_block := hOn_own_block)
    ∧ preserves_InnerKernel_InnerKernelIdeal
    ∧ algebraic_InnerKernelIdeal_InnerReferenceIdeal_pre_finite_inner (hInnerKernelIdeal := hInnerKernelIdeal) (hInnerReferenceIdeal := hInnerReferenceIdeal) (hPre_finite_inner := hPre_finite_inner)
    ∧ preserves_GatingKernel_GatingKernelIdeal
    ∧ algebraic_GatingKernelIdeal_GatingReferenceIdeal_on_gating_columns (hGatingKernelIdeal := hGatingKernelIdeal) (hGatingReferenceIdeal := hGatingReferenceIdeal) (hOn_gating_columns := hOn_gating_columns)
-- ==== On_gating_columns.lean ====
abbrev S4096x1536 : Shape := ⟨2, ![4096, 1536]⟩
abbrev S1x4096 : Shape := ⟨2, ![1, 4096]⟩
abbrev S256 : Shape := ⟨1, ![256]⟩
abbrev S4x128x128 : Shape := ⟨3, ![4, 128, 128]⟩
abbrev S4x128 : Shape := ⟨2, ![4, 128]⟩
abbrev S4x64x64 : Shape := ⟨3, ![4, 64, 64]⟩
abbrev S8 : Shape := ⟨1, ![8]⟩
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1536 .f32) (main_arg1 : IVec S1x4096 32) (main_arg2 : FVec F S256 .f32) (main_arg3 : FVec F S4x128x128 .f32) (main_arg4 : FVec F S4x128 .f32) (main_arg5 : FVec F S4x64x64 .f32) (main_arg6 : FVec F S256 .f32) (main_arg7 : FVec F S8 .f32) : IVec S4096x1024 1 :=
  let main_v0 : IVec S4096x1024 32 := iotaInDim S4096x1024 32 1
  let main_c : IVec S_ 32 := constantI S_ 32 256#32
  let main_v1 : IVec S4096x1024 32 := broadcastInDim S4096x1024 ![] bcast_S_S4096x1024 main_c
  let main_v2 : IVec S4096x1024 1 := cmpi .slt main_v0 main_v1
  main_v2
-- ==== On_own_block.lean ====
abbrev S4x1024x704 : Shape := ⟨3, ![4, 1024, 704]⟩
abbrev S5632x1024 : Shape := ⟨2, ![5632, 1024]⟩
abbrev S_ : Shape := ⟨0, ![]⟩

class Facts : Prop where
  bcast_S_S5632x1024 : S_.BroadcastsInDim S5632x1024 (![] : Fin 0 → Fin S5632x1024.rank)

variable [Facts]

def fn {F : FTy → Type} [FloatOps F] (main_arg0 : FVec F S4x1024x704 .f32) : IVec S5632x1024 1 :=
  let main_v0 : IVec S5632x1024 32 := iotaInDim S5632x1024 32 0
  let main_c : IVec S_ 32 := constantI S_ 32 704#32
  let main_v1 : IVec S5632x1024 32 := broadcastInDim S5632x1024 ![] bcast_S_S5632x1024 main_c
  let main_v2 : IVec S5632x1024 1 := cmpi .slt main_v0 main_v1
  main_v2
-- ==== Pre_finite_first.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1536 : S_.BroadcastsInDim S1024x1536 (![] : Fin 0 → Fin S1024x1536.rank)
  bcast_S_S4096x1536 : S_.BroadcastsInDim S4096x1536 (![] : Fin 0 → Fin S4096x1536.rank)

variable [Facts]

def fn {F : FTy → Type} [FloatOps F] (main_arg0 : FVec F S4096x1024 .f32) (main_arg1 : FVec F S1024 .f32) (main_arg2 : FVec F S1024x1536 .f32) (main_arg3 : FVec F S4096x1024 .f32) (main_arg4 : FVec F S4096x1536 .f32) : IVec S4096x1024 1 × IVec S1024 1 × IVec S1024x1536 1 × IVec S4096x1536 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S4096x1536 .f32 := Host.absf main_arg4
  let main_cst_2 : FVec F S_ .f32 := constant S_ .f32 0x7F800000#32
  let main_v10 : FVec F S4096x1536 .f32 := broadcastInDim S4096x1536 ![] bcast_S_S4096x1536 main_cst_2
  let main_v11 : IVec S4096x1536 1 := cmpf .olt main_v9 main_v10
  (main_v2, main_v5, main_v8, main_v11)
-- ==== Pre_finite_gate.lean ====
abbrev S4096x5632 : Shape := ⟨2, ![4096, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S2816x1024 .f32) (main_arg2 : FVec F S4096x1024 .f32) : IVec S4096x5632 1 × IVec S2816x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_inner.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1536 : S_.BroadcastsInDim S1024x1536 (![] : Fin 0 → Fin S1024x1536.rank)
  bcast_S_S4096x1536 : S_.BroadcastsInDim S4096x1536 (![] : Fin 0 → Fin S4096x1536.rank)

variable [Facts]

def fn_part1 {F : FTy → Type} [FloatOps F] (main_arg6 : FVec F S4096x1536 .f32) (main_v2 : IVec S4096x1024 1) (main_v5 : IVec S4096x1024 1) (main_v8 : IVec S1024 1) (main_v11 : IVec S1024 1) (main_v14 : IVec S1024x1536 1) (main_v17 : IVec S4096x1024 1) : IVec S4096x1024 1 × IVec S4096x1024 1 × IVec S1024 1 × IVec S1024 1 × IVec S1024x1536 1 × IVec S4096x1024 1 × IVec S4096x1536 1 :=
  let main_v18 : FVec F S4096x1536 .f32 := Host.absf main_arg6
  let main_cst_5 : FVec F S_ .f32 := constant S_ .f32 0x7F800000#32
  let main_v19 : FVec F S4096x1536 .f32 := broadcastInDim S4096x1536 ![] bcast_S_S4096x1536 main_cst_5
  let main_v20 : IVec S4096x1536 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S1024 .f32) (main_arg3 : FVec F S1024 .f32) (main_arg4 : FVec F S1024x1536 .f32) (main_arg5 : FVec F S4096x1024 .f32) (main_arg6 : FVec F S4096x1536 .f32) : IVec S4096x1024 1 × IVec S4096x1024 1 × IVec S1024 1 × IVec S1024 1 × IVec S1024x1536 1 × IVec S4096x1024 1 × IVec S4096x1536 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1536 .f32 := Host.absf main_arg4
  let main_cst_3 : FVec F S_ .f32 := constant S_ .f32 0x7F800000#32
  let main_v13 : FVec F S1024x1536 .f32 := broadcastInDim S1024x1536 ![] bcast_S_S1024x1536 main_cst_3
  let main_v14 : IVec S1024x1536 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_v2 main_v5 main_v8 main_v11 main_v14 main_v17
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) (main_arg3 : FVec F S4096x1024 .f32) : IVec S4096x1024 1 × IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_norm.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S4096x5632 : S_.BroadcastsInDim S4096x5632 (![] : Fin 0 → Fin S4096x5632.rank)

variable [Facts]

def fn_part1 {F : FTy → Type} [FloatOps F] (main_arg6 : FVec F S4096x5632 .f32) (main_v2 : IVec S4096x1024 1) (main_v5 : IVec S4096x1024 1) (main_v8 : IVec S1024 1) (main_v11 : IVec S1024 1) (main_v14 : IVec S1024x5632 1) (main_v17 : IVec S4096x1024 1) : IVec S4096x1024 1 × IVec S4096x1024 1 × IVec S1024 1 × IVec S1024 1 × IVec S1024x5632 1 × IVec S4096x1024 1 × IVec S4096x5632 1 :=
  let main_v18 : FVec F S4096x5632 .f32 := Host.absf main_arg6
  let main_cst_5 : FVec F S_ .f32 := constant S_ .f32 0x7F800000#32
  let main_v19 : FVec F S4096x5632 .f32 := broadcastInDim S4096x5632 ![] bcast_S_S4096x5632 main_cst_5
  let main_v20 : IVec S4096x5632 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S1024 .f32) (main_arg3 : FVec F S1024 .f32) (main_arg4 : FVec F S1024x5632 .f32) (main_arg5 : FVec F S4096x1024 .f32) (main_arg6 : FVec F S4096x5632 .f32) : IVec S4096x1024 1 × IVec S4096x1024 1 × IVec S1024 1 × IVec S1024 1 × IVec S1024x5632 1 × IVec S4096x1024 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_v2 main_v5 main_v8 main_v11 main_v14 main_v17
-- ==== Pre_finite_normt.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg6 : FVec F S4096x1024 .f32) (main_v2 : IVec S4096x1024 1) (main_v5 : IVec S4096x1024 1) (main_v8 : IVec S1024 1) (main_v11 : IVec S1024 1) (main_v14 : IVec S1024x1024 1) (main_v17 : IVec S4096x1024 1) : IVec S4096x1024 1 × IVec S4096x1024 1 × IVec S1024 1 × IVec S1024 1 × IVec S1024x1024 1 × IVec S4096x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S1024 .f32) (main_arg3 : FVec F S1024 .f32) (main_arg4 : FVec F S1024x1024 .f32) (main_arg5 : FVec F S4096x1024 .f32) (main_arg6 : FVec F S4096x1024 .f32) : IVec S4096x1024 1 × IVec S4096x1024 1 × IVec S1024 1 × IVec S1024 1 × IVec S1024x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_v2 main_v5 main_v8 main_v11 main_v14 main_v17
-- ==== Pre_finite_xattn.lean ====
abbrev S4096x1024 : Shape := ⟨2, ![4096, 1024]⟩
abbrev S256x2048 : Shape := ⟨2, ![256, 2048]⟩
abbrev S_ : Shape := ⟨0, ![]⟩

class Facts : Prop where
  bcast_S_S4096x1024 : S_.BroadcastsInDim S4096x1024 (![] : Fin 0 → Fin S4096x1024.rank)
  bcast_S_S256x2048 : S_.BroadcastsInDim S256x2048 (![] : Fin 0 → Fin S256x2048.rank)

variable [Facts]

def fn {F : FTy → Type} [FloatOps F] (main_arg0 : FVec F S4096x1024 .f32) (main_arg1 : FVec F S256x2048 .f32) (main_arg2 : FVec F S4096x1024 .f32) : IVec S4096x1024 1 × IVec S256x2048 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x2048 .f32 := Host.absf main_arg1
  let main_cst_0 : FVec F S_ .f32 := constant S_ .f32 0x7F800000#32
  let main_v4 : FVec F S256x2048 .f32 := broadcastInDim S256x2048 ![] bcast_S_S256x2048 main_cst_0
  let main_v5 : IVec S256x2048 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_xattnf.lean ====
abbrev S4096x1024 : Shape := ⟨2, ![4096, 1024]⟩
abbrev S256x2048 : Shape := ⟨2, ![256, 2048]⟩
abbrev S_ : Shape := ⟨0, ![]⟩

class Facts : Prop where
  bcast_S_S4096x1024 : S_.BroadcastsInDim S4096x1024 (![] : Fin 0 → Fin S4096x1024.rank)
  bcast_S_S256x2048 : S_.BroadcastsInDim S256x2048 (![] : Fin 0 → Fin S256x2048.rank)

variable [Facts]

def fn {F : FTy → Type} [FloatOps F] (main_arg0 : FVec F S4096x1024 .f32) (main_arg1 : FVec F S256x2048 .f32) : IVec S4096x1024 1 × IVec S256x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x2048 .f32 := Host.absf main_arg1
  let main_cst_0 : FVec F S_ .f32 := constant S_ .f32 0x7F800000#32
  let main_v4 : FVec F S256x2048 .f32 := broadcastInDim S256x2048 ![] bcast_S_S256x2048 main_cst_0
  let main_v5 : IVec S256x2048 1 := cmpf .olt main_v3 main_v4
  (main_v2, main_v5)
-- ==== GainKernel.lean ====
abbrev S256x1024 : Shape := ⟨2, ![256, 1024]⟩
abbrev S1024 : Shape := ⟨1, ![1024]⟩
abbrev S4x256x1024 : Shape := ⟨3, ![4, 256, 1024]⟩
abbrev S1x1024 : Shape := ⟨2, ![1, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S4x256x1024, .f32⟩
  | .hbm, ⟨3, _⟩ => ⟨S1x1024, .f32⟩
  | .local _ .vmem, ⟨0, _⟩ => ⟨S256x1024, .f32⟩
  | .local _ .vmem, ⟨1, _⟩ => ⟨S4x256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GainReferenceIdeal.lean ====
abbrev S256x1024 : Shape := ⟨2, ![256, 1024]⟩
abbrev S1024 : Shape := ⟨1, ![1024]⟩
abbrev S4x256x1024 : Shape := ⟨3, ![4, 256, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1x256x1024 : Shape := ⟨3, ![1, 256, 1024]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S4x256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S1x256x1024, .f32⟩
  | .hbm, ⟨20, _⟩ => ⟨S256x1024, .f32⟩
  | .hbm, ⟨21, _⟩ => ⟨S1x256x1024, .f32⟩
  | .hbm, ⟨22, _⟩ => ⟨S256x1024, .f32⟩
  | .hbm, ⟨23, _⟩ => ⟨S1x256x1024, .f32⟩
  | .hbm, ⟨24, _⟩ => ⟨S256x1024, .f32⟩
  | .hbm, ⟨25, _⟩ => ⟨S1x256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1024, .f32⟩
  | .hbm, ⟨36, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== LossKernel.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 27
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1x1024, .f32⟩
  | .hbm, ⟨23, _⟩ => ⟨S1x128, .f32⟩
  | .hbm, ⟨24, _⟩ => ⟨S4096x1024, .f32⟩
  | .hbm, ⟨25, _⟩ => ⟨S4096x1024, .bf16⟩
  | .hbm, ⟨26, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v54 : BitVec 1 := Scalar.cmpi .eq arg0 c7_i32
  let v55 : BitVec 32 := Scalar.extui v54
  let c0_i32_27 : BitVec 32 := 0#32
  let v56 : BitVec 1 := Scalar.cmpi .ne v55 c0_i32_27
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x128, .f32⟩
  | .hbm, ⟨74, _⟩ => ⟨S4096x1024, .bf16⟩
  | .hbm, ⟨75, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== GateKernel.lean ====
abbrev S4096x5632 : Shape := ⟨2, ![4096, 5632]⟩
abbrev S2816x1024 : Shape := ⟨2, ![2816, 1024]⟩
abbrev S4096x1024 : Shape := ⟨2, ![4096, 1024]⟩
abbrev S256x1024 : Shape := ⟨2, ![256, 1024]⟩
abbrev S256x5632 : Shape := ⟨2, ![256, 5632]⟩
abbrev S256x2816 : Shape := ⟨2, ![256, 2816]⟩
abbrev S256x640 : Shape := ⟨2, ![256, 640]⟩
abbrev S256x256 : Shape := ⟨2, ![256, 256]⟩

abbrev nBuf : Space → Nat
  | .hbm => 7
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x1024, .bf16⟩
  | .hbm, ⟨4, _⟩ => ⟨S2816x1024, .bf16⟩
  | .hbm, ⟨5, _⟩ => ⟨S4096x5632, .bf16⟩
  | .hbm, ⟨6, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | .local _ .vmem, ⟨7, _⟩ => ⟨S256x2816, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateReferenceIdeal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== NormKernel.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 34
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .bf16⟩
  | .hbm, ⟨25, _⟩ => ⟨S5632x1024, .f32⟩
  | .hbm, ⟨26, _⟩ => ⟨S5632x1024, .bf16⟩
  | .hbm, ⟨27, _⟩ => ⟨S1x1024, .f32⟩
  | .hbm, ⟨28, _⟩ => ⟨S4096x1024, .bf16⟩
  | .hbm, ⟨29, _⟩ => ⟨S1x1024, .f32⟩
  | .hbm, ⟨30, _⟩ => ⟨S4096x1024, .f32⟩
  | .hbm, ⟨31, _⟩ => ⟨S1x1024, .f32⟩
  | .hbm, ⟨32, _⟩ => ⟨S4096x1024, .bf16⟩
  | .hbm, ⟨33, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormReferenceIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x5632, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S1x1024, .f32⟩
  | .hbm, ⟨103, _⟩ => ⟨S4096x1024, .bf16⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== NormTKernel.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 33
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1024x1024, .bf16⟩
  | .hbm, ⟨26, _⟩ => ⟨S1x1024, .f32⟩
  | .hbm, ⟨27, _⟩ => ⟨S4096x1024, .bf16⟩
  | .hbm, ⟨28, _⟩ => ⟨S1x1024, .f32⟩
  | .hbm, ⟨29, _⟩ => ⟨S4096x1024, .f32⟩
  | .hbm, ⟨30, _⟩ => ⟨S1x1024, .f32⟩
  | .hbm, ⟨31, _⟩ => ⟨S4096x1024, .bf16⟩
  | .hbm, ⟨32, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormTReferenceIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S1x1024, .f32⟩
  | .hbm, ⟨103, _⟩ => ⟨S4096x1024, .bf16⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== FirstKernel.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S1536x1024 : Shape := ⟨2, ![1536, 1024]⟩
abbrev S1x1024 : Shape := ⟨2, ![1, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1024, .f32⟩
  | .hbm, ⟨4, _⟩ => ⟨S4096x1536, .f32⟩
  | .hbm, ⟨5, _⟩ => ⟨S4096x1536, .bf16⟩
  | .hbm, ⟨6, _⟩ => ⟨S1536x1024, .f32⟩
  | .hbm, ⟨7, _⟩ => ⟨S1536x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FirstReferenceIdeal.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1024, .f32⟩
  | .hbm, ⟨4, _⟩ => ⟨S4096x1536, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1536, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== XattnKernel.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S256x512 : Shape := ⟨2, ![256, 512]⟩
abbrev S512 : Shape := ⟨1, ![512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .f32⟩
  | .hbm, ⟨3, _⟩ => ⟨S4096x1024, .bf16⟩
  | .hbm, ⟨4, _⟩ => ⟨S256x2048, .bf16⟩
  | .hbm, ⟨5, _⟩ => ⟨S4096x1024, .bf16⟩
  | .hbm, ⟨6, _⟩ => ⟨S4096x1024, .bf16⟩
  | .hbm, ⟨7, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== XattnReferenceIdeal.lean ====
abbrev S4096x1024 : Shape := ⟨2, ![4096, 1024]⟩
abbrev S256x2048 : Shape := ⟨2, ![256, 2048]⟩
abbrev S1x4096x4x256 : Shape := ⟨4, ![1, 4096, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .f32⟩
  | .hbm, ⟨3, _⟩ => ⟨S1x4096x4x256, .f32⟩
  | .hbm, ⟨4, _⟩ => ⟨S1x256x2048, .f32⟩
  | .hbm, ⟨5, _⟩ => ⟨S1x256x1024, .f32⟩
  | .hbm, ⟨6, _⟩ => ⟨S1x256x1024, .f32⟩
  | .hbm, ⟨7, _⟩ => ⟨S1x256x4x256, .f32⟩
  | .hbm, ⟨8, _⟩ => ⟨S1x256x4x256, .f32⟩
  | .hbm, ⟨9, _⟩ => ⟨S1x4x4096x256, .f32⟩
  | .hbm, ⟨10, _⟩ => ⟨S_, .f32⟩
  | .hbm, ⟨11, _⟩ => ⟨S1x4x4096x256, .f32⟩
  | .hbm, ⟨12, _⟩ => ⟨S1x4x4096x256, .f32⟩
  | .hbm, ⟨13, _⟩ => ⟨S_, .f32⟩
  | .hbm, ⟨14, _⟩ => ⟨S1x4x4096, .f32⟩
  | .hbm, ⟨15, _⟩ => ⟨S1x4x4096x1, .f32⟩
  | .hbm, ⟨16, _⟩ => ⟨S1x4x4096x256, .f32⟩
  | .hbm, ⟨17, _⟩ => ⟨S1x4x4096x256, .i1⟩
  | .hbm, ⟨18, _⟩ => ⟨S1x4x4096x256, .f32⟩
  | .hbm, ⟨19, _⟩ => ⟨S_, .f32⟩
  | .hbm, ⟨20, _⟩ => ⟨S1x4x4096, .f32⟩
  | .hbm, ⟨21, _⟩ => ⟨S_, .f32⟩
  | .hbm, ⟨22, _⟩ => ⟨S1x4x4096, .f32⟩
  | .hbm, ⟨23, _⟩ => ⟨S1x4x4096, .f32⟩
  | .hbm, ⟨24, _⟩ => ⟨S_, .f32⟩
  | .hbm, ⟨25, _⟩ => ⟨S1x4x4096, .f32⟩
  | .hbm, ⟨26, _⟩ => ⟨S1x4x4096, .i1⟩
  | .hbm, ⟨27, _⟩ => ⟨S_, .f32⟩
  | .hbm, ⟨28, _⟩ => ⟨S1x4x4096, .f32⟩
  | .hbm, ⟨29, _⟩ => ⟨S1x4x4096, .i1⟩
  | .hbm, ⟨30, _⟩ => ⟨S_, .f32⟩
  | .hbm, ⟨31, _⟩ => ⟨S1x4x4096, .f32⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S1x4x4096, .f32⟩
  | .hbm, ⟨37, _⟩ => ⟨S1x4x4096, .f32⟩
  | .hbm, ⟨38, _⟩ => ⟨S1x4x4096x1, .f32⟩
  | .hbm, ⟨39, _⟩ => ⟨S1x4x4096x256, .f32⟩
  | .hbm, ⟨40, _⟩ => ⟨S1x4x4096x256, .f32⟩
  | .hbm, ⟨41, _⟩ => ⟨S1x4x4096x256, .f32⟩
  | .hbm, ⟨42, _⟩ => ⟨S_, .f32⟩
  | .hbm, ⟨43, _⟩ => ⟨S1x4x4096, .f32⟩
  | .hbm, ⟨44, _⟩ => ⟨S1x4x4096x1, .f32⟩
  | .hbm, ⟨45, _⟩ => ⟨S1x4x4096x256, .f32⟩
  | .hbm, ⟨46, _⟩ => ⟨S1x4x4096x256, .f32⟩
  | .hbm, ⟨47, _⟩ => ⟨S1x4x4096x1, .f32⟩
  | .hbm, ⟨48, _⟩ => ⟨S_, .f32⟩
  | .hbm, ⟨49, _⟩ => ⟨S1x4x4096x1, .f32⟩
  | .hbm, ⟨50, _⟩ => ⟨S1x4x4096x1, .f32⟩
  | .hbm, ⟨51, _⟩ => ⟨S1x4x256x4096, .f32⟩
  | .hbm, ⟨52, _⟩ => ⟨S1x4096x4x256, .f32⟩
  | .hbm, ⟨53, _⟩ => ⟨S4096x1024, .f32⟩
  | .hbm, ⟨54, _⟩ => ⟨S1x4096x4x256, .f32⟩
  | .hbm, ⟨55, _⟩ => ⟨S1x4x256x4096, .f32⟩
  | .hbm, ⟨56, _⟩ => ⟨S1x4x4096x256, .f32⟩
  | .hbm, ⟨57, _⟩ => ⟨S1x4x256x256, .f32⟩
  | .hbm, ⟨58, _⟩ => ⟨S1x256x4x256, .f32⟩
  | .hbm, ⟨59, _⟩ => ⟨S1x4x4096x256, .f32⟩
  | .hbm, ⟨60, _⟩ => ⟨S1x4x4096x256, .f32⟩
  | .hbm, ⟨61, _⟩ => ⟨S1x4x4096x256, .f32⟩
  | .hbm, ⟨62, _⟩ => ⟨S_, .f32⟩
  | .hbm, ⟨63, _⟩ => ⟨S1x4x4096, .f32⟩
  | .hbm, ⟨64, _⟩ => ⟨S1x4x4096x1, .f32⟩
  | .hbm, ⟨65, _⟩ => ⟨S1x4x4096x1, .f32⟩
  | .hbm, ⟨66, _⟩ => ⟨S1x4x4096x256, .f32⟩
  | .hbm, ⟨67, _⟩ => ⟨S1x4x4096x256, .f32⟩
  | .hbm, ⟨68, _⟩ => ⟨S_, .f32⟩
  | .hbm, ⟨69, _⟩ => ⟨S4x4096, .f32⟩
  | .hbm, ⟨70, _⟩ => ⟨S1x4x4096, .f32⟩
  | .hbm, ⟨71, _⟩ => ⟨S1x4x4096x256, .f32⟩
  | .hbm, ⟨72, _⟩ => ⟨S1x4x4096x256, .f32⟩
  | .hbm, ⟨73, _⟩ => ⟨S1x4x4096x256, .f32⟩
  | .hbm, ⟨74, _⟩ => ⟨S_, .f32⟩
  | .hbm, ⟨75, _⟩ => ⟨S1x4x4096x256, .f32⟩
  | .hbm, ⟨76, _⟩ => ⟨S1x4x4096x256, .f32⟩
  | .hbm, ⟨77, _⟩ => ⟨S1x4x256x256, .f32⟩
  | .hbm, ⟨78, _⟩ => ⟨S1x256x4x256, .f32⟩
  | .hbm, ⟨79, _⟩ => ⟨S1x4x4096x256, .f32⟩
  | .hbm, ⟨80, _⟩ => ⟨S1x4096x4x256, .f32⟩
  | .hbm, ⟨81, _⟩ => ⟨S1x256x1024, .f32⟩
  | .hbm, ⟨82, _⟩ => ⟨S1x256x1024, .f32⟩
  | .hbm, ⟨83, _⟩ => ⟨S1x256x2048, .f32⟩
  | .hbm, ⟨84, _⟩ => ⟨S256x2048, .f32⟩
  | .hbm, ⟨85, _⟩ => ⟨S4096x1024, .f32⟩
  | .hbm, ⟨86, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== XattnFKernel.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S4096x1024, .bf16⟩
  | .hbm, ⟨3, _⟩ => ⟨S256x2048, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XattnFReferenceIdeal.lean ====
abbrev S4096x1024 : Shape := ⟨2, ![4096, 1024]⟩
abbrev S256x2048 : Shape := ⟨2, ![256, 2048]⟩
abbrev S1x4096x4x256 : Shape := ⟨4, ![1, 4096, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S1x4096x4x256, .f32⟩
  | .hbm, ⟨3, _⟩ => ⟨S1x256x2048, .f32⟩
  | .hbm, ⟨4, _⟩ => ⟨S1x256x1024, .f32⟩
  | .hbm, ⟨5, _⟩ => ⟨S1x256x1024, .f32⟩
  | .hbm, ⟨6, _⟩ => ⟨S1x256x4x256, .f32⟩
  | .hbm, ⟨7, _⟩ => ⟨S1x256x4x256, .f32⟩
  | .hbm, ⟨8, _⟩ => ⟨S1x4x4096x256, .f32⟩
  | .hbm, ⟨9, _⟩ => ⟨S_, .f32⟩
  | .hbm, ⟨10, _⟩ => ⟨S1x4x4096x256, .f32⟩
  | .hbm, ⟨11, _⟩ => ⟨S1x4x4096x256, .f32⟩
  | .hbm, ⟨12, _⟩ => ⟨S_, .f32⟩
  | .hbm, ⟨13, _⟩ => ⟨S1x4x4096, .f32⟩
  | .hbm, ⟨14, _⟩ => ⟨S_, .f32⟩
  | .hbm, ⟨15, _⟩ => ⟨S1x4x4096, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .f32⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S1x4x4096x1, .f32⟩
  | .hbm, ⟨24, _⟩ => ⟨S1x4x4096x256, .f32⟩
  | .hbm, ⟨25, _⟩ => ⟨S1x4x4096x256, .f32⟩
  | .hbm, ⟨26, _⟩ => ⟨S1x4x256x4096, .f32⟩
  | .hbm, ⟨27, _⟩ => ⟨S1x4096x4x256, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MixOKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixOReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== FfnOKernel.lean ====
abbrev S4096x5632 : Shape := ⟨2, ![4096, 5632]⟩
abbrev S2816x1024 : Shape := ⟨2, ![2816, 1024]⟩
abbrev S1024 : Shape := ⟨1, ![1024]⟩
abbrev S4096x1024 : Shape := ⟨2, ![4096, 1024]⟩
abbrev S1x1024 : Shape := ⟨2, ![1, 1024]⟩
abbrev S4096x2816 : Shape := ⟨2, ![4096, 2816]⟩
abbrev S256x5632 : Shape := ⟨2, ![256, 5632]⟩
abbrev S256x1024 : Shape := ⟨2, ![256, 1024]⟩
abbrev S256x2816 : Shape := ⟨2, ![256, 2816]⟩
abbrev S256x640 : Shape := ⟨2, ![256, 640]⟩
abbrev S256x256 : Shape := ⟨2, ![256, 256]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S4096x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x2816, .bf16⟩
  | .hbm, ⟨12, _⟩ => ⟨S4096x1024, .bf16⟩
  | .local _ .vmem, ⟨0, _⟩ => ⟨S256x5632, .bf16⟩
  | .local _ .vmem, ⟨1, _⟩ => ⟨S256x5632, .bf16⟩
  | .local _ .vmem, ⟨2, _⟩ => ⟨S2816x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnOReferenceIdeal.lean ====
abbrev S4096x5632 : Shape := ⟨2, ![4096, 5632]⟩
abbrev S2816x1024 : Shape := ⟨2, ![2816, 1024]⟩
abbrev S1024 : Shape := ⟨1, ![1024]⟩
abbrev S4096x1024 : Shape := ⟨2, ![4096, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x2816, .bf16⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== RopeKernel.lean ====
abbrev S1x4096 : Shape := ⟨2, ![1, 4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4096x128 : Shape := ⟨2, ![4096, 128]⟩
abbrev S512x1 : Shape := ⟨2, ![512, 1]⟩
abbrev S512x128 : Shape := ⟨2, ![512, 128]⟩

abbrev nBuf : Space → Nat
  | .hbm => 16
  | .vmem => 7
  | .smem => 0
  | _ => 0

abbrev bufTy : (tb : Table) → Fin (tcTables nBuf tb) → BufTy
  | .hbm, ⟨0, _⟩ => ⟨S1x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S4096x1, .i32⟩
  | .hbm, ⟨10, _⟩ => ⟨S1x32, .f32⟩
  | .hbm, ⟨11, _⟩ => ⟨S4x32, .f32⟩
  | .hbm, ⟨12, _⟩ => ⟨S128, .f32⟩
  | .hbm, ⟨13, _⟩ => ⟨S1x128, .f32⟩
  | .hbm, ⟨14, _⟩ => ⟨S4096x128, .f32⟩
  | .hbm, ⟨15, _⟩ => ⟨S4096x128, .f32⟩
  | .local _ .vmem, ⟨0, _⟩ => ⟨S512x1, .i32⟩
  | .local _ .vmem, ⟨1, _⟩ => ⟨S512x1, .i32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S1x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeReferenceIdeal.lean ====
abbrev S1x4096 : Shape := ⟨2, ![1, 4096]⟩
abbrev S32 : Shape := ⟨1, ![32]⟩
abbrev S_ : Shape := ⟨0, ![]⟩
abbrev S1x4096x1 : Shape := ⟨3, ![1, 4096, 1]⟩
abbrev S1x1x32 : Shape := ⟨3, ![1, 1, 32]⟩
abbrev S1x4096x32 : Shape := ⟨3, ![1, 4096, 32]⟩
abbrev S4096x32 : Shape := ⟨2, ![4096, 32]⟩
abbrev S4096x128 : Shape := ⟨2, ![4096, 128]⟩

abbrev nBuf : Space → Nat
  | .hbm => 22
  | .vmem => 0
  | .smem => 0
  | _ => 0

abbrev bufTy : (tb : Table) → Fin (tcTables nBuf tb) → BufTy
  | .hbm, ⟨0, _⟩ => ⟨S1x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x4096, .f32⟩
  | .hbm, ⟨10, _⟩ => ⟨S1x4096x1, .f32⟩
  | .hbm, ⟨11, _⟩ => ⟨S1x1x32, .f32⟩
  | .hbm, ⟨12, _⟩ => ⟨S1x4096x32, .f32⟩
  | .hbm, ⟨13, _⟩ => ⟨S1x4096x32, .f32⟩
  | .hbm, ⟨14, _⟩ => ⟨S1x4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x128, .f32⟩
  | .hbm, ⟨19, _⟩ => ⟨S4096x32, .f32⟩
  | .hbm, ⟨20, _⟩ => ⟨S4096x32, .f32⟩
  | .hbm, ⟨21, _⟩ => ⟨S4096x128, .f32⟩
  | _, _ => ⟨S1x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== MmKernel.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S5632x1024, .bf16⟩
  | .hbm, ⟨5, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WgradKernel.lean ====
abbrev S4096x1024 : Shape := ⟨2, ![4096, 1024]⟩
abbrev S4096x5632 : Shape := ⟨2, ![4096, 5632]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x5632, .bf16⟩
  | .hbm, ⟨3, _⟩ => ⟨S4096x1024, .bf16⟩
  | .hbm, ⟨4, _⟩ => ⟨S5632x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgradReferenceIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamwKernel.lean ====
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwReferenceIdeal.lean ====
abbrev S4x352x1024 : Shape := ⟨3, ![4, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SmallKernel.lean ====
abbrev S8x2800x128 : Shape := ⟨3, ![8, 2800, 128]⟩
abbrev S2800x128 : Shape := ⟨2, ![2800, 128]⟩
abbrev S8x1400x128 : Shape := ⟨3, ![8, 1400, 128]⟩
abbrev S1400x128 : Shape := ⟨2, ![1400, 128]⟩
abbrev S1x1400x128 : Shape := ⟨3, ![1, 1400, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2800x128, .f32⟩
  | .hbm, ⟨1, _⟩ => ⟨S2800x128, .f32⟩
  | .hbm, ⟨2, _⟩ => ⟨S2800x128, .f32⟩
  | .hbm, ⟨3, _⟩ => ⟨S2800x128, .f32⟩
  | .hbm, ⟨4, _⟩ => ⟨S2800x128, .f32⟩
  | .hbm, ⟨5, _⟩ => ⟨S2800x128, .f32⟩
  | .hbm, ⟨6, _⟩ => ⟨S2800x128, .f32⟩
  | .hbm, ⟨7, _⟩ => ⟨S2800x128, .f32⟩
  | .local _ .vmem, ⟨0, _⟩ => ⟨S8x1400x128, .f32⟩
  | .local _ .vmem, ⟨1, _⟩ => ⟨S8x1400x128, .f32⟩
  | .local _ .vmem, ⟨2, _⟩ => ⟨S1400x128, .f32⟩
  | .local _ .vmem, ⟨3, _⟩ => ⟨S1400x128, .f32⟩
  | .local _ .vmem, ⟨4, _⟩ => ⟨S1400x128, .f32⟩
  | .local _ .vmem, ⟨5, _⟩ => ⟨S1400x128, .f32⟩
  | .local _ .vmem, ⟨6, _⟩ => ⟨S1400x128, .f32⟩
  | .local _ .vmem, ⟨7, _⟩ => ⟨S1400x128, .f32⟩
  | .local _ .vmem, ⟨8, _⟩ => ⟨S1400x128, .f32⟩
  | .local _ .vmem, ⟨9, _⟩ => ⟨S1400x128, .f32⟩
  | .local _ .vmem, ⟨10, _⟩ => ⟨S1400x128, .f32⟩
  | .local _ .vmem, ⟨11, _⟩ => ⟨S1400x128, .f32⟩
  | .local _ .vmem, ⟨12, _⟩ => ⟨S1400x128, .f32⟩
  | .local _ .vmem, ⟨13, _⟩ => ⟨S1400x128, .f32⟩
  | .local _ .vmem, ⟨14, _⟩ => ⟨S1400x128, .f32⟩
  | .local _ .vmem, ⟨15, _⟩ => ⟨S1400x128, .f32⟩
  | _, _ => ⟨S8x2800x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SmallReferenceIdeal.lean ====
abbrev S8x2800x128 : Shape := ⟨3, ![8, 2800, 128]⟩
abbrev S2800x128 : Shape := ⟨2, ![2800, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2800x128, .f32⟩
  | .hbm, ⟨1, _⟩ => ⟨S2800x128, .f32⟩
  | .hbm, ⟨2, _⟩ => ⟨S2800x128, .f32⟩
  | .hbm, ⟨3, _⟩ => ⟨S2800x128, .f32⟩
  | .hbm, ⟨4, _⟩ => ⟨S_, .f32⟩
  | .hbm, ⟨5, _⟩ => ⟨S2800x128, .f32⟩
  | .hbm, ⟨6, _⟩ => ⟨S_, .f32⟩
  | .hbm, ⟨7, _⟩ => ⟨S2800x128, .f32⟩
  | .hbm, ⟨8, _⟩ => ⟨S2800x128, .f32⟩
  | .hbm, ⟨9, _⟩ => ⟨S_, .f32⟩
  | .hbm, ⟨10, _⟩ => ⟨S2800x128, .f32⟩
  | .hbm, ⟨11, _⟩ => ⟨S2800x128, .f32⟩
  | .hbm, ⟨12, _⟩ => ⟨S2800x128, .f32⟩
  | .hbm, ⟨13, _⟩ => ⟨S_, .f32⟩
  | .hbm, ⟨14, _⟩ => ⟨S2800x128, .f32⟩
  | .hbm, ⟨15, _⟩ => ⟨S2800x128, .f32⟩
  | .hbm, ⟨16, _⟩ => ⟨S2800x128, .f32⟩
  | .hbm, ⟨17, _⟩ => ⟨S_, .f32⟩
  | .hbm, ⟨18, _⟩ => ⟨S2800x128, .f32⟩
  | .hbm, ⟨19, _⟩ => ⟨S2800x128, .f32⟩
  | .hbm, ⟨20, _⟩ => ⟨S2800x128, .f32⟩
  | .hbm, ⟨21, _⟩ => ⟨S_, .f32⟩
  | .hbm, ⟨22, _⟩ => ⟨S2800x128, .f32⟩
  | .hbm, ⟨23, _⟩ => ⟨S2800x128, .f32⟩
  | .hbm, ⟨24, _⟩ => ⟨S_, .f32⟩
  | .hbm, ⟨25, _⟩ => ⟨S2800x128, .f32⟩
  | .hbm, ⟨26, _⟩ => ⟨S2800x128, .f32⟩
  | .hbm, ⟨27, _⟩ => ⟨S2800x128, .f32⟩
  | .hbm, ⟨28, _⟩ => ⟨S_, .f32⟩
  | .hbm, ⟨29, _⟩ => ⟨S2800x128, .f32⟩
  | .hbm, ⟨30, _⟩ => ⟨S2800x128, .f32⟩
  | .hbm, ⟨31, _⟩ => ⟨S2800x128, .f32⟩
  | .hbm, ⟨32, _⟩ => ⟨S_, .f32⟩
  | .hbm, ⟨33, _⟩ => ⟨S2800x128, .f32⟩
  | .hbm, ⟨34, _⟩ => ⟨S2800x128, .f32⟩
  | .hbm, ⟨35, _⟩ => ⟨S2800x128, .f32⟩
  | .hbm, ⟨36, _⟩ => ⟨S_, .f32⟩
  | .hbm, ⟨37, _⟩ => ⟨S2800x128, .f32⟩
  | .hbm, ⟨38, _⟩ => ⟨S2800x128, .f32⟩
  | _, _ => ⟨S8x2800x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== FinalSumKernel.lean ====
abbrev S704x1024 : Shape := ⟨2, ![704, 1024]⟩
abbrev S3x704x1024 : Shape := ⟨3, ![3, 704, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 4
  | .vmem => 6
  | .smem => 0
  | _ => 0

abbrev bufTy : (tb : Table) → Fin (tcTables nBuf tb) → BufTy
  | .hbm, ⟨0, _⟩ => ⟨S704x1024, .f32⟩
  | .hbm, ⟨1, _⟩ => ⟨S3x704x1024, .f32⟩
  | .hbm, ⟨2, _⟩ => ⟨S3x704x1024, .bf16⟩
  | .hbm, ⟨3, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalSumReferenceIdeal.lean ====
abbrev S704x1024 : Shape := ⟨2, ![704, 1024]⟩
abbrev S3x704x1024 : Shape := ⟨3, ![3, 704, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S3x704x1024, .f32⟩
  | .hbm, ⟨2, _⟩ => ⟨S3x704x1024, .bf16⟩
  | .hbm, ⟨3, _⟩ => ⟨S3x704x1024, .f32⟩
  | .hbm, ⟨4, _⟩ => ⟨S_, .f32⟩
  | .hbm, ⟨5, _⟩ => ⟨S704x1024, .f32⟩
  | .hbm, ⟨6, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnLKernel.lean ====
abbrev S4096x5632 : Shape := ⟨2, ![4096, 5632]⟩
abbrev S2816x1024 : Shape := ⟨2, ![2816, 1024]⟩
abbrev S1024 : Shape := ⟨1, ![1024]⟩
abbrev S4096x1024 : Shape := ⟨2, ![4096, 1024]⟩
abbrev S1x1024 : Shape := ⟨2, ![1, 1024]⟩
abbrev S4096x2816 : Shape := ⟨2, ![4096, 2816]⟩
abbrev S256x5632 : Shape := ⟨2, ![256, 5632]⟩
abbrev S256x1024 : Shape := ⟨2, ![256, 1024]⟩
abbrev S256x2816 : Shape := ⟨2, ![256, 2816]⟩
abbrev S256x640 : Shape := ⟨2, ![256, 640]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S1024, .f32⟩
  | .hbm, ⟨3, _⟩ => ⟨S4096x1024, .f32⟩
  | .hbm, ⟨4, _⟩ => ⟨S4096x5632, .bf16⟩
  | .hbm, ⟨5, _⟩ => ⟨S2816x1024, .bf16⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x2816, .bf16⟩
  | .local _ .vmem, ⟨0, _⟩ => ⟨S256x5632, .bf16⟩
  | .local _ .vmem, ⟨1, _⟩ => ⟨S256x5632, .bf16⟩
  | .local _ .vmem, ⟨2, _⟩ => ⟨S2816x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnLReferenceIdeal.lean ====
abbrev S4096x5632 : Shape := ⟨2, ![4096, 5632]⟩
abbrev S2816x1024 : Shape := ⟨2, ![2816, 1024]⟩
abbrev S1024 : Shape := ⟨1, ![1024]⟩
abbrev S4096x1024 : Shape := ⟨2, ![4096, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== FirstFKernel.lean ====
abbrev S4096x1024 : Shape := ⟨2, ![4096, 1024]⟩
abbrev S1024 : Shape := ⟨1, ![1024]⟩
abbrev S1024x1536 : Shape := ⟨2, ![1024, 1536]⟩
abbrev S1536x1024 : Shape := ⟨2, ![1536, 1024]⟩
abbrev S1x1024 : Shape := ⟨2, ![1, 1024]⟩
abbrev S4096x1536 : Shape := ⟨2, ![4096, 1536]⟩
abbrev S512x1024 : Shape := ⟨2, ![512, 1024]⟩
abbrev S768x1024 : Shape := ⟨2, ![768, 1024]⟩
abbrev S512x768 : Shape := ⟨2, ![512, 768]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S1536x1024, .f32⟩
  | .hbm, ⟨4, _⟩ => ⟨S1536x1024, .bf16⟩
  | .hbm, ⟨5, _⟩ => ⟨S1x1024, .f32⟩
  | .hbm, ⟨6, _⟩ => ⟨S4096x1536, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S768x1024, .bf16⟩
  | .local _ .vmem, ⟨3, _⟩ => ⟨S768x1024, .bf16⟩
  | .local _ .vmem, ⟨4, _⟩ => ⟨S1x1024, .f32⟩
  | .local _ .vmem, ⟨5, _⟩ => ⟨S512x768, .bf16⟩
  | .local _ .vmem, ⟨6, _⟩ => ⟨S512x768, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FirstFReferenceIdeal.lean ====
abbrev S4096x1024 : Shape := ⟨2, ![4096, 1024]⟩
abbrev S1024 : Shape := ⟨1, ![1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1536 : Shape := ⟨2, ![4096, 1536]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1536, .f32⟩
  | .hbm, ⟨20, _⟩ => ⟨S4096x1536, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== XkvFKernel.lean ====
abbrev S256x1024 : Shape := ⟨2, ![256, 1024]⟩
abbrev S1024 : Shape := ⟨1, ![1024]⟩
abbrev S1024x2048 : Shape := ⟨2, ![1024, 2048]⟩
abbrev S2048x1024 : Shape := ⟨2, ![2048, 1024]⟩
abbrev S1x1024 : Shape := ⟨2, ![1, 1024]⟩
abbrev S256x2048 : Shape := ⟨2, ![256, 2048]⟩
abbrev S1024x1024 : Shape := ⟨2, ![1024, 1024]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S2048x1024, .f32⟩
  | .hbm, ⟨4, _⟩ => ⟨S2048x1024, .bf16⟩
  | .hbm, ⟨5, _⟩ => ⟨S1x1024, .f32⟩
  | .hbm, ⟨6, _⟩ => ⟨S256x2048, .bf16⟩
  | .hbm, ⟨7, _⟩ => ⟨S256x1024, .bf16⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== XkvFReferenceIdeal.lean ====
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x2048, .bf16⟩
  | .hbm, ⟨21, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ChipSumKernel.lean ====
abbrev S5632x1024 : Shape := ⟨2, ![5632, 1024]⟩
abbrev S4x704x1024 : Shape := ⟨3, ![4, 704, 1024]⟩
abbrev S4 : Shape := ⟨1, ![4]⟩
abbrev S704x1024 : Shape := ⟨2, ![704, 1024]⟩
abbrev S3x704x1024 : Shape := ⟨3, ![3, 704, 1024]⟩
abbrev S176x1024 : Shape := ⟨2, ![176, 1024]⟩
abbrev S1 : Shape := ⟨1, ![1]⟩
abbrev S4x176x1024 : Shape := ⟨3, ![4, 176, 1024]⟩
abbrev S3x176x1024 : Shape := ⟨3, ![3, 176, 1024]⟩
abbrev S1x176x1024 : Shape := ⟨3, ![1, 176, 1024]⟩

abbrev nBuf : Space → Nat
  | .hbm => 4
  | .vmem => 14
  | .smem => 1
  | _ => 0

abbrev bufTy : (tb : Table) → Fin (tcTables nBuf tb) → BufTy
  | .hbm, ⟨0, _⟩ => ⟨S5632x1024, .f32⟩
  | .hbm, ⟨1, _⟩ => ⟨S4x704x1024, .f32⟩
  | .hbm, ⟨2, _⟩ => ⟨S704x1024, .f32⟩
  | .hbm, ⟨3, _⟩ => ⟨S3x704x1024, .bf16⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S4x176x1024, .f32⟩
  | .local _ .vmem, ⟨9, _⟩ => ⟨S4x176x1024, .f32⟩
  | .local _ .vmem, ⟨10, _⟩ => ⟨S176x1024, .f32⟩
  | .local _ .vmem, ⟨11, _⟩ => ⟨S176x1024, .f32⟩
  | .local _ .vmem, ⟨12, _⟩ => ⟨S3x176x1024, .bf16⟩
  | .local _ .vmem, ⟨13, _⟩ => ⟨S3x176x1024, .bf16⟩
  | .local _ .smem, ⟨0, _⟩ => ⟨S4, .i32⟩
  | _, _ => ⟨S5632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (inb_S4_S1_1 : ∀ a, (![1] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S4) ![1] S1.size inb_S4_S1_1) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_2 (inb_S4_S1_2 : ∀ a, (![2] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S4) ![2] S1.size inb_S4_S1_2) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_3 (inb_S4_S1_3 : ∀ a, (![3] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c3 : Index := 3#32
  let v0 : BitVec 32 := pf.at 0 (Rect.unit (s := S4) ![3] S1.size inb_S4_S1_3) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ChipSumReferenceIdeal.lean ====
abbrev S5632x1024 : Shape := ⟨2, ![5632, 1024]⟩
abbrev S4x704x1024 : Shape := ⟨3, ![4, 704, 1024]⟩
abbrev S8x704x1024 : Shape := ⟨3, ![8, 704, 1024]⟩
abbrev S1x704x1024 : Shape := ⟨3, ![1, 704, 1024]⟩
abbrev S704x1024 : Shape := ⟨2, ![704, 1024]⟩
abbrev S3x704x1024 : Shape := ⟨3, ![3, 704, 1024]⟩

abbrev nBuf : Space → Nat
  | .hbm => 21
  | .vmem => 0
  | .smem => 0
  | _ => 0

abbrev bufTy : (tb : Table) → Fin (tcTables nBuf tb) → BufTy
  | .hbm, ⟨0, _⟩ => ⟨S5632x1024, .f32⟩
  | .hbm, ⟨1, _⟩ => ⟨S4x704x1024, .f32⟩
  | .hbm, ⟨2, _⟩ => ⟨S8x704x1024, .f32⟩
  | .hbm, ⟨3, _⟩ => ⟨S1x704x1024, .f32⟩
  | .hbm, ⟨4, _⟩ => ⟨S704x1024, .f32⟩
  | .hbm, ⟨5, _⟩ => ⟨S1x704x1024, .f32⟩
  | .hbm, ⟨6, _⟩ => ⟨S704x1024, .f32⟩
  | .hbm, ⟨7, _⟩ => ⟨S1x704x1024, .f32⟩
  | .hbm, ⟨8, _⟩ => ⟨S704x1024, .f32⟩
  | .hbm, ⟨9, _⟩ => ⟨S1x704x1024, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S4x704x1024, .f32⟩
  | .hbm, ⟨16, _⟩ => ⟨S4x704x1024, .f32⟩
  | .hbm, ⟨17, _⟩ => ⟨S1x704x1024, .f32⟩
  | .hbm, ⟨18, _⟩ => ⟨S704x1024, .f32⟩
  | .hbm, ⟨19, _⟩ => ⟨S3x704x1024, .f32⟩
  | .hbm, ⟨20, _⟩ => ⟨S3x704x1024, .bf16⟩
  | _, _ => ⟨S5632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== PlaceKernel.lean ====
abbrev S4x1024x704 : Shape := ⟨3, ![4, 1024, 704]⟩
abbrev S4 : Shape := ⟨1, ![4]⟩
abbrev S4x704x1024 : Shape := ⟨3, ![4, 704, 1024]⟩
abbrev S5632x1024 : Shape := ⟨2, ![5632, 1024]⟩
abbrev S1x704x1024 : Shape := ⟨3, ![1, 704, 1024]⟩
abbrev S704x1024 : Shape := ⟨2, ![704, 1024]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S4x1024x704, .f32⟩
  | .hbm, ⟨1, _⟩ => ⟨S4x704x1024, .f32⟩
  | .hbm, ⟨2, _⟩ => ⟨S5632x1024, .bf16⟩
  | .local _ .vmem, ⟨0, _⟩ => ⟨S1x704x1024, .f32⟩
  | .local _ .vmem, ⟨1, _⟩ => ⟨S704x1024, .bf16⟩
  | .local _ .smem, ⟨0, _⟩ => ⟨S4, .i32⟩
  | _, _ => ⟨S4x1024x704, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, c0_i32.toNat]

abbrev stage0_0 : Fin 1 → Memref sig .tc .vmem S1x704x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== PlaceReferenceIdeal.lean ====
abbrev S4x1024x704 : Shape := ⟨3, ![4, 1024, 704]⟩
abbrev S1x1024x704 : Shape := ⟨3, ![1, 1024, 704]⟩
abbrev S1024x704 : Shape := ⟨2, ![1024, 704]⟩
abbrev S704x1024 : Shape := ⟨2, ![704, 1024]⟩
abbrev S_ : Shape := ⟨0, ![]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S1x1024x704, .f32⟩
  | .hbm, ⟨2, _⟩ => ⟨S1024x704, .f32⟩
  | .hbm, ⟨3, _⟩ => ⟨S704x1024, .f32⟩
  | .hbm, ⟨4, _⟩ => ⟨S704x1024, .bf16⟩
  | .hbm, ⟨5, _⟩ => ⟨S_, .i32⟩
  | .hbm, ⟨6, _⟩ => ⟨S_, .bf16⟩
  | .hbm, ⟨7, _⟩ => ⟨S5632x1024, .bf16⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InnerKernel.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1536x1024 : Shape := ⟨2, ![1536, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩

abbrev nBuf : Space → Nat
  | .hbm => 34
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x1536, .f32⟩
  | .hbm, ⟨5, _⟩ => ⟨S4096x1024, .f32⟩
  | .hbm, ⟨6, _⟩ => ⟨S4096x1536, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1536, .bf16⟩
  | .hbm, ⟨25, _⟩ => ⟨S1536x1024, .f32⟩
  | .hbm, ⟨26, _⟩ => ⟨S1536x1024, .bf16⟩
  | .hbm, ⟨27, _⟩ => ⟨S1x1024, .f32⟩
  | .hbm, ⟨28, _⟩ => ⟨S4096x1024, .bf16⟩
  | .hbm, ⟨29, _⟩ => ⟨S1x1024, .f32⟩
  | .hbm, ⟨30, _⟩ => ⟨S4096x1024, .f32⟩
  | .hbm, ⟨31, _⟩ => ⟨S1x1024, .f32⟩
  | .hbm, ⟨32, _⟩ => ⟨S4096x1024, .bf16⟩
  | .hbm, ⟨33, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InnerReferenceIdeal.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x1536, .f32⟩
  | .hbm, ⟨5, _⟩ => ⟨S4096x1024, .f32⟩
  | .hbm, ⟨6, _⟩ => ⟨S4096x1536, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1536, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S1x1024, .f32⟩
  | .hbm, ⟨103, _⟩ => ⟨S4096x1024, .bf16⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== GatingKernel.lean ====
abbrev S4096x1536 : Shape := ⟨2, ![4096, 1536]⟩
abbrev S1x4096 : Shape := ⟨2, ![1, 4096]⟩
abbrev S256 : Shape := ⟨1, ![256]⟩
abbrev S4x128x128 : Shape := ⟨3, ![4, 128, 128]⟩
abbrev S4x128 : Shape := ⟨2, ![4, 128]⟩
abbrev S4x64x64 : Shape := ⟨3, ![4, 64, 64]⟩
abbrev S8 : Shape := ⟨1, ![8]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4096x128 : Shape := ⟨2, ![4096, 128]⟩
abbrev S128x4 : Shape := ⟨2, ![128, 4]⟩
abbrev S128x4x64 : Shape := ⟨3, ![128, 4, 64]⟩
abbrev S128x256 : Shape := ⟨2, ![128, 256]⟩
abbrev S1x64x64 : Shape := ⟨3, ![1, 64, 64]⟩
abbrev S64x64 : Shape := ⟨2, ![64, 64]⟩
abbrev S64x256 : Shape := ⟨2, ![64, 256]⟩
abbrev S256x256 : Shape := ⟨2, ![256, 256]⟩
abbrev S1x256 : Shape := ⟨2, ![1, 256]⟩
abbrev S4096x1024 : Shape := ⟨2, ![4096, 1024]⟩
abbrev S128x1536 : Shape := ⟨2, ![128, 1536]⟩
abbrev S128x128 : Shape := ⟨2, ![128, 128]⟩
abbrev S128x1024 : Shape := ⟨2, ![128, 1024]⟩
abbrev S2x512x256 : Shape := ⟨3, ![2, 512, 256]⟩
abbrev S512x256 : Shape := ⟨2, ![512, 256]⟩
abbrev S1x512x256 : Shape := ⟨3, ![1, 512, 256]⟩
abbrev S128x512 : Shape := ⟨2, ![128, 512]⟩
abbrev S128x1 : Shape := ⟨2, ![128, 1]⟩
abbrev S1x128x128 : Shape := ⟨3, ![1, 128, 128]⟩
abbrev S256x128 : Shape := ⟨2, ![256, 128]⟩
abbrev S512x128 : Shape := ⟨2, ![512, 128]⟩
abbrev S1 : Shape := ⟨1, ![1]⟩
abbrev S64 : Shape := ⟨1, ![64]⟩
abbrev S64x1 : Shape := ⟨2, ![64, 1]⟩

abbrev nBuf : Space → Nat
  | .hbm => 79
  | .vmem => 22
  | .smem => 1
  | _ => 0

abbrev bufTy : (tb : Table) → Fin (tcTables nBuf tb) → BufTy
  | .hbm, ⟨0, _⟩ => ⟨S4096x1536, .f32⟩
  | .hbm, ⟨1, _⟩ => ⟨S1x4096, .i32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S4x64x64, .f32⟩
  | .hbm, ⟨6, _⟩ => ⟨S256, .f32⟩
  | .hbm, ⟨7, _⟩ => ⟨S8, .f32⟩
  | .hbm, ⟨8, _⟩ => ⟨S4096x1536, .bf16⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096x1, .i32⟩
  | .hbm, ⟨18, _⟩ => ⟨S4096x1, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S1x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S4096x128, .i32⟩
  | .hbm, ⟨36, _⟩ => ⟨S4096x128, .i32⟩
  | .hbm, ⟨37, _⟩ => ⟨S_, .i32⟩
  | .hbm, ⟨38, _⟩ => ⟨S4096x128, .i32⟩
  | .hbm, ⟨39, _⟩ => ⟨S4096x128, .i1⟩
  | .hbm, ⟨40, _⟩ => ⟨S_, .i32⟩
  | .hbm, ⟨41, _⟩ => ⟨S4096x128, .i32⟩
  | .hbm, ⟨42, _⟩ => ⟨S4096x128, .i1⟩
  | .hbm, ⟨43, _⟩ => ⟨S_, .i32⟩
  | .hbm, ⟨44, _⟩ => ⟨S_, .i1⟩
  | .hbm, ⟨45, _⟩ => ⟨S4096x128, .i1⟩
  | .hbm, ⟨46, _⟩ => ⟨S4096x128, .i1⟩
  | .hbm, ⟨47, _⟩ => ⟨S4096x128, .i1⟩
  | .hbm, ⟨48, _⟩ => ⟨S4096x128, .i32⟩
  | .hbm, ⟨49, _⟩ => ⟨S4096x128, .i32⟩
  | .hbm, ⟨50, _⟩ => ⟨S4096x128, .i32⟩
  | .hbm, ⟨51, _⟩ => ⟨S_, .i32⟩
  | .hbm, ⟨52, _⟩ => ⟨S4096x128, .i32⟩
  | .hbm, ⟨53, _⟩ => ⟨S4096x128, .i1⟩
  | .hbm, ⟨54, _⟩ => ⟨S4096x128, .f32⟩
  | .hbm, ⟨55, _⟩ => ⟨S4096x128, .f32⟩
  | .hbm, ⟨56, _⟩ => ⟨S128x4, .f32⟩
  | .hbm, ⟨57, _⟩ => ⟨S128x4x64, .f32⟩
  | .hbm, ⟨58, _⟩ => ⟨S128x256, .f32⟩
  | .hbm, ⟨59, _⟩ => ⟨S1x64x64, .f32⟩
  | .hbm, ⟨60, _⟩ => ⟨S64x64, .f32⟩
  | .hbm, ⟨61, _⟩ => ⟨S1x64x64, .f32⟩
  | .hbm, ⟨62, _⟩ => ⟨S64x64, .f32⟩
  | .hbm, ⟨63, _⟩ => ⟨S1x64x64, .f32⟩
  | .hbm, ⟨64, _⟩ => ⟨S64x64, .f32⟩
  | .hbm, ⟨65, _⟩ => ⟨S1x64x64, .f32⟩
  | .hbm, ⟨66, _⟩ => ⟨S64x64, .f32⟩
  | .hbm, ⟨67, _⟩ => ⟨S_, .f32⟩
  | .hbm, ⟨68, _⟩ => ⟨S64x256, .f32⟩
  | .hbm, ⟨69, _⟩ => ⟨S_, .f32⟩
  | .hbm, ⟨70, _⟩ => ⟨S64x256, .f32⟩
  | .hbm, ⟨71, _⟩ => ⟨S_, .f32⟩
  | .hbm, ⟨72, _⟩ => ⟨S64x256, .f32⟩
  | .hbm, ⟨73, _⟩ => ⟨S_, .f32⟩
  | .hbm, ⟨74, _⟩ => ⟨S64x256, .f32⟩
  | .hbm, ⟨75, _⟩ => ⟨S256x256, .f32⟩
  | .hbm, ⟨76, _⟩ => ⟨S1x256, .f32⟩
  | .hbm, ⟨77, _⟩ => ⟨S1x256, .f32⟩
  | .hbm, ⟨78, _⟩ => ⟨S4096x1024, .bf16⟩
  | .local _ .vmem, ⟨0, _⟩ => ⟨S128x1536, .bf16⟩
  | .local _ .vmem, ⟨1, _⟩ => ⟨S128x1536, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x256, .f32⟩
  | .local _ .vmem, ⟨15, _⟩ => ⟨S4x128x128, .f32⟩
  | .local _ .vmem, ⟨16, _⟩ => ⟨S128x256, .f32⟩
  | .local _ .vmem, ⟨17, _⟩ => ⟨S256x256, .f32⟩
  | .local _ .vmem, ⟨18, _⟩ => ⟨S1x256, .f32⟩
  | .local _ .vmem, ⟨19, _⟩ => ⟨S128x1024, .bf16⟩
  | .local _ .vmem, ⟨20, _⟩ => ⟨S128x1024, .bf16⟩
  | .local _ .vmem, ⟨21, _⟩ => ⟨S2x512x256, .f32⟩
  | .local _ .smem, ⟨0, _⟩ => ⟨S8, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v19 : Ref sig .tc := ⟨.hbm, 50, rfl⟩
abbrev main_c_1 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_call2_cst : Ref sig .tc := ⟨.hbm, 67, rfl⟩
abbrev main_call2_v4 : Ref sig .tc := ⟨.hbm, 68, rfl⟩
abbrev main_call2_cst_0 : Ref sig .tc := ⟨.hbm, 69, rfl⟩
abbrev main_call2_v5 : Ref sig .tc := ⟨.hbm, 70, rfl⟩
abbrev main_call2_cst_1 : Ref sig .tc := ⟨.hbm, 71, rfl⟩
abbrev main_call2_v6 : Ref sig .tc := ⟨.hbm, 72, rfl⟩
abbrev main_call2_cst_2 : Ref sig .tc := ⟨.hbm, 73, rfl⟩
abbrev main_call2_v7 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_stg12_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c0_i32_145 : BitVec 32 := 0#32
  let v432 : BitVec 1 := Scalar.cmpi .sgt arg0 c0_i32_145
  let c0_i32_146 : BitVec 32 := 0#32
  let c1_i32_147 : BitVec 32 := 1#32
  let v433 : BitVec 32 := Scalar.select v432 c0_i32_146 c1_i32_147
  let v434 : Index := Scalar.indexCast v433
  let c0_148 : Index := 0#32
  let c0_149 : Index := 0#32
  ![v434.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== GatingReferenceIdeal.lean ====
abbrev S4096x1536 : Shape := ⟨2, ![4096, 1536]⟩
abbrev S1x4096 : Shape := ⟨2, ![1, 4096]⟩
abbrev S256 : Shape := ⟨1, ![256]⟩
abbrev S4x128x128 : Shape := ⟨3, ![4, 128, 128]⟩
abbrev S4x128 : Shape := ⟨2, ![4, 128]⟩
abbrev S4x64x64 : Shape := ⟨3, ![4, 64, 64]⟩
abbrev S8 : Shape := ⟨1, ![8]⟩
abbrev S4096x512 : Shape := ⟨2, ![4096, 512]⟩
abbrev S1x4096x512 : Shape := ⟨3, ![1, 4096, 512]⟩
abbrev S_ : Shape := ⟨0, ![]⟩
abbrev S1x4096x256 : Shape := ⟨3, ![1, 4096, 256]⟩
abbrev S1x32x128x4x64 : Shape := ⟨5, ![1, 32, 128, 4, 64]⟩
abbrev S4x64 : Shape := ⟨2, ![4, 64]⟩
abbrev S1x32x128x4 : Shape := ⟨4, ![1, 32, 128, 4]⟩
abbrev S1x32x128x4x1 : Shape := ⟨5, ![1, 32, 128, 4, 1]⟩
abbrev S1x1x1x4x64 : Shape := ⟨5, ![1, 1, 1, 4, 64]⟩
abbrev S128x128 : Shape := ⟨2, ![128, 128]⟩
abbrev S1x128x128 : Shape := ⟨3, ![1, 128, 128]⟩
abbrev S4x1x32x64x128 : Shape := ⟨5, ![4, 1, 32, 64, 128]⟩
abbrev S128x4 : Shape := ⟨2, ![128, 4]⟩
abbrev S1x1x128x4x1 : Shape := ⟨5, ![1, 1, 128, 4, 1]⟩
abbrev S4096x256 : Shape := ⟨2, ![4096, 256]⟩
abbrev S4096x1024 : Shape := ⟨2, ![4096, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1x4096, .i32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S4x64x64, .f32⟩
  | .hbm, ⟨6, _⟩ => ⟨S256, .f32⟩
  | .hbm, ⟨7, _⟩ => ⟨S8, .f32⟩
  | .hbm, ⟨8, _⟩ => ⟨S4096x512, .f32⟩
  | .hbm, ⟨9, _⟩ => ⟨S1x4096x512, .f32⟩
  | .hbm, ⟨10, _⟩ => ⟨S1x4096x512, .f32⟩
  | .hbm, ⟨11, _⟩ => ⟨S1x4096x512, .f32⟩
  | .hbm, ⟨12, _⟩ => ⟨S_, .f32⟩
  | .hbm, ⟨13, _⟩ => ⟨S1x4096x512, .f32⟩
  | .hbm, ⟨14, _⟩ => ⟨S1x4096x512, .f32⟩
  | .hbm, ⟨15, _⟩ => ⟨S1x4096x512, .f32⟩
  | .hbm, ⟨16, _⟩ => ⟨S_, .f32⟩
  | .hbm, ⟨17, _⟩ => ⟨S1x4096x512, .f32⟩
  | .hbm, ⟨18, _⟩ => ⟨S1x4096x512, .f32⟩
  | .hbm, ⟨19, _⟩ => ⟨S1x4096x512, .f32⟩
  | .hbm, ⟨20, _⟩ => ⟨S_, .f32⟩
  | .hbm, ⟨21, _⟩ => ⟨S1x4096x512, .f32⟩
  | .hbm, ⟨22, _⟩ => ⟨S1x4096x512, .f32⟩
  | .hbm, ⟨23, _⟩ => ⟨S_, .f32⟩
  | .hbm, ⟨24, _⟩ => ⟨S1x4096x512, .f32⟩
  | .hbm, ⟨25, _⟩ => ⟨S1x4096x512, .f32⟩
  | .hbm, ⟨26, _⟩ => ⟨S1x4096x512, .f32⟩
  | .hbm, ⟨27, _⟩ => ⟨S1x4096x256, .f32⟩
  | .hbm, ⟨28, _⟩ => ⟨S1x4096x256, .f32⟩
  | .hbm, ⟨29, _⟩ => ⟨S1x32x128x4x64, .f32⟩
  | .hbm, ⟨30, _⟩ => ⟨S4x64, .f32⟩
  | .hbm, ⟨31, _⟩ => ⟨S1x32x128x4x64, .f32⟩
  | .hbm, ⟨32, _⟩ => ⟨S_, .f32⟩
  | .hbm, ⟨33, _⟩ => ⟨S1x32x128x4, .f32⟩
  | .hbm, ⟨34, _⟩ => ⟨S1x32x128x4x1, .f32⟩
  | .hbm, ⟨35, _⟩ => ⟨S_, .f32⟩
  | .hbm, ⟨36, _⟩ => ⟨S1x32x128x4x1, .f32⟩
  | .hbm, ⟨37, _⟩ => ⟨S1x32x128x4x1, .f32⟩
  | .hbm, ⟨38, _⟩ => ⟨S_, .f32⟩
  | .hbm, ⟨39, _⟩ => ⟨S1x32x128x4x1, .f32⟩
  | .hbm, ⟨40, _⟩ => ⟨S1x32x128x4x1, .f32⟩
  | .hbm, ⟨41, _⟩ => ⟨S1x32x128x4x1, .f32⟩
  | .hbm, ⟨42, _⟩ => ⟨S1x32x128x4x64, .f32⟩
  | .hbm, ⟨43, _⟩ => ⟨S1x32x128x4x64, .f32⟩
  | .hbm, ⟨44, _⟩ => ⟨S1x1x1x4x64, .f32⟩
  | .hbm, ⟨45, _⟩ => ⟨S1x32x128x4x64, .f32⟩
  | .hbm, ⟨46, _⟩ => ⟨S1x32x128x4x64, .f32⟩
  | .hbm, ⟨47, _⟩ => ⟨S_, .i1⟩
  | .hbm, ⟨48, _⟩ => ⟨S128x128, .i1⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S_, .i1⟩
  | .hbm, ⟨56, _⟩ => ⟨S128x128, .i1⟩
  | .hbm, ⟨57, _⟩ => ⟨S128x128, .i1⟩
  | .hbm, ⟨58, _⟩ => ⟨S1x128x128, .i1⟩
  | .hbm, ⟨59, _⟩ => ⟨S_, .f32⟩
  | .hbm, ⟨60, _⟩ => ⟨S4x128x128, .f32⟩
  | .hbm, ⟨61, _⟩ => ⟨S4x128x128, .i1⟩
  | .hbm, ⟨62, _⟩ => ⟨S4x128x128, .f32⟩
  | .hbm, ⟨63, _⟩ => ⟨S4x1x32x64x128, .f32⟩
  | .hbm, ⟨64, _⟩ => ⟨S1x32x128x4x64, .f32⟩
  | .hbm, ⟨65, _⟩ => ⟨S128x4, .f32⟩
  | .hbm, ⟨66, _⟩ => ⟨S1x1x128x4x1, .f32⟩
  | .hbm, ⟨67, _⟩ => ⟨S1x32x128x4x64, .f32⟩
  | .hbm, ⟨68, _⟩ => ⟨S1x32x128x4x64, .f32⟩
  | .hbm, ⟨69, _⟩ => ⟨S1x4096x256, .f32⟩
  | .hbm, ⟨70, _⟩ => ⟨S1x4096x256, .f32⟩
  | .hbm, ⟨71, _⟩ => ⟨S4096x256, .f32⟩
  | .hbm, ⟨72, _⟩ => ⟨S4096x256, .bf16⟩
  | .hbm, ⟨73, _⟩ => ⟨S_, .i32⟩
  | .hbm, ⟨74, _⟩ => ⟨S_, .bf16⟩
  | .hbm, ⟨75, _⟩ => ⟨S4096x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_v32 : Ref sig .tc := ⟨.hbm, 48, rfl⟩
abbrev main_call0_v0 : Ref sig .tc := ⟨.hbm, 49, rfl⟩
abbrev main_call0_c : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_c_0 : Ref sig .tc := ⟨.hbm, 55, rfl⟩
abbrev main_call0_v5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_call1_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_7 : Ref sig .tc := ⟨.hbm, 73, rfl⟩
abbrev main_call2_v0 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Proof.Gain.lean ====
/- The gain gradient of the normalised memory: the kernel's row of column sums is the reference's. -/
module

public import proofs.«01_k».proof.Defs
public import proofs.«01_k».proof.Proof.Gen.GainKernel.Frame
public import proofs.«01_k».proof.Proof.Gen.GainKernelIdeal.Value
public import proofs.«01_k».proof.Proof.Gen.GainReferenceIdeal.Read
public import Idealize.ShloMosaic.Lib.Pipeline.ValueKit
public import Idealize.ShloMosaic.Lib.Pointwise

@[expose] public section

set_option maxRecDepth 16384

noncomputable section

namespace Cert.Proof.Gain

open Idealize.ShloMosaic Idealize.ShloMosaic.TcCoe Idealize.SL.Sem
open Cert.GainKernelIdeal.Gen Cert.GainReferenceIdeal.Read

/-- Both programs end at the same row: `∑ rows (x · r) · (ct₀ + ct₁ + ct₂ + ct₃)`. -/
theorem value (x : FVec Ideal Cert.GainKernelIdeal.S256x1024 .f32) (ct : FVec Ideal Cert.GainKernelIdeal.S4x256x1024 .f32) :
    Cert.GainKernelIdeal.Value.G2 (F := Ideal) x ct = Cert.GainReferenceIdeal.Read.val_main_v28 (F := Ideal) x ct := by
  funext i
  idx_vars i
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst_2, val_main_v25, val_main_v26, val_main_cst_3, val_main_v27, val_main_v28]
  simp only [Finset.univ_unique, Finset.sum_singleton]
  exact Finset.sum_congr rfl fun k _ => by ac_rfl

theorem frame_kernel : Cert.quiescent_GainKernel := fun m ρ _ => Cert.GainKernel.Gen.frame m ρ
theorem frame_ideal : Cert.quiescent_GainKernelIdeal := fun m ρ _ => Cert.GainKernelIdeal.Gen.frame m ρ
theorem frame_reference : Cert.quiescent_GainReferenceIdeal := fun m ρ _ =>
  (θ_run Cert.GainReferenceIdeal.defs _ _).mono
    (fun r h => ⟨fun c => (h c).2, sem_eq_zero_of_no_sems (by decide) r.2⟩)
    (Cert.GainReferenceIdeal.Value.run m ρ)

theorem algebraic : Cert.algebraic_GainKernelIdeal_GainReferenceIdeal := by
  pair_intro
  · run_from Cert.GainKernelIdeal.Value.run m g
  · run_from Cert.GainReferenceIdeal.Value.run m' g'
    exact (value _ _).symm

end Cert.Proof.Gain

end
-- ==== Proof.Reals.lean ====
/- Extended reals that are real: the operations of a program on them are the real operations, and the float words that
   the programs write are the rationals they denote. -/
module

public import Idealize.ShloMosaic.PureOps.Ideal.Laws
public import Idealize.ShloMosaic.Lib.IdealHost

@[expose] public section

noncomputable section

namespace Cert.Proof.Reals

open Idealize.ShloMosaic

/-- The number that the programs add to a mean of squares, as their float word denotes it. -/
def eps : ℝ := 8796093 * (2 : ℝ) ^ (-43 : ℤ)

theorem eps_pos : 0 < eps := by unfold eps; positivity

theorem bits_eps : Ideal.ofBits .f32 0x358637BD#32 = ((eps : ℝ) : EReal) := by
  simp [Ideal.ofBits, Ideal.ieee, eps]
theorem bits_1024 : Ideal.ofBits .f32 0x44800000#32 = ((1024 : ℝ) : EReal) := by
  simp [Ideal.ofBits, Ideal.ieee, -EReal.coe_mul]; norm_num [-EReal.coe_mul]
theorem bits_inv1024 : Ideal.ofBits .f32 0x3A800000#32 = ((1 / 1024 : ℝ) : EReal) := by
  simp [Ideal.ofBits, Ideal.ieee, -EReal.coe_mul]; norm_num [-EReal.coe_mul]
theorem bits_inv2048 : Ideal.ofBits .f32 0x3A000000#32 = ((1 / 2048 : ℝ) : EReal) := by
  simp [Ideal.ofBits, Ideal.ieee, -EReal.coe_mul]; norm_num [-EReal.coe_mul]
theorem bits_inv16 : Ideal.ofBits .f32 0x3D800000#32 = ((1 / 16 : ℝ) : EReal) := by
  simp [Ideal.ofBits, Ideal.ieee, -EReal.coe_mul]; norm_num [-EReal.coe_mul]
theorem bits_half : Ideal.ofBits .f32 0x3F000000#32 = ((1 / 2 : ℝ) : EReal) := by
  simp [Ideal.ofBits, Ideal.ieee, -EReal.coe_mul]; norm_num [-EReal.coe_mul]
theorem bits_neg_half : Ideal.ofBits .f32 0xBF000000#32 = ((-(1 / 2) : ℝ) : EReal) := by
  simp [Ideal.ofBits, Ideal.ieee, -EReal.coe_mul]; norm_num [-EReal.coe_mul]
theorem bits_one : Ideal.ofBits .f32 0x3F800000#32 = ((1 : ℝ) : EReal) := by
  simp [Ideal.ofBits, Ideal.ieee, -EReal.coe_mul]; norm_num [-EReal.coe_mul]
theorem bits_two : Ideal.ofBits .f32 0x40000000#32 = ((2 : ℝ) : EReal) := by
  simp [Ideal.ofBits, Ideal.ieee, -EReal.coe_mul]; norm_num [-EReal.coe_mul]
theorem bits_zero : Ideal.ofBits .f32 0x00000000#32 = ((0 : ℝ) : EReal) := by simp
theorem bits_top : Ideal.ofBits .f32 0x7F800000#32 = (⊤ : EReal) := by
  simp [Ideal.ofBits, Ideal.ieee]
theorem bits_bot : Ideal.ofBits .f32 0xFF800000#32 = (⊥ : EReal) := by
  simp [Ideal.ofBits, Ideal.ieee]

/-- A finite sum of reals, read among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient by a real that is not zero. -/
theorem coe_div (a b : ℝ) (h : b ≠ 0) : Ideal.div (a : EReal) (b : EReal) = ((a / b : ℝ) : EReal) := by
  rw [Ideal.div_coe h, ← EReal.coe_mul]; congr 1; ring

theorem coe_rsqrt (a : ℝ) (h : 0 < a) : Ideal.rsqrt (a : EReal) = (((Real.sqrt a)⁻¹ : ℝ) : EReal) := by
  rw [Ideal.rsqrt_coe, if_neg (not_lt.mpr h.le), if_neg h.ne']

/-- A number whose magnitude is below `⊤` is real. -/
theorem real_of_abs_lt (x : EReal) (h : max x (-x) < ⊤) : ∃ r : ℝ, x = (r : EReal) := by
  induction x with
  | bot => simp at h
  | top => simp at h
  | coe r => exact ⟨r, rfl⟩

/-- An array whose comparison with `⊤` holds everywhere is an array of reals. -/
theorem reals {ι : Type} (x : ι → EReal) (h : ∀ i, Ideal.cmp .olt (max (x i) (-(x i))) (Ideal.ofBits .f32 0x7F800000#32) = 1#1) :
    ∃ X : ι → ℝ, x = fun i => ((X i : ℝ) : EReal) := by
  have h' : ∀ i, ∃ r : ℝ, x i = (r : EReal) := fun i => by
    refine real_of_abs_lt _ ?_
    have hi := h i
    rw [bits_top] at hi
    by_contra hc
    simp [Ideal.cmp, hc] at hi
  choose X hX using h'
  exact ⟨X, funext hX⟩

/-- The mean of the squares of a row of 1024, and the reciprocal root of it that a norm multiplies by. -/
def ms (f : Fin 1024 → ℝ) : ℝ := (∑ k, f k * f k) / 1024 + eps
def rs (f : Fin 1024 → ℝ) : ℝ := (Real.sqrt (ms f))⁻¹

theorem ms_pos (f : Fin 1024 → ℝ) : 0 < ms f :=
  add_pos_of_nonneg_of_pos (div_nonneg (Finset.sum_nonneg fun k _ => mul_self_nonneg _) (by norm_num)) eps_pos

theorem fold_ms (f : Fin 1024 → ℝ) : (∑ k, f k * f k) / 1024 + eps = ms f := rfl

theorem coe_rs (f : Fin 1024 → ℝ) : Ideal.rsqrt ((ms f : ℝ) : EReal) = ((rs f : ℝ) : EReal) := coe_rsqrt _ (ms_pos f)

theorem coe_div_ms (a : ℝ) (f : Fin 1024 → ℝ) : Ideal.div (a : EReal) ((ms f : ℝ) : EReal) = ((a / ms f : ℝ) : EReal) :=
  coe_div _ _ (ms_pos f).ne'

theorem coe_div_1024 (a : ℝ) : Ideal.div (a : EReal) ((1024 : ℝ) : EReal) = ((a / 1024 : ℝ) : EReal) := coe_div _ _ (by norm_num)

theorem rs_sq (f : Fin 1024 → ℝ) : rs f / ms f = rs f * rs f * rs f := by
  unfold rs
  have h := ms_pos f
  have hs : Real.sqrt (ms f) * Real.sqrt (ms f) = ms f := Real.mul_self_sqrt h.le
  have h0 : Real.sqrt (ms f) ≠ 0 := (Real.sqrt_pos.mpr h).ne'
  field_simp
  nlinarith [hs]

/-- A quantity that starts at the first point's share and gains each later point's is, at the last, the sum of the shares. -/
theorem fold_sum {N : ℕ} (a : (n : ℕ) → n < N → EReal) (b : Fin N → ℝ) (h0 : ∀ h, a 0 h = ((b ⟨0, h⟩ : ℝ) : EReal))
    (hs : ∀ n (h : n + 1 < N), a (n + 1) h = a n (Nat.lt_of_succ_lt h) + ((b ⟨n + 1, h⟩ : ℝ) : EReal)) (n : ℕ) (h : n < N) (hN : N = n + 1) :
    a n h = ((∑ k, b k : ℝ) : EReal) := by
  have key : ∀ n (h : n < N), a n h = ((∑ k : Fin (n + 1), b ⟨k.val, lt_of_lt_of_le k.isLt h⟩ : ℝ) : EReal) := by
    intro n
    induction n with
    | zero => intro h; rw [h0 h]; simp
    | succ n ih => intro h; rw [hs n h, ih, ← EReal.coe_add, Fin.sum_univ_castSucc (n := n + 1)]; rfl
  subst hN
  exact key n h

/-- A sum over `m` blocks of `n` is the sum over all. -/
theorem sum_blocks {N m n : ℕ} (hN : N = m * n) (g : Fin N → ℝ) (r : Fin m → Fin n → Fin N)
    (hr : ∀ t i, (r t i).val = t.val * n + i.val) : ∑ t, ∑ i, g (r t i) = ∑ k, g k := by
  subst hN
  rw [← Fintype.sum_prod_type', ← finProdFinEquiv.sum_comp]
  refine Finset.sum_congr rfl fun x _ => congrArg g (Fin.ext ?_)
  rw [hr]
  simp [finProdFinEquiv]
  ring

/-- The gradient of a normalised row: of `f`, scaled to root mean square one and by the gain `g`, against the cotangent `dy`. -/
noncomputable def back (f g dy : Fin 1024 → ℝ) (j : Fin 1024) : ℝ :=
  rs f * (dy j * g j - f j * rs f * ((∑ k, dy k * g k * (f k * rs f)) / 1024))

/-- The same gradient, by the chain rule through the reciprocal root. -/
theorem back_chain (f g dy : Fin 1024 → ℝ) (j : Fin 1024) :
    dy j * g j * rs f + f j * ((∑ k, f k * (dy k * g k)) * (-(1 / 2) * (rs f / ms f)) / 1024)
      + (∑ k, f k * (dy k * g k)) * (-(1 / 2) * (rs f / ms f)) / 1024 * f j = back f g dy j := by
  have hq : (∑ k, dy k * g k * (f k * rs f)) = (∑ k, f k * (dy k * g k)) * rs f := by
    rw [Finset.sum_mul]
    exact Finset.sum_congr rfl fun k _ => by ring
  unfold back
  rw [hq]
  generalize (∑ k, f k * (dy k * g k)) = S
  rw [rs_sq f]
  ring

end Cert.Proof.Reals

end
-- ==== Proof.Loss.lean ====
/- The loss and its gradients -/
module

public import proofs.«01_k».proof.Defs
public import proofs.«01_k».proof.Proof.Gen.LossKernel.Frame
public import proofs.«01_k».proof.Proof.Gen.LossKernelIdeal.Value
public import proofs.«01_k».proof.Proof.Gen.LossReferenceIdeal.Read
public import proofs.«01_k».proof.Proof.Gen.Pre_finite_loss
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Loss

open Idealize.ShloMosaic Idealize.ShloMosaic.TcCoe Idealize.SL.Sem
open Idealize.ShloMosaic.Pipeline (Dat)
open Cert.Proof.Reals
open Cert.LossKernelIdeal Cert.LossKernelIdeal.Gen Cert.LossReferenceIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![0, 0] :=
  (by decide +kernel : ∀ t : Fin grid0.N, _)

/-- The row of the arrays that row `i` of block `t` is. -/
def row (t : Fin cfg0.N) (i : Fin 512) : Fin 4096 :=
  ⟨t.val * 512 + i.val, by have := lt_of_lt_of_eq t.isLt N_0; omega⟩

section
variable (c : Dev nD) (X2 Fr : S4096x1024.Idx → ℝ) (G : S1024.Idx → ℝ) (T : S4096x1024.Idx → ℝ)
  (h0 : m ((c : Thread nD τ).loc main_arg0) = fun i => ((X2 i : ℝ) : EReal))
  (h1 : m ((c : Thread nD τ).loc main_arg1) = fun i => ((Fr i : ℝ) : EReal))
  (h2 : m ((c : Thread nD τ).loc main_arg2) = fun i => ((G i : ℝ) : EReal))
  (h3 : m ((c : Thread nD τ).loc main_arg3) = fun i => ((T i : ℝ) : EReal))
include h0 h1 h2 h3

theorem in_0 (t : Fin cfg0.N) (i : Fin 512) (j : Fin 1024) :
    (iblk m c 0 t (ix2 i j) : EReal) = ((X2 (ix2 (row t i) j) + Fr (ix2 (row t i) j) * rs (fun k => Fr (ix2 (row t i) k)) * G (ix1 j) : ℝ) : EReal) := by
  have e : ∀ (x0 x1 : S4096x1024.Idx → EReal) (x2 : S1024.Idx → EReal), m ((c : Thread nD τ).loc main_arg0) = x0 →
      m ((c : Thread nD τ).loc main_arg1) = x1 → m ((c : Thread nD τ).loc main_arg2) = x2 →
      (iblk m c 0 t (ix2 i j) : EReal) = x0 (ix2 (row t i) j) + x1 (ix2 (row t i) j)
        * Ideal.rsqrt (Ideal.div (∑ k, x1 (ix2 (row t i) k) * x1 (ix2 (row t i) k)) (Ideal.ofBits .f32 0x44800000#32) + Ideal.ofBits .f32 0x358637BD#32)
        * x2 (ix1 j) := by
    intro x0 x1 x2 e0 e1 e2
    subst e0 e1 e2
    have eb : ((win0_0.blk t).view.emb (ix2 i j) : S4096x1024.Idx) = ix2 (row t i) j := by
      unfold row
      blk_ext! [idx t]
    refine (congrArg (V m c main_v13) eb).trans ?_
    entry_read
    generalize row t i = r
    pointwise
  rw [e _ _ _ h0 h1 h2]
  simp only [bits_1024, bits_eps, coe_sum, coe_div_1024, ← EReal.coe_mul, ← EReal.coe_add, fold_ms, coe_rs]

theorem in_1 (t : Fin cfg0.N) (i : Fin 512) (j : Fin 1024) : (iblk m c 1 t (ix2 i j) : EReal) = ((T (ix2 (row t i) j) : ℝ) : EReal) := by
  have e : ∀ x : S4096x1024.Idx → EReal, m ((c : Thread nD τ).loc main_arg3) = x → (iblk m c 1 t (ix2 i j) : EReal) = x (ix2 (row t i) j) := by
    intro x e
    subst e
    unfold row
    blk_point [iblk, V, idx t]
  rw [e _ h3]

theorem in_2 (t : Fin cfg0.N) (i : Fin 512) (j : Fin 1024) : (iblk m c 2 t (ix2 i j) : EReal) = ((Fr (ix2 (row t i) j) : ℝ) : EReal) := by
  have e : ∀ x : S4096x1024.Idx → EReal, m ((c : Thread nD τ).loc main_arg1) = x → (iblk m c 2 t (ix2 i j) : EReal) = x (ix2 (row t i) j) := by
    intro x e
    subst e
    unfold row
    blk_point [iblk, V, idx t]
  rw [e _ h1]

theorem in_3 (t : Fin cfg0.N) (i : Fin 1) (j : Fin 1024) : (iblk m c 3 t (ix2 i j) : EReal) = ((G (ix1 j) : ℝ) : EReal) := by
  have e : ∀ x : S1024.Idx → EReal, m ((c : Thread nD τ).loc main_arg2) = x → (iblk m c 3 t (ix2 i j) : EReal) = x (ix1 j) := by
    intro x e
    subst e
    blk_point [iblk, V, idx t]
  rw [e _ h2]

/-- The reciprocal root mean square of row `r` of the last layer's output. -/
noncomputable def rr (Fr : S4096x1024.Idx → ℝ) (r : Fin 4096) : ℝ := rs fun k : Fin 1024 => Fr (ix2 r k)

/-- What the prediction misses the target by. -/
noncomputable def err (X2 Fr : S4096x1024.Idx → ℝ) (G : S1024.Idx → ℝ) (T : S4096x1024.Idx → ℝ) (r : Fin 4096) (j : Fin 1024) : ℝ :=
  X2 (ix2 r j) + (Fr (ix2 r j) * rr Fr r) * G (ix1 j) - T (ix2 r j)

include h0 h1 h2 h3

/-- The gradient of the prediction, in the reference. -/
theorem ref5 (r : Fin 4096) (j : Fin 1024) : val_main_v31 (F := Ideal) (m ((c : Thread nD τ).loc main_arg0)) (m ((c : Thread nD τ).loc main_arg1))
    (m ((c : Thread nD τ).loc main_arg2)) (m ((c : Thread nD τ).loc main_arg3)) (ix2 r j) = ((err X2 Fr G T r j / 1024 : ℝ) : EReal) := by
  rw [h0, h1, h2, h3]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_cst_4, val_main_v21, val_main_cst_5, val_main_v22, val_main_v23, val_main_cst_6, val_main_v24, val_main_cst_7, val_main_v25, val_main_cst_8, val_main_cst_9, val_main_v26, val_main_v27, val_main_cst_10, val_main_v28, val_main_v29, val_main_v30, val_main_v31, val_main_v32, val_main_cst_11, val_main_v33, val_main_v34, val_main_v35, val_main_v36, val_main_cst_12, val_main_v37, val_main_v38, val_main_cst_13, val_main_v39, val_main_v40, val_main_v41, val_main_v42, val_main_v43, val_main_cst_14, val_main_v44, val_main_v45, val_main_cst_15, val_main_v46, val_main_v47, val_main_v48, val_main_v49, val_main_v50, val_main_v51, val_main_v52, val_main_v53, val_main_v54]
  simp only [bits_1024, bits_eps, bits_half, bits_neg_half, bits_one, bits_two, bits_inv1024, bits_inv2048, coe_sum, coe_div_1024, coe_div_ms, ← EReal.coe_mul, ← EReal.coe_add, ← EReal.coe_sub, fold_ms, coe_rs]
  refine congrArg ((↑) : ℝ → EReal) ?_
  unfold err rr
  ring

/-- The gradient of the normalised rows, in the reference. -/
theorem ref6 (r : Fin 4096) (j : Fin 1024) : val_main_v53 (F := Ideal) (m ((c : Thread nD τ).loc main_arg0)) (m ((c : Thread nD τ).loc main_arg1))
    (m ((c : Thread nD τ).loc main_arg2)) (m ((c : Thread nD τ).loc main_arg3)) (ix2 r j) = ((rr Fr r * (err X2 Fr G T r j / 1024 * G (ix1 j) - Fr (ix2 r j) * rr Fr r *
      ((∑ k : Fin 1024, err X2 Fr G T r k / 1024 * G (ix1 k) * (Fr (ix2 r k) * rr Fr r)) / 1024)) : ℝ) : EReal) := by
  rw [h0, h1, h2, h3]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_cst_4, val_main_v21, val_main_cst_5, val_main_v22, val_main_v23, val_main_cst_6, val_main_v24, val_main_cst_7, val_main_v25, val_main_cst_8, val_main_cst_9, val_main_v26, val_main_v27, val_main_cst_10, val_main_v28, val_main_v29, val_main_v30, val_main_v31, val_main_v32, val_main_cst_11, val_main_v33, val_main_v34, val_main_v35, val_main_v36, val_main_cst_12, val_main_v37, val_main_v38, val_main_cst_13, val_main_v39, val_main_v40, val_main_v41, val_main_v42, val_main_v43, val_main_cst_14, val_main_v44, val_main_v45, val_main_cst_15, val_main_v46, val_main_v47, val_main_v48, val_main_v49, val_main_v50, val_main_v51, val_main_v52, val_main_v53, val_main_v54]
  simp only [bits_1024, bits_eps, bits_half, bits_neg_half, bits_one, bits_two, bits_inv1024, bits_inv2048, coe_sum, coe_div_1024, coe_div_ms, ← EReal.coe_mul, ← EReal.coe_add, ← EReal.coe_sub, fold_ms, coe_rs]
  simp only [Finset.univ_unique, Finset.sum_singleton]
  refine congrArg ((↑) : ℝ → EReal) ?_
  have hq : (∑ k : Fin 1024, err X2 Fr G T r k / 1024 * G (ix1 k) * (Fr (ix2 r k) * rr Fr r)) =
      (∑ k : Fin 1024, Fr (ix2 r k) * (1 / 2 / 1024 * (2 * err X2 Fr G T r k) * G (ix1 k))) * rr Fr r := by
    rw [Finset.sum_mul]
    exact Finset.sum_congr rfl fun k _ => by ring
  have h3 := rs_sq fun k : Fin 1024 => Fr (ix2 r k)
  rw [hq]
  unfold err rr
  generalize (∑ k : Fin 1024, Fr (ix2 r k) * _) = S
  rw [h3]
  ring

/-- The gradient of the norm's gain, in the reference. -/
theorem ref7 (r : Fin 1) (j : Fin 1024) : val_main_v54 (F := Ideal) (m ((c : Thread nD τ).loc main_arg0)) (m ((c : Thread nD τ).loc main_arg1))
    (m ((c : Thread nD τ).loc main_arg2)) (m ((c : Thread nD τ).loc main_arg3)) (ix2 r j) = ((∑ k : Fin 4096, err X2 Fr G T k j / 1024 * (Fr (ix2 k j) * rr Fr k) : ℝ) : EReal) := by
  rw [h0, h1, h2, h3]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_cst_4, val_main_v21, val_main_cst_5, val_main_v22, val_main_v23, val_main_cst_6, val_main_v24, val_main_cst_7, val_main_v25, val_main_cst_8, val_main_cst_9, val_main_v26, val_main_v27, val_main_cst_10, val_main_v28, val_main_v29, val_main_v30, val_main_v31, val_main_v32, val_main_cst_11, val_main_v33, val_main_v34, val_main_v35, val_main_v36, val_main_cst_12, val_main_v37, val_main_v38, val_main_cst_13, val_main_v39, val_main_v40, val_main_v41, val_main_v42, val_main_v43, val_main_cst_14, val_main_v44, val_main_v45, val_main_cst_15, val_main_v46, val_main_v47, val_main_v48, val_main_v49, val_main_v50, val_main_v51, val_main_v52, val_main_v53, val_main_v54]
  simp only [bits_1024, bits_eps, bits_half, bits_neg_half, bits_one, bits_two, bits_inv1024, bits_inv2048, coe_sum, coe_div_1024, coe_div_ms, ← EReal.coe_mul, ← EReal.coe_add, ← EReal.coe_sub, fold_ms, coe_rs]
  simp only [Finset.univ_unique, Finset.sum_singleton]
  refine congrArg ((↑) : ℝ → EReal) (Finset.sum_congr rfl fun k _ => ?_)
  unfold err rr
  ring

/-- The loss, in the reference. -/
theorem ref4 (r : Fin 1) (j : Fin 128) : val_main_v52 (F := Ideal) (m ((c : Thread nD τ).loc main_arg0)) (m ((c : Thread nD τ).loc main_arg1))
    (m ((c : Thread nD τ).loc main_arg2)) (m ((c : Thread nD τ).loc main_arg3)) (ix2 r j) = (((∑ k : Fin 4096, ∑ i : Fin 1024, err X2 Fr G T k i * err X2 Fr G T k i) * (1 / 2048) : ℝ) : EReal) := by
  rw [h0, h1, h2, h3]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_cst_4, val_main_v21, val_main_cst_5, val_main_v22, val_main_v23, val_main_cst_6, val_main_v24, val_main_cst_7, val_main_v25, val_main_cst_8, val_main_cst_9, val_main_v26, val_main_v27, val_main_cst_10, val_main_v28, val_main_v29, val_main_v30, val_main_v31, val_main_v32, val_main_cst_11, val_main_v33, val_main_v34, val_main_v35, val_main_v36, val_main_cst_12, val_main_v37, val_main_v38, val_main_cst_13, val_main_v39, val_main_v40, val_main_v41, val_main_v42, val_main_v43, val_main_cst_14, val_main_v44, val_main_v45, val_main_cst_15, val_main_v46, val_main_v47, val_main_v48, val_main_v49, val_main_v50, val_main_v51, val_main_v52, val_main_v53, val_main_v54]
  simp only [bits_1024, bits_eps, bits_half, bits_neg_half, bits_one, bits_two, bits_inv1024, bits_inv2048, coe_sum, coe_div_1024, coe_div_ms, ← EReal.coe_mul, ← EReal.coe_add, ← EReal.coe_sub, fold_ms, coe_rs]
  refine congrArg ((↑) : ℝ → EReal) ?_
  rw [← Finset.sum_div]
  unfold err rr
  ring

omit h0 h1 h2 h3 in
/-- At every point the prediction's gradient is written the same way. -/
theorem out5 (t : Fin cfg0.N) : (outsAt0 m c t.val t.isLt).2.1 = k0_pay8 (iblk m c 0 t) (iblk m c 1 t) := by
  by_cases a : t.val % 8 = 0
  · rw [outsAt0_A m c t a (by omega)]; frame_out
  · by_cases b : t.val % 8 = 7
    · rw [outsAt0_C m c t a b]; frame_out
    · rw [outsAt0_B m c t a b]; frame_out

omit h0 h1 h2 h3 in
/-- At every point the gradient of the normalised rows is written the same way. -/
theorem out6 (t : Fin cfg0.N) : (outsAt0 m c t.val t.isLt).2.2.1 =
    k0_pay1 (k0_pay10 (iblk m c 2 t)) (k0_pay13 (iblk m c 0 t) (iblk m c 1 t) (iblk m c 2 t) (iblk m c 3 t)) := by
  by_cases a : t.val % 8 = 0
  · rw [outsAt0_A m c t a (by omega)]; frame_out
  · by_cases b : t.val % 8 = 7
    · rw [outsAt0_C m c t a b]; frame_out
    · rw [outsAt0_B m c t a b]; frame_out

/-- What a block's prediction misses the target by, in the kernel. -/
theorem miss (t : Fin cfg0.N) (i : Fin 512) (j : Fin 1024) :
    (k0_pay7 (iblk m c 0 t) (iblk m c 1 t) (ix2 i j) : EReal) = ((err X2 Fr G T (row t i) j : ℝ) : EReal) := by
  pointwise [k0_pay7]
  rw [in_0 m c X2 Fr G T h0 h1 h2 h3, in_1 m c X2 Fr G T h0 h1 h2 h3, ← EReal.coe_sub]
  rfl

/-- A block's normalised rows, in the kernel. -/
theorem scale (t : Fin cfg0.N) (i : Fin 512) (u : Fin 1) :
    (k0_pay10 (iblk m c 2 t) (ix2 i u) : EReal) = ((rr Fr (row t i) : ℝ) : EReal) := by
  pointwise [k0_pay9, k0_pay10]
  simp only [in_2 m c X2 Fr G T h0 h1 h2 h3, bits_1024, bits_eps, coe_sum, coe_div_1024, ← EReal.coe_mul, ← EReal.coe_add, fold_ms, coe_rs]
  rfl

/-- The prediction's gradient, in the kernel. -/
theorem arr5 (R : S4096x1024.Idx → EReal) (hR : ∀ r j, R (ix2 r j) = ((err X2 Fr G T r j / 1024 : ℝ) : EReal)) :
    (dats m 0 c).arrAt 5 cfg0.N = R := by
  refine (dats m 0 c).arrAt_eq_of_covers 5 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_5, out5]
  have eb : ((win0_5.blk t).view.emb (ix2 i j) : S4096x1024.Idx) = ix2 (row t i) j := by
    unfold row
    blk_ext! [idx t]
  refine Eq.trans ?_ (congrArg R eb).symm
  rw [hR]
  pointwise [k0_pay8]
  rw [miss m c X2 Fr G T h0 h1 h2 h3]
  simp only [bits_inv1024, ← EReal.coe_mul]
  exact congrArg ((↑) : ℝ → EReal) (by ring)

/-- The gradient of the normalised rows, in the kernel. -/
theorem arr6 (R : S4096x1024.Idx → EReal) (hR : ∀ r j, R (ix2 r j) = ((rr Fr r * (err X2 Fr G T r j / 1024 * G (ix1 j) - Fr (ix2 r j) * rr Fr r *
      ((∑ k : Fin 1024, err X2 Fr G T r k / 1024 * G (ix1 k) * (Fr (ix2 r k) * rr Fr r)) / 1024)) : ℝ) : EReal)) :
    (dats m 0 c).arrAt 6 cfg0.N = R := by
  refine (dats m 0 c).arrAt_eq_of_covers 6 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_6, out6]
  have eb : ((win0_6.blk t).view.emb (ix2 i j) : S4096x1024.Idx) = ix2 (row t i) j := by
    unfold row
    blk_ext! [idx t]
  refine Eq.trans ?_ (congrArg R eb).symm
  rw [hR]
  pointwise [k0_pay1, k0_pay8, k0_pay9, k0_pay11, k0_pay13]
  simp only [miss m c X2 Fr G T h0 h1 h2 h3, scale m c X2 Fr G T h0 h1 h2 h3, in_2 m c X2 Fr G T h0 h1 h2 h3, in_3 m c X2 Fr G T h0 h1 h2 h3,
    bits_1024, bits_inv1024, coe_sum, coe_div_1024, ← EReal.coe_mul, ← EReal.coe_add, ← EReal.coe_sub, mul_one_div]

/-- The gradient of the gain, gathered over the blocks by the kernel. -/
theorem arr7 (R : S1x1024.Idx → EReal) (hR : ∀ r j, R (ix2 r j) = ((∑ k : Fin 4096, err X2 Fr G T k j / 1024 * (Fr (ix2 k j) * rr Fr k) : ℝ) : EReal)) :
    (dats m 0 c).arrAt 7 cfg0.N = R := by
  refine (dats m 0 c).arrAt_eq_of_after_last 7 t0_7 (by decide +kernel) _ fun (y : S1x1024.Idx) => ?_
  obtain ⟨u, j, rfl⟩ : ∃ (u : Fin 1) (j : Fin 1024), y = ix2 u j := ⟨y 0, y 1, eq_ix2 y⟩
  blk_simp
  rw [after0_7, hR]
  have add : ∀ (t : Fin cfg0.N) (p : FVec Ideal S1x1024 .f32), (k0_pay2 (k0_pay12 (iblk m c 0 t) (iblk m c 1 t) (iblk m c 2 t)) p (ix2 u j) : EReal) =
      p (ix2 u j) + ((∑ i : Fin 512, err X2 Fr G T (row t i) j / 1024 * (Fr (ix2 (row t i) j) * rr Fr (row t i)) : ℝ) : EReal) := by
    intro t p
    pointwise [k0_pay2, k0_pay8, k0_pay9, k0_pay11, k0_pay12]
    simp only [miss m c X2 Fr G T h0 h1 h2 h3, scale m c X2 Fr G T h0 h1 h2 h3, in_2 m c X2 Fr G T h0 h1 h2 h3,
      bits_inv1024, coe_sum, ← EReal.coe_mul, mul_one_div]
  refine (fold_sum (fun n h => ((outsAt0 m c n h).2.2.2.1 (ix2 u j) : EReal)) _ ?_ ?_ 7 t0_7.isLt N_0).trans
    (congrArg ((↑) : ℝ → EReal) (sum_blocks (congrArg (· * 512) N_0).symm (fun k => err X2 Fr G T k j / 1024 * (Fr (ix2 k j) * rr Fr k)) row fun _ _ => rfl))
  · intro h
    rw [outsAt0_A m c ⟨0, h⟩ rfl (by simp only; omega)]
    frame_out
    rw [add]
    pointwise [k0_pay6]
  · intro n h
    have hn := lt_of_lt_of_eq h N_0
    by_cases b : (n + 1) % 8 = 7
    · rw [outsAt0_C m c ⟨n + 1, h⟩ (by simp only; omega) b]
      frame_out
      rw [add]
      rfl
    · rw [outsAt0_B m c ⟨n + 1, h⟩ (by simp only; omega) b]
      frame_out
      rw [add]
      rfl

omit h0 h1 h2 h3 in
/-- At the last point the loss is written from what the scratch then holds. -/
theorem out4 : (outsAt0 m c t0_7.val t0_7.isLt).1 = k0_pay4 (outsAt0 m c t0_7.val t0_7.isLt).2.2.2.2 := by
  rw [outsAt0_C m c t0_7 (by decide) (by decide)]
  frame_out

/-- The squared errors of one column, gathered over the blocks by the kernel. -/
theorem squares (u : Fin 1) (j : Fin 1024) :
    ((outsAt0 m c t0_7.val t0_7.isLt).2.2.2.2 (ix2 u j) : EReal) = ((∑ k : Fin 4096, err X2 Fr G T k j * err X2 Fr G T k j : ℝ) : EReal) := by
  have add : ∀ (t : Fin cfg0.N) (p : FVec Ideal S1x1024 .f32), (k0_pay3 (k0_pay7 (iblk m c 0 t) (iblk m c 1 t)) p (ix2 u j) : EReal) =
      p (ix2 u j) + ((∑ i : Fin 512, err X2 Fr G T (row t i) j * err X2 Fr G T (row t i) j : ℝ) : EReal) := by
    intro t p
    pointwise [k0_pay3]
    simp only [miss m c X2 Fr G T h0 h1 h2 h3, coe_sum, ← EReal.coe_mul]
  refine (fold_sum (fun n h => ((outsAt0 m c n h).2.2.2.2 (ix2 u j) : EReal)) _ ?_ ?_ 7 t0_7.isLt N_0).trans
    (congrArg ((↑) : ℝ → EReal) (sum_blocks (congrArg (· * 512) N_0).symm (fun k => err X2 Fr G T k j * err X2 Fr G T k j) row fun _ _ => rfl))
  · intro h
    rw [outsAt0_A m c ⟨0, h⟩ rfl (by simp only; omega)]
    frame_out
    rw [add]
    pointwise [k0_pay5]
  · intro n h
    have hn := lt_of_lt_of_eq h N_0
    by_cases b : (n + 1) % 8 = 7
    · rw [outsAt0_C m c ⟨n + 1, h⟩ (by simp only; omega) b]
      frame_out
      rw [add, read_unread_whole]
      rfl
    · rw [outsAt0_B m c ⟨n + 1, h⟩ (by simp only; omega) b]
      frame_out
      rw [add, read_unread_whole]
      rfl

/-- The loss, in the kernel. -/
theorem arr4 (R : S1x128.Idx → EReal) (hR : ∀ r j, R (ix2 r j) = (((∑ k : Fin 4096, ∑ i : Fin 1024, err X2 Fr G T k i * err X2 Fr G T k i) * (1 / 2048) : ℝ) : EReal)) :
    (dats m 0 c).arrAt 4 cfg0.N = R := by
  refine (dats m 0 c).arrAt_eq_of_after_last 4 t0_7 (by decide +kernel) _ fun (y : S1x128.Idx) => ?_
  obtain ⟨u, j, rfl⟩ : ∃ (u : Fin 1) (j : Fin 128), y = ix2 u j := ⟨y 0, y 1, eq_ix2 y⟩
  blk_simp
  rw [after0_4, hR, out4]
  pointwise [k0_pay4]
  rw [Finset.sum_congr rfl fun k _ => squares m c X2 Fr G T h0 h1 h2 h3 0 k, Finset.sum_comm]
  simp only [coe_sum, bits_inv2048, ← EReal.coe_mul]

end

/-- Finite arguments are real arrays. -/
theorem real_args (h : Cert.Pre_LossKernelIdeal_finite_loss m) (c : Dev nD) : ∃ (X2 Fr : S4096x1024.Idx → ℝ) (G : S1024.Idx → ℝ) (T : S4096x1024.Idx → ℝ),
    m ((c : Thread nD τ).loc main_arg0) = (fun i => ((X2 i : ℝ) : EReal)) ∧ m ((c : Thread nD τ).loc main_arg1) = (fun i => ((Fr i : ℝ) : EReal))
    ∧ m ((c : Thread nD τ).loc main_arg2) = (fun i => ((G i : ℝ) : EReal)) ∧ m ((c : Thread nD τ).loc main_arg3) = (fun i => ((T i : ℝ) : EReal)) := by
  obtain ⟨a0, a1, a2, a3⟩ := h c
  obtain ⟨X2, e0⟩ := reals _ fun i => congrFun a0 i
  obtain ⟨Fr, e1⟩ := reals _ fun i => congrFun a1 i
  obtain ⟨G, e2⟩ := reals _ fun i => congrFun a2 i
  obtain ⟨T, e3⟩ := reals _ fun i => congrFun a3 i
  exact ⟨X2, Fr, G, T, e0, e1, e2, e3⟩

theorem frame_kernel : Cert.quiescent_LossKernel := fun m ρ _ => Cert.LossKernel.Gen.frame m ρ
theorem frame_ideal : Cert.quiescent_LossKernelIdeal := fun m ρ _ => Cert.LossKernelIdeal.Gen.frame m ρ
theorem frame_ideal_pre : Cert.quiescent_LossKernelIdeal_pre_finite_loss := fun m ρ _ => Cert.LossKernelIdeal.Gen.frame m ρ
theorem frame_reference : Cert.quiescent_LossReferenceIdeal := fun m ρ _ =>
  (θ_run Cert.LossReferenceIdeal.defs _ _).mono
    (fun r h => ⟨fun c => (h c).2.2.2.2, sem_eq_zero_of_no_sems (by decide) r.2⟩)
    (Cert.LossReferenceIdeal.Value.run m ρ)
theorem frame_reference_pre : Cert.quiescent_LossReferenceIdeal_pre_finite_loss := fun m ρ _ => frame_reference m ρ trivial

theorem algebraic : Cert.algebraic_LossKernelIdeal_LossReferenceIdeal_pre_finite_loss := by
  pair_intro
  · run_from Cert.LossKernelIdeal.Value.run_blocks m g
  · run_from Cert.LossReferenceIdeal.Value.run m' g'
    all_goals obtain ⟨X2, Fr, G, T, h0, h1, h2, h3⟩ := real_args m hpre c
    · exact (val_main_v52_eq _ _ _ _).trans (arr4 m c X2 Fr G T h0 h1 h2 h3 _ (ref4 m c X2 Fr G T h0 h1 h2 h3)).symm
    · exact (val_main_v31_eq _ _ _ _).trans (arr5 m c X2 Fr G T h0 h1 h2 h3 _ (ref5 m c X2 Fr G T h0 h1 h2 h3)).symm
    · obtain ⟨a0, a1, a2, a3⟩ := hagree c
      refine (val_main_v53_eq m' c).trans ?_
      rw [a0, a1, a2, a3]
      exact (arr6 m c X2 Fr G T h0 h1 h2 h3 _ (ref6 m c X2 Fr G T h0 h1 h2 h3)).symm
    · exact (val_main_v54_eq _ _ _ _).trans (arr7 m c X2 Fr G T h0 h1 h2 h3 _ (ref7 m c X2 Fr G T h0 h1 h2 h3)).symm

end Cert.Proof.Loss

end
-- ==== Proof.Gate.lean ====
/- The gradient through the gated activation -/
module

public import proofs.«01_k».proof.Defs
public import proofs.«01_k».proof.Proof.Gen.GateKernel.Frame
public import proofs.«01_k».proof.Proof.Gen.GateKernelIdeal.Value
public import proofs.«01_k».proof.Proof.Gen.GateReferenceIdeal.Read
public import proofs.«01_k».proof.Proof.Gen.Pre_finite_gate
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Gate

open Idealize.ShloMosaic Idealize.ShloMosaic.TcCoe Idealize.SL.Sem
open Idealize.ShloMosaic.Pipeline (Dat)
open Cert.Proof.Reals
open Cert.GateKernelIdeal Cert.GateKernelIdeal.Gen Cert.GateReferenceIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the arrays that row `i` of block `t` is. -/
def row (t : Fin cfg0.N) (i : Fin 256) : Fin 4096 :=
  ⟨t.val * 256 + i.val, by have := lt_of_lt_of_eq t.isLt N_0; omega⟩

/-- The logistic function. -/
noncomputable def sg (g : ℝ) : ℝ := 1 / (1 + Real.exp (-g))

/-- The gradient of the gate `g` times `u`, where the product's gradient is `a`: with respect to the gate. -/
noncomputable def dgate (a g u : ℝ) : ℝ := a * u * (sg g + g * sg g * (1 - sg g))

/-- The same with respect to `u`. -/
noncomputable def dup (a g : ℝ) : ℝ := a * (g * sg g)

theorem one_exp_pos (x : ℝ) : 0 < 1 + Real.exp x := add_pos one_pos (Real.exp_pos x)

/-- The logistic function among the extended reals. -/
theorem coe_sg (g : ℝ) : Ideal.div (1 : EReal) (1 + Ideal.exp ((-g : ℝ) : EReal)) = ((sg g : ℝ) : EReal) := by
  rw [Ideal.exp_coe, ← EReal.coe_one, ← EReal.coe_add, coe_div _ _ (one_exp_pos _).ne']
  rfl

section
variable {g u : Vec Ideal S256x640 .bf16} {a : Vec Ideal S256x640 .f32} {i : Fin 256} {j : Fin 640} {G U A : ℝ}
  (hg : (g (ix2 i j) : EReal) = (G : EReal)) (hu : (u (ix2 i j) : EReal) = (U : EReal)) (ha : (a (ix2 i j) : EReal) = (A : EReal))
include hg

theorem pay9 : (k0_pay9 g (ix2 i j) : EReal) = ((sg G : ℝ) : EReal) := by
  pointwise [k0_pay8, k0_pay9]
  rw [hg]
  simp only [zero_sub, ← EReal.coe_neg, coe_sg]

include ha

theorem pay12 : (k0_pay12 g a (ix2 i j) : EReal) = ((dup A G : ℝ) : EReal) := by
  pointwise [k0_pay8, k0_pay10, k0_pay12]
  rw [pay9 hg, hg, ha, ← EReal.coe_mul, ← EReal.coe_mul]
  rfl

include hu

theorem pay11 : (k0_pay11 g u a (ix2 i j) : EReal) = ((dgate A G U : ℝ) : EReal) := by
  pointwise [k0_pay8, k0_pay10, k0_pay11]
  rw [pay9 hg, hg, hu, ha]
  simp only [← EReal.coe_one, ← EReal.coe_mul, ← EReal.coe_add, ← EReal.coe_sub]
  rfl

end

section
variable {g u : Vec Ideal S256x256 .bf16} {a : Vec Ideal S256x256 .f32} {i : Fin 256} {j : Fin 256} {G U A : ℝ}
  (hg : (g (ix2 i j) : EReal) = (G : EReal)) (hu : (u (ix2 i j) : EReal) = (U : EReal)) (ha : (a (ix2 i j) : EReal) = (A : EReal))
include hg

theorem pay3 : (k0_pay3 g (ix2 i j) : EReal) = ((sg G : ℝ) : EReal) := by
  pointwise [k0_pay2, k0_pay3]
  rw [hg]
  simp only [zero_sub, ← EReal.coe_neg, coe_sg]

include ha

theorem pay6 : (k0_pay6 g a (ix2 i j) : EReal) = ((dup A G : ℝ) : EReal) := by
  pointwise [k0_pay2, k0_pay4, k0_pay6]
  rw [pay3 hg, hg, ha, ← EReal.coe_mul, ← EReal.coe_mul]
  rfl

include hu

theorem pay5 : (k0_pay5 g u a (ix2 i j) : EReal) = ((dgate A G U : ℝ) : EReal) := by
  pointwise [k0_pay2, k0_pay4, k0_pay5]
  rw [pay3 hg, hg, hu, ha]
  simp only [← EReal.coe_one, ← EReal.coe_mul, ← EReal.coe_add, ← EReal.coe_sub]
  rfl

end

/-- The gradient of the gated product: row `r` of `D` against row `j` of `W`. -/
noncomputable def da (W : S2816x1024.Idx → ℝ) (D : S4096x1024.Idx → ℝ) (r : Fin 4096) (j : Fin 2816) : ℝ := ∑ k : Fin 1024, D (ix2 r k) * W (ix2 j k)

section
variable (c : Dev nD) (G : S4096x5632.Idx → ℝ) (W : S2816x1024.Idx → ℝ) (D : S4096x1024.Idx → ℝ)
  (hG : m ((c : Thread nD τ).loc main_arg0) = fun i => ((G i : ℝ) : EReal))
  (hW : m ((c : Thread nD τ).loc main_arg1) = fun i => ((W i : ℝ) : EReal))
  (hD : m ((c : Thread nD τ).loc main_arg2) = fun i => ((D i : ℝ) : EReal))
include hG hW hD

theorem in_0 (t : Fin cfg0.N) (i : Fin 256) (j : Fin 1024) : (iblk m c 0 t (ix2 i j) : EReal) = ((D (ix2 (row t i) j) : ℝ) : EReal) := by
  have e : ∀ x : S4096x1024.Idx → EReal, m ((c : Thread nD τ).loc main_arg2) = x → (iblk m c 0 t (ix2 i j) : EReal) = x (ix2 (row t i) j) := by
    intro x e
    subst e
    unfold row
    blk_point [iblk, V, idx t]
  rw [e _ hD]

theorem in_1 (t : Fin cfg0.N) (i : Fin 2816) (j : Fin 1024) : (iblk m c 1 t (ix2 i j) : EReal) = ((W (ix2 i j) : ℝ) : EReal) := by
  have e : ∀ x : S2816x1024.Idx → EReal, m ((c : Thread nD τ).loc main_arg1) = x → (iblk m c 1 t (ix2 i j) : EReal) = x (ix2 i j) := by
    intro x e
    subst e
    blk_point [iblk, V, idx t]
  rw [e _ hW]

theorem in_2 (t : Fin cfg0.N) (i : Fin 256) (j : Fin 5632) : (iblk m c 2 t (ix2 i j) : EReal) = ((G (ix2 (row t i) j) : ℝ) : EReal) := by
  have e : ∀ x : S4096x5632.Idx → EReal, m ((c : Thread nD τ).loc main_arg0) = x → (iblk m c 2 t (ix2 i j) : EReal) = x (ix2 (row t i) j) := by
    intro x e
    subst e
    unfold row
    blk_point [iblk, V, idx t]
  rw [e _ hG]

theorem pay7 (t : Fin cfg0.N) (i : Fin 256) (j : Fin 2816) : (k0_pay7 (iblk m c 0 t) (iblk m c 1 t) (ix2 i j) : EReal) = ((da W D (row t i) j : ℝ) : EReal) := by
  have h0 := in_0 m c G W D hG hW hD
  have h1 := in_1 m c G W D hG hW hD
  pointwise [k0_pay7]
  simp only [h0, h1, ← EReal.coe_mul, coe_sum]
  rfl

theorem ld_g {n : ℕ} (t : Fin cfg0.N) (o : ℕ) (b) (i : Fin 256) (j : Fin n) (h : o + j.val < 5632) :
    (View.ld (iblk m c 2 t) (Rect.unit (s := S256x5632) ![0, o] ![256, n] b) (ix2 i j) : EReal) = ((G (ix2 (row t i) ⟨o + j.val, h⟩) : ℝ) : EReal) := by
  refine Eq.trans ?_ (in_2 m c G W D hG hW hD t i ⟨o + j.val, h⟩)
  pointwise

theorem ld_a {n : ℕ} (t : Fin cfg0.N) (o : ℕ) (b) (i : Fin 256) (j : Fin n) (h : o + j.val < 2816) :
    ((View.ld (Val := Elt Ideal) (e' := .f32) (k0_pay7 (iblk m c 0 t) (iblk m c 1 t)) (Rect.unit (s := S256x2816) ![0, o] ![256, n] b) (ix2 i j) : Elt Ideal .f32) : EReal) =
      ((da W D (row t i) ⟨o + j.val, h⟩ : ℝ) : EReal) := by
  refine Eq.trans ?_ (pay7 m c G W D hG hW hD t i ⟨o + j.val, h⟩)
  generalize k0_pay7 (iblk m c 0 t) (iblk m c 1 t) = p
  pointwise

/-- The gradients at row `r` and column `j`: with respect to the gate, -/
noncomputable def ansg (r : Fin 4096) (j : Fin 2816) : ℝ := dgate (da W D r j) (G (ix2 r ⟨j.val, by omega⟩)) (G (ix2 r ⟨2816 + j.val, by omega⟩))

/-- and with respect to what it multiplies. -/
noncomputable def ansu (r : Fin 4096) (j : Fin 2816) : ℝ := dup (da W D r j) (G (ix2 r ⟨j.val, by omega⟩))

theorem tile_g (t : Fin cfg0.N) (o o' : ℕ) (ho : o' = 2816 + o) (b b' b'') (x : S256x640.Idx) (i : Fin 256) (j : Fin 2816) (e0 : i.val = (x 0).val) (e1 : j.val = o + (x 1).val) :
    (k0_pay11 (View.ld (iblk m c 2 t) (Rect.unit (s := S256x5632) ![0, o] ![256, 640] b)) (View.ld (iblk m c 2 t) (Rect.unit (s := S256x5632) ![0, o'] ![256, 640] b'))
      (View.ld (k0_pay7 (iblk m c 0 t) (iblk m c 1 t)) (Rect.unit (s := S256x2816) ![0, o] ![256, 640] b'')) x : EReal) = ((ansg G W D (row t i) j : ℝ) : EReal) := by
  subst ho
  obtain ⟨a, k, rfl⟩ : ∃ (a : Fin 256) (k : Fin 640), x = ix2 a k := ⟨x 0, x 1, eq_ix2 x⟩
  obtain rfl : i = a := Fin.ext e0
  have e1 : j.val = o + k.val := e1
  rw [show j = ⟨o + k.val, e1 ▸ j.isLt⟩ from Fin.ext e1]
  refine (pay11 (ld_g m c G W D hG hW hD t o b i k (by omega)) (ld_g m c G W D hG hW hD t (2816 + o) b' i k (by omega)) (ld_a m c G W D hG hW hD t o b'' i k (by omega))).trans ?_
  simp only [ansg, Nat.add_assoc]

theorem tile_u (t : Fin cfg0.N) (o : ℕ) (b b'') (x : S256x640.Idx) (i : Fin 256) (j : Fin 2816) (e0 : i.val = (x 0).val) (e1 : j.val = o + (x 1).val) :
    (k0_pay12 (View.ld (iblk m c 2 t) (Rect.unit (s := S256x5632) ![0, o] ![256, 640] b))
      (View.ld (k0_pay7 (iblk m c 0 t) (iblk m c 1 t)) (Rect.unit (s := S256x2816) ![0, o] ![256, 640] b'')) x : EReal) = ((ansu G W D (row t i) j : ℝ) : EReal) := by
  obtain ⟨a, k, rfl⟩ : ∃ (a : Fin 256) (k : Fin 640), x = ix2 a k := ⟨x 0, x 1, eq_ix2 x⟩
  obtain rfl : i = a := Fin.ext e0
  have e1 : j.val = o + k.val := e1
  rw [show j = ⟨o + k.val, e1 ▸ j.isLt⟩ from Fin.ext e1]
  exact pay12 (ld_g m c G W D hG hW hD t o b i k (by omega)) (ld_a m c G W D hG hW hD t o b'' i k (by omega))

theorem last_g (t : Fin cfg0.N) (b b' b'') (x : S256x256.Idx) (i : Fin 256) (j : Fin 2816) (e0 : i.val = (x 0).val) (e1 : j.val = 2560 + (x 1).val) :
    (k0_pay5 (View.ld (iblk m c 2 t) (Rect.unit (s := S256x5632) ![0, 2560] ![256, 256] b)) (View.ld (iblk m c 2 t) (Rect.unit (s := S256x5632) ![0, 5376] ![256, 256] b'))
      (View.ld (k0_pay7 (iblk m c 0 t) (iblk m c 1 t)) (Rect.unit (s := S256x2816) ![0, 2560] ![256, 256] b'')) x : EReal) = ((ansg G W D (row t i) j : ℝ) : EReal) := by
  obtain ⟨a, k, rfl⟩ : ∃ (a : Fin 256) (k : Fin 256), x = ix2 a k := ⟨x 0, x 1, eq_ix2 x⟩
  obtain rfl : i = a := Fin.ext e0
  have e1 : j.val = 2560 + k.val := e1
  rw [show j = ⟨2560 + k.val, e1 ▸ j.isLt⟩ from Fin.ext e1]
  refine (pay5 (ld_g m c G W D hG hW hD t 2560 b i k (by omega)) (ld_g m c G W D hG hW hD t 5376 b' i k (by omega)) (ld_a m c G W D hG hW hD t 2560 b'' i k (by omega))).trans ?_
  simp only [ansg, ← Nat.add_assoc]

theorem last_u (t : Fin cfg0.N) (b b'') (x : S256x256.Idx) (i : Fin 256) (j : Fin 2816) (e0 : i.val = (x 0).val) (e1 : j.val = 2560 + (x 1).val) :
    (k0_pay6 (View.ld (iblk m c 2 t) (Rect.unit (s := S256x5632) ![0, 2560] ![256, 256] b))
      (View.ld (k0_pay7 (iblk m c 0 t) (iblk m c 1 t)) (Rect.unit (s := S256x2816) ![0, 2560] ![256, 256] b'')) x : EReal) = ((ansu G W D (row t i) j : ℝ) : EReal) := by
  obtain ⟨a, k, rfl⟩ : ∃ (a : Fin 256) (k : Fin 256), x = ix2 a k := ⟨x 0, x 1, eq_ix2 x⟩
  obtain rfl : i = a := Fin.ext e0
  have e1 : j.val = 2560 + k.val := e1
  rw [show j = ⟨2560 + k.val, e1 ▸ j.isLt⟩ from Fin.ext e1]
  exact pay6 (ld_g m c G W D hG hW hD t 2560 b i k (by omega)) (ld_a m c G W D hG hW hD t 2560 b'' i k (by omega))

/-- The block of the gradient with respect to the gate at point `t`. -/
theorem out_g (t : Fin cfg0.N) (i : Fin 256) (j : Fin 2816) : ((outsAt0 m c t) (ix2 i ⟨j.val, by omega⟩) : EReal) = ((ansg G W D (row t i) j : ℝ) : EReal) := by
  unfold outsAt0
  frame_out
  simp (disch := decide) only [View.readCov_fill]
  canon_tiles x h using View.cover_of_tiledBy _ ![256, 128] (by sl_kernel_rfl) _
  · exact absurd (show j.val = 5376 + (x 1).val from h1) (by omega)
  · exact last_g m c G W D hG hW hD t _ _ _ x i j h0 h1
  · exact absurd (show j.val = 4736 + (x 1).val from h1) (by omega)
  · exact tile_g m c G W D hG hW hD t 1920 4736 rfl _ _ _ x i j h0 h1
  · exact absurd (show j.val = 4096 + (x 1).val from h1) (by omega)
  · exact tile_g m c G W D hG hW hD t 1280 4096 rfl _ _ _ x i j h0 h1
  · exact absurd (show j.val = 3456 + (x 1).val from h1) (by omega)
  · exact tile_g m c G W D hG hW hD t 640 3456 rfl _ _ _ x i j h0 h1
  · exact absurd (show j.val = 2816 + (x 1).val from h1) (by omega)
  · exact tile_g m c G W D hG hW hD t 0 2816 rfl _ _ _ x i j h0 (h1.trans (Nat.zero_add _).symm)

/-- The other block at point `t`. -/
theorem out_u (t : Fin cfg0.N) (i : Fin 256) (j : Fin 2816) : ((outsAt0 m c t) (ix2 i ⟨2816 + j.val, by omega⟩) : EReal) = ((ansu G W D (row t i) j : ℝ) : EReal) := by
  unfold outsAt0
  frame_out
  simp (disch := decide) only [View.readCov_fill]
  canon_tiles x h using View.cover_of_tiledBy _ ![256, 128] (by sl_kernel_rfl) _
  · exact last_u m c G W D hG hW hD t _ _ x i j h0 (by have e : 2816 + j.val = _ + (x 1).val := h1; omega)
  · exact absurd (show 2816 + j.val = 2560 + (x 1).val from h1) (by omega)
  · exact tile_u m c G W D hG hW hD t 1920 _ _ x i j h0 (by have e : 2816 + j.val = _ + (x 1).val := h1; omega)
  · exact absurd (show 2816 + j.val = 1920 + (x 1).val from h1) (by omega)
  · exact tile_u m c G W D hG hW hD t 1280 _ _ x i j h0 (by have e : 2816 + j.val = _ + (x 1).val := h1; omega)
  · exact absurd (show 2816 + j.val = 1280 + (x 1).val from h1) (by omega)
  · exact tile_u m c G W D hG hW hD t 640 _ _ x i j h0 (by have e : 2816 + j.val = _ + (x 1).val := h1; omega)
  · exact absurd (show 2816 + j.val = 640 + (x 1).val from h1) (by omega)
  · exact tile_u m c G W D hG hW hD t 0 _ _ x i j h0 (by have e : 2816 + j.val = _ + (x 1).val := h1; omega)
  · exact absurd (show 2816 + j.val = (x 1).val from h1) (by omega)

omit hG hW hD in
theorem split (a : Fin 5632) : (∃ j : Fin 2816, a = ⟨j.val, by omega⟩) ∨ ∃ j : Fin 2816, a = ⟨2816 + j.val, by omega⟩ := by
  by_cases l : a.val < 2816
  · exact Or.inl ⟨⟨a.val, l⟩, rfl⟩
  · exact Or.inr ⟨⟨a.val - 2816, by omega⟩, Fin.ext (by simp only; omega)⟩

/-- The gradient, as the kernel leaves it. -/
theorem arr3 (R : S4096x5632.Idx → EReal) (hg : ∀ r (j : Fin 2816), R (ix2 r ⟨j.val, by omega⟩) = ((ansg G W D r j : ℝ) : EReal))
    (hu : ∀ r (j : Fin 2816), R (ix2 r ⟨2816 + j.val, by omega⟩) = ((ansu G W D r j : ℝ) : EReal)) :
    (dats m 0 c).arrAt 3 cfg0.N = R := by
  refine (dats m 0 c).arrAt_eq_of_covers 3 _ (by decide +kernel) fun t _ (y : S256x5632.Idx) => ?_
  obtain ⟨i, j, rfl⟩ : ∃ (i : Fin 256) (j : Fin 5632), y = ix2 i j := ⟨y 0, y 1, eq_ix2 y⟩
  blk_simp
  rw [after0_3]
  have eb : ((win0_3.blk t).view.emb (ix2 i j) : S4096x5632.Idx) = ix2 (row t i) j := by
    unfold row
    blk_ext! [idx t]
  refine Eq.trans ?_ (congrArg R eb).symm
  obtain ⟨k, rfl⟩ | ⟨k, rfl⟩ := split j
  · exact (out_g m c G W D hG hW hD t i k).trans (hg _ _).symm
  · exact (out_u m c G W D hG hW hD t i k).trans (hu _ _).symm

end

section
variable (x0 : S4096x5632.Idx → EReal) (x1 : S2816x1024.Idx → EReal) (x2 : S4096x1024.Idx → EReal)
  (G : S4096x5632.Idx → ℝ) (W : S2816x1024.Idx → ℝ) (D : S4096x1024.Idx → ℝ)
  (e0 : x0 = fun i => ((G i : ℝ) : EReal)) (e1 : x1 = fun i => ((W i : ℝ) : EReal)) (e2 : x2 = fun i => ((D i : ℝ) : EReal))
include e0

theorem ref_v0 (r : Fin 4096) (j : Fin 2816) : (Cert.GateReferenceIdeal.Read.val_main_v0 (F := Ideal) x0 (ix2 r j) : EReal) = ((G (ix2 r ⟨j.val, by omega⟩) : ℝ) : EReal) := by
  subst e0
  pointwise [val_main_v0]

theorem ref_v1 (r : Fin 4096) (j : Fin 2816) : (val_main_v1 (F := Ideal) x0 (ix2 r j) : EReal) = ((G (ix2 r ⟨2816 + j.val, by omega⟩) : ℝ) : EReal) := by
  subst e0
  pointwise [val_main_v1]

theorem ref_sg (r : Fin 4096) (j : Fin 2816) : (val_main_v2_2 (F := Ideal) x0 (ix2 r j) : EReal) = ((sg (G (ix2 r ⟨j.val, by omega⟩)) : ℝ) : EReal) := by
  have h := ref_v0 x0 G e0 r j
  pointwise [val_main_v2_2, val_main_call0_v0, val_main_call0_v1, val_main_call0_v2, val_main_call0_v3, val_main_call0_v4, val_main_call0_cst, val_main_call0_cst_0]
  rw [h, ← EReal.coe_neg, coe_sg]

theorem ref_v2_0 (r : Fin 4096) (j : Fin 2816) : (val_main_v2_0 (F := Ideal) x0 (ix2 r j) : EReal) = ((G (ix2 r ⟨j.val, by omega⟩) * sg (G (ix2 r ⟨j.val, by omega⟩)) : ℝ) : EReal) := by
  have h := ref_v0 x0 G e0 r j
  have h' := ref_sg x0 G e0 r j
  pointwise [val_main_v2_0]
  rw [h, h', EReal.coe_mul]

theorem ref_v2_1 (r : Fin 4096) (j : Fin 2816) : (val_main_v2_1 (F := Ideal) x0 (ix2 r j) : EReal) =
    ((sg (G (ix2 r ⟨j.val, by omega⟩)) * (1 - sg (G (ix2 r ⟨j.val, by omega⟩))) : ℝ) : EReal) := by
  have h := ref_sg x0 G e0 r j
  pointwise [val_main_v2_1, val_main_call0_v7, val_main_call0_v6, val_main_call0_cst_1]
  rw [h, ← EReal.coe_one, ← EReal.coe_sub, ← EReal.coe_mul]

omit e0
include e1 e2

theorem ref_v5 (r : Fin 4096) (j : Fin 2816) : (val_main_v5 (F := Ideal) x1 x2 (ix2 r j) : EReal) = ((da W D r j : ℝ) : EReal) := by
  pointwise [val_main_v5]
  simp only [congrFun e1, congrFun e2, ← EReal.coe_mul, coe_sum]
  rfl

include e0

theorem ref_v8 (r : Fin 4096) (j : Fin 2816) : (val_main_v8 (F := Ideal) x0 x1 x2 (ix2 r j) : EReal) = ((ansg G W D r j : ℝ) : EReal) := by
  have h0 := ref_v0 x0 G e0 r j
  have h1 := ref_v1 x0 G e0 r j
  have h2 := ref_sg x0 G e0 r j
  have h3 := ref_v2_1 x0 G e0 r j
  have h5 := ref_v5 x1 x2 W D e1 e2 r j
  pointwise [val_main_v8, val_main_call1_v2, val_main_call1_v1, val_main_call1_v0, val_main_v7]
  simp only [h0, h1, h2, h3, h5, ← EReal.coe_mul, ← EReal.coe_add]
  refine congrArg ((↑) : ℝ → EReal) ?_
  unfold ansg dgate
  ring

theorem ref_v6 (r : Fin 4096) (j : Fin 2816) : (val_main_v6 (F := Ideal) x0 x1 x2 (ix2 r j) : EReal) = ((ansu G W D r j : ℝ) : EReal) := by
  have h0 := ref_v2_0 x0 G e0 r j
  have h5 := ref_v5 x1 x2 W D e1 e2 r j
  pointwise [val_main_v6]
  rw [h0, h5, ← EReal.coe_mul, mul_comm]
  rfl

theorem ref_g (r : Fin 4096) (j : Fin 2816) : (val_main_v10 (F := Ideal) x0 x1 x2 (ix2 r ⟨j.val, by omega⟩) : EReal) = ((ansg G W D r j : ℝ) : EReal) := by
  have h := ref_v8 x0 x1 x2 G W D e0 e1 e2 r j
  pointwise [val_main_v10, val_main_v9]
  exact h

theorem ref_u (r : Fin 4096) (j : Fin 2816) : (val_main_v10 (F := Ideal) x0 x1 x2 (ix2 r ⟨2816 + j.val, by omega⟩) : EReal) = ((ansu G W D r j : ℝ) : EReal) := by
  have h := ref_v6 x0 x1 x2 G W D e0 e1 e2 r j
  pointwise [val_main_v10, val_main_v9]
  exact h

end

/-- Under the precondition the arguments are arrays of reals. -/
theorem real_args (h : Cert.Pre_GateKernelIdeal_finite_gate m) (c : Dev nD) : ∃ (G : S4096x5632.Idx → ℝ) (W : S2816x1024.Idx → ℝ) (D : S4096x1024.Idx → ℝ),
    m ((c : Thread nD τ).loc main_arg0) = (fun i => ((G i : ℝ) : EReal)) ∧ m ((c : Thread nD τ).loc main_arg1) = (fun i => ((W i : ℝ) : EReal)) ∧
    m ((c : Thread nD τ).loc main_arg2) = fun i => ((D i : ℝ) : EReal) := by
  obtain ⟨a0, a1, a2⟩ := h c
  obtain ⟨G, e0⟩ := reals _ fun i => congrFun a0 i
  obtain ⟨W, e1⟩ := reals _ fun i => congrFun a1 i
  obtain ⟨D, e2⟩ := reals _ fun i => congrFun a2 i
  exact ⟨G, W, D, e0, e1, e2⟩

theorem frame_kernel : Cert.quiescent_GateKernel := fun m ρ _ => Cert.GateKernel.Gen.frame m ρ
theorem frame_ideal : Cert.quiescent_GateKernelIdeal := fun m ρ _ => Cert.GateKernelIdeal.Gen.frame m ρ
theorem frame_ideal_pre : Cert.quiescent_GateKernelIdeal_pre_finite_gate := fun m ρ _ => Cert.GateKernelIdeal.Gen.frame m ρ
theorem frame_reference : Cert.quiescent_GateReferenceIdeal := fun m ρ _ =>
  (θ_run Cert.GateReferenceIdeal.defs _ _).mono
    (fun r h => ⟨fun c => (h c).2, sem_eq_zero_of_no_sems (by decide) r.2⟩)
    (Cert.GateReferenceIdeal.Value.run m ρ)
theorem frame_reference_pre : Cert.quiescent_GateReferenceIdeal_pre_finite_gate := fun m ρ _ => frame_reference m ρ trivial

set_option maxHeartbeats 1600000 in
theorem algebraic : Cert.algebraic_GateKernelIdeal_GateReferenceIdeal_pre_finite_gate := by
  pair_intro
  · run_from Cert.GateKernelIdeal.Value.run_blocks m g
  · run_from Cert.GateReferenceIdeal.Value.run m' g'
    obtain ⟨G, W, D, hG, hW, hD⟩ := real_args m hpre c
    obtain ⟨a0, a1, a2⟩ := hagree c
    refine (val_main_v10_eq _ _ _).trans ?_
    rw [a2]
    exact (arr3 m c G W D hG hW hD _ (ref_g _ _ _ G W D hG hW hD) (ref_u _ _ _ G W D hG hW hD)).symm

end Cert.Proof.Gate

end
-- ==== Proof.Norm.lean ====
/- The gradient through a block's first product and its norms -/
module

public import proofs.«01_k».proof.Defs
public import proofs.«01_k».proof.Proof.Gen.NormKernel.Frame
public import proofs.«01_k».proof.Proof.Gen.NormKernelIdeal.Value
public import proofs.«01_k».proof.Proof.Gen.NormReferenceIdeal.Read
public import proofs.«01_k».proof.Proof.Gen.Pre_finite_norm
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Norm

open Idealize.ShloMosaic Idealize.ShloMosaic.TcCoe Idealize.SL.Sem
open Idealize.ShloMosaic.Pipeline (Dat)
open Cert.Proof.Reals
open Cert.NormKernelIdeal Cert.NormKernelIdeal.Gen Cert.NormReferenceIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0]
    ∧ win0_8.index t = ![0, 0] ∧ win0_9.index t = ![t.val, 0] ∧ win0_10.index t = ![0, 0] :=
  (by decide +kernel : ∀ t : Fin grid0.N, _)

/-- The row of the arrays that row `i` of block `t` is. -/
def row (t : Fin cfg0.N) (i : Fin 256) : Fin 4096 :=
  ⟨t.val * 256 + i.val, by have := lt_of_lt_of_eq t.isLt N_0; omega⟩

/-- The arguments, as real arrays. -/
structure Args where
  X : S4096x1024.Idx → ℝ
  Fr : S4096x1024.Idx → ℝ
  Gb : S1024.Idx → ℝ
  G : S1024.Idx → ℝ
  W : S1024x5632.Idx → ℝ
  D : S4096x1024.Idx → ℝ
  U : S4096x5632.Idx → ℝ

namespace Args
variable (A : Args)

/-- A row of the layer below, before its norm. -/
def low (r : Fin 4096) (j : Fin 1024) : ℝ := A.Fr (ix2 r j)

/-- A row of the residual stream. -/
def str (r : Fin 4096) (j : Fin 1024) : ℝ := A.X (ix2 r j) + A.Fr (ix2 r j) * rs (A.low r) * A.Gb (ix1 j)

/-- A row of the cotangent of the normalised stream. -/
def act (r : Fin 4096) (j : Fin 1024) : ℝ := ∑ n : Fin 5632, A.U (ix2 r n) * A.W (ix2 j n)

/-- A row of the stream's gradient. -/
def grad (r : Fin 4096) (j : Fin 1024) : ℝ := A.D (ix2 r j) + back (A.str r) (fun k => A.G (ix1 k)) (A.act r) j

/-- A row of the gradient of the layer below. -/
def lowGrad (r : Fin 4096) (j : Fin 1024) : ℝ := back (A.low r) (fun k => A.Gb (ix1 k)) (A.grad r) j

/-- The gradient of the gain of the norm above. -/
def gain (j : Fin 1024) : ℝ := ∑ r : Fin 4096, A.act r j * (A.str r j * rs (A.str r))

/-- The gradient of the gain of the norm below. -/
def lowGain (j : Fin 1024) : ℝ := ∑ r : Fin 4096, A.grad r j * (A.low r j * rs (A.low r))

/-- The argument arrays hold these. -/
structure Are (c : Dev nD) : Prop where
  h0 : m ((c : Thread nD τ).loc main_arg0) = fun i => ((A.X i : ℝ) : EReal)
  h1 : m ((c : Thread nD τ).loc main_arg1) = fun i => ((A.Fr i : ℝ) : EReal)
  h2 : m ((c : Thread nD τ).loc main_arg2) = fun i => ((A.Gb i : ℝ) : EReal)
  h3 : m ((c : Thread nD τ).loc main_arg3) = fun i => ((A.G i : ℝ) : EReal)
  h4 : m ((c : Thread nD τ).loc main_arg4) = fun i => ((A.W i : ℝ) : EReal)
  h5 : m ((c : Thread nD τ).loc main_arg5) = fun i => ((A.D i : ℝ) : EReal)
  h6 : m ((c : Thread nD τ).loc main_arg6) = fun i => ((A.U i : ℝ) : EReal)
end Args

section
variable (c : Dev nD) (A : Args) (hA : A.Are m c)
include hA

theorem in_0 (t : Fin cfg0.N) (i : Fin 256) (j : Fin 5632) : (iblk m c 0 t (ix2 i j) : EReal) = ((A.U (ix2 (row t i) j) : ℝ) : EReal) := by
  have e : ∀ x : S4096x5632.Idx → EReal, m ((c : Thread nD τ).loc main_arg6) = x → (iblk m c 0 t (ix2 i j) : EReal) = x (ix2 (row t i) j) := by
    intro x e
    subst e
    unfold row
    blk_point [iblk, V, idx t]
  rw [e _ hA.h6]

theorem in_1 (t : Fin cfg0.N) (i : Fin 5632) (j : Fin 1024) : (iblk m c 1 t (ix2 i j) : EReal) = ((A.W (ix2 j i) : ℝ) : EReal) := by
  have e : ∀ x : S1024x5632.Idx → EReal, m ((c : Thread nD τ).loc main_arg4) = x → (iblk m c 1 t (ix2 i j) : EReal) = x (ix2 j i) := by
    intro x e
    subst e
    have eb : ((win0_1.blk t).view.emb (ix2 i j) : S5632x1024.Idx) = ix2 i j := by
      blk_ext! [idx t]
    refine (congrArg (V m c main_v16) eb).trans ?_
    entry_read
    pointwise
  rw [e _ hA.h4]

theorem in_2 (t : Fin cfg0.N) (i : Fin 256) (j : Fin 1024) : (iblk m c 2 t (ix2 i j) : EReal) = ((A.str (row t i) j : ℝ) : EReal) := by
  have e : ∀ (x0 x1 : S4096x1024.Idx → EReal) (x2 : S1024.Idx → EReal), m ((c : Thread nD τ).loc main_arg0) = x0 →
      m ((c : Thread nD τ).loc main_arg1) = x1 → m ((c : Thread nD τ).loc main_arg2) = x2 →
      (iblk m c 2 t (ix2 i j) : EReal) = x0 (ix2 (row t i) j) + x1 (ix2 (row t i) j)
        * Ideal.rsqrt (Ideal.div (∑ k, x1 (ix2 (row t i) k) * x1 (ix2 (row t i) k)) (Ideal.ofBits .f32 0x44800000#32) + Ideal.ofBits .f32 0x358637BD#32)
        * x2 (ix1 j) := by
    intro x0 x1 x2 e0 e1 e2
    subst e0 e1 e2
    have eb : ((win0_2.blk t).view.emb (ix2 i j) : S4096x1024.Idx) = ix2 (row t i) j := by
      unfold row
      blk_ext! [idx t]
    refine (congrArg (V m c main_v13) eb).trans ?_
    entry_read
    generalize row t i = r
    pointwise
  rw [e _ _ _ hA.h0 hA.h1 hA.h2]
  simp only [bits_1024, bits_eps, coe_sum, coe_div_1024, ← EReal.coe_mul, ← EReal.coe_add, fold_ms, coe_rs]
  rfl

theorem in_3 (t : Fin cfg0.N) (i : Fin 1) (j : Fin 1024) : (iblk m c 3 t (ix2 i j) : EReal) = ((A.G (ix1 j) : ℝ) : EReal) := by
  have e : ∀ x : S1024.Idx → EReal, m ((c : Thread nD τ).loc main_arg3) = x → (iblk m c 3 t (ix2 i j) : EReal) = x (ix1 j) := by
    intro x e
    subst e
    blk_point [iblk, V, idx t]
  rw [e _ hA.h3]

theorem in_4 (t : Fin cfg0.N) (i : Fin 256) (j : Fin 1024) : (iblk m c 4 t (ix2 i j) : EReal) = ((A.D (ix2 (row t i) j) : ℝ) : EReal) := by
  have e : ∀ x : S4096x1024.Idx → EReal, m ((c : Thread nD τ).loc main_arg5) = x → (iblk m c 4 t (ix2 i j) : EReal) = x (ix2 (row t i) j) := by
    intro x e
    subst e
    unfold row
    blk_point [iblk, V, idx t]
  rw [e _ hA.h5]

theorem in_5 (t : Fin cfg0.N) (i : Fin 256) (j : Fin 1024) : (iblk m c 5 t (ix2 i j) : EReal) = ((A.low (row t i) j : ℝ) : EReal) := by
  have e : ∀ x : S4096x1024.Idx → EReal, m ((c : Thread nD τ).loc main_arg1) = x → (iblk m c 5 t (ix2 i j) : EReal) = x (ix2 (row t i) j) := by
    intro x e
    subst e
    unfold row
    blk_point [iblk, V, idx t]
  rw [e _ hA.h1]
  rfl
theorem in_6 (t : Fin cfg0.N) (i : Fin 1) (j : Fin 1024) : (iblk m c 6 t (ix2 i j) : EReal) = ((A.Gb (ix1 j) : ℝ) : EReal) := by
  have e : ∀ x : S1024.Idx → EReal, m ((c : Thread nD τ).loc main_arg2) = x → (iblk m c 6 t (ix2 i j) : EReal) = x (ix1 j) := by
    intro x e
    subst e
    blk_point [iblk, V, idx t]
  rw [e _ hA.h2]

/-- A block's product with the weight, in the kernel. -/
theorem act_eq (t : Fin cfg0.N) (i : Fin 256) (j : Fin 1024) :
    (k0_pay4 (iblk m c 0 t) (iblk m c 1 t) (ix2 i j) : EReal) = ((A.act (row t i) j : ℝ) : EReal) := by
  pointwise [k0_pay4]
  simp only [in_0 m c A hA, in_1 m c A hA, coe_sum, ← EReal.coe_mul]
  rfl

/-- The reciprocal root mean square of a row of the stream, in the kernel. -/
theorem scale (t : Fin cfg0.N) (i : Fin 256) (u : Fin 1) : (k0_pay6 (iblk m c 2 t) (ix2 i u) : EReal) = ((rs (A.str (row t i)) : ℝ) : EReal) := by
  pointwise [k0_pay5, k0_pay6]
  simp only [in_2 m c A hA, bits_1024, bits_eps, coe_sum, coe_div_1024, ← EReal.coe_mul, ← EReal.coe_add, fold_ms, coe_rs]

/-- The same of a row of the layer below. -/
theorem lowScale (t : Fin cfg0.N) (i : Fin 256) (u : Fin 1) : (k0_pay14 (iblk m c 5 t) (ix2 i u) : EReal) = ((rs (A.low (row t i)) : ℝ) : EReal) := by
  pointwise [k0_pay13, k0_pay14]
  simp only [in_5 m c A hA, bits_1024, bits_eps, coe_sum, coe_div_1024, ← EReal.coe_mul, ← EReal.coe_add, fold_ms, coe_rs]

/-- A block of the stream's gradient, in the kernel. -/
theorem grad_eq (t : Fin cfg0.N) (i : Fin 256) (j : Fin 1024) :
    (k0_pay12 (k0_pay9 (iblk m c 0 t) (iblk m c 1 t) (iblk m c 2 t) (iblk m c 3 t)) (iblk m c 4 t) (ix2 i j) : EReal) = ((A.grad (row t i) j : ℝ) : EReal) := by
  pointwise [k0_pay5, k0_pay7, k0_pay9, k0_pay12]
  simp only [act_eq m c A hA, scale m c A hA, in_2 m c A hA, in_3 m c A hA, in_4 m c A hA, bits_1024, coe_sum, coe_div_1024, ← EReal.coe_mul, ← EReal.coe_add, ← EReal.coe_sub]
  rfl

omit hA in
/-- What is written to the stream's gradient at every point. -/
theorem out7 (t : Fin cfg0.N) : (outsAt0 m c t.val t.isLt).1 =
    k0_pay12 (k0_pay9 (iblk m c 0 t) (iblk m c 1 t) (iblk m c 2 t) (iblk m c 3 t)) (iblk m c 4 t) := by
  by_cases a : t.val % 16 = 0
  · rw [outsAt0_A m c t a]; frame_out
  · rw [outsAt0_B m c t a]; frame_out

omit hA in
/-- What is written to the gradient of the layer below at every point. -/
theorem out9 (t : Fin cfg0.N) : (outsAt0 m c t.val t.isLt).2.2.1 =
    k0_pay17 (k0_pay9 (iblk m c 0 t) (iblk m c 1 t) (iblk m c 2 t) (iblk m c 3 t)) (iblk m c 4 t) (iblk m c 5 t) (iblk m c 6 t) := by
  by_cases a : t.val % 16 = 0
  · rw [outsAt0_A m c t a]; frame_out
  · rw [outsAt0_B m c t a]; frame_out

/-- The stream's gradient, in the kernel. -/
theorem arr7 (R : S4096x1024.Idx → EReal) (hR : ∀ r j, R (ix2 r j) = ((A.grad r j : ℝ) : EReal)) : (dats m 0 c).arrAt 7 cfg0.N = R := by
  refine (dats m 0 c).arrAt_eq_of_covers 7 _ (by decide +kernel) fun t _ (y : S256x1024.Idx) => ?_
  obtain ⟨i, j, rfl⟩ : ∃ (i : Fin 256) (j : Fin 1024), y = ix2 i j := ⟨y 0, y 1, eq_ix2 y⟩
  blk_simp
  rw [after0_7, out7]
  have eb : ((win0_7.blk t).view.emb (ix2 i j) : S4096x1024.Idx) = ix2 (row t i) j := by
    unfold row
    blk_ext! [idx t]
  exact (grad_eq m c A hA t i j).trans ((congrArg R eb).trans (hR _ _)).symm

/-- The gradient of the layer below, in the kernel. -/
theorem arr9 (R : S4096x1024.Idx → EReal) (hR : ∀ r j, R (ix2 r j) = ((A.lowGrad r j : ℝ) : EReal)) : (dats m 0 c).arrAt 9 cfg0.N = R := by
  refine (dats m 0 c).arrAt_eq_of_covers 9 _ (by decide +kernel) fun t _ (y : S256x1024.Idx) => ?_
  obtain ⟨i, j, rfl⟩ : ∃ (i : Fin 256) (j : Fin 1024), y = ix2 i j := ⟨y 0, y 1, eq_ix2 y⟩
  blk_simp
  rw [after0_9, out9]
  have eb : ((win0_9.blk t).view.emb (ix2 i j) : S4096x1024.Idx) = ix2 (row t i) j := by
    unfold row
    blk_ext! [idx t]
  refine Eq.trans ?_ ((congrArg R eb).trans (hR _ _)).symm
  pointwise [k0_pay13, k0_pay15, k0_pay17]
  simp only [grad_eq m c A hA, lowScale m c A hA, in_5 m c A hA, in_6 m c A hA, bits_1024, coe_sum, coe_div_1024, ← EReal.coe_mul, ← EReal.coe_add, ← EReal.coe_sub]
  rfl

/-- The gradient of the gain above, gathered over the blocks by the kernel. -/
theorem arr8 (R : S1x1024.Idx → EReal) (hR : ∀ r j, R (ix2 r j) = ((A.gain j : ℝ) : EReal)) : (dats m 0 c).arrAt 8 cfg0.N = R := by
  refine (dats m 0 c).arrAt_eq_of_after_last 8 t0_15 (by decide +kernel) _ fun (y : S1x1024.Idx) => ?_
  obtain ⟨u, j, rfl⟩ : ∃ (u : Fin 1) (j : Fin 1024), y = ix2 u j := ⟨y 0, y 1, eq_ix2 y⟩
  blk_simp
  rw [after0_8, hR]
  have add : ∀ (t : Fin cfg0.N) (p : FVec Ideal S1x1024 .f32), (k0_pay11 (k0_pay8 (iblk m c 0 t) (iblk m c 1 t) (iblk m c 2 t)) (k0_pay10 p) (ix2 u j) : EReal) =
      p (ix2 u j) + ((∑ i : Fin 256, A.act (row t i) j * (A.str (row t i) j * rs (A.str (row t i))) : ℝ) : EReal) := by
    intro t p
    pointwise [k0_pay5, k0_pay7, k0_pay8, k0_pay10, k0_pay11]
    simp only [act_eq m c A hA, scale m c A hA, in_2 m c A hA, coe_sum, ← EReal.coe_mul]
  refine (fold_sum (fun n h => ((outsAt0 m c n h).2.1 (ix2 u j) : EReal)) _ ?_ ?_ 15 t0_15.isLt N_0).trans
    (congrArg ((↑) : ℝ → EReal) (sum_blocks (congrArg (· * 256) N_0).symm (fun k => A.act k j * (A.str k j * rs (A.str k))) row fun _ _ => rfl))
  · intro h
    rw [outsAt0_A m c ⟨0, h⟩ rfl]
    frame_out
    rw [add]
    pointwise [k0_pay2]
  · intro n h
    have hn := lt_of_lt_of_eq h N_0
    rw [outsAt0_B m c ⟨n + 1, h⟩ (by simp only; omega)]
    frame_out
    rw [add]
    rfl

/-- The gradient of the gain below, gathered over the blocks by the kernel. -/
theorem arr10 (R : S1x1024.Idx → EReal) (hR : ∀ r j, R (ix2 r j) = ((A.lowGain j : ℝ) : EReal)) : (dats m 0 c).arrAt 10 cfg0.N = R := by
  refine (dats m 0 c).arrAt_eq_of_after_last 10 t0_15 (by decide +kernel) _ fun (y : S1x1024.Idx) => ?_
  obtain ⟨u, j, rfl⟩ : ∃ (u : Fin 1) (j : Fin 1024), y = ix2 u j := ⟨y 0, y 1, eq_ix2 y⟩
  blk_simp
  rw [after0_10, hR]
  have add : ∀ (t : Fin cfg0.N) (p : FVec Ideal S1x1024 .f32),
      (k0_pay1 (k0_pay16 (k0_pay9 (iblk m c 0 t) (iblk m c 1 t) (iblk m c 2 t) (iblk m c 3 t)) (iblk m c 4 t) (iblk m c 5 t)) p (ix2 u j) : EReal) =
      p (ix2 u j) + ((∑ i : Fin 256, A.grad (row t i) j * (A.low (row t i) j * rs (A.low (row t i))) : ℝ) : EReal) := by
    intro t p
    pointwise [k0_pay1, k0_pay13, k0_pay15, k0_pay16]
    simp only [grad_eq m c A hA, lowScale m c A hA, in_5 m c A hA, coe_sum, ← EReal.coe_mul]
  refine (fold_sum (fun n h => ((outsAt0 m c n h).2.2.2 (ix2 u j) : EReal)) _ ?_ ?_ 15 t0_15.isLt N_0).trans
    (congrArg ((↑) : ℝ → EReal) (sum_blocks (congrArg (· * 256) N_0).symm (fun k => A.grad k j * (A.low k j * rs (A.low k))) row fun _ _ => rfl))
  · intro h
    rw [outsAt0_A m c ⟨0, h⟩ rfl]
    frame_out
    rw [add]
    pointwise [k0_pay3]
  · intro n h
    have hn := lt_of_lt_of_eq h N_0
    rw [outsAt0_B m c ⟨n + 1, h⟩ (by simp only; omega)]
    frame_out
    rw [add]
    rfl

end

/-! ### The reference -/

section
variable (x0 x1 : S4096x1024.Idx → EReal) (x2 x3 : S1024.Idx → EReal) (x4 : S1024x5632.Idx → EReal) (x5 : S4096x1024.Idx → EReal) (x6 : S4096x5632.Idx → EReal)
  (A : Args) (e0 : x0 = fun i => ((A.X i : ℝ) : EReal)) (e1 : x1 = fun i => ((A.Fr i : ℝ) : EReal)) (e2 : x2 = fun i => ((A.Gb i : ℝ) : EReal))
  (e3 : x3 = fun i => ((A.G i : ℝ) : EReal)) (e4 : x4 = fun i => ((A.W i : ℝ) : EReal)) (e5 : x5 = fun i => ((A.D i : ℝ) : EReal))
  (e6 : x6 = fun i => ((A.U i : ℝ) : EReal))

include e1 in
/-- The layer below, root mean square. -/
theorem ref_v7 (r : Fin 4096) (j : Fin 1) : (val_main_v7 (F := Ideal) x1 (ix2 r j) : EReal) = ((rs (A.low r) : ℝ) : EReal) := by
  rw [e1]
  pointwise [val_main_v0, val_main_cst, val_main_v1, val_main_v2, val_main_cst_0, val_main_v3, val_main_v4, val_main_cst_1, val_main_v5, val_main_v6, val_main_v7]
  simp only [coe_sum, coe_div_1024, coe_div_ms, bits_1024, bits_eps, bits_neg_half, ← EReal.coe_mul, ← EReal.coe_add, ← EReal.coe_sub, fold_ms, coe_rs]
  rfl

include e1 in
/-- The factor that the chain rule has there. -/
theorem ref_v10 (r : Fin 4096) (j : Fin 1) : (val_main_v10 (F := Ideal) x1 (ix2 r j) : EReal) = ((-(1 / 2) * (rs (A.low r) / ms (A.low r)) : ℝ) : EReal) := by
  rw [e1]
  pointwise [val_main_v0, val_main_cst, val_main_v1, val_main_v2, val_main_cst_0, val_main_v3, val_main_v4, val_main_cst_1, val_main_v5, val_main_v6, val_main_v7, val_main_v8, val_main_cst_2, val_main_v9, val_main_v10]
  simp only [coe_sum, coe_div_1024, coe_div_ms, bits_1024, bits_eps, bits_neg_half, ← EReal.coe_mul, ← EReal.coe_add, ← EReal.coe_sub, fold_ms, coe_rs]
  rfl

include e0 e1 e2 in
/-- The residual stream. -/
theorem ref_v16 (r : Fin 4096) (j : Fin 1024) : (val_main_v16 (F := Ideal) x0 x1 x2 (ix2 r j) : EReal) = ((A.str r j : ℝ) : EReal) := by
  have h := ref_v7 x1 A e1
  pointwise [val_main_v11, val_main_v12, val_main_v13, val_main_v14, val_main_v15, val_main_v16]
  rw [h, e0, e1, e2]
  simp only [← EReal.coe_mul, ← EReal.coe_add]
  rfl

include e0 e1 e2 in
/-- Its reciprocal root mean square. -/
theorem ref_v24 (r : Fin 4096) (j : Fin 1) : (val_main_v24 (F := Ideal) x0 x1 x2 (ix2 r j) : EReal) = ((rs (A.str r) : ℝ) : EReal) := by
  have h := ref_v16 x0 x1 x2 A e0 e1 e2
  pointwise [val_main_v17, val_main_cst_3, val_main_v18, val_main_v19, val_main_cst_4, val_main_v20, val_main_v21, val_main_cst_5, val_main_v22, val_main_v23, val_main_v24]
  simp only [h, coe_sum, coe_div_1024, coe_div_ms, bits_1024, bits_eps, bits_neg_half, ← EReal.coe_mul, ← EReal.coe_add, ← EReal.coe_sub, fold_ms, coe_rs]

include e0 e1 e2 in
/-- The factor that the chain rule has there. -/
theorem ref_v27 (r : Fin 4096) (j : Fin 1) : (val_main_v27 (F := Ideal) x0 x1 x2 (ix2 r j) : EReal) = ((-(1 / 2) * (rs (A.str r) / ms (A.str r)) : ℝ) : EReal) := by
  have h := ref_v16 x0 x1 x2 A e0 e1 e2
  pointwise [val_main_v17, val_main_cst_3, val_main_v18, val_main_v19, val_main_cst_4, val_main_v20, val_main_v21, val_main_cst_5, val_main_v22, val_main_v23, val_main_v24, val_main_v25, val_main_cst_6, val_main_v26, val_main_v27]
  simp only [h, coe_sum, coe_div_1024, coe_div_ms, bits_1024, bits_eps, bits_neg_half, ← EReal.coe_mul, ← EReal.coe_add, ← EReal.coe_sub, fold_ms, coe_rs]

include e4 e6 in
/-- The cotangent of the normalised stream. -/
theorem ref_v34 (r : Fin 4096) (j : Fin 1024) : (val_main_v34 (F := Ideal) x4 x6 (ix2 r j) : EReal) = ((A.act r j : ℝ) : EReal) := by
  rw [e4, e6]
  pointwise [val_main_v34]
  simp only [coe_sum, ← EReal.coe_mul]
  rfl

include e0 e1 e2 e3 e4 e5 e6 in
/-- The stream's gradient. -/
theorem ref_v55 (r : Fin 4096) (j : Fin 1024) : (val_main_v55 (F := Ideal) x0 x1 x2 x3 x4 x5 x6 (ix2 r j) : EReal) = ((A.grad r j : ℝ) : EReal) := by
  have h16 := ref_v16 x0 x1 x2 A e0 e1 e2
  have h24 := ref_v24 x0 x1 x2 A e0 e1 e2
  have h27 := ref_v27 x0 x1 x2 A e0 e1 e2
  have h34 := ref_v34 x4 x6 A e4 e6
  pointwise [val_main_v30, val_main_v38, val_main_v39, val_main_cst_8, val_main_v40, val_main_v41, val_main_cst_9, val_main_v42, val_main_v43, val_main_v44, val_main_v45, val_main_v46, val_main_v47, val_main_cst_10, val_main_v48, val_main_v49, val_main_cst_11, val_main_v50, val_main_v51, val_main_v52, val_main_v53, val_main_v54, val_main_v55]
  simp only [h16, h24, h27, h34, e3, e5, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) ?_
  rw [Args.grad, ← back_chain]
  ring

include e0 e1 e2 e3 e4 e5 e6 in
/-- The gradient of the layer below. -/
theorem ref_v78 (r : Fin 4096) (j : Fin 1024) : (val_main_v78 (F := Ideal) x0 x1 x2 x3 x4 x5 x6 (ix2 r j) : EReal) = ((A.lowGrad r j : ℝ) : EReal) := by
  have h7 := ref_v7 x1 A e1
  have h10 := ref_v10 x1 A e1
  have h55 := ref_v55 x0 x1 x2 x3 x4 x5 x6 A e0 e1 e2 e3 e4 e5 e6
  pointwise [val_main_v13, val_main_v56, val_main_v60, val_main_v61, val_main_v63, val_main_cst_14, val_main_v64, val_main_v65, val_main_v66, val_main_v67, val_main_v68, val_main_cst_15, val_main_v69, val_main_v70, val_main_cst_16, val_main_v71, val_main_v72, val_main_v73, val_main_v74, val_main_v75, val_main_v76, val_main_v78]
  simp only [h7, h10, h55, congrFun e1, congrFun e2, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) ?_
  rw [Args.lowGrad, ← back_chain]
  rfl

include e0 e1 e2 e4 e6 in
/-- The gradient of the gain above. -/
theorem ref_v77 (r : Fin 1) (j : Fin 1024) : (val_main_v77 (F := Ideal) x0 x1 x2 x4 x6 (ix2 r j) : EReal) = ((A.gain j : ℝ) : EReal) := by
  have h16 := ref_v16 x0 x1 x2 A e0 e1 e2
  have h24 := ref_v24 x0 x1 x2 A e0 e1 e2
  have h34 := ref_v34 x4 x6 A e4 e6
  pointwise [val_main_v28, val_main_v29, val_main_v35, val_main_cst_7, val_main_v36, val_main_v37, val_main_cst_8, val_main_v40, val_main_v77]
  simp only [h16, h24, h34, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) (Finset.sum_congr rfl fun k _ => ?_)
  ring

include e0 e1 e2 e3 e4 e5 e6 in
/-- The gradient of the gain below. -/
theorem ref_v79 (r : Fin 1) (j : Fin 1024) : (val_main_v79 (F := Ideal) x0 x1 x2 x3 x4 x5 x6 (ix2 r j) : EReal) = ((A.lowGain j : ℝ) : EReal) := by
  have h7 := ref_v7 x1 A e1
  have h55 := ref_v55 x0 x1 x2 x3 x4 x5 x6 A e0 e1 e2 e3 e4 e5 e6
  pointwise [val_main_v11, val_main_v12, val_main_v56, val_main_v57, val_main_cst_12, val_main_v58, val_main_v59, val_main_cst_13, val_main_v62, val_main_v79]
  simp only [h7, h55, congrFun e1, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) (Finset.sum_congr rfl fun k _ => ?_)
  unfold Args.low
  ring

end

/-- Finite arguments are real arrays. -/
theorem real_args (h : Cert.Pre_NormKernelIdeal_finite_norm m) (c : Dev nD) : ∃ A : Args, A.Are m c := by
  obtain ⟨a0, a1, a2, a3, a4, a5, a6⟩ := h c
  obtain ⟨X, e0⟩ := reals _ fun i => congrFun a0 i
  obtain ⟨Fr, e1⟩ := reals _ fun i => congrFun a1 i
  obtain ⟨Gb, e2⟩ := reals _ fun i => congrFun a2 i
  obtain ⟨G, e3⟩ := reals _ fun i => congrFun a3 i
  obtain ⟨W, e4⟩ := reals _ fun i => congrFun a4 i
  obtain ⟨D, e5⟩ := reals _ fun i => congrFun a5 i
  obtain ⟨U, e6⟩ := reals _ fun i => congrFun a6 i
  exact ⟨⟨X, Fr, Gb, G, W, D, U⟩, ⟨e0, e1, e2, e3, e4, e5, e6⟩⟩

theorem frame_kernel : Cert.quiescent_NormKernel := fun m ρ _ => Cert.NormKernel.Gen.frame m ρ
theorem frame_ideal : Cert.quiescent_NormKernelIdeal := fun m ρ _ => Cert.NormKernelIdeal.Gen.frame m ρ
theorem frame_ideal_pre : Cert.quiescent_NormKernelIdeal_pre_finite_norm := fun m ρ _ => Cert.NormKernelIdeal.Gen.frame m ρ
theorem frame_reference : Cert.quiescent_NormReferenceIdeal := fun m ρ _ =>
  (θ_run Cert.NormReferenceIdeal.defs _ _).mono
    (fun r h => ⟨fun c => (h c).2.2.2.2, sem_eq_zero_of_no_sems (by decide) r.2⟩)
    (Cert.NormReferenceIdeal.Value.run m ρ)
theorem frame_reference_pre : Cert.quiescent_NormReferenceIdeal_pre_finite_norm := fun m ρ _ => frame_reference m ρ trivial

set_option maxHeartbeats 1600000 in
theorem algebraic : Cert.algebraic_NormKernelIdeal_NormReferenceIdeal_pre_finite_norm := by
  pair_intro
  · run_from Cert.NormKernelIdeal.Value.run_blocks m g
  · run_from Cert.NormReferenceIdeal.Value.run m' g'
    all_goals obtain ⟨A, hA⟩ := real_args m hpre c
    all_goals obtain ⟨h0, h1, h2, h3, h4, h5, h6⟩ := id hA
    all_goals obtain ⟨a0, a1, a2, a3, a4, a5, a6⟩ := hagree c
    · refine (val_main_v55_eq m' c).trans ?_
      rw [a0, a1, a2, a3, a4, a5, a6]
      exact (arr7 m c A hA _ (ref_v55 _ _ _ _ _ _ _ A h0 h1 h2 h3 h4 h5 h6)).symm
    · refine (val_main_v77_eq _ _ _ _ _).trans ?_
      exact (arr8 m c A hA _ (ref_v77 _ _ _ _ _ A h0 h1 h2 h4 h6)).symm
    · refine (val_main_v78_eq m' c).trans ?_
      rw [a0, a1, a2, a3, a4, a5, a6]
      exact (arr9 m c A hA _ (ref_v78 _ _ _ _ _ _ _ A h0 h1 h2 h3 h4 h5 h6)).symm
    · refine (val_main_v79_eq m' c).trans ?_
      rw [a0, a1, a2, a3, a4, a5, a6]
      exact (arr10 m c A hA _ (ref_v79 _ _ _ _ _ _ _ A h0 h1 h2 h3 h4 h5 h6)).symm

end Cert.Proof.Norm

end
-- ==== Proof.NormT.lean ====
/- The gradient through a square product and its norms -/
module

public import proofs.«01_k».proof.Defs
public import proofs.«01_k».proof.Proof.Gen.NormTKernel.Frame
public import proofs.«01_k».proof.Proof.Gen.NormTKernelIdeal.Value
public import proofs.«01_k».proof.Proof.Gen.NormTReferenceIdeal.Read
public import proofs.«01_k».proof.Proof.Gen.Pre_finite_normt
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.NormT

open Idealize.ShloMosaic Idealize.ShloMosaic.TcCoe Idealize.SL.Sem
open Idealize.ShloMosaic.Pipeline (Dat)
open Cert.Proof.Reals
open Cert.NormTKernelIdeal Cert.NormTKernelIdeal.Gen Cert.NormTReferenceIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0]
    ∧ win0_8.index t = ![0, 0] ∧ win0_9.index t = ![t.val, 0] ∧ win0_10.index t = ![0, 0] :=
  (by decide +kernel : ∀ t : Fin grid0.N, _)

/-- The row of the arrays that row `i` of block `t` is. -/
def row (t : Fin cfg0.N) (i : Fin 512) : Fin 4096 :=
  ⟨t.val * 512 + i.val, by have := lt_of_lt_of_eq t.isLt N_0; omega⟩

/-- The arguments, as real arrays. -/
structure Args where
  X : S4096x1024.Idx → ℝ
  Fr : S4096x1024.Idx → ℝ
  Gb : S1024.Idx → ℝ
  G : S1024.Idx → ℝ
  W : S1024x1024.Idx → ℝ
  D : S4096x1024.Idx → ℝ
  U : S4096x1024.Idx → ℝ

namespace Args
variable (A : Args)

/-- A row of the layer below, before its norm. -/
def low (r : Fin 4096) (j : Fin 1024) : ℝ := A.Fr (ix2 r j)

/-- A row of the residual stream. -/
def str (r : Fin 4096) (j : Fin 1024) : ℝ := A.X (ix2 r j) + A.Fr (ix2 r j) * rs (A.low r) * A.Gb (ix1 j)

/-- A row of the cotangent of the normalised stream. -/
def act (r : Fin 4096) (j : Fin 1024) : ℝ := ∑ n : Fin 1024, A.U (ix2 r n) * A.W (ix2 j n)

/-- A row of the stream's gradient. -/
def grad (r : Fin 4096) (j : Fin 1024) : ℝ := A.D (ix2 r j) + back (A.str r) (fun k => A.G (ix1 k)) (A.act r) j

/-- A row of the gradient of the layer below. -/
def lowGrad (r : Fin 4096) (j : Fin 1024) : ℝ := back (A.low r) (fun k => A.Gb (ix1 k)) (A.grad r) j

/-- The gradient of the gain of the norm above. -/
def gain (j : Fin 1024) : ℝ := ∑ r : Fin 4096, A.act r j * (A.str r j * rs (A.str r))

/-- The gradient of the gain of the norm below. -/
def lowGain (j : Fin 1024) : ℝ := ∑ r : Fin 4096, A.grad r j * (A.low r j * rs (A.low r))

/-- The argument arrays hold these. -/
structure Are (c : Dev nD) : Prop where
  h0 : m ((c : Thread nD τ).loc main_arg0) = fun i => ((A.X i : ℝ) : EReal)
  h1 : m ((c : Thread nD τ).loc main_arg1) = fun i => ((A.Fr i : ℝ) : EReal)
  h2 : m ((c : Thread nD τ).loc main_arg2) = fun i => ((A.Gb i : ℝ) : EReal)
  h3 : m ((c : Thread nD τ).loc main_arg3) = fun i => ((A.G i : ℝ) : EReal)
  h4 : m ((c : Thread nD τ).loc main_arg4) = fun i => ((A.W i : ℝ) : EReal)
  h5 : m ((c : Thread nD τ).loc main_arg5) = fun i => ((A.D i : ℝ) : EReal)
  h6 : m ((c : Thread nD τ).loc main_arg6) = fun i => ((A.U i : ℝ) : EReal)
end Args

section
variable (c : Dev nD) (A : Args) (hA : A.Are m c)
include hA

theorem in_0 (t : Fin cfg0.N) (i : Fin 512) (j : Fin 1024) : (iblk m c 0 t (ix2 i j) : EReal) = ((A.U (ix2 (row t i) j) : ℝ) : EReal) := by
  have e : ∀ x : S4096x1024.Idx → EReal, m ((c : Thread nD τ).loc main_arg6) = x → (iblk m c 0 t (ix2 i j) : EReal) = x (ix2 (row t i) j) := by
    intro x e
    subst e
    unfold row
    blk_point [iblk, V, idx t]
  rw [e _ hA.h6]

theorem in_1 (t : Fin cfg0.N) (i : Fin 1024) (j : Fin 1024) : (iblk m c 1 t (ix2 i j) : EReal) = ((A.W (ix2 i j) : ℝ) : EReal) := by
  have e : ∀ x : S1024x1024.Idx → EReal, m ((c : Thread nD τ).loc main_arg4) = x → (iblk m c 1 t (ix2 i j) : EReal) = x (ix2 i j) := by
    intro x e
    subst e
    blk_point [iblk, V, idx t]
  rw [e _ hA.h4]

theorem in_2 (t : Fin cfg0.N) (i : Fin 512) (j : Fin 1024) : (iblk m c 2 t (ix2 i j) : EReal) = ((A.str (row t i) j : ℝ) : EReal) := by
  have e : ∀ (x0 x1 : S4096x1024.Idx → EReal) (x2 : S1024.Idx → EReal), m ((c : Thread nD τ).loc main_arg0) = x0 →
      m ((c : Thread nD τ).loc main_arg1) = x1 → m ((c : Thread nD τ).loc main_arg2) = x2 →
      (iblk m c 2 t (ix2 i j) : EReal) = x0 (ix2 (row t i) j) + x1 (ix2 (row t i) j)
        * Ideal.rsqrt (Ideal.div (∑ k, x1 (ix2 (row t i) k) * x1 (ix2 (row t i) k)) (Ideal.ofBits .f32 0x44800000#32) + Ideal.ofBits .f32 0x358637BD#32)
        * x2 (ix1 j) := by
    intro x0 x1 x2 e0 e1 e2
    subst e0 e1 e2
    have eb : ((win0_2.blk t).view.emb (ix2 i j) : S4096x1024.Idx) = ix2 (row t i) j := by
      unfold row
      blk_ext! [idx t]
    refine (congrArg (V m c main_v13) eb).trans ?_
    entry_read
    generalize row t i = r
    pointwise
  rw [e _ _ _ hA.h0 hA.h1 hA.h2]
  simp only [bits_1024, bits_eps, coe_sum, coe_div_1024, ← EReal.coe_mul, ← EReal.coe_add, fold_ms, coe_rs]
  rfl

theorem in_3 (t : Fin cfg0.N) (i : Fin 1) (j : Fin 1024) : (iblk m c 3 t (ix2 i j) : EReal) = ((A.G (ix1 j) : ℝ) : EReal) := by
  have e : ∀ x : S1024.Idx → EReal, m ((c : Thread nD τ).loc main_arg3) = x → (iblk m c 3 t (ix2 i j) : EReal) = x (ix1 j) := by
    intro x e
    subst e
    blk_point [iblk, V, idx t]
  rw [e _ hA.h3]

theorem in_4 (t : Fin cfg0.N) (i : Fin 512) (j : Fin 1024) : (iblk m c 4 t (ix2 i j) : EReal) = ((A.D (ix2 (row t i) j) : ℝ) : EReal) := by
  have e : ∀ x : S4096x1024.Idx → EReal, m ((c : Thread nD τ).loc main_arg5) = x → (iblk m c 4 t (ix2 i j) : EReal) = x (ix2 (row t i) j) := by
    intro x e
    subst e
    unfold row
    blk_point [iblk, V, idx t]
  rw [e _ hA.h5]

theorem in_5 (t : Fin cfg0.N) (i : Fin 512) (j : Fin 1024) : (iblk m c 5 t (ix2 i j) : EReal) = ((A.low (row t i) j : ℝ) : EReal) := by
  have e : ∀ x : S4096x1024.Idx → EReal, m ((c : Thread nD τ).loc main_arg1) = x → (iblk m c 5 t (ix2 i j) : EReal) = x (ix2 (row t i) j) := by
    intro x e
    subst e
    unfold row
    blk_point [iblk, V, idx t]
  rw [e _ hA.h1]
  rfl
theorem in_6 (t : Fin cfg0.N) (i : Fin 1) (j : Fin 1024) : (iblk m c 6 t (ix2 i j) : EReal) = ((A.Gb (ix1 j) : ℝ) : EReal) := by
  have e : ∀ x : S1024.Idx → EReal, m ((c : Thread nD τ).loc main_arg2) = x → (iblk m c 6 t (ix2 i j) : EReal) = x (ix1 j) := by
    intro x e
    subst e
    blk_point [iblk, V, idx t]
  rw [e _ hA.h2]

/-- A block's product with the weight, in the kernel. -/
theorem act_eq (t : Fin cfg0.N) (i : Fin 512) (j : Fin 1024) :
    (k0_pay4 (iblk m c 0 t) (iblk m c 1 t) (ix2 i j) : EReal) = ((A.act (row t i) j : ℝ) : EReal) := by
  pointwise [k0_pay4]
  simp only [in_0 m c A hA, in_1 m c A hA, coe_sum, ← EReal.coe_mul]
  rfl

/-- The reciprocal root mean square of a row of the stream, in the kernel. -/
theorem scale (t : Fin cfg0.N) (i : Fin 512) (u : Fin 1) : (k0_pay6 (iblk m c 2 t) (ix2 i u) : EReal) = ((rs (A.str (row t i)) : ℝ) : EReal) := by
  pointwise [k0_pay5, k0_pay6]
  simp only [in_2 m c A hA, bits_1024, bits_eps, coe_sum, coe_div_1024, ← EReal.coe_mul, ← EReal.coe_add, fold_ms, coe_rs]

/-- The same of a row of the layer below. -/
theorem lowScale (t : Fin cfg0.N) (i : Fin 512) (u : Fin 1) : (k0_pay14 (iblk m c 5 t) (ix2 i u) : EReal) = ((rs (A.low (row t i)) : ℝ) : EReal) := by
  pointwise [k0_pay13, k0_pay14]
  simp only [in_5 m c A hA, bits_1024, bits_eps, coe_sum, coe_div_1024, ← EReal.coe_mul, ← EReal.coe_add, fold_ms, coe_rs]

/-- A block of the stream's gradient, in the kernel. -/
theorem grad_eq (t : Fin cfg0.N) (i : Fin 512) (j : Fin 1024) :
    (k0_pay12 (k0_pay9 (iblk m c 0 t) (iblk m c 1 t) (iblk m c 2 t) (iblk m c 3 t)) (iblk m c 4 t) (ix2 i j) : EReal) = ((A.grad (row t i) j : ℝ) : EReal) := by
  pointwise [k0_pay5, k0_pay7, k0_pay9, k0_pay12]
  simp only [act_eq m c A hA, scale m c A hA, in_2 m c A hA, in_3 m c A hA, in_4 m c A hA, bits_1024, coe_sum, coe_div_1024, ← EReal.coe_mul, ← EReal.coe_add, ← EReal.coe_sub]
  rfl

omit hA in
/-- What is written to the stream's gradient at every point. -/
theorem out7 (t : Fin cfg0.N) : (outsAt0 m c t.val t.isLt).1 =
    k0_pay12 (k0_pay9 (iblk m c 0 t) (iblk m c 1 t) (iblk m c 2 t) (iblk m c 3 t)) (iblk m c 4 t) := by
  by_cases a : t.val % 8 = 0
  · rw [outsAt0_A m c t a]; frame_out
  · rw [outsAt0_B m c t a]; frame_out

omit hA in
/-- What is written to the gradient of the layer below at every point. -/
theorem out9 (t : Fin cfg0.N) : (outsAt0 m c t.val t.isLt).2.2.1 =
    k0_pay17 (k0_pay9 (iblk m c 0 t) (iblk m c 1 t) (iblk m c 2 t) (iblk m c 3 t)) (iblk m c 4 t) (iblk m c 5 t) (iblk m c 6 t) := by
  by_cases a : t.val % 8 = 0
  · rw [outsAt0_A m c t a]; frame_out
  · rw [outsAt0_B m c t a]; frame_out

/-- The stream's gradient, in the kernel. -/
theorem arr7 (R : S4096x1024.Idx → EReal) (hR : ∀ r j, R (ix2 r j) = ((A.grad r j : ℝ) : EReal)) : (dats m 0 c).arrAt 7 cfg0.N = R := by
  refine (dats m 0 c).arrAt_eq_of_covers 7 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_7, out7]
  have eb : ((win0_7.blk t).view.emb (ix2 i j) : S4096x1024.Idx) = ix2 (row t i) j := by
    unfold row
    blk_ext! [idx t]
  exact (grad_eq m c A hA t i j).trans ((congrArg R eb).trans (hR _ _)).symm

/-- The gradient of the layer below, in the kernel. -/
theorem arr9 (R : S4096x1024.Idx → EReal) (hR : ∀ r j, R (ix2 r j) = ((A.lowGrad r j : ℝ) : EReal)) : (dats m 0 c).arrAt 9 cfg0.N = R := by
  refine (dats m 0 c).arrAt_eq_of_covers 9 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_9, out9]
  have eb : ((win0_9.blk t).view.emb (ix2 i j) : S4096x1024.Idx) = ix2 (row t i) j := by
    unfold row
    blk_ext! [idx t]
  refine Eq.trans ?_ ((congrArg R eb).trans (hR _ _)).symm
  pointwise [k0_pay13, k0_pay15, k0_pay17]
  simp only [grad_eq m c A hA, lowScale m c A hA, in_5 m c A hA, in_6 m c A hA, bits_1024, coe_sum, coe_div_1024, ← EReal.coe_mul, ← EReal.coe_add, ← EReal.coe_sub]
  rfl

/-- The gradient of the gain above, gathered over the blocks by the kernel. -/
theorem arr8 (R : S1x1024.Idx → EReal) (hR : ∀ r j, R (ix2 r j) = ((A.gain j : ℝ) : EReal)) : (dats m 0 c).arrAt 8 cfg0.N = R := by
  refine (dats m 0 c).arrAt_eq_of_after_last 8 t0_7 (by decide +kernel) _ fun (y : S1x1024.Idx) => ?_
  obtain ⟨u, j, rfl⟩ : ∃ (u : Fin 1) (j : Fin 1024), y = ix2 u j := ⟨y 0, y 1, eq_ix2 y⟩
  blk_simp
  rw [after0_8, hR]
  have add : ∀ (t : Fin cfg0.N) (p : FVec Ideal S1x1024 .f32), (k0_pay11 (k0_pay8 (iblk m c 0 t) (iblk m c 1 t) (iblk m c 2 t)) (k0_pay10 p) (ix2 u j) : EReal) =
      p (ix2 u j) + ((∑ i : Fin 512, A.act (row t i) j * (A.str (row t i) j * rs (A.str (row t i))) : ℝ) : EReal) := by
    intro t p
    pointwise [k0_pay5, k0_pay7, k0_pay8, k0_pay10, k0_pay11]
    simp only [act_eq m c A hA, scale m c A hA, in_2 m c A hA, coe_sum, ← EReal.coe_mul]
  refine (fold_sum (fun n h => ((outsAt0 m c n h).2.1 (ix2 u j) : EReal)) _ ?_ ?_ 7 t0_7.isLt N_0).trans
    (congrArg ((↑) : ℝ → EReal) (sum_blocks (congrArg (· * 512) N_0).symm (fun k => A.act k j * (A.str k j * rs (A.str k))) row fun _ _ => rfl))
  · intro h
    rw [outsAt0_A m c ⟨0, h⟩ rfl]
    frame_out
    rw [add]
    pointwise [k0_pay2]
  · intro n h
    have hn := lt_of_lt_of_eq h N_0
    rw [outsAt0_B m c ⟨n + 1, h⟩ (by simp only; omega)]
    frame_out
    rw [add]
    rfl

/-- The gradient of the gain below, gathered over the blocks by the kernel. -/
theorem arr10 (R : S1x1024.Idx → EReal) (hR : ∀ r j, R (ix2 r j) = ((A.lowGain j : ℝ) : EReal)) : (dats m 0 c).arrAt 10 cfg0.N = R := by
  refine (dats m 0 c).arrAt_eq_of_after_last 10 t0_7 (by decide +kernel) _ fun (y : S1x1024.Idx) => ?_
  obtain ⟨u, j, rfl⟩ : ∃ (u : Fin 1) (j : Fin 1024), y = ix2 u j := ⟨y 0, y 1, eq_ix2 y⟩
  blk_simp
  rw [after0_10, hR]
  have add : ∀ (t : Fin cfg0.N) (p : FVec Ideal S1x1024 .f32),
      (k0_pay1 (k0_pay16 (k0_pay9 (iblk m c 0 t) (iblk m c 1 t) (iblk m c 2 t) (iblk m c 3 t)) (iblk m c 4 t) (iblk m c 5 t)) p (ix2 u j) : EReal) =
      p (ix2 u j) + ((∑ i : Fin 512, A.grad (row t i) j * (A.low (row t i) j * rs (A.low (row t i))) : ℝ) : EReal) := by
    intro t p
    pointwise [k0_pay1, k0_pay13, k0_pay15, k0_pay16]
    simp only [grad_eq m c A hA, lowScale m c A hA, in_5 m c A hA, coe_sum, ← EReal.coe_mul]
  refine (fold_sum (fun n h => ((outsAt0 m c n h).2.2.2 (ix2 u j) : EReal)) _ ?_ ?_ 7 t0_7.isLt N_0).trans
    (congrArg ((↑) : ℝ → EReal) (sum_blocks (congrArg (· * 512) N_0).symm (fun k => A.grad k j * (A.low k j * rs (A.low k))) row fun _ _ => rfl))
  · intro h
    rw [outsAt0_A m c ⟨0, h⟩ rfl]
    frame_out
    rw [add]
    pointwise [k0_pay3]
  · intro n h
    have hn := lt_of_lt_of_eq h N_0
    rw [outsAt0_B m c ⟨n + 1, h⟩ (by simp only; omega)]
    frame_out
    rw [add]
    rfl

end

/-! ### The reference -/

section
variable (x0 x1 : S4096x1024.Idx → EReal) (x2 x3 : S1024.Idx → EReal) (x4 : S1024x1024.Idx → EReal) (x5 : S4096x1024.Idx → EReal) (x6 : S4096x1024.Idx → EReal)
  (A : Args) (e0 : x0 = fun i => ((A.X i : ℝ) : EReal)) (e1 : x1 = fun i => ((A.Fr i : ℝ) : EReal)) (e2 : x2 = fun i => ((A.Gb i : ℝ) : EReal))
  (e3 : x3 = fun i => ((A.G i : ℝ) : EReal)) (e4 : x4 = fun i => ((A.W i : ℝ) : EReal)) (e5 : x5 = fun i => ((A.D i : ℝ) : EReal))
  (e6 : x6 = fun i => ((A.U i : ℝ) : EReal))

include e1 in
/-- The layer below, root mean square. -/
theorem ref_v7 (r : Fin 4096) (j : Fin 1) : (val_main_v7 (F := Ideal) x1 (ix2 r j) : EReal) = ((rs (A.low r) : ℝ) : EReal) := by
  rw [e1]
  pointwise [val_main_v0, val_main_cst, val_main_v1, val_main_v2, val_main_cst_0, val_main_v3, val_main_v4, val_main_cst_1, val_main_v5, val_main_v6, val_main_v7]
  simp only [coe_sum, coe_div_1024, coe_div_ms, bits_1024, bits_eps, bits_neg_half, ← EReal.coe_mul, ← EReal.coe_add, ← EReal.coe_sub, fold_ms, coe_rs]
  rfl

include e1 in
/-- The factor that the chain rule has there. -/
theorem ref_v10 (r : Fin 4096) (j : Fin 1) : (val_main_v10 (F := Ideal) x1 (ix2 r j) : EReal) = ((-(1 / 2) * (rs (A.low r) / ms (A.low r)) : ℝ) : EReal) := by
  rw [e1]
  pointwise [val_main_v0, val_main_cst, val_main_v1, val_main_v2, val_main_cst_0, val_main_v3, val_main_v4, val_main_cst_1, val_main_v5, val_main_v6, val_main_v7, val_main_v8, val_main_cst_2, val_main_v9, val_main_v10]
  simp only [coe_sum, coe_div_1024, coe_div_ms, bits_1024, bits_eps, bits_neg_half, ← EReal.coe_mul, ← EReal.coe_add, ← EReal.coe_sub, fold_ms, coe_rs]
  rfl

include e0 e1 e2 in
/-- The residual stream. -/
theorem ref_v16 (r : Fin 4096) (j : Fin 1024) : (val_main_v16 (F := Ideal) x0 x1 x2 (ix2 r j) : EReal) = ((A.str r j : ℝ) : EReal) := by
  have h := ref_v7 x1 A e1
  pointwise [val_main_v11, val_main_v12, val_main_v13, val_main_v14, val_main_v15, val_main_v16]
  rw [h, e0, e1, e2]
  simp only [← EReal.coe_mul, ← EReal.coe_add]
  rfl

include e0 e1 e2 in
/-- Its reciprocal root mean square. -/
theorem ref_v24 (r : Fin 4096) (j : Fin 1) : (val_main_v24 (F := Ideal) x0 x1 x2 (ix2 r j) : EReal) = ((rs (A.str r) : ℝ) : EReal) := by
  have h := ref_v16 x0 x1 x2 A e0 e1 e2
  pointwise [val_main_v17, val_main_cst_3, val_main_v18, val_main_v19, val_main_cst_4, val_main_v20, val_main_v21, val_main_cst_5, val_main_v22, val_main_v23, val_main_v24]
  simp only [h, coe_sum, coe_div_1024, coe_div_ms, bits_1024, bits_eps, bits_neg_half, ← EReal.coe_mul, ← EReal.coe_add, ← EReal.coe_sub, fold_ms, coe_rs]

include e0 e1 e2 in
/-- The factor that the chain rule has there. -/
theorem ref_v27 (r : Fin 4096) (j : Fin 1) : (val_main_v27 (F := Ideal) x0 x1 x2 (ix2 r j) : EReal) = ((-(1 / 2) * (rs (A.str r) / ms (A.str r)) : ℝ) : EReal) := by
  have h := ref_v16 x0 x1 x2 A e0 e1 e2
  pointwise [val_main_v17, val_main_cst_3, val_main_v18, val_main_v19, val_main_cst_4, val_main_v20, val_main_v21, val_main_cst_5, val_main_v22, val_main_v23, val_main_v24, val_main_v25, val_main_cst_6, val_main_v26, val_main_v27]
  simp only [h, coe_sum, coe_div_1024, coe_div_ms, bits_1024, bits_eps, bits_neg_half, ← EReal.coe_mul, ← EReal.coe_add, ← EReal.coe_sub, fold_ms, coe_rs]

include e4 e6 in
/-- The cotangent of the normalised stream. -/
theorem ref_v34 (r : Fin 4096) (j : Fin 1024) : (val_main_v34 (F := Ideal) x4 x6 (ix2 r j) : EReal) = ((A.act r j : ℝ) : EReal) := by
  rw [e4, e6]
  pointwise [val_main_v34]
  simp only [coe_sum, ← EReal.coe_mul]
  rfl

include e0 e1 e2 e3 e4 e5 e6 in
/-- The stream's gradient. -/
theorem ref_v55 (r : Fin 4096) (j : Fin 1024) : (val_main_v55 (F := Ideal) x0 x1 x2 x3 x4 x5 x6 (ix2 r j) : EReal) = ((A.grad r j : ℝ) : EReal) := by
  have h16 := ref_v16 x0 x1 x2 A e0 e1 e2
  have h24 := ref_v24 x0 x1 x2 A e0 e1 e2
  have h27 := ref_v27 x0 x1 x2 A e0 e1 e2
  have h34 := ref_v34 x4 x6 A e4 e6
  pointwise [val_main_v30, val_main_v38, val_main_v39, val_main_cst_8, val_main_v40, val_main_v41, val_main_cst_9, val_main_v42, val_main_v43, val_main_v44, val_main_v45, val_main_v46, val_main_v47, val_main_cst_10, val_main_v48, val_main_v49, val_main_cst_11, val_main_v50, val_main_v51, val_main_v52, val_main_v53, val_main_v54, val_main_v55]
  simp only [h16, h24, h27, h34, e3, e5, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) ?_
  rw [Args.grad, ← back_chain]
  ring

include e0 e1 e2 e3 e4 e5 e6 in
/-- The gradient of the layer below. -/
theorem ref_v78 (r : Fin 4096) (j : Fin 1024) : (val_main_v78 (F := Ideal) x0 x1 x2 x3 x4 x5 x6 (ix2 r j) : EReal) = ((A.lowGrad r j : ℝ) : EReal) := by
  have h7 := ref_v7 x1 A e1
  have h10 := ref_v10 x1 A e1
  have h55 := ref_v55 x0 x1 x2 x3 x4 x5 x6 A e0 e1 e2 e3 e4 e5 e6
  pointwise [val_main_v13, val_main_v56, val_main_v60, val_main_v61, val_main_v63, val_main_cst_14, val_main_v64, val_main_v65, val_main_v66, val_main_v67, val_main_v68, val_main_cst_15, val_main_v69, val_main_v70, val_main_cst_16, val_main_v71, val_main_v72, val_main_v73, val_main_v74, val_main_v75, val_main_v76, val_main_v78]
  simp only [h7, h10, h55, congrFun e1, congrFun e2, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) ?_
  rw [Args.lowGrad, ← back_chain]
  rfl

include e0 e1 e2 e4 e6 in
/-- The gradient of the gain above. -/
theorem ref_v77 (r : Fin 1) (j : Fin 1024) : (val_main_v77 (F := Ideal) x0 x1 x2 x4 x6 (ix2 r j) : EReal) = ((A.gain j : ℝ) : EReal) := by
  have h16 := ref_v16 x0 x1 x2 A e0 e1 e2
  have h24 := ref_v24 x0 x1 x2 A e0 e1 e2
  have h34 := ref_v34 x4 x6 A e4 e6
  pointwise [val_main_v28, val_main_v29, val_main_v35, val_main_cst_7, val_main_v36, val_main_v37, val_main_cst_8, val_main_v40, val_main_v77]
  simp only [h16, h24, h34, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) (Finset.sum_congr rfl fun k _ => ?_)
  ring

include e0 e1 e2 e3 e4 e5 e6 in
/-- The gradient of the gain below. -/
theorem ref_v79 (r : Fin 1) (j : Fin 1024) : (val_main_v79 (F := Ideal) x0 x1 x2 x3 x4 x5 x6 (ix2 r j) : EReal) = ((A.lowGain j : ℝ) : EReal) := by
  have h7 := ref_v7 x1 A e1
  have h55 := ref_v55 x0 x1 x2 x3 x4 x5 x6 A e0 e1 e2 e3 e4 e5 e6
  pointwise [val_main_v11, val_main_v12, val_main_v56, val_main_v57, val_main_cst_12, val_main_v58, val_main_v59, val_main_cst_13, val_main_v62, val_main_v79]
  simp only [h7, h55, congrFun e1, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) (Finset.sum_congr rfl fun k _ => ?_)
  unfold Args.low
  ring

end

/-- Finite arguments are real arrays. -/
theorem real_args (h : Cert.Pre_NormTKernelIdeal_finite_normt m) (c : Dev nD) : ∃ A : Args, A.Are m c := by
  obtain ⟨a0, a1, a2, a3, a4, a5, a6⟩ := h c
  obtain ⟨X, e0⟩ := reals _ fun i => congrFun a0 i
  obtain ⟨Fr, e1⟩ := reals _ fun i => congrFun a1 i
  obtain ⟨Gb, e2⟩ := reals _ fun i => congrFun a2 i
  obtain ⟨G, e3⟩ := reals _ fun i => congrFun a3 i
  obtain ⟨W, e4⟩ := reals _ fun i => congrFun a4 i
  obtain ⟨D, e5⟩ := reals _ fun i => congrFun a5 i
  obtain ⟨U, e6⟩ := reals _ fun i => congrFun a6 i
  exact ⟨⟨X, Fr, Gb, G, W, D, U⟩, ⟨e0, e1, e2, e3, e4, e5, e6⟩⟩

theorem frame_kernel : Cert.quiescent_NormTKernel := fun m ρ _ => Cert.NormTKernel.Gen.frame m ρ
theorem frame_ideal : Cert.quiescent_NormTKernelIdeal := fun m ρ _ => Cert.NormTKernelIdeal.Gen.frame m ρ
theorem frame_ideal_pre : Cert.quiescent_NormTKernelIdeal_pre_finite_normt := fun m ρ _ => Cert.NormTKernelIdeal.Gen.frame m ρ
theorem frame_reference : Cert.quiescent_NormTReferenceIdeal := fun m ρ _ =>
  (θ_run Cert.NormTReferenceIdeal.defs _ _).mono
    (fun r h => ⟨fun c => (h c).2.2.2.2, sem_eq_zero_of_no_sems (by decide) r.2⟩)
    (Cert.NormTReferenceIdeal.Value.run m ρ)
theorem frame_reference_pre : Cert.quiescent_NormTReferenceIdeal_pre_finite_normt := fun m ρ _ => frame_reference m ρ trivial

set_option maxHeartbeats 1600000 in
theorem algebraic : Cert.algebraic_NormTKernelIdeal_NormTReferenceIdeal_pre_finite_normt := by
  pair_intro
  · run_from Cert.NormTKernelIdeal.Value.run_blocks m g
  · run_from Cert.NormTReferenceIdeal.Value.run m' g'
    all_goals obtain ⟨A, hA⟩ := real_args m hpre c
    all_goals obtain ⟨h0, h1, h2, h3, h4, h5, h6⟩ := id hA
    all_goals obtain ⟨a0, a1, a2, a3, a4, a5, a6⟩ := hagree c
    · refine (val_main_v55_eq m' c).trans ?_
      rw [a0, a1, a2, a3, a4, a5, a6]
      exact (arr7 m c A hA _ (ref_v55 _ _ _ _ _ _ _ A h0 h1 h2 h3 h4 h5 h6)).symm
    · refine (val_main_v77_eq _ _ _ _ _).trans ?_
      exact (arr8 m c A hA _ (ref_v77 _ _ _ _ _ A h0 h1 h2 h4 h6)).symm
    · refine (val_main_v78_eq m' c).trans ?_
      rw [a0, a1, a2, a3, a4, a5, a6]
      exact (arr9 m c A hA _ (ref_v78 _ _ _ _ _ _ _ A h0 h1 h2 h3 h4 h5 h6)).symm
    · refine (val_main_v79_eq m' c).trans ?_
      rw [a0, a1, a2, a3, a4, a5, a6]
      exact (arr10 m c A hA _ (ref_v79 _ _ _ _ _ _ _ A h0 h1 h2 h3 h4 h5 h6)).symm

end Cert.Proof.NormT

end
-- ==== Proof.First.lean ====
/- The gradient through the first product and its norm -/
module

public import proofs.«01_k».proof.Defs
public import proofs.«01_k».proof.Proof.Gen.FirstKernel.Frame
public import proofs.«01_k».proof.Proof.Gen.FirstKernelIdeal.Value
public import proofs.«01_k».proof.Proof.Gen.FirstReferenceIdeal.Read
public import proofs.«01_k».proof.Proof.Gen.Pre_finite_first
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.First

open Idealize.ShloMosaic Idealize.ShloMosaic.TcCoe Idealize.SL.Sem
open Idealize.ShloMosaic.Pipeline (Dat)
open Cert.Proof.Reals
open Cert.FirstKernelIdeal Cert.FirstKernelIdeal.Gen Cert.FirstReferenceIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The row of the arrays that row `i` of block `t` is. -/
def row (t : Fin cfg0.N) (i : Fin 512) : Fin 4096 :=
  ⟨t.val * 512 + i.val, by have := lt_of_lt_of_eq t.isLt N_0; omega⟩

/-- The arguments, real arrays but for the stream's cotangent, of which nothing is asked. -/
structure Args where
  X : S4096x1024.Idx → ℝ
  G : S1024.Idx → ℝ
  W : S1024x1536.Idx → ℝ
  D : S4096x1024.Idx → EReal
  U : S4096x1536.Idx → ℝ

namespace Args
variable (A : Args)

/-- A row of the input. -/
def str (r : Fin 4096) (j : Fin 1024) : ℝ := A.X (ix2 r j)

/-- A row of the cotangent of the normalised input. -/
def act (r : Fin 4096) (j : Fin 1024) : ℝ := ∑ n : Fin 1536, A.U (ix2 r n) * A.W (ix2 j n)

/-- A row of the input's gradient. -/
def grad (r : Fin 4096) (j : Fin 1024) : EReal := A.D (ix2 r j) + ((back (A.str r) (fun k => A.G (ix1 k)) (A.act r) j : ℝ) : EReal)

/-- The gradient of the norm's gain. -/
def gain (j : Fin 1024) : ℝ := ∑ r : Fin 4096, A.act r j * (A.str r j * rs (A.str r))

/-- The argument arrays hold these. -/
structure Are (c : Dev nD) : Prop where
  h0 : m ((c : Thread nD τ).loc main_arg0) = fun i => ((A.X i : ℝ) : EReal)
  h1 : m ((c : Thread nD τ).loc main_arg1) = fun i => ((A.G i : ℝ) : EReal)
  h2 : m ((c : Thread nD τ).loc main_arg2) = fun i => ((A.W i : ℝ) : EReal)
  h3 : m ((c : Thread nD τ).loc main_arg3) = A.D
  h4 : m ((c : Thread nD τ).loc main_arg4) = fun i => ((A.U i : ℝ) : EReal)
end Args

section
variable (c : Dev nD) (A : Args) (hA : A.Are m c)
include hA

theorem in_0 (t : Fin cfg0.N) (i : Fin 512) (j : Fin 1536) : (iblk m c 0 t (ix2 i j) : EReal) = ((A.U (ix2 (row t i) j) : ℝ) : EReal) := by
  have e : ∀ x : S4096x1536.Idx → EReal, m ((c : Thread nD τ).loc main_arg4) = x → (iblk m c 0 t (ix2 i j) : EReal) = x (ix2 (row t i) j) := by
    intro x e
    subst e
    unfold row
    blk_point [iblk, V, idx t]
  rw [e _ hA.h4]

theorem in_1 (t : Fin cfg0.N) (i : Fin 1536) (j : Fin 1024) : (iblk m c 1 t (ix2 i j) : EReal) = ((A.W (ix2 j i) : ℝ) : EReal) := by
  have e : ∀ x : S1024x1536.Idx → EReal, m ((c : Thread nD τ).loc main_arg2) = x → (iblk m c 1 t (ix2 i j) : EReal) = x (ix2 j i) := by
    intro x e
    subst e
    have eb : ((win0_1.blk t).view.emb (ix2 i j) : S1536x1024.Idx) = ix2 i j := by
      blk_ext! [idx t]
    refine (congrArg (V m c main_v2) eb).trans ?_
    entry_read
    pointwise
  rw [e _ hA.h2]

theorem in_2 (t : Fin cfg0.N) (i : Fin 512) (j : Fin 1024) : (iblk m c 2 t (ix2 i j) : EReal) = ((A.str (row t i) j : ℝ) : EReal) := by
  have e : ∀ x : S4096x1024.Idx → EReal, m ((c : Thread nD τ).loc main_arg0) = x → (iblk m c 2 t (ix2 i j) : EReal) = x (ix2 (row t i) j) := by
    intro x e
    subst e
    unfold row
    blk_point [iblk, V, idx t]
  rw [e _ hA.h0]
  rfl

theorem in_3 (t : Fin cfg0.N) (i : Fin 1) (j : Fin 1024) : (iblk m c 3 t (ix2 i j) : EReal) = ((A.G (ix1 j) : ℝ) : EReal) := by
  have e : ∀ x : S1024.Idx → EReal, m ((c : Thread nD τ).loc main_arg1) = x → (iblk m c 3 t (ix2 i j) : EReal) = x (ix1 j) := by
    intro x e
    subst e
    blk_point [iblk, V, idx t]
  rw [e _ hA.h1]

theorem in_4 (t : Fin cfg0.N) (i : Fin 512) (j : Fin 1024) : (iblk m c 4 t (ix2 i j) : EReal) = A.D (ix2 (row t i) j) := by
  have e : ∀ x : S4096x1024.Idx → EReal, m ((c : Thread nD τ).loc main_arg3) = x → (iblk m c 4 t (ix2 i j) : EReal) = x (ix2 (row t i) j) := by
    intro x e
    subst e
    unfold row
    blk_point [iblk, V, idx t]
  rw [e _ hA.h3]

/-- A block's product with the weight, in the kernel. -/
theorem act_eq (t : Fin cfg0.N) (i : Fin 512) (j : Fin 1024) :
    (k0_pay3 (iblk m c 0 t) (iblk m c 1 t) (ix2 i j) : EReal) = ((A.act (row t i) j : ℝ) : EReal) := by
  pointwise [k0_pay3]
  simp only [in_0 m c A hA, in_1 m c A hA, coe_sum, ← EReal.coe_mul]
  rfl

/-- The reciprocal root mean square of a row of the input, in the kernel. -/
theorem scale (t : Fin cfg0.N) (i : Fin 512) (u : Fin 1) : (k0_pay4 (iblk m c 2 t) (ix2 i u) : EReal) = ((rs (A.str (row t i)) : ℝ) : EReal) := by
  pointwise [k0_pay4]
  simp only [in_2 m c A hA, bits_1024, bits_eps, coe_sum, coe_div_1024, ← EReal.coe_mul, ← EReal.coe_add, fold_ms, coe_rs]

omit hA in
/-- What is written to the input's gradient at every point. -/
theorem out5 (t : Fin cfg0.N) : (outsAt0 m c t.val t.isLt).1 =
    k0_pay1 (k0_pay6 (iblk m c 0 t) (iblk m c 1 t) (iblk m c 2 t) (iblk m c 3 t)) (iblk m c 4 t) := by
  by_cases a : t.val % 8 = 0
  · rw [outsAt0_A m c t a]; frame_out
  · rw [outsAt0_B m c t a]; frame_out

/-- The input's gradient, in the kernel. -/
theorem arr5 (R : S4096x1024.Idx → EReal) (hR : ∀ r j, R (ix2 r j) = A.grad r j) : (dats m 0 c).arrAt 5 cfg0.N = R := by
  refine (dats m 0 c).arrAt_eq_of_covers 5 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_5, out5]
  have eb : ((win0_5.blk t).view.emb (ix2 i j) : S4096x1024.Idx) = ix2 (row t i) j := by
    unfold row
    blk_ext! [idx t]
  refine Eq.trans ?_ ((congrArg R eb).trans (hR _ _)).symm
  pointwise [k0_pay1, k0_pay5, k0_pay6]
  simp only [act_eq m c A hA, scale m c A hA, in_2 m c A hA, in_3 m c A hA, in_4 m c A hA, bits_1024, coe_sum, coe_div_1024, ← EReal.coe_mul, ← EReal.coe_add, ← EReal.coe_sub]
  rfl

/-- The gradient of the gain, gathered over the blocks by the kernel. -/
theorem arr6 (R : S1x1024.Idx → EReal) (hR : ∀ r j, R (ix2 r j) = ((A.gain j : ℝ) : EReal)) : (dats m 0 c).arrAt 6 cfg0.N = R := by
  refine (dats m 0 c).arrAt_eq_of_after_last 6 t0_7 (by decide +kernel) _ fun (y : S1x1024.Idx) => ?_
  obtain ⟨u, j, rfl⟩ : ∃ (u : Fin 1) (j : Fin 1024), y = ix2 u j := ⟨y 0, y 1, eq_ix2 y⟩
  blk_simp
  rw [after0_6, hR]
  have add : ∀ (t : Fin cfg0.N) (p : FVec Ideal S1x1024 .f32), (k0_pay7 (iblk m c 0 t) (iblk m c 1 t) (iblk m c 2 t) p (ix2 u j) : EReal) =
      p (ix2 u j) + ((∑ i : Fin 512, A.act (row t i) j * (A.str (row t i) j * rs (A.str (row t i))) : ℝ) : EReal) := by
    intro t p
    pointwise [k0_pay5, k0_pay7]
    simp only [act_eq m c A hA, scale m c A hA, in_2 m c A hA, coe_sum, ← EReal.coe_mul]
  refine (fold_sum (fun n h => ((outsAt0 m c n h).2 (ix2 u j) : EReal)) _ ?_ ?_ 7 t0_7.isLt N_0).trans
    (congrArg ((↑) : ℝ → EReal) (sum_blocks (congrArg (· * 512) N_0).symm (fun k => A.act k j * (A.str k j * rs (A.str k))) row fun _ _ => rfl))
  · intro h
    rw [outsAt0_A m c ⟨0, h⟩ rfl]
    frame_out
    rw [add]
    pointwise [k0_pay2]
  · intro n h
    have hn := lt_of_lt_of_eq h N_0
    rw [outsAt0_B m c ⟨n + 1, h⟩ (by simp only; omega)]
    frame_out
    rw [add]
    rfl

end

/-! ### The reference -/

section
variable (x0 : S4096x1024.Idx → EReal) (x1 : S1024.Idx → EReal) (x2 : S1024x1536.Idx → EReal) (x3 : S4096x1024.Idx → EReal) (x4 : S4096x1536.Idx → EReal)
  (A : Args) (e0 : x0 = fun i => ((A.X i : ℝ) : EReal)) (e1 : x1 = fun i => ((A.G i : ℝ) : EReal))
  (e2 : x2 = fun i => ((A.W i : ℝ) : EReal)) (e3 : x3 = A.D) (e4 : x4 = fun i => ((A.U i : ℝ) : EReal))

include e0 in
/-- The reciprocal root mean square of the input. -/
theorem ref_v7 (r : Fin 4096) (j : Fin 1) : (val_main_v7 (F := Ideal) x0 (ix2 r j) : EReal) = ((rs (A.str r) : ℝ) : EReal) := by
  rw [e0]
  pointwise [val_main_v0, val_main_cst, val_main_v1, val_main_v2, val_main_cst_0, val_main_v3, val_main_v4, val_main_cst_1, val_main_v5, val_main_v6, val_main_v7]
  simp only [coe_sum, coe_div_1024, coe_div_ms, bits_1024, bits_eps, bits_neg_half, ← EReal.coe_mul, ← EReal.coe_add, ← EReal.coe_sub, fold_ms, coe_rs]
  rfl

include e0 in
/-- The factor that the chain rule has there. -/
theorem ref_v10 (r : Fin 4096) (j : Fin 1) : (val_main_v10 (F := Ideal) x0 (ix2 r j) : EReal) = ((-(1 / 2) * (rs (A.str r) / ms (A.str r)) : ℝ) : EReal) := by
  rw [e0]
  pointwise [val_main_v0, val_main_cst, val_main_v1, val_main_v2, val_main_cst_0, val_main_v3, val_main_v4, val_main_cst_1, val_main_v5, val_main_v6, val_main_v7, val_main_v8, val_main_cst_2, val_main_v9, val_main_v10]
  simp only [coe_sum, coe_div_1024, coe_div_ms, bits_1024, bits_eps, bits_neg_half, ← EReal.coe_mul, ← EReal.coe_add, ← EReal.coe_sub, fold_ms, coe_rs]
  rfl

include e2 e4 in
/-- The cotangent of the normalised input. -/
theorem ref_v17 (r : Fin 4096) (j : Fin 1024) : (val_main_v17 (F := Ideal) x2 x4 (ix2 r j) : EReal) = ((A.act r j : ℝ) : EReal) := by
  rw [e2, e4]
  pointwise [val_main_v17]
  simp only [coe_sum, ← EReal.coe_mul]
  rfl

include e0 e1 e2 e3 e4 in
/-- The input's gradient. -/
theorem ref_v38 (r : Fin 4096) (j : Fin 1024) : (val_main_v38 (F := Ideal) x0 x1 x2 x3 x4 (ix2 r j) : EReal) = A.grad r j := by
  have h7 := ref_v7 x0 A e0
  have h10 := ref_v10 x0 A e0
  have h17 := ref_v17 x2 x4 A e2 e4
  pointwise [val_main_v13, val_main_v21, val_main_v22, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38]
  simp only [h7, h10, h17, congrFun e0, congrFun e1, congrFun e3, coe_sum, coe_div_1024, coe_div_ms, bits_1024, bits_eps, bits_neg_half, ← EReal.coe_mul, ← EReal.coe_add, ← EReal.coe_sub, fold_ms, coe_rs, add_assoc]
  simp only [Finset.univ_unique, Finset.sum_singleton]
  rw [Args.grad, ← back_chain, ← add_assoc (_ * _ * _)]
  rfl

include e0 e2 e4 in
/-- The gradient of the gain. -/
theorem ref_v39 (r : Fin 1) (j : Fin 1024) : (val_main_v39 (F := Ideal) x0 x2 x4 (ix2 r j) : EReal) = ((A.gain j : ℝ) : EReal) := by
  have h7 := ref_v7 x0 A e0
  have h17 := ref_v17 x2 x4 A e2 e4
  pointwise [val_main_v11, val_main_v12, val_main_v18, val_main_cst_3, val_main_v19, val_main_v20, val_main_cst_4, val_main_v23, val_main_v39]
  simp only [h7, h17, congrFun e0, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) (Finset.sum_congr rfl fun k _ => ?_)
  unfold Args.str
  ring

end

/-- Finite arguments are real arrays. -/
theorem real_args (h : Cert.Pre_FirstKernelIdeal_finite_first m) (c : Dev nD) : ∃ A : Args, A.Are m c := by
  obtain ⟨a0, a1, a2, a4⟩ := h c
  obtain ⟨X, e0⟩ := reals _ fun i => congrFun a0 i
  obtain ⟨G, e1⟩ := reals _ fun i => congrFun a1 i
  obtain ⟨W, e2⟩ := reals _ fun i => congrFun a2 i
  obtain ⟨U, e4⟩ := reals _ fun i => congrFun a4 i
  exact ⟨⟨X, G, W, _, U⟩, ⟨e0, e1, e2, rfl, e4⟩⟩

theorem frame_kernel : Cert.quiescent_FirstKernel := fun m ρ _ => Cert.FirstKernel.Gen.frame m ρ
theorem frame_ideal : Cert.quiescent_FirstKernelIdeal := fun m ρ _ => Cert.FirstKernelIdeal.Gen.frame m ρ
theorem frame_ideal_pre : Cert.quiescent_FirstKernelIdeal_pre_finite_first := fun m ρ _ => Cert.FirstKernelIdeal.Gen.frame m ρ
theorem frame_reference : Cert.quiescent_FirstReferenceIdeal := fun m ρ _ =>
  (θ_run Cert.FirstReferenceIdeal.defs _ _).mono
    (fun r h => ⟨fun c => (h c).2.2, sem_eq_zero_of_no_sems (by decide) r.2⟩)
    (Cert.FirstReferenceIdeal.Value.run m ρ)
theorem frame_reference_pre : Cert.quiescent_FirstReferenceIdeal_pre_finite_first := fun m ρ _ => frame_reference m ρ trivial

set_option maxHeartbeats 1600000 in
theorem algebraic : Cert.algebraic_FirstKernelIdeal_FirstReferenceIdeal_pre_finite_first := by
  pair_intro
  · run_from Cert.FirstKernelIdeal.Value.run_blocks m g
  · run_from Cert.FirstReferenceIdeal.Value.run m' g'
    all_goals obtain ⟨A, hA⟩ := real_args m hpre c
    all_goals obtain ⟨h0, h1, h2, h3, h4⟩ := id hA
    all_goals obtain ⟨a0, a1, a2, a3, a4⟩ := hagree c
    · refine (val_main_v38_eq m' c).trans ?_
      rw [a0, a1, a2, a3, a4]
      exact (arr5 m c A hA _ (ref_v38 _ _ _ _ _ A h0 h1 h2 h3 h4)).symm
    · refine (val_main_v39_eq _ _ _).trans ?_
      exact (arr6 m c A hA _ (ref_v39 _ _ _ A h0 h2 h4)).symm

end Cert.Proof.First

end
-- ==== Proof.Xattn.lean ====
/- The gradient through the cross attention -/
module

public import proofs.«01_k».proof.Defs
public import proofs.«01_k».proof.Proof.Gen.XattnKernel.Frame
public import proofs.«01_k».proof.Proof.Gen.XattnKernelIdeal.Value
public import proofs.«01_k».proof.Proof.Gen.XattnReferenceIdeal.Read
public import proofs.«01_k».proof.Proof.Gen.Pre_finite_xattn
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Xattn

open Idealize.ShloMosaic Idealize.ShloMosaic.TcCoe Idealize.SL.Sem
open Idealize.ShloMosaic.Pipeline (Dat)
open Cert.Proof.Reals
open Cert.XattnKernelIdeal Cert.XattnKernelIdeal.Gen Cert.XattnReferenceIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0]
    ∧ win0_4.index t = ![0, 0] :=
  (by decide +kernel : ∀ t : Fin grid0.N, _)

/-- The row of the arrays that row `i` of block `t` is. -/
def row (t : Fin cfg0.N) (i : Fin 512) : Fin 4096 :=
  ⟨t.val * 512 + i.val, by have := lt_of_lt_of_eq t.isLt N_0; omega⟩

/-- The scores of one row's query against the keys. -/
noncomputable def score (k : Fin 256 → Fin 256 → ℝ) (q : Fin 256 → ℝ) (n : Fin 256) : ℝ := (∑ j, k n j * q j) * (1 / 16)

/-- The attention of one row: the softmax of its scores. -/
noncomputable def prob (k : Fin 256 → Fin 256 → ℝ) (q : Fin 256 → ℝ) (n : Fin 256) : ℝ :=
  Real.exp (score k q n) / ∑ a, Real.exp (score k q a)

/-- The gradient of one row's scores, the scale included. -/
noncomputable def dscore (k v : Fin 256 → Fin 256 → ℝ) (q d : Fin 256 → ℝ) (n : Fin 256) : ℝ :=
  prob k q n * ((∑ j, v n j * d j) - ∑ a, prob k q a * (∑ j, v a j * d j)) * (1 / 16)

/-- A store every index of which later stores cover is not read. -/
theorem canon_drop {S : Shape} {e : EltTy} (L : List (View.Piece (Elt Ideal) S e)) (p : View.Piece (Elt Ideal) S e) (y : S.Idx)
    (hc : ∃ q ∈ L, y ∈ q.1.set) : View.canon (L ++ [p]) y = View.canon L y := by
  induction L with
  | nil => obtain ⟨q, hq, _⟩ := hc; exact absurd hq List.not_mem_nil
  | cons a L ih =>
    by_cases hm : y ∈ a.1.set
    · obtain ⟨x, rfl⟩ := a.1.exists_idx_of_mem hm
      exact (View.canon_cons_emb a.1 a.2 _ x).trans (View.canon_cons_emb a.1 a.2 _ x).symm
    · obtain ⟨q, hq, hy⟩ := hc
      rw [List.cons_append, View.canon_cons_of_not_mem _ _ hm, View.canon_cons_of_not_mem _ _ hm]
      refine ih ⟨q, ?_, hy⟩
      rcases List.mem_cons.mp hq with rfl | h
      · exact absurd hy hm
      · exact h

/-- The maximum of finitely many reals is a real. -/
theorem max_real {ι : Type} (s : Finset ι) (f : ι → ℝ) (h : s.Nonempty) :
    ∃ M : ℝ, Finset.fold max (Ideal.ofBits .f32 0xFF800000#32) (fun x => ((f x : ℝ) : EReal)) s = (M : EReal) := by
  classical
  rw [bits_bot]
  induction h using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

/-- The maximum along the last of four axes. -/
theorem host_max {n0 n1 n2 n3 : ℕ} {u : Shape} (v : FVec Ideal ⟨4, ![n0, n1, n2, n3]⟩ .f32) (b : FVec Ideal u .f32)
    (h : (⟨4, ![n0, n1, n2, n3]⟩ : Shape).ReducesTo [3] ⟨3, ![n0, n1, n2]⟩) (hu : 0 < u.numel) (i : Fin n0) (j : Fin n1) (k : Fin n2) :
    (Host.reduce (α := Ideal .f32) FloatOps.maximumf v b h hu (ix3 i j k) : EReal) = Finset.fold max (b (Shape.Idx.first hu)) (fun l : Fin n3 => v (ix4 i j k l)) Finset.univ := by
  simp only [pointwise]

/-- The greater of two arrays' elements. -/
theorem host_maximum {S : Shape} (x y : FVec Ideal S .f32) (i : S.Idx) : (maximumf x y i : EReal) = max (x i : EReal) (y i : EReal) := rfl

/-- A sum along two axes of one element each. -/
theorem host_unit {n1 n2 : ℕ} (h : (⟨4, ![1, n1, n2, 1]⟩ : Shape).ReducesTo [0, 3] ⟨2, ![n1, n2]⟩) (v : (⟨4, ![1, n1, n2, 1]⟩ : Shape).Idx → EReal) (b : EReal)
    (i : Fin n1) (j : Fin n2) : Ideal.hostReduceAdd h v b (ix2 i j) = b + v (ix4 0 i j 0) := by
  have e : ∀ x : (⟨4, ![1, n1, n2, 1]⟩ : Shape).Idx, h.drop x = ix2 i j ↔ x = ix4 0 i j 0 := by
    intro x
    constructor
    · intro e
      have e0 := congrArg Fin.val (congrFun e 0)
      have e1 := congrArg Fin.val (congrFun e 1)
      funext a
      apply Fin.ext
      match a with
      | ⟨0, _⟩ => exact congrArg Fin.val (Subsingleton.elim (α := Fin 1) (x 0) 0)
      | ⟨1, _⟩ => exact e0
      | ⟨2, _⟩ => exact e1
      | ⟨3, _⟩ => exact congrArg Fin.val (Subsingleton.elim (α := Fin 1) (x 3) 0)
    · rintro rfl
      funext a
      apply Fin.ext
      match a with
      | ⟨0, _⟩ => rfl
      | ⟨1, _⟩ => rfl
  have f : Finset.univ.filter (fun x => h.drop x = ix2 i j) = {ix4 0 i j 0} := by
    ext x
    simp only [Finset.mem_filter, Finset.mem_univ, true_and, Finset.mem_singleton, e]
  unfold Ideal.hostReduceAdd
  rw [f, Finset.sum_singleton]

/-- The softmax does not depend on the shift of the scores. -/
theorem prob_shift (k : Fin 256 → Fin 256 → ℝ) (q : Fin 256 → ℝ) (M : ℝ) (n : Fin 256) :
    Real.exp (score k q n - M) / ∑ a, Real.exp (score k q a - M) = prob k q n := by
  unfold prob
  simp only [Real.exp_sub, ← Finset.sum_div]
  rw [div_div_div_cancel_right₀ (Real.exp_pos M).ne']

theorem sum_exp_pos (f : Fin 256 → ℝ) : 0 < ∑ a, Real.exp (f a) := Finset.sum_pos (fun _ _ => Real.exp_pos _) ⟨0, Finset.mem_univ _⟩

section
variable {q : Vec Ideal S512x256 .bf16} {k v : Vec Ideal S256x256 .bf16} {d : Vec Ideal S512x256 .bf16}
  {Q D : Fin 512 → Fin 256 → ℝ} {K V : Fin 256 → Fin 256 → ℝ}
  (hq : ∀ i j, (q (ix2 i j) : EReal) = ((Q i j : ℝ) : EReal)) (hk : ∀ i j, (k (ix2 i j) : EReal) = ((K i j : ℝ) : EReal))
include hq hk

theorem pay6 (n : Fin 256) (i : Fin 512) : (k0_pay6 q k (ix2 n i) : EReal) = ((prob K (Q i) n : ℝ) : EReal) := by
  pointwise [k0_pay3, k0_pay4, k0_pay6]
  simp only [hq, hk, bits_inv16, ← EReal.coe_mul, coe_sum]
  obtain ⟨M, hM⟩ := max_real Finset.univ (fun x => score K (Q i) x) ⟨0, Finset.mem_univ _⟩
  unfold score at hM
  rw [hM]
  simp only [← EReal.coe_sub, Ideal.exp_coe, coe_sum]
  rw [coe_div _ _ (sum_exp_pos _).ne']
  exact congrArg _ (prob_shift K (Q i) M n)

variable (hv : ∀ i j, (v (ix2 i j) : EReal) = ((V i j : ℝ) : EReal)) (hd : ∀ i j, (d (ix2 i j) : EReal) = ((D i j : ℝ) : EReal))
include hd

theorem pay9 (p : Vec Ideal S256x256 .f32) (n j : Fin 256) : (k0_pay9 (k0_pay5 d) (k0_pay6 q k) p (ix2 n j) : EReal) =
    p (ix2 n j) + ((∑ i, prob K (Q i) n * D i j : ℝ) : EReal) := by
  pointwise [k0_pay5, k0_pay9]
  simp only [pay6 hq hk, hd, ← EReal.coe_mul, coe_sum]

include hv

theorem pay7 (n : Fin 256) (i : Fin 512) : (k0_pay7 q k v d (ix2 n i) : EReal) = ((dscore K V (Q i) (D i) n : ℝ) : EReal) := by
  pointwise [k0_pay5, k0_pay7]
  simp only [pay6 hq hk, hv, hd, bits_inv16, ← EReal.coe_mul, coe_sum, ← EReal.coe_sub]
  rfl

theorem pay8 (p : Vec Ideal S256x256 .f32) (n j : Fin 256) : (k0_pay8 q k v d p (ix2 n j) : EReal) =
    p (ix2 n j) + ((∑ i, dscore K V (Q i) (D i) n * Q i j : ℝ) : EReal) := by
  pointwise [k0_pay3, k0_pay8]
  simp only [pay7 hq hk hv hd, hq, ← EReal.coe_mul, coe_sum]

theorem pay10 (i : Fin 512) (j : Fin 256) : (k0_pay10 (k0_pay4 k) (k0_pay7 q k v d) (ix2 i j) : EReal) =
    ((∑ n, dscore K V (Q i) (D i) n * K n j : ℝ) : EReal) := by
  pointwise [k0_pay4, k0_pay10]
  simp only [pay7 hq hk hv hd, hk, ← EReal.coe_mul, coe_sum]

end

/-- Column `j` of head `h`. -/
def col (h : Fin 4) (j : Fin 256) : Fin 1024 := ⟨h.val * 256 + j.val, by omega⟩
/-- The keys of head `h`. -/
noncomputable def kh (KV : S256x2048.Idx → ℝ) (h : Fin 4) (n j : Fin 256) : ℝ := KV (ix2 n ⟨(col h j).val, by omega⟩)
/-- The values of head `h`. -/
noncomputable def vh (KV : S256x2048.Idx → ℝ) (h : Fin 4) (n j : Fin 256) : ℝ := KV (ix2 n ⟨1024 + (col h j).val, by omega⟩)
/-- Row `r` of head `h`. -/
noncomputable def rh (Q : S4096x1024.Idx → ℝ) (h : Fin 4) (r : Fin 4096) (j : Fin 256) : ℝ := Q (ix2 r (col h j))

section
variable (c : Dev nD) (Q : S4096x1024.Idx → ℝ) (KV : S256x2048.Idx → ℝ) (D : S4096x1024.Idx → ℝ)
  (hQ : m ((c : Thread nD τ).loc main_arg0) = fun i => ((Q i : ℝ) : EReal))
  (hK : m ((c : Thread nD τ).loc main_arg1) = fun i => ((KV i : ℝ) : EReal))
  (hD : m ((c : Thread nD τ).loc main_arg2) = fun i => ((D i : ℝ) : EReal))
include hQ hK hD

theorem in_0 (t : Fin cfg0.N) (i : Fin 512) (j : Fin 1024) : (iblk m c 0 t (ix2 i j) : EReal) = ((Q (ix2 (row t i) j) : ℝ) : EReal) := by
  have e : ∀ x : S4096x1024.Idx → EReal, m ((c : Thread nD τ).loc main_arg0) = x → (iblk m c 0 t (ix2 i j) : EReal) = x (ix2 (row t i) j) := by
    intro x e
    subst e
    unfold row
    blk_point [iblk, V, idx t]
  rw [e _ hQ]

theorem in_1 (t : Fin cfg0.N) (i : Fin 256) (j : Fin 2048) : (iblk m c 1 t (ix2 i j) : EReal) = ((KV (ix2 i j) : ℝ) : EReal) := by
  have e : ∀ x : S256x2048.Idx → EReal, m ((c : Thread nD τ).loc main_arg1) = x → (iblk m c 1 t (ix2 i j) : EReal) = x (ix2 i j) := by
    intro x e
    subst e
    blk_point [iblk, V, idx t]
  rw [e _ hK]

theorem in_2 (t : Fin cfg0.N) (i : Fin 512) (j : Fin 1024) : (iblk m c 2 t (ix2 i j) : EReal) = ((D (ix2 (row t i) j) : ℝ) : EReal) := by
  have e : ∀ x : S4096x1024.Idx → EReal, m ((c : Thread nD τ).loc main_arg2) = x → (iblk m c 2 t (ix2 i j) : EReal) = x (ix2 (row t i) j) := by
    intro x e
    subst e
    unfold row
    blk_point [iblk, V, idx t]
  rw [e _ hD]

theorem ld_q (t : Fin cfg0.N) (h : Fin 4) (o : ℕ) (ho : o = h.val * 256) (b : ∀ a, (![0, o] : Fin 2 → ℕ) a + S512x256.size a ≤ S512x1024.size a) (i : Fin 512) (j : Fin 256) :
    (View.ld (iblk m c 0 t) (Rect.unit (s := S512x1024) ![0, o] S512x256.size b) (ix2 i j) : EReal) = ((rh Q h (row t i) j : ℝ) : EReal) := by
  subst ho
  refine Eq.trans ?_ (in_0 m c Q KV D hQ hK hD t i (col h j))
  unfold col
  pointwise

theorem ld_d (t : Fin cfg0.N) (h : Fin 4) (o : ℕ) (ho : o = h.val * 256) (b : ∀ a, (![0, o] : Fin 2 → ℕ) a + S512x256.size a ≤ S512x1024.size a) (i : Fin 512) (j : Fin 256) :
    (View.ld (iblk m c 2 t) (Rect.unit (s := S512x1024) ![0, o] S512x256.size b) (ix2 i j) : EReal) = ((rh D h (row t i) j : ℝ) : EReal) := by
  subst ho
  refine Eq.trans ?_ (in_2 m c Q KV D hQ hK hD t i (col h j))
  unfold col
  pointwise

theorem ld_k (t : Fin cfg0.N) (h : Fin 4) (o : ℕ) (ho : o = h.val * 256) (b : ∀ a, (![0, o] : Fin 2 → ℕ) a + S256x256.size a ≤ S256x2048.size a) (i j : Fin 256) :
    (View.ld (iblk m c 1 t) (Rect.unit (s := S256x2048) ![0, o] S256x256.size b) (ix2 i j) : EReal) = ((kh KV h i j : ℝ) : EReal) := by
  subst ho
  refine Eq.trans ?_ (in_1 m c Q KV D hQ hK hD t i ⟨(col h j).val, by omega⟩)
  unfold col
  pointwise

theorem ld_v (t : Fin cfg0.N) (h : Fin 4) (o : ℕ) (ho : o = 1024 + h.val * 256) (b : ∀ a, (![0, o] : Fin 2 → ℕ) a + S256x256.size a ≤ S256x2048.size a) (i j : Fin 256) :
    (View.ld (iblk m c 1 t) (Rect.unit (s := S256x2048) ![0, o] S256x256.size b) (ix2 i j) : EReal) = ((vh KV h i j : ℝ) : EReal) := by
  subst ho
  refine Eq.trans ?_ (in_1 m c Q KV D hQ hK hD t i ⟨1024 + (col h j).val, by omega⟩)
  unfold col
  pointwise
  exact congrArg (fun w => iblk m c 1 t (ix2 i w)) (Fin.ext (Nat.add_assoc ..))

/-- Row `r`, column `j` of head `h` of the gradient of the queries. -/
noncomputable def dq (Q : S4096x1024.Idx → ℝ) (KV : S256x2048.Idx → ℝ) (D : S4096x1024.Idx → ℝ) (h : Fin 4) (r : Fin 4096) (j : Fin 256) : ℝ :=
  ∑ n, dscore (kh KV h) (vh KV h) (rh Q h r) (rh D h r) n * kh KV h n j

/-- What row `r` adds to the gradient of the keys. -/
noncomputable def dk (Q : S4096x1024.Idx → ℝ) (KV : S256x2048.Idx → ℝ) (D : S4096x1024.Idx → ℝ) (h : Fin 4) (r : Fin 4096) (n j : Fin 256) : ℝ :=
  dscore (kh KV h) (vh KV h) (rh Q h r) (rh D h r) n * rh Q h r j

/-- What row `r` adds to the gradient of the values. -/
noncomputable def dv (Q : S4096x1024.Idx → ℝ) (KV : S256x2048.Idx → ℝ) (D : S4096x1024.Idx → ℝ) (h : Fin 4) (r : Fin 4096) (n j : Fin 256) : ℝ :=
  prob (kh KV h) (rh Q h r) n * rh D h r j

/-- The tile of head `h` of the gradient of the queries. -/
theorem tile_q (t : Fin cfg0.N) (h : Fin 4) (o o' : ℕ) (ho : o = h.val * 256) (ho' : o' = 1024 + h.val * 256)
    (b0 : ∀ a, (![0, o] : Fin 2 → ℕ) a + S512x256.size a ≤ S512x1024.size a) (b1 : ∀ a, (![0, o] : Fin 2 → ℕ) a + S256x256.size a ≤ S256x2048.size a)
    (b2 : ∀ a, (![0, o'] : Fin 2 → ℕ) a + S256x256.size a ≤ S256x2048.size a) (i : Fin 512) (j : Fin 256) :
    (k0_pay10 (k0_pay4 (View.ld (iblk m c 1 t) (Rect.unit (s := S256x2048) ![0, o] S256x256.size b1)))
      (k0_pay7 (View.ld (iblk m c 0 t) (Rect.unit (s := S512x1024) ![0, o] S512x256.size b0)) (View.ld (iblk m c 1 t) (Rect.unit (s := S256x2048) ![0, o] S256x256.size b1))
        (View.ld (iblk m c 1 t) (Rect.unit (s := S256x2048) ![0, o'] S256x256.size b2)) (View.ld (iblk m c 2 t) (Rect.unit (s := S512x1024) ![0, o] S512x256.size b0)))
      (ix2 i j) : EReal) = ((dq Q KV D h (row t i) j : ℝ) : EReal) :=
  pay10 (ld_q m c Q KV D hQ hK hD t h o ho b0) (ld_k m c Q KV D hQ hK hD t h o ho b1) (ld_v m c Q KV D hQ hK hD t h o' ho' b2)
    (ld_d m c Q KV D hQ hK hD t h o ho b0) i j

/-- The tile of head `h` of the gradient of the keys. -/
theorem tile_k (t : Fin cfg0.N) (h : Fin 4) (o o' : ℕ) (ho : o = h.val * 256) (ho' : o' = 1024 + h.val * 256)
    (b0 : ∀ a, (![0, o] : Fin 2 → ℕ) a + S512x256.size a ≤ S512x1024.size a) (b1 : ∀ a, (![0, o] : Fin 2 → ℕ) a + S256x256.size a ≤ S256x2048.size a)
    (b2 : ∀ a, (![0, o'] : Fin 2 → ℕ) a + S256x256.size a ≤ S256x2048.size a) (p : S256x2048.Idx → EReal) (n j : Fin 256) :
    (k0_pay8 (View.ld (iblk m c 0 t) (Rect.unit (s := S512x1024) ![0, o] S512x256.size b0)) (View.ld (iblk m c 1 t) (Rect.unit (s := S256x2048) ![0, o] S256x256.size b1))
        (View.ld (iblk m c 1 t) (Rect.unit (s := S256x2048) ![0, o'] S256x256.size b2)) (View.ld (iblk m c 2 t) (Rect.unit (s := S512x1024) ![0, o] S512x256.size b0))
        (View.ld p (Rect.unit (s := S256x2048) ![0, o] S256x256.size b1))
      (ix2 n j) : EReal) = p (ix2 n ⟨(col h j).val, by omega⟩) + ((∑ i, dk Q KV D h (row t i) n j : ℝ) : EReal) := by
  refine (pay8 (ld_q m c Q KV D hQ hK hD t h o ho b0) (ld_k m c Q KV D hQ hK hD t h o ho b1) (ld_v m c Q KV D hQ hK hD t h o' ho' b2)
    (ld_d m c Q KV D hQ hK hD t h o ho b0) _ n j).trans (congrArg (· + _) ?_)
  subst ho
  unfold col
  pointwise

/-- The tile of head `h` of the gradient of the values. -/
theorem tile_v (t : Fin cfg0.N) (h : Fin 4) (o o' : ℕ) (ho : o = h.val * 256) (ho' : o' = 1024 + h.val * 256)
    (b0 : ∀ a, (![0, o] : Fin 2 → ℕ) a + S512x256.size a ≤ S512x1024.size a) (b1 : ∀ a, (![0, o] : Fin 2 → ℕ) a + S256x256.size a ≤ S256x2048.size a)
    (b2 : ∀ a, (![0, o'] : Fin 2 → ℕ) a + S256x256.size a ≤ S256x2048.size a) (p : S256x2048.Idx → EReal) (n j : Fin 256) :
    (k0_pay9 (k0_pay5 (View.ld (iblk m c 2 t) (Rect.unit (s := S512x1024) ![0, o] S512x256.size b0)))
        (k0_pay6 (View.ld (iblk m c 0 t) (Rect.unit (s := S512x1024) ![0, o] S512x256.size b0)) (View.ld (iblk m c 1 t) (Rect.unit (s := S256x2048) ![0, o] S256x256.size b1)))
        (View.ld p (Rect.unit (s := S256x2048) ![0, o'] S256x256.size b2))
      (ix2 n j) : EReal) = p (ix2 n ⟨1024 + (col h j).val, by omega⟩) + ((∑ i, dv Q KV D h (row t i) n j : ℝ) : EReal) := by
  refine (pay9 (ld_q m c Q KV D hQ hK hD t h o ho b0) (ld_k m c Q KV D hQ hK hD t h o ho b1)
    (ld_d m c Q KV D hQ hK hD t h o ho b0) _ n j).trans (congrArg (· + _) ?_)
  subst ho'
  unfold col
  pointwise
  exact congrArg (fun w => p (ix2 n w)) (Fin.ext (Nat.add_assoc ..))

omit hQ hK hD in
/-- Where a tile's local index lies in the array, read back. -/
theorem local_q {x : S512x256.Idx} {i : Fin 512} {h : Fin 4} {j : Fin 256} (g : Fin 4) (e0 : i.val = (x 0).val)
    (e1 : (col h j).val = g.val * 256 + (x 1).val) (l : (x 1).val < 256) : h = g ∧ x = ix2 i j := by
  have e : h.val * 256 + j.val = g.val * 256 + (x 1).val := e1
  have eh : h.val = g.val := by omega
  have ej : j = x 1 := Fin.ext (by omega)
  have ei : i = x 0 := Fin.ext e0
  exact ⟨Fin.ext eh, by rw [ej, ei]; exact eq_ix2 x⟩

omit hQ hK hD in
theorem local_k {x : S256x256.Idx} {i : Fin 256} {h : Fin 4} {j : Fin 256} (g : Fin 4) (e0 : i.val = (x 0).val)
    (e1 : (col h j).val = g.val * 256 + (x 1).val) (l : (x 1).val < 256) : h = g ∧ x = ix2 i j := by
  have e : h.val * 256 + j.val = g.val * 256 + (x 1).val := e1
  have eh : h.val = g.val := by omega
  have ej : j = x 1 := Fin.ext (by omega)
  have ei : i = x 0 := Fin.ext e0
  exact ⟨Fin.ext eh, by rw [ej, ei]; exact eq_ix2 x⟩

/-- The gradient of the queries at point `t`. -/
theorem out3 (t : Fin cfg0.N) (i : Fin 512) (h : Fin 4) (j : Fin 256) : ((outsAt0 m c t.val t.isLt).1 (ix2 i (col h j)) : EReal) = ((dq Q KV D h (row t i) j : ℝ) : EReal) := by
  by_cases a : t.val % 8 = 0
  · rw [outsAt0_A m c t a]
    frame_out
    canon_tiles
    · obtain ⟨rfl, rfl⟩ := local_q 3 h0 h1 x1_lt
      exact tile_q m c Q KV D hQ hK hD t 3 768 1792 rfl rfl _ _ _ i j
    · obtain ⟨rfl, rfl⟩ := local_q 2 h0 h1 x1_lt
      exact tile_q m c Q KV D hQ hK hD t 2 512 1536 rfl rfl _ _ _ i j
    · obtain ⟨rfl, rfl⟩ := local_q 1 h0 h1 x1_lt
      exact tile_q m c Q KV D hQ hK hD t 1 256 1280 rfl rfl _ _ _ i j
    · obtain ⟨rfl, rfl⟩ := local_q 0 h0 (h1.trans (Nat.zero_add _).symm) x1_lt
      exact tile_q m c Q KV D hQ hK hD t 0 0 1024 rfl rfl _ _ _ i j
  · rw [outsAt0_B m c t a]
    frame_out
    canon_tiles
    · obtain ⟨rfl, rfl⟩ := local_q 3 h0 h1 x1_lt
      exact tile_q m c Q KV D hQ hK hD t 3 768 1792 rfl rfl _ _ _ i j
    · obtain ⟨rfl, rfl⟩ := local_q 2 h0 h1 x1_lt
      exact tile_q m c Q KV D hQ hK hD t 2 512 1536 rfl rfl _ _ _ i j
    · obtain ⟨rfl, rfl⟩ := local_q 1 h0 h1 x1_lt
      exact tile_q m c Q KV D hQ hK hD t 1 256 1280 rfl rfl _ _ _ i j
    · obtain ⟨rfl, rfl⟩ := local_q 0 h0 (h1.trans (Nat.zero_add _).symm) x1_lt
      exact tile_q m c Q KV D hQ hK hD t 0 0 1024 rfl rfl _ _ _ i j

/-- What point `t` adds to the gradient of the keys. -/
theorem add_k (t : Fin cfg0.N) (p : S256x2048.Idx → EReal) (hp : (t.val % 8 = 0 ∧ p = k0_pay2 (F := Ideal)) ∨ (¬ t.val % 8 = 0 ∧ p = (outsAt0 m c (t.val - 1) (Nat.lt_of_le_of_lt (Nat.sub_le _ _) t.isLt)).2))
    (i : Fin 256) (h : Fin 4) (j : Fin 256) : ((outsAt0 m c t.val t.isLt).2 (ix2 i ⟨(col h j).val, by omega⟩) : EReal) =
      p (ix2 i ⟨(col h j).val, by omega⟩) + ((∑ r, dk Q KV D h (row t r) i j : ℝ) : EReal) := by
  rcases hp with ⟨a, rfl⟩ | ⟨a, rfl⟩
  · rw [outsAt0_A m c t a]
    frame_open
    simp (disch := decide) only [↓ View.readCov_skip, ↓ View.readCov_cons_toLoadRect, ↓ View.readCov_fill]
    frame_out
    refine (canon_drop [_, _, _, _, _, _, _, _] _ _ (View.cover_of_tiled_head _ _ _ (by rfl) _)).trans ?_
    canon_tiles
    · have e : (col h j).val = 1792 + (x 1).val := h1
      omega
    · obtain ⟨rfl, rfl⟩ := local_k 3 h0 h1 x1_lt
      exact tile_k m c Q KV D hQ hK hD t 3 768 1792 rfl rfl _ _ _ _ i j
    · have e : (col h j).val = 1536 + (x 1).val := h1
      omega
    · obtain ⟨rfl, rfl⟩ := local_k 2 h0 h1 x1_lt
      exact tile_k m c Q KV D hQ hK hD t 2 512 1536 rfl rfl _ _ _ _ i j
    · have e : (col h j).val = 1280 + (x 1).val := h1
      omega
    · obtain ⟨rfl, rfl⟩ := local_k 1 h0 h1 x1_lt
      exact tile_k m c Q KV D hQ hK hD t 1 256 1280 rfl rfl _ _ _ _ i j
    · have e : (col h j).val = 1024 + (x 1).val := h1
      omega
    · obtain ⟨rfl, rfl⟩ := local_k 0 h0 (h1.trans (Nat.zero_add _).symm) x1_lt
      exact tile_k m c Q KV D hQ hK hD t 0 0 1024 rfl rfl _ _ _ _ i j
  · rw [outsAt0_B m c t a]
    frame_out
    canon_tiles
    · have e : (col h j).val = 1792 + (x 1).val := h1
      omega
    · obtain ⟨rfl, rfl⟩ := local_k 3 h0 h1 x1_lt
      exact tile_k m c Q KV D hQ hK hD t 3 768 1792 rfl rfl _ _ _ _ i j
    · have e : (col h j).val = 1536 + (x 1).val := h1
      omega
    · obtain ⟨rfl, rfl⟩ := local_k 2 h0 h1 x1_lt
      exact tile_k m c Q KV D hQ hK hD t 2 512 1536 rfl rfl _ _ _ _ i j
    · have e : (col h j).val = 1280 + (x 1).val := h1
      omega
    · obtain ⟨rfl, rfl⟩ := local_k 1 h0 h1 x1_lt
      exact tile_k m c Q KV D hQ hK hD t 1 256 1280 rfl rfl _ _ _ _ i j
    · have e : (col h j).val = 1024 + (x 1).val := h1
      omega
    · obtain ⟨rfl, rfl⟩ := local_k 0 h0 (h1.trans (Nat.zero_add _).symm) x1_lt
      exact tile_k m c Q KV D hQ hK hD t 0 0 1024 rfl rfl _ _ _ _ i j

/-- What point `t` adds to the gradient of the values. -/
theorem add_v (t : Fin cfg0.N) (p : S256x2048.Idx → EReal) (hp : (t.val % 8 = 0 ∧ p = k0_pay2 (F := Ideal)) ∨ (¬ t.val % 8 = 0 ∧ p = (outsAt0 m c (t.val - 1) (Nat.lt_of_le_of_lt (Nat.sub_le _ _) t.isLt)).2))
    (i : Fin 256) (h : Fin 4) (j : Fin 256) : ((outsAt0 m c t.val t.isLt).2 (ix2 i ⟨1024 + (col h j).val, by omega⟩) : EReal) =
      p (ix2 i ⟨1024 + (col h j).val, by omega⟩) + ((∑ r, dv Q KV D h (row t r) i j : ℝ) : EReal) := by
  rcases hp with ⟨a, rfl⟩ | ⟨a, rfl⟩
  · rw [outsAt0_A m c t a]
    frame_open
    simp (disch := decide) only [↓ View.readCov_skip, ↓ View.readCov_cons_toLoadRect, ↓ View.readCov_fill]
    frame_out
    refine (canon_drop [_, _, _, _, _, _, _, _] _ _ (View.cover_of_tiled_head _ _ _ (by rfl) _)).trans ?_
    canon_tiles
    · obtain ⟨rfl, rfl⟩ := local_k 3 h0 (by have e : 1024 + (col h j).val = 1792 + (x 1).val := h1; change (col h j).val = 768 + (x 1).val; omega) x1_lt
      exact tile_v m c Q KV D hQ hK hD t 3 768 1792 rfl rfl _ _ _ _ i j
    · have e : 1024 + (col h j).val = 768 + (x 1).val := h1
      omega
    · obtain ⟨rfl, rfl⟩ := local_k 2 h0 (by have e : 1024 + (col h j).val = 1536 + (x 1).val := h1; change (col h j).val = 512 + (x 1).val; omega) x1_lt
      exact tile_v m c Q KV D hQ hK hD t 2 512 1536 rfl rfl _ _ _ _ i j
    · have e : 1024 + (col h j).val = 512 + (x 1).val := h1
      omega
    · obtain ⟨rfl, rfl⟩ := local_k 1 h0 (by have e : 1024 + (col h j).val = 1280 + (x 1).val := h1; change (col h j).val = 256 + (x 1).val; omega) x1_lt
      exact tile_v m c Q KV D hQ hK hD t 1 256 1280 rfl rfl _ _ _ _ i j
    · have e : 1024 + (col h j).val = 256 + (x 1).val := h1
      omega
    · obtain ⟨rfl, rfl⟩ := local_k 0 h0 (by have e : 1024 + (col h j).val = 1024 + (x 1).val := h1; change (col h j).val = 0 * 256 + (x 1).val; omega) x1_lt
      exact tile_v m c Q KV D hQ hK hD t 0 0 1024 rfl rfl _ _ _ _ i j
    · have e : 1024 + (col h j).val = (x 1).val := h1
      omega
  · rw [outsAt0_B m c t a]
    frame_out
    canon_tiles
    · obtain ⟨rfl, rfl⟩ := local_k 3 h0 (by have e : 1024 + (col h j).val = 1792 + (x 1).val := h1; change (col h j).val = 768 + (x 1).val; omega) x1_lt
      exact tile_v m c Q KV D hQ hK hD t 3 768 1792 rfl rfl _ _ _ _ i j
    · have e : 1024 + (col h j).val = 768 + (x 1).val := h1
      omega
    · obtain ⟨rfl, rfl⟩ := local_k 2 h0 (by have e : 1024 + (col h j).val = 1536 + (x 1).val := h1; change (col h j).val = 512 + (x 1).val; omega) x1_lt
      exact tile_v m c Q KV D hQ hK hD t 2 512 1536 rfl rfl _ _ _ _ i j
    · have e : 1024 + (col h j).val = 512 + (x 1).val := h1
      omega
    · obtain ⟨rfl, rfl⟩ := local_k 1 h0 (by have e : 1024 + (col h j).val = 1280 + (x 1).val := h1; change (col h j).val = 256 + (x 1).val; omega) x1_lt
      exact tile_v m c Q KV D hQ hK hD t 1 256 1280 rfl rfl _ _ _ _ i j
    · have e : 1024 + (col h j).val = 256 + (x 1).val := h1
      omega
    · obtain ⟨rfl, rfl⟩ := local_k 0 h0 (by have e : 1024 + (col h j).val = 1024 + (x 1).val := h1; change (col h j).val = 0 * 256 + (x 1).val; omega) x1_lt
      exact tile_v m c Q KV D hQ hK hD t 0 0 1024 rfl rfl _ _ _ _ i j
    · have e : 1024 + (col h j).val = (x 1).val := h1
      omega

omit hQ hK hD in
theorem split (a : Fin 1024) : ∃ h j, a = col h j :=
  ⟨⟨a.val / 256, by omega⟩, ⟨a.val % 256, by omega⟩, Fin.ext (by unfold col; simp only; omega)⟩

omit hQ hK hD in
theorem col_div (h : Fin 4) (j : Fin 256) : (⟨(col h j).val / 256, by omega⟩ : Fin 4) = h :=
  Fin.ext (by unfold col; simp only; omega)

omit hQ hK hD in
theorem col_mod (h : Fin 4) (j : Fin 256) : (⟨(col h j).val % 256, by omega⟩ : Fin 256) = j :=
  Fin.ext (by unfold col; simp only; omega)

/-- The gradient of the queries, as the kernel leaves it. -/
theorem arr3 (R : S4096x1024.Idx → EReal) (hR : ∀ r h j, R (ix2 r (col h j)) = ((dq Q KV D h r j : ℝ) : EReal)) :
    (dats m 0 c).arrAt 3 cfg0.N = R := by
  refine (dats m 0 c).arrAt_eq_of_covers 3 _ (by decide +kernel) fun t _ (y : S512x1024.Idx) => ?_
  obtain ⟨i, j, rfl⟩ : ∃ (i : Fin 512) (j : Fin 1024), y = ix2 i j := ⟨y 0, y 1, eq_ix2 y⟩
  obtain ⟨h, j, rfl⟩ := split j
  blk_simp
  rw [after0_3, out3 m c Q KV D hQ hK hD]
  have eb : ((win0_3.blk t).view.emb (ix2 i (col h j)) : S4096x1024.Idx) = ix2 (row t i) (col h j) := by
    unfold row
    blk_ext! [idx t]
  exact ((congrArg R eb).trans (hR _ _ _)).symm

theorem sum_k (n : Fin 256) (h : Fin 4) (j : Fin 256) : ((outsAt0 m c t0_7.val t0_7.isLt).2 (ix2 n ⟨(col h j).val, by omega⟩) : EReal) =
    ((∑ r, dk Q KV D h r n j : ℝ) : EReal) := by
  refine (fold_sum (fun k e => ((outsAt0 m c k e).2 (ix2 n ⟨(col h j).val, by omega⟩) : EReal)) (fun t => ∑ r, dk Q KV D h (row t r) n j) ?_ ?_ 7 t0_7.isLt N_0).trans
    (congrArg ((↑) : ℝ → EReal) (sum_blocks (congrArg (· * 512) N_0).symm (fun r => dk Q KV D h r n j) row fun _ _ => rfl))
  · intro e
    refine (add_k m c Q KV D hQ hK hD ⟨0, e⟩ _ (Or.inl ⟨rfl, rfl⟩) n h j).trans ?_
    pointwise [k0_pay2]
  · intro k e
    have hk := lt_of_lt_of_eq e N_0
    exact add_k m c Q KV D hQ hK hD ⟨k + 1, e⟩ _ (Or.inr ⟨by simp only; omega, rfl⟩) n h j

theorem sum_v (n : Fin 256) (h : Fin 4) (j : Fin 256) : ((outsAt0 m c t0_7.val t0_7.isLt).2 (ix2 n ⟨1024 + (col h j).val, by omega⟩) : EReal) =
    ((∑ r, dv Q KV D h r n j : ℝ) : EReal) := by
  refine (fold_sum (fun k e => ((outsAt0 m c k e).2 (ix2 n ⟨1024 + (col h j).val, by omega⟩) : EReal)) (fun t => ∑ r, dv Q KV D h (row t r) n j) ?_ ?_ 7 t0_7.isLt N_0).trans
    (congrArg ((↑) : ℝ → EReal) (sum_blocks (congrArg (· * 512) N_0).symm (fun r => dv Q KV D h r n j) row fun _ _ => rfl))
  · intro e
    refine (add_v m c Q KV D hQ hK hD ⟨0, e⟩ _ (Or.inl ⟨rfl, rfl⟩) n h j).trans ?_
    pointwise [k0_pay2]
  · intro k e
    have hk := lt_of_lt_of_eq e N_0
    exact add_v m c Q KV D hQ hK hD ⟨k + 1, e⟩ _ (Or.inr ⟨by simp only; omega, rfl⟩) n h j

/-- The gradient of the keys and values, as the kernel leaves it. -/
theorem arr4 (R : S256x2048.Idx → EReal) (hk : ∀ n h j, R (ix2 n ⟨(col h j).val, by omega⟩) = ((∑ r, dk Q KV D h r n j : ℝ) : EReal))
    (hv : ∀ n h j, R (ix2 n ⟨1024 + (col h j).val, by omega⟩) = ((∑ r, dv Q KV D h r n j : ℝ) : EReal)) :
    (dats m 0 c).arrAt 4 cfg0.N = R := by
  refine (dats m 0 c).arrAt_eq_of_after_last 4 t0_7 (by decide +kernel) _ fun (y : S256x2048.Idx) => ?_
  obtain ⟨i, j, rfl⟩ : ∃ (i : Fin 256) (j : Fin 2048), y = ix2 i j := ⟨y 0, y 1, eq_ix2 y⟩
  blk_simp
  rw [after0_4]
  by_cases l : j.val < 1024
  · obtain ⟨h, k, e⟩ := split ⟨j.val, l⟩
    have e' : j.val = (col h k).val := congrArg Fin.val e
    rw [show j = ⟨(col h k).val, by omega⟩ from Fin.ext e']
    exact (sum_k m c Q KV D hQ hK hD i h k).trans (hk i h k).symm
  · obtain ⟨h, k, e⟩ := split ⟨j.val - 1024, by omega⟩
    have e' : j.val - 1024 = (col h k).val := congrArg Fin.val e
    rw [show j = ⟨1024 + (col h k).val, by omega⟩ from Fin.ext (by simp only; omega)]
    exact (sum_v m c Q KV D hQ hK hD i h k).trans (hv i h k).symm

end

section
variable (x0 : S4096x1024.Idx → EReal) (x1 : S256x2048.Idx → EReal) (x2 : S4096x1024.Idx → EReal)
  (Q : S4096x1024.Idx → ℝ) (KV : S256x2048.Idx → ℝ) (D : S4096x1024.Idx → ℝ)
  (e0 : x0 = fun i => ((Q i : ℝ) : EReal)) (e1 : x1 = fun i => ((KV i : ℝ) : EReal)) (e2 : x2 = fun i => ((D i : ℝ) : EReal))

section
include e0 e1

/-- The scores, in the reference. -/
theorem ref_v8 (h : Fin 4) (r : Fin 4096) (n : Fin 256) : (val_main_v8 (F := Ideal) x0 x1 (ix4 0 h r n) : EReal) = ((score (kh KV h) (rh Q h r) n : ℝ) : EReal) := by
  pointwise [val_main_v8, val_main_v7, val_main_v6, val_main_v4, val_main_v2, val_main_v1, val_main_v0, val_main_cst]
  simp only [congrFun e0, congrFun e1, bits_inv16, ← EReal.coe_mul, coe_sum]
  refine congrArg ((↑) : ℝ → EReal) (congrArg (· * (1 / 16)) (Finset.sum_congr rfl fun j _ => ?_))
  exact mul_comm _ _

/-- The greatest score of a row is a real. -/
theorem ref_v16 (h : Fin 4) (r : Fin 4096) : ∃ M : ℝ, (val_main_v16 (F := Ideal) x0 x1 (ix3 0 h r) : EReal) = (M : EReal) := by
  have h8 := fun n => ref_v8 x0 x1 Q KV e0 e1 h r n
  obtain ⟨M, hM⟩ := max_real Finset.univ (fun x => score (kh KV h) (rh Q h r) x) ⟨0, Finset.mem_univ _⟩
  refine ⟨M, ?_⟩
  have h9 : (val_main_v9 (F := Ideal) x0 x1 (ix3 0 h r) : EReal) = (M : EReal) := by
    unfold val_main_v9
    rw [host_max]
    simp only [h8]
    exact hM
  have h15 : (val_main_v15 (F := Ideal) (ix3 0 h r) : EReal) = Ideal.ofBits .f32 0xFF800000#32 := by
    pointwise [val_main_v15, val_main_cst_2]
  unfold val_main_v16
  rw [host_maximum, h15, h9, bits_bot]
  exact max_eq_right bot_le

variable (h : Fin 4) (r : Fin 4096) (M : ℝ) (hM : (val_main_v16 (F := Ideal) x0 x1 (ix3 0 h r) : EReal) = (M : EReal))
include hM

/-- The shifted exponentials, in the reference. -/
theorem ref_v29 (n : Fin 256) : (val_main_v29 (F := Ideal) x0 x1 (ix4 0 h r n) : EReal) = ((Real.exp (score (kh KV h) (rh Q h r) n - M) : ℝ) : EReal) := by
  have h8 := fun n => ref_v8 x0 x1 Q KV e0 e1 h r n
  pointwise [val_main_v29, val_main_v28, val_main_v27, val_main_v26]
  simp only [h8, hM, ← EReal.coe_sub, Ideal.exp_coe]

/-- Their sum, in the reference. -/
theorem ref_v30 : (val_main_v30 (F := Ideal) x0 x1 (ix3 0 h r) : EReal) = ((∑ n, Real.exp (score (kh KV h) (rh Q h r) n - M) : ℝ) : EReal) := by
  have h29 := ref_v29 x0 x1 Q KV e0 e1 h r M hM
  pointwise [val_main_v30, val_main_cst_8]
  simp only [h29, coe_sum]

end

section
include e0 e1

/-- The attention, in the reference. -/
theorem ref_v33 (h : Fin 4) (r : Fin 4096) (n : Fin 256) : (val_main_v33 (F := Ideal) x0 x1 (ix4 0 h r n) : EReal) = ((prob (kh KV h) (rh Q h r) n : ℝ) : EReal) := by
  obtain ⟨M, hM⟩ := ref_v16 x0 x1 Q KV e0 e1 h r
  have h29 := ref_v29 x0 x1 Q KV e0 e1 h r M hM
  have h30 := ref_v30 x0 x1 Q KV e0 e1 h r M hM
  pointwise [val_main_v33, val_main_v32, val_main_v31]
  rw [h29, h30, coe_div _ _ (sum_exp_pos _).ne', prob_shift]

include e2

/-- The gradient of the scores, in the reference. -/
theorem ref_v59 (h : Fin 4) (r : Fin 4096) (n : Fin 256) : (val_main_v59 (F := Ideal) x0 x1 x2 (ix4 0 h r n) : EReal) =
    ((dscore (kh KV h) (vh KV h) (rh Q h r) (rh D h r) n : ℝ) : EReal) := by
  obtain ⟨M, hM⟩ := ref_v16 x0 x1 Q KV e0 e1 h r
  have h29 := ref_v29 x0 x1 Q KV e0 e1 h r M hM
  have h30 := ref_v30 x0 x1 Q KV e0 e1 h r M hM
  have h42 : ∀ n, (val_main_v42 (F := Ideal) x1 x2 (ix4 0 h r n) : EReal) = ((∑ j, vh KV h n j * rh D h r j : ℝ) : EReal) := by
    intro n
    pointwise [val_main_v42, val_main_v41, val_main_v40, val_main_v5, val_main_v3, val_main_v1]
    simp only [congrFun e1, congrFun e2, ← EReal.coe_mul, coe_sum]
    refine congrArg ((↑) : ℝ → EReal) (Finset.sum_congr rfl fun j _ => ?_)
    exact mul_comm _ _
  have hp := fun n => prob_shift (kh KV h) (rh Q h r) M n
  have hs := sum_exp_pos fun n => score (kh KV h) (rh Q h r) n - M
  have h36 : (val_main_v36 (F := Ideal) x0 x1 (ix4 0 h r 0) : EReal) = ((1 / ((∑ a, Real.exp (score (kh KV h) (rh Q h r) a - M)) * ∑ a, Real.exp (score (kh KV h) (rh Q h r) a - M)) : ℝ) : EReal) := by
    pointwise [val_main_v36, val_main_v35, val_main_v34, val_main_v31, val_main_cst_9]
    rw [h30, ← EReal.coe_mul, ← EReal.coe_one, coe_div _ _ (mul_pos hs hs).ne']
  have h48 : (val_main_v48 (F := Ideal) x0 x1 x2 (ix3 0 h r) : EReal) = ((∑ n, (∑ j, vh KV h n j * rh D h r j) *
      (1 / ((∑ a, Real.exp (score (kh KV h) (rh Q h r) a - M)) * ∑ a, Real.exp (score (kh KV h) (rh Q h r) a - M))) *
      Real.exp (score (kh KV h) (rh Q h r) n - M) : ℝ) : EReal) := by
    pointwise [val_main_v48, val_main_v47, val_main_v46, val_main_v45, val_main_cst_10]
    simp only [h29, h42, h36, ← EReal.coe_mul, coe_sum]
  have h50 : (val_main_v50 (F := Ideal) x0 x1 x2 (ix4 0 h r 0) : EReal) = -(val_main_v48 (F := Ideal) x0 x1 x2 (ix3 0 h r) : EReal) := by
    pointwise [val_main_v50, val_main_v49]
  have h53 : (val_main_v53 (F := Ideal) x0 x1 x2 (ix2 h r) : EReal) = -(val_main_v48 (F := Ideal) x0 x1 x2 (ix3 0 h r) : EReal) := by
    refine Eq.trans ?_ h50
    unfold val_main_v53
    rw [Host.reduceAdd_apply, Ideal.hostReduceAdd_def, host_unit]
    pointwise [val_main_cst_11]
  pointwise [val_main_v59, val_main_v58, val_main_v57, val_main_v56, val_main_v55, val_main_v54, val_main_v52, val_main_v51, val_main_v31, val_main_cst_12]
  rw [h29, h30, h42, h53, h48, coe_div _ _ hs.ne', bits_inv16, ← EReal.coe_neg, ← EReal.coe_add, ← EReal.coe_mul, ← EReal.coe_mul]
  refine congrArg ((↑) : ℝ → EReal) ?_
  unfold dscore
  simp only [← hp]
  have hn := hs.ne'
  generalize (∑ a, Real.exp (score (kh KV h) (rh Q h r) a - M)) = l at hn
  have hq : (∑ a, Real.exp (score (kh KV h) (rh Q h r) a - M) / l * ∑ j, vh KV h a j * rh D h r j) =
      (∑ n, (∑ j, vh KV h n j * rh D h r j) * (1 / (l * l)) * Real.exp (score (kh KV h) (rh Q h r) n - M)) * l := by
    rw [Finset.sum_mul]
    refine Finset.sum_congr rfl fun a _ => ?_
    field_simp
  rw [hq]
  field_simp
  ring

/-- The gradient of the queries, in the reference. -/
theorem ref_v69 (r : Fin 4096) (h : Fin 4) (j : Fin 256) : (val_main_v69 (F := Ideal) x0 x1 x2 (ix2 r (col h j)) : EReal) = ((dq Q KV D h r j : ℝ) : EReal) := by
  have h59 := ref_v59 x0 x1 x2 Q KV D e0 e1 e2
  have h62 : (val_main_v62 (F := Ideal) x0 x1 x2 (ix4 0 h r j) : EReal) = ((dq Q KV D h r j : ℝ) : EReal) := by
    pointwise [val_main_v62, val_main_v4, val_main_v2, val_main_v1]
    simp only [h59, congrFun e1, ← EReal.coe_mul, coe_sum]
    rfl
  refine Eq.trans ?_ h62
  pointwise [val_main_v69, val_main_v68, val_main_v63]
  exact congrArg₂ (fun u v => (val_main_v62 (F := Ideal) x0 x1 x2 (ix4 0 u r v) : EReal)) (col_div h j) (col_mod h j)

/-- The gradient of the keys, in the reference. -/
theorem ref_v67_k (n : Fin 256) (h : Fin 4) (j : Fin 256) : (val_main_v67 (F := Ideal) x0 x1 x2 (ix2 n ⟨(col h j).val, by omega⟩) : EReal) = ((∑ r, dk Q KV D h r n j : ℝ) : EReal) := by
  have h59 := ref_v59 x0 x1 x2 Q KV D e0 e1 e2
  have h60 : (val_main_v60 (F := Ideal) x0 x1 x2 (ix4 0 h n j) : EReal) = ((∑ r, dk Q KV D h r n j : ℝ) : EReal) := by
    pointwise [val_main_v60, val_main_v0]
    simp only [h59, congrFun e0, ← EReal.coe_mul, coe_sum]
    rfl
  refine Eq.trans ?_ h60
  pointwise [val_main_v67, val_main_v66, val_main_v65, val_main_v61]
  exact congrArg₂ (fun u v => (val_main_v60 (F := Ideal) x0 x1 x2 (ix4 0 u n v) : EReal)) (col_div h j) (col_mod h j)

/-- The gradient of the values, in the reference. -/
theorem ref_v67_v (n : Fin 256) (h : Fin 4) (j : Fin 256) : (val_main_v67 (F := Ideal) x0 x1 x2 (ix2 n ⟨1024 + (col h j).val, by omega⟩) : EReal) = ((∑ r, dv Q KV D h r n j : ℝ) : EReal) := by
  have h33 := ref_v33 x0 x1 Q KV e0 e1
  have h43 : (val_main_v43 (F := Ideal) x0 x1 x2 (ix4 0 h j n) : EReal) = ((∑ r, dv Q KV D h r n j : ℝ) : EReal) := by
    pointwise [val_main_v43, val_main_v41, val_main_v40]
    simp only [h33, congrFun e2, ← EReal.coe_mul, coe_sum]
    exact congrArg ((↑) : ℝ → EReal) (Finset.sum_congr rfl fun r _ => mul_comm _ _)
  refine Eq.trans ?_ h43
  pointwise [val_main_v67, val_main_v66, val_main_v64, val_main_v44]
  exact congrArg₂ (fun u v => (val_main_v43 (F := Ideal) x0 x1 x2 (ix4 0 u v n) : EReal)) (col_div h j) (col_mod h j)

end

end

/-- Finite arguments are real arrays. -/
theorem real_args (h : Cert.Pre_XattnKernelIdeal_finite_xattn m) (c : Dev nD) : ∃ (Q : S4096x1024.Idx → ℝ) (KV : S256x2048.Idx → ℝ) (D : S4096x1024.Idx → ℝ),
    m ((c : Thread nD τ).loc main_arg0) = (fun i => ((Q i : ℝ) : EReal)) ∧ m ((c : Thread nD τ).loc main_arg1) = (fun i => ((KV i : ℝ) : EReal)) ∧
    m ((c : Thread nD τ).loc main_arg2) = fun i => ((D i : ℝ) : EReal) := by
  obtain ⟨a0, a1, a2⟩ := h c
  obtain ⟨Q, e0⟩ := reals _ fun i => congrFun a0 i
  obtain ⟨KV, e1⟩ := reals _ fun i => congrFun a1 i
  obtain ⟨D, e2⟩ := reals _ fun i => congrFun a2 i
  exact ⟨Q, KV, D, e0, e1, e2⟩

theorem frame_kernel : Cert.quiescent_XattnKernel := fun m ρ _ => Cert.XattnKernel.Gen.frame m ρ
theorem frame_ideal : Cert.quiescent_XattnKernelIdeal := fun m ρ _ => Cert.XattnKernelIdeal.Gen.frame m ρ
theorem frame_ideal_pre : Cert.quiescent_XattnKernelIdeal_pre_finite_xattn := fun m ρ _ => Cert.XattnKernelIdeal.Gen.frame m ρ
theorem frame_reference : Cert.quiescent_XattnReferenceIdeal := fun m ρ _ =>
  (θ_run Cert.XattnReferenceIdeal.defs _ _).mono
    (fun r h => ⟨fun c => (h c).2.2, sem_eq_zero_of_no_sems (by decide) r.2⟩)
    (Cert.XattnReferenceIdeal.Value.run m ρ)
theorem frame_reference_pre : Cert.quiescent_XattnReferenceIdeal_pre_finite_xattn := fun m ρ _ => frame_reference m ρ trivial

set_option maxHeartbeats 1600000 in
theorem algebraic : Cert.algebraic_XattnKernelIdeal_XattnReferenceIdeal_pre_finite_xattn := by
  pair_intro
  · run_from Cert.XattnKernelIdeal.Value.run_blocks m g
  · run_from Cert.XattnReferenceIdeal.Value.run m' g'
    all_goals obtain ⟨Q, KV, D, hQ, hK, hD⟩ := real_args m hpre c
    all_goals obtain ⟨a0, a1, a2⟩ := hagree c
    · refine (val_main_v69_eq m' c).trans ?_
      rw [a0, a1, a2]
      exact (arr3 m c Q KV D hQ hK hD _ (ref_v69 _ _ _ Q KV D hQ hK hD)).symm
    · refine (val_main_v67_eq m' c).trans ?_
      rw [a0, a1, a2]
      exact (arr4 m c Q KV D hQ hK hD _ (ref_v67_k _ _ _ Q KV D hQ hK hD) (ref_v67_v _ _ _ Q KV D hQ hK hD)).symm

end Cert.Proof.Xattn

end
-- ==== Proof.XattnF.lean ====
/- The cross attention of the forward pass, which the gradient recomputes -/
module

public import proofs.«01_k».proof.Defs
public import proofs.«01_k».proof.Proof.Gen.XattnFKernel.Frame
public import proofs.«01_k».proof.Proof.Gen.XattnFKernelIdeal.Value
public import proofs.«01_k».proof.Proof.Gen.XattnFReferenceIdeal.Read
public import proofs.«01_k».proof.Proof.Gen.Pre_finite_xattnf
public import proofs.«01_k».proof.Proof.Xattn

@[expose] public section

set_option maxRecDepth 16384

noncomputable section

namespace Cert.Proof.XattnF

open Idealize.ShloMosaic Idealize.ShloMosaic.TcCoe Idealize.SL.Sem
open Idealize.ShloMosaic.Pipeline (Dat)
open Cert.Proof.Reals
open Cert.Proof.Xattn (score prob kh vh rh col max_real host_max host_maximum prob_shift sum_exp_pos split col_div col_mod local_q)
open Cert.XattnFKernelIdeal Cert.XattnFKernelIdeal.Gen Cert.XattnFReferenceIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The row of the arrays that row `i` of block `t` is. -/
def row (t : Fin cfg0.N) (i : Fin 512) : Fin 4096 :=
  ⟨t.val * 512 + i.val, by have := lt_of_lt_of_eq t.isLt N_0; omega⟩

/-- One row's attention applied to the values. -/
noncomputable def att (k v : Fin 256 → Fin 256 → ℝ) (q : Fin 256 → ℝ) (j : Fin 256) : ℝ := ∑ n, prob k q n * v n j

/-- A tile's payload: the attention of each of its rows. -/
theorem pay2 {q : Vec Ideal S512x256 .bf16} {k v : Vec Ideal S256x256 .bf16} {Q : Fin 512 → Fin 256 → ℝ} {K V : Fin 256 → Fin 256 → ℝ}
    (hq : ∀ i j, (q (ix2 i j) : EReal) = ((Q i j : ℝ) : EReal)) (hk : ∀ i j, (k (ix2 i j) : EReal) = ((K i j : ℝ) : EReal))
    (hv : ∀ i j, (v (ix2 i j) : EReal) = ((V i j : ℝ) : EReal)) (i : Fin 512) (j : Fin 256) :
    (k0_pay2 q k v (ix2 i j) : EReal) = ((att K V (Q i) j : ℝ) : EReal) := by
  pointwise [k0_pay2]
  have hs : ∀ n, (∑ j, Q i j * K n j) * (1 / 16) = score K (Q i) n := fun n =>
    congrArg (· * (1 / 16 : ℝ)) (Finset.sum_congr rfl fun j _ => mul_comm _ _)
  simp only [hq, hk, hv, bits_inv16, ← EReal.coe_mul, coe_sum, hs]
  obtain ⟨M, hM⟩ := max_real Finset.univ (fun x => score K (Q i) x) ⟨0, Finset.mem_univ _⟩
  rw [hM]
  simp only [← EReal.coe_sub, Ideal.exp_coe, coe_sum, coe_div _ _ (sum_exp_pos _).ne', prob_shift, ← EReal.coe_mul]
  rfl

section
variable (c : Dev nD) (Q : S4096x1024.Idx → ℝ) (KV : S256x2048.Idx → ℝ)
  (hQ : m ((c : Thread nD τ).loc main_arg0) = fun i => ((Q i : ℝ) : EReal))
  (hK : m ((c : Thread nD τ).loc main_arg1) = fun i => ((KV i : ℝ) : EReal))
include hQ hK

theorem in_0 (t : Fin cfg0.N) (i : Fin 512) (j : Fin 1024) : (iblk m c 0 t (ix2 i j) : EReal) = ((Q (ix2 (row t i) j) : ℝ) : EReal) := by
  have e : ∀ x : S4096x1024.Idx → EReal, m ((c : Thread nD τ).loc main_arg0) = x → (iblk m c 0 t (ix2 i j) : EReal) = x (ix2 (row t i) j) := by
    intro x e
    subst e
    unfold row
    blk_point [iblk, V, idx t]
  rw [e _ hQ]

theorem in_1 (t : Fin cfg0.N) (i : Fin 256) (j : Fin 2048) : (iblk m c 1 t (ix2 i j) : EReal) = ((KV (ix2 i j) : ℝ) : EReal) := by
  have e : ∀ x : S256x2048.Idx → EReal, m ((c : Thread nD τ).loc main_arg1) = x → (iblk m c 1 t (ix2 i j) : EReal) = x (ix2 i j) := by
    intro x e
    subst e
    blk_point [iblk, V, idx t]
  rw [e _ hK]

/-- The tile of head `h`: its queries, keys and values are columns of the blocks. -/
theorem tile (t : Fin cfg0.N) (h : Fin 4) (o o' : ℕ) (ho : o = h.val * 256) (ho' : o' = 1024 + h.val * 256)
    (b0 : ∀ a, (![0, o] : Fin 2 → ℕ) a + S512x256.size a ≤ S512x1024.size a) (b1 : ∀ a, (![0, o] : Fin 2 → ℕ) a + S256x256.size a ≤ S256x2048.size a)
    (b2 : ∀ a, (![0, o'] : Fin 2 → ℕ) a + S256x256.size a ≤ S256x2048.size a) (i : Fin 512) (j : Fin 256) :
    (k0_pay2 (View.ld (iblk m c 0 t) (Rect.unit (s := S512x1024) ![0, o] S512x256.size b0)) (View.ld (iblk m c 1 t) (Rect.unit (s := S256x2048) ![0, o] S256x256.size b1))
      (View.ld (iblk m c 1 t) (Rect.unit (s := S256x2048) ![0, o'] S256x256.size b2)) (ix2 i j) : EReal) =
      ((att (kh KV h) (vh KV h) (rh Q h (row t i)) j : ℝ) : EReal) := by
  subst ho ho'
  refine pay2 (Q := fun i => rh Q h (row t i)) (fun i j => ?_) (fun i j => ?_) (fun i j => ?_) i j
  · refine Eq.trans ?_ (in_0 m c Q KV hQ hK t i (col h j))
    unfold col
    pointwise
  · refine Eq.trans ?_ (in_1 m c Q KV hQ hK t i ⟨(col h j).val, by omega⟩)
    unfold col
    pointwise
  · refine Eq.trans ?_ (in_1 m c Q KV hQ hK t i ⟨1024 + (col h j).val, by omega⟩)
    unfold col
    pointwise
    exact congrArg (fun w => iblk m c 1 t (ix2 i w)) (Fin.ext (Nat.add_assoc ..))

/-- The block point `t` leaves. -/
theorem out2 (t : Fin cfg0.N) (i : Fin 512) (h : Fin 4) (j : Fin 256) : (out0_2 (iblk m c 0 t) (iblk m c 1 t) (ix2 i (col h j)) : EReal) =
    ((att (kh KV h) (vh KV h) (rh Q h (row t i)) j : ℝ) : EReal) := by
  unfold out0_2
  canon_tiles
  · obtain ⟨rfl, rfl⟩ := local_q 3 h0 h1 x1_lt
    exact tile m c Q KV hQ hK t 3 768 1792 rfl rfl _ _ _ i j
  · obtain ⟨rfl, rfl⟩ := local_q 2 h0 h1 x1_lt
    exact tile m c Q KV hQ hK t 2 512 1536 rfl rfl _ _ _ i j
  · obtain ⟨rfl, rfl⟩ := local_q 1 h0 h1 x1_lt
    exact tile m c Q KV hQ hK t 1 256 1280 rfl rfl _ _ _ i j
  · obtain ⟨rfl, rfl⟩ := local_q 0 h0 (h1.trans (Nat.zero_add _).symm) x1_lt
    exact tile m c Q KV hQ hK t 0 0 1024 rfl rfl _ _ _ i j

/-- The attention, as the kernel leaves it. -/
theorem arr2 (R : S4096x1024.Idx → EReal) (hR : ∀ r h j, R (ix2 r (col h j)) = ((att (kh KV h) (vh KV h) (rh Q h r) j : ℝ) : EReal)) :
    (dats m 0 c).arrAt 2 cfg0.N = R := by
  refine (dats m 0 c).arrAt_eq_of_covers 2 _ (by decide +kernel) fun t _ (y : S512x1024.Idx) => ?_
  obtain ⟨i, j, rfl⟩ : ∃ (i : Fin 512) (j : Fin 1024), y = ix2 i j := ⟨y 0, y 1, eq_ix2 y⟩
  obtain ⟨h, j, rfl⟩ := split j
  blk_simp
  rw [after0_2, out2 m c Q KV hQ hK]
  have eb : ((win0_2.blk t).view.emb (ix2 i (col h j)) : S4096x1024.Idx) = ix2 (row t i) (col h j) := by
    unfold row
    blk_ext! [idx t]
  exact ((congrArg R eb).trans (hR _ _ _)).symm

end

section
variable (x0 : S4096x1024.Idx → EReal) (x1 : S256x2048.Idx → EReal) (Q : S4096x1024.Idx → ℝ) (KV : S256x2048.Idx → ℝ)
  (e0 : x0 = fun i => ((Q i : ℝ) : EReal)) (e1 : x1 = fun i => ((KV i : ℝ) : EReal))
include e0 e1

/-- The attention's weights, in the reference: the same lines as the gradient's. -/
theorem ref_v19 (h : Fin 4) (r : Fin 4096) (n : Fin 256) : (val_main_v19 (F := Ideal) x0 x1 (ix4 0 h r n) : EReal) = ((prob (kh KV h) (rh Q h r) n : ℝ) : EReal) :=
  (show val_main_v19 (F := Ideal) x0 x1 = Cert.XattnReferenceIdeal.Read.val_main_v33 (F := Ideal) x0 x1 from rfl) ▸
    Cert.Proof.Xattn.ref_v33 x0 x1 Q KV e0 e1 h r n

/-- The attention, in the reference. -/
theorem ref_v23 (r : Fin 4096) (h : Fin 4) (j : Fin 256) : (val_main_v23 (F := Ideal) x0 x1 (ix2 r (col h j)) : EReal) =
    ((att (kh KV h) (vh KV h) (rh Q h r) j : ℝ) : EReal) := by
  have h19 := ref_v19 x0 x1 Q KV e0 e1
  have h20 : (val_main_v20 (F := Ideal) x0 x1 (ix4 0 h j r) : EReal) = ((att (kh KV h) (vh KV h) (rh Q h r) j : ℝ) : EReal) := by
    pointwise [val_main_v20, val_main_v5, val_main_v3, val_main_v1]
    simp only [h19, congrFun e1, ← EReal.coe_mul, coe_sum]
    exact congrArg ((↑) : ℝ → EReal) (Finset.sum_congr rfl fun n _ => mul_comm _ _)
  refine Eq.trans ?_ h20
  pointwise [val_main_v23, val_main_v22, val_main_v21]
  exact congrArg₂ (fun u v => (val_main_v20 (F := Ideal) x0 x1 (ix4 0 u v r) : EReal)) (col_div h j) (col_mod h j)

end

/-- Finite arguments are real arrays. -/
theorem real_args (h : Cert.Pre_XattnFKernelIdeal_finite_xattnf m) (c : Dev nD) : ∃ (Q : S4096x1024.Idx → ℝ) (KV : S256x2048.Idx → ℝ),
    m ((c : Thread nD τ).loc main_arg0) = (fun i => ((Q i : ℝ) : EReal)) ∧ m ((c : Thread nD τ).loc main_arg1) = fun i => ((KV i : ℝ) : EReal) := by
  obtain ⟨a0, a1⟩ := h c
  obtain ⟨Q, e0⟩ := reals _ fun i => congrFun a0 i
  obtain ⟨KV, e1⟩ := reals _ fun i => congrFun a1 i
  exact ⟨Q, KV, e0, e1⟩

theorem frame_kernel : Cert.quiescent_XattnFKernel := fun m ρ _ => Cert.XattnFKernel.Gen.frame m ρ
theorem frame_ideal : Cert.quiescent_XattnFKernelIdeal := fun m ρ _ => Cert.XattnFKernelIdeal.Gen.frame m ρ
theorem frame_ideal_pre : Cert.quiescent_XattnFKernelIdeal_pre_finite_xattnf := fun m ρ _ => Cert.XattnFKernelIdeal.Gen.frame m ρ
theorem frame_reference : Cert.quiescent_XattnFReferenceIdeal := fun m ρ _ =>
  (θ_run Cert.XattnFReferenceIdeal.defs _ _).mono
    (fun r h => ⟨fun c => (h c).2, sem_eq_zero_of_no_sems (by decide) r.2⟩)
    (Cert.XattnFReferenceIdeal.Value.run m ρ)
theorem frame_reference_pre : Cert.quiescent_XattnFReferenceIdeal_pre_finite_xattnf := fun m ρ _ => frame_reference m ρ trivial

theorem algebraic : Cert.algebraic_XattnFKernelIdeal_XattnFReferenceIdeal_pre_finite_xattnf := by
  pair_intro
  · run_from Cert.XattnFKernelIdeal.Value.run_blocks m g
  · run_from Cert.XattnFReferenceIdeal.Value.run m' g'
    obtain ⟨Q, KV, hQ, hK⟩ := real_args m hpre c
    obtain ⟨a0, a1⟩ := hagree c
    refine (val_main_v23_eq _ _).trans ?_
    exact (arr2 m c Q KV hQ hK _ (ref_v23 _ _ Q KV hQ hK)).symm

end Cert.Proof.XattnF

end
-- ==== Proof.MixO.lean ====
/- The product with its norm and residual, forward -/
module

public import proofs.«01_k».proof.Defs
public import proofs.«01_k».proof.Proof.Gen.MixOKernel.Frame
public import proofs.«01_k».proof.Proof.Gen.MixOKernelIdeal.Value
public import proofs.«01_k».proof.Proof.Gen.MixOReferenceIdeal.Read
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.MixO

open Idealize.ShloMosaic Idealize.ShloMosaic.TcCoe Idealize.SL.Sem
open Idealize.ShloMosaic.Pipeline (Dat)
open Cert.Proof.Reals
open Cert.MixOKernelIdeal Cert.MixOKernelIdeal.Gen Cert.MixOReferenceIdeal.Read

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![t.val, 0] ∧ win0_6.index t = ![t.val, 0] ∧ win0_7.index t = ![t.val, 0] :=
  (by decide +kernel : ∀ t : Fin grid0.N, _)

/-- The row of the arrays that row `i` of block `t` is. -/
def row (t : Fin cfg0.N) (i : Fin 512) : Fin 4096 :=
  ⟨t.val * 512 + i.val, by have := lt_of_lt_of_eq t.isLt N_0; omega⟩

section
variable (c : Dev nD) (x0 : S4096x1024.Idx → EReal) (x1 : S1024x1024.Idx → EReal) (x2 : S1024.Idx → EReal) (x3 : S4096x1024.Idx → EReal)
  (x4 : S1024.Idx → EReal)
  (e0 : m ((c : Thread nD τ).loc main_arg0) = x0) (e1 : m ((c : Thread nD τ).loc main_arg1) = x1) (e2 : m ((c : Thread nD τ).loc main_arg2) = x2)
  (e3 : m ((c : Thread nD τ).loc main_arg3) = x3) (e4 : m ((c : Thread nD τ).loc main_arg4) = x4)

include e0 in
theorem in_0 (t : Fin cfg0.N) (i : Fin 512) (j : Fin 1024) : (iblk m c 0 t (ix2 i j) : EReal) = x0 (ix2 (row t i) j) := by
  subst e0
  unfold row
  blk_point [iblk, V, idx t]

include e1 in
theorem in_1 (t : Fin cfg0.N) (i : Fin 1024) (j : Fin 1024) : (iblk m c 1 t (ix2 i j) : EReal) = x1 (ix2 i j) := by
  subst e1
  blk_point [iblk, V, idx t]

include e2 in
theorem in_2 (t : Fin cfg0.N) (i : Fin 1) (j : Fin 1024) : (iblk m c 2 t (ix2 i j) : EReal) = x2 (ix1 j) := by
  subst e2
  blk_point [iblk, V, idx t]

include e3 in
theorem in_3 (t : Fin cfg0.N) (i : Fin 512) (j : Fin 1024) : (iblk m c 3 t (ix2 i j) : EReal) = x3 (ix2 (row t i) j) := by
  subst e3
  unfold row
  blk_point [iblk, V, idx t]

include e4 in
theorem in_4 (t : Fin cfg0.N) (i : Fin 1) (j : Fin 1024) : (iblk m c 4 t (ix2 i j) : EReal) = x4 (ix1 j) := by
  subst e4
  blk_point [iblk, V, idx t]

include e0 e1 in
/-- A block of the product. -/
theorem prod (t : Fin cfg0.N) (i : Fin 512) (j : Fin 1024) :
    (k0_pay2 (iblk m c 0 t) (iblk m c 1 t) (ix2 i j) : EReal) = val_main_v0 (F := Ideal) x0 x1 (ix2 (row t i) j) := by
  pointwise [k0_pay2, val_main_v0]
  simp only [in_0 m c x0 e0, in_1 m c x1 e1]

include e0 e1 e2 e3 in
/-- A block of the stream after the sub-layer. -/
theorem stream (t : Fin cfg0.N) (i : Fin 512) (j : Fin 1024) :
    (k0_pay4 (iblk m c 0 t) (iblk m c 1 t) (iblk m c 3 t) (iblk m c 2 t) (ix2 i j) : EReal) =
      val_main_v14 (F := Ideal) x0 x1 x2 x3 (ix2 (row t i) j) := by
  pointwise [k0_pay4, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  simp only [prod m c x0 x1 e0 e1, in_2 m c x2 e2, in_3 m c x3 e3]

include e0 e1 in
/-- The product, as the kernel leaves it. -/
theorem arr5 : (dats m 0 c).arrAt 5 cfg0.N = val_main_v15 (F := Ideal) x0 x1 := by
  refine (dats m 0 c).arrAt_eq_of_covers 5 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_5]
  have eb : ((win0_5.blk t).view.emb (ix2 i j) : S4096x1024.Idx) = ix2 (row t i) j := by
    unfold row
    blk_ext! [idx t]
  refine Eq.trans ?_ (congrArg (val_main_v15 (F := Ideal) x0 x1) eb).symm
  unfold out0_5
  frame_out
  pointwise [k0_pay3, val_main_v15]
  exact prod m c x0 x1 e0 e1 t i j

include e0 e1 e2 e3 in
/-- The stream, as the kernel leaves it. -/
theorem arr6 : (dats m 0 c).arrAt 6 cfg0.N = val_main_v14 (F := Ideal) x0 x1 x2 x3 := by
  refine (dats m 0 c).arrAt_eq_of_covers 6 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_6]
  have eb : ((win0_6.blk t).view.emb (ix2 i j) : S4096x1024.Idx) = ix2 (row t i) j := by
    unfold row
    blk_ext! [idx t]
  refine Eq.trans ?_ (congrArg (val_main_v14 (F := Ideal) x0 x1 x2 x3) eb).symm
  unfold out0_6
  frame_out
  exact stream m c x0 x1 x2 x3 e0 e1 e2 e3 t i j

include e0 e1 e2 e3 e4 in
/-- The next norm of the stream, as the kernel leaves it. -/
theorem arr7 : (dats m 0 c).arrAt 7 cfg0.N = val_main_v29 (F := Ideal) x0 x1 x2 x3 x4 := by
  refine (dats m 0 c).arrAt_eq_of_covers 7 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_7]
  have eb : ((win0_7.blk t).view.emb (ix2 i j) : S4096x1024.Idx) = ix2 (row t i) j := by
    unfold row
    blk_ext! [idx t]
  refine Eq.trans ?_ (congrArg (val_main_v29 (F := Ideal) x0 x1 x2 x3 x4) eb).symm
  unfold out0_7
  frame_out
  pointwise [k0_pay1, k0_pay5, k0_pay6, val_main_v15, val_main_v16, val_main_v17, val_main_v18, val_main_v19, val_main_v20, val_main_v21, val_main_v22, val_main_v23, val_main_v24, val_main_v25, val_main_v26, val_main_v27, val_main_v28, val_main_v29, val_main_cst_2, val_main_cst_3, val_main_cst_4]
  simp only [stream m c x0 x1 x2 x3 e0 e1 e2 e3, in_4 m c x4 e4]

end

theorem frame_kernel : Cert.quiescent_MixOKernel := fun m ρ _ => Cert.MixOKernel.Gen.frame m ρ
theorem frame_ideal : Cert.quiescent_MixOKernelIdeal := fun m ρ _ => Cert.MixOKernelIdeal.Gen.frame m ρ
theorem frame_reference : Cert.quiescent_MixOReferenceIdeal := fun m ρ _ =>
  (θ_run Cert.MixOReferenceIdeal.defs _ _).mono
    (fun r h => ⟨fun c => (h c).2.2.2, sem_eq_zero_of_no_sems (by decide) r.2⟩)
    (Cert.MixOReferenceIdeal.Value.run m ρ)

theorem algebraic : Cert.algebraic_MixOKernelIdeal_MixOReferenceIdeal := by
  pair_intro
  · run_from Cert.MixOKernelIdeal.Value.run_blocks m g
  · run_from Cert.MixOReferenceIdeal.Value.run m' g'
    all_goals obtain ⟨a0, a1, a2, a3, a4⟩ := hagree c
    · refine (val_main_v15_eq _ _).trans ?_
      exact (arr5 m c _ _ rfl rfl).symm
    · refine (val_main_v14_eq _ _ _ _).trans ?_
      exact (arr6 m c _ _ _ _ rfl rfl rfl rfl).symm
    · refine (val_main_v29_eq _ _ _ _ _).trans ?_
      exact (arr7 m c _ _ _ _ _ rfl rfl rfl rfl rfl).symm

end Cert.Proof.MixO

end
-- ==== Proof.FfnO.lean ====
/- The gated activation, its product with the norm and residual, and the next norm, forward -/
module

public import proofs.«01_k».proof.Defs
public import proofs.«01_k».proof.Proof.Gen.FfnOKernel.Frame
public import proofs.«01_k».proof.Proof.Gen.FfnOKernelIdeal.Value
public import proofs.«01_k».proof.Proof.Gen.FfnOReferenceIdeal.Read
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnO

open Idealize.ShloMosaic Idealize.ShloMosaic.TcCoe Idealize.SL.Sem
open Idealize.ShloMosaic.Pipeline (Dat)
open Cert.Proof.Reals
open Cert.FfnOKernelIdeal Cert.FfnOKernelIdeal.Gen Cert.FfnOReferenceIdeal.Read

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![t.val, 0] ∧ win0_6.index t = ![t.val, 0] ∧ win0_7.index t = ![t.val, 0]
    ∧ win0_8.index t = ![t.val, 0] :=
  (by decide +kernel : ∀ t : Fin grid0.N, _)

/-- The row of the arrays that row `i` of block `t` is. -/
def row (t : Fin cfg0.N) (i : Fin 256) : Fin 4096 :=
  ⟨t.val * 256 + i.val, by have := lt_of_lt_of_eq t.isLt N_0; omega⟩

/-- The gated activation of gate `g` and factor `u`. -/
def gated (g u : EReal) : EReal := g * Ideal.div 1 (1 + Ideal.exp (-g)) * u

theorem pay2 (g u : Vec Ideal S256x640 .bf16) (x : S256x640.Idx) : (k0_pay2 g u x : EReal) = gated (g x) (u x) := by
  obtain ⟨i, k, rfl⟩ : ∃ (i : Fin 256) (k : Fin 640), x = ix2 i k := ⟨x 0, x 1, eq_ix2 x⟩
  pointwise [k0_pay2]
  rw [zero_sub]
  rfl

theorem pay7 (g u : Vec Ideal S256x256 .bf16) (x : S256x256.Idx) : (k0_pay7 (k0_pay6 g) u x : EReal) = gated (g x) (u x) := by
  obtain ⟨i, k, rfl⟩ : ∃ (i : Fin 256) (k : Fin 256), x = ix2 i k := ⟨x 0, x 1, eq_ix2 x⟩
  pointwise [k0_pay7, k0_pay6]
  rw [zero_sub]
  rfl

section
variable (c : Dev nD) (x0 : S4096x5632.Idx → EReal) (x1 : S2816x1024.Idx → EReal) (x2 : S1024.Idx → EReal) (x3 : S4096x1024.Idx → EReal)
  (x4 : S1024.Idx → EReal)
  (e0 : m ((c : Thread nD τ).loc main_arg0) = x0) (e1 : m ((c : Thread nD τ).loc main_arg1) = x1) (e2 : m ((c : Thread nD τ).loc main_arg2) = x2)
  (e3 : m ((c : Thread nD τ).loc main_arg3) = x3) (e4 : m ((c : Thread nD τ).loc main_arg4) = x4)

include e0 in
theorem in_0 (t : Fin cfg0.N) (i : Fin 256) (j : Fin 5632) : (iblk m c 0 t (ix2 i j) : EReal) = x0 (ix2 (row t i) j) := by
  subst e0
  unfold row
  blk_point [iblk, V, idx t]

include e1 in
theorem in_1 (t : Fin cfg0.N) (i : Fin 2816) (j : Fin 1024) : (iblk m c 1 t (ix2 i j) : EReal) = x1 (ix2 i j) := by
  subst e1
  blk_point [iblk, V, idx t]

include e2 in
theorem in_2 (t : Fin cfg0.N) (i : Fin 1) (j : Fin 1024) : (iblk m c 2 t (ix2 i j) : EReal) = x2 (ix1 j) := by
  subst e2
  blk_point [iblk, V, idx t]

include e3 in
theorem in_3 (t : Fin cfg0.N) (i : Fin 256) (j : Fin 1024) : (iblk m c 3 t (ix2 i j) : EReal) = x3 (ix2 (row t i) j) := by
  subst e3
  unfold row
  blk_point [iblk, V, idx t]

include e4 in
theorem in_4 (t : Fin cfg0.N) (i : Fin 1) (j : Fin 1024) : (iblk m c 4 t (ix2 i j) : EReal) = x4 (ix1 j) := by
  subst e4
  blk_point [iblk, V, idx t]

theorem ref_act (r : Fin 4096) (j : Fin 2816) :
    (val_main_v3 (F := Ideal) x0 (ix2 r j) : EReal) = gated (x0 (ix2 r ⟨j.val, by omega⟩)) (x0 (ix2 r ⟨2816 + j.val, by omega⟩)) := by
  pointwise [val_main_v3, val_main_v2, val_main_v1, val_main_v0, val_main_call0_v0, val_main_call0_v1, val_main_call0_v2, val_main_call0_v3, val_main_call0_v4, val_main_call0_v5, val_main_call0_cst, val_main_call0_cst_0]
  rfl

include e0 in
theorem ld_g {n : ℕ} (t : Fin cfg0.N) (o : ℕ) (b) (i : Fin 256) (j : Fin n) (h : o + j.val < 5632) :
    (View.ld (iblk m c 0 t) (Rect.unit (s := S256x5632) ![0, o] ![256, n] b) (ix2 i j) : EReal) = x0 (ix2 (row t i) ⟨o + j.val, h⟩) := by
  refine Eq.trans ?_ (in_0 m c x0 e0 t i ⟨o + j.val, h⟩)
  pointwise

include e0 in
theorem tile (t : Fin cfg0.N) (o o' : ℕ) (ho : o' = 2816 + o) (b b') (x : S256x640.Idx) (i : Fin 256) (j : Fin 2816) (h0 : i.val = (x 0).val) (h1 : j.val = o + (x 1).val) :
    (k0_pay2 (View.ld (iblk m c 0 t) (Rect.unit (s := S256x5632) ![0, o] ![256, 640] b)) (View.ld (iblk m c 0 t) (Rect.unit (s := S256x5632) ![0, o'] ![256, 640] b')) x : EReal) =
      val_main_v3 (F := Ideal) x0 (ix2 (row t i) j) := by
  subst ho
  obtain ⟨a, k, rfl⟩ : ∃ (a : Fin 256) (k : Fin 640), x = ix2 a k := ⟨x 0, x 1, eq_ix2 x⟩
  obtain rfl : i = a := Fin.ext h0
  have h1 : j.val = o + k.val := h1
  rw [show j = ⟨o + k.val, h1 ▸ j.isLt⟩ from Fin.ext h1, pay2, ref_act x0 (row t i), ld_g m c x0 e0 t o b i k (by omega), ld_g m c x0 e0 t (2816 + o) b' i k (by omega)]
  simp only [Nat.add_assoc]

include e0 in
theorem last (t : Fin cfg0.N) (b b') (x : S256x256.Idx) (i : Fin 256) (j : Fin 2816) (h0 : i.val = (x 0).val) (h1 : j.val = 2560 + (x 1).val) :
    (k0_pay7 (k0_pay6 (View.ld (iblk m c 0 t) (Rect.unit (s := S256x5632) ![0, 2560] ![256, 256] b))) (View.ld (iblk m c 0 t) (Rect.unit (s := S256x5632) ![0, 5376] ![256, 256] b')) x : EReal) =
      val_main_v3 (F := Ideal) x0 (ix2 (row t i) j) := by
  obtain ⟨a, k, rfl⟩ : ∃ (a : Fin 256) (k : Fin 256), x = ix2 a k := ⟨x 0, x 1, eq_ix2 x⟩
  obtain rfl : i = a := Fin.ext h0
  have h1 : j.val = 2560 + k.val := h1
  rw [show j = ⟨2560 + k.val, h1 ▸ j.isLt⟩ from Fin.ext h1, pay7, ref_act x0 (row t i), ld_g m c x0 e0 t 2560 b i k (by omega), ld_g m c x0 e0 t 5376 b' i k (by omega)]
  simp only [← Nat.add_assoc]

/-- What the body stores into its scratch, the last store first. -/
def tiles (v : Vec Ideal S256x5632 .bf16) : List (View.Piece (Elt Ideal) S256x2816 .bf16) :=
  [⟨Rect.unit ![0, 2560] ![256, 256] inb_S256x2816_S256x256_0_2560, k0_pay7 (k0_pay6 (View.ld v (Rect.unit ![0, 2560] ![256, 256] inb_S256x5632_S256x256_0_2560)))
      (View.ld v (Rect.unit ![0, 5376] ![256, 256] inb_S256x5632_S256x256_0_5376))⟩,
    ⟨Rect.unit ![0, 1920] ![256, 640] inb_S256x2816_S256x640_0_1920, k0_pay5 (View.ld v (Rect.unit ![0, 1920] ![256, 640] inb_S256x5632_S256x640_0_1920))
      (View.ld v (Rect.unit ![0, 4736] ![256, 640] inb_S256x5632_S256x640_0_4736))⟩,
    ⟨Rect.unit ![0, 1280] ![256, 640] inb_S256x2816_S256x640_0_1280, k0_pay4 (View.ld v (Rect.unit ![0, 1280] ![256, 640] inb_S256x5632_S256x640_0_1280))
      (View.ld v (Rect.unit ![0, 4096] ![256, 640] inb_S256x5632_S256x640_0_4096))⟩,
    ⟨Rect.unit ![0, 640] ![256, 640] inb_S256x2816_S256x640_0_640, k0_pay3 (View.ld v (Rect.unit ![0, 640] ![256, 640] inb_S256x5632_S256x640_0_640))
      (View.ld v (Rect.unit ![0, 3456] ![256, 640] inb_S256x5632_S256x640_0_3456))⟩,
    ⟨Rect.unit ![0, 0] ![256, 640] inb_S256x2816_S256x640_0_0, k0_pay2 (View.ld v (Rect.unit ![0, 0] ![256, 640] inb_S256x5632_S256x640_0_0))
      (View.ld v (Rect.unit ![0, 2816] ![256, 640] inb_S256x5632_S256x640_0_2816))⟩]

/-- A block of the gated activation. -/
def act (t : Fin cfg0.N) : Vec Ideal S256x2816 .bf16 := fun x => val_main_v3 (F := Ideal) x0 (ix2 (row t (x 0)) (x 1))

include e0 in
theorem canon_act (t : Fin cfg0.N) (i : Fin 256) (j : Fin 2816) : (View.canon (tiles (iblk m c 0 t)) (ix2 i j) : EReal) = val_main_v3 (F := Ideal) x0 (ix2 (row t i) j) := by
  unfold tiles
  canon_tiles x h using View.cover_of_tiledBy _ ![256, 128] (by sl_kernel_rfl) _
  · exact last m c x0 e0 t _ _ x i j h0 h1
  · exact tile m c x0 e0 t 1920 4736 rfl _ _ x i j h0 h1
  · exact tile m c x0 e0 t 1280 4096 rfl _ _ x i j h0 h1
  · exact tile m c x0 e0 t 640 3456 rfl _ _ x i j h0 h1
  · exact tile m c x0 e0 t 0 2816 rfl _ _ x i j h0 (h1.trans (Nat.zero_add _).symm)

include e0 in
/-- What the body reads back from its scratch. -/
theorem read_act (t : Fin cfg0.N) (b) :
    (View.whole cc0_scratch0).readCov (tiles (iblk m c 0 t)) (Rect.unit (s := S256x2816) ![0, 0] ![256, 2816] b).toLoadRect = act x0 t := by
  rw [View.readCov_eq_canon _ _ _ fun j => View.cover_of_tiledBy _ ![256, 128] (by sl_kernel_rfl) _]
  funext x
  obtain ⟨i, j, rfl⟩ : ∃ (i : Fin 256) (j : Fin 2816), x = ix2 i j := ⟨x 0, x 1, eq_ix2 x⟩
  refine Eq.trans (congrArg (View.canon (tiles (iblk m c 0 t))) ?_) (canon_act m c x0 e0 t i j)
  blk_ext!
  all_goals exact (Nat.zero_add _).trans (Nat.one_mul _)

include e1 in
/-- A block of the product. -/
theorem prod (t : Fin cfg0.N) (i : Fin 256) (j : Fin 1024) :
    (k0_pay8 (act x0 t) (iblk m c 1 t) (ix2 i j) : EReal) = val_main_v4 (F := Ideal) x0 x1 (ix2 (row t i) j) := by
  pointwise [k0_pay8, val_main_v4]
  simp only [in_1 m c x1 e1]
  rfl

include e1 e2 e3 in
/-- A block of the stream after the sub-layer. -/
theorem stream (t : Fin cfg0.N) (i : Fin 256) (j : Fin 1024) :
    (k0_pay10 (act x0 t) (iblk m c 1 t) (iblk m c 3 t) (iblk m c 2 t) (ix2 i j) : EReal) =
      val_main_v18 (F := Ideal) x0 x1 x2 x3 (ix2 (row t i) j) := by
  pointwise [k0_pay10, val_main_v5, val_main_v6, val_main_v7, val_main_v8, val_main_v9, val_main_v10, val_main_v11, val_main_v12, val_main_v13, val_main_v14, val_main_v15, val_main_v16, val_main_v17, val_main_v18, val_main_cst, val_main_cst_0, val_main_cst_1]
  simp only [prod m c x0 x1 e1, in_2 m c x2 e2, in_3 m c x3 e3]

include e0 e1 in
/-- The product, as the kernel leaves it. -/
theorem arr5 : (dats m 0 c).arrAt 5 cfg0.N = val_main_v19 (F := Ideal) x0 x1 := by
  refine (dats m 0 c).arrAt_eq_of_covers 5 _ (by decide +kernel) fun t _ (y : S256x1024.Idx) => ?_
  obtain ⟨i, j, rfl⟩ : ∃ (i : Fin 256) (j : Fin 1024), y = ix2 i j := ⟨y 0, y 1, eq_ix2 y⟩
  blk_simp
  rw [after0_5]
  have eb : ((win0_5.blk t).view.emb (ix2 i j) : S4096x1024.Idx) = ix2 (row t i) j := by
    unfold row
    blk_ext! [idx t]
  refine Eq.trans ?_ (congrArg (val_main_v19 (F := Ideal) x0 x1) eb).symm
  unfold outsAt0
  dsimp only
  unfold out0_A_5
  frame_out
  refine (congrFun (congrArg (fun v => k0_pay9 v (iblk m c 1 t)) (read_act m c x0 e0 t _)) (ix2 i j)).trans ?_
  pointwise [k0_pay9, val_main_v19]
  exact prod m c x0 x1 e1 t i j

include e0 e1 e2 e3 in
/-- The stream, as the kernel leaves it. -/
theorem arr6 : (dats m 0 c).arrAt 6 cfg0.N = val_main_v18 (F := Ideal) x0 x1 x2 x3 := by
  refine (dats m 0 c).arrAt_eq_of_covers 6 _ (by decide +kernel) fun t _ (y : S256x1024.Idx) => ?_
  obtain ⟨i, j, rfl⟩ : ∃ (i : Fin 256) (j : Fin 1024), y = ix2 i j := ⟨y 0, y 1, eq_ix2 y⟩
  blk_simp
  rw [after0_6]
  have eb : ((win0_6.blk t).view.emb (ix2 i j) : S4096x1024.Idx) = ix2 (row t i) j := by
    unfold row
    blk_ext! [idx t]
  refine Eq.trans ?_ (congrArg (val_main_v18 (F := Ideal) x0 x1 x2 x3) eb).symm
  unfold outsAt0
  dsimp only
  unfold out0_A_6
  frame_out
  refine (congrFun (congrArg (fun v => k0_pay10 v (iblk m c 1 t) (iblk m c 3 t) (iblk m c 2 t)) (read_act m c x0 e0 t _)) (ix2 i j)).trans ?_
  exact stream m c x0 x1 x2 x3 e1 e2 e3 t i j

include e0 in
/-- The gated activation, as the kernel leaves it. -/
theorem arr7 : (dats m 0 c).arrAt 7 cfg0.N = val_main_v20 (F := Ideal) x0 := by
  refine (dats m 0 c).arrAt_eq_of_covers 7 _ (by decide +kernel) fun t _ (y : S256x2816.Idx) => ?_
  obtain ⟨i, j, rfl⟩ : ∃ (i : Fin 256) (j : Fin 2816), y = ix2 i j := ⟨y 0, y 1, eq_ix2 y⟩
  blk_simp
  rw [after0_7]
  have eb : ((win0_7.blk t).view.emb (ix2 i j) : S4096x2816.Idx) = ix2 (row t i) j := by
    unfold row
    blk_ext! [idx t]
  refine Eq.trans ?_ (congrArg (val_main_v20 (F := Ideal) x0) eb).symm
  unfold outsAt0
  dsimp only
  unfold out0_A_7
  frame_out
  refine (congrFun (read_act m c x0 e0 t _) (ix2 i j)).trans ?_
  pointwise [val_main_v20]
  rfl

include e0 e1 e2 e3 e4 in
/-- The next norm of the stream, as the kernel leaves it. -/
theorem arr8 : (dats m 0 c).arrAt 8 cfg0.N = val_main_v34 (F := Ideal) x0 x1 x2 x3 x4 := by
  refine (dats m 0 c).arrAt_eq_of_covers 8 _ (by decide +kernel) fun t _ (y : S256x1024.Idx) => ?_
  obtain ⟨i, j, rfl⟩ : ∃ (i : Fin 256) (j : Fin 1024), y = ix2 i j := ⟨y 0, y 1, eq_ix2 y⟩
  blk_simp
  rw [after0_8]
  have eb : ((win0_8.blk t).view.emb (ix2 i j) : S4096x1024.Idx) = ix2 (row t i) j := by
    unfold row
    blk_ext! [idx t]
  refine Eq.trans ?_ (congrArg (val_main_v34 (F := Ideal) x0 x1 x2 x3 x4) eb).symm
  unfold outsAt0
  dsimp only
  unfold out0_A_8
  frame_out
  refine (congrFun (congrArg (fun v => k0_pay1 (k0_pay10 v (iblk m c 1 t) (iblk m c 3 t) (iblk m c 2 t)) (k0_pay11 (iblk m c 4 t))
    (k0_pay12 v (iblk m c 1 t) (iblk m c 3 t) (iblk m c 2 t))) (read_act m c x0 e0 t _)) (ix2 i j)).trans ?_
  pointwise [k0_pay1, k0_pay11, k0_pay12, val_main_v21, val_main_v22, val_main_v23, val_main_v24, val_main_v25, val_main_v26, val_main_v27, val_main_v28, val_main_v29, val_main_v30, val_main_v31, val_main_v32, val_main_v33, val_main_v34, val_main_cst_2, val_main_cst_3, val_main_cst_4]
  simp only [stream m c x0 x1 x2 x3 e1 e2 e3, in_4 m c x4 e4]

end

theorem frame_kernel : Cert.quiescent_FfnOKernel := fun m ρ _ => Cert.FfnOKernel.Gen.frame m ρ
theorem frame_ideal : Cert.quiescent_FfnOKernelIdeal := fun m ρ _ => Cert.FfnOKernelIdeal.Gen.frame m ρ
theorem frame_reference : Cert.quiescent_FfnOReferenceIdeal := fun m ρ _ =>
  (θ_run Cert.FfnOReferenceIdeal.defs _ _).mono
    (fun r h => ⟨fun c => (h c).2.2.2.2, sem_eq_zero_of_no_sems (by decide) r.2⟩)
    (Cert.FfnOReferenceIdeal.Value.run m ρ)

theorem algebraic : Cert.algebraic_FfnOKernelIdeal_FfnOReferenceIdeal := by
  pair_intro
  · run_from Cert.FfnOKernelIdeal.Value.run_blocks m g
  · run_from Cert.FfnOReferenceIdeal.Value.run m' g'
    all_goals obtain ⟨a0, a1, a2, a3, a4⟩ := hagree c
    · refine (val_main_v19_eq _ _).trans ?_
      exact (arr5 m c _ _ rfl rfl).symm
    · refine (val_main_v18_eq _ _ _ _).trans ?_
      exact (arr6 m c _ _ _ _ rfl rfl rfl rfl).symm
    · refine (val_main_v20_eq _).trans ?_
      exact (arr7 m c _ rfl).symm
    · refine (val_main_v34_eq _ _).trans ?_
      rw [a0, a1, a2, a3, a4]
      exact (arr8 m c _ _ _ _ _ rfl rfl rfl rfl rfl).symm

end Cert.Proof.FfnO

end
-- ==== Proof.Rope.lean ====
/- The tables of the rotary embedding -/
module

public import proofs.«01_k».proof.Defs
public import proofs.«01_k».proof.Proof.Gen.RopeKernel.Frame
public import proofs.«01_k».proof.Proof.Gen.RopeKernelIdeal.Frame
public import proofs.«01_k».proof.Proof.Gen.RopeReferenceIdeal.Read
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Rope

open Idealize.ShloMosaic Idealize.ShloMosaic.TcCoe Idealize.SL.Sem
open Idealize.ShloMosaic.Pipeline (Dat)
open Cert.Proof.Reals
open Cert.RopeKernelIdeal Cert.RopeKernelIdeal.Gen Cert.RopeReferenceIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the arrays that row `i` of block `t` is. -/
def row (t : Fin cfg0.N) (i : Fin 512) : Fin 4096 :=
  ⟨t.val * 512 + i.val, by have := lt_of_lt_of_eq t.isLt N_0; omega⟩

/-- A place of a block, its lane split into the quarter and the frequency. -/
theorem split (y : S512x128.Idx) : ∃ (i : Fin 512) (q : Fin 4) (k : Fin 32), y = ix2 i ⟨q.val * 32 + k.val, by omega⟩ := by
  have h : (y 1).val < 128 := (y 1).isLt
  exact ⟨y 0, ⟨(y 1).val / 32, by omega⟩, ⟨(y 1).val % 32, Nat.mod_lt _ (by decide)⟩,
    (eq_ix2 y).trans (congrArg (ix2 (y 0)) (Fin.ext (Nat.div_add_mod' _ _).symm))⟩

/-- A choice by a word that is one exactly where `p` holds. -/
theorem sel {p : Prop} [Decidable p] {C : BitVec 1} {a b : EReal} (h : C = if p then 1#1 else 0#1) : Scalar.select C a b = if p then a else b := by
  subst h
  split_ifs <;> rfl

/-- The run ends with the two tables as the data of the pipeline name them. -/
theorem run_tables (ρ : Dev nD → PrngReg) : θ_run defs (onTc (τ := τ) (main (F := Ideal))) ⟨m, fun _ => 0, ρ⟩ fun r => ∀ c : Dev nD,
    r.2.mem ((c : Thread nD τ).loc main_v11_0) = (dats m 0 c).arrAt 2 cfg0.N ∧ r.2.mem ((c : Thread nD τ).loc main_v11_1) = (dats m 0 c).arrAt 3 cfg0.N
      ∧ r.2.mem ((c : Thread nD τ).loc main_arg0) = m ((c : Thread nD τ).loc main_arg0) :=
  (θ_run defs _ _).mono (fun _ h c => ⟨(h c).1 2, (h c).1 3,
    ((h c).2 main_arg0 (Pipeline.mem_restRefs_of main_arg0 (by decide) (by decide))).trans (V_main_arg0 m c)⟩) (run_main m ρ)

section
variable (c : Dev nD) (x0 : S1x4096.Idx → BitVec 32) (e0 : m ((c : Thread nD τ).loc main_arg0) = x0)

include e0 in
theorem in_0 (t : Fin cfg0.N) (i : Fin 512) (j : Fin 1) : (iblk m c 0 t (ix2 i j) : BitVec 32) = x0 (ix2 0 (row t i)) := by
  subst e0
  have eb : ((win0_0.blk t).view.emb (ix2 i j) : S4096x1.Idx) = ix2 (row t i) 0 := by
    unfold row
    blk_ext! [idx t]
  refine (congrArg (V m c main_v6) eb).trans ?_
  entry_read
  generalize row t i = r
  pointwise

theorem in_1 (t : Fin cfg0.N) (q : Fin 4) (k : Fin 32) :
    (iblk m c 1 t (ix2 0 ⟨q.val * 32 + k.val, by omega⟩) : EReal) = val_main_v5 (F := Ideal) (ix1 k) := by
  have eb : ((win0_1.blk t).view.emb (ix2 0 ⟨q.val * 32 + k.val, by omega⟩) : S1x128.Idx) = ix2 0 ⟨q.val * 32 + k.val, by omega⟩ := by
    blk_ext! [idx t]
  refine (congrArg (V m c main_v10) eb).trans ?_
  entry_read
  pointwise [val_main_v0, val_main_v1, val_main_cst, val_main_v2, val_main_v3, val_main_cst_0, val_main_v4, val_main_v5]

include e0 in
/-- A block of the angles; lane `32 q + k` holds frequency `k`. -/
theorem angle (t : Fin cfg0.N) (i : Fin 512) (q : Fin 4) (k : Fin 32) (n : ℕ) (hn : n < 32) (h : n = k.val) :
    (k0_pay1 (iblk m c 0 t) (iblk m c 1 t) (ix2 i ⟨q.val * 32 + k.val, by omega⟩) : EReal) = val_main_v12 (F := Ideal) x0 (ix2 (row t i) ⟨n, hn⟩) := by
  subst h
  have h1 := in_1 m c t q k
  generalize hr : row t i = r
  pointwise [k0_pay1, val_main_v6, val_main_v7, val_main_v8, val_main_v9, val_main_v10, val_main_v11, val_main_v12]
  rw [h1, in_0 m c x0 e0, hr]

include e0 in
theorem out2 (t : Fin cfg0.N) (i : Fin 512) (q : Fin 4) (k : Fin 32) : (out0_2 (iblk m c 0 t) (iblk m c 1 t) (ix2 i ⟨q.val * 32 + k.val, by omega⟩) : EReal) =
    val_main_v15 (F := Ideal) x0 (ix2 (row t i) ⟨q.val * 32 + k.val, by omega⟩) := by
  unfold out0_2
  frame_out
  have ha := angle m c x0 e0 t i q k
  pointwise [k0_pay2, val_main_v15, val_main_v13]
  split_ifs <;> exact congrArg Ideal.cos (ha _ _ (by omega))

include e0 in
theorem out3 (t : Fin cfg0.N) (i : Fin 512) (q : Fin 4) (k : Fin 32) : (out0_3 (iblk m c 0 t) (iblk m c 1 t) (ix2 i ⟨q.val * 32 + k.val, by omega⟩) : EReal) =
    val_main_v18 (F := Ideal) x0 (ix2 (row t i) ⟨q.val * 32 + k.val, by omega⟩) := by
  unfold out0_3
  frame_out
  have ha := angle m c x0 e0 t i q k
  pointwise [k0_pay3, val_main_v18, val_main_v14, val_main_v16, val_main_v17]
  refine (sel (p := q.val % 2 = 0) ?_).trans ?_
  · clear ha
    revert q k
    decide +kernel
  · split_ifs <;> first
      | (exfalso; omega)
      | exact (zero_sub _).trans (congrArg (fun x => -Ideal.sin x) (ha _ _ (by omega)))
      | exact congrArg Ideal.sin (ha _ _ (by omega))

include e0 in
theorem arr2 : (dats m 0 c).arrAt 2 cfg0.N = val_main_v15 (F := Ideal) x0 := by
  refine (dats m 0 c).arrAt_eq_of_covers 2 _ (by decide +kernel) fun t _ (y : S512x128.Idx) => ?_
  obtain ⟨i, q, k, rfl⟩ := split y
  blk_simp
  rw [after0_2, out2 m c x0 e0]
  have eb : ((win0_2.blk t).view.emb (ix2 i ⟨q.val * 32 + k.val, by omega⟩) : S4096x128.Idx) = ix2 (row t i) ⟨q.val * 32 + k.val, by omega⟩ := by
    unfold row
    blk_ext! [idx t]
  exact (congrArg (val_main_v15 (F := Ideal) x0) eb).symm

include e0 in
theorem arr3 : (dats m 0 c).arrAt 3 cfg0.N = val_main_v18 (F := Ideal) x0 := by
  refine (dats m 0 c).arrAt_eq_of_covers 3 _ (by decide +kernel) fun t _ (y : S512x128.Idx) => ?_
  obtain ⟨i, q, k, rfl⟩ := split y
  blk_simp
  rw [after0_3, out3 m c x0 e0]
  have eb : ((win0_3.blk t).view.emb (ix2 i ⟨q.val * 32 + k.val, by omega⟩) : S4096x128.Idx) = ix2 (row t i) ⟨q.val * 32 + k.val, by omega⟩ := by
    unfold row
    blk_ext! [idx t]
  exact (congrArg (val_main_v18 (F := Ideal) x0) eb).symm

end

theorem frame_kernel : Cert.quiescent_RopeKernel := fun m ρ _ => Cert.RopeKernel.Gen.frame m ρ
theorem frame_ideal : Cert.quiescent_RopeKernelIdeal := fun m ρ _ => Cert.RopeKernelIdeal.Gen.frame m ρ
theorem frame_reference : Cert.quiescent_RopeReferenceIdeal := fun m ρ _ =>
  (θ_run Cert.RopeReferenceIdeal.defs _ _).mono
    (fun r h => ⟨fun c => (h c).2.2, sem_eq_zero_of_no_sems (by decide) r.2⟩)
    (Cert.RopeReferenceIdeal.Value.run m ρ)

theorem algebraic : Cert.algebraic_RopeKernelIdeal_RopeReferenceIdeal := by
  pair_intro
  · run_from run_tables m g
  · run_from Cert.RopeReferenceIdeal.Value.run m' g'
    all_goals rw [hagree c]
    · exact (val_main_v15_eq _).trans (arr2 m c _ rfl).symm
    · exact (val_main_v18_eq _).trans (arr3 m c _ rfl).symm

end Cert.Proof.Rope

end
-- ==== Proof.Mm.lean ====
/- The first product of the feed-forward layer -/
module

public import proofs.«01_k».proof.Defs
public import proofs.«01_k».proof.Proof.Gen.MmKernel.Frame
public import proofs.«01_k».proof.Proof.Gen.MmKernelIdeal.Value
public import proofs.«01_k».proof.Proof.Gen.MmReferenceIdeal.Read
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Mm

open Idealize.ShloMosaic Idealize.ShloMosaic.TcCoe Idealize.SL.Sem
open Idealize.ShloMosaic.Pipeline (Dat)
open Cert.Proof.Reals
open Cert.MmKernelIdeal Cert.MmKernelIdeal.Gen Cert.MmReferenceIdeal.Read

variable (m : (ℓ : Loc nD τ sig) → Buf (Elt Ideal) ℓ)

theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

/-- The row of the product that row `i` of block `t` is. -/
def row (t : Fin cfg0.N) (i : Fin 512) : Fin 4096 :=
  ⟨t.val % 8 * 512 + i.val, by omega⟩

/-- The column of the product that column `j` of block `t` is. -/
def col (t : Fin cfg0.N) (j : Fin 1408) : Fin 5632 :=
  ⟨t.val / 8 * 1408 + j.val, by have := lt_of_lt_of_eq t.isLt N_0; omega⟩

section
variable (c : Dev nD) (x0 : S4096x1024.Idx → EReal) (x1 : S1024x5632.Idx → EReal)
  (e0 : m ((c : Thread nD τ).loc main_arg0) = x0) (e1 : m ((c : Thread nD τ).loc main_arg1) = x1)

include e0 in
theorem in_0 (t : Fin cfg0.N) (i : Fin 512) (j : Fin 1024) : (iblk m c 0 t (ix2 i j) : EReal) = x0 (ix2 (row t i) j) := by
  subst e0
  unfold row
  blk_point [iblk, V, idx t]

include e1 in
theorem in_1 (t : Fin cfg0.N) (i : Fin 1408) (j : Fin 1024) : (iblk m c 1 t (ix2 i j) : EReal) = x1 (ix2 j (col t i)) := by
  subst e1
  unfold col
  blk_point [iblk, V, idx t]

include e0 e1 in
/-- The product, as the kernel leaves it. -/
theorem arr2 : (dats m 0 c).arrAt 2 cfg0.N = val_main_v1 (F := Ideal) x0 x1 := by
  refine (dats m 0 c).arrAt_eq_of_covers 2 _ (by decide +kernel) fun t _ (y : S512x1408.Idx) => ?_
  obtain ⟨i, j, rfl⟩ : ∃ (i : Fin 512) (j : Fin 1408), y = ix2 i j := ⟨y 0, y 1, eq_ix2 y⟩
  blk_simp
  rw [after0_2]
  have eb : ((win0_2.blk t).view.emb (ix2 i j) : S4096x5632.Idx) = ix2 (row t i) (col t j) := by
    unfold row col
    blk_ext! [idx t]
  refine Eq.trans ?_ (congrArg (val_main_v1 (F := Ideal) x0 x1) eb).symm
  unfold out0_2
  frame_out
  pointwise [k0_pay1, val_main_v0, val_main_v1]
  simp only [in_0 m c x0 e0, in_1 m c x1 e1]

end

theorem frame_kernel : Cert.quiescent_MmKernel := fun m ρ _ => Cert.MmKernel.Gen.frame m ρ
theorem frame_ideal : Cert.quiescent_MmKernelIdeal := fun m ρ _ => Cert.MmKernelIdeal.Gen.frame m ρ
theorem frame_reference : Cert.quiescent_MmReferenceIdeal := fun m ρ _ =>
  (θ_run Cert.MmReferenceIdeal.defs _ _).mono
    (fun r h => ⟨fun c => (h c).2, sem_eq_zero_of_no_sems (by decide) r.2⟩)
    (Cert.MmReferenceIdeal.Value.run m ρ)

theorem algebraic : Cert.algebraic_MmKernelIdeal_MmReferenceIdeal := by
  pair_intro
  · run_from Cert.MmKernelIdeal.Value.run_blocks m g
  · run_from Cert.MmReferenceIdeal.Value.run m' g'
    all_goals obtain ⟨a0, a1⟩ := hagree c
    · refine (val_main_v1_eq _ _).trans ?_
      exact (arr2 m c _ _ rfl rfl).symm

end Cert.Proof.Mm

end
-- ==== Proof.Wgrad.lean ====
/- The gradient of a weight: the product of a transposed cotangent with the input -/
module

public import proofs.«01_k».proof.Defs
public import proofs.«01_k».proof.Proof.Gen.WgradKernel.Frame
public import proofs.«01_k».proof.Proof.Gen.WgradKernelIdeal.Value
public import proofs.«01_k».proof.Proof.Gen.WgradReferenceIdeal.Read
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Wgrad

open Idealize.ShloMosaic Idealize.ShloMosaic.TcCoe Idealize.SL.Sem
open Idealize.ShloMosaic.Pipeline (Dat)
open Cert.Proof.Reals
open Cert.WgradKernelIdeal Cert.WgradKernelIdeal.Gen Cert.WgradReferenceIdeal.Read

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The row of the gradient that row `i` of block `t` is. -/
def row (t : Fin cfg0.N) (i : Fin 512) : Fin 5632 :=
  ⟨t.val * 512 + i.val, by have := lt_of_lt_of_eq t.isLt N_0; omega⟩

section
variable (c : Dev nD) (x0 : S4096x1024.Idx → EReal) (x1 : S4096x5632.Idx → EReal)
  (e0 : m ((c : Thread nD τ).loc main_arg0) = x0) (e1 : m ((c : Thread nD τ).loc main_arg1) = x1)

include e1 in
theorem in_0 (t : Fin cfg0.N) (i : Fin 4096) (j : Fin 512) : (iblk m c 0 t (ix2 i j) : EReal) = x1 (ix2 i (row t j)) := by
  subst e1
  unfold row
  blk_point [iblk, V, idx t]

include e0 in
theorem in_1 (t : Fin cfg0.N) (i : Fin 4096) (j : Fin 1024) : (iblk m c 1 t (ix2 i j) : EReal) = x0 (ix2 i j) := by
  subst e0
  blk_point [iblk, V, idx t]

include e0 e1 in
/-- The gradient, as the kernel leaves it. -/
theorem arr2 : (dats m 0 c).arrAt 2 cfg0.N = val_main_v4 (F := Ideal) x0 x1 := by
  refine (dats m 0 c).arrAt_eq_of_covers 2 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_2]
  have eb : ((win0_2.blk t).view.emb (ix2 i j) : S5632x1024.Idx) = ix2 (row t i) j := by
    unfold row
    blk_ext! [idx t]
  refine Eq.trans ?_ (congrArg (val_main_v4 (F := Ideal) x0 x1) eb).symm
  unfold out0_2
  frame_out
  pointwise [k0_pay1, val_main_v2, val_main_v3, val_main_v4]
  simp only [in_0 m c x1 e1, in_1 m c x0 e0]

end

theorem frame_kernel : Cert.quiescent_WgradKernel := fun m ρ _ => Cert.WgradKernel.Gen.frame m ρ
theorem frame_ideal : Cert.quiescent_WgradKernelIdeal := fun m ρ _ => Cert.WgradKernelIdeal.Gen.frame m ρ
theorem frame_reference : Cert.quiescent_WgradReferenceIdeal := fun m ρ _ =>
  (θ_run Cert.WgradReferenceIdeal.defs _ _).mono
    (fun r h => ⟨fun c => (h c).2, sem_eq_zero_of_no_sems (by decide) r.2⟩)
    (Cert.WgradReferenceIdeal.Value.run m ρ)

theorem algebraic : Cert.algebraic_WgradKernelIdeal_WgradReferenceIdeal := by
  pair_intro
  · run_from Cert.WgradKernelIdeal.Value.run_blocks m g
  · run_from Cert.WgradReferenceIdeal.Value.run m' g'
    all_goals obtain ⟨a0, a1⟩ := hagree c
    · refine (val_main_v4_eq _ _).trans ?_
      exact (arr2 m c _ _ rfl rfl).symm

end Cert.Proof.Wgrad

end
-- ==== Proof.Adamw.lean ====
/- One step of the optimiser -/
module

public import proofs.«01_k».proof.Defs
public import proofs.«01_k».proof.Proof.Gen.AdamwKernel.Frame
public import proofs.«01_k».proof.Proof.Gen.AdamwKernelIdeal.Value
public import proofs.«01_k».proof.Proof.Gen.AdamwReferenceIdeal.Read
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Adamw

open Idealize.ShloMosaic Idealize.ShloMosaic.TcCoe Idealize.SL.Sem
open Idealize.ShloMosaic.Pipeline (Dat)
open Cert.Proof.Reals
open Cert.AdamwKernelIdeal Cert.AdamwKernelIdeal.Gen Cert.AdamwReferenceIdeal.Read

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The part of the arrays that block `t` is. -/
def part (t : Fin cfg0.N) : Fin 4 := ⟨t.val, lt_of_lt_of_eq t.isLt N_0⟩

section
variable (c : Dev nD) (x0 x1 x2 x3 : S4x352x1024.Idx → EReal)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)

include e0 in
theorem in_0 (t : Fin cfg0.N) (i : Fin 352) (j : Fin 1024) : (iblk m c 0 t (ix3 0 i j) : EReal) = x0 (ix3 (part t) i j) := by
  subst e0
  unfold part
  blk_point [iblk, V, idx t]

include e1 in
theorem in_1 (t : Fin cfg0.N) (i : Fin 352) (j : Fin 1024) : (iblk m c 1 t (ix3 0 i j) : EReal) = x1 (ix3 (part t) i j) := by
  subst e1
  unfold part
  blk_point [iblk, V, idx t]

include e2 in
theorem in_2 (t : Fin cfg0.N) (i : Fin 352) (j : Fin 1024) : (iblk m c 2 t (ix3 0 i j) : EReal) = x2 (ix3 (part t) i j) := by
  subst e2
  unfold part
  blk_point [iblk, V, idx t]

include e3 in
theorem in_3 (t : Fin cfg0.N) (i : Fin 352) (j : Fin 1024) : (iblk m c 3 t (ix3 0 i j) : EReal) = x3 (ix3 (part t) i j) := by
  subst e3
  unfold part
  blk_point [iblk, V, idx t]

include e0 e1 e2 e3 in
/-- The change of the weight, as the kernel leaves it. -/
theorem arr4 : (dats m 0 c).arrAt 4 cfg0.N = val_main_v23 (F := Ideal) x0 x1 x2 x3 := by
  refine (dats m 0 c).arrAt_eq_of_covers 4 _ (by decide +kernel) fun t _ (y : S1x352x1024.Idx) => ?_
  obtain ⟨o, i, j, rfl⟩ : ∃ (o : Fin 1) (i : Fin 352) (j : Fin 1024), y = ix3 o i j := ⟨y 0, y 1, y 2, eq_ix3 y⟩
  obtain rfl : o = 0 := Subsingleton.elim _ _
  blk_simp
  rw [after0_4]
  have eb : ((win0_4.blk t).view.emb (ix3 0 i j) : S4x352x1024.Idx) = ix3 (part t) i j := by
    unfold part
    blk_ext! [idx t]
  refine Eq.trans ?_ (congrArg (val_main_v23 (F := Ideal) x0 x1 x2 x3) eb).symm
  unfold out0_4
  frame_out
  pointwise [k0_pay1, k0_pay7, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  simp only [in_0 m c x0 e0, in_1 m c x1 e1, in_2 m c x2 e2, in_3 m c x3 e3]

include e1 e2 in
/-- The first moment, as the kernel leaves it. -/
theorem arr5 : (dats m 0 c).arrAt 5 cfg0.N = val_main_v4 (F := Ideal) x1 x2 := by
  refine (dats m 0 c).arrAt_eq_of_covers 5 _ (by decide +kernel) fun t _ (y : S1x352x1024.Idx) => ?_
  obtain ⟨o, i, j, rfl⟩ : ∃ (o : Fin 1) (i : Fin 352) (j : Fin 1024), y = ix3 o i j := ⟨y 0, y 1, y 2, eq_ix3 y⟩
  obtain rfl : o = 0 := Subsingleton.elim _ _
  blk_simp
  rw [after0_5]
  have eb : ((win0_5.blk t).view.emb (ix3 0 i j) : S4x352x1024.Idx) = ix3 (part t) i j := by
    unfold part
    blk_ext! [idx t]
  refine Eq.trans ?_ (congrArg (val_main_v4 (F := Ideal) x1 x2) eb).symm
  unfold out0_5
  frame_out
  pointwise [k0_pay2, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  simp only [in_1 m c x1 e1, in_2 m c x2 e2]

include e1 e3 in
/-- The second moment, as the kernel leaves it. -/
theorem arr6 : (dats m 0 c).arrAt 6 cfg0.N = val_main_v10 (F := Ideal) x1 x3 := by
  refine (dats m 0 c).arrAt_eq_of_covers 6 _ (by decide +kernel) fun t _ (y : S1x352x1024.Idx) => ?_
  obtain ⟨o, i, j, rfl⟩ : ∃ (o : Fin 1) (i : Fin 352) (j : Fin 1024), y = ix3 o i j := ⟨y 0, y 1, y 2, eq_ix3 y⟩
  obtain rfl : o = 0 := Subsingleton.elim _ _
  blk_simp
  rw [after0_6]
  have eb : ((win0_6.blk t).view.emb (ix3 0 i j) : S4x352x1024.Idx) = ix3 (part t) i j := by
    unfold part
    blk_ext! [idx t]
  refine Eq.trans ?_ (congrArg (val_main_v10 (F := Ideal) x1 x3) eb).symm
  unfold out0_6
  frame_out
  pointwise [k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  simp only [in_1 m c x1 e1, in_3 m c x3 e3]

end

theorem frame_kernel : Cert.quiescent_AdamwKernel := fun m ρ _ => Cert.AdamwKernel.Gen.frame m ρ
theorem frame_ideal : Cert.quiescent_AdamwKernelIdeal := fun m ρ _ => Cert.AdamwKernelIdeal.Gen.frame m ρ
theorem frame_reference : Cert.quiescent_AdamwReferenceIdeal := fun m ρ _ =>
  (θ_run Cert.AdamwReferenceIdeal.defs _ _).mono
    (fun r h => ⟨fun c => (h c).2.2.2, sem_eq_zero_of_no_sems (by decide) r.2⟩)
    (Cert.AdamwReferenceIdeal.Value.run m ρ)

theorem algebraic : Cert.algebraic_AdamwKernelIdeal_AdamwReferenceIdeal := by
  pair_intro
  · run_from Cert.AdamwKernelIdeal.Value.run_blocks m g
  · run_from Cert.AdamwReferenceIdeal.Value.run m' g'
    all_goals obtain ⟨a0, a1, a2, a3⟩ := hagree c
    · refine (val_main_v23_eq _ _ _ _).trans ?_
      exact (arr4 m c _ _ _ _ rfl rfl rfl rfl).symm
    · refine (val_main_v4_eq _ _).trans ?_
      exact (arr5 m c _ _ rfl rfl).symm
    · refine (val_main_v10_eq _ _).trans ?_
      exact (arr6 m c _ _ rfl rfl).symm

end Cert.Proof.Adamw

end
-- ==== Proof.Small.lean ====
/- The sum of the small gradients and their step of the optimiser -/
module

public import proofs.«01_k».proof.Defs
public import proofs.«01_k».proof.Proof.Gen.SmallKernel.Frame
public import proofs.«01_k».proof.Proof.Gen.SmallKernelIdeal.Value
public import proofs.«01_k».proof.Proof.Gen.SmallReferenceIdeal.Read
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Small

open Idealize.ShloMosaic Idealize.ShloMosaic.TcCoe Idealize.SL.Sem
open Idealize.ShloMosaic.Pipeline (Dat)
open Cert.Proof.Reals
open Cert.SmallKernelIdeal Cert.SmallKernelIdeal.Gen Cert.SmallReferenceIdeal.Read

variable (m : (ℓ : Loc nD τ sig) → Buf (Elt Ideal) ℓ)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that row `i` of block `t` is. -/
def row (t : Fin cfg0.N) (i : Fin 1400) : Fin 2800 :=
  ⟨t.val * 1400 + i.val, by have := lt_of_lt_of_eq t.isLt N_0; omega⟩

section
variable (c : Dev nD) (x0 : S8x2800x128.Idx → EReal) (x1 x2 x3 : S2800x128.Idx → EReal)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)

include e0 in
theorem in_0 (t : Fin cfg0.N) (d : Fin 8) (i : Fin 1400) (j : Fin 128) : (iblk m c 0 t (ix3 d i j) : EReal) = x0 (ix3 d (row t i) j) := by
  subst e0
  unfold row
  blk_point [iblk, V, idx t]

include e1 in
theorem in_1 (t : Fin cfg0.N) (i : Fin 1400) (j : Fin 128) : (iblk m c 1 t (ix2 i j) : EReal) = x1 (ix2 (row t i) j) := by
  subst e1
  unfold row
  blk_point [iblk, V, idx t]

include e2 in
theorem in_2 (t : Fin cfg0.N) (i : Fin 1400) (j : Fin 128) : (iblk m c 2 t (ix2 i j) : EReal) = x2 (ix2 (row t i) j) := by
  subst e2
  unfold row
  blk_point [iblk, V, idx t]

include e3 in
theorem in_3 (t : Fin cfg0.N) (i : Fin 1400) (j : Fin 128) : (iblk m c 3 t (ix2 i j) : EReal) = x3 (ix2 (row t i) j) := by
  subst e3
  unfold row
  blk_point [iblk, V, idx t]

include e0 in
/-- The gradient, as the kernel leaves it. -/
theorem arr4 : (dats m 0 c).arrAt 4 cfg0.N = val_main_v0 (F := Ideal) x0 := by
  refine (dats m 0 c).arrAt_eq_of_covers 4 _ (by decide +kernel) fun t _ (y : S1400x128.Idx) => ?_
  obtain ⟨i, j, rfl⟩ : ∃ (i : Fin 1400) (j : Fin 128), y = ix2 i j := ⟨y 0, y 1, eq_ix2 y⟩
  blk_simp
  rw [after0_4]
  have eb : ((win0_4.blk t).view.emb (ix2 i j) : S2800x128.Idx) = ix2 (row t i) j := by
    unfold row
    blk_ext! [idx t]
  refine Eq.trans ?_ (congrArg (val_main_v0 (F := Ideal) x0) eb).symm
  unfold out0_4
  frame_out
  pointwise [k0_pay5, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  simp only [in_0 m c x0 e0, Fin.sum_univ_eight]

include e0 e1 e2 e3 in
/-- The change of the weights, as the kernel leaves it. -/
theorem arr5 : (dats m 0 c).arrAt 5 cfg0.N = val_main_v24 (F := Ideal) x0 x1 x2 x3 := by
  refine (dats m 0 c).arrAt_eq_of_covers 5 _ (by decide +kernel) fun t _ (y : S1400x128.Idx) => ?_
  obtain ⟨i, j, rfl⟩ : ∃ (i : Fin 1400) (j : Fin 128), y = ix2 i j := ⟨y 0, y 1, eq_ix2 y⟩
  blk_simp
  rw [after0_5]
  have eb : ((win0_5.blk t).view.emb (ix2 i j) : S2800x128.Idx) = ix2 (row t i) j := by
    unfold row
    blk_ext! [idx t]
  refine Eq.trans ?_ (congrArg (val_main_v24 (F := Ideal) x0 x1 x2 x3) eb).symm
  unfold out0_5
  frame_out
  pointwise [k0_pay5, k0_pay3, k0_pay1, k0_pay2, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  simp only [in_0 m c x0 e0, Fin.sum_univ_eight, in_1 m c x1 e1, in_2 m c x2 e2, in_3 m c x3 e3]

include e0 e2 in
/-- The first moment, as the kernel leaves it. -/
theorem arr6 : (dats m 0 c).arrAt 6 cfg0.N = val_main_v5 (F := Ideal) x0 x2 := by
  refine (dats m 0 c).arrAt_eq_of_covers 6 _ (by decide +kernel) fun t _ (y : S1400x128.Idx) => ?_
  obtain ⟨i, j, rfl⟩ : ∃ (i : Fin 1400) (j : Fin 128), y = ix2 i j := ⟨y 0, y 1, eq_ix2 y⟩
  blk_simp
  rw [after0_6]
  have eb : ((win0_6.blk t).view.emb (ix2 i j) : S2800x128.Idx) = ix2 (row t i) j := by
    unfold row
    blk_ext! [idx t]
  refine Eq.trans ?_ (congrArg (val_main_v5 (F := Ideal) x0 x2) eb).symm
  unfold out0_6
  frame_out
  pointwise [k0_pay5, k0_pay1, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  simp only [in_0 m c x0 e0, Fin.sum_univ_eight, in_2 m c x2 e2]

include e0 e3 in
/-- The second moment, as the kernel leaves it. -/
theorem arr7 : (dats m 0 c).arrAt 7 cfg0.N = val_main_v11 (F := Ideal) x0 x3 := by
  refine (dats m 0 c).arrAt_eq_of_covers 7 _ (by decide +kernel) fun t _ (y : S1400x128.Idx) => ?_
  obtain ⟨i, j, rfl⟩ : ∃ (i : Fin 1400) (j : Fin 128), y = ix2 i j := ⟨y 0, y 1, eq_ix2 y⟩
  blk_simp
  rw [after0_7]
  have eb : ((win0_7.blk t).view.emb (ix2 i j) : S2800x128.Idx) = ix2 (row t i) j := by
    unfold row
    blk_ext! [idx t]
  refine Eq.trans ?_ (congrArg (val_main_v11 (F := Ideal) x0 x3) eb).symm
  unfold out0_7
  frame_out
  pointwise [k0_pay5, k0_pay2, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  simp only [in_0 m c x0 e0, Fin.sum_univ_eight, in_3 m c x3 e3]

end

theorem frame_kernel : Cert.quiescent_SmallKernel := fun m ρ _ => Cert.SmallKernel.Gen.frame m ρ
theorem frame_ideal : Cert.quiescent_SmallKernelIdeal := fun m ρ _ => Cert.SmallKernelIdeal.Gen.frame m ρ
theorem frame_reference : Cert.quiescent_SmallReferenceIdeal := fun m ρ _ =>
  (θ_run Cert.SmallReferenceIdeal.defs _ _).mono
    (fun r h => ⟨fun c => (h c).2.2.2.2, sem_eq_zero_of_no_sems (by decide) r.2⟩)
    (Cert.SmallReferenceIdeal.Value.run m ρ)

theorem algebraic : Cert.algebraic_SmallKernelIdeal_SmallReferenceIdeal := by
  pair_intro
  · run_from Cert.SmallKernelIdeal.Value.run_blocks m g
  · refine θ_run_mono (Cert.SmallReferenceIdeal.Value.run m' g') ?_
    intro r hr c
    obtain ⟨h0, h1, h2, h3, k0, k1, k2, k3⟩ := hr c
    obtain ⟨a0, a1, a2, a3⟩ := hagree c
    refine ⟨h0.trans ((val_main_v0_eq _).trans ?_), h1.trans ((val_main_v24_eq _ _ _ _).trans ?_),
      h2.trans ((val_main_v5_eq _ _).trans ?_), h3.trans ((val_main_v11_eq _ _).trans ?_), k0, k1, k2, k3⟩
    · rw [a0]
      exact (arr4 m c _ rfl).symm
    · rw [a0, a1, a2, a3]
      exact (arr5 m c _ _ _ _ rfl rfl rfl rfl).symm
    · rw [a0, a2]
      exact (arr6 m c _ _ rfl rfl).symm
    · rw [a0, a3]
      exact (arr7 m c _ _ rfl rfl).symm

end Cert.Proof.Small

end
-- ==== Proof.FinalSum.lean ====
/- The last sum of the scattered gradient: the own part and the three that came -/
module

public import proofs.«01_k».proof.Defs
public import proofs.«01_k».proof.Proof.Gen.FinalSumKernel.Frame
public import proofs.«01_k».proof.Proof.Gen.FinalSumKernelIdeal.Value
public import proofs.«01_k».proof.Proof.Gen.FinalSumReferenceIdeal.Read
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FinalSum

open Idealize.ShloMosaic Idealize.ShloMosaic.TcCoe Idealize.SL.Sem
open Idealize.ShloMosaic.Pipeline (Dat)
open Cert.Proof.Reals
open Cert.FinalSumKernelIdeal Cert.FinalSumKernelIdeal.Gen Cert.FinalSumReferenceIdeal.Read

variable (m : (ℓ : Loc nD τ sig) → Buf (Elt Ideal) ℓ)

theorem idx : ∀ t : Fin cfg0.N, win0_0.index t = ![t.val, 0] ∧ win0_1.index t = ![0, t.val, 0] ∧ win0_2.index t = ![t.val, 0] :=
  (by decide +kernel : ∀ t : Fin grid0.N, _)

/-- The row of the arrays that row `i` of block `t` is. -/
def row (t : Fin cfg0.N) (i : Fin 176) : Fin 704 :=
  ⟨t.val * 176 + i.val, by have := lt_of_lt_of_eq t.isLt N_0; omega⟩

section
variable (c : Dev nD) (x0 : S704x1024.Idx → EReal) (x1 : S3x704x1024.Idx → EReal)
  (e0 : m ((c : Thread nD τ).loc main_arg0) = x0) (e1 : m ((c : Thread nD τ).loc main_arg1) = x1)

include e0 in
theorem in_0 (t : Fin cfg0.N) (i : Fin 176) (j : Fin 1024) : (iblk m c 0 t (ix2 i j) : EReal) = x0 (ix2 (row t i) j) := by
  subst e0
  unfold row
  blk_point [iblk, V, idx t]

include e1 in
theorem in_1 (t : Fin cfg0.N) (d : Fin 3) (i : Fin 176) (j : Fin 1024) : (iblk m c 1 t (ix3 d i j) : EReal) = x1 (ix3 d (row t i) j) := by
  subst e1
  unfold row
  blk_point [iblk, V, idx t]

include e0 e1 in
/-- The sum, as the kernel leaves it. -/
theorem arr2 : (dats m 0 c).arrAt 2 cfg0.N = val_main_v3 (F := Ideal) x0 x1 := by
  refine (dats m 0 c).arrAt_eq_of_covers 2 _ (by decide +kernel) fun t _ (y : S176x1024.Idx) => ?_
  obtain ⟨i, j, rfl⟩ : ∃ (i : Fin 176) (j : Fin 1024), y = ix2 i j := ⟨y 0, y 1, eq_ix2 y⟩
  blk_simp
  rw [after0_2]
  have eb : ((win0_2.blk t).view.emb (ix2 i j) : S704x1024.Idx) = ix2 (row t i) j := by
    unfold row
    blk_ext! [idx t]
  refine Eq.trans ?_ (congrArg (val_main_v3 (F := Ideal) x0 x1) eb).symm
  unfold out0_2
  frame_out
  pointwise [k0_pay1, val_main_v0, val_main_v1, val_main_v2, val_main_v3, val_main_cst]
  simp only [in_0 m c x0 e0, in_1 m c x1 e1, Fin.sum_univ_three, add_assoc]

end

theorem frame_kernel : Cert.quiescent_FinalSumKernel := fun m ρ _ => Cert.FinalSumKernel.Gen.frame m ρ
theorem frame_ideal : Cert.quiescent_FinalSumKernelIdeal := fun m ρ _ => Cert.FinalSumKernelIdeal.Gen.frame m ρ
theorem frame_reference : Cert.quiescent_FinalSumReferenceIdeal := fun m ρ _ =>
  (θ_run Cert.FinalSumReferenceIdeal.defs _ _).mono
    (fun r h => ⟨fun c => (h c).2, sem_eq_zero_of_no_sems (by decide) r.2⟩)
    (Cert.FinalSumReferenceIdeal.Value.run m ρ)

theorem algebraic : Cert.algebraic_FinalSumKernelIdeal_FinalSumReferenceIdeal := by
  pair_intro
  · run_from Cert.FinalSumKernelIdeal.Value.run_blocks m g
  · run_from Cert.FinalSumReferenceIdeal.Value.run m' g'
    all_goals obtain ⟨a0, a1⟩ := hagree c
    · refine (val_main_v3_eq _ _).trans ?_
      exact (arr2 m c _ _ rfl rfl).symm

end Cert.Proof.FinalSum

end
-- ==== Proof.FfnL.lean ====
/- The gated activation, its product with the norm and residual, of the last layer, forward -/
module

public import proofs.«01_k».proof.Defs
public import proofs.«01_k».proof.Proof.Gen.FfnLKernel.Frame
public import proofs.«01_k».proof.Proof.Gen.FfnLKernelIdeal.Value
public import proofs.«01_k».proof.Proof.Gen.FfnLReferenceIdeal.Read
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnL

open Idealize.ShloMosaic Idealize.ShloMosaic.TcCoe Idealize.SL.Sem
open Idealize.ShloMosaic.Pipeline (Dat)
open Cert.Proof.Reals
open Cert.FfnLKernelIdeal Cert.FfnLKernelIdeal.Gen Cert.FfnLReferenceIdeal.Read

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The row of the arrays that row `i` of block `t` is. -/
def row (t : Fin cfg0.N) (i : Fin 256) : Fin 4096 :=
  ⟨t.val * 256 + i.val, by have := lt_of_lt_of_eq t.isLt N_0; omega⟩

/-- The gated activation of gate `g` and factor `u`. -/
def gated (g u : EReal) : EReal := g * Ideal.div 1 (1 + Ideal.exp (-g)) * u

theorem payT (g u : Vec Ideal S256x640 .bf16) (x : S256x640.Idx) : (k0_pay5 g u x : EReal) = gated (g x) (u x) := by
  obtain ⟨i, k, rfl⟩ : ∃ (i : Fin 256) (k : Fin 640), x = ix2 i k := ⟨x 0, x 1, eq_ix2 x⟩
  pointwise [k0_pay5]
  rw [zero_sub]
  rfl

theorem payL (g u : Vec Ideal S256x256 .bf16) (x : S256x256.Idx) : (k0_pay1 (k0_pay9 g) u x : EReal) = gated (g x) (u x) := by
  obtain ⟨i, k, rfl⟩ : ∃ (i : Fin 256) (k : Fin 256), x = ix2 i k := ⟨x 0, x 1, eq_ix2 x⟩
  pointwise [k0_pay1, k0_pay9]
  rw [zero_sub]
  rfl

section
variable (c : Dev nD) (x0 : S4096x5632.Idx → EReal) (x1 : S2816x1024.Idx → EReal) (x2 : S1024.Idx → EReal) (x3 : S4096x1024.Idx → EReal)
  (e0 : m ((c : Thread nD τ).loc main_arg0) = x0) (e1 : m ((c : Thread nD τ).loc main_arg1) = x1) (e2 : m ((c : Thread nD τ).loc main_arg2) = x2)
  (e3 : m ((c : Thread nD τ).loc main_arg3) = x3)

include e0 in
theorem in_0 (t : Fin cfg0.N) (i : Fin 256) (j : Fin 5632) : (iblk m c 0 t (ix2 i j) : EReal) = x0 (ix2 (row t i) j) := by
  subst e0
  unfold row
  blk_point [iblk, V, idx t]

include e1 in
theorem in_1 (t : Fin cfg0.N) (i : Fin 2816) (j : Fin 1024) : (iblk m c 1 t (ix2 i j) : EReal) = x1 (ix2 i j) := by
  subst e1
  blk_point [iblk, V, idx t]

include e2 in
theorem in_2 (t : Fin cfg0.N) (i : Fin 1) (j : Fin 1024) : (iblk m c 2 t (ix2 i j) : EReal) = x2 (ix1 j) := by
  subst e2
  blk_point [iblk, V, idx t]

include e3 in
theorem in_3 (t : Fin cfg0.N) (i : Fin 256) (j : Fin 1024) : (iblk m c 3 t (ix2 i j) : EReal) = x3 (ix2 (row t i) j) := by
  subst e3
  unfold row
  blk_point [iblk, V, idx t]

theorem ref_act (r : Fin 4096) (j : Fin 2816) :
    (val_main_v3 (F := Ideal) x0 (ix2 r j) : EReal) = gated (x0 (ix2 r ⟨j.val, by omega⟩)) (x0 (ix2 r ⟨2816 + j.val, by omega⟩)) := by
  pointwise [val_main_v3, val_main_v2, val_main_v1, val_main_v0, val_main_call0_v0, val_main_call0_v1, val_main_call0_v2, val_main_call0_v3, val_main_call0_v4, val_main_call0_v5, val_main_call0_cst, val_main_call0_cst_0]
  rfl

include e0 in
theorem ld_g {n : ℕ} (t : Fin cfg0.N) (o : ℕ) (b) (i : Fin 256) (j : Fin n) (h : o + j.val < 5632) :
    (View.ld (iblk m c 0 t) (Rect.unit (s := S256x5632) ![0, o] ![256, n] b) (ix2 i j) : EReal) = x0 (ix2 (row t i) ⟨o + j.val, h⟩) := by
  refine Eq.trans ?_ (in_0 m c x0 e0 t i ⟨o + j.val, h⟩)
  pointwise

include e0 in
theorem tile (t : Fin cfg0.N) (o o' : ℕ) (ho : o' = 2816 + o) (b b') (x : S256x640.Idx) (i : Fin 256) (j : Fin 2816) (h0 : i.val = (x 0).val) (h1 : j.val = o + (x 1).val) :
    (k0_pay5 (View.ld (iblk m c 0 t) (Rect.unit (s := S256x5632) ![0, o] ![256, 640] b)) (View.ld (iblk m c 0 t) (Rect.unit (s := S256x5632) ![0, o'] ![256, 640] b')) x : EReal) =
      val_main_v3 (F := Ideal) x0 (ix2 (row t i) j) := by
  subst ho
  obtain ⟨a, k, rfl⟩ : ∃ (a : Fin 256) (k : Fin 640), x = ix2 a k := ⟨x 0, x 1, eq_ix2 x⟩
  obtain rfl : i = a := Fin.ext h0
  have h1 : j.val = o + k.val := h1
  rw [show j = ⟨o + k.val, h1 ▸ j.isLt⟩ from Fin.ext h1, payT, ref_act x0 (row t i), ld_g m c x0 e0 t o b i k (by omega), ld_g m c x0 e0 t (2816 + o) b' i k (by omega)]
  simp only [Nat.add_assoc]

include e0 in
theorem last (t : Fin cfg0.N) (b b') (x : S256x256.Idx) (i : Fin 256) (j : Fin 2816) (h0 : i.val = (x 0).val) (h1 : j.val = 2560 + (x 1).val) :
    (k0_pay1 (k0_pay9 (View.ld (iblk m c 0 t) (Rect.unit (s := S256x5632) ![0, 2560] ![256, 256] b))) (View.ld (iblk m c 0 t) (Rect.unit (s := S256x5632) ![0, 5376] ![256, 256] b')) x : EReal) =
      val_main_v3 (F := Ideal) x0 (ix2 (row t i) j) := by
  obtain ⟨a, k, rfl⟩ : ∃ (a : Fin 256) (k : Fin 256), x = ix2 a k := ⟨x 0, x 1, eq_ix2 x⟩
  obtain rfl : i = a := Fin.ext h0
  have h1 : j.val = 2560 + k.val := h1
  rw [show j = ⟨2560 + k.val, h1 ▸ j.isLt⟩ from Fin.ext h1, payL, ref_act x0 (row t i), ld_g m c x0 e0 t 2560 b i k (by omega), ld_g m c x0 e0 t 5376 b' i k (by omega)]
  simp only [← Nat.add_assoc]

/-- What the body stores into its scratch, the last store first. -/
def tiles (v : Vec Ideal S256x5632 .bf16) : List (View.Piece (Elt Ideal) S256x2816 .bf16) :=
  [⟨Rect.unit ![0, 2560] ![256, 256] inb_S256x2816_S256x256_0_2560, k0_pay1 (k0_pay9 (View.ld v (Rect.unit ![0, 2560] ![256, 256] inb_S256x5632_S256x256_0_2560)))
      (View.ld v (Rect.unit ![0, 5376] ![256, 256] inb_S256x5632_S256x256_0_5376))⟩,
    ⟨Rect.unit ![0, 1920] ![256, 640] inb_S256x2816_S256x640_0_1920, k0_pay8 (View.ld v (Rect.unit ![0, 1920] ![256, 640] inb_S256x5632_S256x640_0_1920))
      (View.ld v (Rect.unit ![0, 4736] ![256, 640] inb_S256x5632_S256x640_0_4736))⟩,
    ⟨Rect.unit ![0, 1280] ![256, 640] inb_S256x2816_S256x640_0_1280, k0_pay7 (View.ld v (Rect.unit ![0, 1280] ![256, 640] inb_S256x5632_S256x640_0_1280))
      (View.ld v (Rect.unit ![0, 4096] ![256, 640] inb_S256x5632_S256x640_0_4096))⟩,
    ⟨Rect.unit ![0, 640] ![256, 640] inb_S256x2816_S256x640_0_640, k0_pay6 (View.ld v (Rect.unit ![0, 640] ![256, 640] inb_S256x5632_S256x640_0_640))
      (View.ld v (Rect.unit ![0, 3456] ![256, 640] inb_S256x5632_S256x640_0_3456))⟩,
    ⟨Rect.unit ![0, 0] ![256, 640] inb_S256x2816_S256x640_0_0, k0_pay5 (View.ld v (Rect.unit ![0, 0] ![256, 640] inb_S256x5632_S256x640_0_0))
      (View.ld v (Rect.unit ![0, 2816] ![256, 640] inb_S256x5632_S256x640_0_2816))⟩]

/-- A block of the gated activation. -/
def act (t : Fin cfg0.N) : Vec Ideal S256x2816 .bf16 := fun x => val_main_v3 (F := Ideal) x0 (ix2 (row t (x 0)) (x 1))

include e0 in
theorem canon_act (t : Fin cfg0.N) (i : Fin 256) (j : Fin 2816) : (View.canon (tiles (iblk m c 0 t)) (ix2 i j) : EReal) = val_main_v3 (F := Ideal) x0 (ix2 (row t i) j) := by
  unfold tiles
  canon_tiles x h using View.cover_of_tiledBy _ ![256, 128] (by sl_kernel_rfl) _
  · exact last m c x0 e0 t _ _ x i j h0 h1
  · exact tile m c x0 e0 t 1920 4736 rfl _ _ x i j h0 h1
  · exact tile m c x0 e0 t 1280 4096 rfl _ _ x i j h0 h1
  · exact tile m c x0 e0 t 640 3456 rfl _ _ x i j h0 h1
  · exact tile m c x0 e0 t 0 2816 rfl _ _ x i j h0 (h1.trans (Nat.zero_add _).symm)

include e0 in
/-- What the body reads back from its scratch. -/
theorem read_act (t : Fin cfg0.N) (b) :
    (View.whole cc0_scratch0).readCov (tiles (iblk m c 0 t)) (Rect.unit (s := S256x2816) ![0, 0] ![256, 2816] b).toLoadRect = act x0 t := by
  rw [View.readCov_eq_canon _ _ _ fun j => View.cover_of_tiledBy _ ![256, 128] (by sl_kernel_rfl) _]
  funext x
  obtain ⟨i, j, rfl⟩ : ∃ (i : Fin 256) (j : Fin 2816), x = ix2 i j := ⟨x 0, x 1, eq_ix2 x⟩
  refine Eq.trans (congrArg (View.canon (tiles (iblk m c 0 t))) ?_) (canon_act m c x0 e0 t i j)
  blk_ext!
  all_goals exact (Nat.zero_add _).trans (Nat.one_mul _)

include e1 in
/-- A block of the product. -/
theorem prod (t : Fin cfg0.N) (i : Fin 256) (j : Fin 1024) :
    (k0_pay2 (act x0 t) (iblk m c 1 t) (ix2 i j) : EReal) = val_main_v4 (F := Ideal) x0 x1 (ix2 (row t i) j) := by
  pointwise [k0_pay2, val_main_v4]
  simp only [in_1 m c x1 e1]
  rfl

include e1 e2 e3 in
/-- A block of the stream after the sub-layer. -/
theorem stream (t : Fin cfg0.N) (i : Fin 256) (j : Fin 1024) :
    (k0_pay4 (act x0 t) (iblk m c 1 t) (iblk m c 3 t) (iblk m c 2 t) (ix2 i j) : EReal) =
      val_main_v19 (F := Ideal) x0 x1 x2 x3 (ix2 (row t i) j) := by
  pointwise [k0_pay4, val_main_v6, val_main_v7, val_main_v8, val_main_v9, val_main_v10, val_main_v11, val_main_v12, val_main_v13, val_main_v14, val_main_v15, val_main_v16, val_main_v17, val_main_v18, val_main_v19, val_main_cst, val_main_cst_0, val_main_cst_1]
  simp only [prod m c x0 x1 e1, in_2 m c x2 e2, in_3 m c x3 e3]

include e0 e1 in
/-- The product, as the kernel leaves it. -/
theorem arr4 : (dats m 0 c).arrAt 4 cfg0.N = val_main_v5 (F := Ideal) x0 x1 := by
  refine (dats m 0 c).arrAt_eq_of_covers 4 _ (by decide +kernel) fun t _ (y : S256x1024.Idx) => ?_
  obtain ⟨i, j, rfl⟩ : ∃ (i : Fin 256) (j : Fin 1024), y = ix2 i j := ⟨y 0, y 1, eq_ix2 y⟩
  blk_simp
  rw [after0_4]
  have eb : ((win0_4.blk t).view.emb (ix2 i j) : S4096x1024.Idx) = ix2 (row t i) j := by
    unfold row
    blk_ext! [idx t]
  refine Eq.trans ?_ (congrArg (val_main_v5 (F := Ideal) x0 x1) eb).symm
  unfold outsAt0
  dsimp only
  unfold out0_A_4
  frame_out
  refine (congrFun (congrArg (fun v => k0_pay3 v (iblk m c 1 t)) (read_act m c x0 e0 t _)) (ix2 i j)).trans ?_
  pointwise [k0_pay3, val_main_v5]
  exact prod m c x0 x1 e1 t i j

include e0 e1 e2 e3 in
/-- The stream, as the kernel leaves it. -/
theorem arr5 : (dats m 0 c).arrAt 5 cfg0.N = val_main_v19 (F := Ideal) x0 x1 x2 x3 := by
  refine (dats m 0 c).arrAt_eq_of_covers 5 _ (by decide +kernel) fun t _ (y : S256x1024.Idx) => ?_
  obtain ⟨i, j, rfl⟩ : ∃ (i : Fin 256) (j : Fin 1024), y = ix2 i j := ⟨y 0, y 1, eq_ix2 y⟩
  blk_simp
  rw [after0_5]
  have eb : ((win0_5.blk t).view.emb (ix2 i j) : S4096x1024.Idx) = ix2 (row t i) j := by
    unfold row
    blk_ext! [idx t]
  refine Eq.trans ?_ (congrArg (val_main_v19 (F := Ideal) x0 x1 x2 x3) eb).symm
  unfold outsAt0
  dsimp only
  unfold out0_A_5
  frame_out
  refine (congrFun (congrArg (fun v => k0_pay4 v (iblk m c 1 t) (iblk m c 3 t) (iblk m c 2 t)) (read_act m c x0 e0 t _)) (ix2 i j)).trans ?_
  exact stream m c x0 x1 x2 x3 e1 e2 e3 t i j

include e0 in
/-- The gated activation, as the kernel leaves it. -/
theorem arr6 : (dats m 0 c).arrAt 6 cfg0.N = val_main_v20 (F := Ideal) x0 := by
  refine (dats m 0 c).arrAt_eq_of_covers 6 _ (by decide +kernel) fun t _ (y : S256x2816.Idx) => ?_
  obtain ⟨i, j, rfl⟩ : ∃ (i : Fin 256) (j : Fin 2816), y = ix2 i j := ⟨y 0, y 1, eq_ix2 y⟩
  blk_simp
  rw [after0_6]
  have eb : ((win0_6.blk t).view.emb (ix2 i j) : S4096x2816.Idx) = ix2 (row t i) j := by
    unfold row
    blk_ext! [idx t]
  refine Eq.trans ?_ (congrArg (val_main_v20 (F := Ideal) x0) eb).symm
  unfold outsAt0
  dsimp only
  unfold out0_A_6
  frame_out
  refine (congrFun (read_act m c x0 e0 t _) (ix2 i j)).trans ?_
  pointwise [val_main_v20]
  rfl

end

theorem frame_kernel : Cert.quiescent_FfnLKernel := fun m ρ _ => Cert.FfnLKernel.Gen.frame m ρ
theorem frame_ideal : Cert.quiescent_FfnLKernelIdeal := fun m ρ _ => Cert.FfnLKernelIdeal.Gen.frame m ρ
theorem frame_reference : Cert.quiescent_FfnLReferenceIdeal := fun m ρ _ =>
  (θ_run Cert.FfnLReferenceIdeal.defs _ _).mono
    (fun r h => ⟨fun c => (h c).2.2.2, sem_eq_zero_of_no_sems (by decide) r.2⟩)
    (Cert.FfnLReferenceIdeal.Value.run m ρ)

theorem algebraic : Cert.algebraic_FfnLKernelIdeal_FfnLReferenceIdeal := by
  pair_intro
  · run_from Cert.FfnLKernelIdeal.Value.run_blocks m g
  · run_from Cert.FfnLReferenceIdeal.Value.run m' g'
    all_goals obtain ⟨a0, a1, a2, a3⟩ := hagree c
    · refine (val_main_v5_eq _ _).trans ?_
      exact (arr4 m c _ _ rfl rfl).symm
    · refine (val_main_v19_eq _ _ _ _).trans ?_
      exact (arr5 m c _ _ _ _ rfl rfl rfl rfl).symm
    · refine (val_main_v20_eq _).trans ?_
      exact (arr6 m c _ rfl).symm

end Cert.Proof.FfnL

end
-- ==== Proof.FirstF.lean ====
/- The norm of the first layer's input and its projection, forward -/
module

public import proofs.«01_k».proof.Defs
public import proofs.«01_k».proof.Proof.Gen.FirstFKernel.Frame
public import proofs.«01_k».proof.Proof.Gen.FirstFKernelIdeal.Frame
public import proofs.«01_k».proof.Proof.Gen.FirstFKernelIdeal.Skeleton
public import proofs.«01_k».proof.Proof.Gen.FirstFReferenceIdeal.Read
public import Idealize.ShloMosaic.Lib.Pipeline.TableIdle
public import Idealize.ShloMosaic.Lib.VecWindow
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FirstF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstFKernelIdeal Cert.FirstFKernelIdeal.Gen Cert.FirstFReferenceIdeal.Read

section frame

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows are normalised at the first point of each pair. -/
theorem cond : ∀ t : Fin cfg0.N, k0_cond1 (grid0.coords t) = 1#1 ↔ t.val % 2 = 0 :=
  (by decide +kernel : ∀ t : Fin grid0.N, k0_cond1 (grid0.coords t) = 1#1 ↔ t.val % 2 = 0)

theorem live (t : Fin cfg0.N) (h : t.val % 2 = 0) : cfg0.idle 4 (grid0.coords t) = false := by
  have := (cond t).mpr h
  revert t; decide +kernel

theorem idle (t : Fin cfg0.N) (h : ¬t.val % 2 = 0) : cfg0.idle 4 (grid0.coords t) = true := by
  have := mt (cond t).mp h
  revert t; decide +kernel

/-- Whether the normalised rows' buffer holds nothing yet. -/
def fresh : ℕ → Bool
  | 0 => true
  | n + 1 => (0xaaaa : ℕ).testBit n

theorem fresh_step : ∀ t : Fin cfg0.N, fresh (t.val + 1) = ((cfg0.win 4).flush t || (cfg0.idle 4 (cfg0.grid.coords t) && fresh t.val)) := by
  decide +kernel

theorem notFresh (t : Fin cfg0.N) (h : ¬t.val % 2 = 0) : cfg0.fresh 4 t.val = false := by
  rw [Pipeline.Cfg.fresh_tab cfg0 4 fresh rfl fresh_step t.val (Nat.le_of_lt t.isLt)]
  revert t; decide +kernel

/-- The first point of `t`'s pair. -/
def ev (t : Fin cfg0.N) : Fin cfg0.N := ⟨t.val / 2 * 2, lt_of_le_of_lt (Nat.div_mul_le_self _ _) t.isLt⟩

theorem ev_even (t : Fin cfg0.N) (h : t.val % 2 = 0) : ev t = t := Fin.ext (by unfold ev; dsimp only; omega)

theorem ev_pred (t : Fin cfg0.N) (h : ¬t.val % 2 = 0) (hp) : ev ⟨t.val - 1, hp⟩ = ev t := Fin.ext (by unfold ev; dsimp only; omega)

/-- The normalised rows, as stored and as kept for the products. -/
def nrm (c : Dev nD) (t : Fin cfg0.N) : Vec F S512x1024 .bf16 := k0_pay1 (iblk m c 0 (ev t)) (iblk m c 2 (ev t))
def kept (c : Dev nD) (t : Fin cfg0.N) : Vec F S512x1024 .bf16 := k0_pay2 (iblk m c 0 (ev t)) (iblk m c 2 (ev t))

/-- The product's block. -/
def prd (c : Dev nD) (t : Fin cfg0.N) : Vec F S512x768 .bf16 := k0_pay3 (kept m c t) (iblk m c 1 t)

abbrev scM : Memref sig .tc .vmem S512x1024 .bf16 := Memref.whole cc0_scratch0

theorem PhiA_eq (c : Dev nD) :
    Pipeline.ΦA (U := UR sig nD τ) (Val := Elt F) spec0 c = iprop((∃ d, owns (c : Thread nD τ) scM fullShare d) ∗ (∃ r, prngReg c r)) := by
  unfold Pipeline.ΦA; rw [scopedRest0_eq]; simp only [scM, owns_whole]; try rfl

/-- A load of a whole buffer reads what it holds. -/
theorem load {s : Shape} {e : EltTy} {M : Memref sig .tc .vmem s e} (h : M.IsWhole) {off : Fin s.rank → ℕ} (b : ∀ a, off a + s.size a ≤ s.size a) (x : s.Idx → Elt F e) :
    M.view.readAt (Elt F) (Rect.unit off s.size b).toLoadRect (h.unread x) = x := by
  rw [View.readAt_full, h.read_unread]

set_option maxHeartbeats 1000000 in
/-- The body at the first point of a pair. -/
theorem run_A (c : Dev nD) (i : grid0.Coords) (arg2 : Memref sig .tc .vmem S512x1024 .f32) (harg2 : arg2.IsWhole) (arg3 : Memref sig .tc .vmem S768x1024 .bf16) (harg3 : arg3.IsWhole)
  (arg4 : Memref sig .tc .vmem S1x1024 .f32) (harg4 : arg4.IsWhole) (arg5 : Memref sig .tc .vmem S512x768 .bf16) (harg5 : arg5.IsWhole)
  (arg6 : Memref sig .tc .vmem S512x1024 .bf16) (harg6 : arg6.IsWhole) (arg7 : Memref sig .tc .vmem S512x1024 .bf16) (harg7 : arg7.IsWhole)
  (x0 : Vec F S512x1024 .f32) (x1 : Vec F S768x1024 .bf16) (x2 : Vec F S1x1024 .f32) (E : Set ℕ) (K : PUnit → sProp 𝕄) (hc : k0_cond1 i = 1#1) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 x0 x2) x1)
          ∗ owns (c : Thread nD τ) arg6 fullShare (k0_pay1 x0 x2) ∗ owns (c : Thread nD τ) arg7 fullShare (k0_pay2 x0 x2)) -∗ K ⟨⟩))
      ⊢ wp frame (wpE (defs₀ (F := F)) Variants.none c none) E (cc0_first_in_proj i arg2 harg2 arg3 harg3 arg4 harg4 arg5 harg5 arg6 harg6 arg7 harg7) K := by
  simp only [cc0_first_in_proj_eq_skeleton]; unfold cc0_first_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans (congrArg₂ k0_pay3 ?_ (load harg3 _ _))
    unfold run_A.sl.v3 run_A.sl.HS0_1
    exact (View.readCov_full _ _ _ _ _).trans (congrArg₂ k0_pay2 (load harg2 _ _) (load harg4 _ _))
  isplitl [H4]
  · iexists _; isplitr
    swap; · iexact H4
    ipureintro
    exact (View.read_writes_full _ _ _ _ _).trans (congrArg₂ k0_pay1 (load harg2 _ _) (load harg4 _ _))
  iexists _; isplitr
  swap; · iexact HS0
  ipureintro
  unfold run_A.sl.HS0_1
  exact (View.read_writes_full _ _ _ _ _).trans (congrArg₂ k0_pay2 (load harg2 _ _) (load harg4 _ _))

set_option maxHeartbeats 1000000 in
/-- The body at the second point of a pair. -/
theorem run_B (c : Dev nD) (i : grid0.Coords) (arg2 : Memref sig .tc .vmem S512x1024 .f32) (harg2 : arg2.IsWhole) (arg3 : Memref sig .tc .vmem S768x1024 .bf16) (harg3 : arg3.IsWhole)
  (arg4 : Memref sig .tc .vmem S1x1024 .f32) (harg4 : arg4.IsWhole) (arg5 : Memref sig .tc .vmem S512x768 .bf16) (harg5 : arg5.IsWhole)
  (arg6 : Memref sig .tc .vmem S512x1024 .bf16) (harg6 : arg6.IsWhole) (arg7 : Memref sig .tc .vmem S512x1024 .bf16) (harg7 : arg7.IsWhole)
  (x0 : Vec F S512x1024 .f32) (x1 : Vec F S768x1024 .bf16) (x2 : Vec F S1x1024 .f32) (E : Set ℕ) (K : PUnit → sProp 𝕄) (hc : ¬k0_cond1 i = 1#1) (x4 xs : Vec F S512x1024 .bf16) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 xs x1)
          ∗ owns (c : Thread nD τ) arg6 fullShare x4 ∗ owns (c : Thread nD τ) arg7 fullShare xs) -∗ K ⟨⟩))
      ⊢ wp frame (wpE (defs₀ (F := F)) Variants.none c none) E (cc0_first_in_proj i arg2 harg2 arg3 harg3 arg4 harg4 arg5 harg5 arg6 harg6 arg7 harg7) K := by
  simp only [cc0_first_in_proj_eq_skeleton]; unfold cc0_first_in_proj_skel
  unfold owns
  iintro ⟨⟨%f0, %hf0, H0⟩, ⟨%f1, %hf1, H1⟩, ⟨%f2, %hf2, H2⟩, ⟨%d3, %f3, -, H3⟩, H4, ⟨%fs0, %hfs, HS0⟩, Hk⟩
  obtain rfl := harg2.eq_unread hf0; obtain rfl := harg3.eq_unread hf1; obtain rfl := harg4.eq_unread hf2; obtain rfl := harg7.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact (View.read_writes_full _ _ _ _ _).trans (congrArg₂ k0_pay3 (load harg7 _ _) (load harg3 _ _))
  isplitl [H4]; · iexact H4
  iexists _; isplitr; · ipureintro; exact harg7.read_unread _
  iexact HS0

/-- What the region keeps between points: the scratch at the normalised rows. -/
def Phi (c : Dev nD) : (n : ℕ) → n ≤ cfg0.N → sProp 𝕄
  | 0, _ => Pipeline.ΦA spec0 c
  | n + 1, hn => iprop(owns (c : Thread nD τ) scM fullShare (kept m c ⟨n, hn⟩) ∗ (∃ r, prngReg c r))

theorem Phi_pos (c : Dev nD) (n : ℕ) (h : n ≤ cfg0.N) (hz : n ≠ 0) :
    Phi m c n h = iprop(owns (c : Thread nD τ) scM fullShare (kept m c ⟨n - 1, by omega⟩) ∗ (∃ r, prngReg c r)) := by
  cases n with
  | zero => exact absurd rfl hz
  | succ n => rfl

/-- After any point but the first the scratch's contents may be forgotten. -/
theorem Phi_out (c : Dev nD) (n : ℕ) (h : n ≤ cfg0.N) : Phi m c n h ⊢ iprop((∃ d, owns (c : Thread nD τ) scM fullShare d) ∗ (∃ r, prngReg c r)) := by
  by_cases hz : n = 0
  · subst hz
    exact Entails.of_eq (PhiA_eq c)
  · rw [Phi_pos m c n h hz]
    iintro ⟨HS0, Hg⟩
    isplitl [HS0]
    · iexists _; iexact HS0
    iexact Hg

/-- The contents at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prd m c t
    | ⟨4, _⟩ => nrm m c t
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = prd m c t := by dsimp only [dats]
theorem after_4 (c : Dev nD) (t : Fin cfg0.N) : (dats m 0 c).after 4 t = nrm m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

theorem before_4 (c : Dev nD) (t : Fin cfg0.N) (h : ¬t.val % 2 = 0) (d) : (dats m 0 c).before 4 t d = nrm m c t := by
  have carry : ∀ (t : Fin cfg0.N) (_ : t.val ≠ 0), cfg0.idle 4 (grid0.coords t) = true → cfg0.fresh 4 t.val = false →
      (dats m 0 c).after 4 t = (dats m 0 c).after 4 ⟨t.val - 1, by omega⟩ := by
    intro t _ hi _
    by_cases h0 : t.val % 2 = 0
    · rw [live t h0] at hi
      exact absurd hi Bool.false_ne_true
    · rw [after_4, after_4]
      unfold nrm
      rw [ev_pred t h0]
  rw [Dat.before_out_traj _ 4 rfl (fun _ _ => rfl) carry t.val t rfl d, if_neg (by rw [notFresh t h]; exact Bool.false_ne_true), after_4]
  unfold nrm
  rw [ev_pred t h]

/-- What the body is called with at a point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = iprop(owns (c : Thread nD τ) scM fullShare (kept m c t) ∗ (∃ r, prngReg c r)) from rfl,
    show (dats m 0 c).leavesExact 0 t = owns (c : Thread nD τ) (st0_0 t) fullShare (iblk m c 0 t) from by rw [← after_0],
    show (dats m 0 c).leavesExact 1 t = owns (c : Thread nD τ) (st0_1 t) fullShare (iblk m c 1 t) from by rw [← after_1],
    show (dats m 0 c).leavesExact 2 t = owns (c : Thread nD τ) (st0_2 t) fullShare (iblk m c 2 t) from by rw [← after_2],
    show (dats m 0 c).leavesExact 3 t = owns (c : Thread nD τ) (st0_3 t) fullShare (prd m c t) from by rw [← after_3]]
  by_cases h : t.val % 2 = 0
  · rw [show (dats m 0 c).leavesExact 4 t = owns (c : Thread nD τ) (st0_4 t) fullShare (nrm m c t) from by
      unfold Dat.leavesExact; rw [live t h, ← after_4]]
    unfold prd kept nrm
    rw [ev_even t h, Phi_castSucc m c t]
    iintro ⟨HP, Ho, ⟨%d0, H0⟩, ⟨%d1, H1⟩, ⟨%d2, H2⟩, ⟨%d3, H3⟩, ⟨%d4, H4⟩⟩
    ihave HQ := (Phi_out m c _ _) $$ HP
    icases HQ with ⟨HS0, Hg⟩
    iapply (run_A c (grid0.coords t) _ _ _ _ _ _ _ _ _ _ _ _ (iblk m c 0 t) (iblk m c 1 t) (iblk m c 2 t) Set.univ _ ((cond t).mpr h))
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h (by rw [e])
    rw [show (dats m 0 c).leavesExact 4 t = owns (c : Thread nD τ) (st0_4 t) fullShare (nrm m c t) from by
      unfold Dat.leavesExact; rw [idle t h, (flush0_4 t).mpr (by omega), ← after_4]]
    simp only [before_4 m c t h]
    rw [Phi_castSucc m c t, Phi_pos m c _ _ hz,
      show kept m c ⟨t.val - 1, lt_of_le_of_lt (Nat.sub_le _ _) t.isLt⟩ = kept m c t from by unfold kept; rw [ev_pred t h]]
    unfold prd
    iintro ⟨⟨HS0, Hg⟩, Ho, ⟨%d0, H0⟩, ⟨%d1, H1⟩, ⟨%d2, H2⟩, ⟨%d3, H3⟩, ⟨%d4, H4⟩⟩
    iapply (run_B c (grid0.coords t) _ _ _ _ _ _ _ _ _ _ _ _ (iblk m c 0 t) (iblk m c 1 t) (iblk m c 2 t) Set.univ _ (mt (cond t).mp h) _ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem hin (c : Dev nD) : Pipeline.ΦA spec0 c ⊢ (dats m 0 c).Φ 0 := Entails.of_eq rfl

theorem hout (c : Dev nD) : (dats m 0 c).Φ (Fin.last cfg0.N) ⊢ Pipeline.ΦA spec0 c := by
  rw [PhiA_eq]
  exact Phi_out m c _ (Nat.le_of_lt_succ (Fin.last cfg0.N).isLt)

set_option backward.isDefEq.respectTransparency.types false in
/-- The launch: every array ends as the contents above say, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The results are the arrays of the two outputs, and the arguments end unchanged. -/
theorem run_blocks : θ_run defs (onTc (τ := τ) (main (F := F))) ⟨m, fun _ => 0, ρ⟩ (fun r => ∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, (h.1 c).1 4, ((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩) (run_main m ρ)

theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and ((θ_run defs _ _).mono (fun _ h c => (h c).2.2) (run_blocks m ρ)) ((θ_run defs _ _).mono (fun _ h => h.2) (run_main m ρ))

end frame

/-! The kernel over machine words is the same program: what is proved of it at any values holds there too. -/

section
variable {F : FTy → Type} [FloatOps F]

theorem body_eq (i x0 h0 x1 h1 x2 h2 x3 h3 x4 h4 x5 h5) :
    Cert.FirstFKernel.cc0_first_in_proj (F := F) i x0 h0 x1 h1 x2 h2 x3 h3 x4 h4 x5 h5 = cc0_first_in_proj (F := F) i x0 h0 x1 h1 x2 h2 x3 h3 x4 h4 x5 h5 := rfl

theorem defs_eq : Cert.FirstFKernel.defs (F := F) = defs (F := F) := by
  refine congrArg (Pipeline.defs pcfgs) (?_ : Cert.FirstFKernel.defs₀ (F := F) = defs₀ (F := F))
  unfold Cert.FirstFKernel.defs₀ defs₀
  congr 1
  funext l x
  obtain ⟨n, h⟩ := l
  match n, h, x with
  | 0, _, (t, s) => exact body_eq ..

end

theorem frame_kernel : Cert.quiescent_FirstFKernel := fun m ρ _ =>
  Eq.mpr (congrArg (fun d => θ_run d _ _ _) defs_eq) (unchanged (F := Bits) m ρ)
theorem frame_ideal : Cert.quiescent_FirstFKernelIdeal := fun m ρ _ => unchanged m ρ
theorem frame_reference : Cert.quiescent_FirstFReferenceIdeal := fun m ρ _ =>
  (θ_run Cert.FirstFReferenceIdeal.defs _ _).mono
    (fun r h => ⟨fun c => (h c).2.2, sem_eq_zero_of_no_sems (by decide) r.2⟩)
    (Cert.FirstFReferenceIdeal.Value.run m ρ)

section values

variable (m : (ℓ : Loc nD τ sig) → Buf (Elt Ideal) ℓ)

theorem idx : ∀ t : Fin cfg0.N, win0_0.index t = ![t.val / 2, 0] ∧ win0_1.index t = ![t.val % 2, 0] ∧ win0_2.index t = ![0, 0] ∧ win0_3.index t = ![t.val / 2, t.val % 2]
    ∧ win0_4.index t = ![t.val / 2, 0] :=
  (by decide +kernel : ∀ t : Fin grid0.N, _)

/-- The row of the arrays that row `i` of block `t` is, and the column that column `j` is. -/
def row (t : Fin cfg0.N) (i : Fin 512) : Fin 4096 :=
  ⟨t.val / 2 * 512 + i.val, by have := lt_of_lt_of_eq t.isLt N_0; omega⟩

def col (t : Fin cfg0.N) (j : Fin 768) : Fin 1536 :=
  ⟨t.val % 2 * 768 + j.val, by omega⟩

theorem row_ev (t : Fin cfg0.N) (i : Fin 512) : row (ev t) i = row t i :=
  Fin.ext (by unfold row ev; dsimp only; omega)

variable (c : Dev nD) (x0 : S4096x1024.Idx → EReal) (x1 : S1024.Idx → EReal) (x2 : S1024x1536.Idx → EReal)
  (e0 : m ((c : Thread nD τ).loc main_arg0) = x0) (e1 : m ((c : Thread nD τ).loc main_arg1) = x1) (e2 : m ((c : Thread nD τ).loc main_arg2) = x2)

include e0 in
theorem in_0 (t : Fin cfg0.N) (i : Fin 512) (j : Fin 1024) : (iblk m c 0 t (ix2 i j) : EReal) = x0 (ix2 (row t i) j) := by
  subst e0
  unfold row
  blk_point [iblk, V, idx t]

include e2 in
theorem in_1 (t : Fin cfg0.N) (j : Fin 768) (k : Fin 1024) : (iblk m c 1 t (ix2 j k) : EReal) = x2 (ix2 k (col t j)) := by
  subst e2
  unfold col
  blk_point [iblk, V, idx t]

include e1 in
theorem in_2 (t : Fin cfg0.N) (i : Fin 1) (j : Fin 1024) : (iblk m c 2 t (ix2 i j) : EReal) = x1 (ix1 j) := by
  subst e1
  blk_point [iblk, V, idx t]

include e0 e1 in
/-- A block of the normalised rows. -/
theorem normed (t : Fin cfg0.N) (i : Fin 512) (j : Fin 1024) : (nrm m c t (ix2 i j) : EReal) = val_main_v12 (F := Ideal) x0 x1 (ix2 (row t i) j) := by
  unfold nrm
  pointwise [k0_pay1, val_main_v0, val_main_v1, val_main_v2, val_main_v3, val_main_v4, val_main_v5, val_main_v6, val_main_v7, val_main_v8, val_main_v9, val_main_v10, val_main_v11, val_main_v12, val_main_cst, val_main_cst_0, val_main_cst_1]
  simp only [in_0 m c x0 e0, in_2 m c x1 e1, row_ev]

theorem kept_eq (t : Fin cfg0.N) (i : Fin 512) (j : Fin 1024) : (kept m c t (ix2 i j) : EReal) = nrm m c t (ix2 i j) := by
  unfold kept nrm
  pointwise [k0_pay2]

include e0 e1 e2 in
/-- The product, as the kernel leaves it. -/
theorem arr3 : (dats m 0 c).arrAt 3 cfg0.N = val_main_v14 (F := Ideal) x0 x1 x2 := by
  refine (dats m 0 c).arrAt_eq_of_covers 3 _ (by decide +kernel) fun t _ (y : S512x768.Idx) => ?_
  obtain ⟨i, j, rfl⟩ : ∃ (i : Fin 512) (j : Fin 768), y = ix2 i j := ⟨y 0, y 1, eq_ix2 y⟩
  blk_simp
  rw [after_3]
  have eb : ((win0_3.blk t).view.emb (ix2 i j) : S4096x1536.Idx) = ix2 (row t i) (col t j) := by
    unfold row col
    blk_ext! [idx t]
  refine Eq.trans ?_ (congrArg (val_main_v14 (F := Ideal) x0 x1 x2) eb).symm
  unfold prd
  pointwise [k0_pay3, val_main_v14, val_main_v13]
  simp only [kept_eq, normed m c x0 x1 e0 e1, in_1 m c x2 e2]

include e0 e1 in
/-- The normalised rows, as the kernel leaves them. -/
theorem arr4 : (dats m 0 c).arrAt 4 cfg0.N = val_main_v15 (F := Ideal) x0 x1 := by
  refine (dats m 0 c).arrAt_eq_of_covers 4 _ (by decide +kernel) fun t _ (y : S512x1024.Idx) => ?_
  obtain ⟨i, j, rfl⟩ : ∃ (i : Fin 512) (j : Fin 1024), y = ix2 i j := ⟨y 0, y 1, eq_ix2 y⟩
  blk_simp
  rw [after_4]
  have eb : ((win0_4.blk t).view.emb (ix2 i j) : S4096x1024.Idx) = ix2 (row t i) j := by
    unfold row
    blk_ext! [idx t]
  refine Eq.trans ?_ (congrArg (val_main_v15 (F := Ideal) x0 x1) eb).symm
  pointwise [val_main_v15]
  exact normed m c x0 x1 e0 e1 t i j

end values

theorem algebraic : Cert.algebraic_FirstFKernelIdeal_FirstFReferenceIdeal := by
  pair_intro
  · run_from run_blocks m g
  · run_from Cert.FirstFReferenceIdeal.Value.run m' g'
    · refine (val_main_v14_eq _ _ _).trans ?_
      exact (arr3 m c _ _ _ rfl rfl rfl).symm
    · refine (val_main_v15_eq _ _).trans ?_
      exact (arr4 m c _ _ rfl rfl).symm

end Cert.Proof.FirstF

end
-- ==== Proof.XkvF.lean ====
/- The norm of the memory and its projection to keys and values, forward -/
module

public import proofs.«01_k».proof.Defs
public import proofs.«01_k».proof.Proof.Gen.XkvFKernel.Frame
public import proofs.«01_k».proof.Proof.Gen.XkvFKernelIdeal.Frame
public import proofs.«01_k».proof.Proof.Gen.XkvFKernelIdeal.Skeleton
public import proofs.«01_k».proof.Proof.Gen.XkvFReferenceIdeal.Read
public import Idealize.ShloMosaic.Lib.Pipeline.TableIdle
public import Idealize.ShloMosaic.Lib.VecWindow
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.XkvF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.XkvFKernelIdeal Cert.XkvFKernelIdeal.Gen Cert.XkvFReferenceIdeal.Read

section frame

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows are normalised at the first point of each pair. -/
theorem cond : ∀ t : Fin cfg0.N, k0_cond1 (grid0.coords t) = 1#1 ↔ t.val % 2 = 0 :=
  (by decide +kernel : ∀ t : Fin grid0.N, k0_cond1 (grid0.coords t) = 1#1 ↔ t.val % 2 = 0)

theorem live (t : Fin cfg0.N) (h : t.val % 2 = 0) : cfg0.idle 4 (grid0.coords t) = false := by
  have := (cond t).mpr h
  revert t; decide +kernel

theorem idle (t : Fin cfg0.N) (h : ¬t.val % 2 = 0) : cfg0.idle 4 (grid0.coords t) = true := by
  have := mt (cond t).mp h
  revert t; decide +kernel

/-- Whether the normalised rows' buffer holds nothing yet. -/
def fresh : ℕ → Bool
  | 0 => true
  | n + 1 => (0x2 : ℕ).testBit n

theorem fresh_step : ∀ t : Fin cfg0.N, fresh (t.val + 1) = ((cfg0.win 4).flush t || (cfg0.idle 4 (cfg0.grid.coords t) && fresh t.val)) := by
  decide +kernel

theorem notFresh (t : Fin cfg0.N) (h : ¬t.val % 2 = 0) : cfg0.fresh 4 t.val = false := by
  rw [Pipeline.Cfg.fresh_tab cfg0 4 fresh rfl fresh_step t.val (Nat.le_of_lt t.isLt)]
  revert t; decide +kernel

/-- The first point of `t`'s pair. -/
def ev (t : Fin cfg0.N) : Fin cfg0.N := ⟨t.val / 2 * 2, lt_of_le_of_lt (Nat.div_mul_le_self _ _) t.isLt⟩

theorem ev_even (t : Fin cfg0.N) (h : t.val % 2 = 0) : ev t = t := Fin.ext (by unfold ev; dsimp only; omega)

theorem ev_pred (t : Fin cfg0.N) (h : ¬t.val % 2 = 0) (hp) : ev ⟨t.val - 1, hp⟩ = ev t := Fin.ext (by unfold ev; dsimp only; omega)

/-- The normalised rows, as stored and as kept for the products. -/
def nrm (c : Dev nD) (t : Fin cfg0.N) : Vec F S256x1024 .bf16 := k0_pay1 (iblk m c 0 (ev t)) (iblk m c 2 (ev t))
def kept (c : Dev nD) (t : Fin cfg0.N) : Vec F S256x1024 .bf16 := k0_pay2 (iblk m c 0 (ev t)) (iblk m c 2 (ev t))

/-- The product's block. -/
def prd (c : Dev nD) (t : Fin cfg0.N) : Vec F S256x1024 .bf16 := k0_pay3 (kept m c t) (iblk m c 1 t)

abbrev scM : Memref sig .tc .vmem S256x1024 .bf16 := Memref.whole cc0_scratch0

theorem PhiA_eq (c : Dev nD) :
    Pipeline.ΦA (U := UR sig nD τ) (Val := Elt F) spec0 c = iprop((∃ d, owns (c : Thread nD τ) scM fullShare d) ∗ (∃ r, prngReg c r)) := by
  unfold Pipeline.ΦA; rw [scopedRest0_eq]; simp only [scM, owns_whole]; try rfl

/-- A load of a whole buffer reads what it holds. -/
theorem load {s : Shape} {e : EltTy} {M : Memref sig .tc .vmem s e} (h : M.IsWhole) {off : Fin s.rank → ℕ} (b : ∀ a, off a + s.size a ≤ s.size a) (x : s.Idx → Elt F e) :
    M.view.readAt (Elt F) (Rect.unit off s.size b).toLoadRect (h.unread x) = x := by
  rw [View.readAt_full, h.read_unread]

set_option maxHeartbeats 1000000 in
/-- The body at the first point of a pair. -/
theorem run_A (c : Dev nD) (i : grid0.Coords) (arg2 : Memref sig .tc .vmem S256x1024 .f32) (harg2 : arg2.IsWhole) (arg3 : Memref sig .tc .vmem S1024x1024 .bf16) (harg3 : arg3.IsWhole)
  (arg4 : Memref sig .tc .vmem S1x1024 .f32) (harg4 : arg4.IsWhole) (arg5 : Memref sig .tc .vmem S256x1024 .bf16) (harg5 : arg5.IsWhole)
  (arg6 : Memref sig .tc .vmem S256x1024 .bf16) (harg6 : arg6.IsWhole) (arg7 : Memref sig .tc .vmem S256x1024 .bf16) (harg7 : arg7.IsWhole)
  (x0 : Vec F S256x1024 .f32) (x1 : Vec F S1024x1024 .bf16) (x2 : Vec F S1x1024 .f32) (E : Set ℕ) (K : PUnit → sProp 𝕄) (hc : k0_cond1 i = 1#1) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 x0 x2) x1)
          ∗ owns (c : Thread nD τ) arg6 fullShare (k0_pay1 x0 x2) ∗ owns (c : Thread nD τ) arg7 fullShare (k0_pay2 x0 x2)) -∗ K ⟨⟩))
      ⊢ wp frame (wpE (defs₀ (F := F)) Variants.none c none) E (cc0_xkv_proj i arg2 harg2 arg3 harg3 arg4 harg4 arg5 harg5 arg6 harg6 arg7 harg7) K := by
  simp only [cc0_xkv_proj_eq_skeleton]; unfold cc0_xkv_proj_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans (congrArg₂ k0_pay3 ?_ (load harg3 _ _))
    unfold run_A.sl.v3 run_A.sl.HS0_1
    exact (View.readCov_full _ _ _ _ _).trans (congrArg₂ k0_pay2 (load harg2 _ _) (load harg4 _ _))
  isplitl [H4]
  · iexists _; isplitr
    swap; · iexact H4
    ipureintro
    exact (View.read_writes_full _ _ _ _ _).trans (congrArg₂ k0_pay1 (load harg2 _ _) (load harg4 _ _))
  iexists _; isplitr
  swap; · iexact HS0
  ipureintro
  unfold run_A.sl.HS0_1
  exact (View.read_writes_full _ _ _ _ _).trans (congrArg₂ k0_pay2 (load harg2 _ _) (load harg4 _ _))

set_option maxHeartbeats 1000000 in
/-- The body at the second point of a pair. -/
theorem run_B (c : Dev nD) (i : grid0.Coords) (arg2 : Memref sig .tc .vmem S256x1024 .f32) (harg2 : arg2.IsWhole) (arg3 : Memref sig .tc .vmem S1024x1024 .bf16) (harg3 : arg3.IsWhole)
  (arg4 : Memref sig .tc .vmem S1x1024 .f32) (harg4 : arg4.IsWhole) (arg5 : Memref sig .tc .vmem S256x1024 .bf16) (harg5 : arg5.IsWhole)
  (arg6 : Memref sig .tc .vmem S256x1024 .bf16) (harg6 : arg6.IsWhole) (arg7 : Memref sig .tc .vmem S256x1024 .bf16) (harg7 : arg7.IsWhole)
  (x0 : Vec F S256x1024 .f32) (x1 : Vec F S1024x1024 .bf16) (x2 : Vec F S1x1024 .f32) (E : Set ℕ) (K : PUnit → sProp 𝕄) (hc : ¬k0_cond1 i = 1#1) (x4 xs : Vec F S256x1024 .bf16) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 xs x1)
          ∗ owns (c : Thread nD τ) arg6 fullShare x4 ∗ owns (c : Thread nD τ) arg7 fullShare xs) -∗ K ⟨⟩))
      ⊢ wp frame (wpE (defs₀ (F := F)) Variants.none c none) E (cc0_xkv_proj i arg2 harg2 arg3 harg3 arg4 harg4 arg5 harg5 arg6 harg6 arg7 harg7) K := by
  simp only [cc0_xkv_proj_eq_skeleton]; unfold cc0_xkv_proj_skel
  unfold owns
  iintro ⟨⟨%f0, %hf0, H0⟩, ⟨%f1, %hf1, H1⟩, ⟨%f2, %hf2, H2⟩, ⟨%d3, %f3, -, H3⟩, H4, ⟨%fs0, %hfs, HS0⟩, Hk⟩
  obtain rfl := harg2.eq_unread hf0; obtain rfl := harg3.eq_unread hf1; obtain rfl := harg4.eq_unread hf2; obtain rfl := harg7.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact (View.read_writes_full _ _ _ _ _).trans (congrArg₂ k0_pay3 (load harg7 _ _) (load harg3 _ _))
  isplitl [H4]; · iexact H4
  iexists _; isplitr; · ipureintro; exact harg7.read_unread _
  iexact HS0

/-- What the region keeps between points: the scratch at the normalised rows. -/
def Phi (c : Dev nD) : (n : ℕ) → n ≤ cfg0.N → sProp 𝕄
  | 0, _ => Pipeline.ΦA spec0 c
  | n + 1, hn => iprop(owns (c : Thread nD τ) scM fullShare (kept m c ⟨n, hn⟩) ∗ (∃ r, prngReg c r))

theorem Phi_pos (c : Dev nD) (n : ℕ) (h : n ≤ cfg0.N) (hz : n ≠ 0) :
    Phi m c n h = iprop(owns (c : Thread nD τ) scM fullShare (kept m c ⟨n - 1, by omega⟩) ∗ (∃ r, prngReg c r)) := by
  cases n with
  | zero => exact absurd rfl hz
  | succ n => rfl

/-- After any point but the first the scratch's contents may be forgotten. -/
theorem Phi_out (c : Dev nD) (n : ℕ) (h : n ≤ cfg0.N) : Phi m c n h ⊢ iprop((∃ d, owns (c : Thread nD τ) scM fullShare d) ∗ (∃ r, prngReg c r)) := by
  by_cases hz : n = 0
  · subst hz
    exact Entails.of_eq (PhiA_eq c)
  · rw [Phi_pos m c n h hz]
    iintro ⟨HS0, Hg⟩
    isplitl [HS0]
    · iexists _; iexact HS0
    iexact Hg

/-- The contents at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prd m c t
    | ⟨4, _⟩ => nrm m c t
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = prd m c t := by dsimp only [dats]
theorem after_4 (c : Dev nD) (t : Fin cfg0.N) : (dats m 0 c).after 4 t = nrm m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

theorem before_4 (c : Dev nD) (t : Fin cfg0.N) (h : ¬t.val % 2 = 0) (d) : (dats m 0 c).before 4 t d = nrm m c t := by
  have carry : ∀ (t : Fin cfg0.N) (_ : t.val ≠ 0), cfg0.idle 4 (grid0.coords t) = true → cfg0.fresh 4 t.val = false →
      (dats m 0 c).after 4 t = (dats m 0 c).after 4 ⟨t.val - 1, by omega⟩ := by
    intro t _ hi _
    by_cases h0 : t.val % 2 = 0
    · rw [live t h0] at hi
      exact absurd hi Bool.false_ne_true
    · rw [after_4, after_4]
      unfold nrm
      rw [ev_pred t h0]
  rw [Dat.before_out_traj _ 4 rfl (fun _ _ => rfl) carry t.val t rfl d, if_neg (by rw [notFresh t h]; exact Bool.false_ne_true), after_4]
  unfold nrm
  rw [ev_pred t h]

/-- What the body is called with at a point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = iprop(owns (c : Thread nD τ) scM fullShare (kept m c t) ∗ (∃ r, prngReg c r)) from rfl,
    show (dats m 0 c).leavesExact 0 t = owns (c : Thread nD τ) (st0_0 t) fullShare (iblk m c 0 t) from by rw [← after_0],
    show (dats m 0 c).leavesExact 1 t = owns (c : Thread nD τ) (st0_1 t) fullShare (iblk m c 1 t) from by rw [← after_1],
    show (dats m 0 c).leavesExact 2 t = owns (c : Thread nD τ) (st0_2 t) fullShare (iblk m c 2 t) from by rw [← after_2],
    show (dats m 0 c).leavesExact 3 t = owns (c : Thread nD τ) (st0_3 t) fullShare (prd m c t) from by rw [← after_3]]
  by_cases h : t.val % 2 = 0
  · rw [show (dats m 0 c).leavesExact 4 t = owns (c : Thread nD τ) (st0_4 t) fullShare (nrm m c t) from by
      unfold Dat.leavesExact; rw [live t h, ← after_4]]
    unfold prd kept nrm
    rw [ev_even t h, Phi_castSucc m c t]
    iintro ⟨HP, Ho, ⟨%d0, H0⟩, ⟨%d1, H1⟩, ⟨%d2, H2⟩, ⟨%d3, H3⟩, ⟨%d4, H4⟩⟩
    ihave HQ := (Phi_out m c _ _) $$ HP
    icases HQ with ⟨HS0, Hg⟩
    iapply (run_A c (grid0.coords t) _ _ _ _ _ _ _ _ _ _ _ _ (iblk m c 0 t) (iblk m c 1 t) (iblk m c 2 t) Set.univ _ ((cond t).mpr h))
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h (by rw [e])
    rw [show (dats m 0 c).leavesExact 4 t = owns (c : Thread nD τ) (st0_4 t) fullShare (nrm m c t) from by
      unfold Dat.leavesExact; rw [idle t h, (flush0_4 t).mpr (by omega), ← after_4]]
    simp only [before_4 m c t h]
    rw [Phi_castSucc m c t, Phi_pos m c _ _ hz,
      show kept m c ⟨t.val - 1, lt_of_le_of_lt (Nat.sub_le _ _) t.isLt⟩ = kept m c t from by unfold kept; rw [ev_pred t h]]
    unfold prd
    iintro ⟨⟨HS0, Hg⟩, Ho, ⟨%d0, H0⟩, ⟨%d1, H1⟩, ⟨%d2, H2⟩, ⟨%d3, H3⟩, ⟨%d4, H4⟩⟩
    iapply (run_B c (grid0.coords t) _ _ _ _ _ _ _ _ _ _ _ _ (iblk m c 0 t) (iblk m c 1 t) (iblk m c 2 t) Set.univ _ (mt (cond t).mp h) _ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem hin (c : Dev nD) : Pipeline.ΦA spec0 c ⊢ (dats m 0 c).Φ 0 := Entails.of_eq rfl

theorem hout (c : Dev nD) : (dats m 0 c).Φ (Fin.last cfg0.N) ⊢ Pipeline.ΦA spec0 c := by
  rw [PhiA_eq]
  exact Phi_out m c _ (Nat.le_of_lt_succ (Fin.last cfg0.N).isLt)

set_option backward.isDefEq.respectTransparency.types false in
/-- The launch: every array ends as the contents above say, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The results are the arrays of the two outputs, and the arguments end unchanged. -/
theorem run_blocks : θ_run defs (onTc (τ := τ) (main (F := F))) ⟨m, fun _ => 0, ρ⟩ (fun r => ∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, (h.1 c).1 4, ((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩) (run_main m ρ)

theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and ((θ_run defs _ _).mono (fun _ h c => (h c).2.2) (run_blocks m ρ)) ((θ_run defs _ _).mono (fun _ h => h.2) (run_main m ρ))

end frame

/-! The kernel over machine words is the same program: what is proved of it at any values holds there too. -/

section
variable {F : FTy → Type} [FloatOps F]

theorem body_eq (i x0 h0 x1 h1 x2 h2 x3 h3 x4 h4 x5 h5) :
    Cert.XkvFKernel.cc0_xkv_proj (F := F) i x0 h0 x1 h1 x2 h2 x3 h3 x4 h4 x5 h5 = cc0_xkv_proj (F := F) i x0 h0 x1 h1 x2 h2 x3 h3 x4 h4 x5 h5 := rfl

theorem defs_eq : Cert.XkvFKernel.defs (F := F) = defs (F := F) := by
  refine congrArg (Pipeline.defs pcfgs) (?_ : Cert.XkvFKernel.defs₀ (F := F) = defs₀ (F := F))
  unfold Cert.XkvFKernel.defs₀ defs₀
  congr 1
  funext l x
  obtain ⟨n, h⟩ := l
  match n, h, x with
  | 0, _, (t, s) => exact body_eq ..

end

theorem frame_kernel : Cert.quiescent_XkvFKernel := fun m ρ _ =>
  Eq.mpr (congrArg (fun d => θ_run d _ _ _) defs_eq) (unchanged (F := Bits) m ρ)
theorem frame_ideal : Cert.quiescent_XkvFKernelIdeal := fun m ρ _ => unchanged m ρ
theorem frame_reference : Cert.quiescent_XkvFReferenceIdeal := fun m ρ _ =>
  (θ_run Cert.XkvFReferenceIdeal.defs _ _).mono
    (fun r h => ⟨fun c => (h c).2.2, sem_eq_zero_of_no_sems (by decide) r.2⟩)
    (Cert.XkvFReferenceIdeal.Value.run m ρ)

section values

variable (m : (ℓ : Loc nD τ sig) → Buf (Elt Ideal) ℓ)

theorem idx : ∀ t : Fin cfg0.N, win0_0.index t = ![t.val / 2, 0] ∧ win0_1.index t = ![t.val % 2, 0] ∧ win0_2.index t = ![0, 0] ∧ win0_3.index t = ![t.val / 2, t.val % 2]
    ∧ win0_4.index t = ![t.val / 2, 0] :=
  (by decide +kernel : ∀ t : Fin grid0.N, _)

/-- The row of the arrays that row `i` of block `t` is, and the column that column `j` is. -/
def row (t : Fin cfg0.N) (i : Fin 256) : Fin 256 :=
  ⟨t.val / 2 * 256 + i.val, by have := lt_of_lt_of_eq t.isLt N_0; omega⟩

def col (t : Fin cfg0.N) (j : Fin 1024) : Fin 2048 :=
  ⟨t.val % 2 * 1024 + j.val, by omega⟩

theorem row_ev (t : Fin cfg0.N) (i : Fin 256) : row (ev t) i = row t i :=
  Fin.ext (by unfold row ev; dsimp only; omega)

variable (c : Dev nD) (x0 : S256x1024.Idx → EReal) (x1 : S1024.Idx → EReal) (x2 : S1024x2048.Idx → EReal)
  (e0 : m ((c : Thread nD τ).loc main_arg0) = x0) (e1 : m ((c : Thread nD τ).loc main_arg1) = x1) (e2 : m ((c : Thread nD τ).loc main_arg2) = x2)

include e0 in
theorem in_0 (t : Fin cfg0.N) (i : Fin 256) (j : Fin 1024) : (iblk m c 0 t (ix2 i j) : EReal) = x0 (ix2 (row t i) j) := by
  subst e0
  unfold row
  blk_point [iblk, V, idx t]

include e2 in
theorem in_1 (t : Fin cfg0.N) (j : Fin 1024) (k : Fin 1024) : (iblk m c 1 t (ix2 j k) : EReal) = x2 (ix2 k (col t j)) := by
  subst e2
  unfold col
  blk_point [iblk, V, idx t]

include e1 in
theorem in_2 (t : Fin cfg0.N) (i : Fin 1) (j : Fin 1024) : (iblk m c 2 t (ix2 i j) : EReal) = x1 (ix1 j) := by
  subst e1
  blk_point [iblk, V, idx t]

include e0 e1 in
/-- A block of the normalised rows. -/
theorem normed (t : Fin cfg0.N) (i : Fin 256) (j : Fin 1024) : (nrm m c t (ix2 i j) : EReal) = val_main_v12 (F := Ideal) x0 x1 (ix2 (row t i) j) := by
  unfold nrm
  pointwise [k0_pay1, val_main_v0, val_main_v1, val_main_v2, val_main_v3, val_main_v4, val_main_v5, val_main_v6, val_main_v7, val_main_v8, val_main_v9, val_main_v10, val_main_v11, val_main_v12, val_main_cst, val_main_cst_0, val_main_cst_1]
  simp only [in_0 m c x0 e0, in_2 m c x1 e1, row_ev]

theorem kept_eq (t : Fin cfg0.N) (i : Fin 256) (j : Fin 1024) : (kept m c t (ix2 i j) : EReal) = nrm m c t (ix2 i j) := by
  unfold kept nrm
  pointwise [k0_pay2]

include e0 e1 e2 in
/-- The product, as the kernel leaves it. -/
theorem arr3 : (dats m 0 c).arrAt 3 cfg0.N = val_main_v14 (F := Ideal) x0 x1 x2 := by
  refine (dats m 0 c).arrAt_eq_of_covers 3 _ (by decide +kernel) fun t _ (y : S256x1024.Idx) => ?_
  obtain ⟨i, j, rfl⟩ : ∃ (i : Fin 256) (j : Fin 1024), y = ix2 i j := ⟨y 0, y 1, eq_ix2 y⟩
  blk_simp
  rw [after_3]
  have eb : ((win0_3.blk t).view.emb (ix2 i j) : S256x2048.Idx) = ix2 (row t i) (col t j) := by
    unfold row col
    blk_ext! [idx t]
  refine Eq.trans ?_ (congrArg (val_main_v14 (F := Ideal) x0 x1 x2) eb).symm
  unfold prd
  pointwise [k0_pay3, val_main_v14, val_main_v13]
  simp only [kept_eq, normed m c x0 x1 e0 e1, in_1 m c x2 e2]

include e0 e1 in
/-- The normalised rows, as the kernel leaves them. -/
theorem arr4 : (dats m 0 c).arrAt 4 cfg0.N = val_main_v15 (F := Ideal) x0 x1 := by
  refine (dats m 0 c).arrAt_eq_of_covers 4 _ (by decide +kernel) fun t _ (y : S256x1024.Idx) => ?_
  obtain ⟨i, j, rfl⟩ : ∃ (i : Fin 256) (j : Fin 1024), y = ix2 i j := ⟨y 0, y 1, eq_ix2 y⟩
  blk_simp
  rw [after_4]
  have eb : ((win0_4.blk t).view.emb (ix2 i j) : S256x1024.Idx) = ix2 (row t i) j := by
    unfold row
    blk_ext! [idx t]
  refine Eq.trans ?_ (congrArg (val_main_v15 (F := Ideal) x0 x1) eb).symm
  pointwise [val_main_v15]
  exact normed m c x0 x1 e0 e1 t i j

end values

theorem algebraic : Cert.algebraic_XkvFKernelIdeal_XkvFReferenceIdeal := by
  pair_intro
  · run_from run_blocks m g
  · run_from Cert.XkvFReferenceIdeal.Value.run m' g'
    · refine (val_main_v14_eq _ _ _).trans ?_
      exact (arr3 m c _ _ _ rfl rfl rfl).symm
    · refine (val_main_v15_eq _ _).trans ?_
      exact (arr4 m c _ _ rfl rfl).symm

end Cert.Proof.XkvF

end
-- ==== Proof.ChipSum.lean ====
/- The two devices' parts of a gradient -/
module

public import proofs.«01_k».proof.Defs
public import proofs.«01_k».proof.Proof.Gen.ChipSumKernel.Frame
public import proofs.«01_k».proof.Proof.Gen.ChipSumKernelIdeal.Frame
public import proofs.«01_k».proof.Proof.Gen.ChipSumReferenceIdeal.Read
public import Idealize.ShloMosaic.Lib.Pipeline.ValueKit
public import Idealize.ShloMosaic.Lib.Pipeline.Covers
public import Idealize.ShloMosaic.Lib.Pipeline.ReadBack
public import Idealize.ShloMosaic.Lib.Pointwise

@[expose] public section

set_option maxRecDepth 16384

noncomputable section

namespace Cert.Proof.ChipSum

open Idealize.ShloMosaic Idealize.ShloMosaic.TcCoe Idealize.SL.Sem
open Idealize.ShloMosaic.Pipeline (Dat)
open Cert.ChipSumReferenceIdeal (S1x704x1024)
open Cert.ChipSumReferenceIdeal.Gen (bcast_S704x1024_S1x704x1024_1_2)
open Cert.ChipSumKernelIdeal Cert.ChipSumKernelIdeal.Gen Cert.ChipSumReferenceIdeal.Read

section frame

variable {F : FTy → Type} [FloatOps F] (m : (ℓ : Loc nD τ sig) → Buf (Elt F) ℓ)

/-- The table: which blocks of the gradient the four destinations own. -/
theorem table : (tbl m 0 : S4.Idx → BitVec 32) = fun i => lit0 (S4.rowMajor i) := by
  show V m 0 main_c = _
  unfold_abbrev_sides
  after_results
  rfl

theorem word0 : (tbl m).at 0 (Rect.unit (s := S4) ![0] S1.size inb_S4_S1_0) numel1_S1 = 0#32 := by
  unfold Pipeline.Prefetch.Contents.at
  exact congrFun (table m) _
theorem word1 : (tbl m).at 0 (Rect.unit (s := S4) ![1] S1.size inb_S4_S1_1) numel1_S1 = 4#32 := by
  unfold Pipeline.Prefetch.Contents.at
  exact congrFun (table m) _
theorem word2 : (tbl m).at 0 (Rect.unit (s := S4) ![2] S1.size inb_S4_S1_2) numel1_S1 = 2#32 := by
  unfold Pipeline.Prefetch.Contents.at
  exact congrFun (table m) _
theorem word3 : (tbl m).at 0 (Rect.unit (s := S4) ![3] S1.size inb_S4_S1_3) numel1_S1 = 6#32 := by
  unfold Pipeline.Prefetch.Contents.at
  exact congrFun (table m) _

/-- Where a block of the gradient lies that the table's word `b` names. -/
def blockAt (b : BitVec 32) (i : grid0.Coords) : Fin 2 → ℕ := ![(Scalar.addi (Scalar.muli b 4#32) (BitVec.ofNat 32 (i 0).val)).toNat, 0]

theorem trans0 : cc0_transform_0 inb_S4_S1_0 numel1_S1 (tbl m) = blockAt 0#32 := by
  funext i; unfold cc0_transform_0; simp only [word0]; rfl
theorem trans1 : cc0_transform_1 inb_S4_S1_1 numel1_S1 (tbl m) = blockAt 4#32 := by
  funext i; unfold cc0_transform_1; simp only [word1]; rfl
theorem trans2 : cc0_transform_2 inb_S4_S1_2 numel1_S1 (tbl m) = blockAt 2#32 := by
  funext i; unfold cc0_transform_2; simp only [word2]; rfl
theorem trans3 : cc0_transform_3 inb_S4_S1_3 numel1_S1 (tbl m) = blockAt 6#32 := by
  funext i; unfold cc0_transform_3; simp only [word3]; rfl

theorem ok : Ok m := by
  show ok0 (tbl m)
  unfold ok0
  rw [trans0, trans1, trans2, trans3]
  refine ⟨fun i => ⟨?_, .inl rfl⟩, fun i => ⟨?_, .inl rfl⟩, fun i => ⟨?_, .inl rfl⟩, fun i => ⟨?_, .inl rfl⟩⟩ <;> revert i <;> decide +kernel

theorem idx0 (t : Fin (cfgM m (ok m)).N) : ((cfgM m (ok m)).win 0).index t = ![0 + t.val, 0] :=
  (congrFun (trans0 m) _).trans ((by decide +kernel : ∀ t : Fin grid0.N, blockAt 0#32 (grid0.coords t) = ![0 + t.val, 0]) t)

theorem idx1 (t : Fin (cfgM m (ok m)).N) : ((cfgM m (ok m)).win 1).index t = ![16 + t.val, 0] :=
  (congrFun (trans1 m) _).trans ((by decide +kernel : ∀ t : Fin grid0.N, blockAt 4#32 (grid0.coords t) = ![16 + t.val, 0]) t)

theorem idx2 (t : Fin (cfgM m (ok m)).N) : ((cfgM m (ok m)).win 2).index t = ![8 + t.val, 0] :=
  (congrFun (trans2 m) _).trans ((by decide +kernel : ∀ t : Fin grid0.N, blockAt 2#32 (grid0.coords t) = ![8 + t.val, 0]) t)

theorem idx3 (t : Fin (cfgM m (ok m)).N) : ((cfgM m (ok m)).win 3).index t = ![24 + t.val, 0] :=
  (congrFun (trans3 m) _).trans ((by decide +kernel : ∀ t : Fin grid0.N, blockAt 6#32 (grid0.coords t) = ![24 + t.val, 0]) t)

theorem idx4 (t : Fin (cfgM m (ok m)).N) : ((cfgM m (ok m)).win 4).index t = ![0, t.val, 0] :=
  (by decide +kernel : ∀ t : Fin grid0.N, cc0_transform_4 (grid0.coords t) = ![0, t.val, 0]) t
theorem idx5 (t : Fin (cfgM m (ok m)).N) : ((cfgM m (ok m)).win 5).index t = ![t.val, 0] :=
  (by decide +kernel : ∀ t : Fin grid0.N, cc0_transform_5 (grid0.coords t) = ![t.val, 0]) t
theorem idx6 (t : Fin (cfgM m (ok m)).N) : ((cfgM m (ok m)).win 6).index t = ![0, t.val, 0] :=
  (by decide +kernel : ∀ t : Fin grid0.N, cc0_transform_6 (grid0.coords t) = ![0, t.val, 0]) t

theorem count2 (a : Fin 2) : ((cfgM m (ok m)).win 5).nblk a = (![4, 1] : Fin 2 → ℕ) a := by
  show (S704x1024.size a + S176x1024.size a - 1) / S176x1024.size a = _
  revert a
  decide +kernel

theorem count3 (a : Fin 3) : ((cfgM m (ok m)).win 6).nblk a = (![1, 4, 1] : Fin 3 → ℕ) a := by
  show (S3x704x1024.size a + S3x176x1024.size a - 1) / S3x176x1024.size a = _
  revert a
  decide +kernel

theorem covers5 : ((cfgM m (ok m)).win 5).Covers := by
  refine Pipeline.Window.covers_of_index_surj _ rfl (by decide +kernel : ∀ a : Fin 2, 0 < S176x1024.size a) fun β => ?_
  have h : ∀ b : Fin 4 × Fin 1, ∃ t : Fin grid0.N, ∀ a : Fin 2, cc0_transform_5 (grid0.coords t) a = ![b.1.val, b.2.val] a := by decide +kernel
  obtain ⟨t, ht⟩ := h (⟨(β (0 : Fin 2)).val, lt_of_lt_of_eq (β (0 : Fin 2)).isLt (count2 m 0)⟩, ⟨(β (1 : Fin 2)).val, lt_of_lt_of_eq (β (1 : Fin 2)).isLt (count2 m 1)⟩)
  exact ⟨t, fun (a : Fin 2) => (ht a).trans (match a with | 0 => rfl | 1 => rfl)⟩

theorem covers6 : ((cfgM m (ok m)).win 6).Covers := by
  refine Pipeline.Window.covers_of_index_surj _ rfl (by decide +kernel : ∀ a : Fin 3, 0 < S3x176x1024.size a) fun β => ?_
  have h : ∀ b : Fin 1 × Fin 4 × Fin 1, ∃ t : Fin grid0.N, ∀ a : Fin 3, cc0_transform_6 (grid0.coords t) a = ![b.1.val, b.2.1.val, b.2.2.val] a := by decide +kernel
  obtain ⟨t, ht⟩ := h (⟨(β (0 : Fin 3)).val, lt_of_lt_of_eq (β (0 : Fin 3)).isLt (count3 m 0)⟩, ⟨(β (1 : Fin 3)).val, lt_of_lt_of_eq (β (1 : Fin 3)).isLt (count3 m 1)⟩, ⟨(β (2 : Fin 3)).val, lt_of_lt_of_eq (β (2 : Fin 3)).isLt (count3 m 2)⟩)
  exact ⟨t, fun (a : Fin 3) => (ht a).trans (match a with | 0 => rfl | 1 => rfl | 2 => rfl)⟩

/-- The run ends with the two results as the data of the pipeline name them. -/
theorem run_sums (ρ : Dev nD → PrngReg) : θ_run defs (onTc (τ := τ) (main (F := F))) ⟨m, fun _ => 0, ρ⟩ fun r => ∀ c : Dev nD,
    r.2.mem ((c : Thread nD τ).loc main_v0_0) = (dats m (ok m) 0 c).arrAt 5 (cfgM m (ok m)).N
      ∧ r.2.mem ((c : Thread nD τ).loc main_v0_1) = (dats m (ok m) 0 c).arrAt 6 (cfgM m (ok m)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 5, (h c).1 6,
    ((h c).1 3).trans (((dats m (ok m) 0 c).arrAt_in 3 rfl _).trans ((A_eq m (ok m) c 3).trans (V_main_arg0 m c))),
    ((h c).1 4).trans (((dats m (ok m) 0 c).arrAt_in 4 rfl _).trans ((A_eq m (ok m) c 4).trans (V_main_arg1 m c)))⟩) (run_main m ρ (ok m))

end frame

/-- Where a slab stands in the stack. -/
theorem slab (k : ℕ) (hk : k < 3) (inb : ∀ a, (![k, 0, 0] : Fin 3 → ℕ) a + S1x176x1024.size a ≤ S3x176x1024.size a) (x : S1x176x1024.Idx) :
    (Rect.unit (s := S3x176x1024) ![k, 0, 0] ![1, 176, 1024] inb).emb x = (ix3 ⟨k, hk⟩ (x 1) (x 2) : S3x176x1024.Idx) := by
  funext a
  apply Fin.ext
  have h0 : (x 0).val = 0 := congrArg Fin.val (Subsingleton.elim (α := Fin 1) (x 0) 0)
  match a with
  | ⟨0, _⟩ => show k + 1 * (x 0).val = k; omega
  | ⟨1, _⟩ => show 0 + 1 * (x 1).val = (x 1).val; omega
  | ⟨2, _⟩ => show 0 + 1 * (x 2).val = (x 2).val; omega

/-- A slab has one layer. -/
theorem first (x : S1x176x1024.Idx) : x = ix3 0 (x 1) (x 2) := by
  rw [← Subsingleton.elim (α := Fin 1) (x 0) 0]
  exact eq_ix3 x

/-- What three stores of one slab each leave. -/
theorem three (a b c : S1x176x1024.Idx → EReal) (d : Fin 3) (i : Fin 176) (j : Fin 1024) :
    (View.canon (Val := Elt Ideal) (e := .bf16) [⟨Rect.unit (s := S3x176x1024) ![2, 0, 0] ![1, 176, 1024] inb_S3x176x1024_S1x176x1024_2_0_0, c⟩,
      ⟨Rect.unit (s := S3x176x1024) ![1, 0, 0] ![1, 176, 1024] inb_S3x176x1024_S1x176x1024_1_0_0, b⟩,
      ⟨Rect.unit (s := S3x176x1024) ![0, 0, 0] ![1, 176, 1024] inb_S3x176x1024_S1x176x1024_0_0_0, a⟩] (ix3 d i j) : EReal)
      = (![a, b, c] : Fin 3 → S1x176x1024.Idx → EReal) d (ix3 0 i j) := by
  refine View.canon_apply_of_pieces (Val := Elt Ideal) (e := .bf16)
    (fun y : S3x176x1024.Idx => (![a, b, c] : Fin 3 → S1x176x1024.Idx → EReal) (y 0) (ix3 0 (y 1) (y 2))) _ ?_ _ ?_
  · intro p hp x
    simp only [List.mem_cons, List.not_mem_nil, or_false] at hp
    rcases hp with rfl | rfl | rfl
    all_goals rw [slab _ (by decide)]
    · exact congrArg c (first x)
    · exact congrArg b (first x)
    · exact congrArg a (first x)
  · have e := View.cover_of_tiledL (Val := Elt Ideal) (s := S3x176x1024) (e := .bf16) [⟨Rect.unit (s := S3x176x1024) ![2, 0, 0] ![1, 176, 1024] inb_S3x176x1024_S1x176x1024_2_0_0, c⟩,
      ⟨Rect.unit (s := S3x176x1024) ![1, 0, 0] ![1, 176, 1024] inb_S3x176x1024_S1x176x1024_1_0_0, b⟩,
      ⟨Rect.unit (s := S3x176x1024) ![0, 0, 0] ![1, 176, 1024] inb_S3x176x1024_S1x176x1024_0_0_0, a⟩] S1x176x1024.size rfl (ix3 d i j)
    exact e

section body

variable (c : Dev nD) (g : grid0.Coords) (a2 : Memref sig .tc .vmem S176x1024 .f32) (h2 : a2.IsWhole) (a3 : Memref sig .tc .vmem S176x1024 .f32) (h3 : a3.IsWhole)
  (a4 : Memref sig .tc .vmem S176x1024 .f32) (h4 : a4.IsWhole) (a5 : Memref sig .tc .vmem S176x1024 .f32) (h5 : a5.IsWhole)
  (a6 : Memref sig .tc .vmem S4x176x1024 .f32) (h6 : a6.IsWhole) (a7 : Memref sig .tc .vmem S176x1024 .f32) (h7 : a7.IsWhole)
  (a8 : Memref sig .tc .vmem S3x176x1024 .bf16) (h8 : a8.IsWhole) (b0 b1 b2 b3 : Vec Ideal S176x1024 .f32) (b4 : Vec Ideal S4x176x1024 .f32)
  (tb : TbBuf0 (F := Ideal) c tbM0_0)

theorem left5 (i : Fin 176) (j : Fin 1024) :
    (out0_A_5 c g a2 h2 a3 h3 a4 h4 a5 h5 a6 h6 a7 h7 a8 h8 b0 b1 b2 b3 b4 tb (ix2 i j) : EReal) = b0 (ix2 i j) + b4 (ix3 0 i j) := by
  unfold out0_A_5
  frame_out
  pointwise [k0_pay2]

theorem left6 (d : Fin 3) (i : Fin 176) (j : Fin 1024) :
    (out0_A_6 c g a2 h2 a3 h3 a4 h4 a5 h5 a6 h6 a7 h7 a8 h8 b0 b1 b2 b3 b4 tb (ix3 d i j) : EReal)
      = (![b1, b2, b3] : Fin 3 → S176x1024.Idx → EReal) d (ix2 i j) + b4 (ix3 d.succ i j) := by
  unfold out0_A_6
  frame_out
  refine (three _ _ _ d i j).trans ?_
  fin_cases d <;> pointwise [k0_pay1, k0_pay3, k0_pay4, k0_pay5] <;> rfl

end body

theorem plus {a a' b b' : EReal} (h : a = a') (h' : b = b') : a + b = a' + b' := h ▸ h' ▸ rfl

/-- Four layers stacked. -/
theorem stack4 (a b c d : S1x704x1024.Idx → EReal) (h) (k : Fin 4) (r : Fin 704) (j : Fin 1024) :
    concatenate S4x704x1024 0 [⟨S1x704x1024, a⟩, ⟨S1x704x1024, b⟩, ⟨S1x704x1024, c⟩, ⟨S1x704x1024, d⟩] h (ix3 k r j)
      = (![a, b, c, d] : Fin 4 → S1x704x1024.Idx → EReal) k (ix3 0 r j) := by
  match k with
  | 0 => pointwise
  | 1 => pointwise
  | 2 => pointwise
  | 3 => pointwise

section reference

variable (x0 : S5632x1024.Idx → EReal) (x1 : S4x704x1024.Idx → EReal)

/-- The part of the gradient that owner `p` keeps. -/
theorem owner (p : ℕ) (hp : p < 8) (v : S704x1024.Idx → EReal) (hv : ∀ (r : Fin 704) (j : Fin 1024), v (ix2 r j) = val_main_v0 (F := Ideal) x0 (ix3 ⟨p, hp⟩ r j))
    (r : Fin 704) (j : Fin 1024) :
    (broadcastInDim S1x704x1024 ![1, 2] bcast_S704x1024_S1x704x1024_1_2 v (ix3 0 r j) : EReal) = x0 (ix2 ⟨p * 704 + r.val, by omega⟩ j) := by
  pointwise
  rw [hv, val_main_v0_apply]
  refine congrArg x0 (funext fun a => Fin.ext ?_)
  match a with
  | ⟨0, _⟩ => show ((p * 704 + r.val) * 1024 + j.val) / 1024 = p * 704 + r.val; omega
  | ⟨1, _⟩ => show ((p * 704 + r.val) * 1024 + j.val) % 1024 = j.val; omega

/-- An index of a stack, from its layer and its place in the layer. -/
theorem lay {n : ℕ} (p : Fin n) (r : Fin 704) (j : Fin 1024) (y : (⟨3, ![n, 704, 1024]⟩ : Shape).Idx) (h0 : (y 0).val = p.val)
    (h1 : (y 1).val = (r.val * 1024 + j.val) / 1024 % 704) (h2 : (y 2).val = (r.val * 1024 + j.val) % 1024) : y = ix3 p r j := by
  funext a
  apply Fin.ext
  match a with
  | ⟨0, _⟩ => exact h0
  | ⟨1, _⟩ => exact h1.trans (by show _ = r.val; omega)
  | ⟨2, _⟩ => exact h2.trans (by show _ = j.val; omega)

/-- The owners' numbers, in the table's order. -/
def own : Fin 4 → Fin 8 := ![0, 4, 2, 6]

theorem parts (k : Fin 4) (r : Fin 704) (j : Fin 1024) :
    (val_main_v13 (F := Ideal) x0 (ix3 k r j) : EReal) = x0 (ix2 ⟨(own k).val * 704 + r.val, by omega⟩ j) := by
  unfold val_main_v13
  refine (stack4 _ _ _ _ _ k r j).trans ?_
  match k with
  | 0 => exact owner x0 0 (by decide) (val_main_v2 (F := Ideal) x0) (fun r j => by rw [val_main_v2_apply, val_main_v1_apply]; exact congrArg _ (lay 0 r j _ rfl rfl rfl)) r j
  | 1 => exact owner x0 4 (by decide) (val_main_v4 (F := Ideal) x0) (fun r j => by rw [val_main_v4_apply, val_main_v3_apply]; exact congrArg _ (lay 4 r j _ rfl rfl rfl)) r j
  | 2 => exact owner x0 2 (by decide) (val_main_v6 (F := Ideal) x0) (fun r j => by rw [val_main_v6_apply, val_main_v5_apply]; exact congrArg _ (lay 2 r j _ rfl rfl rfl)) r j
  | 3 => exact owner x0 6 (by decide) (val_main_v8 (F := Ideal) x0) (fun r j => by rw [val_main_v8_apply, val_main_v7_apply]; exact congrArg _ (lay 6 r j _ rfl rfl rfl)) r j

theorem kept (r : Fin 704) (j : Fin 1024) :
    (val_main_v16 (F := Ideal) x0 x1 (ix2 r j) : EReal) = x0 (ix2 ⟨0 * 704 + r.val, by omega⟩ j) + x1 (ix3 0 r j) := by
  rw [val_main_v16_apply, val_main_v15_apply, val_main_v14_apply]
  have e : idx_main_v15 (idx_main_v16 (ix2 r j)) = ix3 0 r j := lay 0 r j _ rfl rfl rfl
  rw [e]
  exact congrArg (· + _) (parts x0 0 r j)

theorem passed (d : Fin 3) (r : Fin 704) (j : Fin 1024) :
    (val_main_v18 (F := Ideal) x0 x1 (ix3 d r j) : EReal) = x0 (ix2 ⟨(own d.succ).val * 704 + r.val, by omega⟩ j) + x1 (ix3 d.succ r j) := by
  rw [val_main_v18_apply, val_main_v17_apply, val_main_v14_apply]
  have e : idx_main_v17 (ix3 d r j) = ix3 d.succ r j := by
    funext a
    apply Fin.ext
    match a with
    | ⟨0, _⟩ => show 1 + d.val = d.val + 1; omega
    | ⟨1, _⟩ => rfl
    | ⟨2, _⟩ => rfl
  rw [e]
  exact congrArg (· + _) (parts x0 d.succ r j)

end reference

section values

variable (m : (ℓ : Loc nD τ sig) → Buf (Elt Ideal) ℓ)

/-- The row of the owner's part that row `i` of block `t` is. -/
def row (t : Fin (cfgM m (ok m)).N) (i : Fin 176) : Fin 704 :=
  ⟨t.val * 176 + i.val, by have := lt_of_lt_of_eq t.isLt N_0; omega⟩

variable (c : Dev nD) (x0 : S5632x1024.Idx → EReal) (x1 : S4x704x1024.Idx → EReal)
  (e0 : m ((c : Thread nD τ).loc main_arg0) = x0) (e1 : m ((c : Thread nD τ).loc main_arg1) = x1)

include e0 in
theorem in_0 (t : Fin (cfgM m (ok m)).N) (i : Fin 176) (j : Fin 1024) : (iblk m (ok m) c 0 t (ix2 i j) : EReal) = x0 (ix2 ⟨(row m t i).val, by omega⟩ j) := by
  subst e0
  unfold row
  blk_point [iblk, V, idx0 m t]

include e0 in
theorem in_1 (t : Fin (cfgM m (ok m)).N) (i : Fin 176) (j : Fin 1024) : (iblk m (ok m) c 1 t (ix2 i j) : EReal) = x0 (ix2 ⟨2816 + (row m t i).val, by omega⟩ j) := by
  subst e0
  unfold row
  blk_point [iblk, V, idx1 m t]

include e0 in
theorem in_2 (t : Fin (cfgM m (ok m)).N) (i : Fin 176) (j : Fin 1024) : (iblk m (ok m) c 2 t (ix2 i j) : EReal) = x0 (ix2 ⟨1408 + (row m t i).val, by omega⟩ j) := by
  subst e0
  unfold row
  blk_point [iblk, V, idx2 m t]

include e0 in
theorem in_3 (t : Fin (cfgM m (ok m)).N) (i : Fin 176) (j : Fin 1024) : (iblk m (ok m) c 3 t (ix2 i j) : EReal) = x0 (ix2 ⟨4224 + (row m t i).val, by omega⟩ j) := by
  subst e0
  unfold row
  blk_point [iblk, V, idx3 m t]

include e1 in
theorem in_4 (t : Fin (cfgM m (ok m)).N) (d : Fin 4) (i : Fin 176) (j : Fin 1024) : (iblk m (ok m) c 4 t (ix3 d i j) : EReal) = x1 (ix3 d (row m t i) j) := by
  subst e1
  unfold row
  blk_point [iblk, V, idx4 m t]

include e0 e1 in
theorem stored5 (t : Fin (cfgM m (ok m)).N) (i : Fin 176) (j : Fin 1024) :
    ((outsAt0 m (ok m) c t).1 (ix2 i j) : EReal) = val_main_v16 (F := Ideal) x0 x1 (ix2 (row m t i) j) := by
  unfold outsAt0
  dsimp only
  refine (left5 c _ _ _ _ _ _ _ _ _ _ _ _ _ _ _ _ _ _ _ _ _ i j).trans ?_
  refine (plus (in_0 m c x0 e0 t i j) (in_4 m c x1 e1 t 0 i j)).trans ?_
  refine Eq.trans ?_ (kept x0 x1 (row m t i) j).symm
  exact congrArg (fun r => x0 (ix2 r j) + _) (Fin.ext (by show (row m t i).val = 0 * 704 + (row m t i).val; omega))

include e0 e1 in
theorem stored6 (t : Fin (cfgM m (ok m)).N) (d : Fin 3) (i : Fin 176) (j : Fin 1024) :
    ((outsAt0 m (ok m) c t).2 (ix3 d i j) : EReal) = val_main_v18 (F := Ideal) x0 x1 (ix3 d (row m t i) j) := by
  unfold outsAt0
  dsimp only
  refine (left6 c _ _ _ _ _ _ _ _ _ _ _ _ _ _ _ _ _ _ _ _ _ d i j).trans ?_
  refine Eq.trans ?_ (passed x0 x1 d (row m t i) j).symm
  match d with
  | 0 => exact plus (in_1 m c x0 e0 t i j) (in_4 m c x1 e1 t 1 i j)
  | 1 => exact plus (in_2 m c x0 e0 t i j) (in_4 m c x1 e1 t 2 i j)
  | 2 => exact plus (in_3 m c x0 e0 t i j) (in_4 m c x1 e1 t 3 i j)

include e0 e1 in
/-- The sum this device keeps. -/
theorem arr5 : (dats m (ok m) 0 c).arrAt 5 (cfgM m (ok m)).N = val_main_v16 (F := Ideal) x0 x1 := by
  refine (dats m (ok m) 0 c).arrAt_eq_of_covers 5 _ (covers5 m) fun t _ (y : S176x1024.Idx) => ?_
  obtain ⟨i, j, rfl⟩ : ∃ (i : Fin 176) (j : Fin 1024), y = ix2 i j := ⟨y 0, y 1, eq_ix2 y⟩
  blk_simp
  rw [after0_5]
  have eb : ((((cfgM m (ok m)).win 5).blk t).view.emb (ix2 i j) : S704x1024.Idx) = ix2 (row m t i) j := by
    unfold row
    blk_ext! [idx5 m t]
  refine Eq.trans ?_ (congrArg (val_main_v16 (F := Ideal) x0 x1) eb).symm
  exact stored5 m c x0 x1 e0 e1 t i j

include e0 e1 in
/-- The sums the other devices get. -/
theorem arr6 : (dats m (ok m) 0 c).arrAt 6 (cfgM m (ok m)).N = val_main_v18 (F := Ideal) x0 x1 := by
  refine (dats m (ok m) 0 c).arrAt_eq_of_covers 6 _ (covers6 m) fun t _ (y : S3x176x1024.Idx) => ?_
  obtain ⟨d, i, j, rfl⟩ : ∃ (d : Fin 3) (i : Fin 176) (j : Fin 1024), y = ix3 d i j := ⟨y 0, y 1, y 2, eq_ix3 y⟩
  blk_simp
  rw [after0_6]
  have eb : ((((cfgM m (ok m)).win 6).blk t).view.emb (ix3 d i j) : S3x704x1024.Idx) = ix3 d (row m t i) j := by
    unfold row
    blk_ext! [idx6 m t]
  refine Eq.trans ?_ (congrArg (val_main_v18 (F := Ideal) x0 x1) eb).symm
  exact stored6 m c x0 x1 e0 e1 t d i j

/-- The run ends with the two sums. -/
theorem run_values (ρ : Dev nD → PrngReg) : θ_run defs (onTc (τ := τ) (main (F := Ideal))) ⟨m, fun _ => 0, ρ⟩ fun r => ∀ c : Dev nD,
    r.2.mem ((c : Thread nD τ).loc main_v0_0) = val_main_v16 (F := Ideal) (m ((c : Thread nD τ).loc main_arg0)) (m ((c : Thread nD τ).loc main_arg1))
      ∧ r.2.mem ((c : Thread nD τ).loc main_v0_1) = val_main_v18 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr5 m c _ _ rfl rfl), (h c).2.1.trans (arr6 m c _ _ rfl rfl), (h c).2.2⟩) (run_sums m ρ)

end values

theorem frame_kernel : Cert.quiescent_ChipSumKernel := fun m ρ _ => Cert.ChipSumKernel.Gen.frame m ρ (ok (F := Bits) m)
theorem frame_ideal : Cert.quiescent_ChipSumKernelIdeal := fun m ρ _ => Cert.ChipSumKernelIdeal.Gen.frame m ρ (ok m)
theorem frame_reference : Cert.quiescent_ChipSumReferenceIdeal := fun m ρ _ =>
  (θ_run Cert.ChipSumReferenceIdeal.defs _ _).mono
    (fun r h => ⟨fun c => (h c).2.2, sem_eq_zero_of_no_sems (by decide) r.2⟩)
    (Cert.ChipSumReferenceIdeal.Value.run m ρ)

theorem algebraic : Cert.algebraic_ChipSumKernelIdeal_ChipSumReferenceIdeal := by
  pair_intro
  · run_from run_values m g
  · run_from Cert.ChipSumReferenceIdeal.Value.run m' g'
    · exact val_main_v16_eq _ _
    · exact val_main_v18_eq _ _

end Cert.Proof.ChipSum

end
-- ==== Proof.Place.lean ====
/- One device's own block of a weight gathered over the devices -/
module

public import proofs.«01_k».proof.Defs
public import proofs.«01_k».proof.Proof.Gen.PlaceKernel.Frame
public import proofs.«01_k».proof.Proof.Gen.PlaceKernelIdeal.Frame
public import proofs.«01_k».proof.Proof.Gen.PlaceReferenceIdeal.Read
public import proofs.«01_k».proof.Proof.Gen.On_own_block
public import Idealize.ShloMosaic.Lib.Pipeline.ValueKit
public import Idealize.ShloMosaic.Lib.Pipeline.Covers
public import Idealize.ShloMosaic.Lib.Pipeline.ReadBack
public import Idealize.ShloMosaic.Lib.KernelVsHost
public import Idealize.ShloMosaic.Lib.Pointwise

@[expose] public section

set_option maxRecDepth 16384

noncomputable section

namespace Cert.Proof.Place

open Idealize.ShloMosaic Idealize.ShloMosaic.TcCoe Idealize.SL.Sem
open Idealize.ShloMosaic.Pipeline (Dat)
open Cert.PlaceKernelIdeal Cert.PlaceKernelIdeal.Gen Cert.PlaceReferenceIdeal.Read

section frame

variable {F : FTy → Type} [FloatOps F] (m : (ℓ : Loc nD τ sig) → Buf (Elt F) ℓ)

/-- The table: its first word numbers the block this device owns. -/
theorem table : (tbl m 0 : S4.Idx → BitVec 32) = fun i => lit0 (S4.rowMajor i) := by
  show V m 0 main_c = _
  unfold_abbrev_sides
  after_results
  rfl

theorem word : (tbl m).at 0 (Rect.unit (s := S4) ![0] S1.size inb_S4_S1_0) numel1_S1 = 0#32 := by
  unfold Pipeline.Prefetch.Contents.at
  exact congrFun (table m) _

theorem trans : cc0_transform_1 inb_S4_S1_0 numel1_S1 (tbl m) = fun _ => ![0, 0] := by
  funext i; unfold cc0_transform_1; simp only [word]; rfl

theorem inside (a : Fin 2) : ((![0, 0] : Fin 2 → ℕ) a + 1) * S704x1024.size a ≤ S5632x1024.size a := by
  revert a
  decide +kernel

theorem ok : Ok m := by
  show ok0 (tbl m)
  unfold ok0
  rw [trans]
  exact fun _ => ⟨inside, .inr (by decide +kernel : (Rect.block (s := S5632x1024) S704x1024.size ![0, 0] inside).WholeWords EltTy.bf16.packing)⟩

theorem idx0 (t : Fin (cfgM m (ok m)).N) : ((cfgM m (ok m)).win 0).index t = ![0, 0, 0] := rfl
theorem idx1 (t : Fin (cfgM m (ok m)).N) : ((cfgM m (ok m)).win 1).index t = ![0, 0] := congrFun (trans m) (grid0.coords t)

theorem count (a : Fin 2) : ((cfgM m (ok m)).win 1).nblk a = (![8, 1] : Fin 2 → ℕ) a := by
  show (S5632x1024.size a + S704x1024.size a - 1) / S704x1024.size a = _
  revert a
  decide +kernel

/-- The one point writes the first of the eight blocks. -/
theorem covers : ((cfgM m (ok m)).win 1).CoversWhere fun β => β (0 : Fin 2) = 0 := by
  refine ⟨(by decide +kernel : ∀ a : Fin 2, 0 < S704x1024.size a), fun t _ => ⟨?_, fun a => Pipeline.Window.xsize_eq_or_end _ rfl _ a⟩, fun β hβ => ?_⟩
  · rw [idx1]; rfl
  · obtain ⟨t, -, hf, hi⟩ := ((cfgM m (ok m)).win 1).exists_flush_same_index rfl ⟨0, (by decide : 0 < grid0.N)⟩
    have h1 := lt_of_lt_of_eq (β (1 : Fin 2)).isLt (count m 1)
    refine ⟨t, fun (a : Fin 2) => ?_, hf⟩
    rw [idx1]
    match a with
    | 0 => exact hβ.symm
    | 1 => exact (Nat.lt_one_iff.mp h1).symm

/-- The run ends with the result as the data of the pipeline name it. -/
theorem run_place (ρ : Dev nD → PrngReg) : θ_run defs (onTc (τ := τ) (main (F := F))) ⟨m, fun _ => 0, ρ⟩ fun r => ∀ c : Dev nD,
    r.2.mem ((c : Thread nD τ).loc main_v1) = (dats m (ok m) 0 c).arrAt 1 (cfgM m (ok m)).N
      ∧ r.2.mem ((c : Thread nD τ).loc main_arg0) = m ((c : Thread nD τ).loc main_arg0) :=
  θ_run_and ((θ_run defs _ _).mono (fun _ h c => (h c).1 1) (run_main m ρ (ok m))) (unchanged m ρ (ok m)) |> fun h =>
    (θ_run defs _ _).mono (fun _ h c => ⟨h.1 c, h.2 c⟩) h

end frame

theorem left1 (c : Dev nD) (g : grid0.Coords) (a2 : Memref sig .tc .vmem S1x704x1024 .f32) (h2 : a2.IsWhole) (a3 : Memref sig .tc .vmem S704x1024 .bf16) (h3 : a3.IsWhole)
    (b0 : Vec Ideal S1x704x1024 .f32) (tb : TbBuf0 (F := Ideal) c tbM0_0) (i : Fin 704) (j : Fin 1024) :
    (out0_A_1 c g a2 h2 a3 h3 b0 tb (ix2 i j) : EReal) = b0 (ix3 0 i j) := by
  unfold out0_A_1
  frame_out
  pointwise [k0_pay1]

/-- The reference on the rows of the own block: the first layer's matrix, turned. -/
theorem own (x : S4x1024x704.Idx → EReal) (i : Fin 704) (j : Fin 1024) :
    (val_main_v4 (F := Ideal) x (ix2 ⟨i.val, by omega⟩ j) : EReal) = x (ix3 0 j i) := by
  unfold val_main_v4
  refine (pad_apply_of_inside _ _ _ _ _ _ _ _ (ix2 i j) fun a => ?_).trans ?_
  · match a with
    | ⟨0, _⟩ => show i.val = 0 + i.val * (0 + 1); omega
    | ⟨1, _⟩ => show j.val = 0 + j.val * (0 + 1); omega
  · rw [val_main_v3_apply, val_main_v2_apply, val_main_v1_apply, val_main_v0_apply]
    refine congrArg x (funext fun a => Fin.ext ?_)
    match a with
    | ⟨0, _⟩ => rfl
    | ⟨1, _⟩ => show (j.val * 704 + i.val) / 704 % 1024 = j.val; omega
    | ⟨2, _⟩ => show (j.val * 704 + i.val) % 704 = i.val; omega

section values

variable (m : (ℓ : Loc nD τ sig) → Buf (Elt Ideal) ℓ) (c : Dev nD)

theorem in_0 (t : Fin (cfgM m (ok m)).N) (i : Fin 704) (j : Fin 1024) :
    (iblk m (ok m) c 0 t (ix3 0 i j) : EReal) = m ((c : Thread nD τ).loc main_arg0) (ix3 0 j i) := by
  have e : (V m c main_v0 : S4x704x1024.Idx → EReal) = transpose S4x704x1024 [0, 2, 1] (m ((c : Thread nD τ).loc main_arg0)) transposes_S4x1024x704_S4x704x1024_0_2_1 := by
    unfold_abbrev_sides
    after_results
  have eb : ((((cfgM m (ok m)).win 0).blk t).view.emb (ix3 0 i j) : S4x704x1024.Idx) = ix3 0 i j := by
    blk_ext! [idx0 m t]
  refine (congrArg (V m c main_v0) eb).trans ?_
  refine (congrFun e _).trans ?_
  pointwise

theorem stored (t : Fin (cfgM m (ok m)).N) (i : Fin 704) (j : Fin 1024) :
    (outsAt0 m (ok m) c t (ix2 i j) : EReal) = val_main_v4 (F := Ideal) (m ((c : Thread nD τ).loc main_arg0)) (ix2 ⟨i.val, by omega⟩ j) := by
  unfold outsAt0
  refine (left1 c _ _ _ _ _ _ _ i j).trans ?_
  exact (in_0 m c t i j).trans (own _ i j).symm

/-- The result array holds the reference's value on the rows of the own block. -/
theorem arr (i : S5632x1024.Idx) (hi : (i 0 : ℕ) / 704 = 0) :
    (dats m (ok m) 0 c).arrAt 1 (cfgM m (ok m)).N i = val_main_v4 (F := Ideal) (m ((c : Thread nD τ).loc main_arg0)) i := by
  have h : (dats m (ok m) 0 c).arrAt 1 (cfgM m (ok m)).N = fun i => if (i 0 : ℕ) / 704 = 0 then val_main_v4 (F := Ideal) (m ((c : Thread nD τ).loc main_arg0)) i
      else (dats m (ok m) 0 c).A 1 i := by
    refine (dats m (ok m) 0 c).arrAt_eq_of_coversWhere 1 _ (fun β => β (0 : Fin 2) = 0) (covers m) (fun t _ (y : S704x1024.Idx) => ?_) (fun j => Iff.rfl)
    obtain ⟨i, j, rfl⟩ : ∃ (i : Fin 704) (j : Fin 1024), y = ix2 i j := ⟨y 0, y 1, eq_ix2 y⟩
    blk_simp
    rw [after0_1]
    have eb : ((((cfgM m (ok m)).win 1).blk t).view.emb (ix2 i j) : S5632x1024.Idx) = ix2 ⟨i.val, by omega⟩ j := by
      blk_ext! [idx1 m t]
    refine Eq.trans ?_ (congrArg (val_main_v4 (F := Ideal) (m ((c : Thread nD τ).loc main_arg0))) eb).symm
    exact stored m c t i j
  exact (congrFun h i).trans (if_pos hi)

end values

/-- The mask is set on the first 704 rows. -/
theorem mask (x : S4x1024x704.Idx → EReal) (i : S5632x1024.Idx) (h : Cert.On_own_block.fn (F := Ideal) x i = 1#1) : (i 0 : ℕ) / 704 = 0 := by
  have key : ∀ r < 5632, IntOp.cmpi .slt (BitVec.ofNat 32 r) 704#32 = 1#1 → r / 704 = 0 := by decide +kernel
  exact key _ (i 0).isLt h

theorem frame_kernel : Cert.quiescent_PlaceKernel := fun m ρ _ => Cert.PlaceKernel.Gen.frame m ρ (ok (F := Bits) m)
theorem frame_ideal : Cert.quiescent_PlaceKernelIdeal := fun m ρ _ => Cert.PlaceKernelIdeal.Gen.frame m ρ (ok m)
theorem frame_reference : Cert.quiescent_PlaceReferenceIdeal := fun m ρ _ =>
  (θ_run Cert.PlaceReferenceIdeal.defs _ _).mono
    (fun r h => ⟨fun c => (h c).2, sem_eq_zero_of_no_sems (by decide) r.2⟩)
    (Cert.PlaceReferenceIdeal.Value.run m ρ)

theorem algebraic : Cert.algebraic_PlaceKernelIdeal_PlaceReferenceIdeal_on_own_block := by
  intro m ρ m' ρ' _ hagree
  refine ⟨fun c => val_main_v4 (F := Ideal) (m ((c : Thread nD τ).loc main_arg0)), ?_, ?_⟩
  · exact (θ_run defs _ _).mono (fun _ h c => ⟨fun i hi => (congrFun (h c).1 i).trans (arr m c i (mask (m ((c : Thread nD τ).loc main_arg0)) i hi)), (h c).2⟩) (run_place m ρ)
  · refine (θ_run Cert.PlaceReferenceIdeal.defs _ _).mono (fun _ h c => ⟨fun i _ => congrFun ((h c).1.trans ?_) i, (h c).2⟩)
      (Cert.PlaceReferenceIdeal.Value.run (F := Ideal) m' ρ')
    rw [hagree c]
    exact val_main_v4_eq _

end Cert.Proof.Place

end
-- ==== Proof.Inner.lean ====
/- The gradient through the first product of an inner layer and its norms -/
module

public import proofs.«01_k».proof.Defs
public import proofs.«01_k».proof.Proof.Gen.InnerKernel.Frame
public import proofs.«01_k».proof.Proof.Gen.InnerKernelIdeal.Value
public import proofs.«01_k».proof.Proof.Gen.InnerReferenceIdeal.Read
public import proofs.«01_k».proof.Proof.Gen.Pre_finite_inner
public import proofs.«01_k».proof.Proof.Reals
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Inner

open Idealize.ShloMosaic Idealize.ShloMosaic.TcCoe Idealize.SL.Sem
open Idealize.ShloMosaic.Pipeline (Dat)
open Cert.Proof.Reals
open Cert.InnerKernelIdeal Cert.InnerKernelIdeal.Gen Cert.InnerReferenceIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0]
    ∧ win0_8.index t = ![0, 0] ∧ win0_9.index t = ![t.val, 0] ∧ win0_10.index t = ![0, 0] :=
  (by decide +kernel : ∀ t : Fin grid0.N, _)

/-- The row of the arrays that row `i` of block `t` is. -/
def row (t : Fin cfg0.N) (i : Fin 512) : Fin 4096 :=
  ⟨t.val * 512 + i.val, by have := lt_of_lt_of_eq t.isLt N_0; omega⟩

/-- The arguments, as real arrays. -/
structure Args where
  X : S4096x1024.Idx → ℝ
  Fr : S4096x1024.Idx → ℝ
  Gb : S1024.Idx → ℝ
  G : S1024.Idx → ℝ
  W : S1024x1536.Idx → ℝ
  D : S4096x1024.Idx → ℝ
  U : S4096x1536.Idx → ℝ

namespace Args
variable (A : Args)

/-- A row of the layer below, before its norm. -/
def low (r : Fin 4096) (j : Fin 1024) : ℝ := A.Fr (ix2 r j)

/-- A row of the residual stream. -/
def str (r : Fin 4096) (j : Fin 1024) : ℝ := A.X (ix2 r j) + A.Fr (ix2 r j) * rs (A.low r) * A.Gb (ix1 j)

/-- A row of the cotangent of the normalised stream. -/
def act (r : Fin 4096) (j : Fin 1024) : ℝ := ∑ n : Fin 1536, A.U (ix2 r n) * A.W (ix2 j n)

/-- A row of the stream's gradient. -/
def grad (r : Fin 4096) (j : Fin 1024) : ℝ := A.D (ix2 r j) + back (A.str r) (fun k => A.G (ix1 k)) (A.act r) j

/-- A row of the gradient of the layer below. -/
def lowGrad (r : Fin 4096) (j : Fin 1024) : ℝ := back (A.low r) (fun k => A.Gb (ix1 k)) (A.grad r) j

/-- The gradient of the gain of the norm above. -/
def gain (j : Fin 1024) : ℝ := ∑ r : Fin 4096, A.act r j * (A.str r j * rs (A.str r))

/-- The gradient of the gain of the norm below. -/
def lowGain (j : Fin 1024) : ℝ := ∑ r : Fin 4096, A.grad r j * (A.low r j * rs (A.low r))

/-- The argument arrays hold these. -/
structure Are (c : Dev nD) : Prop where
  h0 : m ((c : Thread nD τ).loc main_arg0) = fun i => ((A.X i : ℝ) : EReal)
  h1 : m ((c : Thread nD τ).loc main_arg1) = fun i => ((A.Fr i : ℝ) : EReal)
  h2 : m ((c : Thread nD τ).loc main_arg2) = fun i => ((A.Gb i : ℝ) : EReal)
  h3 : m ((c : Thread nD τ).loc main_arg3) = fun i => ((A.G i : ℝ) : EReal)
  h4 : m ((c : Thread nD τ).loc main_arg4) = fun i => ((A.W i : ℝ) : EReal)
  h5 : m ((c : Thread nD τ).loc main_arg5) = fun i => ((A.D i : ℝ) : EReal)
  h6 : m ((c : Thread nD τ).loc main_arg6) = fun i => ((A.U i : ℝ) : EReal)
end Args

section
variable (c : Dev nD) (A : Args) (hA : A.Are m c)
include hA

theorem in_0 (t : Fin cfg0.N) (i : Fin 512) (j : Fin 1536) : (iblk m c 0 t (ix2 i j) : EReal) = ((A.U (ix2 (row t i) j) : ℝ) : EReal) := by
  have e : ∀ x : S4096x1536.Idx → EReal, m ((c : Thread nD τ).loc main_arg6) = x → (iblk m c 0 t (ix2 i j) : EReal) = x (ix2 (row t i) j) := by
    intro x e
    subst e
    unfold row
    blk_point [iblk, V, idx t]
  rw [e _ hA.h6]

theorem in_1 (t : Fin cfg0.N) (i : Fin 1536) (j : Fin 1024) : (iblk m c 1 t (ix2 i j) : EReal) = ((A.W (ix2 j i) : ℝ) : EReal) := by
  have e : ∀ x : S1024x1536.Idx → EReal, m ((c : Thread nD τ).loc main_arg4) = x → (iblk m c 1 t (ix2 i j) : EReal) = x (ix2 j i) := by
    intro x e
    subst e
    have eb : ((win0_1.blk t).view.emb (ix2 i j) : S1536x1024.Idx) = ix2 i j := by
      blk_ext! [idx t]
    refine (congrArg (V m c main_v16) eb).trans ?_
    entry_read
    pointwise
  rw [e _ hA.h4]

theorem in_2 (t : Fin cfg0.N) (i : Fin 512) (j : Fin 1024) : (iblk m c 2 t (ix2 i j) : EReal) = ((A.str (row t i) j : ℝ) : EReal) := by
  have e : ∀ (x0 x1 : S4096x1024.Idx → EReal) (x2 : S1024.Idx → EReal), m ((c : Thread nD τ).loc main_arg0) = x0 →
      m ((c : Thread nD τ).loc main_arg1) = x1 → m ((c : Thread nD τ).loc main_arg2) = x2 →
      (iblk m c 2 t (ix2 i j) : EReal) = x0 (ix2 (row t i) j) + x1 (ix2 (row t i) j)
        * Ideal.rsqrt (Ideal.div (∑ k, x1 (ix2 (row t i) k) * x1 (ix2 (row t i) k)) (Ideal.ofBits .f32 0x44800000#32) + Ideal.ofBits .f32 0x358637BD#32)
        * x2 (ix1 j) := by
    intro x0 x1 x2 e0 e1 e2
    subst e0 e1 e2
    have eb : ((win0_2.blk t).view.emb (ix2 i j) : S4096x1024.Idx) = ix2 (row t i) j := by
      unfold row
      blk_ext! [idx t]
    refine (congrArg (V m c main_v13) eb).trans ?_
    entry_read
    generalize row t i = r
    pointwise
  rw [e _ _ _ hA.h0 hA.h1 hA.h2]
  simp only [bits_1024, bits_eps, coe_sum, coe_div_1024, ← EReal.coe_mul, ← EReal.coe_add, fold_ms, coe_rs]
  rfl

theorem in_3 (t : Fin cfg0.N) (i : Fin 1) (j : Fin 1024) : (iblk m c 3 t (ix2 i j) : EReal) = ((A.G (ix1 j) : ℝ) : EReal) := by
  have e : ∀ x : S1024.Idx → EReal, m ((c : Thread nD τ).loc main_arg3) = x → (iblk m c 3 t (ix2 i j) : EReal) = x (ix1 j) := by
    intro x e
    subst e
    blk_point [iblk, V, idx t]
  rw [e _ hA.h3]

theorem in_4 (t : Fin cfg0.N) (i : Fin 512) (j : Fin 1024) : (iblk m c 4 t (ix2 i j) : EReal) = ((A.D (ix2 (row t i) j) : ℝ) : EReal) := by
  have e : ∀ x : S4096x1024.Idx → EReal, m ((c : Thread nD τ).loc main_arg5) = x → (iblk m c 4 t (ix2 i j) : EReal) = x (ix2 (row t i) j) := by
    intro x e
    subst e
    unfold row
    blk_point [iblk, V, idx t]
  rw [e _ hA.h5]

theorem in_5 (t : Fin cfg0.N) (i : Fin 512) (j : Fin 1024) : (iblk m c 5 t (ix2 i j) : EReal) = ((A.low (row t i) j : ℝ) : EReal) := by
  have e : ∀ x : S4096x1024.Idx → EReal, m ((c : Thread nD τ).loc main_arg1) = x → (iblk m c 5 t (ix2 i j) : EReal) = x (ix2 (row t i) j) := by
    intro x e
    subst e
    unfold row
    blk_point [iblk, V, idx t]
  rw [e _ hA.h1]
  rfl
theorem in_6 (t : Fin cfg0.N) (i : Fin 1) (j : Fin 1024) : (iblk m c 6 t (ix2 i j) : EReal) = ((A.Gb (ix1 j) : ℝ) : EReal) := by
  have e : ∀ x : S1024.Idx → EReal, m ((c : Thread nD τ).loc main_arg2) = x → (iblk m c 6 t (ix2 i j) : EReal) = x (ix1 j) := by
    intro x e
    subst e
    blk_point [iblk, V, idx t]
  rw [e _ hA.h2]

/-- A block's product with the weight, in the kernel. -/
theorem act_eq (t : Fin cfg0.N) (i : Fin 512) (j : Fin 1024) :
    (k0_pay4 (iblk m c 0 t) (iblk m c 1 t) (ix2 i j) : EReal) = ((A.act (row t i) j : ℝ) : EReal) := by
  pointwise [k0_pay4]
  simp only [in_0 m c A hA, in_1 m c A hA, coe_sum, ← EReal.coe_mul]
  rfl

/-- The reciprocal root mean square of a row of the stream, in the kernel. -/
theorem scale (t : Fin cfg0.N) (i : Fin 512) (u : Fin 1) : (k0_pay6 (iblk m c 2 t) (ix2 i u) : EReal) = ((rs (A.str (row t i)) : ℝ) : EReal) := by
  pointwise [k0_pay5, k0_pay6]
  simp only [in_2 m c A hA, bits_1024, bits_eps, coe_sum, coe_div_1024, ← EReal.coe_mul, ← EReal.coe_add, fold_ms, coe_rs]

/-- The same of a row of the layer below. -/
theorem lowScale (t : Fin cfg0.N) (i : Fin 512) (u : Fin 1) : (k0_pay14 (iblk m c 5 t) (ix2 i u) : EReal) = ((rs (A.low (row t i)) : ℝ) : EReal) := by
  pointwise [k0_pay13, k0_pay14]
  simp only [in_5 m c A hA, bits_1024, bits_eps, coe_sum, coe_div_1024, ← EReal.coe_mul, ← EReal.coe_add, fold_ms, coe_rs]

/-- A block of the stream's gradient, in the kernel. -/
theorem grad_eq (t : Fin cfg0.N) (i : Fin 512) (j : Fin 1024) :
    (k0_pay12 (k0_pay9 (iblk m c 0 t) (iblk m c 1 t) (iblk m c 2 t) (iblk m c 3 t)) (iblk m c 4 t) (ix2 i j) : EReal) = ((A.grad (row t i) j : ℝ) : EReal) := by
  pointwise [k0_pay5, k0_pay7, k0_pay9, k0_pay12]
  simp only [act_eq m c A hA, scale m c A hA, in_2 m c A hA, in_3 m c A hA, in_4 m c A hA, bits_1024, coe_sum, coe_div_1024, ← EReal.coe_mul, ← EReal.coe_add, ← EReal.coe_sub]
  rfl

omit hA in
/-- What is written to the stream's gradient at every point. -/
theorem out7 (t : Fin cfg0.N) : (outsAt0 m c t.val t.isLt).1 =
    k0_pay12 (k0_pay9 (iblk m c 0 t) (iblk m c 1 t) (iblk m c 2 t) (iblk m c 3 t)) (iblk m c 4 t) := by
  by_cases a : t.val % 8 = 0
  · rw [outsAt0_A m c t a]; frame_out
  · rw [outsAt0_B m c t a]; frame_out

omit hA in
/-- What is written to the gradient of the layer below at every point. -/
theorem out9 (t : Fin cfg0.N) : (outsAt0 m c t.val t.isLt).2.2.1 =
    k0_pay17 (k0_pay9 (iblk m c 0 t) (iblk m c 1 t) (iblk m c 2 t) (iblk m c 3 t)) (iblk m c 4 t) (iblk m c 5 t) (iblk m c 6 t) := by
  by_cases a : t.val % 8 = 0
  · rw [outsAt0_A m c t a]; frame_out
  · rw [outsAt0_B m c t a]; frame_out

/-- The stream's gradient, in the kernel. -/
theorem arr7 (R : S4096x1024.Idx → EReal) (hR : ∀ r j, R (ix2 r j) = ((A.grad r j : ℝ) : EReal)) : (dats m 0 c).arrAt 7 cfg0.N = R := by
  refine (dats m 0 c).arrAt_eq_of_covers 7 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_7, out7]
  have eb : ((win0_7.blk t).view.emb (ix2 i j) : S4096x1024.Idx) = ix2 (row t i) j := by
    unfold row
    blk_ext! [idx t]
  exact (grad_eq m c A hA t i j).trans ((congrArg R eb).trans (hR _ _)).symm

/-- The gradient of the layer below, in the kernel. -/
theorem arr9 (R : S4096x1024.Idx → EReal) (hR : ∀ r j, R (ix2 r j) = ((A.lowGrad r j : ℝ) : EReal)) : (dats m 0 c).arrAt 9 cfg0.N = R := by
  refine (dats m 0 c).arrAt_eq_of_covers 9 _ (by decide +kernel) fun t _ (y : S512x1024.Idx) => ?_
  obtain ⟨i, j, rfl⟩ : ∃ (i : Fin 512) (j : Fin 1024), y = ix2 i j := ⟨y 0, y 1, eq_ix2 y⟩
  blk_simp
  rw [after0_9, out9]
  have eb : ((win0_9.blk t).view.emb (ix2 i j) : S4096x1024.Idx) = ix2 (row t i) j := by
    unfold row
    blk_ext! [idx t]
  refine Eq.trans ?_ ((congrArg R eb).trans (hR _ _)).symm
  pointwise [k0_pay13, k0_pay15, k0_pay17]
  simp only [grad_eq m c A hA, lowScale m c A hA, in_5 m c A hA, in_6 m c A hA, bits_1024, coe_sum, coe_div_1024, ← EReal.coe_mul, ← EReal.coe_add, ← EReal.coe_sub]
  rfl

/-- The gradient of the gain above, gathered over the blocks by the kernel. -/
theorem arr8 (R : S1x1024.Idx → EReal) (hR : ∀ r j, R (ix2 r j) = ((A.gain j : ℝ) : EReal)) : (dats m 0 c).arrAt 8 cfg0.N = R := by
  refine (dats m 0 c).arrAt_eq_of_after_last 8 t0_7 (by decide +kernel) _ fun (y : S1x1024.Idx) => ?_
  obtain ⟨u, j, rfl⟩ : ∃ (u : Fin 1) (j : Fin 1024), y = ix2 u j := ⟨y 0, y 1, eq_ix2 y⟩
  blk_simp
  rw [after0_8, hR]
  have add : ∀ (t : Fin cfg0.N) (p : FVec Ideal S1x1024 .f32), (k0_pay11 (k0_pay8 (iblk m c 0 t) (iblk m c 1 t) (iblk m c 2 t)) (k0_pay10 p) (ix2 u j) : EReal) =
      p (ix2 u j) + ((∑ i : Fin 512, A.act (row t i) j * (A.str (row t i) j * rs (A.str (row t i))) : ℝ) : EReal) := by
    intro t p
    pointwise [k0_pay5, k0_pay7, k0_pay8, k0_pay10, k0_pay11]
    simp only [act_eq m c A hA, scale m c A hA, in_2 m c A hA, coe_sum, ← EReal.coe_mul]
  refine (fold_sum (fun n h => ((outsAt0 m c n h).2.1 (ix2 u j) : EReal)) _ ?_ ?_ 7 t0_7.isLt N_0).trans
    (congrArg ((↑) : ℝ → EReal) (sum_blocks (congrArg (· * 512) N_0).symm (fun k => A.act k j * (A.str k j * rs (A.str k))) row fun _ _ => rfl))
  · intro h
    rw [outsAt0_A m c ⟨0, h⟩ rfl]
    frame_out
    rw [add]
    pointwise [k0_pay2]
  · intro n h
    have hn := lt_of_lt_of_eq h N_0
    rw [outsAt0_B m c ⟨n + 1, h⟩ (by simp only; omega)]
    frame_out
    rw [add]
    rfl

/-- The gradient of the gain below, gathered over the blocks by the kernel. -/
theorem arr10 (R : S1x1024.Idx → EReal) (hR : ∀ r j, R (ix2 r j) = ((A.lowGain j : ℝ) : EReal)) : (dats m 0 c).arrAt 10 cfg0.N = R := by
  refine (dats m 0 c).arrAt_eq_of_after_last 10 t0_7 (by decide +kernel) _ fun (y : S1x1024.Idx) => ?_
  obtain ⟨u, j, rfl⟩ : ∃ (u : Fin 1) (j : Fin 1024), y = ix2 u j := ⟨y 0, y 1, eq_ix2 y⟩
  blk_simp
  rw [after0_10, hR]
  have add : ∀ (t : Fin cfg0.N) (p : FVec Ideal S1x1024 .f32),
      (k0_pay1 (k0_pay16 (k0_pay9 (iblk m c 0 t) (iblk m c 1 t) (iblk m c 2 t) (iblk m c 3 t)) (iblk m c 4 t) (iblk m c 5 t)) p (ix2 u j) : EReal) =
      p (ix2 u j) + ((∑ i : Fin 512, A.grad (row t i) j * (A.low (row t i) j * rs (A.low (row t i))) : ℝ) : EReal) := by
    intro t p
    pointwise [k0_pay1, k0_pay13, k0_pay15, k0_pay16]
    simp only [grad_eq m c A hA, lowScale m c A hA, in_5 m c A hA, coe_sum, ← EReal.coe_mul]
  refine (fold_sum (fun n h => ((outsAt0 m c n h).2.2.2 (ix2 u j) : EReal)) _ ?_ ?_ 7 t0_7.isLt N_0).trans
    (congrArg ((↑) : ℝ → EReal) (sum_blocks (congrArg (· * 512) N_0).symm (fun k => A.grad k j * (A.low k j * rs (A.low k))) row fun _ _ => rfl))
  · intro h
    rw [outsAt0_A m c ⟨0, h⟩ rfl]
    frame_out
    rw [add]
    pointwise [k0_pay3]
  · intro n h
    have hn := lt_of_lt_of_eq h N_0
    rw [outsAt0_B m c ⟨n + 1, h⟩ (by simp only; omega)]
    frame_out
    rw [add]
    rfl

end

/-! ### The reference -/

section
variable (x0 x1 : S4096x1024.Idx → EReal) (x2 x3 : S1024.Idx → EReal) (x4 : S1024x1536.Idx → EReal) (x5 : S4096x1024.Idx → EReal) (x6 : S4096x1536.Idx → EReal)
  (A : Args) (e0 : x0 = fun i => ((A.X i : ℝ) : EReal)) (e1 : x1 = fun i => ((A.Fr i : ℝ) : EReal)) (e2 : x2 = fun i => ((A.Gb i : ℝ) : EReal))
  (e3 : x3 = fun i => ((A.G i : ℝ) : EReal)) (e4 : x4 = fun i => ((A.W i : ℝ) : EReal)) (e5 : x5 = fun i => ((A.D i : ℝ) : EReal))
  (e6 : x6 = fun i => ((A.U i : ℝ) : EReal))

include e1 in
/-- The layer below, root mean square. -/
theorem ref_v7 (r : Fin 4096) (j : Fin 1) : (val_main_v7 (F := Ideal) x1 (ix2 r j) : EReal) = ((rs (A.low r) : ℝ) : EReal) := by
  rw [e1]
  pointwise [val_main_v0, val_main_cst, val_main_v1, val_main_v2, val_main_cst_0, val_main_v3, val_main_v4, val_main_cst_1, val_main_v5, val_main_v6, val_main_v7]
  simp only [coe_sum, coe_div_1024, coe_div_ms, bits_1024, bits_eps, bits_neg_half, ← EReal.coe_mul, ← EReal.coe_add, ← EReal.coe_sub, fold_ms, coe_rs]
  rfl

include e1 in
/-- The factor that the chain rule has there. -/
theorem ref_v10 (r : Fin 4096) (j : Fin 1) : (val_main_v10 (F := Ideal) x1 (ix2 r j) : EReal) = ((-(1 / 2) * (rs (A.low r) / ms (A.low r)) : ℝ) : EReal) := by
  rw [e1]
  pointwise [val_main_v0, val_main_cst, val_main_v1, val_main_v2, val_main_cst_0, val_main_v3, val_main_v4, val_main_cst_1, val_main_v5, val_main_v6, val_main_v7, val_main_v8, val_main_cst_2, val_main_v9, val_main_v10]
  simp only [coe_sum, coe_div_1024, coe_div_ms, bits_1024, bits_eps, bits_neg_half, ← EReal.coe_mul, ← EReal.coe_add, ← EReal.coe_sub, fold_ms, coe_rs]
  rfl

include e0 e1 e2 in
/-- The residual stream. -/
theorem ref_v16 (r : Fin 4096) (j : Fin 1024) : (val_main_v16 (F := Ideal) x0 x1 x2 (ix2 r j) : EReal) = ((A.str r j : ℝ) : EReal) := by
  have h := ref_v7 x1 A e1
  pointwise [val_main_v11, val_main_v12, val_main_v13, val_main_v14, val_main_v15, val_main_v16]
  rw [h, e0, e1, e2]
  simp only [← EReal.coe_mul, ← EReal.coe_add]
  rfl

include e0 e1 e2 in
/-- Its reciprocal root mean square. -/
theorem ref_v24 (r : Fin 4096) (j : Fin 1) : (val_main_v24 (F := Ideal) x0 x1 x2 (ix2 r j) : EReal) = ((rs (A.str r) : ℝ) : EReal) := by
  have h := ref_v16 x0 x1 x2 A e0 e1 e2
  pointwise [val_main_v17, val_main_cst_3, val_main_v18, val_main_v19, val_main_cst_4, val_main_v20, val_main_v21, val_main_cst_5, val_main_v22, val_main_v23, val_main_v24]
  simp only [h, coe_sum, coe_div_1024, coe_div_ms, bits_1024, bits_eps, bits_neg_half, ← EReal.coe_mul, ← EReal.coe_add, ← EReal.coe_sub, fold_ms, coe_rs]

include e0 e1 e2 in
/-- The factor that the chain rule has there. -/
theorem ref_v27 (r : Fin 4096) (j : Fin 1) : (val_main_v27 (F := Ideal) x0 x1 x2 (ix2 r j) : EReal) = ((-(1 / 2) * (rs (A.str r) / ms (A.str r)) : ℝ) : EReal) := by
  have h := ref_v16 x0 x1 x2 A e0 e1 e2
  pointwise [val_main_v17, val_main_cst_3, val_main_v18, val_main_v19, val_main_cst_4, val_main_v20, val_main_v21, val_main_cst_5, val_main_v22, val_main_v23, val_main_v24, val_main_v25, val_main_cst_6, val_main_v26, val_main_v27]
  simp only [h, coe_sum, coe_div_1024, coe_div_ms, bits_1024, bits_eps, bits_neg_half, ← EReal.coe_mul, ← EReal.coe_add, ← EReal.coe_sub, fold_ms, coe_rs]

include e4 e6 in
/-- The cotangent of the normalised stream. -/
theorem ref_v34 (r : Fin 4096) (j : Fin 1024) : (val_main_v34 (F := Ideal) x4 x6 (ix2 r j) : EReal) = ((A.act r j : ℝ) : EReal) := by
  rw [e4, e6]
  pointwise [val_main_v34]
  simp only [coe_sum, ← EReal.coe_mul]
  rfl

include e0 e1 e2 e3 e4 e5 e6 in
/-- The stream's gradient. -/
theorem ref_v55 (r : Fin 4096) (j : Fin 1024) : (val_main_v55 (F := Ideal) x0 x1 x2 x3 x4 x5 x6 (ix2 r j) : EReal) = ((A.grad r j : ℝ) : EReal) := by
  have h16 := ref_v16 x0 x1 x2 A e0 e1 e2
  have h24 := ref_v24 x0 x1 x2 A e0 e1 e2
  have h27 := ref_v27 x0 x1 x2 A e0 e1 e2
  have h34 := ref_v34 x4 x6 A e4 e6
  pointwise [val_main_v30, val_main_v38, val_main_v39, val_main_cst_8, val_main_v40, val_main_v41, val_main_cst_9, val_main_v42, val_main_v43, val_main_v44, val_main_v45, val_main_v46, val_main_v47, val_main_cst_10, val_main_v48, val_main_v49, val_main_cst_11, val_main_v50, val_main_v51, val_main_v52, val_main_v53, val_main_v54, val_main_v55]
  simp only [h16, h24, h27, h34, e3, e5, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) ?_
  rw [Args.grad, ← back_chain]
  ring

include e0 e1 e2 e3 e4 e5 e6 in
/-- The gradient of the layer below. -/
theorem ref_v78 (r : Fin 4096) (j : Fin 1024) : (val_main_v78 (F := Ideal) x0 x1 x2 x3 x4 x5 x6 (ix2 r j) : EReal) = ((A.lowGrad r j : ℝ) : EReal) := by
  have h7 := ref_v7 x1 A e1
  have h10 := ref_v10 x1 A e1
  have h55 := ref_v55 x0 x1 x2 x3 x4 x5 x6 A e0 e1 e2 e3 e4 e5 e6
  pointwise [val_main_v13, val_main_v56, val_main_v60, val_main_v61, val_main_v63, val_main_cst_14, val_main_v64, val_main_v65, val_main_v66, val_main_v67, val_main_v68, val_main_cst_15, val_main_v69, val_main_v70, val_main_cst_16, val_main_v71, val_main_v72, val_main_v73, val_main_v74, val_main_v75, val_main_v76, val_main_v78]
  simp only [h7, h10, h55, congrFun e1, congrFun e2, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) ?_
  rw [Args.lowGrad, ← back_chain]
  rfl

include e0 e1 e2 e4 e6 in
/-- The gradient of the gain above. -/
theorem ref_v77 (r : Fin 1) (j : Fin 1024) : (val_main_v77 (F := Ideal) x0 x1 x2 x4 x6 (ix2 r j) : EReal) = ((A.gain j : ℝ) : EReal) := by
  have h16 := ref_v16 x0 x1 x2 A e0 e1 e2
  have h24 := ref_v24 x0 x1 x2 A e0 e1 e2
  have h34 := ref_v34 x4 x6 A e4 e6
  pointwise [val_main_v28, val_main_v29, val_main_v35, val_main_cst_7, val_main_v36, val_main_v37, val_main_cst_8, val_main_v40, val_main_v77]
  simp only [h16, h24, h34, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) (Finset.sum_congr rfl fun k _ => ?_)
  ring

include e0 e1 e2 e3 e4 e5 e6 in
/-- The gradient of the gain below. -/
theorem ref_v79 (r : Fin 1) (j : Fin 1024) : (val_main_v79 (F := Ideal) x0 x1 x2 x3 x4 x5 x6 (ix2 r j) : EReal) = ((A.lowGain j : ℝ) : EReal) := by
  have h7 := ref_v7 x1 A e1
  have h55 := ref_v55 x0 x1 x2 x3 x4 x5 x6 A e0 e1 e2 e3 e4 e5 e6
  pointwise [val_main_v11, val_main_v12, val_main_v56, val_main_v57, val_main_cst_12, val_main_v58, val_main_v59, val_main_cst_13, val_main_v62, val_main_v79]
  simp only [h7, h55, congrFun e1, coe_sum, coe_div_1024, coe_div_ms, bits_1024, bits_eps, bits_neg_half, ← EReal.coe_mul, ← EReal.coe_add, ← EReal.coe_sub, fold_ms, coe_rs]
  simp only [Finset.univ_unique, Finset.sum_singleton]
  refine congrArg ((↑) : ℝ → EReal) (Finset.sum_congr rfl fun k _ => ?_)
  unfold Args.low
  ring

end

/-- Finite arguments are real arrays. -/
theorem real_args (h : Cert.Pre_InnerKernelIdeal_finite_inner m) (c : Dev nD) : ∃ A : Args, A.Are m c := by
  obtain ⟨a0, a1, a2, a3, a4, a5, a6⟩ := h c
  obtain ⟨X, e0⟩ := reals _ fun i => congrFun a0 i
  obtain ⟨Fr, e1⟩ := reals _ fun i => congrFun a1 i
  obtain ⟨Gb, e2⟩ := reals _ fun i => congrFun a2 i
  obtain ⟨G, e3⟩ := reals _ fun i => congrFun a3 i
  obtain ⟨W, e4⟩ := reals _ fun i => congrFun a4 i
  obtain ⟨D, e5⟩ := reals _ fun i => congrFun a5 i
  obtain ⟨U, e6⟩ := reals _ fun i => congrFun a6 i
  exact ⟨⟨X, Fr, Gb, G, W, D, U⟩, ⟨e0, e1, e2, e3, e4, e5, e6⟩⟩

theorem frame_kernel : Cert.quiescent_InnerKernel := fun m ρ _ => Cert.InnerKernel.Gen.frame m ρ
theorem frame_ideal : Cert.quiescent_InnerKernelIdeal := fun m ρ _ => Cert.InnerKernelIdeal.Gen.frame m ρ
theorem frame_ideal_pre : Cert.quiescent_InnerKernelIdeal_pre_finite_inner := fun m ρ _ => Cert.InnerKernelIdeal.Gen.frame m ρ
theorem frame_reference : Cert.quiescent_InnerReferenceIdeal := fun m ρ _ =>
  (θ_run Cert.InnerReferenceIdeal.defs _ _).mono
    (fun r h => ⟨fun c => (h c).2.2.2.2, sem_eq_zero_of_no_sems (by decide) r.2⟩)
    (Cert.InnerReferenceIdeal.Value.run m ρ)
theorem frame_reference_pre : Cert.quiescent_InnerReferenceIdeal_pre_finite_inner := fun m ρ _ => frame_reference m ρ trivial

set_option maxHeartbeats 1600000 in
theorem algebraic : Cert.algebraic_InnerKernelIdeal_InnerReferenceIdeal_pre_finite_inner := by
  pair_intro
  · run_from Cert.InnerKernelIdeal.Value.run_blocks m g
  · run_from Cert.InnerReferenceIdeal.Value.run m' g'
    all_goals obtain ⟨A, hA⟩ := real_args m hpre c
    all_goals obtain ⟨h0, h1, h2, h3, h4, h5, h6⟩ := id hA
    all_goals obtain ⟨a0, a1, a2, a3, a4, a5, a6⟩ := hagree c
    · refine (val_main_v55_eq m' c).trans ?_
      rw [a0, a1, a2, a3, a4, a5, a6]
      exact (arr7 m c A hA _ (ref_v55 _ _ _ _ _ _ _ A h0 h1 h2 h3 h4 h5 h6)).symm
    · refine (val_main_v77_eq _ _ _ _ _).trans ?_
      exact (arr8 m c A hA _ (ref_v77 _ _ _ _ _ A h0 h1 h2 h4 h6)).symm
    · refine (val_main_v78_eq m' c).trans ?_
      rw [a0, a1, a2, a3, a4, a5, a6]
      exact (arr9 m c A hA _ (ref_v78 _ _ _ _ _ _ _ A h0 h1 h2 h3 h4 h5 h6)).symm
    · refine (val_main_v79_eq m' c).trans ?_
      rw [a0, a1, a2, a3, a4, a5, a6]
      exact (arr10 m c A hA _ (ref_v79 _ _ _ _ _ _ _ A h0 h1 h2 h3 h4 h5 h6)).symm

end Cert.Proof.Inner

end
-- ==== Proof.Gating.lean ====
/- The gating columns of the mixer's forward pass -/
module

public import proofs.«01_k».proof.Defs
public import proofs.«01_k».proof.Proof.Gen.GatingKernel.Frame
public import proofs.«01_k».proof.Proof.Gen.GatingKernelIdeal.Value
public import proofs.«01_k».proof.Proof.Gen.GatingReferenceIdeal.Read
public import proofs.«01_k».proof.Proof.Gen.On_gating_columns
public import proofs.«01_k».proof.Proof.Reals
public import Idealize.ShloMosaic.Lib.Pipeline.ValueKit
public import Idealize.ShloMosaic.Lib.Pipeline.Covers
public import Idealize.ShloMosaic.Lib.Pipeline.ReadBack
public import Idealize.ShloMosaic.Lib.KernelVsHost
public import Idealize.ShloMosaic.Lib.Pointwise

@[expose] public section

set_option maxRecDepth 16384

noncomputable section

namespace Cert.Proof.Gating

open Idealize.ShloMosaic Idealize.ShloMosaic.TcCoe Idealize.SL.Sem
open Idealize.ShloMosaic.Pipeline (Dat)
open Cert.Proof.Reals
open Cert.GatingKernelIdeal Cert.GatingKernelIdeal.Gen Cert.GatingReferenceIdeal.Read

variable (m : (ℓ : Loc nD τ sig) → Buf (Elt Ideal) ℓ)

theorem idx : ∀ t : Fin cfg0.N, win0_0.index t = ![t.val, 0] ∧ win0_7.index t = ![0, 0] ∧ win0_8.index t = ![0, 0, 0] ∧ win0_9.index t = ![0, 0] ∧ win0_13.index t = ![t.val, 0] :=
  (by decide +kernel : ∀ t : Fin grid0.N, _)

/-- The chunk of 128 rows that point `t` works on. -/
def chunk (t : Fin cfg0.N) : Fin 32 := ⟨t.val, lt_of_lt_of_eq t.isLt N_0⟩

/-- Row `i` of chunk `n`. -/
def row (n : Fin 32) (i : Fin 128) : Fin 4096 := ⟨n.val * 128 + i.val, by omega⟩

/-- Lane `d` of group `g`. -/
def lane (g : Fin 4) (d : Fin 64) : Fin 256 := ⟨g.val * 64 + d.val, by omega⟩

theorem lane_split (q : Fin 256) : ∃ g d, q = lane g d :=
  ⟨⟨q.val / 64, by omega⟩, ⟨q.val % 64, Nat.mod_lt _ (by decide)⟩, Fin.ext (Nat.div_add_mod' _ _).symm⟩

/-- The gated activation of the kernel is the one of the reference. -/
theorem gelu (x0 : S4096x1536.Idx → EReal) (v : Vec Ideal S128x512 .bf16) (n : Fin 32) (h : ∀ i j, (v (ix2 i j) : EReal) = x0 (ix2 (row n i) ⟨j.val, by omega⟩)) (i : Fin 128) (j : Fin 512) :
    (k0_pay7 v (ix2 i j) : EReal) = val_main_v14 (F := Ideal) x0 (ix3 0 (row n i) j) := by
  have hi := h i j
  generalize hr : row n i = r
  rw [hr] at hi
  pointwise [k0_pay7, val_main_v14, val_main_v13, val_main_v12, val_main_cst_2, val_main_v11, val_main_v10, val_main_cst_1, val_main_v9, val_main_v8, val_main_v7, val_main_cst_0, val_main_v6, val_main_v5, val_main_v4, val_main_cst, val_main_v3, val_main_v2, val_main_v1, val_main_v0]
  rw [hi]
  generalize x0 _ = x
  ac_rfl

/-- The group a lane belongs to, as the kernel computes it. -/
theorem group (i : Fin 128) (g : Fin 4) (d : Fin 64) :
    (k0_pay13 (iota .tc S128x256 32 [1] iota_S128x256_d1_w32) 64#32 k0_pay11 k0_pay12 1#32 (ix2 i (lane g d)) : BitVec 32) = BitVec.ofNat 32 g.val := by
  unfold lane
  pointwise [k0_pay11, k0_pay12, k0_pay13]
  clear i
  revert g d
  decide +kernel

/-- A sum over the lanes of one group, as a sum over all lanes. -/
theorem group_sum (w : Fin 4) (f : Fin 256 → EReal) (C : Fin 256 → BitVec 1) (hC : ∀ g d, C (lane g d) = if g = w then 1#1 else 0#1) :
    (∑ k : Fin 256, Scalar.select (C k) (f k) 0) = ∑ d : Fin 64, f (lane w d) := by
  have e : ∀ F : Fin 256 → EReal, (∑ k, F k) = ∑ g : Fin 4, ∑ d : Fin 64, F (lane g d) := fun F => by
    rw [← Fintype.sum_prod_type', ← (finProdFinEquiv (m := 4) (n := 64)).sum_comp]
    refine Finset.sum_congr rfl fun p _ => congrArg F (Fin.ext ?_)
    show p.2.val + 64 * p.1.val = p.1.val * 64 + p.2.val
    omega
  rw [e, Finset.sum_eq_single w]
  · exact Finset.sum_congr rfl fun d _ => by rw [hC, if_pos rfl]; rfl
  · intro g _ hg
    exact Finset.sum_eq_zero fun d _ => by rw [hC, if_neg hg]; rfl
  · exact fun h => absurd (Finset.mem_univ _) h

/-- The activation at row `r` in lane `j` of the half that multiplies, -/
def up (x0 : S4096x1536.Idx → EReal) (r : Fin 4096) (j : Fin 256) : EReal := val_main_v14 (F := Ideal) x0 (ix3 0 r ⟨j.val, by omega⟩)

/-- and of the half that is normalised. -/
def un (x0 : S4096x1536.Idx → EReal) (r : Fin 4096) (j : Fin 256) : EReal := val_main_v14 (F := Ideal) x0 (ix3 0 r ⟨256 + j.val, by omega⟩)

/-- The sum of squares of the normalised half over one group. -/
def ss (x0 : S4096x1536.Idx → EReal) (r : Fin 4096) (g : Fin 4) : EReal := ∑ d : Fin 64, un x0 r (lane g d) * un x0 r (lane g d)

/-- The normalised half. -/
def nrm (x0 : S4096x1536.Idx → EReal) (x2 : S256.Idx → EReal) (r : Fin 4096) (g : Fin 4) (d : Fin 64) : EReal :=
  un x0 r (lane g d) * Ideal.rsqrt (ss x0 r g * Ideal.ofBits .f32 0x3C800000#32 + Ideal.ofBits .f32 0x358637BD#32) * x2 (ix1 (lane g d))

/-- A row of the mixing matrix up to the diagonal. -/
def low (i k : Fin 128) (a : EReal) : EReal := Scalar.select (IntOp.cmpi .sge (BitVec.ofNat 32 i.val) (BitVec.ofNat 32 k.val)) a 0

/-- The gated value at row `i` of chunk `n`, in lane `d` of group `g`. -/
def gated (x0 : S4096x1536.Idx → EReal) (x2 : S256.Idx → EReal) (x3 : S4x128x128.Idx → EReal) (x4 : S4x128.Idx → EReal) (n : Fin 32) (i : Fin 128) (g : Fin 4) (d : Fin 64) : EReal :=
  up x0 (row n i) (lane g d) * ((∑ k : Fin 128, low i k (x3 (ix3 g i k)) * nrm x0 x2 (row n k) g d) + x4 (ix2 g i))

/-- Of four values the one chosen by the number of the group. -/
theorem chain (g : Fin 4) (s : Fin 4 → EReal) : Scalar.select (IntOp.cmpi .eq (BitVec.ofNat 32 g.val) 3#32) (s 3) (Scalar.select (IntOp.cmpi .eq (BitVec.ofNat 32 g.val) 2#32) (s 2)
    (Scalar.select (IntOp.cmpi .eq (BitVec.ofNat 32 g.val) 1#32) (s 1) (Scalar.select (IntOp.cmpi .eq (BitVec.ofNat 32 g.val) 0#32) (s 0) 0))) = s g :=
  match g with
  | 0 => rfl
  | 1 => rfl
  | 2 => rfl
  | 3 => rfl

theorem norm (x0 : S4096x1536.Idx → EReal) (x2 : S256.Idx → EReal) (v : Vec Ideal S128x512 .bf16) (u : Vec Ideal S1x256 .f32) (n : Fin 32) (h : ∀ i j, (v (ix2 i j) : EReal) = x0 (ix2 (row n i) ⟨j.val, by omega⟩))
    (hu : ∀ j, (u (ix2 0 j) : EReal) = x2 (ix1 j)) (i : Fin 128) (g : Fin 4) (d : Fin 64) :
    (k0_pay17 (k0_pay5 u) (k0_pay9 v) (k0_pay14 (k0_pay10 v) (iota .tc S128x256 32 [1] iota_S128x256_d1_w32) 64#32 k0_pay11 k0_pay12 1#32) (k0_pay15 (iota .tc S128x256 32 [1] iota_S128x256_d1_w32) 64#32 k0_pay11 k0_pay12 1#32)
      (k0_pay16 (k0_pay10 v) (iota .tc S128x256 32 [1] iota_S128x256_d1_w32) 64#32 k0_pay11 k0_pay12 1#32) (ix2 i (lane g d)) : EReal) = nrm x0 x2 (row n i) g d := by
  have hg := gelu x0 v n h
  have hs : ∀ (w : Fin 4) (b : BitVec 32), b = BitVec.ofNat 32 w.val → (∑ x : Fin 256, Scalar.select (IntOp.cmpi .eq (k0_pay13 (iota .tc S128x256 32 [1] iota_S128x256_d1_w32) 64#32 k0_pay11 k0_pay12 1#32 (ix2 i x)) b)
      ((k0_pay7 v (ix2 i ⟨256 + x.val, by omega⟩) : EReal) * k0_pay7 v (ix2 i ⟨256 + x.val, by omega⟩)) 0) = ss x0 (row n i) w := by
    intro w b hb
    refine (group_sum w (fun x => (k0_pay7 v (ix2 i ⟨256 + x.val, by omega⟩) : EReal) * k0_pay7 v (ix2 i ⟨256 + x.val, by omega⟩)) _ fun a d => ?_).trans ?_
    · rw [group, hb]
      clear d hb
      revert a w
      decide
    · exact Finset.sum_congr rfl fun d _ => by rw [hg]; rfl
  pointwise [k0_pay17, k0_pay5, k0_pay9, k0_pay14, k0_pay15, k0_pay16, k0_pay10]
  rw [hs 3 3#32 rfl, hs 2 2#32 rfl, hs 1 1#32 rfl, hs 0 0#32 rfl, group, chain g (ss x0 (row n i)), hg, hu]
  rfl

/-- The lanes of the lower group of a pair. -/
theorem lower (i j : Fin 128) : (k0_pay18 (ix2 i j) : BitVec 1) = if j.val < 64 then 1#1 else 0#1 := by
  pointwise [k0_pay18]
  clear i
  revert j
  decide +kernel

theorem sel_pos {c : BitVec 1} (a b : EReal) (h : c = 1#1) : Scalar.select c a b = a := by subst h; rfl
theorem sel_neg {c : BitVec 1} (a b : EReal) (h : c = 0#1) : Scalar.select c a b = b := by subst h; rfl

theorem sel_mul (c : BitVec 1) (a p : EReal) : Scalar.select c a 0 * p = Scalar.select c (a * p) 0 := by
  unfold Scalar.select
  split
  · rfl
  · exact zero_mul p

theorem mix (v10 : FVec Ideal S1x256 .f32) (v27 v81 v85 v12 v26 : FVec Ideal S128x256 .f32) (v83 : IVec S128x256 1) (w0 w1 w2 w3 : Vec Ideal S1x128x128 .f32) (i : Fin 128) (g : Fin 4) (d : Fin 64) :
    (k0_pay21 v12 v26 (k0_pay17 v10 v27 v81 v83 v85) k0_pay18 (k0_pay19 v10 v27 v81 v83 v85) (k0_pay20 v10 v27 v81 v83 v85 w0) w1 w2 w3 (ix2 i (lane g d)) : EReal) =
      v26 (ix2 i (lane g d)) * ((∑ k : Fin 128, low i k ((![w0, w1, w2, w3] g) (ix3 0 i k)) * k0_pay17 v10 v27 v81 v83 v85 (ix2 k (lane g d))) + v12 (ix2 i (lane g d))) := by
  have hl := lower i
  pointwise [k0_pay21, k0_pay20, k0_pay19]
  generalize k0_pay17 v10 v27 v81 v83 v85 = p
  unfold low
  simp only [sel_mul]
  refine congrArg (fun a : EReal => v26 (ix2 i (lane g d)) * (a + v12 (ix2 i (lane g d)))) ?_
  match g with
  | 0 => exact (dif_pos (show 0 * 64 + d.val < 128 by omega)).trans (sel_pos _ _ ((hl _).trans (if_pos (show 0 * 64 + d.val < 64 by omega))))
  | 1 => exact (dif_pos (show 1 * 64 + d.val < 128 by omega)).trans (sel_neg _ _ ((hl _).trans (if_neg (show ¬ 1 * 64 + d.val < 64 by omega))))
  | 2 =>
    have e : ∀ h, (⟨128 + ((lane 2 d).val - 128), h⟩ : Fin 256) = lane 2 d := fun h => Fin.ext (show 128 + (2 * 64 + d.val - 128) = 2 * 64 + d.val by omega)
    refine (dif_neg (show ¬ 2 * 64 + d.val < 128 by omega)).trans ((sel_pos _ _ ((hl _).trans (if_pos (show 2 * 64 + d.val - 128 < 64 by omega)))).trans ?_)
    simp only [e]
    rfl
  | 3 =>
    have e : ∀ h, (⟨128 + ((lane 3 d).val - 128), h⟩ : Fin 256) = lane 3 d := fun h => Fin.ext (show 128 + (3 * 64 + d.val - 128) = 3 * 64 + d.val by omega)
    refine (dif_neg (show ¬ 3 * 64 + d.val < 128 by omega)).trans ((sel_neg _ _ ((hl _).trans (if_neg (show ¬ 3 * 64 + d.val - 128 < 64 by omega)))).trans ?_)
    simp only [e]
    rfl

/-- The gated value, from the blocks a point reads. -/
theorem whole (x0 : S4096x1536.Idx → EReal) (x2 : S256.Idx → EReal) (x3 : S4x128x128.Idx → EReal) (x4 : S4x128.Idx → EReal) (v : Vec Ideal S128x512 .bf16) (u : Vec Ideal S1x256 .f32) (b : Vec Ideal S128x256 .f32)
    (w0 w1 w2 w3 : Vec Ideal S1x128x128 .f32) (n : Fin 32) (h : ∀ i j, (v (ix2 i j) : EReal) = x0 (ix2 (row n i) ⟨j.val, by omega⟩)) (hu : ∀ j, (u (ix2 0 j) : EReal) = x2 (ix1 j))
    (hb : ∀ i g d, (b (ix2 i (lane g d)) : EReal) = x4 (ix2 g i)) (hw : ∀ g i k, (![w0, w1, w2, w3] g (ix3 0 i k) : EReal) = x3 (ix3 g i k)) (i : Fin 128) (g : Fin 4) (d : Fin 64)
    (x : S128x256.Idx) (h0 : i.val = (x 0).val) (h1 : (lane g d).val = (x 1).val) (v10 : FVec Ideal S1x256 .f32) (v27 v81 v85 : FVec Ideal S128x256 .f32) (v83 : IVec S128x256 1)
    (e10 : v10 = k0_pay5 u) (e27 : v27 = k0_pay9 v) (e81 : v81 = k0_pay14 (k0_pay10 v) (iota .tc S128x256 32 [1] iota_S128x256_d1_w32) 64#32 k0_pay11 k0_pay12 1#32)
    (e83 : v83 = k0_pay15 (iota .tc S128x256 32 [1] iota_S128x256_d1_w32) 64#32 k0_pay11 k0_pay12 1#32) (e85 : v85 = k0_pay16 (k0_pay10 v) (iota .tc S128x256 32 [1] iota_S128x256_d1_w32) 64#32 k0_pay11 k0_pay12 1#32) :
    (k0_pay21 (k0_pay6 b) (k0_pay8 v) (k0_pay17 v10 v27 v81 v83 v85) k0_pay18 (k0_pay19 v10 v27 v81 v83 v85) (k0_pay20 v10 v27 v81 v83 v85 w0) w1 w2 w3 x : EReal) = gated x0 x2 x3 x4 n i g d := by
  obtain rfl : x = ix2 i (lane g d) := funext fun a => Fin.ext (by match a with | ⟨0, _⟩ => exact h0.symm | ⟨1, _⟩ => exact h1.symm)
  have ha : (k0_pay8 v (ix2 i (lane g d)) : EReal) = up x0 (row n i) (lane g d) := by
    have hg := gelu x0 v n h i
    pointwise [k0_pay8]
    exact hg _
  have hb' : (k0_pay6 b (ix2 i (lane g d)) : EReal) = x4 (ix2 g i) := by
    have hb := hb i g d
    pointwise [k0_pay6]
    exact hb
  subst e10 e27 e81 e83 e85
  refine (mix _ _ _ _ _ _ _ w0 w1 w2 w3 i g d).trans ?_
  rw [ha, hb']
  refine congrArg (fun a : EReal => _ * (a + _)) (Finset.sum_congr rfl fun k _ => ?_)
  rw [hw, norm x0 x2 v u n h hu k g d]

section ref

variable (x0 : S4096x1536.Idx → EReal) (x2 : S256.Idx → EReal) (x3 : S4x128x128.Idx → EReal) (x4 : S4x128.Idx → EReal) (n : Fin 32) (i : Fin 128) (g : Fin 4) (d : Fin 64)

theorem ref_un : (val_main_v17 (F := Ideal) x0 (ix5 0 n i g d) : EReal) = un x0 (row n i) (lane g d) := by
  rw [val_main_v17_apply, val_main_v16_apply]
  refine congrArg (val_main_v14 (F := Ideal) x0) (funext fun a => Fin.ext ?_)
  match a with
  | ⟨0, _⟩ => rfl
  | ⟨1, _⟩ => show ((((0 * 32 + n.val) * 128 + i.val) * 4 + g.val) * 64 + d.val) / 256 % 4096 = n.val * 128 + i.val; omega
  | ⟨2, _⟩ => show 256 + ((((0 * 32 + n.val) * 128 + i.val) * 4 + g.val) * 64 + d.val) % 256 = 256 + (g.val * 64 + d.val); omega

theorem bits_64 : Ideal.ofBits .f32 0x42800000#32 = ((64 : ℝ) : EReal) := by
  simp [Ideal.ofBits, Ideal.ieee, -EReal.coe_mul]; norm_num [-EReal.coe_mul]

theorem bits_inv64 : Ideal.ofBits .f32 0x3C800000#32 = ((1 / 64 : ℝ) : EReal) := by
  simp [Ideal.ofBits, Ideal.ieee, -EReal.coe_mul]; norm_num [-EReal.coe_mul]

theorem ref_norm : (val_main_v31 (F := Ideal) x0 x2 (ix5 0 n i g d) : EReal) = nrm x0 x2 (row n i) g d := by
  have h := ref_un x0 n i g
  have e20 : (val_main_v20 (F := Ideal) x0 (ix4 0 n i g) : EReal) = ss x0 (row n i) g := by
    pointwise [val_main_v20, val_main_v19, val_main_cst_3]
    simp only [h]
    rfl
  pointwise [val_main_v31, val_main_v30, val_main_v29, val_main_v28, val_main_v27, val_main_v26, val_main_v25, val_main_v24, val_main_cst_5, val_main_v23, val_main_v22, val_main_cst_4, val_main_v21]
  rw [e20, h]
  unfold nrm
  rw [bits_64, bits_inv64, Ideal.div_coe (by norm_num), val_main_v18_apply,
    show idx_main_v18 (ix2 g d) = ix1 (lane g d) from funext fun a => Fin.ext (by match a with | ⟨0, _⟩ => rfl)]

theorem ref_low (k : Fin 128) : (val_main_v36 (F := Ideal) x3 (ix3 g i k) : EReal) = low i k (x3 (ix3 g i k)) := by
  have e : ∀ c : BitVec 1, Scalar.select c 1#1 0#1 = c := by decide
  have e' : ∀ c : BitVec 32, IntOp.addi c 0#32 = c := fun c => BitVec.add_zero c
  pointwise [val_main_v36, val_main_call1_v0, val_main_v34, val_main_v33, val_main_call0_v4, val_main_call0_v2, val_main_call0_v0, val_main_call0_v1, val_main_call0_c, val_main_call0_v3, val_main_v32, val_main_c, val_main_call0_v5, val_main_call0_c_0, val_main_v35, val_main_cst_6]
  unfold low
  simp only [e, e']

theorem ref_mix : (val_main_v42 (F := Ideal) x0 x2 x3 x4 (ix5 0 n i g d) : EReal) = (∑ k : Fin 128, low i k (x3 (ix3 g i k)) * nrm x0 x2 (row n k) g d) + x4 (ix2 g i) := by
  rw [val_main_v42_apply, val_main_v38_apply, val_main_v37_apply]
  have el : ∀ k, lidx_main_v37 (idx_main_v38 (ix5 0 n i g d)) k = ix5 0 n k g d := fun k => funext fun a => Fin.ext (by
    match a with | ⟨0, _⟩ => rfl | ⟨1, _⟩ => rfl | ⟨2, _⟩ => rfl | ⟨3, _⟩ => rfl | ⟨4, _⟩ => rfl)
  have er : ∀ k, ridx_main_v37 (idx_main_v38 (ix5 0 n i g d)) k = ix3 g i k := fun k => funext fun a => Fin.ext (by
    match a with | ⟨0, _⟩ => rfl | ⟨1, _⟩ => rfl | ⟨2, _⟩ => rfl)
  have eb : (val_main_v41 (F := Ideal) x4 (ix5 0 n i g d) : EReal) = x4 (ix2 g i) := by
    pointwise [val_main_v41, val_main_v40, val_main_v39]
  refine congrArg₂ (fun a b : EReal => a + b) (Finset.sum_congr rfl fun k _ => ?_) eb
  rw [el, er, ref_norm, ref_low]
  exact mul_comm _ _

theorem ref_gated (q : Fin 1024) (hq : q.val = g.val * 64 + d.val) : (val_main_v47 (F := Ideal) x0 x2 x3 x4 (ix2 (row n i) q) : EReal) = gated x0 x2 x3 x4 n i g d := by
  have e45 : idx_main_v45 (ix2 (row n i) (lane g d)) = ix3 0 (row n i) (lane g d) := funext fun a => Fin.ext (by
    match a with
    | ⟨0, _⟩ => rfl
    | ⟨1, _⟩ => show ((n.val * 128 + i.val) * 256 + (g.val * 64 + d.val)) / 256 % 4096 = n.val * 128 + i.val; omega
    | ⟨2, _⟩ => show ((n.val * 128 + i.val) * 256 + (g.val * 64 + d.val)) % 256 = g.val * 64 + d.val; omega)
  have e43 : idx_main_v43 (ix3 0 (row n i) (lane g d)) = ix5 0 n i g d := funext fun a => Fin.ext (by
    match a with
    | ⟨0, _⟩ => rfl
    | ⟨1, _⟩ => show ((0 * 4096 + (n.val * 128 + i.val)) * 256 + (g.val * 64 + d.val)) / 32768 % 32 = n.val; omega
    | ⟨2, _⟩ => show ((0 * 4096 + (n.val * 128 + i.val)) * 256 + (g.val * 64 + d.val)) / 256 % 128 = i.val; omega
    | ⟨3, _⟩ => show ((0 * 4096 + (n.val * 128 + i.val)) * 256 + (g.val * 64 + d.val)) / 64 % 4 = g.val; omega
    | ⟨4, _⟩ => show ((0 * 4096 + (n.val * 128 + i.val)) * 256 + (g.val * 64 + d.val)) % 64 = d.val; omega)
  unfold val_main_v47
  refine (pad_apply_of_inside _ _ _ _ _ _ _ _ (ix2 (row n i) (lane g d)) fun a => ?_).trans ?_
  · match a with
    | ⟨0, _⟩ => show (row n i).val = 0 + (row n i).val * (0 + 1); omega
    | ⟨1, _⟩ => show q.val = 0 + (g.val * 64 + d.val) * (0 + 1); omega
  · rw [val_main_v46_apply, val_main_v45_apply, e45, val_main_v44_apply, val_main_v43_apply, e43, ref_mix, val_main_v15_apply]
    refine congrArg (fun a : EReal => a * _) (congrArg (val_main_v14 (F := Ideal) x0) (funext fun a => Fin.ext ?_))
    match a with
    | ⟨0, _⟩ => rfl
    | ⟨1, _⟩ => rfl
    | ⟨2, _⟩ => rfl

end ref

section inputs

variable (c : Dev nD)

theorem in_0 (t : Fin cfg0.N) (i : Fin 128) (j : Fin 1536) : (iblk m c 0 t (ix2 i j) : EReal) = m ((c : Thread nD τ).loc main_arg0) (ix2 (row (chunk t) i) j) := by
  have eb : ((win0_0.blk t).view.emb (ix2 i j) : S4096x1536.Idx) = ix2 (row (chunk t) i) j := by
    unfold row chunk
    blk_ext! [idx t]
  have e : (V m c main_v0 : S4096x1536.Idx → EReal) = (truncf .bf16 (m ((c : Thread nD τ).loc main_arg0) : FVec Ideal S4096x1536 .f32) bitsLt_bf16_f32 : FVec Ideal S4096x1536 .bf16) := by
    unfold_abbrev_sides
    simp only [hostOps0, hostOps0_1, hostOps0_2, hostOps0_3, hostOps0_4, hostOps0_5, hostOps0_6, List.flatten_cons, List.flatten_nil, List.append_nil, List.cons_append, List.nil_append]
    after_results
    try rfl
  refine (congrArg (V m c main_v0) eb).trans ?_
  refine (congrFun e _).trans ?_
  generalize row (chunk t) i = r
  pointwise

theorem in_7 (t : Fin cfg0.N) (j : Fin 256) : (iblk m c 7 t (ix2 0 j) : EReal) = m ((c : Thread nD τ).loc main_arg2) (ix1 j) := by
  have eb : ((win0_7.blk t).view.emb (ix2 0 j) : S1x256.Idx) = ix2 0 j := by
    blk_ext! [idx t]
  have e : (V m c main_v36 : S1x256.Idx → EReal) = shapeCast S1x256 (m ((c : Thread nD τ).loc main_arg2)) shapeCasts_S256_S1x256 := by
    unfold_abbrev_sides
    simp only [hostOps0, hostOps0_1, hostOps0_2, hostOps0_3, hostOps0_4, hostOps0_5, hostOps0_6, List.flatten_cons, List.flatten_nil, List.append_nil, List.cons_append, List.nil_append]
    after_results
    try rfl
  refine (congrArg (V m c main_v36) eb).trans ?_
  refine (congrFun e _).trans ?_
  pointwise

theorem in_8 (t : Fin cfg0.N) (g : Fin 4) (i k : Fin 128) : (iblk m c 8 t (ix3 g i k) : EReal) = m ((c : Thread nD τ).loc main_arg3) (ix3 g i k) := by
  have eb : ((win0_8.blk t).view.emb (ix3 g i k) : S4x128x128.Idx) = ix3 g i k := by
    blk_ext! [idx t]
  refine (congrArg (V m c main_arg3) eb).trans ?_
  exact congrFun (V_main_arg3 m c) _

theorem in_9 (t : Fin cfg0.N) (i : Fin 128) (g : Fin 4) (d : Fin 64) : (iblk m c 9 t (ix2 i (lane g d)) : EReal) = m ((c : Thread nD τ).loc main_arg4) (ix2 g i) := by
  have eb : ((win0_9.blk t).view.emb (ix2 i (lane g d)) : S128x256.Idx) = ix2 i (lane g d) := by
    blk_ext! [idx t]
  have e : (V m c main_v26 : S128x256.Idx → EReal) = shapeCast S128x256 (broadcastInDim S128x4x64 ![0, 1] bcast_S128x4_S128x4x64_0_1 (transpose S128x4 [1, 0] (m ((c : Thread nD τ).loc main_arg4)) transposes_S4x128_S128x4_1_0)) shapeCasts_S128x4x64_S128x256 := by
    unfold_abbrev_sides
    simp only [hostOps0, hostOps0_1, hostOps0_2, hostOps0_3, hostOps0_4, hostOps0_5, hostOps0_6, List.flatten_cons, List.flatten_nil, List.append_nil, List.cons_append, List.nil_append]
    after_results
    try rfl
  refine (congrArg (V m c main_v26) eb).trans ?_
  refine (congrFun e _).trans ?_
  unfold lane
  pointwise

/-- The other stores lie to the right of the gating columns. -/
theorem right {g : Fin 4} {d : Fin 64} {q n k : ℕ} (hq : q = g.val * 64 + d.val) (hn : 256 ≤ n) (h : q = n + k) : False := by omega

/-- The gated value, as it is stored at point `t`. -/
theorem stored (t : Fin cfg0.N) (i : Fin 128) (g : Fin 4) (d : Fin 64) (q : Fin 1024) (hq : q.val = g.val * 64 + d.val) (x : S128x256.Idx) (b b0 b1 b2 b3) (h0 : i.val = (x 0).val) (h1 : q.val = (x 1).val) :
    (k0_pay21 (k0_pay6 (iblk m c 9 t)) (k0_pay8 (View.ld (iblk m c 0 t) (Rect.unit (s := S128x1536) ![0, 0] ![128, 512] b)))
      (k0_pay17 (k0_pay5 (iblk m c 7 t)) (k0_pay9 (View.ld (iblk m c 0 t) (Rect.unit (s := S128x1536) ![0, 0] ![128, 512] b)))
        (k0_pay14 (k0_pay10 (View.ld (iblk m c 0 t) (Rect.unit (s := S128x1536) ![0, 0] ![128, 512] b))) (iota .tc S128x256 32 [1] iota_S128x256_d1_w32) 64#32 k0_pay11 k0_pay12 1#32)
        (k0_pay15 (iota .tc S128x256 32 [1] iota_S128x256_d1_w32) 64#32 k0_pay11 k0_pay12 1#32)
        (k0_pay16 (k0_pay10 (View.ld (iblk m c 0 t) (Rect.unit (s := S128x1536) ![0, 0] ![128, 512] b))) (iota .tc S128x256 32 [1] iota_S128x256_d1_w32) 64#32 k0_pay11 k0_pay12 1#32))
      k0_pay18
      (k0_pay19 (k0_pay5 (iblk m c 7 t)) (k0_pay9 (View.ld (iblk m c 0 t) (Rect.unit (s := S128x1536) ![0, 0] ![128, 512] b)))
        (k0_pay14 (k0_pay10 (View.ld (iblk m c 0 t) (Rect.unit (s := S128x1536) ![0, 0] ![128, 512] b))) (iota .tc S128x256 32 [1] iota_S128x256_d1_w32) 64#32 k0_pay11 k0_pay12 1#32)
        (k0_pay15 (iota .tc S128x256 32 [1] iota_S128x256_d1_w32) 64#32 k0_pay11 k0_pay12 1#32)
        (k0_pay16 (k0_pay10 (View.ld (iblk m c 0 t) (Rect.unit (s := S128x1536) ![0, 0] ![128, 512] b))) (iota .tc S128x256 32 [1] iota_S128x256_d1_w32) 64#32 k0_pay11 k0_pay12 1#32))
      (k0_pay20 (k0_pay5 (iblk m c 7 t)) (k0_pay9 (View.ld (iblk m c 0 t) (Rect.unit (s := S128x1536) ![0, 0] ![128, 512] b)))
        (k0_pay14 (k0_pay10 (View.ld (iblk m c 0 t) (Rect.unit (s := S128x1536) ![0, 0] ![128, 512] b))) (iota .tc S128x256 32 [1] iota_S128x256_d1_w32) 64#32 k0_pay11 k0_pay12 1#32)
        (k0_pay15 (iota .tc S128x256 32 [1] iota_S128x256_d1_w32) 64#32 k0_pay11 k0_pay12 1#32)
        (k0_pay16 (k0_pay10 (View.ld (iblk m c 0 t) (Rect.unit (s := S128x1536) ![0, 0] ![128, 512] b))) (iota .tc S128x256 32 [1] iota_S128x256_d1_w32) 64#32 k0_pay11 k0_pay12 1#32)
        (View.ld (iblk m c 8 t) (Rect.unit (s := S4x128x128) ![0, 0, 0] ![1, 128, 128] b0)))
      (View.ld (iblk m c 8 t) (Rect.unit (s := S4x128x128) ![1, 0, 0] ![1, 128, 128] b1)) (View.ld (iblk m c 8 t) (Rect.unit (s := S4x128x128) ![2, 0, 0] ![1, 128, 128] b2))
      (View.ld (iblk m c 8 t) (Rect.unit (s := S4x128x128) ![3, 0, 0] ![1, 128, 128] b3)) x : EReal) =
    gated (m ((c : Thread nD τ).loc main_arg0)) (m ((c : Thread nD τ).loc main_arg2)) (m ((c : Thread nD τ).loc main_arg3)) (m ((c : Thread nD τ).loc main_arg4)) (chunk t) i g d := by
  refine whole _ _ _ _ _ _ _ _ _ _ _ (chunk t) (fun i j => ?_) (in_7 m c t) (in_9 m c t) (fun g i k => ?_) i g d x h0 (hq.symm.trans h1) _ _ _ _ _ rfl rfl rfl rfl rfl
  · refine Eq.trans ?_ (in_0 m c t i ⟨j.val, by omega⟩)
    generalize iblk m c 0 t = p
    pointwise
  · refine Eq.trans ?_ (in_8 m c t g i k)
    generalize iblk m c 8 t = p
    match g with
    | 0 => pointwise
    | 1 => pointwise
    | 2 => pointwise
    | 3 => pointwise

/-- The block that point `t` leaves, on its first 256 columns. -/
theorem out (t : Fin cfg0.N) (i : Fin 128) (g : Fin 4) (d : Fin 64) (q : Fin 1024) (hq : q.val = g.val * 64 + d.val) : ((outsAt0 m c t.val t.isLt).1 (ix2 i q) : EReal) =
    gated (m ((c : Thread nD τ).loc main_arg0)) (m ((c : Thread nD τ).loc main_arg2)) (m ((c : Thread nD τ).loc main_arg3)) (m ((c : Thread nD τ).loc main_arg4)) (chunk t) i g d := by
  by_cases h0 : t.val % 32 = 0
  · rw [outsAt0_A m c t h0]
    dsimp only
    unfold out0_A_13
    frame_out
    canon_tiles x h using View.cover_of_tiledBy _ ![128, 128] (by sl_kernel_rfl) _
    · exact (right hq (by decide) h1).elim
    · exact (right hq (by decide) h1).elim
    · exact (right hq (by decide) h1).elim
    · exact (right hq (by decide) h1).elim
    · exact (right hq (by decide) h1).elim
    · exact stored m c t i g d q hq x _ _ _ _ _ h0 h1
  · rw [outsAt0_B m c t h0]
    dsimp only
    unfold out0_B_13
    frame_out
    canon_tiles x h using View.cover_of_tiledBy _ ![128, 128] (by sl_kernel_rfl) _
    · exact (right hq (by decide) h1).elim
    · exact (right hq (by decide) h1).elim
    · exact (right hq (by decide) h1).elim
    · exact (right hq (by decide) h1).elim
    · exact (right hq (by decide) h1).elim
    · exact stored m c t i g d q hq x _ _ _ _ _ h0 h1

end inputs

/-- The result array holds the reference's value on the gating columns. -/
theorem arr (c : Dev nD) (i : S4096x1024.Idx) (hi : (i 1 : ℕ) < 256) : (dats m 0 c).arrAt 13 cfg0.N i =
    val_main_v47 (F := Ideal) (m ((c : Thread nD τ).loc main_arg0)) (m ((c : Thread nD τ).loc main_arg2)) (m ((c : Thread nD τ).loc main_arg3)) (m ((c : Thread nD τ).loc main_arg4)) i := by
  refine (dats m 0 c).arrAt_forall_of_covers 13 (fun (i : S4096x1024.Idx) (v : EReal) => (i 1 : ℕ) < 256 → v = val_main_v47 (F := Ideal) (m ((c : Thread nD τ).loc main_arg0)) (m ((c : Thread nD τ).loc main_arg2))
    (m ((c : Thread nD τ).loc main_arg3)) (m ((c : Thread nD τ).loc main_arg4)) i) (by decide +kernel) (fun t _ (y : S128x1024.Idx) => ?_) i (Memref.isWhole_whole _) hi
  obtain ⟨i, q, rfl⟩ : ∃ (i : Fin 128) (q : Fin 1024), y = ix2 i q := ⟨y 0, y 1, eq_ix2 y⟩
  have eb : ((win0_13.blk t).view.emb (ix2 i q) : S4096x1024.Idx) = ix2 (row (chunk t) i) q := by
    unfold row chunk
    blk_ext! [idx t]
  intro hi
  have hq : q.val < 256 := (congrArg (fun k : S4096x1024.Idx => (k 1).val) eb).symm.trans_lt hi
  obtain ⟨g, d, hgd⟩ := lane_split ⟨q.val, hq⟩
  have hq : q.val = g.val * 64 + d.val := congrArg Fin.val hgd
  refine Eq.trans ?_ (congrArg (val_main_v47 (F := Ideal) _ _ _ _) eb).symm
  rw [ref_gated _ _ _ _ (chunk t) i g d q hq]
  blk_simp
  rw [after0_13]
  exact out m c t i g d q hq

/-- The mask is set on the first 256 columns. -/
theorem mask (x0 x1 x2 x3 x4 x5 x6 x7) (i : S4096x1024.Idx) (h : Cert.On_gating_columns.fn (F := Ideal) x0 x1 x2 x3 x4 x5 x6 x7 i = 1#1) : (i 1 : ℕ) < 256 := by
  have key : ∀ r < 1024, IntOp.cmpi .slt (BitVec.ofNat 32 r) 256#32 = 1#1 → r < 256 := by decide +kernel
  exact key _ (i 1).isLt h

theorem frame_kernel : Cert.quiescent_GatingKernel := fun m ρ _ => Cert.GatingKernel.Gen.frame m ρ
theorem frame_ideal : Cert.quiescent_GatingKernelIdeal := fun m ρ _ => Cert.GatingKernelIdeal.Gen.frame m ρ
theorem frame_reference : Cert.quiescent_GatingReferenceIdeal := fun m ρ _ =>
  (θ_run Cert.GatingReferenceIdeal.defs _ _).mono
    (fun r h => ⟨fun c => (h c).2, sem_eq_zero_of_no_sems (by decide) r.2⟩)
    (Cert.GatingReferenceIdeal.Value.run m ρ)

theorem algebraic : Cert.algebraic_GatingKernelIdeal_GatingReferenceIdeal_on_gating_columns := by
  intro m ρ m' ρ' _ hagree
  refine ⟨fun c => val_main_v47 (F := Ideal) (m ((c : Thread nD τ).loc main_arg0)) (m ((c : Thread nD τ).loc main_arg2)) (m ((c : Thread nD τ).loc main_arg3)) (m ((c : Thread nD τ).loc main_arg4)), ?_, ?_⟩
  · exact (θ_run defs _ _).mono (fun _ h c => ⟨fun i hi => (congrFun (h c).1 i).trans (arr m c i (mask _ _ _ _ _ _ _ _ i hi)), (h c).2⟩) (Cert.GatingKernelIdeal.Value.run_blocks m ρ)
  · refine (θ_run Cert.GatingReferenceIdeal.defs _ _).mono (fun _ h c => ⟨fun i _ => congrFun ((h c).1.trans ?_) i, (h c).2⟩)
      (Cert.GatingReferenceIdeal.Value.run (F := Ideal) m' ρ')
    obtain ⟨e0, _, e2, e3, e4, _⟩ := hagree c
    rw [← e0, ← e2, ← e3, ← e4]
    exact val_main_v47_eq m' c

end Cert.Proof.Gating

end
-- ==== Proof.lean ====
/- The claims, each from the module that is about its pair of programs -/
module

public import proofs.«01_k».proof.Defs
public import proofs.«01_k».proof.Proof.Gain
public import proofs.«01_k».proof.Proof.Loss
public import proofs.«01_k».proof.Proof.Gate
public import proofs.«01_k».proof.Proof.Norm
public import proofs.«01_k».proof.Proof.NormT
public import proofs.«01_k».proof.Proof.First
public import proofs.«01_k».proof.Proof.Xattn
public import proofs.«01_k».proof.Proof.XattnF
public import proofs.«01_k».proof.Proof.MixO
public import proofs.«01_k».proof.Proof.FfnO
public import proofs.«01_k».proof.Proof.Rope
public import proofs.«01_k».proof.Proof.Mm
public import proofs.«01_k».proof.Proof.Wgrad
public import proofs.«01_k».proof.Proof.Adamw
public import proofs.«01_k».proof.Proof.Small
public import proofs.«01_k».proof.Proof.FinalSum
public import proofs.«01_k».proof.Proof.FfnL
public import proofs.«01_k».proof.Proof.FirstF
public import proofs.«01_k».proof.Proof.XkvF
public import proofs.«01_k».proof.Proof.ChipSum
public import proofs.«01_k».proof.Proof.Place
public import proofs.«01_k».proof.Proof.Inner
public import proofs.«01_k».proof.Proof.Gating

@[expose] public section

noncomputable section

namespace Cert.Proof

theorem claim : Cert.Claim :=
  ⟨Cert.GainKernel.Gen.facts, Cert.GainKernelIdeal.Gen.facts, Cert.GainReferenceIdeal.Gen.facts, Cert.LossKernel.Gen.facts,
    Cert.LossKernelIdeal.Gen.facts, Cert.LossReferenceIdeal.Gen.facts, Cert.GateKernel.Gen.facts, Cert.GateKernelIdeal.Gen.facts,
    Cert.GateReferenceIdeal.Gen.facts, Cert.NormKernel.Gen.facts, Cert.NormKernelIdeal.Gen.facts, Cert.NormReferenceIdeal.Gen.facts,
    Cert.NormTKernel.Gen.facts, Cert.NormTKernelIdeal.Gen.facts, Cert.NormTReferenceIdeal.Gen.facts, Cert.FirstKernel.Gen.facts,
    Cert.FirstKernelIdeal.Gen.facts, Cert.FirstReferenceIdeal.Gen.facts, Cert.XattnKernel.Gen.facts, Cert.XattnKernelIdeal.Gen.facts,
    Cert.XattnReferenceIdeal.Gen.facts, Cert.XattnFKernel.Gen.facts, Cert.XattnFKernelIdeal.Gen.facts, Cert.XattnFReferenceIdeal.Gen.facts,
    Cert.MixOKernel.Gen.facts, Cert.MixOKernelIdeal.Gen.facts, Cert.MixOReferenceIdeal.Gen.facts, Cert.FfnOKernel.Gen.facts,
    Cert.FfnOKernelIdeal.Gen.facts, Cert.FfnOReferenceIdeal.Gen.facts, Cert.RopeKernel.Gen.facts, Cert.RopeKernelIdeal.Gen.facts,
    Cert.RopeReferenceIdeal.Gen.facts, Cert.MmKernel.Gen.facts, Cert.MmKernelIdeal.Gen.facts, Cert.MmReferenceIdeal.Gen.facts,
    Cert.WgradKernel.Gen.facts, Cert.WgradKernelIdeal.Gen.facts, Cert.WgradReferenceIdeal.Gen.facts, Cert.AdamwKernel.Gen.facts,
    Cert.AdamwKernelIdeal.Gen.facts, Cert.AdamwReferenceIdeal.Gen.facts, Cert.SmallKernel.Gen.facts, Cert.SmallKernelIdeal.Gen.facts,
    Cert.SmallReferenceIdeal.Gen.facts, Cert.FinalSumKernel.Gen.facts, Cert.FinalSumKernelIdeal.Gen.facts, Cert.FinalSumReferenceIdeal.Gen.facts,
    Cert.FfnLKernel.Gen.facts, Cert.FfnLKernelIdeal.Gen.facts, Cert.FfnLReferenceIdeal.Gen.facts, Cert.FirstFKernel.Gen.facts,
    Cert.FirstFKernelIdeal.Gen.facts, Cert.FirstFReferenceIdeal.Gen.facts, Cert.XkvFKernel.Gen.facts, Cert.XkvFKernelIdeal.Gen.facts,
    Cert.XkvFReferenceIdeal.Gen.facts, Cert.ChipSumKernel.Gen.facts, Cert.ChipSumKernelIdeal.Gen.facts, Cert.ChipSumReferenceIdeal.Gen.facts,
    Cert.PlaceKernel.Gen.facts, Cert.PlaceKernelIdeal.Gen.facts, Cert.PlaceReferenceIdeal.Gen.facts, Cert.InnerKernel.Gen.facts,
    Cert.InnerKernelIdeal.Gen.facts, Cert.InnerReferenceIdeal.Gen.facts, Cert.GatingKernel.Gen.facts, Cert.GatingKernelIdeal.Gen.facts,
    Cert.GatingReferenceIdeal.Gen.facts, Cert.Pre_finite_loss.Gen.facts, Cert.Pre_finite_gate.Gen.facts, Cert.Pre_finite_norm.Gen.facts,
    Cert.Pre_finite_normt.Gen.facts, Cert.Pre_finite_first.Gen.facts, Cert.Pre_finite_xattn.Gen.facts, Cert.Pre_finite_xattnf.Gen.facts,
    Cert.Pre_finite_inner.Gen.facts, Cert.On_own_block.Gen.facts, Cert.On_gating_columns.Gen.facts, Gain.frame_kernel, Gain.frame_ideal,
    Gain.frame_reference, Loss.frame_kernel, Loss.frame_ideal, Loss.frame_ideal_pre, Loss.frame_reference, Loss.frame_reference_pre,
    Gate.frame_kernel, Gate.frame_ideal, Gate.frame_ideal_pre, Gate.frame_reference, Gate.frame_reference_pre, Norm.frame_kernel, Norm.frame_ideal,
    Norm.frame_ideal_pre, Norm.frame_reference, Norm.frame_reference_pre, NormT.frame_kernel, NormT.frame_ideal, NormT.frame_ideal_pre,
    NormT.frame_reference, NormT.frame_reference_pre, First.frame_kernel, First.frame_ideal, First.frame_ideal_pre, First.frame_reference,
    First.frame_reference_pre, Xattn.frame_kernel, Xattn.frame_ideal, Xattn.frame_ideal_pre, Xattn.frame_reference, Xattn.frame_reference_pre,
    XattnF.frame_kernel, XattnF.frame_ideal, XattnF.frame_ideal_pre, XattnF.frame_reference, XattnF.frame_reference_pre, MixO.frame_kernel,
    MixO.frame_ideal, MixO.frame_reference, FfnO.frame_kernel, FfnO.frame_ideal, FfnO.frame_reference, Rope.frame_kernel, Rope.frame_ideal,
    Rope.frame_reference, Mm.frame_kernel, Mm.frame_ideal, Mm.frame_reference, Wgrad.frame_kernel, Wgrad.frame_ideal, Wgrad.frame_reference,
    Adamw.frame_kernel, Adamw.frame_ideal, Adamw.frame_reference, Small.frame_kernel, Small.frame_ideal, Small.frame_reference, FinalSum.frame_kernel,
    FinalSum.frame_ideal, FinalSum.frame_reference, FfnL.frame_kernel, FfnL.frame_ideal, FfnL.frame_reference, FirstF.frame_kernel,
    FirstF.frame_ideal, FirstF.frame_reference, XkvF.frame_kernel, XkvF.frame_ideal, XkvF.frame_reference, ChipSum.frame_kernel, ChipSum.frame_ideal,
    ChipSum.frame_reference, Place.frame_kernel, Place.frame_ideal, Place.frame_reference, Inner.frame_kernel, Inner.frame_ideal,
    Inner.frame_ideal_pre, Inner.frame_reference, Inner.frame_reference_pre, Gating.frame_kernel, Gating.frame_ideal, Gating.frame_reference, trivial,
    Gain.algebraic, trivial, Loss.algebraic, trivial, Gate.algebraic, trivial, Norm.algebraic, trivial, NormT.algebraic, trivial, First.algebraic,
    trivial, Xattn.algebraic, trivial, XattnF.algebraic, trivial, MixO.algebraic, trivial, FfnO.algebraic, trivial, Rope.algebraic, trivial,
    Mm.algebraic, trivial, Wgrad.algebraic, trivial, Adamw.algebraic, trivial, Small.algebraic, trivial, FinalSum.algebraic, trivial, FfnL.algebraic,
    trivial, FirstF.algebraic, trivial, XkvF.algebraic, trivial, ChipSum.algebraic, trivial, Place.algebraic, trivial, Inner.algebraic, trivial,
    Gating.algebraic⟩

end Cert.Proof

end
